-- ==== Defs.lean ====
def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_finite [hPre_finite : Cert.Pre_finite.Facts] (m : (ℓ : Loc Cert.GateIdeal.nD Cert.GateIdeal.τ Cert.GateIdeal.sig) → Buf (Elt Ideal) ℓ) : Prop :=
  ∀ c : Dev Cert.GateIdeal.nD,
    (Cert.Pre_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4))) = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_finite [hPre_finite : Cert.Pre_finite.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite2 [hPre_finite2 : Cert.Pre_finite2.Facts] (m : (ℓ : Loc Cert.AttnIdeal.nD Cert.AttnIdeal.τ Cert.AttnIdeal.sig) → Buf (Elt Ideal) ℓ) : Prop :=
  ∀ c : Dev Cert.AttnIdeal.nD,
    (Cert.Pre_finite2.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite2 [hPre_finite2 : Cert.Pre_finite2.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite2.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))) = (fun _ => 1#1)

def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguIdeal_finite3 [hPre_finite3 : Cert.Pre_finite3.Facts] (m : (ℓ : Loc Cert.SguIdeal.nD Cert.SguIdeal.τ Cert.SguIdeal.sig) → Buf (Elt Ideal) ℓ) : Prop :=
  ∀ c : Dev Cert.SguIdeal.nD,
    (Cert.Pre_finite3.fn (F := Ideal) (m ((c.tc : Thread Cert.SguIdeal.nD Cert.SguIdeal.τ).loc Cert.SguIdeal.main_arg0)) (m ((c.tc : Thread Cert.SguIdeal.nD Cert.SguIdeal.τ).loc Cert.SguIdeal.main_arg1)) (m ((c.tc : Thread Cert.SguIdeal.nD Cert.SguIdeal.τ).loc Cert.SguIdeal.main_arg2)) (m ((c.tc : Thread Cert.SguIdeal.nD Cert.SguIdeal.τ).loc Cert.SguIdeal.main_arg3)) (m ((c.tc : Thread Cert.SguIdeal.nD Cert.SguIdeal.τ).loc Cert.SguIdeal.main_arg4)) (m ((c.tc : Thread Cert.SguIdeal.nD Cert.SguIdeal.τ).loc Cert.SguIdeal.main_arg5))) = (fun _ => 1#1)

def Pre_SguRefIdeal (m : (ℓ : Loc Cert.SguRefIdeal.nD Cert.SguRefIdeal.τ Cert.SguRefIdeal.sig) → Buf (Elt Ideal) ℓ) : Prop :=
  True

def Pre_SguRefIdeal_finite3 [hPre_finite3 : Cert.Pre_finite3.Facts] (m : (ℓ : Loc Cert.SguRefIdeal.nD Cert.SguRefIdeal.τ Cert.SguRefIdeal.sig) → Buf (Elt Ideal) ℓ) : Prop :=
  ∀ c : Dev Cert.SguRefIdeal.nD,
    (Cert.Pre_finite3.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4)) (m ((c.tc : Thread Cert.SguRefIdeal.nD Cert.SguRefIdeal.τ).loc Cert.SguRefIdeal.main_arg5))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_finite4 [hPre_finite4 : Cert.Pre_finite4.Facts] (m : (ℓ : Loc Cert.LossIdeal.nD Cert.LossIdeal.τ Cert.LossIdeal.sig) → Buf (Elt Ideal) ℓ) : Prop :=
  ∀ c : Dev Cert.LossIdeal.nD,
    (Cert.Pre_finite4.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5)) (m ((c.tc : Thread Cert.LossIdeal.nD Cert.LossIdeal.τ).loc Cert.LossIdeal.main_arg6)) (m ((c.tc : Thread Cert.LossIdeal.nD Cert.LossIdeal.τ).loc Cert.LossIdeal.main_arg7))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_finite4 [hPre_finite4 : Cert.Pre_finite4.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_finite4.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5)) (m ((c.tc : Thread Cert.LossRefIdeal.nD Cert.LossRefIdeal.τ).loc Cert.LossRefIdeal.main_arg6)) (m ((c.tc : Thread Cert.LossRefIdeal.nD Cert.LossRefIdeal.τ).loc Cert.LossRefIdeal.main_arg7))) = (fun _ => 1#1)

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryRefIdeal (m : (ℓ : Loc Cert.MemoryRefIdeal.nD Cert.MemoryRefIdeal.τ Cert.MemoryRefIdeal.sig) → Buf (Elt Ideal) ℓ) : Prop :=
  True

def Pre_Afwd (m : (ℓ : Loc Cert.Afwd.nD Cert.Afwd.τ Cert.Afwd.sig) → Buf (Elt Bits) ℓ) : Prop :=
  True

def Pre_AfwdIdeal (m : (ℓ : Loc Cert.AfwdIdeal.nD Cert.AfwdIdeal.τ Cert.AfwdIdeal.sig) → Buf (Elt Ideal) ℓ) : Prop :=
  True

def Pre_AfwdRefIdeal (m : (ℓ : Loc Cert.AfwdRefIdeal.nD Cert.AfwdRefIdeal.τ Cert.AfwdRefIdeal.sig) → Buf (Elt Ideal) ℓ) : Prop :=
  True

def Pre_Dxattn (m : (ℓ : Loc Cert.Dxattn.nD Cert.Dxattn.τ Cert.Dxattn.sig) → Buf (Elt Bits) ℓ) : Prop :=
  True

def Pre_DxattnIdeal (m : (ℓ : Loc Cert.DxattnIdeal.nD Cert.DxattnIdeal.τ Cert.DxattnIdeal.sig) → Buf (Elt Ideal) ℓ) : Prop :=
  True

def Pre_DxattnIdeal_finite7 [hPre_finite7 : Cert.Pre_finite7.Facts] (m : (ℓ : Loc Cert.DxattnIdeal.nD Cert.DxattnIdeal.τ Cert.DxattnIdeal.sig) → Buf (Elt Ideal) ℓ) : Prop :=
  ∀ c : Dev Cert.DxattnIdeal.nD,
    (Cert.Pre_finite7.fn (F := Ideal) (m ((c.tc : Thread Cert.DxattnIdeal.nD Cert.DxattnIdeal.τ).loc Cert.DxattnIdeal.main_arg0)) (m ((c.tc : Thread Cert.DxattnIdeal.nD Cert.DxattnIdeal.τ).loc Cert.DxattnIdeal.main_arg1)) (m ((c.tc : Thread Cert.DxattnIdeal.nD Cert.DxattnIdeal.τ).loc Cert.DxattnIdeal.main_arg2)) (m ((c.tc : Thread Cert.DxattnIdeal.nD Cert.DxattnIdeal.τ).loc Cert.DxattnIdeal.main_arg3)) (m ((c.tc : Thread Cert.DxattnIdeal.nD Cert.DxattnIdeal.τ).loc Cert.DxattnIdeal.main_arg4)) (m ((c.tc : Thread Cert.DxattnIdeal.nD Cert.DxattnIdeal.τ).loc Cert.DxattnIdeal.main_arg5)) (m ((c.tc : Thread Cert.DxattnIdeal.nD Cert.DxattnIdeal.τ).loc Cert.DxattnIdeal.main_arg6)) (m ((c.tc : Thread Cert.DxattnIdeal.nD Cert.DxattnIdeal.τ).loc Cert.DxattnIdeal.main_arg7)) (m ((c.tc : Thread Cert.DxattnIdeal.nD Cert.DxattnIdeal.τ).loc Cert.DxattnIdeal.main_arg8)) (m ((c.tc : Thread Cert.DxattnIdeal.nD Cert.DxattnIdeal.τ).loc Cert.DxattnIdeal.main_arg9))) = (fun _ => 1#1)

def Pre_DxattnRefIdeal (m : (ℓ : Loc Cert.DxattnRefIdeal.nD Cert.DxattnRefIdeal.τ Cert.DxattnRefIdeal.sig) → Buf (Elt Ideal) ℓ) : Prop :=
  True

def Pre_DxattnRefIdeal_finite7 [hPre_finite7 : Cert.Pre_finite7.Facts] (m : (ℓ : Loc Cert.DxattnRefIdeal.nD Cert.DxattnRefIdeal.τ Cert.DxattnRefIdeal.sig) → Buf (Elt Ideal) ℓ) : Prop :=
  ∀ c : Dev Cert.DxattnRefIdeal.nD,
    (Cert.Pre_finite7.fn (F := Ideal) (m ((c.tc : Thread Cert.DxattnRefIdeal.nD Cert.DxattnRefIdeal.τ).loc Cert.DxattnRefIdeal.main_arg0)) (m ((c.tc : Thread Cert.DxattnRefIdeal.nD Cert.DxattnRefIdeal.τ).loc Cert.DxattnRefIdeal.main_arg1)) (m ((c.tc : Thread Cert.DxattnRefIdeal.nD Cert.DxattnRefIdeal.τ).loc Cert.DxattnRefIdeal.main_arg2)) (m ((c.tc : Thread Cert.DxattnRefIdeal.nD Cert.DxattnRefIdeal.τ).loc Cert.DxattnRefIdeal.main_arg3)) (m ((c.tc : Thread Cert.DxattnRefIdeal.nD Cert.DxattnRefIdeal.τ).loc Cert.DxattnRefIdeal.main_arg4)) (m ((c.tc : Thread Cert.DxattnRefIdeal.nD Cert.DxattnRefIdeal.τ).loc Cert.DxattnRefIdeal.main_arg5)) (m ((c.tc : Thread Cert.DxattnRefIdeal.nD Cert.DxattnRefIdeal.τ).loc Cert.DxattnRefIdeal.main_arg6)) (m ((c.tc : Thread Cert.DxattnRefIdeal.nD Cert.DxattnRefIdeal.τ).loc Cert.DxattnRefIdeal.main_arg7)) (m ((c.tc : Thread Cert.DxattnRefIdeal.nD Cert.DxattnRefIdeal.τ).loc Cert.DxattnRefIdeal.main_arg8)) (m ((c.tc : Thread Cert.DxattnRefIdeal.nD Cert.DxattnRefIdeal.τ).loc Cert.DxattnRefIdeal.main_arg9))) = (fun _ => 1#1)

def Pre_Dxmix (m : (ℓ : Loc Cert.Dxmix.nD Cert.Dxmix.τ Cert.Dxmix.sig) → Buf (Elt Bits) ℓ) : Prop :=
  True

def Pre_DxmixIdeal (m : (ℓ : Loc Cert.DxmixIdeal.nD Cert.DxmixIdeal.τ Cert.DxmixIdeal.sig) → Buf (Elt Ideal) ℓ) : Prop :=
  True

def Pre_DxmixIdeal_finite8 [hPre_finite8 : Cert.Pre_finite8.Facts] (m : (ℓ : Loc Cert.DxmixIdeal.nD Cert.DxmixIdeal.τ Cert.DxmixIdeal.sig) → Buf (Elt Ideal) ℓ) : Prop :=
  ∀ c : Dev Cert.DxmixIdeal.nD,
    (Cert.Pre_finite8.fn (F := Ideal) (m ((c.tc : Thread Cert.DxmixIdeal.nD Cert.DxmixIdeal.τ).loc Cert.DxmixIdeal.main_arg0)) (m ((c.tc : Thread Cert.DxmixIdeal.nD Cert.DxmixIdeal.τ).loc Cert.DxmixIdeal.main_arg1)) (m ((c.tc : Thread Cert.DxmixIdeal.nD Cert.DxmixIdeal.τ).loc Cert.DxmixIdeal.main_arg2)) (m ((c.tc : Thread Cert.DxmixIdeal.nD Cert.DxmixIdeal.τ).loc Cert.DxmixIdeal.main_arg3)) (m ((c.tc : Thread Cert.DxmixIdeal.nD Cert.DxmixIdeal.τ).loc Cert.DxmixIdeal.main_arg4)) (m ((c.tc : Thread Cert.DxmixIdeal.nD Cert.DxmixIdeal.τ).loc Cert.DxmixIdeal.main_arg5)) (m ((c.tc : Thread Cert.DxmixIdeal.nD Cert.DxmixIdeal.τ).loc Cert.DxmixIdeal.main_arg6)) (m ((c.tc : Thread Cert.DxmixIdeal.nD Cert.DxmixIdeal.τ).loc Cert.DxmixIdeal.main_arg7))) = (fun _ => 1#1)

def Pre_DxmixRefIdeal (m : (ℓ : Loc Cert.DxmixRefIdeal.nD Cert.DxmixRefIdeal.τ Cert.DxmixRefIdeal.sig) → Buf (Elt Ideal) ℓ) : Prop :=
  True

def Pre_DxmixRefIdeal_finite8 [hPre_finite8 : Cert.Pre_finite8.Facts] (m : (ℓ : Loc Cert.DxmixRefIdeal.nD Cert.DxmixRefIdeal.τ Cert.DxmixRefIdeal.sig) → Buf (Elt Ideal) ℓ) : Prop :=
  ∀ c : Dev Cert.DxmixRefIdeal.nD,
    (Cert.Pre_finite8.fn (F := Ideal) (m ((c.tc : Thread Cert.DxmixRefIdeal.nD Cert.DxmixRefIdeal.τ).loc Cert.DxmixRefIdeal.main_arg0)) (m ((c.tc : Thread Cert.DxmixRefIdeal.nD Cert.DxmixRefIdeal.τ).loc Cert.DxmixRefIdeal.main_arg1)) (m ((c.tc : Thread Cert.DxmixRefIdeal.nD Cert.DxmixRefIdeal.τ).loc Cert.DxmixRefIdeal.main_arg2)) (m ((c.tc : Thread Cert.DxmixRefIdeal.nD Cert.DxmixRefIdeal.τ).loc Cert.DxmixRefIdeal.main_arg3)) (m ((c.tc : Thread Cert.DxmixRefIdeal.nD Cert.DxmixRefIdeal.τ).loc Cert.DxmixRefIdeal.main_arg4)) (m ((c.tc : Thread Cert.DxmixRefIdeal.nD Cert.DxmixRefIdeal.τ).loc Cert.DxmixRefIdeal.main_arg5)) (m ((c.tc : Thread Cert.DxmixRefIdeal.nD Cert.DxmixRefIdeal.τ).loc Cert.DxmixRefIdeal.main_arg6)) (m ((c.tc : Thread Cert.DxmixRefIdeal.nD Cert.DxmixRefIdeal.τ).loc Cert.DxmixRefIdeal.main_arg7))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite9 [hPre_finite9 : Cert.Pre_finite9.Facts] (m : (ℓ : Loc Cert.FfnIdeal.nD Cert.FfnIdeal.τ Cert.FfnIdeal.sig) → Buf (Elt Ideal) ℓ) : Prop :=
  ∀ c : Dev Cert.FfnIdeal.nD,
    (Cert.Pre_finite9.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9)) (m ((c.tc : Thread Cert.FfnIdeal.nD Cert.FfnIdeal.τ).loc Cert.FfnIdeal.main_arg10))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite9 [hPre_finite9 : Cert.Pre_finite9.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite9.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8)) (m ((c.tc : Thread Cert.FfnRefIdeal.nD Cert.FfnRefIdeal.τ).loc Cert.FfnRefIdeal.main_arg9)) (m ((c.tc : Thread Cert.FfnRefIdeal.nD Cert.FfnRefIdeal.τ).loc Cert.FfnRefIdeal.main_arg10))) = (fun _ => 1#1)

def Pre_Hgrn (m : (ℓ : Loc Cert.Hgrn.nD Cert.Hgrn.τ Cert.Hgrn.sig) → Buf (Elt Bits) ℓ) : Prop :=
  True

def Pre_HgrnIdeal (m : (ℓ : Loc Cert.HgrnIdeal.nD Cert.HgrnIdeal.τ Cert.HgrnIdeal.sig) → Buf (Elt Ideal) ℓ) : Prop :=
  True

def Pre_Hfwd (m : (ℓ : Loc Cert.Hfwd.nD Cert.Hfwd.τ Cert.Hfwd.sig) → Buf (Elt Bits) ℓ) : Prop :=
  True

def Pre_HfwdIdeal (m : (ℓ : Loc Cert.HfwdIdeal.nD Cert.HfwdIdeal.τ Cert.HfwdIdeal.sig) → Buf (Elt Ideal) ℓ) : Prop :=
  True

def Pre_Nfwd (m : (ℓ : Loc Cert.Nfwd.nD Cert.Nfwd.τ Cert.Nfwd.sig) → Buf (Elt Bits) ℓ) : Prop :=
  True

def Pre_NfwdIdeal (m : (ℓ : Loc Cert.NfwdIdeal.nD Cert.NfwdIdeal.τ Cert.NfwdIdeal.sig) → Buf (Elt Ideal) ℓ) : Prop :=
  True

def Pre_NfwdRefIdeal (m : (ℓ : Loc Cert.NfwdRefIdeal.nD Cert.NfwdRefIdeal.τ Cert.NfwdRefIdeal.sig) → Buf (Elt Ideal) ℓ) : Prop :=
  True

def Pre_Mfwd (m : (ℓ : Loc Cert.Mfwd.nD Cert.Mfwd.τ Cert.Mfwd.sig) → Buf (Elt Bits) ℓ) : Prop :=
  True

def Pre_MfwdIdeal (m : (ℓ : Loc Cert.MfwdIdeal.nD Cert.MfwdIdeal.τ Cert.MfwdIdeal.sig) → Buf (Elt Ideal) ℓ) : Prop :=
  True

def Pre_MfwdRefIdeal (m : (ℓ : Loc Cert.MfwdRefIdeal.nD Cert.MfwdRefIdeal.τ Cert.MfwdRefIdeal.sig) → Buf (Elt Ideal) ℓ) : Prop :=
  True

def Pre_Sfwd (m : (ℓ : Loc Cert.Sfwd.nD Cert.Sfwd.τ Cert.Sfwd.sig) → Buf (Elt Bits) ℓ) : Prop :=
  True

def Pre_SfwdIdeal (m : (ℓ : Loc Cert.SfwdIdeal.nD Cert.SfwdIdeal.τ Cert.SfwdIdeal.sig) → Buf (Elt Ideal) ℓ) : Prop :=
  True

def Pre_SfwdRefIdeal (m : (ℓ : Loc Cert.SfwdRefIdeal.nD Cert.SfwdRefIdeal.τ Cert.SfwdRefIdeal.sig) → Buf (Elt Ideal) ℓ) : Prop :=
  True

def Pre_Dxin (m : (ℓ : Loc Cert.Dxin.nD Cert.Dxin.τ Cert.Dxin.sig) → Buf (Elt Bits) ℓ) : Prop :=
  True

def Pre_DxinIdeal (m : (ℓ : Loc Cert.DxinIdeal.nD Cert.DxinIdeal.τ Cert.DxinIdeal.sig) → Buf (Elt Ideal) ℓ) : Prop :=
  True

def Pre_DxinRefIdeal (m : (ℓ : Loc Cert.DxinRefIdeal.nD Cert.DxinRefIdeal.τ Cert.DxinRefIdeal.sig) → Buf (Elt Ideal) ℓ) : Prop :=
  True

def Pre_Mtn (m : (ℓ : Loc Cert.Mtn.nD Cert.Mtn.τ Cert.Mtn.sig) → Buf (Elt Bits) ℓ) : Prop :=
  True

def Pre_MtnIdeal (m : (ℓ : Loc Cert.MtnIdeal.nD Cert.MtnIdeal.τ Cert.MtnIdeal.sig) → Buf (Elt Ideal) ℓ) : Prop :=
  True

def Pre_MtnRefIdeal (m : (ℓ : Loc Cert.MtnRefIdeal.nD Cert.MtnRefIdeal.τ Cert.MtnRefIdeal.sig) → Buf (Elt Ideal) ℓ) : Prop :=
  True

def Pre_Mnn (m : (ℓ : Loc Cert.Mnn.nD Cert.Mnn.τ Cert.Mnn.sig) → Buf (Elt Bits) ℓ) : Prop :=
  True

def Pre_MnnIdeal (m : (ℓ : Loc Cert.MnnIdeal.nD Cert.MnnIdeal.τ Cert.MnnIdeal.sig) → Buf (Elt Ideal) ℓ) : Prop :=
  True

def Pre_MnnRefIdeal (m : (ℓ : Loc Cert.MnnRefIdeal.nD Cert.MnnRefIdeal.τ Cert.MnnRefIdeal.sig) → Buf (Elt Ideal) ℓ) : Prop :=
  True

def Pre_Mnt (m : (ℓ : Loc Cert.Mnt.nD Cert.Mnt.τ Cert.Mnt.sig) → Buf (Elt Bits) ℓ) : Prop :=
  True

def Pre_MntIdeal (m : (ℓ : Loc Cert.MntIdeal.nD Cert.MntIdeal.τ Cert.MntIdeal.sig) → Buf (Elt Ideal) ℓ) : Prop :=
  True

def Pre_MntRefIdeal (m : (ℓ : Loc Cert.MntRefIdeal.nD Cert.MntRefIdeal.τ Cert.MntRefIdeal.sig) → Buf (Elt Ideal) ℓ) : Prop :=
  True

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateIdeal_pre_finite [hGateIdeal : Cert.GateIdeal.Facts] [hPre_finite : Cert.Pre_finite.Facts] : Prop :=
  ∀ (m : (ℓ : Loc Cert.GateIdeal.nD Cert.GateIdeal.τ Cert.GateIdeal.sig) → Buf (Elt Ideal) ℓ) (g : Dev Cert.GateIdeal.nD → PrngReg), Pre_GateIdeal_finite m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4))
      ∧ r.2.sem = fun _ => 0)

def quiescent_GateRefIdeal_pre_finite [hGateRefIdeal : Cert.GateRefIdeal.Facts] [hPre_finite : Cert.Pre_finite.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_finite m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_finite2 [hAttnIdeal : Cert.AttnIdeal.Facts] [hPre_finite2 : Cert.Pre_finite2.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite2 m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_finite2 [hAttnRefIdeal : Cert.AttnRefIdeal.Facts] [hPre_finite2 : Cert.Pre_finite2.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite2 m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3)
      ∧ r.2.mem ((c.tc : Thread Cert.Sgu.nD Cert.Sgu.τ).loc Cert.Sgu.main_arg4) = m ((c.tc : Thread Cert.Sgu.nD Cert.Sgu.τ).loc Cert.Sgu.main_arg4)
      ∧ r.2.mem ((c.tc : Thread Cert.Sgu.nD Cert.Sgu.τ).loc Cert.Sgu.main_arg5) = m ((c.tc : Thread Cert.Sgu.nD Cert.Sgu.τ).loc Cert.Sgu.main_arg5))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
      ∧ r.2.mem ((c.tc : Thread Cert.SguIdeal.nD Cert.SguIdeal.τ).loc Cert.SguIdeal.main_arg5) = m ((c.tc : Thread Cert.SguIdeal.nD Cert.SguIdeal.τ).loc Cert.SguIdeal.main_arg5))
      ∧ r.2.sem = fun _ => 0)

def quiescent_SguIdeal_pre_finite3 [hSguIdeal : Cert.SguIdeal.Facts] [hPre_finite3 : Cert.Pre_finite3.Facts] : Prop :=
  ∀ (m : (ℓ : Loc Cert.SguIdeal.nD Cert.SguIdeal.τ Cert.SguIdeal.sig) → Buf (Elt Ideal) ℓ) (g : Dev Cert.SguIdeal.nD → PrngReg), Pre_SguIdeal_finite3 m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
      ∧ r.2.mem ((c.tc : Thread Cert.SguIdeal.nD Cert.SguIdeal.τ).loc Cert.SguIdeal.main_arg5) = m ((c.tc : Thread Cert.SguIdeal.nD Cert.SguIdeal.τ).loc Cert.SguIdeal.main_arg5))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4)
      ∧ r.2.mem ((c.tc : Thread Cert.SguRefIdeal.nD Cert.SguRefIdeal.τ).loc Cert.SguRefIdeal.main_arg5) = m ((c.tc : Thread Cert.SguRefIdeal.nD Cert.SguRefIdeal.τ).loc Cert.SguRefIdeal.main_arg5))
      ∧ r.2.sem = fun _ => 0)

def quiescent_SguRefIdeal_pre_finite3 [hSguRefIdeal : Cert.SguRefIdeal.Facts] [hPre_finite3 : Cert.Pre_finite3.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal_finite3 m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4)
      ∧ r.2.mem ((c.tc : Thread Cert.SguRefIdeal.nD Cert.SguRefIdeal.τ).loc Cert.SguRefIdeal.main_arg5) = m ((c.tc : Thread Cert.SguRefIdeal.nD Cert.SguRefIdeal.τ).loc Cert.SguRefIdeal.main_arg5))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4)
      ∧ r.2.mem ((c.tc : Thread Cert.Loss.nD Cert.Loss.τ).loc Cert.Loss.main_arg5) = m ((c.tc : Thread Cert.Loss.nD Cert.Loss.τ).loc Cert.Loss.main_arg5)
      ∧ r.2.mem ((c.tc : Thread Cert.Loss.nD Cert.Loss.τ).loc Cert.Loss.main_arg6) = m ((c.tc : Thread Cert.Loss.nD Cert.Loss.τ).loc Cert.Loss.main_arg6)
      ∧ r.2.mem ((c.tc : Thread Cert.Loss.nD Cert.Loss.τ).loc Cert.Loss.main_arg7) = m ((c.tc : Thread Cert.Loss.nD Cert.Loss.τ).loc Cert.Loss.main_arg7))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
      ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
      ∧ r.2.mem ((c.tc : Thread Cert.LossIdeal.nD Cert.LossIdeal.τ).loc Cert.LossIdeal.main_arg7) = m ((c.tc : Thread Cert.LossIdeal.nD Cert.LossIdeal.τ).loc Cert.LossIdeal.main_arg7))
      ∧ r.2.sem = fun _ => 0)

def quiescent_LossIdeal_pre_finite4 [hLossIdeal : Cert.LossIdeal.Facts] [hPre_finite4 : Cert.Pre_finite4.Facts] : Prop :=
  ∀ (m : (ℓ : Loc Cert.LossIdeal.nD Cert.LossIdeal.τ Cert.LossIdeal.sig) → Buf (Elt Ideal) ℓ) (g : Dev Cert.LossIdeal.nD → PrngReg), Pre_LossIdeal_finite4 m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
      ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
      ∧ r.2.mem ((c.tc : Thread Cert.LossIdeal.nD Cert.LossIdeal.τ).loc Cert.LossIdeal.main_arg7) = m ((c.tc : Thread Cert.LossIdeal.nD Cert.LossIdeal.τ).loc Cert.LossIdeal.main_arg7))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5)
      ∧ r.2.mem ((c.tc : Thread Cert.LossRefIdeal.nD Cert.LossRefIdeal.τ).loc Cert.LossRefIdeal.main_arg6) = m ((c.tc : Thread Cert.LossRefIdeal.nD Cert.LossRefIdeal.τ).loc Cert.LossRefIdeal.main_arg6)
      ∧ r.2.mem ((c.tc : Thread Cert.LossRefIdeal.nD Cert.LossRefIdeal.τ).loc Cert.LossRefIdeal.main_arg7) = m ((c.tc : Thread Cert.LossRefIdeal.nD Cert.LossRefIdeal.τ).loc Cert.LossRefIdeal.main_arg7))
      ∧ r.2.sem = fun _ => 0)

def quiescent_LossRefIdeal_pre_finite4 [hLossRefIdeal : Cert.LossRefIdeal.Facts] [hPre_finite4 : Cert.Pre_finite4.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_finite4 m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5)
      ∧ r.2.mem ((c.tc : Thread Cert.LossRefIdeal.nD Cert.LossRefIdeal.τ).loc Cert.LossRefIdeal.main_arg6) = m ((c.tc : Thread Cert.LossRefIdeal.nD Cert.LossRefIdeal.τ).loc Cert.LossRefIdeal.main_arg6)
      ∧ r.2.mem ((c.tc : Thread Cert.LossRefIdeal.nD Cert.LossRefIdeal.τ).loc Cert.LossRefIdeal.main_arg7) = m ((c.tc : Thread Cert.LossRefIdeal.nD Cert.LossRefIdeal.τ).loc Cert.LossRefIdeal.main_arg7))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1)
      ∧ r.2.mem ((c.tc : Thread Cert.Memory.nD Cert.Memory.τ).loc Cert.Memory.main_arg2) = m ((c.tc : Thread Cert.Memory.nD Cert.Memory.τ).loc Cert.Memory.main_arg2)
      ∧ r.2.mem ((c.tc : Thread Cert.Memory.nD Cert.Memory.τ).loc Cert.Memory.main_arg3) = m ((c.tc : Thread Cert.Memory.nD Cert.Memory.τ).loc Cert.Memory.main_arg3)
      ∧ r.2.mem ((c.tc : Thread Cert.Memory.nD Cert.Memory.τ).loc Cert.Memory.main_arg4) = m ((c.tc : Thread Cert.Memory.nD Cert.Memory.τ).loc Cert.Memory.main_arg4)
      ∧ r.2.mem ((c.tc : Thread Cert.Memory.nD Cert.Memory.τ).loc Cert.Memory.main_arg5) = m ((c.tc : Thread Cert.Memory.nD Cert.Memory.τ).loc Cert.Memory.main_arg5)
      ∧ r.2.mem ((c.tc : Thread Cert.Memory.nD Cert.Memory.τ).loc Cert.Memory.main_arg6) = m ((c.tc : Thread Cert.Memory.nD Cert.Memory.τ).loc Cert.Memory.main_arg6))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
      ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
      ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3)
      ∧ r.2.mem ((c.tc : Thread Cert.MemoryIdeal.nD Cert.MemoryIdeal.τ).loc Cert.MemoryIdeal.main_arg4) = m ((c.tc : Thread Cert.MemoryIdeal.nD Cert.MemoryIdeal.τ).loc Cert.MemoryIdeal.main_arg4)
      ∧ r.2.mem ((c.tc : Thread Cert.MemoryIdeal.nD Cert.MemoryIdeal.τ).loc Cert.MemoryIdeal.main_arg5) = m ((c.tc : Thread Cert.MemoryIdeal.nD Cert.MemoryIdeal.τ).loc Cert.MemoryIdeal.main_arg5)
      ∧ r.2.mem ((c.tc : Thread Cert.MemoryIdeal.nD Cert.MemoryIdeal.τ).loc Cert.MemoryIdeal.main_arg6) = m ((c.tc : Thread Cert.MemoryIdeal.nD Cert.MemoryIdeal.τ).loc Cert.MemoryIdeal.main_arg6))
      ∧ r.2.sem = fun _ => 0)

def quiescent_MemoryRefIdeal [hMemoryRefIdeal : Cert.MemoryRefIdeal.Facts] : Prop :=
  ∀ (m : (ℓ : Loc Cert.MemoryRefIdeal.nD Cert.MemoryRefIdeal.τ Cert.MemoryRefIdeal.sig) → Buf (Elt Ideal) ℓ) (g : Dev Cert.MemoryRefIdeal.nD → PrngReg), Pre_MemoryRefIdeal m →
    θ_run (Cert.MemoryRefIdeal.defs (F := Ideal)) (onTc (τ := Cert.MemoryRefIdeal.τ) (Cert.MemoryRefIdeal.main (F := Ideal))) ⟨m, fun _ => 0, g⟩ (fun r => (∀ c : Dev Cert.MemoryRefIdeal.nD,
      r.2.mem ((c.tc : Thread Cert.MemoryRefIdeal.nD Cert.MemoryRefIdeal.τ).loc Cert.MemoryRefIdeal.main_arg0) = m ((c.tc : Thread Cert.MemoryRefIdeal.nD Cert.MemoryRefIdeal.τ).loc Cert.MemoryRefIdeal.main_arg0)
      ∧ r.2.mem ((c.tc : Thread Cert.MemoryRefIdeal.nD Cert.MemoryRefIdeal.τ).loc Cert.MemoryRefIdeal.main_arg1) = m ((c.tc : Thread Cert.MemoryRefIdeal.nD Cert.MemoryRefIdeal.τ).loc Cert.MemoryRefIdeal.main_arg1)
      ∧ r.2.mem ((c.tc : Thread Cert.MemoryRefIdeal.nD Cert.MemoryRefIdeal.τ).loc Cert.MemoryRefIdeal.main_arg2) = m ((c.tc : Thread Cert.MemoryRefIdeal.nD Cert.MemoryRefIdeal.τ).loc Cert.MemoryRefIdeal.main_arg2)
      ∧ r.2.mem ((c.tc : Thread Cert.MemoryRefIdeal.nD Cert.MemoryRefIdeal.τ).loc Cert.MemoryRefIdeal.main_arg3) = m ((c.tc : Thread Cert.MemoryRefIdeal.nD Cert.MemoryRefIdeal.τ).loc Cert.MemoryRefIdeal.main_arg3)
      ∧ r.2.mem ((c.tc : Thread Cert.MemoryRefIdeal.nD Cert.MemoryRefIdeal.τ).loc Cert.MemoryRefIdeal.main_arg4) = m ((c.tc : Thread Cert.MemoryRefIdeal.nD Cert.MemoryRefIdeal.τ).loc Cert.MemoryRefIdeal.main_arg4)
      ∧ r.2.mem ((c.tc : Thread Cert.MemoryRefIdeal.nD Cert.MemoryRefIdeal.τ).loc Cert.MemoryRefIdeal.main_arg5) = m ((c.tc : Thread Cert.MemoryRefIdeal.nD Cert.MemoryRefIdeal.τ).loc Cert.MemoryRefIdeal.main_arg5)
      ∧ r.2.mem ((c.tc : Thread Cert.MemoryRefIdeal.nD Cert.MemoryRefIdeal.τ).loc Cert.MemoryRefIdeal.main_arg6) = m ((c.tc : Thread Cert.MemoryRefIdeal.nD Cert.MemoryRefIdeal.τ).loc Cert.MemoryRefIdeal.main_arg6))
      ∧ r.2.sem = fun _ => 0)

def quiescent_Afwd [hAfwd : Cert.Afwd.Facts] : Prop :=
  ∀ (m : (ℓ : Loc Cert.Afwd.nD Cert.Afwd.τ Cert.Afwd.sig) → Buf (Elt Bits) ℓ) (g : Dev Cert.Afwd.nD → PrngReg), Pre_Afwd m →
    θ_run (Cert.Afwd.defs (F := Bits)) (onTc (τ := Cert.Afwd.τ) (Cert.Afwd.main (F := Bits))) ⟨m, fun _ => 0, g⟩ (fun r => (∀ c : Dev Cert.Afwd.nD,
      r.2.mem ((c.tc : Thread Cert.Afwd.nD Cert.Afwd.τ).loc Cert.Afwd.main_arg0) = m ((c.tc : Thread Cert.Afwd.nD Cert.Afwd.τ).loc Cert.Afwd.main_arg0)
      ∧ r.2.mem ((c.tc : Thread Cert.Afwd.nD Cert.Afwd.τ).loc Cert.Afwd.main_arg1) = m ((c.tc : Thread Cert.Afwd.nD Cert.Afwd.τ).loc Cert.Afwd.main_arg1)
      ∧ r.2.mem ((c.tc : Thread Cert.Afwd.nD Cert.Afwd.τ).loc Cert.Afwd.main_arg2) = m ((c.tc : Thread Cert.Afwd.nD Cert.Afwd.τ).loc Cert.Afwd.main_arg2)
      ∧ r.2.mem ((c.tc : Thread Cert.Afwd.nD Cert.Afwd.τ).loc Cert.Afwd.main_arg3) = m ((c.tc : Thread Cert.Afwd.nD Cert.Afwd.τ).loc Cert.Afwd.main_arg3))
      ∧ r.2.sem = fun _ => 0)

def quiescent_AfwdIdeal [hAfwdIdeal : Cert.AfwdIdeal.Facts] : Prop :=
  ∀ (m : (ℓ : Loc Cert.AfwdIdeal.nD Cert.AfwdIdeal.τ Cert.AfwdIdeal.sig) → Buf (Elt Ideal) ℓ) (g : Dev Cert.AfwdIdeal.nD → PrngReg), Pre_AfwdIdeal m →
    θ_run (Cert.AfwdIdeal.defs (F := Ideal)) (onTc (τ := Cert.AfwdIdeal.τ) (Cert.AfwdIdeal.main (F := Ideal))) ⟨m, fun _ => 0, g⟩ (fun r => (∀ c : Dev Cert.AfwdIdeal.nD,
      r.2.mem ((c.tc : Thread Cert.AfwdIdeal.nD Cert.AfwdIdeal.τ).loc Cert.AfwdIdeal.main_arg0) = m ((c.tc : Thread Cert.AfwdIdeal.nD Cert.AfwdIdeal.τ).loc Cert.AfwdIdeal.main_arg0)
      ∧ r.2.mem ((c.tc : Thread Cert.AfwdIdeal.nD Cert.AfwdIdeal.τ).loc Cert.AfwdIdeal.main_arg1) = m ((c.tc : Thread Cert.AfwdIdeal.nD Cert.AfwdIdeal.τ).loc Cert.AfwdIdeal.main_arg1)
      ∧ r.2.mem ((c.tc : Thread Cert.AfwdIdeal.nD Cert.AfwdIdeal.τ).loc Cert.AfwdIdeal.main_arg2) = m ((c.tc : Thread Cert.AfwdIdeal.nD Cert.AfwdIdeal.τ).loc Cert.AfwdIdeal.main_arg2)
      ∧ r.2.mem ((c.tc : Thread Cert.AfwdIdeal.nD Cert.AfwdIdeal.τ).loc Cert.AfwdIdeal.main_arg3) = m ((c.tc : Thread Cert.AfwdIdeal.nD Cert.AfwdIdeal.τ).loc Cert.AfwdIdeal.main_arg3))
      ∧ r.2.sem = fun _ => 0)

def quiescent_AfwdRefIdeal [hAfwdRefIdeal : Cert.AfwdRefIdeal.Facts] : Prop :=
  ∀ (m : (ℓ : Loc Cert.AfwdRefIdeal.nD Cert.AfwdRefIdeal.τ Cert.AfwdRefIdeal.sig) → Buf (Elt Ideal) ℓ) (g : Dev Cert.AfwdRefIdeal.nD → PrngReg), Pre_AfwdRefIdeal m →
    θ_run (Cert.AfwdRefIdeal.defs (F := Ideal)) (onTc (τ := Cert.AfwdRefIdeal.τ) (Cert.AfwdRefIdeal.main (F := Ideal))) ⟨m, fun _ => 0, g⟩ (fun r => (∀ c : Dev Cert.AfwdRefIdeal.nD,
      r.2.mem ((c.tc : Thread Cert.AfwdRefIdeal.nD Cert.AfwdRefIdeal.τ).loc Cert.AfwdRefIdeal.main_arg0) = m ((c.tc : Thread Cert.AfwdRefIdeal.nD Cert.AfwdRefIdeal.τ).loc Cert.AfwdRefIdeal.main_arg0)
      ∧ r.2.mem ((c.tc : Thread Cert.AfwdRefIdeal.nD Cert.AfwdRefIdeal.τ).loc Cert.AfwdRefIdeal.main_arg1) = m ((c.tc : Thread Cert.AfwdRefIdeal.nD Cert.AfwdRefIdeal.τ).loc Cert.AfwdRefIdeal.main_arg1)
      ∧ r.2.mem ((c.tc : Thread Cert.AfwdRefIdeal.nD Cert.AfwdRefIdeal.τ).loc Cert.AfwdRefIdeal.main_arg2) = m ((c.tc : Thread Cert.AfwdRefIdeal.nD Cert.AfwdRefIdeal.τ).loc Cert.AfwdRefIdeal.main_arg2)
      ∧ r.2.mem ((c.tc : Thread Cert.AfwdRefIdeal.nD Cert.AfwdRefIdeal.τ).loc Cert.AfwdRefIdeal.main_arg3) = m ((c.tc : Thread Cert.AfwdRefIdeal.nD Cert.AfwdRefIdeal.τ).loc Cert.AfwdRefIdeal.main_arg3))
      ∧ r.2.sem = fun _ => 0)

def quiescent_Dxattn [hDxattn : Cert.Dxattn.Facts] : Prop :=
  ∀ (m : (ℓ : Loc Cert.Dxattn.nD Cert.Dxattn.τ Cert.Dxattn.sig) → Buf (Elt Bits) ℓ) (g : Dev Cert.Dxattn.nD → PrngReg), Pre_Dxattn m →
    θ_run (Cert.Dxattn.defs (F := Bits)) (onTc (τ := Cert.Dxattn.τ) (Cert.Dxattn.main (F := Bits))) ⟨m, fun _ => 0, g⟩ (fun r => (∀ c : Dev Cert.Dxattn.nD,
      r.2.mem ((c.tc : Thread Cert.Dxattn.nD Cert.Dxattn.τ).loc Cert.Dxattn.main_arg0) = m ((c.tc : Thread Cert.Dxattn.nD Cert.Dxattn.τ).loc Cert.Dxattn.main_arg0)
      ∧ r.2.mem ((c.tc : Thread Cert.Dxattn.nD Cert.Dxattn.τ).loc Cert.Dxattn.main_arg1) = m ((c.tc : Thread Cert.Dxattn.nD Cert.Dxattn.τ).loc Cert.Dxattn.main_arg1)
      ∧ r.2.mem ((c.tc : Thread Cert.Dxattn.nD Cert.Dxattn.τ).loc Cert.Dxattn.main_arg2) = m ((c.tc : Thread Cert.Dxattn.nD Cert.Dxattn.τ).loc Cert.Dxattn.main_arg2)
      ∧ r.2.mem ((c.tc : Thread Cert.Dxattn.nD Cert.Dxattn.τ).loc Cert.Dxattn.main_arg3) = m ((c.tc : Thread Cert.Dxattn.nD Cert.Dxattn.τ).loc Cert.Dxattn.main_arg3)
      ∧ r.2.mem ((c.tc : Thread Cert.Dxattn.nD Cert.Dxattn.τ).loc Cert.Dxattn.main_arg4) = m ((c.tc : Thread Cert.Dxattn.nD Cert.Dxattn.τ).loc Cert.Dxattn.main_arg4)
      ∧ r.2.mem ((c.tc : Thread Cert.Dxattn.nD Cert.Dxattn.τ).loc Cert.Dxattn.main_arg5) = m ((c.tc : Thread Cert.Dxattn.nD Cert.Dxattn.τ).loc Cert.Dxattn.main_arg5)
      ∧ r.2.mem ((c.tc : Thread Cert.Dxattn.nD Cert.Dxattn.τ).loc Cert.Dxattn.main_arg6) = m ((c.tc : Thread Cert.Dxattn.nD Cert.Dxattn.τ).loc Cert.Dxattn.main_arg6)
      ∧ r.2.mem ((c.tc : Thread Cert.Dxattn.nD Cert.Dxattn.τ).loc Cert.Dxattn.main_arg7) = m ((c.tc : Thread Cert.Dxattn.nD Cert.Dxattn.τ).loc Cert.Dxattn.main_arg7)
      ∧ r.2.mem ((c.tc : Thread Cert.Dxattn.nD Cert.Dxattn.τ).loc Cert.Dxattn.main_arg8) = m ((c.tc : Thread Cert.Dxattn.nD Cert.Dxattn.τ).loc Cert.Dxattn.main_arg8)
      ∧ r.2.mem ((c.tc : Thread Cert.Dxattn.nD Cert.Dxattn.τ).loc Cert.Dxattn.main_arg9) = m ((c.tc : Thread Cert.Dxattn.nD Cert.Dxattn.τ).loc Cert.Dxattn.main_arg9))
      ∧ r.2.sem = fun _ => 0)

def quiescent_DxattnIdeal [hDxattnIdeal : Cert.DxattnIdeal.Facts] : Prop :=
  ∀ (m : (ℓ : Loc Cert.DxattnIdeal.nD Cert.DxattnIdeal.τ Cert.DxattnIdeal.sig) → Buf (Elt Ideal) ℓ) (g : Dev Cert.DxattnIdeal.nD → PrngReg), Pre_DxattnIdeal m →
    θ_run (Cert.DxattnIdeal.defs (F := Ideal)) (onTc (τ := Cert.DxattnIdeal.τ) (Cert.DxattnIdeal.main (F := Ideal))) ⟨m, fun _ => 0, g⟩ (fun r => (∀ c : Dev Cert.DxattnIdeal.nD,
      r.2.mem ((c.tc : Thread Cert.DxattnIdeal.nD Cert.DxattnIdeal.τ).loc Cert.DxattnIdeal.main_arg0) = m ((c.tc : Thread Cert.DxattnIdeal.nD Cert.DxattnIdeal.τ).loc Cert.DxattnIdeal.main_arg0)
      ∧ r.2.mem ((c.tc : Thread Cert.DxattnIdeal.nD Cert.DxattnIdeal.τ).loc Cert.DxattnIdeal.main_arg1) = m ((c.tc : Thread Cert.DxattnIdeal.nD Cert.DxattnIdeal.τ).loc Cert.DxattnIdeal.main_arg1)
      ∧ r.2.mem ((c.tc : Thread Cert.DxattnIdeal.nD Cert.DxattnIdeal.τ).loc Cert.DxattnIdeal.main_arg2) = m ((c.tc : Thread Cert.DxattnIdeal.nD Cert.DxattnIdeal.τ).loc Cert.DxattnIdeal.main_arg2)
      ∧ r.2.mem ((c.tc : Thread Cert.DxattnIdeal.nD Cert.DxattnIdeal.τ).loc Cert.DxattnIdeal.main_arg3) = m ((c.tc : Thread Cert.DxattnIdeal.nD Cert.DxattnIdeal.τ).loc Cert.DxattnIdeal.main_arg3)
      ∧ r.2.mem ((c.tc : Thread Cert.DxattnIdeal.nD Cert.DxattnIdeal.τ).loc Cert.DxattnIdeal.main_arg4) = m ((c.tc : Thread Cert.DxattnIdeal.nD Cert.DxattnIdeal.τ).loc Cert.DxattnIdeal.main_arg4)
      ∧ r.2.mem ((c.tc : Thread Cert.DxattnIdeal.nD Cert.DxattnIdeal.τ).loc Cert.DxattnIdeal.main_arg5) = m ((c.tc : Thread Cert.DxattnIdeal.nD Cert.DxattnIdeal.τ).loc Cert.DxattnIdeal.main_arg5)
      ∧ r.2.mem ((c.tc : Thread Cert.DxattnIdeal.nD Cert.DxattnIdeal.τ).loc Cert.DxattnIdeal.main_arg6) = m ((c.tc : Thread Cert.DxattnIdeal.nD Cert.DxattnIdeal.τ).loc Cert.DxattnIdeal.main_arg6)
      ∧ r.2.mem ((c.tc : Thread Cert.DxattnIdeal.nD Cert.DxattnIdeal.τ).loc Cert.DxattnIdeal.main_arg7) = m ((c.tc : Thread Cert.DxattnIdeal.nD Cert.DxattnIdeal.τ).loc Cert.DxattnIdeal.main_arg7)
      ∧ r.2.mem ((c.tc : Thread Cert.DxattnIdeal.nD Cert.DxattnIdeal.τ).loc Cert.DxattnIdeal.main_arg8) = m ((c.tc : Thread Cert.DxattnIdeal.nD Cert.DxattnIdeal.τ).loc Cert.DxattnIdeal.main_arg8)
      ∧ r.2.mem ((c.tc : Thread Cert.DxattnIdeal.nD Cert.DxattnIdeal.τ).loc Cert.DxattnIdeal.main_arg9) = m ((c.tc : Thread Cert.DxattnIdeal.nD Cert.DxattnIdeal.τ).loc Cert.DxattnIdeal.main_arg9))
      ∧ r.2.sem = fun _ => 0)

def quiescent_DxattnIdeal_pre_finite7 [hDxattnIdeal : Cert.DxattnIdeal.Facts] [hPre_finite7 : Cert.Pre_finite7.Facts] : Prop :=
  ∀ (m : (ℓ : Loc Cert.DxattnIdeal.nD Cert.DxattnIdeal.τ Cert.DxattnIdeal.sig) → Buf (Elt Ideal) ℓ) (g : Dev Cert.DxattnIdeal.nD → PrngReg), Pre_DxattnIdeal_finite7 m →
    θ_run (Cert.DxattnIdeal.defs (F := Ideal)) (onTc (τ := Cert.DxattnIdeal.τ) (Cert.DxattnIdeal.main (F := Ideal))) ⟨m, fun _ => 0, g⟩ (fun r => (∀ c : Dev Cert.DxattnIdeal.nD,
      r.2.mem ((c.tc : Thread Cert.DxattnIdeal.nD Cert.DxattnIdeal.τ).loc Cert.DxattnIdeal.main_arg0) = m ((c.tc : Thread Cert.DxattnIdeal.nD Cert.DxattnIdeal.τ).loc Cert.DxattnIdeal.main_arg0)
      ∧ r.2.mem ((c.tc : Thread Cert.DxattnIdeal.nD Cert.DxattnIdeal.τ).loc Cert.DxattnIdeal.main_arg1) = m ((c.tc : Thread Cert.DxattnIdeal.nD Cert.DxattnIdeal.τ).loc Cert.DxattnIdeal.main_arg1)
      ∧ r.2.mem ((c.tc : Thread Cert.DxattnIdeal.nD Cert.DxattnIdeal.τ).loc Cert.DxattnIdeal.main_arg2) = m ((c.tc : Thread Cert.DxattnIdeal.nD Cert.DxattnIdeal.τ).loc Cert.DxattnIdeal.main_arg2)
      ∧ r.2.mem ((c.tc : Thread Cert.DxattnIdeal.nD Cert.DxattnIdeal.τ).loc Cert.DxattnIdeal.main_arg3) = m ((c.tc : Thread Cert.DxattnIdeal.nD Cert.DxattnIdeal.τ).loc Cert.DxattnIdeal.main_arg3)
      ∧ r.2.mem ((c.tc : Thread Cert.DxattnIdeal.nD Cert.DxattnIdeal.τ).loc Cert.DxattnIdeal.main_arg4) = m ((c.tc : Thread Cert.DxattnIdeal.nD Cert.DxattnIdeal.τ).loc Cert.DxattnIdeal.main_arg4)
      ∧ r.2.mem ((c.tc : Thread Cert.DxattnIdeal.nD Cert.DxattnIdeal.τ).loc Cert.DxattnIdeal.main_arg5) = m ((c.tc : Thread Cert.DxattnIdeal.nD Cert.DxattnIdeal.τ).loc Cert.DxattnIdeal.main_arg5)
      ∧ r.2.mem ((c.tc : Thread Cert.DxattnIdeal.nD Cert.DxattnIdeal.τ).loc Cert.DxattnIdeal.main_arg6) = m ((c.tc : Thread Cert.DxattnIdeal.nD Cert.DxattnIdeal.τ).loc Cert.DxattnIdeal.main_arg6)
      ∧ r.2.mem ((c.tc : Thread Cert.DxattnIdeal.nD Cert.DxattnIdeal.τ).loc Cert.DxattnIdeal.main_arg7) = m ((c.tc : Thread Cert.DxattnIdeal.nD Cert.DxattnIdeal.τ).loc Cert.DxattnIdeal.main_arg7)
      ∧ r.2.mem ((c.tc : Thread Cert.DxattnIdeal.nD Cert.DxattnIdeal.τ).loc Cert.DxattnIdeal.main_arg8) = m ((c.tc : Thread Cert.DxattnIdeal.nD Cert.DxattnIdeal.τ).loc Cert.DxattnIdeal.main_arg8)
      ∧ r.2.mem ((c.tc : Thread Cert.DxattnIdeal.nD Cert.DxattnIdeal.τ).loc Cert.DxattnIdeal.main_arg9) = m ((c.tc : Thread Cert.DxattnIdeal.nD Cert.DxattnIdeal.τ).loc Cert.DxattnIdeal.main_arg9))
      ∧ r.2.sem = fun _ => 0)

def quiescent_DxattnRefIdeal [hDxattnRefIdeal : Cert.DxattnRefIdeal.Facts] : Prop :=
  ∀ (m : (ℓ : Loc Cert.DxattnRefIdeal.nD Cert.DxattnRefIdeal.τ Cert.DxattnRefIdeal.sig) → Buf (Elt Ideal) ℓ) (g : Dev Cert.DxattnRefIdeal.nD → PrngReg), Pre_DxattnRefIdeal m →
    θ_run (Cert.DxattnRefIdeal.defs (F := Ideal)) (onTc (τ := Cert.DxattnRefIdeal.τ) (Cert.DxattnRefIdeal.main (F := Ideal))) ⟨m, fun _ => 0, g⟩ (fun r => (∀ c : Dev Cert.DxattnRefIdeal.nD,
      r.2.mem ((c.tc : Thread Cert.DxattnRefIdeal.nD Cert.DxattnRefIdeal.τ).loc Cert.DxattnRefIdeal.main_arg0) = m ((c.tc : Thread Cert.DxattnRefIdeal.nD Cert.DxattnRefIdeal.τ).loc Cert.DxattnRefIdeal.main_arg0)
      ∧ r.2.mem ((c.tc : Thread Cert.DxattnRefIdeal.nD Cert.DxattnRefIdeal.τ).loc Cert.DxattnRefIdeal.main_arg1) = m ((c.tc : Thread Cert.DxattnRefIdeal.nD Cert.DxattnRefIdeal.τ).loc Cert.DxattnRefIdeal.main_arg1)
      ∧ r.2.mem ((c.tc : Thread Cert.DxattnRefIdeal.nD Cert.DxattnRefIdeal.τ).loc Cert.DxattnRefIdeal.main_arg2) = m ((c.tc : Thread Cert.DxattnRefIdeal.nD Cert.DxattnRefIdeal.τ).loc Cert.DxattnRefIdeal.main_arg2)
      ∧ r.2.mem ((c.tc : Thread Cert.DxattnRefIdeal.nD Cert.DxattnRefIdeal.τ).loc Cert.DxattnRefIdeal.main_arg3) = m ((c.tc : Thread Cert.DxattnRefIdeal.nD Cert.DxattnRefIdeal.τ).loc Cert.DxattnRefIdeal.main_arg3)
      ∧ r.2.mem ((c.tc : Thread Cert.DxattnRefIdeal.nD Cert.DxattnRefIdeal.τ).loc Cert.DxattnRefIdeal.main_arg4) = m ((c.tc : Thread Cert.DxattnRefIdeal.nD Cert.DxattnRefIdeal.τ).loc Cert.DxattnRefIdeal.main_arg4)
      ∧ r.2.mem ((c.tc : Thread Cert.DxattnRefIdeal.nD Cert.DxattnRefIdeal.τ).loc Cert.DxattnRefIdeal.main_arg5) = m ((c.tc : Thread Cert.DxattnRefIdeal.nD Cert.DxattnRefIdeal.τ).loc Cert.DxattnRefIdeal.main_arg5)
      ∧ r.2.mem ((c.tc : Thread Cert.DxattnRefIdeal.nD Cert.DxattnRefIdeal.τ).loc Cert.DxattnRefIdeal.main_arg6) = m ((c.tc : Thread Cert.DxattnRefIdeal.nD Cert.DxattnRefIdeal.τ).loc Cert.DxattnRefIdeal.main_arg6)
      ∧ r.2.mem ((c.tc : Thread Cert.DxattnRefIdeal.nD Cert.DxattnRefIdeal.τ).loc Cert.DxattnRefIdeal.main_arg7) = m ((c.tc : Thread Cert.DxattnRefIdeal.nD Cert.DxattnRefIdeal.τ).loc Cert.DxattnRefIdeal.main_arg7)
      ∧ r.2.mem ((c.tc : Thread Cert.DxattnRefIdeal.nD Cert.DxattnRefIdeal.τ).loc Cert.DxattnRefIdeal.main_arg8) = m ((c.tc : Thread Cert.DxattnRefIdeal.nD Cert.DxattnRefIdeal.τ).loc Cert.DxattnRefIdeal.main_arg8)
      ∧ r.2.mem ((c.tc : Thread Cert.DxattnRefIdeal.nD Cert.DxattnRefIdeal.τ).loc Cert.DxattnRefIdeal.main_arg9) = m ((c.tc : Thread Cert.DxattnRefIdeal.nD Cert.DxattnRefIdeal.τ).loc Cert.DxattnRefIdeal.main_arg9))
      ∧ r.2.sem = fun _ => 0)

def quiescent_DxattnRefIdeal_pre_finite7 [hDxattnRefIdeal : Cert.DxattnRefIdeal.Facts] [hPre_finite7 : Cert.Pre_finite7.Facts] : Prop :=
  ∀ (m : (ℓ : Loc Cert.DxattnRefIdeal.nD Cert.DxattnRefIdeal.τ Cert.DxattnRefIdeal.sig) → Buf (Elt Ideal) ℓ) (g : Dev Cert.DxattnRefIdeal.nD → PrngReg), Pre_DxattnRefIdeal_finite7 m →
    θ_run (Cert.DxattnRefIdeal.defs (F := Ideal)) (onTc (τ := Cert.DxattnRefIdeal.τ) (Cert.DxattnRefIdeal.main (F := Ideal))) ⟨m, fun _ => 0, g⟩ (fun r => (∀ c : Dev Cert.DxattnRefIdeal.nD,
      r.2.mem ((c.tc : Thread Cert.DxattnRefIdeal.nD Cert.DxattnRefIdeal.τ).loc Cert.DxattnRefIdeal.main_arg0) = m ((c.tc : Thread Cert.DxattnRefIdeal.nD Cert.DxattnRefIdeal.τ).loc Cert.DxattnRefIdeal.main_arg0)
      ∧ r.2.mem ((c.tc : Thread Cert.DxattnRefIdeal.nD Cert.DxattnRefIdeal.τ).loc Cert.DxattnRefIdeal.main_arg1) = m ((c.tc : Thread Cert.DxattnRefIdeal.nD Cert.DxattnRefIdeal.τ).loc Cert.DxattnRefIdeal.main_arg1)
      ∧ r.2.mem ((c.tc : Thread Cert.DxattnRefIdeal.nD Cert.DxattnRefIdeal.τ).loc Cert.DxattnRefIdeal.main_arg2) = m ((c.tc : Thread Cert.DxattnRefIdeal.nD Cert.DxattnRefIdeal.τ).loc Cert.DxattnRefIdeal.main_arg2)
      ∧ r.2.mem ((c.tc : Thread Cert.DxattnRefIdeal.nD Cert.DxattnRefIdeal.τ).loc Cert.DxattnRefIdeal.main_arg3) = m ((c.tc : Thread Cert.DxattnRefIdeal.nD Cert.DxattnRefIdeal.τ).loc Cert.DxattnRefIdeal.main_arg3)
      ∧ r.2.mem ((c.tc : Thread Cert.DxattnRefIdeal.nD Cert.DxattnRefIdeal.τ).loc Cert.DxattnRefIdeal.main_arg4) = m ((c.tc : Thread Cert.DxattnRefIdeal.nD Cert.DxattnRefIdeal.τ).loc Cert.DxattnRefIdeal.main_arg4)
      ∧ r.2.mem ((c.tc : Thread Cert.DxattnRefIdeal.nD Cert.DxattnRefIdeal.τ).loc Cert.DxattnRefIdeal.main_arg5) = m ((c.tc : Thread Cert.DxattnRefIdeal.nD Cert.DxattnRefIdeal.τ).loc Cert.DxattnRefIdeal.main_arg5)
      ∧ r.2.mem ((c.tc : Thread Cert.DxattnRefIdeal.nD Cert.DxattnRefIdeal.τ).loc Cert.DxattnRefIdeal.main_arg6) = m ((c.tc : Thread Cert.DxattnRefIdeal.nD Cert.DxattnRefIdeal.τ).loc Cert.DxattnRefIdeal.main_arg6)
      ∧ r.2.mem ((c.tc : Thread Cert.DxattnRefIdeal.nD Cert.DxattnRefIdeal.τ).loc Cert.DxattnRefIdeal.main_arg7) = m ((c.tc : Thread Cert.DxattnRefIdeal.nD Cert.DxattnRefIdeal.τ).loc Cert.DxattnRefIdeal.main_arg7)
      ∧ r.2.mem ((c.tc : Thread Cert.DxattnRefIdeal.nD Cert.DxattnRefIdeal.τ).loc Cert.DxattnRefIdeal.main_arg8) = m ((c.tc : Thread Cert.DxattnRefIdeal.nD Cert.DxattnRefIdeal.τ).loc Cert.DxattnRefIdeal.main_arg8)
      ∧ r.2.mem ((c.tc : Thread Cert.DxattnRefIdeal.nD Cert.DxattnRefIdeal.τ).loc Cert.DxattnRefIdeal.main_arg9) = m ((c.tc : Thread Cert.DxattnRefIdeal.nD Cert.DxattnRefIdeal.τ).loc Cert.DxattnRefIdeal.main_arg9))
      ∧ r.2.sem = fun _ => 0)

def quiescent_Dxmix [hDxmix : Cert.Dxmix.Facts] : Prop :=
  ∀ (m : (ℓ : Loc Cert.Dxmix.nD Cert.Dxmix.τ Cert.Dxmix.sig) → Buf (Elt Bits) ℓ) (g : Dev Cert.Dxmix.nD → PrngReg), Pre_Dxmix m →
    θ_run (Cert.Dxmix.defs (F := Bits)) (onTc (τ := Cert.Dxmix.τ) (Cert.Dxmix.main (F := Bits))) ⟨m, fun _ => 0, g⟩ (fun r => (∀ c : Dev Cert.Dxmix.nD,
      r.2.mem ((c.tc : Thread Cert.Dxmix.nD Cert.Dxmix.τ).loc Cert.Dxmix.main_arg0) = m ((c.tc : Thread Cert.Dxmix.nD Cert.Dxmix.τ).loc Cert.Dxmix.main_arg0)
      ∧ r.2.mem ((c.tc : Thread Cert.Dxmix.nD Cert.Dxmix.τ).loc Cert.Dxmix.main_arg1) = m ((c.tc : Thread Cert.Dxmix.nD Cert.Dxmix.τ).loc Cert.Dxmix.main_arg1)
      ∧ r.2.mem ((c.tc : Thread Cert.Dxmix.nD Cert.Dxmix.τ).loc Cert.Dxmix.main_arg2) = m ((c.tc : Thread Cert.Dxmix.nD Cert.Dxmix.τ).loc Cert.Dxmix.main_arg2)
      ∧ r.2.mem ((c.tc : Thread Cert.Dxmix.nD Cert.Dxmix.τ).loc Cert.Dxmix.main_arg3) = m ((c.tc : Thread Cert.Dxmix.nD Cert.Dxmix.τ).loc Cert.Dxmix.main_arg3)
      ∧ r.2.mem ((c.tc : Thread Cert.Dxmix.nD Cert.Dxmix.τ).loc Cert.Dxmix.main_arg4) = m ((c.tc : Thread Cert.Dxmix.nD Cert.Dxmix.τ).loc Cert.Dxmix.main_arg4)
      ∧ r.2.mem ((c.tc : Thread Cert.Dxmix.nD Cert.Dxmix.τ).loc Cert.Dxmix.main_arg5) = m ((c.tc : Thread Cert.Dxmix.nD Cert.Dxmix.τ).loc Cert.Dxmix.main_arg5)
      ∧ r.2.mem ((c.tc : Thread Cert.Dxmix.nD Cert.Dxmix.τ).loc Cert.Dxmix.main_arg6) = m ((c.tc : Thread Cert.Dxmix.nD Cert.Dxmix.τ).loc Cert.Dxmix.main_arg6)
      ∧ r.2.mem ((c.tc : Thread Cert.Dxmix.nD Cert.Dxmix.τ).loc Cert.Dxmix.main_arg7) = m ((c.tc : Thread Cert.Dxmix.nD Cert.Dxmix.τ).loc Cert.Dxmix.main_arg7))
      ∧ r.2.sem = fun _ => 0)

def quiescent_DxmixIdeal [hDxmixIdeal : Cert.DxmixIdeal.Facts] : Prop :=
  ∀ (m : (ℓ : Loc Cert.DxmixIdeal.nD Cert.DxmixIdeal.τ Cert.DxmixIdeal.sig) → Buf (Elt Ideal) ℓ) (g : Dev Cert.DxmixIdeal.nD → PrngReg), Pre_DxmixIdeal m →
    θ_run (Cert.DxmixIdeal.defs (F := Ideal)) (onTc (τ := Cert.DxmixIdeal.τ) (Cert.DxmixIdeal.main (F := Ideal))) ⟨m, fun _ => 0, g⟩ (fun r => (∀ c : Dev Cert.DxmixIdeal.nD,
      r.2.mem ((c.tc : Thread Cert.DxmixIdeal.nD Cert.DxmixIdeal.τ).loc Cert.DxmixIdeal.main_arg0) = m ((c.tc : Thread Cert.DxmixIdeal.nD Cert.DxmixIdeal.τ).loc Cert.DxmixIdeal.main_arg0)
      ∧ r.2.mem ((c.tc : Thread Cert.DxmixIdeal.nD Cert.DxmixIdeal.τ).loc Cert.DxmixIdeal.main_arg1) = m ((c.tc : Thread Cert.DxmixIdeal.nD Cert.DxmixIdeal.τ).loc Cert.DxmixIdeal.main_arg1)
      ∧ r.2.mem ((c.tc : Thread Cert.DxmixIdeal.nD Cert.DxmixIdeal.τ).loc Cert.DxmixIdeal.main_arg2) = m ((c.tc : Thread Cert.DxmixIdeal.nD Cert.DxmixIdeal.τ).loc Cert.DxmixIdeal.main_arg2)
      ∧ r.2.mem ((c.tc : Thread Cert.DxmixIdeal.nD Cert.DxmixIdeal.τ).loc Cert.DxmixIdeal.main_arg3) = m ((c.tc : Thread Cert.DxmixIdeal.nD Cert.DxmixIdeal.τ).loc Cert.DxmixIdeal.main_arg3)
      ∧ r.2.mem ((c.tc : Thread Cert.DxmixIdeal.nD Cert.DxmixIdeal.τ).loc Cert.DxmixIdeal.main_arg4) = m ((c.tc : Thread Cert.DxmixIdeal.nD Cert.DxmixIdeal.τ).loc Cert.DxmixIdeal.main_arg4)
      ∧ r.2.mem ((c.tc : Thread Cert.DxmixIdeal.nD Cert.DxmixIdeal.τ).loc Cert.DxmixIdeal.main_arg5) = m ((c.tc : Thread Cert.DxmixIdeal.nD Cert.DxmixIdeal.τ).loc Cert.DxmixIdeal.main_arg5)
      ∧ r.2.mem ((c.tc : Thread Cert.DxmixIdeal.nD Cert.DxmixIdeal.τ).loc Cert.DxmixIdeal.main_arg6) = m ((c.tc : Thread Cert.DxmixIdeal.nD Cert.DxmixIdeal.τ).loc Cert.DxmixIdeal.main_arg6)
      ∧ r.2.mem ((c.tc : Thread Cert.DxmixIdeal.nD Cert.DxmixIdeal.τ).loc Cert.DxmixIdeal.main_arg7) = m ((c.tc : Thread Cert.DxmixIdeal.nD Cert.DxmixIdeal.τ).loc Cert.DxmixIdeal.main_arg7))
      ∧ r.2.sem = fun _ => 0)

def quiescent_DxmixIdeal_pre_finite8 [hDxmixIdeal : Cert.DxmixIdeal.Facts] [hPre_finite8 : Cert.Pre_finite8.Facts] : Prop :=
  ∀ (m : (ℓ : Loc Cert.DxmixIdeal.nD Cert.DxmixIdeal.τ Cert.DxmixIdeal.sig) → Buf (Elt Ideal) ℓ) (g : Dev Cert.DxmixIdeal.nD → PrngReg), Pre_DxmixIdeal_finite8 m →
    θ_run (Cert.DxmixIdeal.defs (F := Ideal)) (onTc (τ := Cert.DxmixIdeal.τ) (Cert.DxmixIdeal.main (F := Ideal))) ⟨m, fun _ => 0, g⟩ (fun r => (∀ c : Dev Cert.DxmixIdeal.nD,
      r.2.mem ((c.tc : Thread Cert.DxmixIdeal.nD Cert.DxmixIdeal.τ).loc Cert.DxmixIdeal.main_arg0) = m ((c.tc : Thread Cert.DxmixIdeal.nD Cert.DxmixIdeal.τ).loc Cert.DxmixIdeal.main_arg0)
      ∧ r.2.mem ((c.tc : Thread Cert.DxmixIdeal.nD Cert.DxmixIdeal.τ).loc Cert.DxmixIdeal.main_arg1) = m ((c.tc : Thread Cert.DxmixIdeal.nD Cert.DxmixIdeal.τ).loc Cert.DxmixIdeal.main_arg1)
      ∧ r.2.mem ((c.tc : Thread Cert.DxmixIdeal.nD Cert.DxmixIdeal.τ).loc Cert.DxmixIdeal.main_arg2) = m ((c.tc : Thread Cert.DxmixIdeal.nD Cert.DxmixIdeal.τ).loc Cert.DxmixIdeal.main_arg2)
      ∧ r.2.mem ((c.tc : Thread Cert.DxmixIdeal.nD Cert.DxmixIdeal.τ).loc Cert.DxmixIdeal.main_arg3) = m ((c.tc : Thread Cert.DxmixIdeal.nD Cert.DxmixIdeal.τ).loc Cert.DxmixIdeal.main_arg3)
      ∧ r.2.mem ((c.tc : Thread Cert.DxmixIdeal.nD Cert.DxmixIdeal.τ).loc Cert.DxmixIdeal.main_arg4) = m ((c.tc : Thread Cert.DxmixIdeal.nD Cert.DxmixIdeal.τ).loc Cert.DxmixIdeal.main_arg4)
      ∧ r.2.mem ((c.tc : Thread Cert.DxmixIdeal.nD Cert.DxmixIdeal.τ).loc Cert.DxmixIdeal.main_arg5) = m ((c.tc : Thread Cert.DxmixIdeal.nD Cert.DxmixIdeal.τ).loc Cert.DxmixIdeal.main_arg5)
      ∧ r.2.mem ((c.tc : Thread Cert.DxmixIdeal.nD Cert.DxmixIdeal.τ).loc Cert.DxmixIdeal.main_arg6) = m ((c.tc : Thread Cert.DxmixIdeal.nD Cert.DxmixIdeal.τ).loc Cert.DxmixIdeal.main_arg6)
      ∧ r.2.mem ((c.tc : Thread Cert.DxmixIdeal.nD Cert.DxmixIdeal.τ).loc Cert.DxmixIdeal.main_arg7) = m ((c.tc : Thread Cert.DxmixIdeal.nD Cert.DxmixIdeal.τ).loc Cert.DxmixIdeal.main_arg7))
      ∧ r.2.sem = fun _ => 0)

def quiescent_DxmixRefIdeal [hDxmixRefIdeal : Cert.DxmixRefIdeal.Facts] : Prop :=
  ∀ (m : (ℓ : Loc Cert.DxmixRefIdeal.nD Cert.DxmixRefIdeal.τ Cert.DxmixRefIdeal.sig) → Buf (Elt Ideal) ℓ) (g : Dev Cert.DxmixRefIdeal.nD → PrngReg), Pre_DxmixRefIdeal m →
    θ_run (Cert.DxmixRefIdeal.defs (F := Ideal)) (onTc (τ := Cert.DxmixRefIdeal.τ) (Cert.DxmixRefIdeal.main (F := Ideal))) ⟨m, fun _ => 0, g⟩ (fun r => (∀ c : Dev Cert.DxmixRefIdeal.nD,
      r.2.mem ((c.tc : Thread Cert.DxmixRefIdeal.nD Cert.DxmixRefIdeal.τ).loc Cert.DxmixRefIdeal.main_arg0) = m ((c.tc : Thread Cert.DxmixRefIdeal.nD Cert.DxmixRefIdeal.τ).loc Cert.DxmixRefIdeal.main_arg0)
      ∧ r.2.mem ((c.tc : Thread Cert.DxmixRefIdeal.nD Cert.DxmixRefIdeal.τ).loc Cert.DxmixRefIdeal.main_arg1) = m ((c.tc : Thread Cert.DxmixRefIdeal.nD Cert.DxmixRefIdeal.τ).loc Cert.DxmixRefIdeal.main_arg1)
      ∧ r.2.mem ((c.tc : Thread Cert.DxmixRefIdeal.nD Cert.DxmixRefIdeal.τ).loc Cert.DxmixRefIdeal.main_arg2) = m ((c.tc : Thread Cert.DxmixRefIdeal.nD Cert.DxmixRefIdeal.τ).loc Cert.DxmixRefIdeal.main_arg2)
      ∧ r.2.mem ((c.tc : Thread Cert.DxmixRefIdeal.nD Cert.DxmixRefIdeal.τ).loc Cert.DxmixRefIdeal.main_arg3) = m ((c.tc : Thread Cert.DxmixRefIdeal.nD Cert.DxmixRefIdeal.τ).loc Cert.DxmixRefIdeal.main_arg3)
      ∧ r.2.mem ((c.tc : Thread Cert.DxmixRefIdeal.nD Cert.DxmixRefIdeal.τ).loc Cert.DxmixRefIdeal.main_arg4) = m ((c.tc : Thread Cert.DxmixRefIdeal.nD Cert.DxmixRefIdeal.τ).loc Cert.DxmixRefIdeal.main_arg4)
      ∧ r.2.mem ((c.tc : Thread Cert.DxmixRefIdeal.nD Cert.DxmixRefIdeal.τ).loc Cert.DxmixRefIdeal.main_arg5) = m ((c.tc : Thread Cert.DxmixRefIdeal.nD Cert.DxmixRefIdeal.τ).loc Cert.DxmixRefIdeal.main_arg5)
      ∧ r.2.mem ((c.tc : Thread Cert.DxmixRefIdeal.nD Cert.DxmixRefIdeal.τ).loc Cert.DxmixRefIdeal.main_arg6) = m ((c.tc : Thread Cert.DxmixRefIdeal.nD Cert.DxmixRefIdeal.τ).loc Cert.DxmixRefIdeal.main_arg6)
      ∧ r.2.mem ((c.tc : Thread Cert.DxmixRefIdeal.nD Cert.DxmixRefIdeal.τ).loc Cert.DxmixRefIdeal.main_arg7) = m ((c.tc : Thread Cert.DxmixRefIdeal.nD Cert.DxmixRefIdeal.τ).loc Cert.DxmixRefIdeal.main_arg7))
      ∧ r.2.sem = fun _ => 0)

def quiescent_DxmixRefIdeal_pre_finite8 [hDxmixRefIdeal : Cert.DxmixRefIdeal.Facts] [hPre_finite8 : Cert.Pre_finite8.Facts] : Prop :=
  ∀ (m : (ℓ : Loc Cert.DxmixRefIdeal.nD Cert.DxmixRefIdeal.τ Cert.DxmixRefIdeal.sig) → Buf (Elt Ideal) ℓ) (g : Dev Cert.DxmixRefIdeal.nD → PrngReg), Pre_DxmixRefIdeal_finite8 m →
    θ_run (Cert.DxmixRefIdeal.defs (F := Ideal)) (onTc (τ := Cert.DxmixRefIdeal.τ) (Cert.DxmixRefIdeal.main (F := Ideal))) ⟨m, fun _ => 0, g⟩ (fun r => (∀ c : Dev Cert.DxmixRefIdeal.nD,
      r.2.mem ((c.tc : Thread Cert.DxmixRefIdeal.nD Cert.DxmixRefIdeal.τ).loc Cert.DxmixRefIdeal.main_arg0) = m ((c.tc : Thread Cert.DxmixRefIdeal.nD Cert.DxmixRefIdeal.τ).loc Cert.DxmixRefIdeal.main_arg0)
      ∧ r.2.mem ((c.tc : Thread Cert.DxmixRefIdeal.nD Cert.DxmixRefIdeal.τ).loc Cert.DxmixRefIdeal.main_arg1) = m ((c.tc : Thread Cert.DxmixRefIdeal.nD Cert.DxmixRefIdeal.τ).loc Cert.DxmixRefIdeal.main_arg1)
      ∧ r.2.mem ((c.tc : Thread Cert.DxmixRefIdeal.nD Cert.DxmixRefIdeal.τ).loc Cert.DxmixRefIdeal.main_arg2) = m ((c.tc : Thread Cert.DxmixRefIdeal.nD Cert.DxmixRefIdeal.τ).loc Cert.DxmixRefIdeal.main_arg2)
      ∧ r.2.mem ((c.tc : Thread Cert.DxmixRefIdeal.nD Cert.DxmixRefIdeal.τ).loc Cert.DxmixRefIdeal.main_arg3) = m ((c.tc : Thread Cert.DxmixRefIdeal.nD Cert.DxmixRefIdeal.τ).loc Cert.DxmixRefIdeal.main_arg3)
      ∧ r.2.mem ((c.tc : Thread Cert.DxmixRefIdeal.nD Cert.DxmixRefIdeal.τ).loc Cert.DxmixRefIdeal.main_arg4) = m ((c.tc : Thread Cert.DxmixRefIdeal.nD Cert.DxmixRefIdeal.τ).loc Cert.DxmixRefIdeal.main_arg4)
      ∧ r.2.mem ((c.tc : Thread Cert.DxmixRefIdeal.nD Cert.DxmixRefIdeal.τ).loc Cert.DxmixRefIdeal.main_arg5) = m ((c.tc : Thread Cert.DxmixRefIdeal.nD Cert.DxmixRefIdeal.τ).loc Cert.DxmixRefIdeal.main_arg5)
      ∧ r.2.mem ((c.tc : Thread Cert.DxmixRefIdeal.nD Cert.DxmixRefIdeal.τ).loc Cert.DxmixRefIdeal.main_arg6) = m ((c.tc : Thread Cert.DxmixRefIdeal.nD Cert.DxmixRefIdeal.τ).loc Cert.DxmixRefIdeal.main_arg6)
      ∧ r.2.mem ((c.tc : Thread Cert.DxmixRefIdeal.nD Cert.DxmixRefIdeal.τ).loc Cert.DxmixRefIdeal.main_arg7) = m ((c.tc : Thread Cert.DxmixRefIdeal.nD Cert.DxmixRefIdeal.τ).loc Cert.DxmixRefIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9)
      ∧ r.2.mem ((c.tc : Thread Cert.Ffn.nD Cert.Ffn.τ).loc Cert.Ffn.main_arg10) = m ((c.tc : Thread Cert.Ffn.nD Cert.Ffn.τ).loc Cert.Ffn.main_arg10))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
      ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10))
      ∧ r.2.sem = fun _ => 0)

def quiescent_FfnIdeal_pre_finite9 [hFfnIdeal : Cert.FfnIdeal.Facts] [hPre_finite9 : Cert.Pre_finite9.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite9 m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
      ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9)
      ∧ r.2.mem ((c.tc : Thread Cert.FfnRefIdeal.nD Cert.FfnRefIdeal.τ).loc Cert.FfnRefIdeal.main_arg10) = m ((c.tc : Thread Cert.FfnRefIdeal.nD Cert.FfnRefIdeal.τ).loc Cert.FfnRefIdeal.main_arg10))
      ∧ r.2.sem = fun _ => 0)

def quiescent_FfnRefIdeal_pre_finite9 [hFfnRefIdeal : Cert.FfnRefIdeal.Facts] [hPre_finite9 : Cert.Pre_finite9.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite9 m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9)
      ∧ r.2.mem ((c.tc : Thread Cert.FfnRefIdeal.nD Cert.FfnRefIdeal.τ).loc Cert.FfnRefIdeal.main_arg10) = m ((c.tc : Thread Cert.FfnRefIdeal.nD Cert.FfnRefIdeal.τ).loc Cert.FfnRefIdeal.main_arg10))
      ∧ r.2.sem = fun _ => 0)

def quiescent_Hgrn [hHgrn : Cert.Hgrn.Facts] : Prop :=
  ∀ (m : (ℓ : Loc Cert.Hgrn.nD Cert.Hgrn.τ Cert.Hgrn.sig) → Buf (Elt Bits) ℓ) (g : Dev Cert.Hgrn.nD → PrngReg), Pre_Hgrn m →
    θ_run (Cert.Hgrn.defs (F := Bits)) (onTc (τ := Cert.Hgrn.τ) (Cert.Hgrn.main (F := Bits))) ⟨m, fun _ => 0, g⟩ (fun r => (∀ c : Dev Cert.Hgrn.nD,
      r.2.mem ((c.tc : Thread Cert.Hgrn.nD Cert.Hgrn.τ).loc Cert.Hgrn.main_arg0) = m ((c.tc : Thread Cert.Hgrn.nD Cert.Hgrn.τ).loc Cert.Hgrn.main_arg0)
      ∧ r.2.mem ((c.tc : Thread Cert.Hgrn.nD Cert.Hgrn.τ).loc Cert.Hgrn.main_arg1) = m ((c.tc : Thread Cert.Hgrn.nD Cert.Hgrn.τ).loc Cert.Hgrn.main_arg1)
      ∧ r.2.mem ((c.tc : Thread Cert.Hgrn.nD Cert.Hgrn.τ).loc Cert.Hgrn.main_arg2) = m ((c.tc : Thread Cert.Hgrn.nD Cert.Hgrn.τ).loc Cert.Hgrn.main_arg2)
      ∧ r.2.mem ((c.tc : Thread Cert.Hgrn.nD Cert.Hgrn.τ).loc Cert.Hgrn.main_arg3) = m ((c.tc : Thread Cert.Hgrn.nD Cert.Hgrn.τ).loc Cert.Hgrn.main_arg3)
      ∧ r.2.mem ((c.tc : Thread Cert.Hgrn.nD Cert.Hgrn.τ).loc Cert.Hgrn.main_arg4) = m ((c.tc : Thread Cert.Hgrn.nD Cert.Hgrn.τ).loc Cert.Hgrn.main_arg4)
      ∧ r.2.mem ((c.tc : Thread Cert.Hgrn.nD Cert.Hgrn.τ).loc Cert.Hgrn.main_arg5) = m ((c.tc : Thread Cert.Hgrn.nD Cert.Hgrn.τ).loc Cert.Hgrn.main_arg5))
      ∧ r.2.sem = fun _ => 0)

def quiescent_HgrnIdeal [hHgrnIdeal : Cert.HgrnIdeal.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
      ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3)
      ∧ r.2.mem ((c.tc : Thread Cert.HgrnIdeal.nD Cert.HgrnIdeal.τ).loc Cert.HgrnIdeal.main_arg4) = m ((c.tc : Thread Cert.HgrnIdeal.nD Cert.HgrnIdeal.τ).loc Cert.HgrnIdeal.main_arg4)
      ∧ r.2.mem ((c.tc : Thread Cert.HgrnIdeal.nD Cert.HgrnIdeal.τ).loc Cert.HgrnIdeal.main_arg5) = m ((c.tc : Thread Cert.HgrnIdeal.nD Cert.HgrnIdeal.τ).loc Cert.HgrnIdeal.main_arg5))
      ∧ r.2.sem = fun _ => 0)

def quiescent_Hfwd [hHfwd : Cert.Hfwd.Facts] : Prop :=
  ∀ (m : (ℓ : Loc Cert.Hfwd.nD Cert.Hfwd.τ Cert.Hfwd.sig) → Buf (Elt Bits) ℓ) (g : Dev Cert.Hfwd.nD → PrngReg), Pre_Hfwd m →
    θ_run (Cert.Hfwd.defs (F := Bits)) (onTc (τ := Cert.Hfwd.τ) (Cert.Hfwd.main (F := Bits))) ⟨m, fun _ => 0, g⟩ (fun r => (∀ c : Dev Cert.Hfwd.nD,
      r.2.mem ((c.tc : Thread Cert.Hfwd.nD Cert.Hfwd.τ).loc Cert.Hfwd.main_arg0) = m ((c.tc : Thread Cert.Hfwd.nD Cert.Hfwd.τ).loc Cert.Hfwd.main_arg0)
      ∧ r.2.mem ((c.tc : Thread Cert.Hfwd.nD Cert.Hfwd.τ).loc Cert.Hfwd.main_arg1) = m ((c.tc : Thread Cert.Hfwd.nD Cert.Hfwd.τ).loc Cert.Hfwd.main_arg1)
      ∧ r.2.mem ((c.tc : Thread Cert.Hfwd.nD Cert.Hfwd.τ).loc Cert.Hfwd.main_arg2) = m ((c.tc : Thread Cert.Hfwd.nD Cert.Hfwd.τ).loc Cert.Hfwd.main_arg2))
      ∧ r.2.sem = fun _ => 0)

def quiescent_HfwdIdeal [hHfwdIdeal : Cert.HfwdIdeal.Facts] : Prop :=
  ∀ (m : (ℓ : Loc Cert.HfwdIdeal.nD Cert.HfwdIdeal.τ Cert.HfwdIdeal.sig) → Buf (Elt Ideal) ℓ) (g : Dev Cert.HfwdIdeal.nD → PrngReg), Pre_HfwdIdeal m →
    θ_run (Cert.HfwdIdeal.defs (F := Ideal)) (onTc (τ := Cert.HfwdIdeal.τ) (Cert.HfwdIdeal.main (F := Ideal))) ⟨m, fun _ => 0, g⟩ (fun r => (∀ c : Dev Cert.HfwdIdeal.nD,
      r.2.mem ((c.tc : Thread Cert.HfwdIdeal.nD Cert.HfwdIdeal.τ).loc Cert.HfwdIdeal.main_arg0) = m ((c.tc : Thread Cert.HfwdIdeal.nD Cert.HfwdIdeal.τ).loc Cert.HfwdIdeal.main_arg0)
      ∧ r.2.mem ((c.tc : Thread Cert.HfwdIdeal.nD Cert.HfwdIdeal.τ).loc Cert.HfwdIdeal.main_arg1) = m ((c.tc : Thread Cert.HfwdIdeal.nD Cert.HfwdIdeal.τ).loc Cert.HfwdIdeal.main_arg1)
      ∧ r.2.mem ((c.tc : Thread Cert.HfwdIdeal.nD Cert.HfwdIdeal.τ).loc Cert.HfwdIdeal.main_arg2) = m ((c.tc : Thread Cert.HfwdIdeal.nD Cert.HfwdIdeal.τ).loc Cert.HfwdIdeal.main_arg2))
      ∧ r.2.sem = fun _ => 0)

def quiescent_Nfwd [hNfwd : Cert.Nfwd.Facts] : Prop :=
  ∀ (m : (ℓ : Loc Cert.Nfwd.nD Cert.Nfwd.τ Cert.Nfwd.sig) → Buf (Elt Bits) ℓ) (g : Dev Cert.Nfwd.nD → PrngReg), Pre_Nfwd m →
    θ_run (Cert.Nfwd.defs (F := Bits)) (onTc (τ := Cert.Nfwd.τ) (Cert.Nfwd.main (F := Bits))) ⟨m, fun _ => 0, g⟩ (fun r => (∀ c : Dev Cert.Nfwd.nD,
      r.2.mem ((c.tc : Thread Cert.Nfwd.nD Cert.Nfwd.τ).loc Cert.Nfwd.main_arg0) = m ((c.tc : Thread Cert.Nfwd.nD Cert.Nfwd.τ).loc Cert.Nfwd.main_arg0)
      ∧ r.2.mem ((c.tc : Thread Cert.Nfwd.nD Cert.Nfwd.τ).loc Cert.Nfwd.main_arg1) = m ((c.tc : Thread Cert.Nfwd.nD Cert.Nfwd.τ).loc Cert.Nfwd.main_arg1)
      ∧ r.2.mem ((c.tc : Thread Cert.Nfwd.nD Cert.Nfwd.τ).loc Cert.Nfwd.main_arg2) = m ((c.tc : Thread Cert.Nfwd.nD Cert.Nfwd.τ).loc Cert.Nfwd.main_arg2)
      ∧ r.2.mem ((c.tc : Thread Cert.Nfwd.nD Cert.Nfwd.τ).loc Cert.Nfwd.main_arg3) = m ((c.tc : Thread Cert.Nfwd.nD Cert.Nfwd.τ).loc Cert.Nfwd.main_arg3)
      ∧ r.2.mem ((c.tc : Thread Cert.Nfwd.nD Cert.Nfwd.τ).loc Cert.Nfwd.main_arg4) = m ((c.tc : Thread Cert.Nfwd.nD Cert.Nfwd.τ).loc Cert.Nfwd.main_arg4)
      ∧ r.2.mem ((c.tc : Thread Cert.Nfwd.nD Cert.Nfwd.τ).loc Cert.Nfwd.main_arg5) = m ((c.tc : Thread Cert.Nfwd.nD Cert.Nfwd.τ).loc Cert.Nfwd.main_arg5)
      ∧ r.2.mem ((c.tc : Thread Cert.Nfwd.nD Cert.Nfwd.τ).loc Cert.Nfwd.main_arg6) = m ((c.tc : Thread Cert.Nfwd.nD Cert.Nfwd.τ).loc Cert.Nfwd.main_arg6))
      ∧ r.2.sem = fun _ => 0)

def quiescent_NfwdIdeal [hNfwdIdeal : Cert.NfwdIdeal.Facts] : Prop :=
  ∀ (m : (ℓ : Loc Cert.NfwdIdeal.nD Cert.NfwdIdeal.τ Cert.NfwdIdeal.sig) → Buf (Elt Ideal) ℓ) (g : Dev Cert.NfwdIdeal.nD → PrngReg), Pre_NfwdIdeal m →
    θ_run (Cert.NfwdIdeal.defs (F := Ideal)) (onTc (τ := Cert.NfwdIdeal.τ) (Cert.NfwdIdeal.main (F := Ideal))) ⟨m, fun _ => 0, g⟩ (fun r => (∀ c : Dev Cert.NfwdIdeal.nD,
      r.2.mem ((c.tc : Thread Cert.NfwdIdeal.nD Cert.NfwdIdeal.τ).loc Cert.NfwdIdeal.main_arg0) = m ((c.tc : Thread Cert.NfwdIdeal.nD Cert.NfwdIdeal.τ).loc Cert.NfwdIdeal.main_arg0)
      ∧ r.2.mem ((c.tc : Thread Cert.NfwdIdeal.nD Cert.NfwdIdeal.τ).loc Cert.NfwdIdeal.main_arg1) = m ((c.tc : Thread Cert.NfwdIdeal.nD Cert.NfwdIdeal.τ).loc Cert.NfwdIdeal.main_arg1)
      ∧ r.2.mem ((c.tc : Thread Cert.NfwdIdeal.nD Cert.NfwdIdeal.τ).loc Cert.NfwdIdeal.main_arg2) = m ((c.tc : Thread Cert.NfwdIdeal.nD Cert.NfwdIdeal.τ).loc Cert.NfwdIdeal.main_arg2)
      ∧ r.2.mem ((c.tc : Thread Cert.NfwdIdeal.nD Cert.NfwdIdeal.τ).loc Cert.NfwdIdeal.main_arg3) = m ((c.tc : Thread Cert.NfwdIdeal.nD Cert.NfwdIdeal.τ).loc Cert.NfwdIdeal.main_arg3)
      ∧ r.2.mem ((c.tc : Thread Cert.NfwdIdeal.nD Cert.NfwdIdeal.τ).loc Cert.NfwdIdeal.main_arg4) = m ((c.tc : Thread Cert.NfwdIdeal.nD Cert.NfwdIdeal.τ).loc Cert.NfwdIdeal.main_arg4)
      ∧ r.2.mem ((c.tc : Thread Cert.NfwdIdeal.nD Cert.NfwdIdeal.τ).loc Cert.NfwdIdeal.main_arg5) = m ((c.tc : Thread Cert.NfwdIdeal.nD Cert.NfwdIdeal.τ).loc Cert.NfwdIdeal.main_arg5)
      ∧ r.2.mem ((c.tc : Thread Cert.NfwdIdeal.nD Cert.NfwdIdeal.τ).loc Cert.NfwdIdeal.main_arg6) = m ((c.tc : Thread Cert.NfwdIdeal.nD Cert.NfwdIdeal.τ).loc Cert.NfwdIdeal.main_arg6))
      ∧ r.2.sem = fun _ => 0)

def quiescent_NfwdRefIdeal [hNfwdRefIdeal : Cert.NfwdRefIdeal.Facts] : Prop :=
  ∀ (m : (ℓ : Loc Cert.NfwdRefIdeal.nD Cert.NfwdRefIdeal.τ Cert.NfwdRefIdeal.sig) → Buf (Elt Ideal) ℓ) (g : Dev Cert.NfwdRefIdeal.nD → PrngReg), Pre_NfwdRefIdeal m →
    θ_run (Cert.NfwdRefIdeal.defs (F := Ideal)) (onTc (τ := Cert.NfwdRefIdeal.τ) (Cert.NfwdRefIdeal.main (F := Ideal))) ⟨m, fun _ => 0, g⟩ (fun r => (∀ c : Dev Cert.NfwdRefIdeal.nD,
      r.2.mem ((c.tc : Thread Cert.NfwdRefIdeal.nD Cert.NfwdRefIdeal.τ).loc Cert.NfwdRefIdeal.main_arg0) = m ((c.tc : Thread Cert.NfwdRefIdeal.nD Cert.NfwdRefIdeal.τ).loc Cert.NfwdRefIdeal.main_arg0)
      ∧ r.2.mem ((c.tc : Thread Cert.NfwdRefIdeal.nD Cert.NfwdRefIdeal.τ).loc Cert.NfwdRefIdeal.main_arg1) = m ((c.tc : Thread Cert.NfwdRefIdeal.nD Cert.NfwdRefIdeal.τ).loc Cert.NfwdRefIdeal.main_arg1)
      ∧ r.2.mem ((c.tc : Thread Cert.NfwdRefIdeal.nD Cert.NfwdRefIdeal.τ).loc Cert.NfwdRefIdeal.main_arg2) = m ((c.tc : Thread Cert.NfwdRefIdeal.nD Cert.NfwdRefIdeal.τ).loc Cert.NfwdRefIdeal.main_arg2)
      ∧ r.2.mem ((c.tc : Thread Cert.NfwdRefIdeal.nD Cert.NfwdRefIdeal.τ).loc Cert.NfwdRefIdeal.main_arg3) = m ((c.tc : Thread Cert.NfwdRefIdeal.nD Cert.NfwdRefIdeal.τ).loc Cert.NfwdRefIdeal.main_arg3)
      ∧ r.2.mem ((c.tc : Thread Cert.NfwdRefIdeal.nD Cert.NfwdRefIdeal.τ).loc Cert.NfwdRefIdeal.main_arg4) = m ((c.tc : Thread Cert.NfwdRefIdeal.nD Cert.NfwdRefIdeal.τ).loc Cert.NfwdRefIdeal.main_arg4)
      ∧ r.2.mem ((c.tc : Thread Cert.NfwdRefIdeal.nD Cert.NfwdRefIdeal.τ).loc Cert.NfwdRefIdeal.main_arg5) = m ((c.tc : Thread Cert.NfwdRefIdeal.nD Cert.NfwdRefIdeal.τ).loc Cert.NfwdRefIdeal.main_arg5)
      ∧ r.2.mem ((c.tc : Thread Cert.NfwdRefIdeal.nD Cert.NfwdRefIdeal.τ).loc Cert.NfwdRefIdeal.main_arg6) = m ((c.tc : Thread Cert.NfwdRefIdeal.nD Cert.NfwdRefIdeal.τ).loc Cert.NfwdRefIdeal.main_arg6))
      ∧ r.2.sem = fun _ => 0)

def quiescent_Mfwd [hMfwd : Cert.Mfwd.Facts] : Prop :=
  ∀ (m : (ℓ : Loc Cert.Mfwd.nD Cert.Mfwd.τ Cert.Mfwd.sig) → Buf (Elt Bits) ℓ) (g : Dev Cert.Mfwd.nD → PrngReg), Pre_Mfwd m →
    θ_run (Cert.Mfwd.defs (F := Bits)) (onTc (τ := Cert.Mfwd.τ) (Cert.Mfwd.main (F := Bits))) ⟨m, fun _ => 0, g⟩ (fun r => (∀ c : Dev Cert.Mfwd.nD,
      r.2.mem ((c.tc : Thread Cert.Mfwd.nD Cert.Mfwd.τ).loc Cert.Mfwd.main_arg0) = m ((c.tc : Thread Cert.Mfwd.nD Cert.Mfwd.τ).loc Cert.Mfwd.main_arg0)
      ∧ r.2.mem ((c.tc : Thread Cert.Mfwd.nD Cert.Mfwd.τ).loc Cert.Mfwd.main_arg1) = m ((c.tc : Thread Cert.Mfwd.nD Cert.Mfwd.τ).loc Cert.Mfwd.main_arg1)
      ∧ r.2.mem ((c.tc : Thread Cert.Mfwd.nD Cert.Mfwd.τ).loc Cert.Mfwd.main_arg2) = m ((c.tc : Thread Cert.Mfwd.nD Cert.Mfwd.τ).loc Cert.Mfwd.main_arg2)
      ∧ r.2.mem ((c.tc : Thread Cert.Mfwd.nD Cert.Mfwd.τ).loc Cert.Mfwd.main_arg3) = m ((c.tc : Thread Cert.Mfwd.nD Cert.Mfwd.τ).loc Cert.Mfwd.main_arg3)
      ∧ r.2.mem ((c.tc : Thread Cert.Mfwd.nD Cert.Mfwd.τ).loc Cert.Mfwd.main_arg4) = m ((c.tc : Thread Cert.Mfwd.nD Cert.Mfwd.τ).loc Cert.Mfwd.main_arg4))
      ∧ r.2.sem = fun _ => 0)

def quiescent_MfwdIdeal [hMfwdIdeal : Cert.MfwdIdeal.Facts] : Prop :=
  ∀ (m : (ℓ : Loc Cert.MfwdIdeal.nD Cert.MfwdIdeal.τ Cert.MfwdIdeal.sig) → Buf (Elt Ideal) ℓ) (g : Dev Cert.MfwdIdeal.nD → PrngReg), Pre_MfwdIdeal m →
    θ_run (Cert.MfwdIdeal.defs (F := Ideal)) (onTc (τ := Cert.MfwdIdeal.τ) (Cert.MfwdIdeal.main (F := Ideal))) ⟨m, fun _ => 0, g⟩ (fun r => (∀ c : Dev Cert.MfwdIdeal.nD,
      r.2.mem ((c.tc : Thread Cert.MfwdIdeal.nD Cert.MfwdIdeal.τ).loc Cert.MfwdIdeal.main_arg0) = m ((c.tc : Thread Cert.MfwdIdeal.nD Cert.MfwdIdeal.τ).loc Cert.MfwdIdeal.main_arg0)
      ∧ r.2.mem ((c.tc : Thread Cert.MfwdIdeal.nD Cert.MfwdIdeal.τ).loc Cert.MfwdIdeal.main_arg1) = m ((c.tc : Thread Cert.MfwdIdeal.nD Cert.MfwdIdeal.τ).loc Cert.MfwdIdeal.main_arg1)
      ∧ r.2.mem ((c.tc : Thread Cert.MfwdIdeal.nD Cert.MfwdIdeal.τ).loc Cert.MfwdIdeal.main_arg2) = m ((c.tc : Thread Cert.MfwdIdeal.nD Cert.MfwdIdeal.τ).loc Cert.MfwdIdeal.main_arg2)
      ∧ r.2.mem ((c.tc : Thread Cert.MfwdIdeal.nD Cert.MfwdIdeal.τ).loc Cert.MfwdIdeal.main_arg3) = m ((c.tc : Thread Cert.MfwdIdeal.nD Cert.MfwdIdeal.τ).loc Cert.MfwdIdeal.main_arg3)
      ∧ r.2.mem ((c.tc : Thread Cert.MfwdIdeal.nD Cert.MfwdIdeal.τ).loc Cert.MfwdIdeal.main_arg4) = m ((c.tc : Thread Cert.MfwdIdeal.nD Cert.MfwdIdeal.τ).loc Cert.MfwdIdeal.main_arg4))
      ∧ r.2.sem = fun _ => 0)

def quiescent_MfwdRefIdeal [hMfwdRefIdeal : Cert.MfwdRefIdeal.Facts] : Prop :=
  ∀ (m : (ℓ : Loc Cert.MfwdRefIdeal.nD Cert.MfwdRefIdeal.τ Cert.MfwdRefIdeal.sig) → Buf (Elt Ideal) ℓ) (g : Dev Cert.MfwdRefIdeal.nD → PrngReg), Pre_MfwdRefIdeal m →
    θ_run (Cert.MfwdRefIdeal.defs (F := Ideal)) (onTc (τ := Cert.MfwdRefIdeal.τ) (Cert.MfwdRefIdeal.main (F := Ideal))) ⟨m, fun _ => 0, g⟩ (fun r => (∀ c : Dev Cert.MfwdRefIdeal.nD,
      r.2.mem ((c.tc : Thread Cert.MfwdRefIdeal.nD Cert.MfwdRefIdeal.τ).loc Cert.MfwdRefIdeal.main_arg0) = m ((c.tc : Thread Cert.MfwdRefIdeal.nD Cert.MfwdRefIdeal.τ).loc Cert.MfwdRefIdeal.main_arg0)
      ∧ r.2.mem ((c.tc : Thread Cert.MfwdRefIdeal.nD Cert.MfwdRefIdeal.τ).loc Cert.MfwdRefIdeal.main_arg1) = m ((c.tc : Thread Cert.MfwdRefIdeal.nD Cert.MfwdRefIdeal.τ).loc Cert.MfwdRefIdeal.main_arg1)
      ∧ r.2.mem ((c.tc : Thread Cert.MfwdRefIdeal.nD Cert.MfwdRefIdeal.τ).loc Cert.MfwdRefIdeal.main_arg2) = m ((c.tc : Thread Cert.MfwdRefIdeal.nD Cert.MfwdRefIdeal.τ).loc Cert.MfwdRefIdeal.main_arg2)
      ∧ r.2.mem ((c.tc : Thread Cert.MfwdRefIdeal.nD Cert.MfwdRefIdeal.τ).loc Cert.MfwdRefIdeal.main_arg3) = m ((c.tc : Thread Cert.MfwdRefIdeal.nD Cert.MfwdRefIdeal.τ).loc Cert.MfwdRefIdeal.main_arg3)
      ∧ r.2.mem ((c.tc : Thread Cert.MfwdRefIdeal.nD Cert.MfwdRefIdeal.τ).loc Cert.MfwdRefIdeal.main_arg4) = m ((c.tc : Thread Cert.MfwdRefIdeal.nD Cert.MfwdRefIdeal.τ).loc Cert.MfwdRefIdeal.main_arg4))
      ∧ r.2.sem = fun _ => 0)

def quiescent_Sfwd [hSfwd : Cert.Sfwd.Facts] : Prop :=
  ∀ (m : (ℓ : Loc Cert.Sfwd.nD Cert.Sfwd.τ Cert.Sfwd.sig) → Buf (Elt Bits) ℓ) (g : Dev Cert.Sfwd.nD → PrngReg), Pre_Sfwd m →
    θ_run (Cert.Sfwd.defs (F := Bits)) (onTc (τ := Cert.Sfwd.τ) (Cert.Sfwd.main (F := Bits))) ⟨m, fun _ => 0, g⟩ (fun r => (∀ c : Dev Cert.Sfwd.nD,
      r.2.mem ((c.tc : Thread Cert.Sfwd.nD Cert.Sfwd.τ).loc Cert.Sfwd.main_arg0) = m ((c.tc : Thread Cert.Sfwd.nD Cert.Sfwd.τ).loc Cert.Sfwd.main_arg0)
      ∧ r.2.mem ((c.tc : Thread Cert.Sfwd.nD Cert.Sfwd.τ).loc Cert.Sfwd.main_arg1) = m ((c.tc : Thread Cert.Sfwd.nD Cert.Sfwd.τ).loc Cert.Sfwd.main_arg1)
      ∧ r.2.mem ((c.tc : Thread Cert.Sfwd.nD Cert.Sfwd.τ).loc Cert.Sfwd.main_arg2) = m ((c.tc : Thread Cert.Sfwd.nD Cert.Sfwd.τ).loc Cert.Sfwd.main_arg2)
      ∧ r.2.mem ((c.tc : Thread Cert.Sfwd.nD Cert.Sfwd.τ).loc Cert.Sfwd.main_arg3) = m ((c.tc : Thread Cert.Sfwd.nD Cert.Sfwd.τ).loc Cert.Sfwd.main_arg3)
      ∧ r.2.mem ((c.tc : Thread Cert.Sfwd.nD Cert.Sfwd.τ).loc Cert.Sfwd.main_arg4) = m ((c.tc : Thread Cert.Sfwd.nD Cert.Sfwd.τ).loc Cert.Sfwd.main_arg4)
      ∧ r.2.mem ((c.tc : Thread Cert.Sfwd.nD Cert.Sfwd.τ).loc Cert.Sfwd.main_arg5) = m ((c.tc : Thread Cert.Sfwd.nD Cert.Sfwd.τ).loc Cert.Sfwd.main_arg5))
      ∧ r.2.sem = fun _ => 0)

def quiescent_SfwdIdeal [hSfwdIdeal : Cert.SfwdIdeal.Facts] : Prop :=
  ∀ (m : (ℓ : Loc Cert.SfwdIdeal.nD Cert.SfwdIdeal.τ Cert.SfwdIdeal.sig) → Buf (Elt Ideal) ℓ) (g : Dev Cert.SfwdIdeal.nD → PrngReg), Pre_SfwdIdeal m →
    θ_run (Cert.SfwdIdeal.defs (F := Ideal)) (onTc (τ := Cert.SfwdIdeal.τ) (Cert.SfwdIdeal.main (F := Ideal))) ⟨m, fun _ => 0, g⟩ (fun r => (∀ c : Dev Cert.SfwdIdeal.nD,
      r.2.mem ((c.tc : Thread Cert.SfwdIdeal.nD Cert.SfwdIdeal.τ).loc Cert.SfwdIdeal.main_arg0) = m ((c.tc : Thread Cert.SfwdIdeal.nD Cert.SfwdIdeal.τ).loc Cert.SfwdIdeal.main_arg0)
      ∧ r.2.mem ((c.tc : Thread Cert.SfwdIdeal.nD Cert.SfwdIdeal.τ).loc Cert.SfwdIdeal.main_arg1) = m ((c.tc : Thread Cert.SfwdIdeal.nD Cert.SfwdIdeal.τ).loc Cert.SfwdIdeal.main_arg1)
      ∧ r.2.mem ((c.tc : Thread Cert.SfwdIdeal.nD Cert.SfwdIdeal.τ).loc Cert.SfwdIdeal.main_arg2) = m ((c.tc : Thread Cert.SfwdIdeal.nD Cert.SfwdIdeal.τ).loc Cert.SfwdIdeal.main_arg2)
      ∧ r.2.mem ((c.tc : Thread Cert.SfwdIdeal.nD Cert.SfwdIdeal.τ).loc Cert.SfwdIdeal.main_arg3) = m ((c.tc : Thread Cert.SfwdIdeal.nD Cert.SfwdIdeal.τ).loc Cert.SfwdIdeal.main_arg3)
      ∧ r.2.mem ((c.tc : Thread Cert.SfwdIdeal.nD Cert.SfwdIdeal.τ).loc Cert.SfwdIdeal.main_arg4) = m ((c.tc : Thread Cert.SfwdIdeal.nD Cert.SfwdIdeal.τ).loc Cert.SfwdIdeal.main_arg4)
      ∧ r.2.mem ((c.tc : Thread Cert.SfwdIdeal.nD Cert.SfwdIdeal.τ).loc Cert.SfwdIdeal.main_arg5) = m ((c.tc : Thread Cert.SfwdIdeal.nD Cert.SfwdIdeal.τ).loc Cert.SfwdIdeal.main_arg5))
      ∧ r.2.sem = fun _ => 0)

def quiescent_SfwdRefIdeal [hSfwdRefIdeal : Cert.SfwdRefIdeal.Facts] : Prop :=
  ∀ (m : (ℓ : Loc Cert.SfwdRefIdeal.nD Cert.SfwdRefIdeal.τ Cert.SfwdRefIdeal.sig) → Buf (Elt Ideal) ℓ) (g : Dev Cert.SfwdRefIdeal.nD → PrngReg), Pre_SfwdRefIdeal m →
    θ_run (Cert.SfwdRefIdeal.defs (F := Ideal)) (onTc (τ := Cert.SfwdRefIdeal.τ) (Cert.SfwdRefIdeal.main (F := Ideal))) ⟨m, fun _ => 0, g⟩ (fun r => (∀ c : Dev Cert.SfwdRefIdeal.nD,
      r.2.mem ((c.tc : Thread Cert.SfwdRefIdeal.nD Cert.SfwdRefIdeal.τ).loc Cert.SfwdRefIdeal.main_arg0) = m ((c.tc : Thread Cert.SfwdRefIdeal.nD Cert.SfwdRefIdeal.τ).loc Cert.SfwdRefIdeal.main_arg0)
      ∧ r.2.mem ((c.tc : Thread Cert.SfwdRefIdeal.nD Cert.SfwdRefIdeal.τ).loc Cert.SfwdRefIdeal.main_arg1) = m ((c.tc : Thread Cert.SfwdRefIdeal.nD Cert.SfwdRefIdeal.τ).loc Cert.SfwdRefIdeal.main_arg1)
      ∧ r.2.mem ((c.tc : Thread Cert.SfwdRefIdeal.nD Cert.SfwdRefIdeal.τ).loc Cert.SfwdRefIdeal.main_arg2) = m ((c.tc : Thread Cert.SfwdRefIdeal.nD Cert.SfwdRefIdeal.τ).loc Cert.SfwdRefIdeal.main_arg2)
      ∧ r.2.mem ((c.tc : Thread Cert.SfwdRefIdeal.nD Cert.SfwdRefIdeal.τ).loc Cert.SfwdRefIdeal.main_arg3) = m ((c.tc : Thread Cert.SfwdRefIdeal.nD Cert.SfwdRefIdeal.τ).loc Cert.SfwdRefIdeal.main_arg3)
      ∧ r.2.mem ((c.tc : Thread Cert.SfwdRefIdeal.nD Cert.SfwdRefIdeal.τ).loc Cert.SfwdRefIdeal.main_arg4) = m ((c.tc : Thread Cert.SfwdRefIdeal.nD Cert.SfwdRefIdeal.τ).loc Cert.SfwdRefIdeal.main_arg4)
      ∧ r.2.mem ((c.tc : Thread Cert.SfwdRefIdeal.nD Cert.SfwdRefIdeal.τ).loc Cert.SfwdRefIdeal.main_arg5) = m ((c.tc : Thread Cert.SfwdRefIdeal.nD Cert.SfwdRefIdeal.τ).loc Cert.SfwdRefIdeal.main_arg5))
      ∧ r.2.sem = fun _ => 0)

def quiescent_Dxin [hDxin : Cert.Dxin.Facts] : Prop :=
  ∀ (m : (ℓ : Loc Cert.Dxin.nD Cert.Dxin.τ Cert.Dxin.sig) → Buf (Elt Bits) ℓ) (g : Dev Cert.Dxin.nD → PrngReg), Pre_Dxin m →
    θ_run (Cert.Dxin.defs (F := Bits)) (onTc (τ := Cert.Dxin.τ) (Cert.Dxin.main (F := Bits))) ⟨m, fun _ => 0, g⟩ (fun r => (∀ c : Dev Cert.Dxin.nD,
      r.2.mem ((c.tc : Thread Cert.Dxin.nD Cert.Dxin.τ).loc Cert.Dxin.main_arg0) = m ((c.tc : Thread Cert.Dxin.nD Cert.Dxin.τ).loc Cert.Dxin.main_arg0)
      ∧ r.2.mem ((c.tc : Thread Cert.Dxin.nD Cert.Dxin.τ).loc Cert.Dxin.main_arg1) = m ((c.tc : Thread Cert.Dxin.nD Cert.Dxin.τ).loc Cert.Dxin.main_arg1)
      ∧ r.2.mem ((c.tc : Thread Cert.Dxin.nD Cert.Dxin.τ).loc Cert.Dxin.main_arg2) = m ((c.tc : Thread Cert.Dxin.nD Cert.Dxin.τ).loc Cert.Dxin.main_arg2)
      ∧ r.2.mem ((c.tc : Thread Cert.Dxin.nD Cert.Dxin.τ).loc Cert.Dxin.main_arg3) = m ((c.tc : Thread Cert.Dxin.nD Cert.Dxin.τ).loc Cert.Dxin.main_arg3)
      ∧ r.2.mem ((c.tc : Thread Cert.Dxin.nD Cert.Dxin.τ).loc Cert.Dxin.main_arg4) = m ((c.tc : Thread Cert.Dxin.nD Cert.Dxin.τ).loc Cert.Dxin.main_arg4))
      ∧ r.2.sem = fun _ => 0)

def quiescent_DxinIdeal [hDxinIdeal : Cert.DxinIdeal.Facts] : Prop :=
  ∀ (m : (ℓ : Loc Cert.DxinIdeal.nD Cert.DxinIdeal.τ Cert.DxinIdeal.sig) → Buf (Elt Ideal) ℓ) (g : Dev Cert.DxinIdeal.nD → PrngReg), Pre_DxinIdeal m →
    θ_run (Cert.DxinIdeal.defs (F := Ideal)) (onTc (τ := Cert.DxinIdeal.τ) (Cert.DxinIdeal.main (F := Ideal))) ⟨m, fun _ => 0, g⟩ (fun r => (∀ c : Dev Cert.DxinIdeal.nD,
      r.2.mem ((c.tc : Thread Cert.DxinIdeal.nD Cert.DxinIdeal.τ).loc Cert.DxinIdeal.main_arg0) = m ((c.tc : Thread Cert.DxinIdeal.nD Cert.DxinIdeal.τ).loc Cert.DxinIdeal.main_arg0)
      ∧ r.2.mem ((c.tc : Thread Cert.DxinIdeal.nD Cert.DxinIdeal.τ).loc Cert.DxinIdeal.main_arg1) = m ((c.tc : Thread Cert.DxinIdeal.nD Cert.DxinIdeal.τ).loc Cert.DxinIdeal.main_arg1)
      ∧ r.2.mem ((c.tc : Thread Cert.DxinIdeal.nD Cert.DxinIdeal.τ).loc Cert.DxinIdeal.main_arg2) = m ((c.tc : Thread Cert.DxinIdeal.nD Cert.DxinIdeal.τ).loc Cert.DxinIdeal.main_arg2)
      ∧ r.2.mem ((c.tc : Thread Cert.DxinIdeal.nD Cert.DxinIdeal.τ).loc Cert.DxinIdeal.main_arg3) = m ((c.tc : Thread Cert.DxinIdeal.nD Cert.DxinIdeal.τ).loc Cert.DxinIdeal.main_arg3)
      ∧ r.2.mem ((c.tc : Thread Cert.DxinIdeal.nD Cert.DxinIdeal.τ).loc Cert.DxinIdeal.main_arg4) = m ((c.tc : Thread Cert.DxinIdeal.nD Cert.DxinIdeal.τ).loc Cert.DxinIdeal.main_arg4))
      ∧ r.2.sem = fun _ => 0)

def quiescent_DxinRefIdeal [hDxinRefIdeal : Cert.DxinRefIdeal.Facts] : Prop :=
  ∀ (m : (ℓ : Loc Cert.DxinRefIdeal.nD Cert.DxinRefIdeal.τ Cert.DxinRefIdeal.sig) → Buf (Elt Ideal) ℓ) (g : Dev Cert.DxinRefIdeal.nD → PrngReg), Pre_DxinRefIdeal m →
    θ_run (Cert.DxinRefIdeal.defs (F := Ideal)) (onTc (τ := Cert.DxinRefIdeal.τ) (Cert.DxinRefIdeal.main (F := Ideal))) ⟨m, fun _ => 0, g⟩ (fun r => (∀ c : Dev Cert.DxinRefIdeal.nD,
      r.2.mem ((c.tc : Thread Cert.DxinRefIdeal.nD Cert.DxinRefIdeal.τ).loc Cert.DxinRefIdeal.main_arg0) = m ((c.tc : Thread Cert.DxinRefIdeal.nD Cert.DxinRefIdeal.τ).loc Cert.DxinRefIdeal.main_arg0)
      ∧ r.2.mem ((c.tc : Thread Cert.DxinRefIdeal.nD Cert.DxinRefIdeal.τ).loc Cert.DxinRefIdeal.main_arg1) = m ((c.tc : Thread Cert.DxinRefIdeal.nD Cert.DxinRefIdeal.τ).loc Cert.DxinRefIdeal.main_arg1)
      ∧ r.2.mem ((c.tc : Thread Cert.DxinRefIdeal.nD Cert.DxinRefIdeal.τ).loc Cert.DxinRefIdeal.main_arg2) = m ((c.tc : Thread Cert.DxinRefIdeal.nD Cert.DxinRefIdeal.τ).loc Cert.DxinRefIdeal.main_arg2)
      ∧ r.2.mem ((c.tc : Thread Cert.DxinRefIdeal.nD Cert.DxinRefIdeal.τ).loc Cert.DxinRefIdeal.main_arg3) = m ((c.tc : Thread Cert.DxinRefIdeal.nD Cert.DxinRefIdeal.τ).loc Cert.DxinRefIdeal.main_arg3)
      ∧ r.2.mem ((c.tc : Thread Cert.DxinRefIdeal.nD Cert.DxinRefIdeal.τ).loc Cert.DxinRefIdeal.main_arg4) = m ((c.tc : Thread Cert.DxinRefIdeal.nD Cert.DxinRefIdeal.τ).loc Cert.DxinRefIdeal.main_arg4))
      ∧ r.2.sem = fun _ => 0)

def quiescent_Mtn [hMtn : Cert.Mtn.Facts] : Prop :=
  ∀ (m : (ℓ : Loc Cert.Mtn.nD Cert.Mtn.τ Cert.Mtn.sig) → Buf (Elt Bits) ℓ) (g : Dev Cert.Mtn.nD → PrngReg), Pre_Mtn m →
    θ_run (Cert.Mtn.defs (F := Bits)) (onTc (τ := Cert.Mtn.τ) (Cert.Mtn.main (F := Bits))) ⟨m, fun _ => 0, g⟩ (fun r => (∀ c : Dev Cert.Mtn.nD,
      r.2.mem ((c.tc : Thread Cert.Mtn.nD Cert.Mtn.τ).loc Cert.Mtn.main_arg0) = m ((c.tc : Thread Cert.Mtn.nD Cert.Mtn.τ).loc Cert.Mtn.main_arg0)
      ∧ r.2.mem ((c.tc : Thread Cert.Mtn.nD Cert.Mtn.τ).loc Cert.Mtn.main_arg1) = m ((c.tc : Thread Cert.Mtn.nD Cert.Mtn.τ).loc Cert.Mtn.main_arg1))
      ∧ r.2.sem = fun _ => 0)

def quiescent_MtnIdeal [hMtnIdeal : Cert.MtnIdeal.Facts] : Prop :=
  ∀ (m : (ℓ : Loc Cert.MtnIdeal.nD Cert.MtnIdeal.τ Cert.MtnIdeal.sig) → Buf (Elt Ideal) ℓ) (g : Dev Cert.MtnIdeal.nD → PrngReg), Pre_MtnIdeal m →
    θ_run (Cert.MtnIdeal.defs (F := Ideal)) (onTc (τ := Cert.MtnIdeal.τ) (Cert.MtnIdeal.main (F := Ideal))) ⟨m, fun _ => 0, g⟩ (fun r => (∀ c : Dev Cert.MtnIdeal.nD,
      r.2.mem ((c.tc : Thread Cert.MtnIdeal.nD Cert.MtnIdeal.τ).loc Cert.MtnIdeal.main_arg0) = m ((c.tc : Thread Cert.MtnIdeal.nD Cert.MtnIdeal.τ).loc Cert.MtnIdeal.main_arg0)
      ∧ r.2.mem ((c.tc : Thread Cert.MtnIdeal.nD Cert.MtnIdeal.τ).loc Cert.MtnIdeal.main_arg1) = m ((c.tc : Thread Cert.MtnIdeal.nD Cert.MtnIdeal.τ).loc Cert.MtnIdeal.main_arg1))
      ∧ r.2.sem = fun _ => 0)

def quiescent_MtnRefIdeal [hMtnRefIdeal : Cert.MtnRefIdeal.Facts] : Prop :=
  ∀ (m : (ℓ : Loc Cert.MtnRefIdeal.nD Cert.MtnRefIdeal.τ Cert.MtnRefIdeal.sig) → Buf (Elt Ideal) ℓ) (g : Dev Cert.MtnRefIdeal.nD → PrngReg), Pre_MtnRefIdeal m →
    θ_run (Cert.MtnRefIdeal.defs (F := Ideal)) (onTc (τ := Cert.MtnRefIdeal.τ) (Cert.MtnRefIdeal.main (F := Ideal))) ⟨m, fun _ => 0, g⟩ (fun r => (∀ c : Dev Cert.MtnRefIdeal.nD,
      r.2.mem ((c.tc : Thread Cert.MtnRefIdeal.nD Cert.MtnRefIdeal.τ).loc Cert.MtnRefIdeal.main_arg0) = m ((c.tc : Thread Cert.MtnRefIdeal.nD Cert.MtnRefIdeal.τ).loc Cert.MtnRefIdeal.main_arg0)
      ∧ r.2.mem ((c.tc : Thread Cert.MtnRefIdeal.nD Cert.MtnRefIdeal.τ).loc Cert.MtnRefIdeal.main_arg1) = m ((c.tc : Thread Cert.MtnRefIdeal.nD Cert.MtnRefIdeal.τ).loc Cert.MtnRefIdeal.main_arg1))
      ∧ r.2.sem = fun _ => 0)

def quiescent_Mnn [hMnn : Cert.Mnn.Facts] : Prop :=
  ∀ (m : (ℓ : Loc Cert.Mnn.nD Cert.Mnn.τ Cert.Mnn.sig) → Buf (Elt Bits) ℓ) (g : Dev Cert.Mnn.nD → PrngReg), Pre_Mnn m →
    θ_run (Cert.Mnn.defs (F := Bits)) (onTc (τ := Cert.Mnn.τ) (Cert.Mnn.main (F := Bits))) ⟨m, fun _ => 0, g⟩ (fun r => (∀ c : Dev Cert.Mnn.nD,
      r.2.mem ((c.tc : Thread Cert.Mnn.nD Cert.Mnn.τ).loc Cert.Mnn.main_arg0) = m ((c.tc : Thread Cert.Mnn.nD Cert.Mnn.τ).loc Cert.Mnn.main_arg0)
      ∧ r.2.mem ((c.tc : Thread Cert.Mnn.nD Cert.Mnn.τ).loc Cert.Mnn.main_arg1) = m ((c.tc : Thread Cert.Mnn.nD Cert.Mnn.τ).loc Cert.Mnn.main_arg1))
      ∧ r.2.sem = fun _ => 0)

def quiescent_MnnIdeal [hMnnIdeal : Cert.MnnIdeal.Facts] : Prop :=
  ∀ (m : (ℓ : Loc Cert.MnnIdeal.nD Cert.MnnIdeal.τ Cert.MnnIdeal.sig) → Buf (Elt Ideal) ℓ) (g : Dev Cert.MnnIdeal.nD → PrngReg), Pre_MnnIdeal m →
    θ_run (Cert.MnnIdeal.defs (F := Ideal)) (onTc (τ := Cert.MnnIdeal.τ) (Cert.MnnIdeal.main (F := Ideal))) ⟨m, fun _ => 0, g⟩ (fun r => (∀ c : Dev Cert.MnnIdeal.nD,
      r.2.mem ((c.tc : Thread Cert.MnnIdeal.nD Cert.MnnIdeal.τ).loc Cert.MnnIdeal.main_arg0) = m ((c.tc : Thread Cert.MnnIdeal.nD Cert.MnnIdeal.τ).loc Cert.MnnIdeal.main_arg0)
      ∧ r.2.mem ((c.tc : Thread Cert.MnnIdeal.nD Cert.MnnIdeal.τ).loc Cert.MnnIdeal.main_arg1) = m ((c.tc : Thread Cert.MnnIdeal.nD Cert.MnnIdeal.τ).loc Cert.MnnIdeal.main_arg1))
      ∧ r.2.sem = fun _ => 0)

def quiescent_MnnRefIdeal [hMnnRefIdeal : Cert.MnnRefIdeal.Facts] : Prop :=
  ∀ (m : (ℓ : Loc Cert.MnnRefIdeal.nD Cert.MnnRefIdeal.τ Cert.MnnRefIdeal.sig) → Buf (Elt Ideal) ℓ) (g : Dev Cert.MnnRefIdeal.nD → PrngReg), Pre_MnnRefIdeal m →
    θ_run (Cert.MnnRefIdeal.defs (F := Ideal)) (onTc (τ := Cert.MnnRefIdeal.τ) (Cert.MnnRefIdeal.main (F := Ideal))) ⟨m, fun _ => 0, g⟩ (fun r => (∀ c : Dev Cert.MnnRefIdeal.nD,
      r.2.mem ((c.tc : Thread Cert.MnnRefIdeal.nD Cert.MnnRefIdeal.τ).loc Cert.MnnRefIdeal.main_arg0) = m ((c.tc : Thread Cert.MnnRefIdeal.nD Cert.MnnRefIdeal.τ).loc Cert.MnnRefIdeal.main_arg0)
      ∧ r.2.mem ((c.tc : Thread Cert.MnnRefIdeal.nD Cert.MnnRefIdeal.τ).loc Cert.MnnRefIdeal.main_arg1) = m ((c.tc : Thread Cert.MnnRefIdeal.nD Cert.MnnRefIdeal.τ).loc Cert.MnnRefIdeal.main_arg1))
      ∧ r.2.sem = fun _ => 0)

def quiescent_Mnt [hMnt : Cert.Mnt.Facts] : Prop :=
  ∀ (m : (ℓ : Loc Cert.Mnt.nD Cert.Mnt.τ Cert.Mnt.sig) → Buf (Elt Bits) ℓ) (g : Dev Cert.Mnt.nD → PrngReg), Pre_Mnt m →
    θ_run (Cert.Mnt.defs (F := Bits)) (onTc (τ := Cert.Mnt.τ) (Cert.Mnt.main (F := Bits))) ⟨m, fun _ => 0, g⟩ (fun r => (∀ c : Dev Cert.Mnt.nD,
      r.2.mem ((c.tc : Thread Cert.Mnt.nD Cert.Mnt.τ).loc Cert.Mnt.main_arg0) = m ((c.tc : Thread Cert.Mnt.nD Cert.Mnt.τ).loc Cert.Mnt.main_arg0)
      ∧ r.2.mem ((c.tc : Thread Cert.Mnt.nD Cert.Mnt.τ).loc Cert.Mnt.main_arg1) = m ((c.tc : Thread Cert.Mnt.nD Cert.Mnt.τ).loc Cert.Mnt.main_arg1))
      ∧ r.2.sem = fun _ => 0)

def quiescent_MntIdeal [hMntIdeal : Cert.MntIdeal.Facts] : Prop :=
  ∀ (m : (ℓ : Loc Cert.MntIdeal.nD Cert.MntIdeal.τ Cert.MntIdeal.sig) → Buf (Elt Ideal) ℓ) (g : Dev Cert.MntIdeal.nD → PrngReg), Pre_MntIdeal m →
    θ_run (Cert.MntIdeal.defs (F := Ideal)) (onTc (τ := Cert.MntIdeal.τ) (Cert.MntIdeal.main (F := Ideal))) ⟨m, fun _ => 0, g⟩ (fun r => (∀ c : Dev Cert.MntIdeal.nD,
      r.2.mem ((c.tc : Thread Cert.MntIdeal.nD Cert.MntIdeal.τ).loc Cert.MntIdeal.main_arg0) = m ((c.tc : Thread Cert.MntIdeal.nD Cert.MntIdeal.τ).loc Cert.MntIdeal.main_arg0)
      ∧ r.2.mem ((c.tc : Thread Cert.MntIdeal.nD Cert.MntIdeal.τ).loc Cert.MntIdeal.main_arg1) = m ((c.tc : Thread Cert.MntIdeal.nD Cert.MntIdeal.τ).loc Cert.MntIdeal.main_arg1))
      ∧ r.2.sem = fun _ => 0)

def quiescent_MntRefIdeal [hMntRefIdeal : Cert.MntRefIdeal.Facts] : Prop :=
  ∀ (m : (ℓ : Loc Cert.MntRefIdeal.nD Cert.MntRefIdeal.τ Cert.MntRefIdeal.sig) → Buf (Elt Ideal) ℓ) (g : Dev Cert.MntRefIdeal.nD → PrngReg), Pre_MntRefIdeal m →
    θ_run (Cert.MntRefIdeal.defs (F := Ideal)) (onTc (τ := Cert.MntRefIdeal.τ) (Cert.MntRefIdeal.main (F := Ideal))) ⟨m, fun _ => 0, g⟩ (fun r => (∀ c : Dev Cert.MntRefIdeal.nD,
      r.2.mem ((c.tc : Thread Cert.MntRefIdeal.nD Cert.MntRefIdeal.τ).loc Cert.MntRefIdeal.main_arg0) = m ((c.tc : Thread Cert.MntRefIdeal.nD Cert.MntRefIdeal.τ).loc Cert.MntRefIdeal.main_arg0)
      ∧ r.2.mem ((c.tc : Thread Cert.MntRefIdeal.nD Cert.MntRefIdeal.τ).loc Cert.MntRefIdeal.main_arg1) = m ((c.tc : Thread Cert.MntRefIdeal.nD Cert.MntRefIdeal.τ).loc Cert.MntRefIdeal.main_arg1))
      ∧ r.2.sem = fun _ => 0)

def preserves_Gate_GateIdeal : Prop :=
  True

def algebraic_GateIdeal_GateRefIdeal_pre_finite [hGateIdeal : Cert.GateIdeal.Facts] [hGateRefIdeal : Cert.GateRefIdeal.Facts] [hPre_finite : Cert.Pre_finite.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_finite m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)) →
    ∃ (v0 : (c : Dev Cert.GateIdeal.nD) → Buf (Elt Ideal) ((c.tc : Thread Cert.GateIdeal.nD Cert.GateIdeal.τ).loc Cert.GateIdeal.main_v34)) (v1 : (c : Dev Cert.GateIdeal.nD) → Buf (Elt Ideal) ((c.tc : Thread Cert.GateIdeal.nD Cert.GateIdeal.τ).loc Cert.GateIdeal.main_v41)) (v2 : (c : Dev Cert.GateIdeal.nD) → Buf (Elt Ideal) ((c.tc : Thread Cert.GateIdeal.nD Cert.GateIdeal.τ).loc Cert.GateIdeal.main_v48)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v34) = v0 c
          ∧ r.2.mem ((c.tc : Thread Cert.GateIdeal.nD Cert.GateIdeal.τ).loc Cert.GateIdeal.main_v41) = v1 c
          ∧ r.2.mem ((c.tc : Thread Cert.GateIdeal.nD Cert.GateIdeal.τ).loc Cert.GateIdeal.main_v48) = v2 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v15) = v0 c
          ∧ r.2.mem ((c.tc : Thread Cert.GateRefIdeal.nD Cert.GateRefIdeal.τ).loc Cert.GateRefIdeal.main_v16) = v1 c
          ∧ r.2.mem ((c.tc : Thread Cert.GateRefIdeal.nD Cert.GateRefIdeal.τ).loc Cert.GateRefIdeal.main_v17) = v2 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4))

def preserves_Attn_AttnIdeal : Prop :=
  True

def algebraic_AttnIdeal_AttnRefIdeal_pre_finite2 [hAttnIdeal : Cert.AttnIdeal.Facts] [hAttnRefIdeal : Cert.AttnRefIdeal.Facts] [hPre_finite2 : Cert.Pre_finite2.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite2 m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v5_0)) (v1 : (c : Dev Cert.AttnIdeal.nD) → Buf (Elt Ideal) ((c.tc : Thread Cert.AttnIdeal.nD Cert.AttnIdeal.τ).loc Cert.AttnIdeal.main_v5_1)) (v2 : (c : Dev Cert.AttnIdeal.nD) → Buf (Elt Ideal) ((c.tc : Thread Cert.AttnIdeal.nD Cert.AttnIdeal.τ).loc Cert.AttnIdeal.main_v5_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v5_0) = v0 c
          ∧ r.2.mem ((c.tc : Thread Cert.AttnIdeal.nD Cert.AttnIdeal.τ).loc Cert.AttnIdeal.main_v5_1) = v1 c
          ∧ r.2.mem ((c.tc : Thread Cert.AttnIdeal.nD Cert.AttnIdeal.τ).loc Cert.AttnIdeal.main_v5_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v66) = v0 c
          ∧ r.2.mem ((c.tc : Thread Cert.AttnRefIdeal.nD Cert.AttnRefIdeal.τ).loc Cert.AttnRefIdeal.main_v64) = v1 c
          ∧ r.2.mem ((c.tc : Thread Cert.AttnRefIdeal.nD Cert.AttnRefIdeal.τ).loc Cert.AttnRefIdeal.main_v63) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_Sgu_SguIdeal : Prop :=
  IdealRules.named_const.Statement Cert.SguIdeal.κ "cube" .f32 0x3D372713#32 ((8943 / 200000 : ℝ) : EReal)
  ∧ IdealRules.named_const.Statement Cert.SguIdeal.κ "cube3" .f32 0x3E095D4F#32 ((26829 / 200000 : ℝ) : EReal)

def algebraic_SguIdeal_SguRefIdeal_pre_finite3 [hSguIdeal : Cert.SguIdeal.Facts] [hSguRefIdeal : Cert.SguRefIdeal.Facts] [hPre_finite3 : Cert.Pre_finite3.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguRefIdeal.nD Cert.SguRefIdeal.τ Cert.SguRefIdeal.sig) → Buf (Elt Ideal) ℓ) (g' : Dev Cert.SguRefIdeal.nD → PrngReg), Pre_SguIdeal_finite3 m →
    (∀ c : Dev Cert.SguIdeal.nD,
      m' ((c.tc : Thread Cert.SguRefIdeal.nD Cert.SguRefIdeal.τ).loc Cert.SguRefIdeal.main_arg0) = m ((c.tc : Thread Cert.SguIdeal.nD Cert.SguIdeal.τ).loc Cert.SguIdeal.main_arg0)
      ∧ m' ((c.tc : Thread Cert.SguRefIdeal.nD Cert.SguRefIdeal.τ).loc Cert.SguRefIdeal.main_arg1) = m ((c.tc : Thread Cert.SguIdeal.nD Cert.SguIdeal.τ).loc Cert.SguIdeal.main_arg1)
      ∧ m' ((c.tc : Thread Cert.SguRefIdeal.nD Cert.SguRefIdeal.τ).loc Cert.SguRefIdeal.main_arg2) = m ((c.tc : Thread Cert.SguIdeal.nD Cert.SguIdeal.τ).loc Cert.SguIdeal.main_arg2)
      ∧ m' ((c.tc : Thread Cert.SguRefIdeal.nD Cert.SguRefIdeal.τ).loc Cert.SguRefIdeal.main_arg3) = m ((c.tc : Thread Cert.SguIdeal.nD Cert.SguIdeal.τ).loc Cert.SguIdeal.main_arg3)
      ∧ m' ((c.tc : Thread Cert.SguRefIdeal.nD Cert.SguRefIdeal.τ).loc Cert.SguRefIdeal.main_arg4) = m ((c.tc : Thread Cert.SguIdeal.nD Cert.SguIdeal.τ).loc Cert.SguIdeal.main_arg4)
      ∧ m' ((c.tc : Thread Cert.SguRefIdeal.nD Cert.SguRefIdeal.τ).loc Cert.SguRefIdeal.main_arg5) = m ((c.tc : Thread Cert.SguIdeal.nD Cert.SguIdeal.τ).loc Cert.SguIdeal.main_arg5)) →
    ∃ (v0 : (c : Dev Cert.SguIdeal.nD) → Buf (Elt Ideal) ((c.tc : Thread Cert.SguIdeal.nD Cert.SguIdeal.τ).loc Cert.SguIdeal.main_v8_0)) (v1 : (c : Dev Cert.SguIdeal.nD) → Buf (Elt Ideal) ((c.tc : Thread Cert.SguIdeal.nD Cert.SguIdeal.τ).loc Cert.SguIdeal.main_v8_1)) (v2 : (c : Dev Cert.SguIdeal.nD) → Buf (Elt Ideal) ((c.tc : Thread Cert.SguIdeal.nD Cert.SguIdeal.τ).loc Cert.SguIdeal.main_v8_2)) (v3 : (c : Dev Cert.SguIdeal.nD) → Buf (Elt Ideal) ((c.tc : Thread Cert.SguIdeal.nD Cert.SguIdeal.τ).loc Cert.SguIdeal.main_v8_3)) (v4 : (c : Dev Cert.SguIdeal.nD) → Buf (Elt Ideal) ((c.tc : Thread Cert.SguIdeal.nD Cert.SguIdeal.τ).loc Cert.SguIdeal.main_v8_4)) (v5 : (c : Dev Cert.SguIdeal.nD) → Buf (Elt Ideal) ((c.tc : Thread Cert.SguIdeal.nD Cert.SguIdeal.τ).loc Cert.SguIdeal.main_v8_5)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v8_0) = v0 c
          ∧ r.2.mem ((c.tc : Thread Cert.SguIdeal.nD Cert.SguIdeal.τ).loc Cert.SguIdeal.main_v8_1) = v1 c
          ∧ r.2.mem ((c.tc : Thread Cert.SguIdeal.nD Cert.SguIdeal.τ).loc Cert.SguIdeal.main_v8_2) = v2 c
          ∧ r.2.mem ((c.tc : Thread Cert.SguIdeal.nD Cert.SguIdeal.τ).loc Cert.SguIdeal.main_v8_3) = v3 c
          ∧ r.2.mem ((c.tc : Thread Cert.SguIdeal.nD Cert.SguIdeal.τ).loc Cert.SguIdeal.main_v8_4) = v4 c
          ∧ r.2.mem ((c.tc : Thread Cert.SguIdeal.nD Cert.SguIdeal.τ).loc Cert.SguIdeal.main_v8_5) = v5 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
          ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
          ∧ r.2.mem ((c.tc : Thread Cert.SguIdeal.nD Cert.SguIdeal.τ).loc Cert.SguIdeal.main_arg5) = m ((c.tc : Thread Cert.SguIdeal.nD Cert.SguIdeal.τ).loc Cert.SguIdeal.main_arg5))
      ∧ θ_run (Cert.SguRefIdeal.defs (F := Ideal)) (onTc (τ := Cert.SguRefIdeal.τ) (Cert.SguRefIdeal.main (F := Ideal))) ⟨m', fun _ => 0, g'⟩ (fun r => ∀ c : Dev Cert.SguRefIdeal.nD,
          r.2.mem ((c.tc : Thread Cert.SguRefIdeal.nD Cert.SguRefIdeal.τ).loc Cert.SguRefIdeal.main_v163) = v0 c
          ∧ r.2.mem ((c.tc : Thread Cert.SguRefIdeal.nD Cert.SguRefIdeal.τ).loc Cert.SguRefIdeal.main_v164) = v1 c
          ∧ r.2.mem ((c.tc : Thread Cert.SguRefIdeal.nD Cert.SguRefIdeal.τ).loc Cert.SguRefIdeal.main_v165) = v2 c
          ∧ r.2.mem ((c.tc : Thread Cert.SguRefIdeal.nD Cert.SguRefIdeal.τ).loc Cert.SguRefIdeal.main_v166) = v3 c
          ∧ r.2.mem ((c.tc : Thread Cert.SguRefIdeal.nD Cert.SguRefIdeal.τ).loc Cert.SguRefIdeal.main_v103) = v4 c
          ∧ r.2.mem ((c.tc : Thread Cert.SguRefIdeal.nD Cert.SguRefIdeal.τ).loc Cert.SguRefIdeal.main_v167) = v5 c
          ∧ r.2.mem ((c.tc : Thread Cert.SguRefIdeal.nD Cert.SguRefIdeal.τ).loc Cert.SguRefIdeal.main_arg0) = m' ((c.tc : Thread Cert.SguRefIdeal.nD Cert.SguRefIdeal.τ).loc Cert.SguRefIdeal.main_arg0)
          ∧ r.2.mem ((c.tc : Thread Cert.SguRefIdeal.nD Cert.SguRefIdeal.τ).loc Cert.SguRefIdeal.main_arg1) = m' ((c.tc : Thread Cert.SguRefIdeal.nD Cert.SguRefIdeal.τ).loc Cert.SguRefIdeal.main_arg1)
          ∧ r.2.mem ((c.tc : Thread Cert.SguRefIdeal.nD Cert.SguRefIdeal.τ).loc Cert.SguRefIdeal.main_arg2) = m' ((c.tc : Thread Cert.SguRefIdeal.nD Cert.SguRefIdeal.τ).loc Cert.SguRefIdeal.main_arg2)
          ∧ r.2.mem ((c.tc : Thread Cert.SguRefIdeal.nD Cert.SguRefIdeal.τ).loc Cert.SguRefIdeal.main_arg3) = m' ((c.tc : Thread Cert.SguRefIdeal.nD Cert.SguRefIdeal.τ).loc Cert.SguRefIdeal.main_arg3)
          ∧ r.2.mem ((c.tc : Thread Cert.SguRefIdeal.nD Cert.SguRefIdeal.τ).loc Cert.SguRefIdeal.main_arg4) = m' ((c.tc : Thread Cert.SguRefIdeal.nD Cert.SguRefIdeal.τ).loc Cert.SguRefIdeal.main_arg4)
          ∧ r.2.mem ((c.tc : Thread Cert.SguRefIdeal.nD Cert.SguRefIdeal.τ).loc Cert.SguRefIdeal.main_arg5) = m' ((c.tc : Thread Cert.SguRefIdeal.nD Cert.SguRefIdeal.τ).loc Cert.SguRefIdeal.main_arg5))

def preserves_Loss_LossIdeal : Prop :=
  True

def algebraic_LossIdeal_LossRefIdeal_pre_finite4 [hLossIdeal : Cert.LossIdeal.Facts] [hLossRefIdeal : Cert.LossRefIdeal.Facts] [hPre_finite4 : Cert.Pre_finite4.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_finite4 m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)
      ∧ m' ((c.tc : Thread Cert.LossRefIdeal.nD Cert.LossRefIdeal.τ).loc Cert.LossRefIdeal.main_arg5) = m ((c.tc : Thread Cert.LossIdeal.nD Cert.LossIdeal.τ).loc Cert.LossIdeal.main_arg5)
      ∧ m' ((c.tc : Thread Cert.LossRefIdeal.nD Cert.LossRefIdeal.τ).loc Cert.LossRefIdeal.main_arg6) = m ((c.tc : Thread Cert.LossIdeal.nD Cert.LossIdeal.τ).loc Cert.LossIdeal.main_arg6)
      ∧ m' ((c.tc : Thread Cert.LossRefIdeal.nD Cert.LossRefIdeal.τ).loc Cert.LossRefIdeal.main_arg7) = m ((c.tc : Thread Cert.LossIdeal.nD Cert.LossIdeal.τ).loc Cert.LossIdeal.main_arg7)) →
    ∃ (v0 : (c : Dev Cert.LossIdeal.nD) → Buf (Elt Ideal) ((c.tc : Thread Cert.LossIdeal.nD Cert.LossIdeal.τ).loc Cert.LossIdeal.main_v16_0)) (v1 : (c : Dev Cert.LossIdeal.nD) → Buf (Elt Ideal) ((c.tc : Thread Cert.LossIdeal.nD Cert.LossIdeal.τ).loc Cert.LossIdeal.main_v16_1)) (v2 : (c : Dev Cert.LossIdeal.nD) → Buf (Elt Ideal) ((c.tc : Thread Cert.LossIdeal.nD Cert.LossIdeal.τ).loc Cert.LossIdeal.main_v16_2)) (v3 : (c : Dev Cert.LossIdeal.nD) → Buf (Elt Ideal) ((c.tc : Thread Cert.LossIdeal.nD Cert.LossIdeal.τ).loc Cert.LossIdeal.main_v16_3)) (v4 : (c : Dev Cert.LossIdeal.nD) → Buf (Elt Ideal) ((c.tc : Thread Cert.LossIdeal.nD Cert.LossIdeal.τ).loc Cert.LossIdeal.main_v16_4)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v16_0) = v0 c
          ∧ r.2.mem ((c.tc : Thread Cert.LossIdeal.nD Cert.LossIdeal.τ).loc Cert.LossIdeal.main_v16_1) = v1 c
          ∧ r.2.mem ((c.tc : Thread Cert.LossIdeal.nD Cert.LossIdeal.τ).loc Cert.LossIdeal.main_v16_2) = v2 c
          ∧ r.2.mem ((c.tc : Thread Cert.LossIdeal.nD Cert.LossIdeal.τ).loc Cert.LossIdeal.main_v16_3) = v3 c
          ∧ r.2.mem ((c.tc : Thread Cert.LossIdeal.nD Cert.LossIdeal.τ).loc Cert.LossIdeal.main_v16_4) = v4 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
          ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
          ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
          ∧ r.2.mem ((c.tc : Thread Cert.LossIdeal.nD Cert.LossIdeal.τ).loc Cert.LossIdeal.main_arg7) = m ((c.tc : Thread Cert.LossIdeal.nD Cert.LossIdeal.τ).loc Cert.LossIdeal.main_arg7))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v95) = v0 c
          ∧ r.2.mem ((c.tc : Thread Cert.LossRefIdeal.nD Cert.LossRefIdeal.τ).loc Cert.LossRefIdeal.main_v92) = v1 c
          ∧ r.2.mem ((c.tc : Thread Cert.LossRefIdeal.nD Cert.LossRefIdeal.τ).loc Cert.LossRefIdeal.main_v96) = v2 c
          ∧ r.2.mem ((c.tc : Thread Cert.LossRefIdeal.nD Cert.LossRefIdeal.τ).loc Cert.LossRefIdeal.main_v94) = v3 c
          ∧ r.2.mem ((c.tc : Thread Cert.LossRefIdeal.nD Cert.LossRefIdeal.τ).loc Cert.LossRefIdeal.main_v93) = v4 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4)
          ∧ r.2.mem ((c.tc : Thread Cert.LossRefIdeal.nD Cert.LossRefIdeal.τ).loc Cert.LossRefIdeal.main_arg5) = m' ((c.tc : Thread Cert.LossRefIdeal.nD Cert.LossRefIdeal.τ).loc Cert.LossRefIdeal.main_arg5)
          ∧ r.2.mem ((c.tc : Thread Cert.LossRefIdeal.nD Cert.LossRefIdeal.τ).loc Cert.LossRefIdeal.main_arg6) = m' ((c.tc : Thread Cert.LossRefIdeal.nD Cert.LossRefIdeal.τ).loc Cert.LossRefIdeal.main_arg6)
          ∧ r.2.mem ((c.tc : Thread Cert.LossRefIdeal.nD Cert.LossRefIdeal.τ).loc Cert.LossRefIdeal.main_arg7) = m' ((c.tc : Thread Cert.LossRefIdeal.nD Cert.LossRefIdeal.τ).loc Cert.LossRefIdeal.main_arg7))

def preserves_Memory_MemoryIdeal : Prop :=
  True

def algebraic_MemoryIdeal_MemoryRefIdeal [hMemoryIdeal : Cert.MemoryIdeal.Facts] [hMemoryRefIdeal : Cert.MemoryRefIdeal.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryRefIdeal.nD Cert.MemoryRefIdeal.τ Cert.MemoryRefIdeal.sig) → Buf (Elt Ideal) ℓ) (g' : Dev Cert.MemoryRefIdeal.nD → PrngReg), Pre_MemoryIdeal m →
    (∀ c : Dev Cert.MemoryIdeal.nD,
      m' ((c.tc : Thread Cert.MemoryRefIdeal.nD Cert.MemoryRefIdeal.τ).loc Cert.MemoryRefIdeal.main_arg0) = m ((c.tc : Thread Cert.MemoryIdeal.nD Cert.MemoryIdeal.τ).loc Cert.MemoryIdeal.main_arg0)
      ∧ m' ((c.tc : Thread Cert.MemoryRefIdeal.nD Cert.MemoryRefIdeal.τ).loc Cert.MemoryRefIdeal.main_arg1) = m ((c.tc : Thread Cert.MemoryIdeal.nD Cert.MemoryIdeal.τ).loc Cert.MemoryIdeal.main_arg1)
      ∧ m' ((c.tc : Thread Cert.MemoryRefIdeal.nD Cert.MemoryRefIdeal.τ).loc Cert.MemoryRefIdeal.main_arg2) = m ((c.tc : Thread Cert.MemoryIdeal.nD Cert.MemoryIdeal.τ).loc Cert.MemoryIdeal.main_arg2)
      ∧ m' ((c.tc : Thread Cert.MemoryRefIdeal.nD Cert.MemoryRefIdeal.τ).loc Cert.MemoryRefIdeal.main_arg3) = m ((c.tc : Thread Cert.MemoryIdeal.nD Cert.MemoryIdeal.τ).loc Cert.MemoryIdeal.main_arg3)
      ∧ m' ((c.tc : Thread Cert.MemoryRefIdeal.nD Cert.MemoryRefIdeal.τ).loc Cert.MemoryRefIdeal.main_arg4) = m ((c.tc : Thread Cert.MemoryIdeal.nD Cert.MemoryIdeal.τ).loc Cert.MemoryIdeal.main_arg4)
      ∧ m' ((c.tc : Thread Cert.MemoryRefIdeal.nD Cert.MemoryRefIdeal.τ).loc Cert.MemoryRefIdeal.main_arg5) = m ((c.tc : Thread Cert.MemoryIdeal.nD Cert.MemoryIdeal.τ).loc Cert.MemoryIdeal.main_arg5)
      ∧ m' ((c.tc : Thread Cert.MemoryRefIdeal.nD Cert.MemoryRefIdeal.τ).loc Cert.MemoryRefIdeal.main_arg6) = m ((c.tc : Thread Cert.MemoryIdeal.nD Cert.MemoryIdeal.τ).loc Cert.MemoryIdeal.main_arg6)) →
    ∃ (v0 : (c : Dev Cert.MemoryIdeal.nD) → Buf (Elt Ideal) ((c.tc : Thread Cert.MemoryIdeal.nD Cert.MemoryIdeal.τ).loc Cert.MemoryIdeal.main_v5_0)) (v1 : (c : Dev Cert.MemoryIdeal.nD) → Buf (Elt Ideal) ((c.tc : Thread Cert.MemoryIdeal.nD Cert.MemoryIdeal.τ).loc Cert.MemoryIdeal.main_v5_1)) (v2 : (c : Dev Cert.MemoryIdeal.nD) → Buf (Elt Ideal) ((c.tc : Thread Cert.MemoryIdeal.nD Cert.MemoryIdeal.τ).loc Cert.MemoryIdeal.main_v5_2)) (v3 : (c : Dev Cert.MemoryIdeal.nD) → Buf (Elt Ideal) ((c.tc : Thread Cert.MemoryIdeal.nD Cert.MemoryIdeal.τ).loc Cert.MemoryIdeal.main_v5_3)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v5_0) = v0 c
          ∧ r.2.mem ((c.tc : Thread Cert.MemoryIdeal.nD Cert.MemoryIdeal.τ).loc Cert.MemoryIdeal.main_v5_1) = v1 c
          ∧ r.2.mem ((c.tc : Thread Cert.MemoryIdeal.nD Cert.MemoryIdeal.τ).loc Cert.MemoryIdeal.main_v5_2) = v2 c
          ∧ r.2.mem ((c.tc : Thread Cert.MemoryIdeal.nD Cert.MemoryIdeal.τ).loc Cert.MemoryIdeal.main_v5_3) = v3 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
          ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
          ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3)
          ∧ r.2.mem ((c.tc : Thread Cert.MemoryIdeal.nD Cert.MemoryIdeal.τ).loc Cert.MemoryIdeal.main_arg4) = m ((c.tc : Thread Cert.MemoryIdeal.nD Cert.MemoryIdeal.τ).loc Cert.MemoryIdeal.main_arg4)
          ∧ r.2.mem ((c.tc : Thread Cert.MemoryIdeal.nD Cert.MemoryIdeal.τ).loc Cert.MemoryIdeal.main_arg5) = m ((c.tc : Thread Cert.MemoryIdeal.nD Cert.MemoryIdeal.τ).loc Cert.MemoryIdeal.main_arg5)
          ∧ r.2.mem ((c.tc : Thread Cert.MemoryIdeal.nD Cert.MemoryIdeal.τ).loc Cert.MemoryIdeal.main_arg6) = m ((c.tc : Thread Cert.MemoryIdeal.nD Cert.MemoryIdeal.τ).loc Cert.MemoryIdeal.main_arg6))
      ∧ θ_run (Cert.MemoryRefIdeal.defs (F := Ideal)) (onTc (τ := Cert.MemoryRefIdeal.τ) (Cert.MemoryRefIdeal.main (F := Ideal))) ⟨m', fun _ => 0, g'⟩ (fun r => ∀ c : Dev Cert.MemoryRefIdeal.nD,
          r.2.mem ((c.tc : Thread Cert.MemoryRefIdeal.nD Cert.MemoryRefIdeal.τ).loc Cert.MemoryRefIdeal.main_v49) = v0 c
          ∧ r.2.mem ((c.tc : Thread Cert.MemoryRefIdeal.nD Cert.MemoryRefIdeal.τ).loc Cert.MemoryRefIdeal.main_v51) = v1 c
          ∧ r.2.mem ((c.tc : Thread Cert.MemoryRefIdeal.nD Cert.MemoryRefIdeal.τ).loc Cert.MemoryRefIdeal.main_v47) = v2 c
          ∧ r.2.mem ((c.tc : Thread Cert.MemoryRefIdeal.nD Cert.MemoryRefIdeal.τ).loc Cert.MemoryRefIdeal.main_v46) = v3 c
          ∧ r.2.mem ((c.tc : Thread Cert.MemoryRefIdeal.nD Cert.MemoryRefIdeal.τ).loc Cert.MemoryRefIdeal.main_arg0) = m' ((c.tc : Thread Cert.MemoryRefIdeal.nD Cert.MemoryRefIdeal.τ).loc Cert.MemoryRefIdeal.main_arg0)
          ∧ r.2.mem ((c.tc : Thread Cert.MemoryRefIdeal.nD Cert.MemoryRefIdeal.τ).loc Cert.MemoryRefIdeal.main_arg1) = m' ((c.tc : Thread Cert.MemoryRefIdeal.nD Cert.MemoryRefIdeal.τ).loc Cert.MemoryRefIdeal.main_arg1)
          ∧ r.2.mem ((c.tc : Thread Cert.MemoryRefIdeal.nD Cert.MemoryRefIdeal.τ).loc Cert.MemoryRefIdeal.main_arg2) = m' ((c.tc : Thread Cert.MemoryRefIdeal.nD Cert.MemoryRefIdeal.τ).loc Cert.MemoryRefIdeal.main_arg2)
          ∧ r.2.mem ((c.tc : Thread Cert.MemoryRefIdeal.nD Cert.MemoryRefIdeal.τ).loc Cert.MemoryRefIdeal.main_arg3) = m' ((c.tc : Thread Cert.MemoryRefIdeal.nD Cert.MemoryRefIdeal.τ).loc Cert.MemoryRefIdeal.main_arg3)
          ∧ r.2.mem ((c.tc : Thread Cert.MemoryRefIdeal.nD Cert.MemoryRefIdeal.τ).loc Cert.MemoryRefIdeal.main_arg4) = m' ((c.tc : Thread Cert.MemoryRefIdeal.nD Cert.MemoryRefIdeal.τ).loc Cert.MemoryRefIdeal.main_arg4)
          ∧ r.2.mem ((c.tc : Thread Cert.MemoryRefIdeal.nD Cert.MemoryRefIdeal.τ).loc Cert.MemoryRefIdeal.main_arg5) = m' ((c.tc : Thread Cert.MemoryRefIdeal.nD Cert.MemoryRefIdeal.τ).loc Cert.MemoryRefIdeal.main_arg5)
          ∧ r.2.mem ((c.tc : Thread Cert.MemoryRefIdeal.nD Cert.MemoryRefIdeal.τ).loc Cert.MemoryRefIdeal.main_arg6) = m' ((c.tc : Thread Cert.MemoryRefIdeal.nD Cert.MemoryRefIdeal.τ).loc Cert.MemoryRefIdeal.main_arg6))

def preserves_Afwd_AfwdIdeal : Prop :=
  True

def algebraic_AfwdIdeal_AfwdRefIdeal [hAfwdIdeal : Cert.AfwdIdeal.Facts] [hAfwdRefIdeal : Cert.AfwdRefIdeal.Facts] : Prop :=
  ∀ (m : (ℓ : Loc Cert.AfwdIdeal.nD Cert.AfwdIdeal.τ Cert.AfwdIdeal.sig) → Buf (Elt Ideal) ℓ) (g : Dev Cert.AfwdIdeal.nD → PrngReg)
    (m' : (ℓ : Loc Cert.AfwdRefIdeal.nD Cert.AfwdRefIdeal.τ Cert.AfwdRefIdeal.sig) → Buf (Elt Ideal) ℓ) (g' : Dev Cert.AfwdRefIdeal.nD → PrngReg), Pre_AfwdIdeal m →
    (∀ c : Dev Cert.AfwdIdeal.nD,
      m' ((c.tc : Thread Cert.AfwdRefIdeal.nD Cert.AfwdRefIdeal.τ).loc Cert.AfwdRefIdeal.main_arg0) = m ((c.tc : Thread Cert.AfwdIdeal.nD Cert.AfwdIdeal.τ).loc Cert.AfwdIdeal.main_arg0)
      ∧ m' ((c.tc : Thread Cert.AfwdRefIdeal.nD Cert.AfwdRefIdeal.τ).loc Cert.AfwdRefIdeal.main_arg1) = m ((c.tc : Thread Cert.AfwdIdeal.nD Cert.AfwdIdeal.τ).loc Cert.AfwdIdeal.main_arg1)
      ∧ m' ((c.tc : Thread Cert.AfwdRefIdeal.nD Cert.AfwdRefIdeal.τ).loc Cert.AfwdRefIdeal.main_arg2) = m ((c.tc : Thread Cert.AfwdIdeal.nD Cert.AfwdIdeal.τ).loc Cert.AfwdIdeal.main_arg2)
      ∧ m' ((c.tc : Thread Cert.AfwdRefIdeal.nD Cert.AfwdRefIdeal.τ).loc Cert.AfwdRefIdeal.main_arg3) = m ((c.tc : Thread Cert.AfwdIdeal.nD Cert.AfwdIdeal.τ).loc Cert.AfwdIdeal.main_arg3)) →
    ∃ (v0 : (c : Dev Cert.AfwdIdeal.nD) → Buf (Elt Ideal) ((c.tc : Thread Cert.AfwdIdeal.nD Cert.AfwdIdeal.τ).loc Cert.AfwdIdeal.main_v4_0)) (v1 : (c : Dev Cert.AfwdIdeal.nD) → Buf (Elt Ideal) ((c.tc : Thread Cert.AfwdIdeal.nD Cert.AfwdIdeal.τ).loc Cert.AfwdIdeal.main_v4_1)),
      θ_run (Cert.AfwdIdeal.defs (F := Ideal)) (onTc (τ := Cert.AfwdIdeal.τ) (Cert.AfwdIdeal.main (F := Ideal))) ⟨m, fun _ => 0, g⟩ (fun r => ∀ c : Dev Cert.AfwdIdeal.nD,
          r.2.mem ((c.tc : Thread Cert.AfwdIdeal.nD Cert.AfwdIdeal.τ).loc Cert.AfwdIdeal.main_v4_0) = v0 c
          ∧ r.2.mem ((c.tc : Thread Cert.AfwdIdeal.nD Cert.AfwdIdeal.τ).loc Cert.AfwdIdeal.main_v4_1) = v1 c
          ∧ r.2.mem ((c.tc : Thread Cert.AfwdIdeal.nD Cert.AfwdIdeal.τ).loc Cert.AfwdIdeal.main_arg0) = m ((c.tc : Thread Cert.AfwdIdeal.nD Cert.AfwdIdeal.τ).loc Cert.AfwdIdeal.main_arg0)
          ∧ r.2.mem ((c.tc : Thread Cert.AfwdIdeal.nD Cert.AfwdIdeal.τ).loc Cert.AfwdIdeal.main_arg1) = m ((c.tc : Thread Cert.AfwdIdeal.nD Cert.AfwdIdeal.τ).loc Cert.AfwdIdeal.main_arg1)
          ∧ r.2.mem ((c.tc : Thread Cert.AfwdIdeal.nD Cert.AfwdIdeal.τ).loc Cert.AfwdIdeal.main_arg2) = m ((c.tc : Thread Cert.AfwdIdeal.nD Cert.AfwdIdeal.τ).loc Cert.AfwdIdeal.main_arg2)
          ∧ r.2.mem ((c.tc : Thread Cert.AfwdIdeal.nD Cert.AfwdIdeal.τ).loc Cert.AfwdIdeal.main_arg3) = m ((c.tc : Thread Cert.AfwdIdeal.nD Cert.AfwdIdeal.τ).loc Cert.AfwdIdeal.main_arg3))
      ∧ θ_run (Cert.AfwdRefIdeal.defs (F := Ideal)) (onTc (τ := Cert.AfwdRefIdeal.τ) (Cert.AfwdRefIdeal.main (F := Ideal))) ⟨m', fun _ => 0, g'⟩ (fun r => ∀ c : Dev Cert.AfwdRefIdeal.nD,
          r.2.mem ((c.tc : Thread Cert.AfwdRefIdeal.nD Cert.AfwdRefIdeal.τ).loc Cert.AfwdRefIdeal.main_v21) = v0 c
          ∧ r.2.mem ((c.tc : Thread Cert.AfwdRefIdeal.nD Cert.AfwdRefIdeal.τ).loc Cert.AfwdRefIdeal.main_v22) = v1 c
          ∧ r.2.mem ((c.tc : Thread Cert.AfwdRefIdeal.nD Cert.AfwdRefIdeal.τ).loc Cert.AfwdRefIdeal.main_arg0) = m' ((c.tc : Thread Cert.AfwdRefIdeal.nD Cert.AfwdRefIdeal.τ).loc Cert.AfwdRefIdeal.main_arg0)
          ∧ r.2.mem ((c.tc : Thread Cert.AfwdRefIdeal.nD Cert.AfwdRefIdeal.τ).loc Cert.AfwdRefIdeal.main_arg1) = m' ((c.tc : Thread Cert.AfwdRefIdeal.nD Cert.AfwdRefIdeal.τ).loc Cert.AfwdRefIdeal.main_arg1)
          ∧ r.2.mem ((c.tc : Thread Cert.AfwdRefIdeal.nD Cert.AfwdRefIdeal.τ).loc Cert.AfwdRefIdeal.main_arg2) = m' ((c.tc : Thread Cert.AfwdRefIdeal.nD Cert.AfwdRefIdeal.τ).loc Cert.AfwdRefIdeal.main_arg2)
          ∧ r.2.mem ((c.tc : Thread Cert.AfwdRefIdeal.nD Cert.AfwdRefIdeal.τ).loc Cert.AfwdRefIdeal.main_arg3) = m' ((c.tc : Thread Cert.AfwdRefIdeal.nD Cert.AfwdRefIdeal.τ).loc Cert.AfwdRefIdeal.main_arg3))

def preserves_Dxattn_DxattnIdeal : Prop :=
  True

def algebraic_DxattnIdeal_DxattnRefIdeal_pre_finite7 [hDxattnIdeal : Cert.DxattnIdeal.Facts] [hDxattnRefIdeal : Cert.DxattnRefIdeal.Facts] [hPre_finite7 : Cert.Pre_finite7.Facts] : Prop :=
  ∀ (m : (ℓ : Loc Cert.DxattnIdeal.nD Cert.DxattnIdeal.τ Cert.DxattnIdeal.sig) → Buf (Elt Ideal) ℓ) (g : Dev Cert.DxattnIdeal.nD → PrngReg)
    (m' : (ℓ : Loc Cert.DxattnRefIdeal.nD Cert.DxattnRefIdeal.τ Cert.DxattnRefIdeal.sig) → Buf (Elt Ideal) ℓ) (g' : Dev Cert.DxattnRefIdeal.nD → PrngReg), Pre_DxattnIdeal_finite7 m →
    (∀ c : Dev Cert.DxattnIdeal.nD,
      m' ((c.tc : Thread Cert.DxattnRefIdeal.nD Cert.DxattnRefIdeal.τ).loc Cert.DxattnRefIdeal.main_arg0) = m ((c.tc : Thread Cert.DxattnIdeal.nD Cert.DxattnIdeal.τ).loc Cert.DxattnIdeal.main_arg0)
      ∧ m' ((c.tc : Thread Cert.DxattnRefIdeal.nD Cert.DxattnRefIdeal.τ).loc Cert.DxattnRefIdeal.main_arg1) = m ((c.tc : Thread Cert.DxattnIdeal.nD Cert.DxattnIdeal.τ).loc Cert.DxattnIdeal.main_arg1)
      ∧ m' ((c.tc : Thread Cert.DxattnRefIdeal.nD Cert.DxattnRefIdeal.τ).loc Cert.DxattnRefIdeal.main_arg2) = m ((c.tc : Thread Cert.DxattnIdeal.nD Cert.DxattnIdeal.τ).loc Cert.DxattnIdeal.main_arg2)
      ∧ m' ((c.tc : Thread Cert.DxattnRefIdeal.nD Cert.DxattnRefIdeal.τ).loc Cert.DxattnRefIdeal.main_arg3) = m ((c.tc : Thread Cert.DxattnIdeal.nD Cert.DxattnIdeal.τ).loc Cert.DxattnIdeal.main_arg3)
      ∧ m' ((c.tc : Thread Cert.DxattnRefIdeal.nD Cert.DxattnRefIdeal.τ).loc Cert.DxattnRefIdeal.main_arg4) = m ((c.tc : Thread Cert.DxattnIdeal.nD Cert.DxattnIdeal.τ).loc Cert.DxattnIdeal.main_arg4)
      ∧ m' ((c.tc : Thread Cert.DxattnRefIdeal.nD Cert.DxattnRefIdeal.τ).loc Cert.DxattnRefIdeal.main_arg5) = m ((c.tc : Thread Cert.DxattnIdeal.nD Cert.DxattnIdeal.τ).loc Cert.DxattnIdeal.main_arg5)
      ∧ m' ((c.tc : Thread Cert.DxattnRefIdeal.nD Cert.DxattnRefIdeal.τ).loc Cert.DxattnRefIdeal.main_arg6) = m ((c.tc : Thread Cert.DxattnIdeal.nD Cert.DxattnIdeal.τ).loc Cert.DxattnIdeal.main_arg6)
      ∧ m' ((c.tc : Thread Cert.DxattnRefIdeal.nD Cert.DxattnRefIdeal.τ).loc Cert.DxattnRefIdeal.main_arg7) = m ((c.tc : Thread Cert.DxattnIdeal.nD Cert.DxattnIdeal.τ).loc Cert.DxattnIdeal.main_arg7)
      ∧ m' ((c.tc : Thread Cert.DxattnRefIdeal.nD Cert.DxattnRefIdeal.τ).loc Cert.DxattnRefIdeal.main_arg8) = m ((c.tc : Thread Cert.DxattnIdeal.nD Cert.DxattnIdeal.τ).loc Cert.DxattnIdeal.main_arg8)
      ∧ m' ((c.tc : Thread Cert.DxattnRefIdeal.nD Cert.DxattnRefIdeal.τ).loc Cert.DxattnRefIdeal.main_arg9) = m ((c.tc : Thread Cert.DxattnIdeal.nD Cert.DxattnIdeal.τ).loc Cert.DxattnIdeal.main_arg9)) →
    ∃ (v0 : (c : Dev Cert.DxattnIdeal.nD) → Buf (Elt Ideal) ((c.tc : Thread Cert.DxattnIdeal.nD Cert.DxattnIdeal.τ).loc Cert.DxattnIdeal.main_v5_0)) (v1 : (c : Dev Cert.DxattnIdeal.nD) → Buf (Elt Ideal) ((c.tc : Thread Cert.DxattnIdeal.nD Cert.DxattnIdeal.τ).loc Cert.DxattnIdeal.main_v5_1)) (v2 : (c : Dev Cert.DxattnIdeal.nD) → Buf (Elt Ideal) ((c.tc : Thread Cert.DxattnIdeal.nD Cert.DxattnIdeal.τ).loc Cert.DxattnIdeal.main_v5_2)) (v3 : (c : Dev Cert.DxattnIdeal.nD) → Buf (Elt Ideal) ((c.tc : Thread Cert.DxattnIdeal.nD Cert.DxattnIdeal.τ).loc Cert.DxattnIdeal.main_v5_3)),
      θ_run (Cert.DxattnIdeal.defs (F := Ideal)) (onTc (τ := Cert.DxattnIdeal.τ) (Cert.DxattnIdeal.main (F := Ideal))) ⟨m, fun _ => 0, g⟩ (fun r => ∀ c : Dev Cert.DxattnIdeal.nD,
          r.2.mem ((c.tc : Thread Cert.DxattnIdeal.nD Cert.DxattnIdeal.τ).loc Cert.DxattnIdeal.main_v5_0) = v0 c
          ∧ r.2.mem ((c.tc : Thread Cert.DxattnIdeal.nD Cert.DxattnIdeal.τ).loc Cert.DxattnIdeal.main_v5_1) = v1 c
          ∧ r.2.mem ((c.tc : Thread Cert.DxattnIdeal.nD Cert.DxattnIdeal.τ).loc Cert.DxattnIdeal.main_v5_2) = v2 c
          ∧ r.2.mem ((c.tc : Thread Cert.DxattnIdeal.nD Cert.DxattnIdeal.τ).loc Cert.DxattnIdeal.main_v5_3) = v3 c
          ∧ r.2.mem ((c.tc : Thread Cert.DxattnIdeal.nD Cert.DxattnIdeal.τ).loc Cert.DxattnIdeal.main_arg0) = m ((c.tc : Thread Cert.DxattnIdeal.nD Cert.DxattnIdeal.τ).loc Cert.DxattnIdeal.main_arg0)
          ∧ r.2.mem ((c.tc : Thread Cert.DxattnIdeal.nD Cert.DxattnIdeal.τ).loc Cert.DxattnIdeal.main_arg1) = m ((c.tc : Thread Cert.DxattnIdeal.nD Cert.DxattnIdeal.τ).loc Cert.DxattnIdeal.main_arg1)
          ∧ r.2.mem ((c.tc : Thread Cert.DxattnIdeal.nD Cert.DxattnIdeal.τ).loc Cert.DxattnIdeal.main_arg2) = m ((c.tc : Thread Cert.DxattnIdeal.nD Cert.DxattnIdeal.τ).loc Cert.DxattnIdeal.main_arg2)
          ∧ r.2.mem ((c.tc : Thread Cert.DxattnIdeal.nD Cert.DxattnIdeal.τ).loc Cert.DxattnIdeal.main_arg3) = m ((c.tc : Thread Cert.DxattnIdeal.nD Cert.DxattnIdeal.τ).loc Cert.DxattnIdeal.main_arg3)
          ∧ r.2.mem ((c.tc : Thread Cert.DxattnIdeal.nD Cert.DxattnIdeal.τ).loc Cert.DxattnIdeal.main_arg4) = m ((c.tc : Thread Cert.DxattnIdeal.nD Cert.DxattnIdeal.τ).loc Cert.DxattnIdeal.main_arg4)
          ∧ r.2.mem ((c.tc : Thread Cert.DxattnIdeal.nD Cert.DxattnIdeal.τ).loc Cert.DxattnIdeal.main_arg5) = m ((c.tc : Thread Cert.DxattnIdeal.nD Cert.DxattnIdeal.τ).loc Cert.DxattnIdeal.main_arg5)
          ∧ r.2.mem ((c.tc : Thread Cert.DxattnIdeal.nD Cert.DxattnIdeal.τ).loc Cert.DxattnIdeal.main_arg6) = m ((c.tc : Thread Cert.DxattnIdeal.nD Cert.DxattnIdeal.τ).loc Cert.DxattnIdeal.main_arg6)
          ∧ r.2.mem ((c.tc : Thread Cert.DxattnIdeal.nD Cert.DxattnIdeal.τ).loc Cert.DxattnIdeal.main_arg7) = m ((c.tc : Thread Cert.DxattnIdeal.nD Cert.DxattnIdeal.τ).loc Cert.DxattnIdeal.main_arg7)
          ∧ r.2.mem ((c.tc : Thread Cert.DxattnIdeal.nD Cert.DxattnIdeal.τ).loc Cert.DxattnIdeal.main_arg8) = m ((c.tc : Thread Cert.DxattnIdeal.nD Cert.DxattnIdeal.τ).loc Cert.DxattnIdeal.main_arg8)
          ∧ r.2.mem ((c.tc : Thread Cert.DxattnIdeal.nD Cert.DxattnIdeal.τ).loc Cert.DxattnIdeal.main_arg9) = m ((c.tc : Thread Cert.DxattnIdeal.nD Cert.DxattnIdeal.τ).loc Cert.DxattnIdeal.main_arg9))
      ∧ θ_run (Cert.DxattnRefIdeal.defs (F := Ideal)) (onTc (τ := Cert.DxattnRefIdeal.τ) (Cert.DxattnRefIdeal.main (F := Ideal))) ⟨m', fun _ => 0, g'⟩ (fun r => ∀ c : Dev Cert.DxattnRefIdeal.nD,
          r.2.mem ((c.tc : Thread Cert.DxattnRefIdeal.nD Cert.DxattnRefIdeal.τ).loc Cert.DxattnRefIdeal.main_v82) = v0 c
          ∧ r.2.mem ((c.tc : Thread Cert.DxattnRefIdeal.nD Cert.DxattnRefIdeal.τ).loc Cert.DxattnRefIdeal.main_v85) = v1 c
          ∧ r.2.mem ((c.tc : Thread Cert.DxattnRefIdeal.nD Cert.DxattnRefIdeal.τ).loc Cert.DxattnRefIdeal.main_v84) = v2 c
          ∧ r.2.mem ((c.tc : Thread Cert.DxattnRefIdeal.nD Cert.DxattnRefIdeal.τ).loc Cert.DxattnRefIdeal.main_v83) = v3 c
          ∧ r.2.mem ((c.tc : Thread Cert.DxattnRefIdeal.nD Cert.DxattnRefIdeal.τ).loc Cert.DxattnRefIdeal.main_arg0) = m' ((c.tc : Thread Cert.DxattnRefIdeal.nD Cert.DxattnRefIdeal.τ).loc Cert.DxattnRefIdeal.main_arg0)
          ∧ r.2.mem ((c.tc : Thread Cert.DxattnRefIdeal.nD Cert.DxattnRefIdeal.τ).loc Cert.DxattnRefIdeal.main_arg1) = m' ((c.tc : Thread Cert.DxattnRefIdeal.nD Cert.DxattnRefIdeal.τ).loc Cert.DxattnRefIdeal.main_arg1)
          ∧ r.2.mem ((c.tc : Thread Cert.DxattnRefIdeal.nD Cert.DxattnRefIdeal.τ).loc Cert.DxattnRefIdeal.main_arg2) = m' ((c.tc : Thread Cert.DxattnRefIdeal.nD Cert.DxattnRefIdeal.τ).loc Cert.DxattnRefIdeal.main_arg2)
          ∧ r.2.mem ((c.tc : Thread Cert.DxattnRefIdeal.nD Cert.DxattnRefIdeal.τ).loc Cert.DxattnRefIdeal.main_arg3) = m' ((c.tc : Thread Cert.DxattnRefIdeal.nD Cert.DxattnRefIdeal.τ).loc Cert.DxattnRefIdeal.main_arg3)
          ∧ r.2.mem ((c.tc : Thread Cert.DxattnRefIdeal.nD Cert.DxattnRefIdeal.τ).loc Cert.DxattnRefIdeal.main_arg4) = m' ((c.tc : Thread Cert.DxattnRefIdeal.nD Cert.DxattnRefIdeal.τ).loc Cert.DxattnRefIdeal.main_arg4)
          ∧ r.2.mem ((c.tc : Thread Cert.DxattnRefIdeal.nD Cert.DxattnRefIdeal.τ).loc Cert.DxattnRefIdeal.main_arg5) = m' ((c.tc : Thread Cert.DxattnRefIdeal.nD Cert.DxattnRefIdeal.τ).loc Cert.DxattnRefIdeal.main_arg5)
          ∧ r.2.mem ((c.tc : Thread Cert.DxattnRefIdeal.nD Cert.DxattnRefIdeal.τ).loc Cert.DxattnRefIdeal.main_arg6) = m' ((c.tc : Thread Cert.DxattnRefIdeal.nD Cert.DxattnRefIdeal.τ).loc Cert.DxattnRefIdeal.main_arg6)
          ∧ r.2.mem ((c.tc : Thread Cert.DxattnRefIdeal.nD Cert.DxattnRefIdeal.τ).loc Cert.DxattnRefIdeal.main_arg7) = m' ((c.tc : Thread Cert.DxattnRefIdeal.nD Cert.DxattnRefIdeal.τ).loc Cert.DxattnRefIdeal.main_arg7)
          ∧ r.2.mem ((c.tc : Thread Cert.DxattnRefIdeal.nD Cert.DxattnRefIdeal.τ).loc Cert.DxattnRefIdeal.main_arg8) = m' ((c.tc : Thread Cert.DxattnRefIdeal.nD Cert.DxattnRefIdeal.τ).loc Cert.DxattnRefIdeal.main_arg8)
          ∧ r.2.mem ((c.tc : Thread Cert.DxattnRefIdeal.nD Cert.DxattnRefIdeal.τ).loc Cert.DxattnRefIdeal.main_arg9) = m' ((c.tc : Thread Cert.DxattnRefIdeal.nD Cert.DxattnRefIdeal.τ).loc Cert.DxattnRefIdeal.main_arg9))

def preserves_Dxmix_DxmixIdeal : Prop :=
  True

def algebraic_DxmixIdeal_DxmixRefIdeal_pre_finite8 [hDxmixIdeal : Cert.DxmixIdeal.Facts] [hDxmixRefIdeal : Cert.DxmixRefIdeal.Facts] [hPre_finite8 : Cert.Pre_finite8.Facts] : Prop :=
  ∀ (m : (ℓ : Loc Cert.DxmixIdeal.nD Cert.DxmixIdeal.τ Cert.DxmixIdeal.sig) → Buf (Elt Ideal) ℓ) (g : Dev Cert.DxmixIdeal.nD → PrngReg)
    (m' : (ℓ : Loc Cert.DxmixRefIdeal.nD Cert.DxmixRefIdeal.τ Cert.DxmixRefIdeal.sig) → Buf (Elt Ideal) ℓ) (g' : Dev Cert.DxmixRefIdeal.nD → PrngReg), Pre_DxmixIdeal_finite8 m →
    (∀ c : Dev Cert.DxmixIdeal.nD,
      m' ((c.tc : Thread Cert.DxmixRefIdeal.nD Cert.DxmixRefIdeal.τ).loc Cert.DxmixRefIdeal.main_arg0) = m ((c.tc : Thread Cert.DxmixIdeal.nD Cert.DxmixIdeal.τ).loc Cert.DxmixIdeal.main_arg0)
      ∧ m' ((c.tc : Thread Cert.DxmixRefIdeal.nD Cert.DxmixRefIdeal.τ).loc Cert.DxmixRefIdeal.main_arg1) = m ((c.tc : Thread Cert.DxmixIdeal.nD Cert.DxmixIdeal.τ).loc Cert.DxmixIdeal.main_arg1)
      ∧ m' ((c.tc : Thread Cert.DxmixRefIdeal.nD Cert.DxmixRefIdeal.τ).loc Cert.DxmixRefIdeal.main_arg2) = m ((c.tc : Thread Cert.DxmixIdeal.nD Cert.DxmixIdeal.τ).loc Cert.DxmixIdeal.main_arg2)
      ∧ m' ((c.tc : Thread Cert.DxmixRefIdeal.nD Cert.DxmixRefIdeal.τ).loc Cert.DxmixRefIdeal.main_arg3) = m ((c.tc : Thread Cert.DxmixIdeal.nD Cert.DxmixIdeal.τ).loc Cert.DxmixIdeal.main_arg3)
      ∧ m' ((c.tc : Thread Cert.DxmixRefIdeal.nD Cert.DxmixRefIdeal.τ).loc Cert.DxmixRefIdeal.main_arg4) = m ((c.tc : Thread Cert.DxmixIdeal.nD Cert.DxmixIdeal.τ).loc Cert.DxmixIdeal.main_arg4)
      ∧ m' ((c.tc : Thread Cert.DxmixRefIdeal.nD Cert.DxmixRefIdeal.τ).loc Cert.DxmixRefIdeal.main_arg5) = m ((c.tc : Thread Cert.DxmixIdeal.nD Cert.DxmixIdeal.τ).loc Cert.DxmixIdeal.main_arg5)
      ∧ m' ((c.tc : Thread Cert.DxmixRefIdeal.nD Cert.DxmixRefIdeal.τ).loc Cert.DxmixRefIdeal.main_arg6) = m ((c.tc : Thread Cert.DxmixIdeal.nD Cert.DxmixIdeal.τ).loc Cert.DxmixIdeal.main_arg6)
      ∧ m' ((c.tc : Thread Cert.DxmixRefIdeal.nD Cert.DxmixRefIdeal.τ).loc Cert.DxmixRefIdeal.main_arg7) = m ((c.tc : Thread Cert.DxmixIdeal.nD Cert.DxmixIdeal.τ).loc Cert.DxmixIdeal.main_arg7)) →
    ∃ (v0 : (c : Dev Cert.DxmixIdeal.nD) → Buf (Elt Ideal) ((c.tc : Thread Cert.DxmixIdeal.nD Cert.DxmixIdeal.τ).loc Cert.DxmixIdeal.main_v30_0)) (v1 : (c : Dev Cert.DxmixIdeal.nD) → Buf (Elt Ideal) ((c.tc : Thread Cert.DxmixIdeal.nD Cert.DxmixIdeal.τ).loc Cert.DxmixIdeal.main_v30_1)) (v2 : (c : Dev Cert.DxmixIdeal.nD) → Buf (Elt Ideal) ((c.tc : Thread Cert.DxmixIdeal.nD Cert.DxmixIdeal.τ).loc Cert.DxmixIdeal.main_v30_2)) (v3 : (c : Dev Cert.DxmixIdeal.nD) → Buf (Elt Ideal) ((c.tc : Thread Cert.DxmixIdeal.nD Cert.DxmixIdeal.τ).loc Cert.DxmixIdeal.main_v30_3)),
      θ_run (Cert.DxmixIdeal.defs (F := Ideal)) (onTc (τ := Cert.DxmixIdeal.τ) (Cert.DxmixIdeal.main (F := Ideal))) ⟨m, fun _ => 0, g⟩ (fun r => ∀ c : Dev Cert.DxmixIdeal.nD,
          r.2.mem ((c.tc : Thread Cert.DxmixIdeal.nD Cert.DxmixIdeal.τ).loc Cert.DxmixIdeal.main_v30_0) = v0 c
          ∧ r.2.mem ((c.tc : Thread Cert.DxmixIdeal.nD Cert.DxmixIdeal.τ).loc Cert.DxmixIdeal.main_v30_1) = v1 c
          ∧ r.2.mem ((c.tc : Thread Cert.DxmixIdeal.nD Cert.DxmixIdeal.τ).loc Cert.DxmixIdeal.main_v30_2) = v2 c
          ∧ r.2.mem ((c.tc : Thread Cert.DxmixIdeal.nD Cert.DxmixIdeal.τ).loc Cert.DxmixIdeal.main_v30_3) = v3 c
          ∧ r.2.mem ((c.tc : Thread Cert.DxmixIdeal.nD Cert.DxmixIdeal.τ).loc Cert.DxmixIdeal.main_arg0) = m ((c.tc : Thread Cert.DxmixIdeal.nD Cert.DxmixIdeal.τ).loc Cert.DxmixIdeal.main_arg0)
          ∧ r.2.mem ((c.tc : Thread Cert.DxmixIdeal.nD Cert.DxmixIdeal.τ).loc Cert.DxmixIdeal.main_arg1) = m ((c.tc : Thread Cert.DxmixIdeal.nD Cert.DxmixIdeal.τ).loc Cert.DxmixIdeal.main_arg1)
          ∧ r.2.mem ((c.tc : Thread Cert.DxmixIdeal.nD Cert.DxmixIdeal.τ).loc Cert.DxmixIdeal.main_arg2) = m ((c.tc : Thread Cert.DxmixIdeal.nD Cert.DxmixIdeal.τ).loc Cert.DxmixIdeal.main_arg2)
          ∧ r.2.mem ((c.tc : Thread Cert.DxmixIdeal.nD Cert.DxmixIdeal.τ).loc Cert.DxmixIdeal.main_arg3) = m ((c.tc : Thread Cert.DxmixIdeal.nD Cert.DxmixIdeal.τ).loc Cert.DxmixIdeal.main_arg3)
          ∧ r.2.mem ((c.tc : Thread Cert.DxmixIdeal.nD Cert.DxmixIdeal.τ).loc Cert.DxmixIdeal.main_arg4) = m ((c.tc : Thread Cert.DxmixIdeal.nD Cert.DxmixIdeal.τ).loc Cert.DxmixIdeal.main_arg4)
          ∧ r.2.mem ((c.tc : Thread Cert.DxmixIdeal.nD Cert.DxmixIdeal.τ).loc Cert.DxmixIdeal.main_arg5) = m ((c.tc : Thread Cert.DxmixIdeal.nD Cert.DxmixIdeal.τ).loc Cert.DxmixIdeal.main_arg5)
          ∧ r.2.mem ((c.tc : Thread Cert.DxmixIdeal.nD Cert.DxmixIdeal.τ).loc Cert.DxmixIdeal.main_arg6) = m ((c.tc : Thread Cert.DxmixIdeal.nD Cert.DxmixIdeal.τ).loc Cert.DxmixIdeal.main_arg6)
          ∧ r.2.mem ((c.tc : Thread Cert.DxmixIdeal.nD Cert.DxmixIdeal.τ).loc Cert.DxmixIdeal.main_arg7) = m ((c.tc : Thread Cert.DxmixIdeal.nD Cert.DxmixIdeal.τ).loc Cert.DxmixIdeal.main_arg7))
      ∧ θ_run (Cert.DxmixRefIdeal.defs (F := Ideal)) (onTc (τ := Cert.DxmixRefIdeal.τ) (Cert.DxmixRefIdeal.main (F := Ideal))) ⟨m', fun _ => 0, g'⟩ (fun r => ∀ c : Dev Cert.DxmixRefIdeal.nD,
          r.2.mem ((c.tc : Thread Cert.DxmixRefIdeal.nD Cert.DxmixRefIdeal.τ).loc Cert.DxmixRefIdeal.main_v76) = v0 c
          ∧ r.2.mem ((c.tc : Thread Cert.DxmixRefIdeal.nD Cert.DxmixRefIdeal.τ).loc Cert.DxmixRefIdeal.main_v79) = v1 c
          ∧ r.2.mem ((c.tc : Thread Cert.DxmixRefIdeal.nD Cert.DxmixRefIdeal.τ).loc Cert.DxmixRefIdeal.main_v78) = v2 c
          ∧ r.2.mem ((c.tc : Thread Cert.DxmixRefIdeal.nD Cert.DxmixRefIdeal.τ).loc Cert.DxmixRefIdeal.main_v77) = v3 c
          ∧ r.2.mem ((c.tc : Thread Cert.DxmixRefIdeal.nD Cert.DxmixRefIdeal.τ).loc Cert.DxmixRefIdeal.main_arg0) = m' ((c.tc : Thread Cert.DxmixRefIdeal.nD Cert.DxmixRefIdeal.τ).loc Cert.DxmixRefIdeal.main_arg0)
          ∧ r.2.mem ((c.tc : Thread Cert.DxmixRefIdeal.nD Cert.DxmixRefIdeal.τ).loc Cert.DxmixRefIdeal.main_arg1) = m' ((c.tc : Thread Cert.DxmixRefIdeal.nD Cert.DxmixRefIdeal.τ).loc Cert.DxmixRefIdeal.main_arg1)
          ∧ r.2.mem ((c.tc : Thread Cert.DxmixRefIdeal.nD Cert.DxmixRefIdeal.τ).loc Cert.DxmixRefIdeal.main_arg2) = m' ((c.tc : Thread Cert.DxmixRefIdeal.nD Cert.DxmixRefIdeal.τ).loc Cert.DxmixRefIdeal.main_arg2)
          ∧ r.2.mem ((c.tc : Thread Cert.DxmixRefIdeal.nD Cert.DxmixRefIdeal.τ).loc Cert.DxmixRefIdeal.main_arg3) = m' ((c.tc : Thread Cert.DxmixRefIdeal.nD Cert.DxmixRefIdeal.τ).loc Cert.DxmixRefIdeal.main_arg3)
          ∧ r.2.mem ((c.tc : Thread Cert.DxmixRefIdeal.nD Cert.DxmixRefIdeal.τ).loc Cert.DxmixRefIdeal.main_arg4) = m' ((c.tc : Thread Cert.DxmixRefIdeal.nD Cert.DxmixRefIdeal.τ).loc Cert.DxmixRefIdeal.main_arg4)
          ∧ r.2.mem ((c.tc : Thread Cert.DxmixRefIdeal.nD Cert.DxmixRefIdeal.τ).loc Cert.DxmixRefIdeal.main_arg5) = m' ((c.tc : Thread Cert.DxmixRefIdeal.nD Cert.DxmixRefIdeal.τ).loc Cert.DxmixRefIdeal.main_arg5)
          ∧ r.2.mem ((c.tc : Thread Cert.DxmixRefIdeal.nD Cert.DxmixRefIdeal.τ).loc Cert.DxmixRefIdeal.main_arg6) = m' ((c.tc : Thread Cert.DxmixRefIdeal.nD Cert.DxmixRefIdeal.τ).loc Cert.DxmixRefIdeal.main_arg6)
          ∧ r.2.mem ((c.tc : Thread Cert.DxmixRefIdeal.nD Cert.DxmixRefIdeal.τ).loc Cert.DxmixRefIdeal.main_arg7) = m' ((c.tc : Thread Cert.DxmixRefIdeal.nD Cert.DxmixRefIdeal.τ).loc Cert.DxmixRefIdeal.main_arg7))

def preserves_Ffn_FfnIdeal : Prop :=
  True

def algebraic_FfnIdeal_FfnRefIdeal_pre_finite9 [hFfnIdeal : Cert.FfnIdeal.Facts] [hFfnRefIdeal : Cert.FfnRefIdeal.Facts] [hPre_finite9 : Cert.Pre_finite9.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite9 m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)
      ∧ m' ((c.tc : Thread Cert.FfnRefIdeal.nD Cert.FfnRefIdeal.τ).loc Cert.FfnRefIdeal.main_arg9) = m ((c.tc : Thread Cert.FfnIdeal.nD Cert.FfnIdeal.τ).loc Cert.FfnIdeal.main_arg9)
      ∧ m' ((c.tc : Thread Cert.FfnRefIdeal.nD Cert.FfnRefIdeal.τ).loc Cert.FfnRefIdeal.main_arg10) = m ((c.tc : Thread Cert.FfnIdeal.nD Cert.FfnIdeal.τ).loc Cert.FfnIdeal.main_arg10)) →
    ∃ (v0 : (c : Dev Cert.FfnIdeal.nD) → Buf (Elt Ideal) ((c.tc : Thread Cert.FfnIdeal.nD Cert.FfnIdeal.τ).loc Cert.FfnIdeal.main_v36)) (v1 : (c : Dev Cert.FfnIdeal.nD) → Buf (Elt Ideal) ((c.tc : Thread Cert.FfnIdeal.nD Cert.FfnIdeal.τ).loc Cert.FfnIdeal.main_v43)) (v2 : (c : Dev Cert.FfnIdeal.nD) → Buf (Elt Ideal) ((c.tc : Thread Cert.FfnIdeal.nD Cert.FfnIdeal.τ).loc Cert.FfnIdeal.main_v29_2)) (v3 : (c : Dev Cert.FfnIdeal.nD) → Buf (Elt Ideal) ((c.tc : Thread Cert.FfnIdeal.nD Cert.FfnIdeal.τ).loc Cert.FfnIdeal.main_v29_3)) (v4 : (c : Dev Cert.FfnIdeal.nD) → Buf (Elt Ideal) ((c.tc : Thread Cert.FfnIdeal.nD Cert.FfnIdeal.τ).loc Cert.FfnIdeal.main_v29_4)) (v5 : (c : Dev Cert.FfnIdeal.nD) → Buf (Elt Ideal) ((c.tc : Thread Cert.FfnIdeal.nD Cert.FfnIdeal.τ).loc Cert.FfnIdeal.main_v29_5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v36) = v0 c
          ∧ r.2.mem ((c.tc : Thread Cert.FfnIdeal.nD Cert.FfnIdeal.τ).loc Cert.FfnIdeal.main_v43) = v1 c
          ∧ r.2.mem ((c.tc : Thread Cert.FfnIdeal.nD Cert.FfnIdeal.τ).loc Cert.FfnIdeal.main_v29_2) = v2 c
          ∧ r.2.mem ((c.tc : Thread Cert.FfnIdeal.nD Cert.FfnIdeal.τ).loc Cert.FfnIdeal.main_v29_3) = v3 c
          ∧ r.2.mem ((c.tc : Thread Cert.FfnIdeal.nD Cert.FfnIdeal.τ).loc Cert.FfnIdeal.main_v29_4) = v4 c
          ∧ r.2.mem ((c.tc : Thread Cert.FfnIdeal.nD Cert.FfnIdeal.τ).loc Cert.FfnIdeal.main_v29_5) = v5 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
          ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v101) = v0 c
          ∧ r.2.mem ((c.tc : Thread Cert.FfnRefIdeal.nD Cert.FfnRefIdeal.τ).loc Cert.FfnRefIdeal.main_v102) = v1 c
          ∧ r.2.mem ((c.tc : Thread Cert.FfnRefIdeal.nD Cert.FfnRefIdeal.τ).loc Cert.FfnRefIdeal.main_v98) = v2 c
          ∧ r.2.mem ((c.tc : Thread Cert.FfnRefIdeal.nD Cert.FfnRefIdeal.τ).loc Cert.FfnRefIdeal.main_v103) = v3 c
          ∧ r.2.mem ((c.tc : Thread Cert.FfnRefIdeal.nD Cert.FfnRefIdeal.τ).loc Cert.FfnRefIdeal.main_v100) = v4 c
          ∧ r.2.mem ((c.tc : Thread Cert.FfnRefIdeal.nD Cert.FfnRefIdeal.τ).loc Cert.FfnRefIdeal.main_v99) = v5 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8)
          ∧ r.2.mem ((c.tc : Thread Cert.FfnRefIdeal.nD Cert.FfnRefIdeal.τ).loc Cert.FfnRefIdeal.main_arg9) = m' ((c.tc : Thread Cert.FfnRefIdeal.nD Cert.FfnRefIdeal.τ).loc Cert.FfnRefIdeal.main_arg9)
          ∧ r.2.mem ((c.tc : Thread Cert.FfnRefIdeal.nD Cert.FfnRefIdeal.τ).loc Cert.FfnRefIdeal.main_arg10) = m' ((c.tc : Thread Cert.FfnRefIdeal.nD Cert.FfnRefIdeal.τ).loc Cert.FfnRefIdeal.main_arg10))

def preserves_Hgrn_HgrnIdeal : Prop :=
  True

def preserves_Hfwd_HfwdIdeal : Prop :=
  True

def preserves_Nfwd_NfwdIdeal : Prop :=
  True

def algebraic_NfwdIdeal_NfwdRefIdeal [hNfwdIdeal : Cert.NfwdIdeal.Facts] [hNfwdRefIdeal : Cert.NfwdRefIdeal.Facts] : Prop :=
  ∀ (m : (ℓ : Loc Cert.NfwdIdeal.nD Cert.NfwdIdeal.τ Cert.NfwdIdeal.sig) → Buf (Elt Ideal) ℓ) (g : Dev Cert.NfwdIdeal.nD → PrngReg)
    (m' : (ℓ : Loc Cert.NfwdRefIdeal.nD Cert.NfwdRefIdeal.τ Cert.NfwdRefIdeal.sig) → Buf (Elt Ideal) ℓ) (g' : Dev Cert.NfwdRefIdeal.nD → PrngReg), Pre_NfwdIdeal m →
    (∀ c : Dev Cert.NfwdIdeal.nD,
      m' ((c.tc : Thread Cert.NfwdRefIdeal.nD Cert.NfwdRefIdeal.τ).loc Cert.NfwdRefIdeal.main_arg0) = m ((c.tc : Thread Cert.NfwdIdeal.nD Cert.NfwdIdeal.τ).loc Cert.NfwdIdeal.main_arg0)
      ∧ m' ((c.tc : Thread Cert.NfwdRefIdeal.nD Cert.NfwdRefIdeal.τ).loc Cert.NfwdRefIdeal.main_arg1) = m ((c.tc : Thread Cert.NfwdIdeal.nD Cert.NfwdIdeal.τ).loc Cert.NfwdIdeal.main_arg1)
      ∧ m' ((c.tc : Thread Cert.NfwdRefIdeal.nD Cert.NfwdRefIdeal.τ).loc Cert.NfwdRefIdeal.main_arg2) = m ((c.tc : Thread Cert.NfwdIdeal.nD Cert.NfwdIdeal.τ).loc Cert.NfwdIdeal.main_arg2)
      ∧ m' ((c.tc : Thread Cert.NfwdRefIdeal.nD Cert.NfwdRefIdeal.τ).loc Cert.NfwdRefIdeal.main_arg3) = m ((c.tc : Thread Cert.NfwdIdeal.nD Cert.NfwdIdeal.τ).loc Cert.NfwdIdeal.main_arg3)
      ∧ m' ((c.tc : Thread Cert.NfwdRefIdeal.nD Cert.NfwdRefIdeal.τ).loc Cert.NfwdRefIdeal.main_arg4) = m ((c.tc : Thread Cert.NfwdIdeal.nD Cert.NfwdIdeal.τ).loc Cert.NfwdIdeal.main_arg4)
      ∧ m' ((c.tc : Thread Cert.NfwdRefIdeal.nD Cert.NfwdRefIdeal.τ).loc Cert.NfwdRefIdeal.main_arg5) = m ((c.tc : Thread Cert.NfwdIdeal.nD Cert.NfwdIdeal.τ).loc Cert.NfwdIdeal.main_arg5)
      ∧ m' ((c.tc : Thread Cert.NfwdRefIdeal.nD Cert.NfwdRefIdeal.τ).loc Cert.NfwdRefIdeal.main_arg6) = m ((c.tc : Thread Cert.NfwdIdeal.nD Cert.NfwdIdeal.τ).loc Cert.NfwdIdeal.main_arg6)) →
    ∃ (v0 : (c : Dev Cert.NfwdIdeal.nD) → Buf (Elt Ideal) ((c.tc : Thread Cert.NfwdIdeal.nD Cert.NfwdIdeal.τ).loc Cert.NfwdIdeal.main_v2_0)) (v1 : (c : Dev Cert.NfwdIdeal.nD) → Buf (Elt Ideal) ((c.tc : Thread Cert.NfwdIdeal.nD Cert.NfwdIdeal.τ).loc Cert.NfwdIdeal.main_v2_1)) (v2 : (c : Dev Cert.NfwdIdeal.nD) → Buf (Elt Ideal) ((c.tc : Thread Cert.NfwdIdeal.nD Cert.NfwdIdeal.τ).loc Cert.NfwdIdeal.main_v2_2)),
      θ_run (Cert.NfwdIdeal.defs (F := Ideal)) (onTc (τ := Cert.NfwdIdeal.τ) (Cert.NfwdIdeal.main (F := Ideal))) ⟨m, fun _ => 0, g⟩ (fun r => ∀ c : Dev Cert.NfwdIdeal.nD,
          r.2.mem ((c.tc : Thread Cert.NfwdIdeal.nD Cert.NfwdIdeal.τ).loc Cert.NfwdIdeal.main_v2_0) = v0 c
          ∧ r.2.mem ((c.tc : Thread Cert.NfwdIdeal.nD Cert.NfwdIdeal.τ).loc Cert.NfwdIdeal.main_v2_1) = v1 c
          ∧ r.2.mem ((c.tc : Thread Cert.NfwdIdeal.nD Cert.NfwdIdeal.τ).loc Cert.NfwdIdeal.main_v2_2) = v2 c
          ∧ r.2.mem ((c.tc : Thread Cert.NfwdIdeal.nD Cert.NfwdIdeal.τ).loc Cert.NfwdIdeal.main_arg0) = m ((c.tc : Thread Cert.NfwdIdeal.nD Cert.NfwdIdeal.τ).loc Cert.NfwdIdeal.main_arg0)
          ∧ r.2.mem ((c.tc : Thread Cert.NfwdIdeal.nD Cert.NfwdIdeal.τ).loc Cert.NfwdIdeal.main_arg1) = m ((c.tc : Thread Cert.NfwdIdeal.nD Cert.NfwdIdeal.τ).loc Cert.NfwdIdeal.main_arg1)
          ∧ r.2.mem ((c.tc : Thread Cert.NfwdIdeal.nD Cert.NfwdIdeal.τ).loc Cert.NfwdIdeal.main_arg2) = m ((c.tc : Thread Cert.NfwdIdeal.nD Cert.NfwdIdeal.τ).loc Cert.NfwdIdeal.main_arg2)
          ∧ r.2.mem ((c.tc : Thread Cert.NfwdIdeal.nD Cert.NfwdIdeal.τ).loc Cert.NfwdIdeal.main_arg3) = m ((c.tc : Thread Cert.NfwdIdeal.nD Cert.NfwdIdeal.τ).loc Cert.NfwdIdeal.main_arg3)
          ∧ r.2.mem ((c.tc : Thread Cert.NfwdIdeal.nD Cert.NfwdIdeal.τ).loc Cert.NfwdIdeal.main_arg4) = m ((c.tc : Thread Cert.NfwdIdeal.nD Cert.NfwdIdeal.τ).loc Cert.NfwdIdeal.main_arg4)
          ∧ r.2.mem ((c.tc : Thread Cert.NfwdIdeal.nD Cert.NfwdIdeal.τ).loc Cert.NfwdIdeal.main_arg5) = m ((c.tc : Thread Cert.NfwdIdeal.nD Cert.NfwdIdeal.τ).loc Cert.NfwdIdeal.main_arg5)
          ∧ r.2.mem ((c.tc : Thread Cert.NfwdIdeal.nD Cert.NfwdIdeal.τ).loc Cert.NfwdIdeal.main_arg6) = m ((c.tc : Thread Cert.NfwdIdeal.nD Cert.NfwdIdeal.τ).loc Cert.NfwdIdeal.main_arg6))
      ∧ θ_run (Cert.NfwdRefIdeal.defs (F := Ideal)) (onTc (τ := Cert.NfwdRefIdeal.τ) (Cert.NfwdRefIdeal.main (F := Ideal))) ⟨m', fun _ => 0, g'⟩ (fun r => ∀ c : Dev Cert.NfwdRefIdeal.nD,
          r.2.mem ((c.tc : Thread Cert.NfwdRefIdeal.nD Cert.NfwdRefIdeal.τ).loc Cert.NfwdRefIdeal.main_v52) = v0 c
          ∧ r.2.mem ((c.tc : Thread Cert.NfwdRefIdeal.nD Cert.NfwdRefIdeal.τ).loc Cert.NfwdRefIdeal.main_v56) = v1 c
          ∧ r.2.mem ((c.tc : Thread Cert.NfwdRefIdeal.nD Cert.NfwdRefIdeal.τ).loc Cert.NfwdRefIdeal.main_v25) = v2 c
          ∧ r.2.mem ((c.tc : Thread Cert.NfwdRefIdeal.nD Cert.NfwdRefIdeal.τ).loc Cert.NfwdRefIdeal.main_arg0) = m' ((c.tc : Thread Cert.NfwdRefIdeal.nD Cert.NfwdRefIdeal.τ).loc Cert.NfwdRefIdeal.main_arg0)
          ∧ r.2.mem ((c.tc : Thread Cert.NfwdRefIdeal.nD Cert.NfwdRefIdeal.τ).loc Cert.NfwdRefIdeal.main_arg1) = m' ((c.tc : Thread Cert.NfwdRefIdeal.nD Cert.NfwdRefIdeal.τ).loc Cert.NfwdRefIdeal.main_arg1)
          ∧ r.2.mem ((c.tc : Thread Cert.NfwdRefIdeal.nD Cert.NfwdRefIdeal.τ).loc Cert.NfwdRefIdeal.main_arg2) = m' ((c.tc : Thread Cert.NfwdRefIdeal.nD Cert.NfwdRefIdeal.τ).loc Cert.NfwdRefIdeal.main_arg2)
          ∧ r.2.mem ((c.tc : Thread Cert.NfwdRefIdeal.nD Cert.NfwdRefIdeal.τ).loc Cert.NfwdRefIdeal.main_arg3) = m' ((c.tc : Thread Cert.NfwdRefIdeal.nD Cert.NfwdRefIdeal.τ).loc Cert.NfwdRefIdeal.main_arg3)
          ∧ r.2.mem ((c.tc : Thread Cert.NfwdRefIdeal.nD Cert.NfwdRefIdeal.τ).loc Cert.NfwdRefIdeal.main_arg4) = m' ((c.tc : Thread Cert.NfwdRefIdeal.nD Cert.NfwdRefIdeal.τ).loc Cert.NfwdRefIdeal.main_arg4)
          ∧ r.2.mem ((c.tc : Thread Cert.NfwdRefIdeal.nD Cert.NfwdRefIdeal.τ).loc Cert.NfwdRefIdeal.main_arg5) = m' ((c.tc : Thread Cert.NfwdRefIdeal.nD Cert.NfwdRefIdeal.τ).loc Cert.NfwdRefIdeal.main_arg5)
          ∧ r.2.mem ((c.tc : Thread Cert.NfwdRefIdeal.nD Cert.NfwdRefIdeal.τ).loc Cert.NfwdRefIdeal.main_arg6) = m' ((c.tc : Thread Cert.NfwdRefIdeal.nD Cert.NfwdRefIdeal.τ).loc Cert.NfwdRefIdeal.main_arg6))

def preserves_Mfwd_MfwdIdeal : Prop :=
  True

def algebraic_MfwdIdeal_MfwdRefIdeal [hMfwdIdeal : Cert.MfwdIdeal.Facts] [hMfwdRefIdeal : Cert.MfwdRefIdeal.Facts] : Prop :=
  ∀ (m : (ℓ : Loc Cert.MfwdIdeal.nD Cert.MfwdIdeal.τ Cert.MfwdIdeal.sig) → Buf (Elt Ideal) ℓ) (g : Dev Cert.MfwdIdeal.nD → PrngReg)
    (m' : (ℓ : Loc Cert.MfwdRefIdeal.nD Cert.MfwdRefIdeal.τ Cert.MfwdRefIdeal.sig) → Buf (Elt Ideal) ℓ) (g' : Dev Cert.MfwdRefIdeal.nD → PrngReg), Pre_MfwdIdeal m →
    (∀ c : Dev Cert.MfwdIdeal.nD,
      m' ((c.tc : Thread Cert.MfwdRefIdeal.nD Cert.MfwdRefIdeal.τ).loc Cert.MfwdRefIdeal.main_arg0) = m ((c.tc : Thread Cert.MfwdIdeal.nD Cert.MfwdIdeal.τ).loc Cert.MfwdIdeal.main_arg0)
      ∧ m' ((c.tc : Thread Cert.MfwdRefIdeal.nD Cert.MfwdRefIdeal.τ).loc Cert.MfwdRefIdeal.main_arg1) = m ((c.tc : Thread Cert.MfwdIdeal.nD Cert.MfwdIdeal.τ).loc Cert.MfwdIdeal.main_arg1)
      ∧ m' ((c.tc : Thread Cert.MfwdRefIdeal.nD Cert.MfwdRefIdeal.τ).loc Cert.MfwdRefIdeal.main_arg2) = m ((c.tc : Thread Cert.MfwdIdeal.nD Cert.MfwdIdeal.τ).loc Cert.MfwdIdeal.main_arg2)
      ∧ m' ((c.tc : Thread Cert.MfwdRefIdeal.nD Cert.MfwdRefIdeal.τ).loc Cert.MfwdRefIdeal.main_arg3) = m ((c.tc : Thread Cert.MfwdIdeal.nD Cert.MfwdIdeal.τ).loc Cert.MfwdIdeal.main_arg3)
      ∧ m' ((c.tc : Thread Cert.MfwdRefIdeal.nD Cert.MfwdRefIdeal.τ).loc Cert.MfwdRefIdeal.main_arg4) = m ((c.tc : Thread Cert.MfwdIdeal.nD Cert.MfwdIdeal.τ).loc Cert.MfwdIdeal.main_arg4)) →
    ∃ (v0 : (c : Dev Cert.MfwdIdeal.nD) → Buf (Elt Ideal) ((c.tc : Thread Cert.MfwdIdeal.nD Cert.MfwdIdeal.τ).loc Cert.MfwdIdeal.main_v4_0)) (v1 : (c : Dev Cert.MfwdIdeal.nD) → Buf (Elt Ideal) ((c.tc : Thread Cert.MfwdIdeal.nD Cert.MfwdIdeal.τ).loc Cert.MfwdIdeal.main_v4_1)) (v2 : (c : Dev Cert.MfwdIdeal.nD) → Buf (Elt Ideal) ((c.tc : Thread Cert.MfwdIdeal.nD Cert.MfwdIdeal.τ).loc Cert.MfwdIdeal.main_v4_2)) (v3 : (c : Dev Cert.MfwdIdeal.nD) → Buf (Elt Ideal) ((c.tc : Thread Cert.MfwdIdeal.nD Cert.MfwdIdeal.τ).loc Cert.MfwdIdeal.main_v4_3)) (v4 : (c : Dev Cert.MfwdIdeal.nD) → Buf (Elt Ideal) ((c.tc : Thread Cert.MfwdIdeal.nD Cert.MfwdIdeal.τ).loc Cert.MfwdIdeal.main_v4_4)),
      θ_run (Cert.MfwdIdeal.defs (F := Ideal)) (onTc (τ := Cert.MfwdIdeal.τ) (Cert.MfwdIdeal.main (F := Ideal))) ⟨m, fun _ => 0, g⟩ (fun r => ∀ c : Dev Cert.MfwdIdeal.nD,
          r.2.mem ((c.tc : Thread Cert.MfwdIdeal.nD Cert.MfwdIdeal.τ).loc Cert.MfwdIdeal.main_v4_0) = v0 c
          ∧ r.2.mem ((c.tc : Thread Cert.MfwdIdeal.nD Cert.MfwdIdeal.τ).loc Cert.MfwdIdeal.main_v4_1) = v1 c
          ∧ r.2.mem ((c.tc : Thread Cert.MfwdIdeal.nD Cert.MfwdIdeal.τ).loc Cert.MfwdIdeal.main_v4_2) = v2 c
          ∧ r.2.mem ((c.tc : Thread Cert.MfwdIdeal.nD Cert.MfwdIdeal.τ).loc Cert.MfwdIdeal.main_v4_3) = v3 c
          ∧ r.2.mem ((c.tc : Thread Cert.MfwdIdeal.nD Cert.MfwdIdeal.τ).loc Cert.MfwdIdeal.main_v4_4) = v4 c
          ∧ r.2.mem ((c.tc : Thread Cert.MfwdIdeal.nD Cert.MfwdIdeal.τ).loc Cert.MfwdIdeal.main_arg0) = m ((c.tc : Thread Cert.MfwdIdeal.nD Cert.MfwdIdeal.τ).loc Cert.MfwdIdeal.main_arg0)
          ∧ r.2.mem ((c.tc : Thread Cert.MfwdIdeal.nD Cert.MfwdIdeal.τ).loc Cert.MfwdIdeal.main_arg1) = m ((c.tc : Thread Cert.MfwdIdeal.nD Cert.MfwdIdeal.τ).loc Cert.MfwdIdeal.main_arg1)
          ∧ r.2.mem ((c.tc : Thread Cert.MfwdIdeal.nD Cert.MfwdIdeal.τ).loc Cert.MfwdIdeal.main_arg2) = m ((c.tc : Thread Cert.MfwdIdeal.nD Cert.MfwdIdeal.τ).loc Cert.MfwdIdeal.main_arg2)
          ∧ r.2.mem ((c.tc : Thread Cert.MfwdIdeal.nD Cert.MfwdIdeal.τ).loc Cert.MfwdIdeal.main_arg3) = m ((c.tc : Thread Cert.MfwdIdeal.nD Cert.MfwdIdeal.τ).loc Cert.MfwdIdeal.main_arg3)
          ∧ r.2.mem ((c.tc : Thread Cert.MfwdIdeal.nD Cert.MfwdIdeal.τ).loc Cert.MfwdIdeal.main_arg4) = m ((c.tc : Thread Cert.MfwdIdeal.nD Cert.MfwdIdeal.τ).loc Cert.MfwdIdeal.main_arg4))
      ∧ θ_run (Cert.MfwdRefIdeal.defs (F := Ideal)) (onTc (τ := Cert.MfwdRefIdeal.τ) (Cert.MfwdRefIdeal.main (F := Ideal))) ⟨m', fun _ => 0, g'⟩ (fun r => ∀ c : Dev Cert.MfwdRefIdeal.nD,
          r.2.mem ((c.tc : Thread Cert.MfwdRefIdeal.nD Cert.MfwdRefIdeal.τ).loc Cert.MfwdRefIdeal.main_v40) = v0 c
          ∧ r.2.mem ((c.tc : Thread Cert.MfwdRefIdeal.nD Cert.MfwdRefIdeal.τ).loc Cert.MfwdRefIdeal.main_v44) = v1 c
          ∧ r.2.mem ((c.tc : Thread Cert.MfwdRefIdeal.nD Cert.MfwdRefIdeal.τ).loc Cert.MfwdRefIdeal.main_v13) = v2 c
          ∧ r.2.mem ((c.tc : Thread Cert.MfwdRefIdeal.nD Cert.MfwdRefIdeal.τ).loc Cert.MfwdRefIdeal.main_v47) = v3 c
          ∧ r.2.mem ((c.tc : Thread Cert.MfwdRefIdeal.nD Cert.MfwdRefIdeal.τ).loc Cert.MfwdRefIdeal.main_v50) = v4 c
          ∧ r.2.mem ((c.tc : Thread Cert.MfwdRefIdeal.nD Cert.MfwdRefIdeal.τ).loc Cert.MfwdRefIdeal.main_arg0) = m' ((c.tc : Thread Cert.MfwdRefIdeal.nD Cert.MfwdRefIdeal.τ).loc Cert.MfwdRefIdeal.main_arg0)
          ∧ r.2.mem ((c.tc : Thread Cert.MfwdRefIdeal.nD Cert.MfwdRefIdeal.τ).loc Cert.MfwdRefIdeal.main_arg1) = m' ((c.tc : Thread Cert.MfwdRefIdeal.nD Cert.MfwdRefIdeal.τ).loc Cert.MfwdRefIdeal.main_arg1)
          ∧ r.2.mem ((c.tc : Thread Cert.MfwdRefIdeal.nD Cert.MfwdRefIdeal.τ).loc Cert.MfwdRefIdeal.main_arg2) = m' ((c.tc : Thread Cert.MfwdRefIdeal.nD Cert.MfwdRefIdeal.τ).loc Cert.MfwdRefIdeal.main_arg2)
          ∧ r.2.mem ((c.tc : Thread Cert.MfwdRefIdeal.nD Cert.MfwdRefIdeal.τ).loc Cert.MfwdRefIdeal.main_arg3) = m' ((c.tc : Thread Cert.MfwdRefIdeal.nD Cert.MfwdRefIdeal.τ).loc Cert.MfwdRefIdeal.main_arg3)
          ∧ r.2.mem ((c.tc : Thread Cert.MfwdRefIdeal.nD Cert.MfwdRefIdeal.τ).loc Cert.MfwdRefIdeal.main_arg4) = m' ((c.tc : Thread Cert.MfwdRefIdeal.nD Cert.MfwdRefIdeal.τ).loc Cert.MfwdRefIdeal.main_arg4))

def preserves_Sfwd_SfwdIdeal : Prop :=
  IdealRules.named_const.Statement Cert.SfwdIdeal.κ "cube" .f32 0x3D372713#32 ((8943 / 200000 : ℝ) : EReal)

def algebraic_SfwdIdeal_SfwdRefIdeal [hSfwdIdeal : Cert.SfwdIdeal.Facts] [hSfwdRefIdeal : Cert.SfwdRefIdeal.Facts] : Prop :=
  ∀ (m : (ℓ : Loc Cert.SfwdIdeal.nD Cert.SfwdIdeal.τ Cert.SfwdIdeal.sig) → Buf (Elt Ideal) ℓ) (g : Dev Cert.SfwdIdeal.nD → PrngReg)
    (m' : (ℓ : Loc Cert.SfwdRefIdeal.nD Cert.SfwdRefIdeal.τ Cert.SfwdRefIdeal.sig) → Buf (Elt Ideal) ℓ) (g' : Dev Cert.SfwdRefIdeal.nD → PrngReg), Pre_SfwdIdeal m →
    (∀ c : Dev Cert.SfwdIdeal.nD,
      m' ((c.tc : Thread Cert.SfwdRefIdeal.nD Cert.SfwdRefIdeal.τ).loc Cert.SfwdRefIdeal.main_arg0) = m ((c.tc : Thread Cert.SfwdIdeal.nD Cert.SfwdIdeal.τ).loc Cert.SfwdIdeal.main_arg0)
      ∧ m' ((c.tc : Thread Cert.SfwdRefIdeal.nD Cert.SfwdRefIdeal.τ).loc Cert.SfwdRefIdeal.main_arg1) = m ((c.tc : Thread Cert.SfwdIdeal.nD Cert.SfwdIdeal.τ).loc Cert.SfwdIdeal.main_arg1)
      ∧ m' ((c.tc : Thread Cert.SfwdRefIdeal.nD Cert.SfwdRefIdeal.τ).loc Cert.SfwdRefIdeal.main_arg2) = m ((c.tc : Thread Cert.SfwdIdeal.nD Cert.SfwdIdeal.τ).loc Cert.SfwdIdeal.main_arg2)
      ∧ m' ((c.tc : Thread Cert.SfwdRefIdeal.nD Cert.SfwdRefIdeal.τ).loc Cert.SfwdRefIdeal.main_arg3) = m ((c.tc : Thread Cert.SfwdIdeal.nD Cert.SfwdIdeal.τ).loc Cert.SfwdIdeal.main_arg3)
      ∧ m' ((c.tc : Thread Cert.SfwdRefIdeal.nD Cert.SfwdRefIdeal.τ).loc Cert.SfwdRefIdeal.main_arg4) = m ((c.tc : Thread Cert.SfwdIdeal.nD Cert.SfwdIdeal.τ).loc Cert.SfwdIdeal.main_arg4)
      ∧ m' ((c.tc : Thread Cert.SfwdRefIdeal.nD Cert.SfwdRefIdeal.τ).loc Cert.SfwdRefIdeal.main_arg5) = m ((c.tc : Thread Cert.SfwdIdeal.nD Cert.SfwdIdeal.τ).loc Cert.SfwdIdeal.main_arg5)) →
    ∃ (v0 : (c : Dev Cert.SfwdIdeal.nD) → Buf (Elt Ideal) ((c.tc : Thread Cert.SfwdIdeal.nD Cert.SfwdIdeal.τ).loc Cert.SfwdIdeal.main_v7)),
      θ_run (Cert.SfwdIdeal.defs (F := Ideal)) (onTc (τ := Cert.SfwdIdeal.τ) (Cert.SfwdIdeal.main (F := Ideal))) ⟨m, fun _ => 0, g⟩ (fun r => ∀ c : Dev Cert.SfwdIdeal.nD,
          r.2.mem ((c.tc : Thread Cert.SfwdIdeal.nD Cert.SfwdIdeal.τ).loc Cert.SfwdIdeal.main_v7) = v0 c
          ∧ r.2.mem ((c.tc : Thread Cert.SfwdIdeal.nD Cert.SfwdIdeal.τ).loc Cert.SfwdIdeal.main_arg0) = m ((c.tc : Thread Cert.SfwdIdeal.nD Cert.SfwdIdeal.τ).loc Cert.SfwdIdeal.main_arg0)
          ∧ r.2.mem ((c.tc : Thread Cert.SfwdIdeal.nD Cert.SfwdIdeal.τ).loc Cert.SfwdIdeal.main_arg1) = m ((c.tc : Thread Cert.SfwdIdeal.nD Cert.SfwdIdeal.τ).loc Cert.SfwdIdeal.main_arg1)
          ∧ r.2.mem ((c.tc : Thread Cert.SfwdIdeal.nD Cert.SfwdIdeal.τ).loc Cert.SfwdIdeal.main_arg2) = m ((c.tc : Thread Cert.SfwdIdeal.nD Cert.SfwdIdeal.τ).loc Cert.SfwdIdeal.main_arg2)
          ∧ r.2.mem ((c.tc : Thread Cert.SfwdIdeal.nD Cert.SfwdIdeal.τ).loc Cert.SfwdIdeal.main_arg3) = m ((c.tc : Thread Cert.SfwdIdeal.nD Cert.SfwdIdeal.τ).loc Cert.SfwdIdeal.main_arg3)
          ∧ r.2.mem ((c.tc : Thread Cert.SfwdIdeal.nD Cert.SfwdIdeal.τ).loc Cert.SfwdIdeal.main_arg4) = m ((c.tc : Thread Cert.SfwdIdeal.nD Cert.SfwdIdeal.τ).loc Cert.SfwdIdeal.main_arg4)
          ∧ r.2.mem ((c.tc : Thread Cert.SfwdIdeal.nD Cert.SfwdIdeal.τ).loc Cert.SfwdIdeal.main_arg5) = m ((c.tc : Thread Cert.SfwdIdeal.nD Cert.SfwdIdeal.τ).loc Cert.SfwdIdeal.main_arg5))
      ∧ θ_run (Cert.SfwdRefIdeal.defs (F := Ideal)) (onTc (τ := Cert.SfwdRefIdeal.τ) (Cert.SfwdRefIdeal.main (F := Ideal))) ⟨m', fun _ => 0, g'⟩ (fun r => ∀ c : Dev Cert.SfwdRefIdeal.nD,
          r.2.mem ((c.tc : Thread Cert.SfwdRefIdeal.nD Cert.SfwdRefIdeal.τ).loc Cert.SfwdRefIdeal.main_v62) = v0 c
          ∧ r.2.mem ((c.tc : Thread Cert.SfwdRefIdeal.nD Cert.SfwdRefIdeal.τ).loc Cert.SfwdRefIdeal.main_arg0) = m' ((c.tc : Thread Cert.SfwdRefIdeal.nD Cert.SfwdRefIdeal.τ).loc Cert.SfwdRefIdeal.main_arg0)
          ∧ r.2.mem ((c.tc : Thread Cert.SfwdRefIdeal.nD Cert.SfwdRefIdeal.τ).loc Cert.SfwdRefIdeal.main_arg1) = m' ((c.tc : Thread Cert.SfwdRefIdeal.nD Cert.SfwdRefIdeal.τ).loc Cert.SfwdRefIdeal.main_arg1)
          ∧ r.2.mem ((c.tc : Thread Cert.SfwdRefIdeal.nD Cert.SfwdRefIdeal.τ).loc Cert.SfwdRefIdeal.main_arg2) = m' ((c.tc : Thread Cert.SfwdRefIdeal.nD Cert.SfwdRefIdeal.τ).loc Cert.SfwdRefIdeal.main_arg2)
          ∧ r.2.mem ((c.tc : Thread Cert.SfwdRefIdeal.nD Cert.SfwdRefIdeal.τ).loc Cert.SfwdRefIdeal.main_arg3) = m' ((c.tc : Thread Cert.SfwdRefIdeal.nD Cert.SfwdRefIdeal.τ).loc Cert.SfwdRefIdeal.main_arg3)
          ∧ r.2.mem ((c.tc : Thread Cert.SfwdRefIdeal.nD Cert.SfwdRefIdeal.τ).loc Cert.SfwdRefIdeal.main_arg4) = m' ((c.tc : Thread Cert.SfwdRefIdeal.nD Cert.SfwdRefIdeal.τ).loc Cert.SfwdRefIdeal.main_arg4)
          ∧ r.2.mem ((c.tc : Thread Cert.SfwdRefIdeal.nD Cert.SfwdRefIdeal.τ).loc Cert.SfwdRefIdeal.main_arg5) = m' ((c.tc : Thread Cert.SfwdRefIdeal.nD Cert.SfwdRefIdeal.τ).loc Cert.SfwdRefIdeal.main_arg5))

def preserves_Dxin_DxinIdeal : Prop :=
  True

def algebraic_DxinIdeal_DxinRefIdeal [hDxinIdeal : Cert.DxinIdeal.Facts] [hDxinRefIdeal : Cert.DxinRefIdeal.Facts] : Prop :=
  ∀ (m : (ℓ : Loc Cert.DxinIdeal.nD Cert.DxinIdeal.τ Cert.DxinIdeal.sig) → Buf (Elt Ideal) ℓ) (g : Dev Cert.DxinIdeal.nD → PrngReg)
    (m' : (ℓ : Loc Cert.DxinRefIdeal.nD Cert.DxinRefIdeal.τ Cert.DxinRefIdeal.sig) → Buf (Elt Ideal) ℓ) (g' : Dev Cert.DxinRefIdeal.nD → PrngReg), Pre_DxinIdeal m →
    (∀ c : Dev Cert.DxinIdeal.nD,
      m' ((c.tc : Thread Cert.DxinRefIdeal.nD Cert.DxinRefIdeal.τ).loc Cert.DxinRefIdeal.main_arg0) = m ((c.tc : Thread Cert.DxinIdeal.nD Cert.DxinIdeal.τ).loc Cert.DxinIdeal.main_arg0)
      ∧ m' ((c.tc : Thread Cert.DxinRefIdeal.nD Cert.DxinRefIdeal.τ).loc Cert.DxinRefIdeal.main_arg1) = m ((c.tc : Thread Cert.DxinIdeal.nD Cert.DxinIdeal.τ).loc Cert.DxinIdeal.main_arg1)
      ∧ m' ((c.tc : Thread Cert.DxinRefIdeal.nD Cert.DxinRefIdeal.τ).loc Cert.DxinRefIdeal.main_arg2) = m ((c.tc : Thread Cert.DxinIdeal.nD Cert.DxinIdeal.τ).loc Cert.DxinIdeal.main_arg2)
      ∧ m' ((c.tc : Thread Cert.DxinRefIdeal.nD Cert.DxinRefIdeal.τ).loc Cert.DxinRefIdeal.main_arg3) = m ((c.tc : Thread Cert.DxinIdeal.nD Cert.DxinIdeal.τ).loc Cert.DxinIdeal.main_arg3)
      ∧ m' ((c.tc : Thread Cert.DxinRefIdeal.nD Cert.DxinRefIdeal.τ).loc Cert.DxinRefIdeal.main_arg4) = m ((c.tc : Thread Cert.DxinIdeal.nD Cert.DxinIdeal.τ).loc Cert.DxinIdeal.main_arg4)) →
    ∃ (v0 : (c : Dev Cert.DxinIdeal.nD) → Buf (Elt Ideal) ((c.tc : Thread Cert.DxinIdeal.nD Cert.DxinIdeal.τ).loc Cert.DxinIdeal.main_v32)),
      θ_run (Cert.DxinIdeal.defs (F := Ideal)) (onTc (τ := Cert.DxinIdeal.τ) (Cert.DxinIdeal.main (F := Ideal))) ⟨m, fun _ => 0, g⟩ (fun r => ∀ c : Dev Cert.DxinIdeal.nD,
          r.2.mem ((c.tc : Thread Cert.DxinIdeal.nD Cert.DxinIdeal.τ).loc Cert.DxinIdeal.main_v32) = v0 c
          ∧ r.2.mem ((c.tc : Thread Cert.DxinIdeal.nD Cert.DxinIdeal.τ).loc Cert.DxinIdeal.main_arg0) = m ((c.tc : Thread Cert.DxinIdeal.nD Cert.DxinIdeal.τ).loc Cert.DxinIdeal.main_arg0)
          ∧ r.2.mem ((c.tc : Thread Cert.DxinIdeal.nD Cert.DxinIdeal.τ).loc Cert.DxinIdeal.main_arg1) = m ((c.tc : Thread Cert.DxinIdeal.nD Cert.DxinIdeal.τ).loc Cert.DxinIdeal.main_arg1)
          ∧ r.2.mem ((c.tc : Thread Cert.DxinIdeal.nD Cert.DxinIdeal.τ).loc Cert.DxinIdeal.main_arg2) = m ((c.tc : Thread Cert.DxinIdeal.nD Cert.DxinIdeal.τ).loc Cert.DxinIdeal.main_arg2)
          ∧ r.2.mem ((c.tc : Thread Cert.DxinIdeal.nD Cert.DxinIdeal.τ).loc Cert.DxinIdeal.main_arg3) = m ((c.tc : Thread Cert.DxinIdeal.nD Cert.DxinIdeal.τ).loc Cert.DxinIdeal.main_arg3)
          ∧ r.2.mem ((c.tc : Thread Cert.DxinIdeal.nD Cert.DxinIdeal.τ).loc Cert.DxinIdeal.main_arg4) = m ((c.tc : Thread Cert.DxinIdeal.nD Cert.DxinIdeal.τ).loc Cert.DxinIdeal.main_arg4))
      ∧ θ_run (Cert.DxinRefIdeal.defs (F := Ideal)) (onTc (τ := Cert.DxinRefIdeal.τ) (Cert.DxinRefIdeal.main (F := Ideal))) ⟨m', fun _ => 0, g'⟩ (fun r => ∀ c : Dev Cert.DxinRefIdeal.nD,
          r.2.mem ((c.tc : Thread Cert.DxinRefIdeal.nD Cert.DxinRefIdeal.τ).loc Cert.DxinRefIdeal.main_v10) = v0 c
          ∧ r.2.mem ((c.tc : Thread Cert.DxinRefIdeal.nD Cert.DxinRefIdeal.τ).loc Cert.DxinRefIdeal.main_arg0) = m' ((c.tc : Thread Cert.DxinRefIdeal.nD Cert.DxinRefIdeal.τ).loc Cert.DxinRefIdeal.main_arg0)
          ∧ r.2.mem ((c.tc : Thread Cert.DxinRefIdeal.nD Cert.DxinRefIdeal.τ).loc Cert.DxinRefIdeal.main_arg1) = m' ((c.tc : Thread Cert.DxinRefIdeal.nD Cert.DxinRefIdeal.τ).loc Cert.DxinRefIdeal.main_arg1)
          ∧ r.2.mem ((c.tc : Thread Cert.DxinRefIdeal.nD Cert.DxinRefIdeal.τ).loc Cert.DxinRefIdeal.main_arg2) = m' ((c.tc : Thread Cert.DxinRefIdeal.nD Cert.DxinRefIdeal.τ).loc Cert.DxinRefIdeal.main_arg2)
          ∧ r.2.mem ((c.tc : Thread Cert.DxinRefIdeal.nD Cert.DxinRefIdeal.τ).loc Cert.DxinRefIdeal.main_arg3) = m' ((c.tc : Thread Cert.DxinRefIdeal.nD Cert.DxinRefIdeal.τ).loc Cert.DxinRefIdeal.main_arg3)
          ∧ r.2.mem ((c.tc : Thread Cert.DxinRefIdeal.nD Cert.DxinRefIdeal.τ).loc Cert.DxinRefIdeal.main_arg4) = m' ((c.tc : Thread Cert.DxinRefIdeal.nD Cert.DxinRefIdeal.τ).loc Cert.DxinRefIdeal.main_arg4))

def preserves_Mtn_MtnIdeal : Prop :=
  True

def algebraic_MtnIdeal_MtnRefIdeal [hMtnIdeal : Cert.MtnIdeal.Facts] [hMtnRefIdeal : Cert.MtnRefIdeal.Facts] : Prop :=
  ∀ (m : (ℓ : Loc Cert.MtnIdeal.nD Cert.MtnIdeal.τ Cert.MtnIdeal.sig) → Buf (Elt Ideal) ℓ) (g : Dev Cert.MtnIdeal.nD → PrngReg)
    (m' : (ℓ : Loc Cert.MtnRefIdeal.nD Cert.MtnRefIdeal.τ Cert.MtnRefIdeal.sig) → Buf (Elt Ideal) ℓ) (g' : Dev Cert.MtnRefIdeal.nD → PrngReg), Pre_MtnIdeal m →
    (∀ c : Dev Cert.MtnIdeal.nD,
      m' ((c.tc : Thread Cert.MtnRefIdeal.nD Cert.MtnRefIdeal.τ).loc Cert.MtnRefIdeal.main_arg0) = m ((c.tc : Thread Cert.MtnIdeal.nD Cert.MtnIdeal.τ).loc Cert.MtnIdeal.main_arg0)
      ∧ m' ((c.tc : Thread Cert.MtnRefIdeal.nD Cert.MtnRefIdeal.τ).loc Cert.MtnRefIdeal.main_arg1) = m ((c.tc : Thread Cert.MtnIdeal.nD Cert.MtnIdeal.τ).loc Cert.MtnIdeal.main_arg1)) →
    ∃ (v0 : (c : Dev Cert.MtnIdeal.nD) → Buf (Elt Ideal) ((c.tc : Thread Cert.MtnIdeal.nD Cert.MtnIdeal.τ).loc Cert.MtnIdeal.main_v13)),
      θ_run (Cert.MtnIdeal.defs (F := Ideal)) (onTc (τ := Cert.MtnIdeal.τ) (Cert.MtnIdeal.main (F := Ideal))) ⟨m, fun _ => 0, g⟩ (fun r => ∀ c : Dev Cert.MtnIdeal.nD,
          r.2.mem ((c.tc : Thread Cert.MtnIdeal.nD Cert.MtnIdeal.τ).loc Cert.MtnIdeal.main_v13) = v0 c
          ∧ r.2.mem ((c.tc : Thread Cert.MtnIdeal.nD Cert.MtnIdeal.τ).loc Cert.MtnIdeal.main_arg0) = m ((c.tc : Thread Cert.MtnIdeal.nD Cert.MtnIdeal.τ).loc Cert.MtnIdeal.main_arg0)
          ∧ r.2.mem ((c.tc : Thread Cert.MtnIdeal.nD Cert.MtnIdeal.τ).loc Cert.MtnIdeal.main_arg1) = m ((c.tc : Thread Cert.MtnIdeal.nD Cert.MtnIdeal.τ).loc Cert.MtnIdeal.main_arg1))
      ∧ θ_run (Cert.MtnRefIdeal.defs (F := Ideal)) (onTc (τ := Cert.MtnRefIdeal.τ) (Cert.MtnRefIdeal.main (F := Ideal))) ⟨m', fun _ => 0, g'⟩ (fun r => ∀ c : Dev Cert.MtnRefIdeal.nD,
          r.2.mem ((c.tc : Thread Cert.MtnRefIdeal.nD Cert.MtnRefIdeal.τ).loc Cert.MtnRefIdeal.main_v4) = v0 c
          ∧ r.2.mem ((c.tc : Thread Cert.MtnRefIdeal.nD Cert.MtnRefIdeal.τ).loc Cert.MtnRefIdeal.main_arg0) = m' ((c.tc : Thread Cert.MtnRefIdeal.nD Cert.MtnRefIdeal.τ).loc Cert.MtnRefIdeal.main_arg0)
          ∧ r.2.mem ((c.tc : Thread Cert.MtnRefIdeal.nD Cert.MtnRefIdeal.τ).loc Cert.MtnRefIdeal.main_arg1) = m' ((c.tc : Thread Cert.MtnRefIdeal.nD Cert.MtnRefIdeal.τ).loc Cert.MtnRefIdeal.main_arg1))

def preserves_Mnn_MnnIdeal : Prop :=
  True

def algebraic_MnnIdeal_MnnRefIdeal [hMnnIdeal : Cert.MnnIdeal.Facts] [hMnnRefIdeal : Cert.MnnRefIdeal.Facts] : Prop :=
  ∀ (m : (ℓ : Loc Cert.MnnIdeal.nD Cert.MnnIdeal.τ Cert.MnnIdeal.sig) → Buf (Elt Ideal) ℓ) (g : Dev Cert.MnnIdeal.nD → PrngReg)
    (m' : (ℓ : Loc Cert.MnnRefIdeal.nD Cert.MnnRefIdeal.τ Cert.MnnRefIdeal.sig) → Buf (Elt Ideal) ℓ) (g' : Dev Cert.MnnRefIdeal.nD → PrngReg), Pre_MnnIdeal m →
    (∀ c : Dev Cert.MnnIdeal.nD,
      m' ((c.tc : Thread Cert.MnnRefIdeal.nD Cert.MnnRefIdeal.τ).loc Cert.MnnRefIdeal.main_arg0) = m ((c.tc : Thread Cert.MnnIdeal.nD Cert.MnnIdeal.τ).loc Cert.MnnIdeal.main_arg0)
      ∧ m' ((c.tc : Thread Cert.MnnRefIdeal.nD Cert.MnnRefIdeal.τ).loc Cert.MnnRefIdeal.main_arg1) = m ((c.tc : Thread Cert.MnnIdeal.nD Cert.MnnIdeal.τ).loc Cert.MnnIdeal.main_arg1)) →
    ∃ (v0 : (c : Dev Cert.MnnIdeal.nD) → Buf (Elt Ideal) ((c.tc : Thread Cert.MnnIdeal.nD Cert.MnnIdeal.τ).loc Cert.MnnIdeal.main_v2)),
      θ_run (Cert.MnnIdeal.defs (F := Ideal)) (onTc (τ := Cert.MnnIdeal.τ) (Cert.MnnIdeal.main (F := Ideal))) ⟨m, fun _ => 0, g⟩ (fun r => ∀ c : Dev Cert.MnnIdeal.nD,
          r.2.mem ((c.tc : Thread Cert.MnnIdeal.nD Cert.MnnIdeal.τ).loc Cert.MnnIdeal.main_v2) = v0 c
          ∧ r.2.mem ((c.tc : Thread Cert.MnnIdeal.nD Cert.MnnIdeal.τ).loc Cert.MnnIdeal.main_arg0) = m ((c.tc : Thread Cert.MnnIdeal.nD Cert.MnnIdeal.τ).loc Cert.MnnIdeal.main_arg0)
          ∧ r.2.mem ((c.tc : Thread Cert.MnnIdeal.nD Cert.MnnIdeal.τ).loc Cert.MnnIdeal.main_arg1) = m ((c.tc : Thread Cert.MnnIdeal.nD Cert.MnnIdeal.τ).loc Cert.MnnIdeal.main_arg1))
      ∧ θ_run (Cert.MnnRefIdeal.defs (F := Ideal)) (onTc (τ := Cert.MnnRefIdeal.τ) (Cert.MnnRefIdeal.main (F := Ideal))) ⟨m', fun _ => 0, g'⟩ (fun r => ∀ c : Dev Cert.MnnRefIdeal.nD,
          r.2.mem ((c.tc : Thread Cert.MnnRefIdeal.nD Cert.MnnRefIdeal.τ).loc Cert.MnnRefIdeal.main_v2) = v0 c
          ∧ r.2.mem ((c.tc : Thread Cert.MnnRefIdeal.nD Cert.MnnRefIdeal.τ).loc Cert.MnnRefIdeal.main_arg0) = m' ((c.tc : Thread Cert.MnnRefIdeal.nD Cert.MnnRefIdeal.τ).loc Cert.MnnRefIdeal.main_arg0)
          ∧ r.2.mem ((c.tc : Thread Cert.MnnRefIdeal.nD Cert.MnnRefIdeal.τ).loc Cert.MnnRefIdeal.main_arg1) = m' ((c.tc : Thread Cert.MnnRefIdeal.nD Cert.MnnRefIdeal.τ).loc Cert.MnnRefIdeal.main_arg1))

def preserves_Mnt_MntIdeal : Prop :=
  True

def algebraic_MntIdeal_MntRefIdeal [hMntIdeal : Cert.MntIdeal.Facts] [hMntRefIdeal : Cert.MntRefIdeal.Facts] : Prop :=
  ∀ (m : (ℓ : Loc Cert.MntIdeal.nD Cert.MntIdeal.τ Cert.MntIdeal.sig) → Buf (Elt Ideal) ℓ) (g : Dev Cert.MntIdeal.nD → PrngReg)
    (m' : (ℓ : Loc Cert.MntRefIdeal.nD Cert.MntRefIdeal.τ Cert.MntRefIdeal.sig) → Buf (Elt Ideal) ℓ) (g' : Dev Cert.MntRefIdeal.nD → PrngReg), Pre_MntIdeal m →
    (∀ c : Dev Cert.MntIdeal.nD,
      m' ((c.tc : Thread Cert.MntRefIdeal.nD Cert.MntRefIdeal.τ).loc Cert.MntRefIdeal.main_arg0) = m ((c.tc : Thread Cert.MntIdeal.nD Cert.MntIdeal.τ).loc Cert.MntIdeal.main_arg0)
      ∧ m' ((c.tc : Thread Cert.MntRefIdeal.nD Cert.MntRefIdeal.τ).loc Cert.MntRefIdeal.main_arg1) = m ((c.tc : Thread Cert.MntIdeal.nD Cert.MntIdeal.τ).loc Cert.MntIdeal.main_arg1)) →
    ∃ (v0 : (c : Dev Cert.MntIdeal.nD) → Buf (Elt Ideal) ((c.tc : Thread Cert.MntIdeal.nD Cert.MntIdeal.τ).loc Cert.MntIdeal.main_v2)),
      θ_run (Cert.MntIdeal.defs (F := Ideal)) (onTc (τ := Cert.MntIdeal.τ) (Cert.MntIdeal.main (F := Ideal))) ⟨m, fun _ => 0, g⟩ (fun r => ∀ c : Dev Cert.MntIdeal.nD,
          r.2.mem ((c.tc : Thread Cert.MntIdeal.nD Cert.MntIdeal.τ).loc Cert.MntIdeal.main_v2) = v0 c
          ∧ r.2.mem ((c.tc : Thread Cert.MntIdeal.nD Cert.MntIdeal.τ).loc Cert.MntIdeal.main_arg0) = m ((c.tc : Thread Cert.MntIdeal.nD Cert.MntIdeal.τ).loc Cert.MntIdeal.main_arg0)
          ∧ r.2.mem ((c.tc : Thread Cert.MntIdeal.nD Cert.MntIdeal.τ).loc Cert.MntIdeal.main_arg1) = m ((c.tc : Thread Cert.MntIdeal.nD Cert.MntIdeal.τ).loc Cert.MntIdeal.main_arg1))
      ∧ θ_run (Cert.MntRefIdeal.defs (F := Ideal)) (onTc (τ := Cert.MntRefIdeal.τ) (Cert.MntRefIdeal.main (F := Ideal))) ⟨m', fun _ => 0, g'⟩ (fun r => ∀ c : Dev Cert.MntRefIdeal.nD,
          r.2.mem ((c.tc : Thread Cert.MntRefIdeal.nD Cert.MntRefIdeal.τ).loc Cert.MntRefIdeal.main_v4) = v0 c
          ∧ r.2.mem ((c.tc : Thread Cert.MntRefIdeal.nD Cert.MntRefIdeal.τ).loc Cert.MntRefIdeal.main_arg0) = m' ((c.tc : Thread Cert.MntRefIdeal.nD Cert.MntRefIdeal.τ).loc Cert.MntRefIdeal.main_arg0)
          ∧ r.2.mem ((c.tc : Thread Cert.MntRefIdeal.nD Cert.MntRefIdeal.τ).loc Cert.MntRefIdeal.main_arg1) = m' ((c.tc : Thread Cert.MntRefIdeal.nD Cert.MntRefIdeal.τ).loc Cert.MntRefIdeal.main_arg1))

def Claim : Prop :=
  ∃ (hGate : Cert.Gate.Facts) (hGateIdeal : Cert.GateIdeal.Facts) (hGateRefIdeal : Cert.GateRefIdeal.Facts) (hAttn : Cert.Attn.Facts) (hAttnIdeal : Cert.AttnIdeal.Facts) (hAttnRefIdeal : Cert.AttnRefIdeal.Facts) (hSgu : Cert.Sgu.Facts) (hSguIdeal : Cert.SguIdeal.Facts) (hSguRefIdeal : Cert.SguRefIdeal.Facts) (hLoss : Cert.Loss.Facts) (hLossIdeal : Cert.LossIdeal.Facts) (hLossRefIdeal : Cert.LossRefIdeal.Facts) (hMemory : Cert.Memory.Facts) (hMemoryIdeal : Cert.MemoryIdeal.Facts) (hMemoryRefIdeal : Cert.MemoryRefIdeal.Facts) (hAfwd : Cert.Afwd.Facts) (hAfwdIdeal : Cert.AfwdIdeal.Facts) (hAfwdRefIdeal : Cert.AfwdRefIdeal.Facts) (hDxattn : Cert.Dxattn.Facts) (hDxattnIdeal : Cert.DxattnIdeal.Facts) (hDxattnRefIdeal : Cert.DxattnRefIdeal.Facts) (hDxmix : Cert.Dxmix.Facts) (hDxmixIdeal : Cert.DxmixIdeal.Facts) (hDxmixRefIdeal : Cert.DxmixRefIdeal.Facts) (hFfn : Cert.Ffn.Facts) (hFfnIdeal : Cert.FfnIdeal.Facts) (hFfnRefIdeal : Cert.FfnRefIdeal.Facts) (hHgrn : Cert.Hgrn.Facts) (hHgrnIdeal : Cert.HgrnIdeal.Facts) (hHfwd : Cert.Hfwd.Facts) (hHfwdIdeal : Cert.HfwdIdeal.Facts) (hNfwd : Cert.Nfwd.Facts) (hNfwdIdeal : Cert.NfwdIdeal.Facts) (hNfwdRefIdeal : Cert.NfwdRefIdeal.Facts) (hMfwd : Cert.Mfwd.Facts) (hMfwdIdeal : Cert.MfwdIdeal.Facts) (hMfwdRefIdeal : Cert.MfwdRefIdeal.Facts) (hSfwd : Cert.Sfwd.Facts) (hSfwdIdeal : Cert.SfwdIdeal.Facts) (hSfwdRefIdeal : Cert.SfwdRefIdeal.Facts) (hDxin : Cert.Dxin.Facts) (hDxinIdeal : Cert.DxinIdeal.Facts) (hDxinRefIdeal : Cert.DxinRefIdeal.Facts) (hMtn : Cert.Mtn.Facts) (hMtnIdeal : Cert.MtnIdeal.Facts) (hMtnRefIdeal : Cert.MtnRefIdeal.Facts) (hMnn : Cert.Mnn.Facts) (hMnnIdeal : Cert.MnnIdeal.Facts) (hMnnRefIdeal : Cert.MnnRefIdeal.Facts) (hMnt : Cert.Mnt.Facts) (hMntIdeal : Cert.MntIdeal.Facts) (hMntRefIdeal : Cert.MntRefIdeal.Facts) (hPre_finite : Cert.Pre_finite.Facts) (hPre_finite2 : Cert.Pre_finite2.Facts) (hPre_finite3 : Cert.Pre_finite3.Facts) (hPre_finite4 : Cert.Pre_finite4.Facts) (hPre_finite7 : Cert.Pre_finite7.Facts) (hPre_finite8 : Cert.Pre_finite8.Facts) (hPre_finite9 : Cert.Pre_finite9.Facts),
    quiescent_Gate (hGate := hGate)
    ∧ quiescent_GateIdeal (hGateIdeal := hGateIdeal)
    ∧ quiescent_GateIdeal_pre_finite (hGateIdeal := hGateIdeal) (hPre_finite := hPre_finite)
    ∧ quiescent_GateRefIdeal (hGateRefIdeal := hGateRefIdeal)
    ∧ quiescent_GateRefIdeal_pre_finite (hGateRefIdeal := hGateRefIdeal) (hPre_finite := hPre_finite)
    ∧ quiescent_Attn (hAttn := hAttn)
    ∧ quiescent_AttnIdeal (hAttnIdeal := hAttnIdeal)
    ∧ quiescent_AttnIdeal_pre_finite2 (hAttnIdeal := hAttnIdeal) (hPre_finite2 := hPre_finite2)
    ∧ quiescent_AttnRefIdeal (hAttnRefIdeal := hAttnRefIdeal)
    ∧ quiescent_AttnRefIdeal_pre_finite2 (hAttnRefIdeal := hAttnRefIdeal) (hPre_finite2 := hPre_finite2)
    ∧ quiescent_Sgu (hSgu := hSgu)
    ∧ quiescent_SguIdeal (hSguIdeal := hSguIdeal)
    ∧ quiescent_SguIdeal_pre_finite3 (hSguIdeal := hSguIdeal) (hPre_finite3 := hPre_finite3)
    ∧ quiescent_SguRefIdeal (hSguRefIdeal := hSguRefIdeal)
    ∧ quiescent_SguRefIdeal_pre_finite3 (hSguRefIdeal := hSguRefIdeal) (hPre_finite3 := hPre_finite3)
    ∧ quiescent_Loss (hLoss := hLoss)
    ∧ quiescent_LossIdeal (hLossIdeal := hLossIdeal)
    ∧ quiescent_LossIdeal_pre_finite4 (hLossIdeal := hLossIdeal) (hPre_finite4 := hPre_finite4)
    ∧ quiescent_LossRefIdeal (hLossRefIdeal := hLossRefIdeal)
    ∧ quiescent_LossRefIdeal_pre_finite4 (hLossRefIdeal := hLossRefIdeal) (hPre_finite4 := hPre_finite4)
    ∧ quiescent_Memory (hMemory := hMemory)
    ∧ quiescent_MemoryIdeal (hMemoryIdeal := hMemoryIdeal)
    ∧ quiescent_MemoryRefIdeal (hMemoryRefIdeal := hMemoryRefIdeal)
    ∧ quiescent_Afwd (hAfwd := hAfwd)
    ∧ quiescent_AfwdIdeal (hAfwdIdeal := hAfwdIdeal)
    ∧ quiescent_AfwdRefIdeal (hAfwdRefIdeal := hAfwdRefIdeal)
    ∧ quiescent_Dxattn (hDxattn := hDxattn)
    ∧ quiescent_DxattnIdeal (hDxattnIdeal := hDxattnIdeal)
    ∧ quiescent_DxattnIdeal_pre_finite7 (hDxattnIdeal := hDxattnIdeal) (hPre_finite7 := hPre_finite7)
    ∧ quiescent_DxattnRefIdeal (hDxattnRefIdeal := hDxattnRefIdeal)
    ∧ quiescent_DxattnRefIdeal_pre_finite7 (hDxattnRefIdeal := hDxattnRefIdeal) (hPre_finite7 := hPre_finite7)
    ∧ quiescent_Dxmix (hDxmix := hDxmix)
    ∧ quiescent_DxmixIdeal (hDxmixIdeal := hDxmixIdeal)
    ∧ quiescent_DxmixIdeal_pre_finite8 (hDxmixIdeal := hDxmixIdeal) (hPre_finite8 := hPre_finite8)
    ∧ quiescent_DxmixRefIdeal (hDxmixRefIdeal := hDxmixRefIdeal)
    ∧ quiescent_DxmixRefIdeal_pre_finite8 (hDxmixRefIdeal := hDxmixRefIdeal) (hPre_finite8 := hPre_finite8)
    ∧ quiescent_Ffn (hFfn := hFfn)
    ∧ quiescent_FfnIdeal (hFfnIdeal := hFfnIdeal)
    ∧ quiescent_FfnIdeal_pre_finite9 (hFfnIdeal := hFfnIdeal) (hPre_finite9 := hPre_finite9)
    ∧ quiescent_FfnRefIdeal (hFfnRefIdeal := hFfnRefIdeal)
    ∧ quiescent_FfnRefIdeal_pre_finite9 (hFfnRefIdeal := hFfnRefIdeal) (hPre_finite9 := hPre_finite9)
    ∧ quiescent_Hgrn (hHgrn := hHgrn)
    ∧ quiescent_HgrnIdeal (hHgrnIdeal := hHgrnIdeal)
    ∧ quiescent_Hfwd (hHfwd := hHfwd)
    ∧ quiescent_HfwdIdeal (hHfwdIdeal := hHfwdIdeal)
    ∧ quiescent_Nfwd (hNfwd := hNfwd)
    ∧ quiescent_NfwdIdeal (hNfwdIdeal := hNfwdIdeal)
    ∧ quiescent_NfwdRefIdeal (hNfwdRefIdeal := hNfwdRefIdeal)
    ∧ quiescent_Mfwd (hMfwd := hMfwd)
    ∧ quiescent_MfwdIdeal (hMfwdIdeal := hMfwdIdeal)
    ∧ quiescent_MfwdRefIdeal (hMfwdRefIdeal := hMfwdRefIdeal)
    ∧ quiescent_Sfwd (hSfwd := hSfwd)
    ∧ quiescent_SfwdIdeal (hSfwdIdeal := hSfwdIdeal)
    ∧ quiescent_SfwdRefIdeal (hSfwdRefIdeal := hSfwdRefIdeal)
    ∧ quiescent_Dxin (hDxin := hDxin)
    ∧ quiescent_DxinIdeal (hDxinIdeal := hDxinIdeal)
    ∧ quiescent_DxinRefIdeal (hDxinRefIdeal := hDxinRefIdeal)
    ∧ quiescent_Mtn (hMtn := hMtn)
    ∧ quiescent_MtnIdeal (hMtnIdeal := hMtnIdeal)
    ∧ quiescent_MtnRefIdeal (hMtnRefIdeal := hMtnRefIdeal)
    ∧ quiescent_Mnn (hMnn := hMnn)
    ∧ quiescent_MnnIdeal (hMnnIdeal := hMnnIdeal)
    ∧ quiescent_MnnRefIdeal (hMnnRefIdeal := hMnnRefIdeal)
    ∧ quiescent_Mnt (hMnt := hMnt)
    ∧ quiescent_MntIdeal (hMntIdeal := hMntIdeal)
    ∧ quiescent_MntRefIdeal (hMntRefIdeal := hMntRefIdeal)
    ∧ preserves_Gate_GateIdeal
    ∧ algebraic_GateIdeal_GateRefIdeal_pre_finite (hGateIdeal := hGateIdeal) (hGateRefIdeal := hGateRefIdeal) (hPre_finite := hPre_finite)
    ∧ preserves_Attn_AttnIdeal
    ∧ algebraic_AttnIdeal_AttnRefIdeal_pre_finite2 (hAttnIdeal := hAttnIdeal) (hAttnRefIdeal := hAttnRefIdeal) (hPre_finite2 := hPre_finite2)
    ∧ preserves_Sgu_SguIdeal
    ∧ algebraic_SguIdeal_SguRefIdeal_pre_finite3 (hSguIdeal := hSguIdeal) (hSguRefIdeal := hSguRefIdeal) (hPre_finite3 := hPre_finite3)
    ∧ preserves_Loss_LossIdeal
    ∧ algebraic_LossIdeal_LossRefIdeal_pre_finite4 (hLossIdeal := hLossIdeal) (hLossRefIdeal := hLossRefIdeal) (hPre_finite4 := hPre_finite4)
    ∧ preserves_Memory_MemoryIdeal
    ∧ algebraic_MemoryIdeal_MemoryRefIdeal (hMemoryIdeal := hMemoryIdeal) (hMemoryRefIdeal := hMemoryRefIdeal)
    ∧ preserves_Afwd_AfwdIdeal
    ∧ algebraic_AfwdIdeal_AfwdRefIdeal (hAfwdIdeal := hAfwdIdeal) (hAfwdRefIdeal := hAfwdRefIdeal)
    ∧ preserves_Dxattn_DxattnIdeal
    ∧ algebraic_DxattnIdeal_DxattnRefIdeal_pre_finite7 (hDxattnIdeal := hDxattnIdeal) (hDxattnRefIdeal := hDxattnRefIdeal) (hPre_finite7 := hPre_finite7)
    ∧ preserves_Dxmix_DxmixIdeal
    ∧ algebraic_DxmixIdeal_DxmixRefIdeal_pre_finite8 (hDxmixIdeal := hDxmixIdeal) (hDxmixRefIdeal := hDxmixRefIdeal) (hPre_finite8 := hPre_finite8)
    ∧ preserves_Ffn_FfnIdeal
    ∧ algebraic_FfnIdeal_FfnRefIdeal_pre_finite9 (hFfnIdeal := hFfnIdeal) (hFfnRefIdeal := hFfnRefIdeal) (hPre_finite9 := hPre_finite9)
    ∧ preserves_Hgrn_HgrnIdeal
    ∧ preserves_Hfwd_HfwdIdeal
    ∧ preserves_Nfwd_NfwdIdeal
    ∧ algebraic_NfwdIdeal_NfwdRefIdeal (hNfwdIdeal := hNfwdIdeal) (hNfwdRefIdeal := hNfwdRefIdeal)
    ∧ preserves_Mfwd_MfwdIdeal
    ∧ algebraic_MfwdIdeal_MfwdRefIdeal (hMfwdIdeal := hMfwdIdeal) (hMfwdRefIdeal := hMfwdRefIdeal)
    ∧ preserves_Sfwd_SfwdIdeal
    ∧ algebraic_SfwdIdeal_SfwdRefIdeal (hSfwdIdeal := hSfwdIdeal) (hSfwdRefIdeal := hSfwdRefIdeal)
    ∧ preserves_Dxin_DxinIdeal
    ∧ algebraic_DxinIdeal_DxinRefIdeal (hDxinIdeal := hDxinIdeal) (hDxinRefIdeal := hDxinRefIdeal)
    ∧ preserves_Mtn_MtnIdeal
    ∧ algebraic_MtnIdeal_MtnRefIdeal (hMtnIdeal := hMtnIdeal) (hMtnRefIdeal := hMtnRefIdeal)
    ∧ preserves_Mnn_MnnIdeal
    ∧ algebraic_MnnIdeal_MnnRefIdeal (hMnnIdeal := hMnnIdeal) (hMnnRefIdeal := hMnnRefIdeal)
    ∧ preserves_Mnt_MntIdeal
    ∧ algebraic_MntIdeal_MntRefIdeal (hMntIdeal := hMntIdeal) (hMntRefIdeal := hMntRefIdeal)
-- ==== Pre_finite.lean ====
abbrev S4096x1024 : Shape := ⟨2, ![4096, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S4096x1024 .f32) (main_arg1 : FVec F S1024x2816 .f32) (main_arg2 : FVec F S1024x2816 .f32) (main_arg3 : FVec F S2816x1024 .f32) (main_arg4 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x2816 .f32 := Host.absf main_arg2
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : IVec S_ 1 := andi main_v3 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S4096x1024 .f32 := Host.absf main_arg4
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_v13 main_v16
-- ==== Pre_finite2.lean ====
abbrev S4096x1024 : Shape := ⟨2, ![4096, 1024]⟩
abbrev S256x1024 : Shape := ⟨2, ![256, 1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S4096x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  main_v23

def fn {F : FTy → Type} [FloatOps F] (main_arg0 : FVec F S4096x1024 .f32) (main_arg1 : FVec F S256x1024 .f32) (main_arg2 : FVec F S256x1024 .f32) (main_arg3 : FVec F S1024x1024 .f32) (main_arg4 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S256x1024 .f32 := Host.absf main_arg2
  let main_cst_2 : FVec F S_ .f32 := constant S_ .f32 0x7F800000#32
  let main_v10 : FVec F S256x1024 .f32 := broadcastInDim S256x1024 ![] bcast_S_S256x1024 main_cst_2
  let main_v11 : IVec S256x1024 1 := cmpf .olt main_v9 main_v10
  let main_c_3 : IVec S_ 1 := constantI S_ 1 1#1
  let main_v12 : IVec S_ 1 := (fun x v => Host.reduce IntOp.andi x v reducesTo_S256x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Pre_finite3.lean ====
abbrev S4096x3072 : Shape := ⟨2, ![4096, 3072]⟩
abbrev S4096x1024 : Shape := ⟨2, ![4096, 1024]⟩
abbrev S1x4x128 : Shape := ⟨3, ![1, 4, 128]⟩
abbrev S1x4x128x128 : Shape := ⟨4, ![1, 4, 128, 128]⟩
abbrev S_ : Shape := ⟨0, ![]⟩

class Facts : Prop where
  bcast_S_S4096x3072 : S_.BroadcastsInDim S4096x3072 (![] : Fin 0 → Fin S4096x3072.rank)
  reducesTo_S4096x3072_S_d0_1 : S4096x3072.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1x4x128 : S_.BroadcastsInDim S1x4x128 (![] : Fin 0 → Fin S1x4x128.rank)
  reducesTo_S1x4x128_S_d0_1_2 : S1x4x128.ReducesTo [0, 1, 2] S_
  bcast_S_S1x4x128x128 : S_.BroadcastsInDim S1x4x128x128 (![] : Fin 0 → Fin S1x4x128x128.rank)
  reducesTo_S1x4x128x128_S_d0_1_2_3 : S1x4x128x128.ReducesTo [0, 1, 2, 3] S_

variable [Facts]

def fn_part1 {F : FTy → Type} [FloatOps F] (main_arg4 : FVec F S1x4x128x128 .f32) (main_arg5 : FVec F S1x4x128 .f32) (main_v13 : IVec S_ 1) (main_v16 : IVec S1x4x128 1) : IVec S_ 1 :=
  let main_c_5 : IVec S_ 1 := constantI S_ 1 1#1
  let main_v17 : IVec S_ 1 := (fun x v => Host.reduce IntOp.andi x v reducesTo_S1x4x128_S_d0_1_2 h_S_) main_v16 main_c_5
  let main_v18 : IVec S_ 1 := andi main_v13 main_v17
  let main_v19 : FVec F S1x4x128x128 .f32 := Host.absf main_arg4
  let main_cst_6 : FVec F S_ .f32 := constant S_ .f32 0x7F800000#32
  let main_v20 : FVec F S1x4x128x128 .f32 := broadcastInDim S1x4x128x128 ![] bcast_S_S1x4x128x128 main_cst_6
  let main_v21 : IVec S1x4x128x128 1 := cmpf .olt main_v19 main_v20
  let main_c_7 : IVec S_ 1 := constantI S_ 1 1#1
  let main_v22 : IVec S_ 1 := (fun x v => Host.reduce IntOp.andi x v reducesTo_S1x4x128x128_S_d0_1_2_3 h_S_) main_v21 main_c_7
  let main_v23 : IVec S_ 1 := andi main_v18 main_v22
  let main_v24 : FVec F S1x4x128 .f32 := Host.absf main_arg5
  let main_cst_8 : FVec F S_ .f32 := constant S_ .f32 0x7F800000#32
  let main_v25 : FVec F S1x4x128 .f32 := broadcastInDim S1x4x128 ![] bcast_S_S1x4x128 main_cst_8
  let main_v26 : IVec S1x4x128 1 := cmpf .olt main_v24 main_v25
  let main_c_9 : IVec S_ 1 := constantI S_ 1 1#1
  let main_v27 : IVec S_ 1 := (fun x v => Host.reduce IntOp.andi x v reducesTo_S1x4x128_S_d0_1_2 h_S_) main_v26 main_c_9
  let main_v28 : IVec S_ 1 := andi main_v23 main_v27
  main_v28

def fn {F : FTy → Type} [FloatOps F] (main_arg0 : FVec F S4096x3072 .f32) (main_arg1 : FVec F S4096x1024 .f32) (main_arg2 : FVec F S1x4x128 .f32) (main_arg3 : FVec F S1x4x128 .f32) (main_arg4 : FVec F S1x4x128x128 .f32) (main_arg5 : FVec F S1x4x128 .f32) : IVec S_ 1 :=
  let main_v0 : FVec F S4096x3072 .f32 := Host.absf main_arg0
  let main_cst : FVec F S_ .f32 := constant S_ .f32 0x7F800000#32
  let main_v1 : FVec F S4096x3072 .f32 := broadcastInDim S4096x3072 ![] bcast_S_S4096x3072 main_cst
  let main_v2 : IVec S4096x3072 1 := cmpf .olt main_v0 main_v1
  let main_c : IVec S_ 1 := constantI S_ 1 1#1
  let main_v3 : IVec S_ 1 := (fun x v => Host.reduce IntOp.andi x v reducesTo_S4096x3072_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1x4x128 .f32 := Host.absf main_arg2
  let main_cst_2 : FVec F S_ .f32 := constant S_ .f32 0x7F800000#32
  let main_v10 : FVec F S1x4x128 .f32 := broadcastInDim S1x4x128 ![] bcast_S_S1x4x128 main_cst_2
  let main_v11 : IVec S1x4x128 1 := cmpf .olt main_v9 main_v10
  let main_c_3 : IVec S_ 1 := constantI S_ 1 1#1
  let main_v12 : IVec S_ 1 := (fun x v => Host.reduce IntOp.andi x v reducesTo_S1x4x128_S_d0_1_2 h_S_) main_v11 main_c_3
  let main_v13 : IVec S_ 1 := andi main_v8 main_v12
  let main_v14 : FVec F S1x4x128 .f32 := Host.absf main_arg3
  let main_cst_4 : FVec F S_ .f32 := constant S_ .f32 0x7F800000#32
  let main_v15 : FVec F S1x4x128 .f32 := broadcastInDim S1x4x128 ![] bcast_S_S1x4x128 main_cst_4
  let main_v16 : IVec S1x4x128 1 := cmpf .olt main_v14 main_v15
  fn_part1 (F := F) main_arg4 main_arg5 main_v13 main_v16
-- ==== Pre_finite4.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩

class Facts : Prop where
  bcast_S_S4096x2816 : S_.BroadcastsInDim S4096x2816 (![] : Fin 0 → Fin S4096x2816.rank)
  reducesTo_S4096x2816_S_d0_1 : S4096x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_arg7 : FVec F S4096x1024 .f32) (main_v33 : IVec S_ 1) : IVec S_ 1 :=
  let main_v34 : FVec F S4096x1024 .f32 := Host.absf main_arg7
  let main_cst_12 : FVec F S_ .f32 := constant S_ .f32 0x7F800000#32
  let main_v35 : FVec F S4096x1024 .f32 := broadcastInDim S4096x1024 ![] bcast_S_S4096x1024 main_cst_12
  let main_v36 : IVec S4096x1024 1 := cmpf .olt main_v34 main_v35
  let main_c_13 : IVec S_ 1 := constantI S_ 1 1#1
  let main_v37 : IVec S_ 1 := (fun x v => Host.reduce IntOp.andi x v reducesTo_S4096x1024_S_d0_1 h_S_) main_v36 main_c_13
  let main_v38 : IVec S_ 1 := andi main_v33 main_v37
  main_v38

def fn_part1 {F : FTy → Type} [FloatOps F] (main_arg4 : FVec F S1x1024 .f32) (main_arg5 : FVec F S1x1024 .f32) (main_arg6 : FVec F S1x1024 .f32) (main_arg7 : FVec F S4096x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S1x1024 .f32 := Host.absf main_arg6
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : IVec S_ 1 := andi main_v28 main_v32
  fn_part2 (F := F) main_arg7 main_v33

def fn {F : FTy → Type} [FloatOps F] (main_arg0 : FVec F S4096x2816 .f32) (main_arg1 : FVec F S2816x1024 .f32) (main_arg2 : FVec F S4096x1024 .f32) (main_arg3 : FVec F S1x1024 .f32) (main_arg4 : FVec F S1x1024 .f32) (main_arg5 : FVec F S1x1024 .f32) (main_arg6 : FVec F S1x1024 .f32) (main_arg7 : FVec F S4096x1024 .f32) : IVec S_ 1 :=
  let main_v0 : FVec F S4096x2816 .f32 := Host.absf main_arg0
  let main_cst : FVec F S_ .f32 := constant S_ .f32 0x7F800000#32
  let main_v1 : FVec F S4096x2816 .f32 := broadcastInDim S4096x2816 ![] bcast_S_S4096x2816 main_cst
  let main_v2 : IVec S4096x2816 1 := cmpf .olt main_v0 main_v1
  let main_c : IVec S_ 1 := constantI S_ 1 1#1
  let main_v3 : IVec S_ 1 := (fun x v => Host.reduce IntOp.andi x v reducesTo_S4096x2816_S_d0_1 h_S_) main_v2 main_c
  let main_v4 : FVec F S2816x1024 .f32 := Host.absf main_arg1
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_arg6 main_arg7 main_v13 main_v16
-- ==== Pre_finite7.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_arg8 : FVec F S4096x1024 .f32) (main_arg9 : FVec F S4096x1024 .f32) (main_v33 : IVec S_ 1) : IVec S_ 1 :=
  let main_v34 : FVec F S4096x1024 .f32 := Host.absf main_arg8
  let main_cst_12 : FVec F S_ .f32 := constant S_ .f32 0x7F800000#32
  let main_v35 : FVec F S4096x1024 .f32 := broadcastInDim S4096x1024 ![] bcast_S_S4096x1024 main_cst_12
  let main_v36 : IVec S4096x1024 1 := cmpf .olt main_v34 main_v35
  let main_c_13 : IVec S_ 1 := constantI S_ 1 1#1
  let main_v37 : IVec S_ 1 := (fun x v => Host.reduce IntOp.andi x v reducesTo_S4096x1024_S_d0_1 h_S_) main_v36 main_c_13
  let main_v38 : IVec S_ 1 := andi main_v33 main_v37
  let main_v39 : FVec F S4096x1024 .f32 := Host.absf main_arg9
  let main_cst_14 : FVec F S_ .f32 := constant S_ .f32 0x7F800000#32
  let main_v40 : FVec F S4096x1024 .f32 := broadcastInDim S4096x1024 ![] bcast_S_S4096x1024 main_cst_14
  let main_v41 : IVec S4096x1024 1 := cmpf .olt main_v39 main_v40
  let main_c_15 : IVec S_ 1 := constantI S_ 1 1#1
  let main_v42 : IVec S_ 1 := (fun x v => Host.reduce IntOp.andi x v reducesTo_S4096x1024_S_d0_1 h_S_) main_v41 main_c_15
  let main_v43 : IVec S_ 1 := andi main_v38 main_v42
  main_v43

def fn_part1 {F : FTy → Type} [FloatOps F] (main_arg4 : FVec F S1x1024 .f32) (main_arg5 : FVec F S1x1024 .f32) (main_arg7 : FVec F S1024x1024 .f32) (main_arg8 : FVec F S4096x1024 .f32) (main_arg9 : FVec F S4096x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S1024x1024 .f32 := Host.absf main_arg7
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg8 main_arg9 main_v33

def fn {F : FTy → Type} [FloatOps F] (main_arg0 : FVec F S4096x1024 .f32) (main_arg1 : FVec F S1024x1024 .f32) (main_arg2 : FVec F S4096x1024 .f32) (main_arg3 : FVec F S1x1024 .f32) (main_arg4 : FVec F S1x1024 .f32) (main_arg5 : FVec F S1x1024 .f32) (main_arg6 : FVec F S1x1024 .f32) (main_arg7 : FVec F S1024x1024 .f32) (main_arg8 : FVec F S4096x1024 .f32) (main_arg9 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_arg7 main_arg8 main_arg9 main_v13 main_v16
-- ==== Pre_finite8.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1024x3072 : Shape := ⟨2, ![1024, 3072]⟩
abbrev S4096x3072 : Shape := ⟨2, ![4096, 3072]⟩
abbrev S_ : Shape := ⟨0, ![]⟩

class Facts : Prop where
  bcast_S_S4096x2816 : S_.BroadcastsInDim S4096x2816 (![] : Fin 0 → Fin S4096x2816.rank)
  reducesTo_S4096x2816_S_d0_1 : S4096x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x3072 : S_.BroadcastsInDim S1024x3072 (![] : Fin 0 → Fin S1024x3072.rank)
  reducesTo_S1024x3072_S_d0_1 : S1024x3072.ReducesTo [0, 1] S_
  bcast_S_S4096x3072 : S_.BroadcastsInDim S4096x3072 (![] : Fin 0 → Fin S4096x3072.rank)
  reducesTo_S4096x3072_S_d0_1 : S4096x3072.ReducesTo [0, 1] S_

variable [Facts]

def fn_part1 {F : FTy → Type} [FloatOps F] (main_arg5 : FVec F S1024x3072 .f32) (main_arg6 : FVec F S4096x1024 .f32) (main_arg7 : FVec F S4096x3072 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1024x3072 .f32 := Host.absf main_arg5
  let main_cst_6 : FVec F S_ .f32 := constant S_ .f32 0x7F800000#32
  let main_v20 : FVec F S1024x3072 .f32 := broadcastInDim S1024x3072 ![] bcast_S_S1024x3072 main_cst_6
  let main_v21 : IVec S1024x3072 1 := cmpf .olt main_v19 main_v20
  let main_c_7 : IVec S_ 1 := constantI S_ 1 1#1
  let main_v22 : IVec S_ 1 := (fun x v => Host.reduce IntOp.andi x v reducesTo_S1024x3072_S_d0_1 h_S_) main_v21 main_c_7
  let main_v23 : IVec S_ 1 := andi main_v18 main_v22
  let main_v24 : FVec F S4096x1024 .f32 := Host.absf main_arg6
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S4096x3072 .f32 := Host.absf main_arg7
  let main_cst_10 : FVec F S_ .f32 := constant S_ .f32 0x7F800000#32
  let main_v30 : FVec F S4096x3072 .f32 := broadcastInDim S4096x3072 ![] bcast_S_S4096x3072 main_cst_10
  let main_v31 : IVec S4096x3072 1 := cmpf .olt main_v29 main_v30
  let main_c_11 : IVec S_ 1 := constantI S_ 1 1#1
  let main_v32 : IVec S_ 1 := (fun x v => Host.reduce IntOp.andi x v reducesTo_S4096x3072_S_d0_1 h_S_) main_v31 main_c_11
  let main_v33 : IVec S_ 1 := andi main_v28 main_v32
  main_v33

def fn {F : FTy → Type} [FloatOps F] (main_arg0 : FVec F S4096x2816 .f32) (main_arg1 : FVec F S2816x1024 .f32) (main_arg2 : FVec F S4096x1024 .f32) (main_arg3 : FVec F S1x1024 .f32) (main_arg4 : FVec F S1x1024 .f32) (main_arg5 : FVec F S1024x3072 .f32) (main_arg6 : FVec F S4096x1024 .f32) (main_arg7 : FVec F S4096x3072 .f32) : IVec S_ 1 :=
  let main_v0 : FVec F S4096x2816 .f32 := Host.absf main_arg0
  let main_cst : FVec F S_ .f32 := constant S_ .f32 0x7F800000#32
  let main_v1 : FVec F S4096x2816 .f32 := broadcastInDim S4096x2816 ![] bcast_S_S4096x2816 main_cst
  let main_v2 : IVec S4096x2816 1 := cmpf .olt main_v0 main_v1
  let main_c : IVec S_ 1 := constantI S_ 1 1#1
  let main_v3 : IVec S_ 1 := (fun x v => Host.reduce IntOp.andi x v reducesTo_S4096x2816_S_d0_1 h_S_) main_v2 main_c
  let main_v4 : FVec F S2816x1024 .f32 := Host.absf main_arg1
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg5 main_arg6 main_arg7 main_v13 main_v16
-- ==== Pre_finite9.lean ====
abbrev S4096x1024 : Shape := ⟨2, ![4096, 1024]⟩
abbrev S1024x1024 : Shape := ⟨2, ![1024, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part3 {F : FTy → Type} [FloatOps F] (main_v48 : IVec S_ 1) (main_v49 : FVec F S4096x1024 .f32) (main_v50 : FVec F S4096x1024 .f32) : IVec S_ 1 :=
  let main_v51 : IVec S4096x1024 1 := cmpf .olt main_v49 main_v50
  let main_c_19 : IVec S_ 1 := constantI S_ 1 1#1
  let main_v52 : IVec S_ 1 := (fun x v => Host.reduce IntOp.andi x v reducesTo_S4096x1024_S_d0_1 h_S_) main_v51 main_c_19
  let main_v53 : IVec S_ 1 := andi main_v48 main_v52
  main_v53

def fn_part2 {F : FTy → Type} [FloatOps F] (main_arg7 : FVec F S1024x2816 .f32) (main_arg8 : FVec F S1024x2816 .f32) (main_arg9 : FVec F S2816x1024 .f32) (main_arg10 : FVec F S4096x1024 .f32) (main_v33 : IVec S_ 1) : IVec S_ 1 :=
  let main_v34 : FVec F S1024x2816 .f32 := Host.absf main_arg7
  let main_cst_12 : FVec F S_ .f32 := constant S_ .f32 0x7F800000#32
  let main_v35 : FVec F S1024x2816 .f32 := broadcastInDim S1024x2816 ![] bcast_S_S1024x2816 main_cst_12
  let main_v36 : IVec S1024x2816 1 := cmpf .olt main_v34 main_v35
  let main_c_13 : IVec S_ 1 := constantI S_ 1 1#1
  let main_v37 : IVec S_ 1 := (fun x v => Host.reduce IntOp.andi x v reducesTo_S1024x2816_S_d0_1 h_S_) main_v36 main_c_13
  let main_v38 : IVec S_ 1 := andi main_v33 main_v37
  let main_v39 : FVec F S1024x2816 .f32 := Host.absf main_arg8
  let main_cst_14 : FVec F S_ .f32 := constant S_ .f32 0x7F800000#32
  let main_v40 : FVec F S1024x2816 .f32 := broadcastInDim S1024x2816 ![] bcast_S_S1024x2816 main_cst_14
  let main_v41 : IVec S1024x2816 1 := cmpf .olt main_v39 main_v40
  let main_c_15 : IVec S_ 1 := constantI S_ 1 1#1
  let main_v42 : IVec S_ 1 := (fun x v => Host.reduce IntOp.andi x v reducesTo_S1024x2816_S_d0_1 h_S_) main_v41 main_c_15
  let main_v43 : IVec S_ 1 := andi main_v38 main_v42
  let main_v44 : FVec F S2816x1024 .f32 := Host.absf main_arg9
  let main_cst_16 : FVec F S_ .f32 := constant S_ .f32 0x7F800000#32
  let main_v45 : FVec F S2816x1024 .f32 := broadcastInDim S2816x1024 ![] bcast_S_S2816x1024 main_cst_16
  let main_v46 : IVec S2816x1024 1 := cmpf .olt main_v44 main_v45
  let main_c_17 : IVec S_ 1 := constantI S_ 1 1#1
  let main_v47 : IVec S_ 1 := (fun x v => Host.reduce IntOp.andi x v reducesTo_S2816x1024_S_d0_1 h_S_) main_v46 main_c_17
  let main_v48 : IVec S_ 1 := andi main_v43 main_v47
  let main_v49 : FVec F S4096x1024 .f32 := Host.absf main_arg10
  let main_cst_18 : FVec F S_ .f32 := constant S_ .f32 0x7F800000#32
  let main_v50 : FVec F S4096x1024 .f32 := broadcastInDim S4096x1024 ![] bcast_S_S4096x1024 main_cst_18
  fn_part3 (F := F) main_v48 main_v49 main_v50

def fn_part1 {F : FTy → Type} [FloatOps F] (main_arg4 : FVec F S1x1024 .f32) (main_arg5 : FVec F S1x1024 .f32) (main_arg6 : FVec F S1x1024 .f32) (main_arg7 : FVec F S1024x2816 .f32) (main_arg8 : FVec F S1024x2816 .f32) (main_arg9 : FVec F S2816x1024 .f32) (main_arg10 : FVec F S4096x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S1x1024 .f32 := Host.absf main_arg6
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x1024 .f32) (main_arg1 : FVec F S1024x1024 .f32) (main_arg2 : FVec F S4096x1024 .f32) (main_arg3 : FVec F S1x1024 .f32) (main_arg4 : FVec F S1x1024 .f32) (main_arg5 : FVec F S1x1024 .f32) (main_arg6 : FVec F S1x1024 .f32) (main_arg7 : FVec F S1024x2816 .f32) (main_arg8 : FVec F S1024x2816 .f32) (main_arg9 : FVec F S2816x1024 .f32) (main_arg10 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_arg6 main_arg7 main_arg8 main_arg9 main_arg10 main_v13 main_v16
-- ==== Gate.lean ====
abbrev S4096x1024 : Shape := ⟨2, ![4096, 1024]⟩
abbrev S1024x2816 : Shape := ⟨2, ![1024, 2816]⟩
abbrev S2816x1024 : Shape := ⟨2, ![2816, 1024]⟩
abbrev S1024x8x352 : Shape := ⟨3, ![1024, 8, 352]⟩
abbrev S1024x8x256 : Shape := ⟨3, ![1024, 8, 256]⟩
abbrev S1024x2048 : Shape := ⟨2, ![1024, 2048]⟩
abbrev S1024x8x96 : Shape := ⟨3, ![1024, 8, 96]⟩
abbrev S_ : Shape := ⟨0, ![]⟩
abbrev S1024x8x128 : Shape := ⟨3, ![1024, 8, 128]⟩
abbrev S1024x1024 : Shape := ⟨2, ![1024, 1024]⟩
abbrev S1024x3072 : Shape := ⟨2, ![1024, 3072]⟩
abbrev S8x352x1024 : Shape := ⟨3, ![8, 352, 1024]⟩
abbrev S8x256x1024 : Shape := ⟨3, ![8, 256, 1024]⟩
abbrev S2048x1024 : Shape := ⟨2, ![2048, 1024]⟩
abbrev S8x96x1024 : Shape := ⟨3, ![8, 96, 1024]⟩
abbrev S8x128x1024 : Shape := ⟨3, ![8, 128, 1024]⟩
abbrev S3072x1024 : Shape := ⟨2, ![3072, 1024]⟩
abbrev S4096x3072 : Shape := ⟨2, ![4096, 3072]⟩
abbrev S512x1024 : Shape := ⟨2, ![512, 1024]⟩
abbrev S512x3072 : Shape := ⟨2, ![512, 3072]⟩
abbrev S1024x512 : Shape := ⟨2, ![1024, 512]⟩
abbrev S512x512 : Shape := ⟨2, ![512, 512]⟩
abbrev S4096x2048 : Shape := ⟨2, ![4096, 2048]⟩
abbrev S4096x8x256 : Shape := ⟨3, ![4096, 8, 256]⟩
abbrev S4096x8x128 : Shape := ⟨3, ![4096, 8, 128]⟩
abbrev S4096x8x96 : Shape := ⟨3, ![4096, 8, 96]⟩
abbrev S4096x8x352 : Shape := ⟨3, ![4096, 8, 352]⟩
abbrev S4096x2816 : Shape := ⟨2, ![4096, 2816]⟩

abbrev nBuf : Space → Nat
  | .hbm => 63
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S1024x8x352, .f32⟩
  | .hbm, ⟨6, _⟩ => ⟨S1024x8x256, .f32⟩
  | .hbm, ⟨7, _⟩ => ⟨S1024x2048, .f32⟩
  | .hbm, ⟨8, _⟩ => ⟨S1024x8x96, .f32⟩
  | .hbm, ⟨9, _⟩ => ⟨S_, .i32⟩
  | .hbm, ⟨10, _⟩ => ⟨S_, .f32⟩
  | .hbm, ⟨11, _⟩ => ⟨S1024x8x128, .f32⟩
  | .hbm, ⟨12, _⟩ => ⟨S1024x1024, .f32⟩
  | .hbm, ⟨13, _⟩ => ⟨S1024x3072, .f32⟩
  | .hbm, ⟨14, _⟩ => ⟨S1024x3072, .bf16⟩
  | .hbm, ⟨15, _⟩ => ⟨S1024x8x352, .f32⟩
  | .hbm, ⟨16, _⟩ => ⟨S1024x8x256, .f32⟩
  | .hbm, ⟨17, _⟩ => ⟨S1024x2048, .f32⟩
  | .hbm, ⟨18, _⟩ => ⟨S1024x8x96, .f32⟩
  | .hbm, ⟨19, _⟩ => ⟨S_, .i32⟩
  | .hbm, ⟨20, _⟩ => ⟨S_, .f32⟩
  | .hbm, ⟨21, _⟩ => ⟨S1024x8x128, .f32⟩
  | .hbm, ⟨22, _⟩ => ⟨S1024x1024, .f32⟩
  | .hbm, ⟨23, _⟩ => ⟨S1024x3072, .f32⟩
  | .hbm, ⟨24, _⟩ => ⟨S1024x3072, .bf16⟩
  | .hbm, ⟨25, _⟩ => ⟨S8x352x1024, .f32⟩
  | .hbm, ⟨26, _⟩ => ⟨S8x256x1024, .f32⟩
  | .hbm, ⟨27, _⟩ => ⟨S2048x1024, .f32⟩
  | .hbm, ⟨28, _⟩ => ⟨S8x96x1024, .f32⟩
  | .hbm, ⟨29, _⟩ => ⟨S_, .i32⟩
  | .hbm, ⟨30, _⟩ => ⟨S_, .f32⟩
  | .hbm, ⟨31, _⟩ => ⟨S8x128x1024, .f32⟩
  | .hbm, ⟨32, _⟩ => ⟨S1024x1024, .f32⟩
  | .hbm, ⟨33, _⟩ => ⟨S3072x1024, .f32⟩
  | .hbm, ⟨34, _⟩ => ⟨S3072x1024, .bf16⟩
  | .hbm, ⟨35, _⟩ => ⟨S4096x1024, .bf16⟩
  | .hbm, ⟨36, _⟩ => ⟨S4096x3072, .bf16⟩
  | .hbm, ⟨37, _⟩ => ⟨S4096x3072, .bf16⟩
  | .hbm, ⟨38, _⟩ => ⟨S4096x3072, .bf16⟩
  | .hbm, ⟨39, _⟩ => ⟨S4096x1024, .bf16⟩
  | .hbm, ⟨40, _⟩ => ⟨S4096x3072, .bf16⟩
  | .hbm, ⟨41, _⟩ => ⟨S4096x3072, .bf16⟩
  | .hbm, ⟨42, _⟩ => ⟨S4096x2048, .bf16⟩
  | .hbm, ⟨43, _⟩ => ⟨S4096x8x256, .bf16⟩
  | .hbm, ⟨44, _⟩ => ⟨S4096x1024, .bf16⟩
  | .hbm, ⟨45, _⟩ => ⟨S4096x8x128, .bf16⟩
  | .hbm, ⟨46, _⟩ => ⟨S4096x8x96, .bf16⟩
  | .hbm, ⟨47, _⟩ => ⟨S4096x8x352, .bf16⟩
  | .hbm, ⟨48, _⟩ => ⟨S4096x2816, .bf16⟩
  | .hbm, ⟨49, _⟩ => ⟨S4096x2048, .bf16⟩
  | .hbm, ⟨50, _⟩ => ⟨S4096x8x256, .bf16⟩
  | .hbm, ⟨51, _⟩ => ⟨S4096x1024, .bf16⟩
  | .hbm, ⟨52, _⟩ => ⟨S4096x8x128, .bf16⟩
  | .hbm, ⟨53, _⟩ => ⟨S4096x8x96, .bf16⟩
  | .hbm, ⟨54, _⟩ => ⟨S4096x8x352, .bf16⟩
  | .hbm, ⟨55, _⟩ => ⟨S4096x2816, .bf16⟩
  | .hbm, ⟨56, _⟩ => ⟨S4096x2048, .bf16⟩
  | .hbm, ⟨57, _⟩ => ⟨S4096x8x256, .bf16⟩
  | .hbm, ⟨58, _⟩ => ⟨S4096x1024, .bf16⟩
  | .hbm, ⟨59, _⟩ => ⟨S4096x8x128, .bf16⟩
  | .hbm, ⟨60, _⟩ => ⟨S4096x8x96, .bf16⟩
  | .hbm, ⟨61, _⟩ => ⟨S4096x8x352, .bf16⟩
  | .hbm, ⟨62, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1024x3072, .bf16⟩
  | .local _ .vmem, ⟨3, _⟩ => ⟨S1024x3072, .bf16⟩
  | .local _ .vmem, ⟨4, _⟩ => ⟨S512x3072, .bf16⟩
  | .local _ .vmem, ⟨5, _⟩ => ⟨S512x3072, .bf16⟩
  | .local _ .vmem, ⟨6, _⟩ => ⟨S512x3072, .bf16⟩
  | .local _ .vmem, ⟨7, _⟩ => ⟨S512x3072, .bf16⟩
  | .local _ .vmem, ⟨8, _⟩ => ⟨S512x3072, .bf16⟩
  | .local _ .vmem, ⟨9, _⟩ => ⟨S512x3072, .bf16⟩
  | .local _ .vmem, ⟨10, _⟩ => ⟨S512x1024, .bf16⟩
  | .local _ .vmem, ⟨11, _⟩ => ⟨S512x1024, .bf16⟩
  | .local _ .vmem, ⟨12, _⟩ => ⟨S3072x1024, .bf16⟩
  | .local _ .vmem, ⟨13, _⟩ => ⟨S512x3072, .bf16⟩
  | .local _ .vmem, ⟨14, _⟩ => ⟨S512x3072, .bf16⟩
  | .local _ .vmem, ⟨15, _⟩ => ⟨S512x3072, .bf16⟩
  | .local _ .vmem, ⟨16, _⟩ => ⟨S512x3072, .bf16⟩
  | .local _ .vmem, ⟨17, _⟩ => ⟨S512x3072, .bf16⟩
  | .local _ .vmem, ⟨18, _⟩ => ⟨S512x3072, .bf16⟩
  | .local _ .vmem, ⟨19, _⟩ => ⟨S512x3072, .bf16⟩
  | .local _ .vmem, ⟨20, _⟩ => ⟨S512x3072, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_call1_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_1 : Ref sig .tc := ⟨.hbm, 29, rfl⟩
abbrev main_call2_v0 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25_0 : Ref sig .tc := ⟨.hbm, 36, rfl⟩
abbrev main_v25_1 : Ref sig .tc := ⟨.hbm, 37, rfl⟩
abbrev main_v25_2 : Ref sig .tc := ⟨.hbm, 38, rfl⟩
abbrev main_v26 : Ref sig .tc := ⟨.hbm, 39, rfl⟩
abbrev main_v27_0 : Ref sig .tc := ⟨.hbm, 40, rfl⟩
abbrev main_v27_1 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem5_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3072x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x3072 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x3072 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x3072 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x3072 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== GateRefIdeal.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S_, .f32⟩
  | .hbm, ⟨38, _⟩ => ⟨S4096x2816, .f32⟩
  | .hbm, ⟨39, _⟩ => ⟨S4096x2816, .f32⟩
  | .hbm, ⟨40, _⟩ => ⟨S_, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .bf16⟩
  | .hbm, ⟨46, _⟩ => ⟨S4096x2816, .bf16⟩
  | .hbm, ⟨47, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v12 : Ref sig .tc := ⟨.hbm, 34, rfl⟩
abbrev main_call2_v0 : Ref sig .tc := ⟨.hbm, 35, rfl⟩
abbrev main_call2_v1 : Ref sig .tc := ⟨.hbm, 36, rfl⟩
abbrev main_call2_cst : Ref sig .tc := ⟨.hbm, 37, rfl⟩
abbrev main_call2_v2 : Ref sig .tc := ⟨.hbm, 38, rfl⟩
abbrev main_call2_v3 : Ref sig .tc := ⟨.hbm, 39, rfl⟩
abbrev main_call2_cst_0 : Ref sig .tc := ⟨.hbm, 40, rfl⟩
abbrev main_call2_v4 : Ref sig .tc := ⟨.hbm, 41, rfl⟩
abbrev main_call2_v5 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩

abbrev nD : Nat := 1
abbrev τ : Topo := Topo.v7x

variable {F : FTy → Type} [FloatOps F]
-- ==== Attn.lean ====
abbrev S4096x1024 : Shape := ⟨2, ![4096, 1024]⟩
abbrev S256x1024 : Shape := ⟨2, ![256, 1024]⟩
abbrev S1024x1024 : Shape := ⟨2, ![1024, 1024]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 13
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S256x1024, .f32⟩
  | .hbm, ⟨2, _⟩ => ⟨S256x1024, .f32⟩
  | .hbm, ⟨3, _⟩ => ⟨S1024x1024, .f32⟩
  | .hbm, ⟨4, _⟩ => ⟨S4096x1024, .f32⟩
  | .hbm, ⟨5, _⟩ => ⟨S4096x1024, .bf16⟩
  | .hbm, ⟨6, _⟩ => ⟨S1024x1024, .bf16⟩
  | .hbm, ⟨7, _⟩ => ⟨S4096x1024, .bf16⟩
  | .hbm, ⟨8, _⟩ => ⟨S256x1024, .bf16⟩
  | .hbm, ⟨9, _⟩ => ⟨S256x1024, .bf16⟩
  | .hbm, ⟨10, _⟩ => ⟨S4096x1024, .bf16⟩
  | .hbm, ⟨11, _⟩ => ⟨S256x1024, .f32⟩
  | .hbm, ⟨12, _⟩ => ⟨S256x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S256x1024, .bf16⟩
  | .local _ .vmem, ⟨6, _⟩ => ⟨S256x1024, .bf16⟩
  | .local _ .vmem, ⟨7, _⟩ => ⟨S512x1024, .bf16⟩
  | .local _ .vmem, ⟨8, _⟩ => ⟨S512x1024, .bf16⟩
  | .local _ .vmem, ⟨9, _⟩ => ⟨S256x1024, .f32⟩
  | .local _ .vmem, ⟨10, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== AttnRefIdeal.lean ====
abbrev S4096x1024 : Shape := ⟨2, ![4096, 1024]⟩
abbrev S256x1024 : Shape := ⟨2, ![256, 1024]⟩
abbrev S1024x1024 : Shape := ⟨2, ![1024, 1024]⟩
abbrev S1x4096x4x256 : Shape := ⟨4, ![1, 4096, 4, 256]⟩
abbrev S1x256x4x256 : Shape := ⟨4, ![1, 256, 4, 256]⟩
abbrev S1x4x4096x256 : Shape := ⟨4, ![1, 4, 4096, 256]⟩
abbrev S_ : Shape := ⟨0, ![]⟩
abbrev S1x4x4096 : Shape := ⟨3, ![1, 4, 4096]⟩
abbrev S1x4x4096x1 : Shape := ⟨4, ![1, 4, 4096, 1]⟩
abbrev S1x4x256x4096 : Shape := ⟨4, ![1, 4, 256, 4096]⟩
abbrev S1x4x256x256 : Shape := ⟨4, ![1, 4, 256, 256]⟩
abbrev S4x4096 : Shape := ⟨2, ![4, 4096]⟩

abbrev nBuf : Space → Nat
  | .hbm => 86
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S256x1024, .f32⟩
  | .hbm, ⟨2, _⟩ => ⟨S256x1024, .f32⟩
  | .hbm, ⟨3, _⟩ => ⟨S1024x1024, .f32⟩
  | .hbm, ⟨4, _⟩ => ⟨S4096x1024, .f32⟩
  | .hbm, ⟨5, _⟩ => ⟨S1x4096x4x256, .f32⟩
  | .hbm, ⟨6, _⟩ => ⟨S1x256x4x256, .f32⟩
  | .hbm, ⟨7, _⟩ => ⟨S1x256x4x256, .f32⟩
  | .hbm, ⟨8, _⟩ => ⟨S1x4x4096x256, .f32⟩
  | .hbm, ⟨9, _⟩ => ⟨S_, .f32⟩
  | .hbm, ⟨10, _⟩ => ⟨S1x4x4096x256, .f32⟩
  | .hbm, ⟨11, _⟩ => ⟨S1x4x4096x256, .f32⟩
  | .hbm, ⟨12, _⟩ => ⟨S_, .f32⟩
  | .hbm, ⟨13, _⟩ => ⟨S1x4x4096, .f32⟩
  | .hbm, ⟨14, _⟩ => ⟨S1x4x4096x1, .f32⟩
  | .hbm, ⟨15, _⟩ => ⟨S1x4x4096x256, .f32⟩
  | .hbm, ⟨16, _⟩ => ⟨S1x4x4096x256, .i1⟩
  | .hbm, ⟨17, _⟩ => ⟨S1x4x4096x256, .f32⟩
  | .hbm, ⟨18, _⟩ => ⟨S_, .f32⟩
  | .hbm, ⟨19, _⟩ => ⟨S1x4x4096, .f32⟩
  | .hbm, ⟨20, _⟩ => ⟨S_, .f32⟩
  | .hbm, ⟨21, _⟩ => ⟨S1x4x4096, .f32⟩
  | .hbm, ⟨22, _⟩ => ⟨S1x4x4096, .f32⟩
  | .hbm, ⟨23, _⟩ => ⟨S_, .f32⟩
  | .hbm, ⟨24, _⟩ => ⟨S1x4x4096, .f32⟩
  | .hbm, ⟨25, _⟩ => ⟨S1x4x4096, .i1⟩
  | .hbm, ⟨26, _⟩ => ⟨S_, .f32⟩
  | .hbm, ⟨27, _⟩ => ⟨S1x4x4096, .f32⟩
  | .hbm, ⟨28, _⟩ => ⟨S1x4x4096, .i1⟩
  | .hbm, ⟨29, _⟩ => ⟨S_, .f32⟩
  | .hbm, ⟨30, _⟩ => ⟨S1x4x4096, .f32⟩
  | .hbm, ⟨31, _⟩ => ⟨S_, .f32⟩
  | .hbm, ⟨32, _⟩ => ⟨S1x4x4096, .f32⟩
  | .hbm, ⟨33, _⟩ => ⟨S_, .f32⟩
  | .hbm, ⟨34, _⟩ => ⟨S1x4x4096, .f32⟩
  | .hbm, ⟨35, _⟩ => ⟨S1x4x4096, .f32⟩
  | .hbm, ⟨36, _⟩ => ⟨S1x4x4096, .f32⟩
  | .hbm, ⟨37, _⟩ => ⟨S1x4x4096x1, .f32⟩
  | .hbm, ⟨38, _⟩ => ⟨S1x4x4096x256, .f32⟩
  | .hbm, ⟨39, _⟩ => ⟨S1x4x4096x256, .f32⟩
  | .hbm, ⟨40, _⟩ => ⟨S1x4x4096x256, .f32⟩
  | .hbm, ⟨41, _⟩ => ⟨S_, .f32⟩
  | .hbm, ⟨42, _⟩ => ⟨S1x4x4096, .f32⟩
  | .hbm, ⟨43, _⟩ => ⟨S1x4x4096x1, .f32⟩
  | .hbm, ⟨44, _⟩ => ⟨S1x4x4096x256, .f32⟩
  | .hbm, ⟨45, _⟩ => ⟨S1x4x4096x256, .f32⟩
  | .hbm, ⟨46, _⟩ => ⟨S1x4x4096x1, .f32⟩
  | .hbm, ⟨47, _⟩ => ⟨S_, .f32⟩
  | .hbm, ⟨48, _⟩ => ⟨S1x4x4096x1, .f32⟩
  | .hbm, ⟨49, _⟩ => ⟨S1x4x4096x1, .f32⟩
  | .hbm, ⟨50, _⟩ => ⟨S1x4x256x4096, .f32⟩
  | .hbm, ⟨51, _⟩ => ⟨S1x4096x4x256, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S1x4096x4x256, .f32⟩
  | .hbm, ⟨56, _⟩ => ⟨S1x4x256x4096, .f32⟩
  | .hbm, ⟨57, _⟩ => ⟨S1x4x4096x256, .f32⟩
  | .hbm, ⟨58, _⟩ => ⟨S1x4x256x256, .f32⟩
  | .hbm, ⟨59, _⟩ => ⟨S1x256x4x256, .f32⟩
  | .hbm, ⟨60, _⟩ => ⟨S1x4x4096x256, .f32⟩
  | .hbm, ⟨61, _⟩ => ⟨S1x4x4096x256, .f32⟩
  | .hbm, ⟨62, _⟩ => ⟨S1x4x4096x256, .f32⟩
  | .hbm, ⟨63, _⟩ => ⟨S_, .f32⟩
  | .hbm, ⟨64, _⟩ => ⟨S1x4x4096, .f32⟩
  | .hbm, ⟨65, _⟩ => ⟨S1x4x4096x1, .f32⟩
  | .hbm, ⟨66, _⟩ => ⟨S1x4x4096x1, .f32⟩
  | .hbm, ⟨67, _⟩ => ⟨S1x4x4096x256, .f32⟩
  | .hbm, ⟨68, _⟩ => ⟨S1x4x4096x256, .f32⟩
  | .hbm, ⟨69, _⟩ => ⟨S_, .f32⟩
  | .hbm, ⟨70, _⟩ => ⟨S4x4096, .f32⟩
  | .hbm, ⟨71, _⟩ => ⟨S1x4x4096, .f32⟩
  | .hbm, ⟨72, _⟩ => ⟨S1x4x4096x256, .f32⟩
  | .hbm, ⟨73, _⟩ => ⟨S1x4x4096x256, .f32⟩
  | .hbm, ⟨74, _⟩ => ⟨S1x4x4096x256, .f32⟩
  | .hbm, ⟨75, _⟩ => ⟨S_, .f32⟩
  | .hbm, ⟨76, _⟩ => ⟨S1x4x4096x256, .f32⟩
  | .hbm, ⟨77, _⟩ => ⟨S1x4x4096x256, .f32⟩
  | .hbm, ⟨78, _⟩ => ⟨S1x4x256x256, .f32⟩
  | .hbm, ⟨79, _⟩ => ⟨S1x256x4x256, .f32⟩
  | .hbm, ⟨80, _⟩ => ⟨S1x4x4096x256, .f32⟩
  | .hbm, ⟨81, _⟩ => ⟨S1x4096x4x256, .f32⟩
  | .hbm, ⟨82, _⟩ => ⟨S256x1024, .f32⟩
  | .hbm, ⟨83, _⟩ => ⟨S256x1024, .f32⟩
  | .hbm, ⟨84, _⟩ => ⟨S4096x1024, .f32⟩
  | .hbm, ⟨85, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_cst_7 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_9 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_10 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_11 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_12 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩

abbrev nD : Nat := 1
abbrev τ : Topo := Topo.v7x

variable {F : FTy → Type} [FloatOps F]
-- ==== Sgu.lean ====
abbrev S4096x3072 : Shape := ⟨2, ![4096, 3072]⟩
abbrev S4096x1024 : Shape := ⟨2, ![4096, 1024]⟩
abbrev S1x4x128 : Shape := ⟨3, ![1, 4, 128]⟩
abbrev S1x4x128x128 : Shape := ⟨4, ![1, 4, 128, 128]⟩
abbrev S4096x24x128 : Shape := ⟨3, ![4096, 24, 128]⟩
abbrev S24x4096x128 : Shape := ⟨3, ![24, 4096, 128]⟩
abbrev S4096x8x128 : Shape := ⟨3, ![4096, 8, 128]⟩
abbrev S8x4096x128 : Shape := ⟨3, ![8, 4096, 128]⟩
abbrev S4x1x128 : Shape := ⟨3, ![4, 1, 128]⟩
abbrev S4x128x128 : Shape := ⟨3, ![4, 128, 128]⟩
abbrev S4096x512 : Shape := ⟨2, ![4096, 512]⟩
abbrev S4x128x1 : Shape := ⟨3, ![4, 128, 1]⟩
abbrev S1x512x128 : Shape := ⟨3, ![1, 512, 128]⟩
abbrev S1x1x128 : Shape := ⟨3, ![1, 1, 128]⟩
abbrev S1x128x128 : Shape := ⟨3, ![1, 128, 128]⟩
abbrev S512x128 : Shape := ⟨2, ![512, 128]⟩
abbrev S1x128x1 : Shape := ⟨3, ![1, 128, 1]⟩
abbrev S1x128 : Shape := ⟨2, ![1, 128]⟩
abbrev S128x128 : Shape := ⟨2, ![128, 128]⟩
abbrev S128x1 : Shape := ⟨2, ![128, 1]⟩
abbrev S128 : Shape := ⟨1, ![128]⟩

abbrev nBuf : Space → Nat
  | .hbm => 20
  | .vmem => 26
  | .smem => 0
  | _ => 0

abbrev bufTy : (tb : Table) → Fin (tcTables nBuf tb) → BufTy
  | .hbm, ⟨0, _⟩ => ⟨S4096x3072, .f32⟩
  | .hbm, ⟨1, _⟩ => ⟨S4096x1024, .f32⟩
  | .hbm, ⟨2, _⟩ => ⟨S1x4x128, .f32⟩
  | .hbm, ⟨3, _⟩ => ⟨S1x4x128, .f32⟩
  | .hbm, ⟨4, _⟩ => ⟨S1x4x128x128, .f32⟩
  | .hbm, ⟨5, _⟩ => ⟨S1x4x128, .f32⟩
  | .hbm, ⟨6, _⟩ => ⟨S4096x24x128, .f32⟩
  | .hbm, ⟨7, _⟩ => ⟨S24x4096x128, .f32⟩
  | .hbm, ⟨8, _⟩ => ⟨S4096x8x128, .f32⟩
  | .hbm, ⟨9, _⟩ => ⟨S8x4096x128, .f32⟩
  | .hbm, ⟨10, _⟩ => ⟨S4x1x128, .f32⟩
  | .hbm, ⟨11, _⟩ => ⟨S4x1x128, .f32⟩
  | .hbm, ⟨12, _⟩ => ⟨S4x128x128, .f32⟩
  | .hbm, ⟨13, _⟩ => ⟨S4x1x128, .f32⟩
  | .hbm, ⟨14, _⟩ => ⟨S4096x512, .bf16⟩
  | .hbm, ⟨15, _⟩ => ⟨S4096x512, .bf16⟩
  | .hbm, ⟨16, _⟩ => ⟨S4x1x128, .f32⟩
  | .hbm, ⟨17, _⟩ => ⟨S4x1x128, .f32⟩
  | .hbm, ⟨18, _⟩ => ⟨S4x128x128, .f32⟩
  | .hbm, ⟨19, _⟩ => ⟨S4x128x1, .f32⟩
  | .local _ .vmem, ⟨0, _⟩ => ⟨S1x512x128, .f32⟩
  | .local _ .vmem, ⟨1, _⟩ => ⟨S1x512x128, .f32⟩
  | .local _ .vmem, ⟨2, _⟩ => ⟨S1x512x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | .local _ .vmem, ⟨10, _⟩ => ⟨S1x128x128, .f32⟩
  | .local _ .vmem, ⟨11, _⟩ => ⟨S1x128x128, .f32⟩
  | .local _ .vmem, ⟨12, _⟩ => ⟨S1x1x128, .f32⟩
  | .local _ .vmem, ⟨13, _⟩ => ⟨S1x1x128, .f32⟩
  | .local _ .vmem, ⟨14, _⟩ => ⟨S512x128, .bf16⟩
  | .local _ .vmem, ⟨15, _⟩ => ⟨S512x128, .bf16⟩
  | .local _ .vmem, ⟨16, _⟩ => ⟨S512x128, .bf16⟩
  | .local _ .vmem, ⟨17, _⟩ => ⟨S512x128, .bf16⟩
  | .local _ .vmem, ⟨18, _⟩ => ⟨S1x1x128, .f32⟩
  | .local _ .vmem, ⟨19, _⟩ => ⟨S1x1x128, .f32⟩
  | .local _ .vmem, ⟨20, _⟩ => ⟨S1x1x128, .f32⟩
  | .local _ .vmem, ⟨21, _⟩ => ⟨S1x1x128, .f32⟩
  | .local _ .vmem, ⟨22, _⟩ => ⟨S1x128x128, .f32⟩
  | .local _ .vmem, ⟨23, _⟩ => ⟨S1x128x128, .f32⟩
  | .local _ .vmem, ⟨24, _⟩ => ⟨S1x128x1, .f32⟩
  | .local _ .vmem, ⟨25, _⟩ => ⟨S1x128x1, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev main_v8_4 : Ref sig .tc := ⟨.hbm, 18, rfl⟩
abbrev main_v8_5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![v0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![v0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x128x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== SguIdeal.lean ====
variable {F : FTy → Type} [FloatOps F] [Named F]
def κ : String → Option EReal := fun
  | "cube" => some ((8943 / 200000 : ℝ) : EReal)
  | "cube3" => some ((26829 / 200000 : ℝ) : EReal)
  | _ => none
-- ==== SguRefIdeal.lean ====
abbrev S4096x3072 : Shape := ⟨2, ![4096, 3072]⟩
abbrev S4096x1024 : Shape := ⟨2, ![4096, 1024]⟩
abbrev S1x4x128 : Shape := ⟨3, ![1, 4, 128]⟩
abbrev S1x4x128x128 : Shape := ⟨4, ![1, 4, 128, 128]⟩
abbrev S_ : Shape := ⟨0, ![]⟩
abbrev S128x128 : Shape := ⟨2, ![128, 128]⟩
abbrev S4096x512 : Shape := ⟨2, ![4096, 512]⟩
abbrev S4x128 : Shape := ⟨2, ![4, 128]⟩
abbrev S4x128x128 : Shape := ⟨3, ![4, 128, 128]⟩
abbrev S4096x4x128 : Shape := ⟨3, ![4096, 4, 128]⟩
abbrev S4096x4 : Shape := ⟨2, ![4096, 4]⟩
abbrev S4096x4x1 : Shape := ⟨3, ![4096, 4, 1]⟩
abbrev S32x128x4x128 : Shape := ⟨4, ![32, 128, 4, 128]⟩
abbrev S4x32x128x128 : Shape := ⟨4, ![4, 32, 128, 128]⟩
abbrev S128x4 : Shape := ⟨2, ![128, 4]⟩
abbrev S1x128x4x1 : Shape := ⟨4, ![1, 128, 4, 1]⟩
abbrev S4x1x128 : Shape := ⟨3, ![4, 1, 128]⟩
abbrev S4x128x1 : Shape := ⟨3, ![4, 128, 1]⟩

abbrev nBuf : Space → Nat
  | .hbm => 229
  | .vmem => 0
  | .smem => 0
  | _ => 0

abbrev hbmTy0_0 (i : Nat) : BufTy := match i % 128 with
  | 0 => ⟨S4096x3072, .f32⟩
  | 1 => ⟨S4096x1024, .f32⟩
  | 2 => ⟨S1x4x128, .f32⟩
  | 3 => ⟨S1x4x128, .f32⟩
  | 4 => ⟨S1x4x128x128, .f32⟩
  | 5 => ⟨S1x4x128, .f32⟩
  | 6 => ⟨S_, .f32⟩
  | 7 => ⟨S_, .f32⟩
  | 8 => ⟨S_, .f32⟩
  | 9 => ⟨S_, .i1⟩
  | 10 => ⟨S128x128, .i1⟩
  | 11 => ⟨S128x128, .i32⟩
  | 12 => ⟨S_, .i32⟩
  | 13 => ⟨S128x128, .i32⟩
  | 14 => ⟨S128x128, .i32⟩
  | 15 => ⟨S128x128, .i32⟩
  | 16 => ⟨S128x128, .i1⟩
  | 17 => ⟨S_, .i1⟩
  | 18 => ⟨S128x128, .i1⟩
  | 19 => ⟨S128x128, .i1⟩
  | 20 => ⟨S4096x512, .f32⟩
  | 21 => ⟨S4096x512, .f32⟩
  | 22 => ⟨S4x128, .f32⟩
  | 23 => ⟨S4x128, .f32⟩
  | 24 => ⟨S4x128x128, .f32⟩
  | 25 => ⟨S4x128, .f32⟩
  | 26 => ⟨S4096x512, .f32⟩
  | 27 => ⟨S4096x512, .f32⟩
  | 28 => ⟨S4096x512, .f32⟩
  | 29 => ⟨S_, .f32⟩
  | 30 => ⟨S4096x512, .f32⟩
  | 31 => ⟨S4096x512, .f32⟩
  | 32 => ⟨S4096x512, .f32⟩
  | 33 => ⟨S4096x512, .f32⟩
  | 34 => ⟨S4096x512, .f32⟩
  | 35 => ⟨S_, .f32⟩
  | 36 => ⟨S4096x512, .f32⟩
  | 37 => ⟨S4096x512, .f32⟩
  | 38 => ⟨S4096x512, .f32⟩
  | 39 => ⟨S_, .f32⟩
  | 40 => ⟨S4096x512, .f32⟩
  | 41 => ⟨S4096x512, .f32⟩
  | 42 => ⟨S_, .f32⟩
  | 43 => ⟨S4096x512, .f32⟩
  | 44 => ⟨S4096x512, .f32⟩
  | 45 => ⟨S4096x512, .f32⟩
  | 46 => ⟨S_, .f32⟩
  | 47 => ⟨S4096x512, .f32⟩
  | 48 => ⟨S4096x512, .f32⟩
  | 49 => ⟨S_, .f32⟩
  | 50 => ⟨S4096x512, .f32⟩
  | 51 => ⟨S4096x512, .f32⟩
  | 52 => ⟨S4096x512, .f32⟩
  | 53 => ⟨S4096x512, .f32⟩
  | 54 => ⟨S4096x512, .f32⟩
  | 55 => ⟨S4096x512, .f32⟩
  | 56 => ⟨S_, .f32⟩
  | 57 => ⟨S4096x512, .f32⟩
  | 58 => ⟨S4096x512, .f32⟩
  | 59 => ⟨S4096x512, .f32⟩
  | 60 => ⟨S4096x512, .f32⟩
  | 61 => ⟨S4096x512, .f32⟩
  | 62 => ⟨S_, .f32⟩
  | 63 => ⟨S4096x512, .f32⟩
  | 64 => ⟨S4096x512, .f32⟩
  | 65 => ⟨S4096x512, .f32⟩
  | 66 => ⟨S_, .f32⟩
  | 67 => ⟨S4096x512, .f32⟩
  | 68 => ⟨S4096x512, .f32⟩
  | 69 => ⟨S_, .f32⟩
  | 70 => ⟨S4096x512, .f32⟩
  | 71 => ⟨S4096x512, .f32⟩
  | 72 => ⟨S4096x512, .f32⟩
  | 73 => ⟨S_, .f32⟩
  | 74 => ⟨S4096x512, .f32⟩
  | 75 => ⟨S4096x512, .f32⟩
  | 76 => ⟨S_, .f32⟩
  | 77 => ⟨S4096x512, .f32⟩
  | 78 => ⟨S4096x512, .f32⟩
  | 79 => ⟨S4096x512, .f32⟩
  | 80 => ⟨S4096x4x128, .f32⟩
  | 81 => ⟨S_, .f32⟩
  | 82 => ⟨S4096x4, .f32⟩
  | 83 => ⟨S4096x4x1, .f32⟩
  | 84 => ⟨S_, .f32⟩
  | 85 => ⟨S4096x4x1, .f32⟩
  | 86 => ⟨S4096x4x1, .f32⟩
  | 87 => ⟨S4096x4x128, .f32⟩
  | 88 => ⟨S4096x4x128, .f32⟩
  | 89 => ⟨S4096x4x128, .f32⟩
  | 90 => ⟨S_, .f32⟩
  | 91 => ⟨S4096x4x128, .f32⟩
  | 92 => ⟨S4096x4x128, .f32⟩
  | 93 => ⟨S_, .f32⟩
  | 94 => ⟨S4096x4, .f32⟩
  | 95 => ⟨S4096x4x1, .f32⟩
  | 96 => ⟨S_, .f32⟩
  | 97 => ⟨S4096x4x1, .f32⟩
  | 98 => ⟨S4096x4x1, .f32⟩
  | 99 => ⟨S4096x4x128, .f32⟩
  | 100 => ⟨S4096x4x128, .f32⟩
  | 101 => ⟨S_, .f32⟩
  | 102 => ⟨S4096x4x1, .f32⟩
  | 103 => ⟨S4096x4x1, .f32⟩
  | 104 => ⟨S4096x4x1, .f32⟩
  | 105 => ⟨S4096x4x1, .f32⟩
  | 106 => ⟨S_, .f32⟩
  | 107 => ⟨S4096x4x1, .f32⟩
  | 108 => ⟨S4096x4x1, .f32⟩
  | 109 => ⟨S4096x4x128, .f32⟩
  | 110 => ⟨S4096x4x128, .f32⟩
  | 111 => ⟨S1x4x128, .f32⟩
  | 112 => ⟨S4096x4x128, .f32⟩
  | 113 => ⟨S4096x4x128, .f32⟩
  | 114 => ⟨S1x4x128, .f32⟩
  | 115 => ⟨S4096x4x128, .f32⟩
  | 116 => ⟨S4096x4x128, .f32⟩
  | 117 => ⟨S32x128x4x128, .f32⟩
  | 118 => ⟨S_, .f32⟩
  | 119 => ⟨S_, .f32⟩
  | 120 => ⟨S4x128x128, .i1⟩
  | 121 => ⟨S4x128x128, .f32⟩
  | 122 => ⟨S4x128x128, .f32⟩
  | 123 => ⟨S_, .f32⟩
  | 124 => ⟨S4x128x128, .f32⟩
  | 125 => ⟨S4x32x128x128, .f32⟩
  | 126 => ⟨S32x128x4x128, .f32⟩
  | 127 => ⟨S128x4, .f32⟩
  | _ => ⟨S4096x3072, .f32⟩

abbrev hbmTy0_1 (i : Nat) : BufTy := match i % 128 with
  | 0 => ⟨S1x128x4x1, .f32⟩
  | 1 => ⟨S32x128x4x128, .f32⟩
  | 2 => ⟨S32x128x4x128, .f32⟩
  | 3 => ⟨S4096x512, .f32⟩
  | 4 => ⟨S4096x512, .f32⟩
  | 5 => ⟨S4096x512, .f32⟩
  | 6 => ⟨S4096x512, .f32⟩
  | 7 => ⟨S4096x512, .f32⟩
  | 8 => ⟨S32x128x4x128, .f32⟩
  | 9 => ⟨S_, .f32⟩
  | 10 => ⟨S128x4, .f32⟩
  | 11 => ⟨S1x128x4x1, .f32⟩
  | 12 => ⟨S_, .f32⟩
  | 13 => ⟨S128x4, .f32⟩
  | 14 => ⟨S4x128, .f32⟩
  | 15 => ⟨S4x32x128x128, .f32⟩
  | 16 => ⟨S4x128x128, .f32⟩
  | 17 => ⟨S4x32x128x128, .f32⟩
  | 18 => ⟨S32x128x4x128, .f32⟩
  | 19 => ⟨S_, .f32⟩
  | 20 => ⟨S4x128x128, .f32⟩
  | 21 => ⟨S4x128x128, .f32⟩
  | 22 => ⟨S4096x4x128, .f32⟩
  | 23 => ⟨S_, .f32⟩
  | 24 => ⟨S4x128, .f32⟩
  | 25 => ⟨S1x4x128, .f32⟩
  | 26 => ⟨S_, .f32⟩
  | 27 => ⟨S4x128, .f32⟩
  | 28 => ⟨S4096x4x128, .f32⟩
  | 29 => ⟨S_, .f32⟩
  | 30 => ⟨S4x128, .f32⟩
  | 31 => ⟨S1x4x128, .f32⟩
  | 32 => ⟨S4096x4x128, .f32⟩
  | 33 => ⟨S4096x4x128, .f32⟩
  | 34 => ⟨S_, .f32⟩
  | 35 => ⟨S4x128, .f32⟩
  | 36 => ⟨S4096x4x128, .f32⟩
  | 37 => ⟨S_, .f32⟩
  | 38 => ⟨S4096x4, .f32⟩
  | 39 => ⟨S4096x4x1, .f32⟩
  | 40 => ⟨S4096x4x128, .f32⟩
  | 41 => ⟨S4096x4x128, .f32⟩
  | 42 => ⟨S4096x4x1, .f32⟩
  | 43 => ⟨S4096x4x128, .f32⟩
  | 44 => ⟨S_, .f32⟩
  | 45 => ⟨S4096x4, .f32⟩
  | 46 => ⟨S4096x4x1, .f32⟩
  | 47 => ⟨S_, .f32⟩
  | 48 => ⟨S4096x4x1, .f32⟩
  | 49 => ⟨S4096x4x1, .f32⟩
  | 50 => ⟨S_, .f32⟩
  | 51 => ⟨S4096x4, .f32⟩
  | 52 => ⟨S4096x4x128, .f32⟩
  | 53 => ⟨S4096x4x128, .f32⟩
  | 54 => ⟨S4096x4x128, .f32⟩
  | 55 => ⟨S_, .f32⟩
  | 56 => ⟨S4096x4, .f32⟩
  | 57 => ⟨S4096x4x1, .f32⟩
  | 58 => ⟨S4096x4x128, .f32⟩
  | 59 => ⟨S4096x4x1, .f32⟩
  | 60 => ⟨S_, .f32⟩
  | 61 => ⟨S4096x4x1, .f32⟩
  | 62 => ⟨S4096x4x1, .f32⟩
  | 63 => ⟨S_, .f32⟩
  | 64 => ⟨S4096x4, .f32⟩
  | 65 => ⟨S4096x4x128, .f32⟩
  | 66 => ⟨S4096x4x128, .f32⟩
  | 67 => ⟨S4096x512, .f32⟩
  | 68 => ⟨S4096x512, .f32⟩
  | 69 => ⟨S4096x512, .f32⟩
  | 70 => ⟨S_, .f32⟩
  | 71 => ⟨S4096x512, .f32⟩
  | 72 => ⟨S4096x512, .f32⟩
  | 73 => ⟨S4096x512, .f32⟩
  | 74 => ⟨S_, .f32⟩
  | 75 => ⟨S4096x512, .f32⟩
  | 76 => ⟨S4096x512, .f32⟩
  | 77 => ⟨S4096x512, .f32⟩
  | 78 => ⟨S4096x512, .f32⟩
  | 79 => ⟨S4096x512, .f32⟩
  | 80 => ⟨S4096x512, .f32⟩
  | 81 => ⟨S4096x512, .f32⟩
  | 82 => ⟨S4096x512, .f32⟩
  | 83 => ⟨S4096x512, .f32⟩
  | 84 => ⟨S_, .f32⟩
  | 85 => ⟨S4096x512, .f32⟩
  | 86 => ⟨S4096x512, .f32⟩
  | 87 => ⟨S4096x512, .f32⟩
  | 88 => ⟨S_, .f32⟩
  | 89 => ⟨S4096x512, .f32⟩
  | 90 => ⟨S4096x512, .f32⟩
  | 91 => ⟨S4096x512, .f32⟩
  | 92 => ⟨S4096x512, .f32⟩
  | 93 => ⟨S4096x512, .f32⟩
  | 94 => ⟨S4096x512, .f32⟩
  | 95 => ⟨S4096x512, .f32⟩
  | 96 => ⟨S4096x512, .bf16⟩
  | 97 => ⟨S4096x512, .bf16⟩
  | 98 => ⟨S4x1x128, .f32⟩
  | 99 => ⟨S4x1x128, .f32⟩
  | 100 => ⟨S4x128x1, .f32⟩
  | _ => ⟨S4096x3072, .f32⟩

abbrev hbmTy (i : Nat) : BufTy := match i / 128 with
  | 0 => hbmTy0_0 i
  | 1 => hbmTy0_1 i
  | _ => ⟨S4096x3072, .f32⟩

abbrev bufTy : (tb : Table) → Fin (tcTables nBuf tb) → BufTy
  | .hbm, ⟨i, _⟩ => hbmTy i
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_0 : Ref sig .tc := ⟨.hbm, 17, rfl⟩
abbrev main_call0_v5 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_3 : Ref sig .tc := ⟨.hbm, 39, rfl⟩
abbrev main_v20 : Ref sig .tc := ⟨.hbm, 40, rfl⟩
abbrev main_v21 : Ref sig .tc := ⟨.hbm, 41, rfl⟩
abbrev main_cst_4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_5 : Ref sig .tc := ⟨.hbm, 46, rfl⟩
abbrev main_v25 : Ref sig .tc := ⟨.hbm, 47, rfl⟩
abbrev main_v26 : Ref sig .tc := ⟨.hbm, 48, rfl⟩
abbrev main_cst_6 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_8 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_9 : Ref sig .tc := ⟨.hbm, 66, rfl⟩
abbrev main_v41 : Ref sig .tc := ⟨.hbm, 67, rfl⟩
abbrev main_v42 : Ref sig .tc := ⟨.hbm, 68, rfl⟩
abbrev main_cst_10 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_11 : Ref sig .tc := ⟨.hbm, 73, rfl⟩
abbrev main_v46 : Ref sig .tc := ⟨.hbm, 74, rfl⟩
abbrev main_v47 : Ref sig .tc := ⟨.hbm, 75, rfl⟩
abbrev main_cst_12 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_13 : Ref sig .tc := ⟨.hbm, 81, rfl⟩
abbrev main_v52 : Ref sig .tc := ⟨.hbm, 82, rfl⟩
abbrev main_v53 : Ref sig .tc := ⟨.hbm, 83, rfl⟩
abbrev main_cst_14 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_15 : Ref sig .tc := ⟨.hbm, 90, rfl⟩
abbrev main_v59 : Ref sig .tc := ⟨.hbm, 91, rfl⟩
abbrev main_v60 : Ref sig .tc := ⟨.hbm, 92, rfl⟩
abbrev main_cst_16 : Ref sig .tc := ⟨.hbm, 93, rfl⟩
abbrev main_v61 : Ref sig .tc := ⟨.hbm, 94, rfl⟩
abbrev main_v62 : Ref sig .tc := ⟨.hbm, 95, rfl⟩
abbrev main_cst_17 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_18 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_19 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_20 : Ref sig .tc := ⟨.hbm, 118, rfl⟩
abbrev main_call1_v0 : Ref sig .tc := ⟨.hbm, 119, rfl⟩
abbrev main_v82_1 : Ref sig .tc := ⟨.hbm, 120, rfl⟩
abbrev main_call1_v2 : Ref sig .tc := ⟨.hbm, 121, rfl⟩
abbrev main_v82_0 : Ref sig .tc := ⟨.hbm, 122, rfl⟩
abbrev main_call1_cst : Ref sig .tc := ⟨.hbm, 123, rfl⟩
abbrev main_v82_2 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_21 : Ref sig .tc := ⟨.hbm, 137, rfl⟩
abbrev main_v95 : Ref sig .tc := ⟨.hbm, 138, rfl⟩
abbrev main_v96 : Ref sig .tc := ⟨.hbm, 139, rfl⟩
abbrev main_cst_22 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_call2_cst : Ref sig .tc := ⟨.hbm, 147, rfl⟩
abbrev main_call2_v0 : Ref sig .tc := ⟨.hbm, 148, rfl⟩
abbrev main_v103 : Ref sig .tc := ⟨.hbm, 149, rfl⟩
abbrev main_v104 : Ref sig .tc := ⟨.hbm, 150, rfl⟩
abbrev main_cst_23 : Ref sig .tc := ⟨.hbm, 151, rfl⟩
abbrev main_v105 : Ref sig .tc := ⟨.hbm, 152, rfl⟩
abbrev main_v106 : Ref sig .tc := ⟨.hbm, 153, rfl⟩
abbrev main_cst_24 : Ref sig .tc := ⟨.hbm, 154, rfl⟩
abbrev main_v107 : Ref sig .tc := ⟨.hbm, 155, rfl⟩
abbrev main_v108 : Ref sig .tc := ⟨.hbm, 156, rfl⟩
abbrev main_cst_25 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_cst_26 : Ref sig .tc := ⟨.hbm, 162, rfl⟩
abbrev main_v113 : Ref sig .tc := ⟨.hbm, 163, rfl⟩
abbrev main_v114 : Ref sig .tc := ⟨.hbm, 164, rfl⟩
abbrev main_cst_27 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_cst_28 : Ref sig .tc := ⟨.hbm, 172, rfl⟩
abbrev main_v121 : Ref sig .tc := ⟨.hbm, 173, rfl⟩
abbrev main_v122 : Ref sig .tc := ⟨.hbm, 174, rfl⟩
abbrev main_cst_29 : Ref sig .tc := ⟨.hbm, 175, rfl⟩
abbrev main_v123 : Ref sig .tc := ⟨.hbm, 176, rfl⟩
abbrev main_v124 : Ref sig .tc := ⟨.hbm, 177, rfl⟩
abbrev main_cst_30 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_cst_31 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_cst_32 : Ref sig .tc := ⟨.hbm, 188, rfl⟩
abbrev main_v133 : Ref sig .tc := ⟨.hbm, 189, rfl⟩
abbrev main_v134 : Ref sig .tc := ⟨.hbm, 190, rfl⟩
abbrev main_cst_33 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_cst_34 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_cst_35 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_cst_36 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_cst_37 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩

abbrev nD : Nat := 1
abbrev τ : Topo := Topo.v7x

variable {F : FTy → Type} [FloatOps F]

def κ : String → Option EReal := fun
  | "cube" => some ((8943 / 200000 : ℝ) : EReal)
  | "cube3" => some ((26829 / 200000 : ℝ) : EReal)
  | _ => none
-- ==== Loss.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S4096x8x352 : Shape := ⟨3, ![4096, 8, 352]⟩
abbrev S4096x8x256 : Shape := ⟨3, ![4096, 8, 256]⟩
abbrev S4096x2048 : Shape := ⟨2, ![4096, 2048]⟩
abbrev S4096x8x96 : Shape := ⟨3, ![4096, 8, 96]⟩
abbrev S_ : Shape := ⟨0, ![]⟩
abbrev S4096x8x128 : Shape := ⟨3, ![4096, 8, 128]⟩
abbrev S4096x3072 : Shape := ⟨2, ![4096, 3072]⟩
abbrev S8x352x1024 : Shape := ⟨3, ![8, 352, 1024]⟩
abbrev S8x256x1024 : Shape := ⟨3, ![8, 256, 1024]⟩
abbrev S2048x1024 : Shape := ⟨2, ![2048, 1024]⟩
abbrev S8x96x1024 : Shape := ⟨3, ![8, 96, 1024]⟩
abbrev S8x128x1024 : Shape := ⟨3, ![8, 128, 1024]⟩
abbrev S1024x1024 : Shape := ⟨2, ![1024, 1024]⟩
abbrev S3072x1024 : Shape := ⟨2, ![3072, 1024]⟩
abbrev S1x128 : Shape := ⟨2, ![1, 128]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S1 : Shape := ⟨1, ![1]⟩
abbrev S1x1 : Shape := ⟨2, ![1, 1]⟩

abbrev nBuf : Space → Nat
  | .hbm => 33
  | .vmem => 19
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x8x352, .f32⟩
  | .hbm, ⟨9, _⟩ => ⟨S4096x8x256, .f32⟩
  | .hbm, ⟨10, _⟩ => ⟨S4096x2048, .f32⟩
  | .hbm, ⟨11, _⟩ => ⟨S4096x8x96, .f32⟩
  | .hbm, ⟨12, _⟩ => ⟨S_, .i32⟩
  | .hbm, ⟨13, _⟩ => ⟨S_, .f32⟩
  | .hbm, ⟨14, _⟩ => ⟨S4096x8x128, .f32⟩
  | .hbm, ⟨15, _⟩ => ⟨S4096x1024, .f32⟩
  | .hbm, ⟨16, _⟩ => ⟨S4096x3072, .f32⟩
  | .hbm, ⟨17, _⟩ => ⟨S4096x3072, .bf16⟩
  | .hbm, ⟨18, _⟩ => ⟨S8x352x1024, .f32⟩
  | .hbm, ⟨19, _⟩ => ⟨S8x256x1024, .f32⟩
  | .hbm, ⟨20, _⟩ => ⟨S2048x1024, .f32⟩
  | .hbm, ⟨21, _⟩ => ⟨S8x96x1024, .f32⟩
  | .hbm, ⟨22, _⟩ => ⟨S_, .i32⟩
  | .hbm, ⟨23, _⟩ => ⟨S_, .f32⟩
  | .hbm, ⟨24, _⟩ => ⟨S8x128x1024, .f32⟩
  | .hbm, ⟨25, _⟩ => ⟨S1024x1024, .f32⟩
  | .hbm, ⟨26, _⟩ => ⟨S3072x1024, .f32⟩
  | .hbm, ⟨27, _⟩ => ⟨S3072x1024, .bf16⟩
  | .hbm, ⟨28, _⟩ => ⟨S1x128, .f32⟩
  | .hbm, ⟨29, _⟩ => ⟨S4096x1024, .f32⟩
  | .hbm, ⟨30, _⟩ => ⟨S4096x1024, .bf16⟩
  | .hbm, ⟨31, _⟩ => ⟨S1x1024, .f32⟩
  | .hbm, ⟨32, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S3072x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x128, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_0 : Ref sig .tc := ⟨.hbm, 22, rfl⟩
abbrev main_call1_v0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16_0 : Ref sig .tc := ⟨.hbm, 28, rfl⟩
abbrev main_v16_1 : Ref sig .tc := ⟨.hbm, 29, rfl⟩
abbrev main_v16_2 : Ref sig .tc := ⟨.hbm, 30, rfl⟩
abbrev main_v16_3 : Ref sig .tc := ⟨.hbm, 31, rfl⟩
abbrev main_v16_4 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg12_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem12_0 : DmaSem sig := 17

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v89 : BitVec 1 := Scalar.cmpi .eq arg0 c7_i32
  let v90 : BitVec 32 := Scalar.extui v89
  let c0_i32_49 : BitVec 32 := 0#32
  let v91 : BitVec 1 := Scalar.cmpi .ne v90 c0_i32_49
  v91

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== LossRefIdeal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x128 : Shape := ⟨2, ![1, 128]⟩

abbrev nBuf : Space → Nat
  | .hbm => 133
  | .vmem => 0
  | .smem => 0
  | _ => 0

abbrev hbmTy0_0 (i : Nat) : BufTy := match i % 128 with
  | 0 => ⟨S4096x2816, .f32⟩
  | 1 => ⟨S2816x1024, .f32⟩
  | 2 => ⟨S4096x1024, .f32⟩
  | 3 => ⟨S1x1024, .f32⟩
  | 4 => ⟨S1x1024, .f32⟩
  | 5 => ⟨S1x1024, .f32⟩
  | 6 => ⟨S1x1024, .f32⟩
  | 7 => ⟨S4096x1024, .f32⟩
  | 8 => ⟨S1024, .f32⟩
  | 9 => ⟨S1x1024, .f32⟩
  | 10 => ⟨S4096x1024, .f32⟩
  | 11 => ⟨S4096x1024, .f32⟩
  | 12 => ⟨S1024, .f32⟩
  | 13 => ⟨S1x1024, .f32⟩
  | 14 => ⟨S4096x1024, .f32⟩
  | 15 => ⟨S4096x1024, .f32⟩
  | 16 => ⟨S_, .f32⟩
  | 17 => ⟨S4096x1024, .f32⟩
  | 18 => ⟨S4096x1024, .f32⟩
  | 19 => ⟨S4096x1024, .f32⟩
  | 20 => ⟨S_, .f32⟩
  | 21 => ⟨S4096x1024, .f32⟩
  | 22 => ⟨S4096x1024, .f32⟩
  | 23 => ⟨S4096x1024, .f32⟩
  | 24 => ⟨S1024, .f32⟩
  | 25 => ⟨S1024, .f32⟩
  | 26 => ⟨S_, .f32⟩
  | 27 => ⟨S4096, .f32⟩
  | 28 => ⟨S4096x1, .f32⟩
  | 29 => ⟨S_, .f32⟩
  | 30 => ⟨S4096x1, .f32⟩
  | 31 => ⟨S4096x1, .f32⟩
  | 32 => ⟨S4096x1024, .f32⟩
  | 33 => ⟨S4096x1024, .f32⟩
  | 34 => ⟨S4096x1024, .f32⟩
  | 35 => ⟨S_, .f32⟩
  | 36 => ⟨S4096x1024, .f32⟩
  | 37 => ⟨S4096x1024, .f32⟩
  | 38 => ⟨S_, .f32⟩
  | 39 => ⟨S4096, .f32⟩
  | 40 => ⟨S4096x1, .f32⟩
  | 41 => ⟨S_, .f32⟩
  | 42 => ⟨S4096x1, .f32⟩
  | 43 => ⟨S4096x1, .f32⟩
  | 44 => ⟨S4096x1024, .f32⟩
  | 45 => ⟨S4096x1024, .f32⟩
  | 46 => ⟨S_, .f32⟩
  | 47 => ⟨S4096x1, .f32⟩
  | 48 => ⟨S4096x1, .f32⟩
  | 49 => ⟨S4096x1, .f32⟩
  | 50 => ⟨S4096x1, .f32⟩
  | 51 => ⟨S_, .f32⟩
  | 52 => ⟨S4096x1, .f32⟩
  | 53 => ⟨S4096x1, .f32⟩
  | 54 => ⟨S4096x1024, .f32⟩
  | 55 => ⟨S4096x1024, .f32⟩
  | 56 => ⟨S1x1024, .f32⟩
  | 57 => ⟨S4096x1024, .f32⟩
  | 58 => ⟨S4096x1024, .f32⟩
  | 59 => ⟨S1x1024, .f32⟩
  | 60 => ⟨S4096x1024, .f32⟩
  | 61 => ⟨S4096x1024, .f32⟩
  | 62 => ⟨S4096x1024, .f32⟩
  | 63 => ⟨S4096x1024, .f32⟩
  | 64 => ⟨S_, .f32⟩
  | 65 => ⟨S4096x1024, .f32⟩
  | 66 => ⟨S4096x1024, .f32⟩
  | 67 => ⟨S_, .f32⟩
  | 68 => ⟨S4096, .f32⟩
  | 69 => ⟨S_, .f32⟩
  | 70 => ⟨S4096, .f32⟩
  | 71 => ⟨S4096, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S4096, .f32⟩
  | 80 => ⟨S_, .f32⟩
  | 81 => ⟨S4096, .f32⟩
  | 82 => ⟨S4096, .f32⟩
  | 83 => ⟨S4096x1024, .f32⟩
  | 84 => ⟨S4096x1024, .f32⟩
  | 85 => ⟨S_, .f32⟩
  | 86 => ⟨S1024, .f32⟩
  | 87 => ⟨S1x1024, .f32⟩
  | 88 => ⟨S_, .f32⟩
  | 89 => ⟨S1024, .f32⟩
  | 90 => ⟨S4096x1024, .f32⟩
  | 91 => ⟨S_, .f32⟩
  | 92 => ⟨S1024, .f32⟩
  | 93 => ⟨S1x1024, .f32⟩
  | 94 => ⟨S4096x1024, .f32⟩
  | 95 => ⟨S4096x1024, .f32⟩
  | 96 => ⟨S_, .f32⟩
  | 97 => ⟨S1024, .f32⟩
  | 98 => ⟨S4096x1024, .f32⟩
  | 99 => ⟨S_, .f32⟩
  | 100 => ⟨S4096, .f32⟩
  | 101 => ⟨S4096x1, .f32⟩
  | 102 => ⟨S4096x1024, .f32⟩
  | 103 => ⟨S4096x1024, .f32⟩
  | 104 => ⟨S4096x1, .f32⟩
  | 105 => ⟨S4096x1024, .f32⟩
  | 106 => ⟨S_, .f32⟩
  | 107 => ⟨S4096, .f32⟩
  | 108 => ⟨S4096x1, .f32⟩
  | 109 => ⟨S_, .f32⟩
  | 110 => ⟨S4096x1, .f32⟩
  | 111 => ⟨S4096x1, .f32⟩
  | 112 => ⟨S_, .f32⟩
  | 113 => ⟨S4096, .f32⟩
  | 114 => ⟨S4096x1024, .f32⟩
  | 115 => ⟨S4096x1024, .f32⟩
  | 116 => ⟨S4096x1024, .f32⟩
  | 117 => ⟨S_, .f32⟩
  | 118 => ⟨S4096, .f32⟩
  | 119 => ⟨S4096x1, .f32⟩
  | 120 => ⟨S4096x1024, .f32⟩
  | 121 => ⟨S4096x1, .f32⟩
  | 122 => ⟨S_, .f32⟩
  | 123 => ⟨S4096x1, .f32⟩
  | 124 => ⟨S4096x1, .f32⟩
  | 125 => ⟨S_, .f32⟩
  | 126 => ⟨S4096, .f32⟩
  | 127 => ⟨S4096x1024, .f32⟩
  | _ => ⟨S4096x2816, .f32⟩

abbrev hbmTy0_1 (i : Nat) : BufTy := match i % 128 with
  | 0 => ⟨S4096x1024, .f32⟩
  | 1 => ⟨S1x1024, .f32⟩
  | 2 => ⟨S1x1024, .f32⟩
  | 3 => ⟨S1x128, .f32⟩
  | 4 => ⟨S4096x1024, .bf16⟩
  | _ => ⟨S4096x2816, .f32⟩

abbrev hbmTy (i : Nat) : BufTy := match i / 128 with
  | 0 => hbmTy0_0 i
  | 1 => hbmTy0_1 i
  | _ => ⟨S4096x2816, .f32⟩

abbrev bufTy : (tb : Table) → Fin (tcTables nBuf tb) → BufTy
  | .hbm, ⟨i, _⟩ => hbmTy i
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_8 : Ref sig .tc := ⟨.hbm, 64, rfl⟩
abbrev main_v47 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_cst_10 : Ref sig .tc := ⟨.hbm, 69, rfl⟩
abbrev main_v50 : Ref sig .tc := ⟨.hbm, 70, rfl⟩
abbrev main_v51 : Ref sig .tc := ⟨.hbm, 71, rfl⟩
abbrev main_cst_11 : Ref sig .tc := ⟨.hbm, 72, rfl⟩
abbrev main_v52 : Ref sig .tc := ⟨.hbm, 73, rfl⟩
abbrev main_cst_12 : Ref sig .tc := ⟨.hbm, 74, rfl⟩
abbrev main_v53 : Ref sig .tc := ⟨.hbm, 75, rfl⟩
abbrev main_cst_13 : Ref sig .tc := ⟨.hbm, 76, rfl⟩
abbrev main_cst_14 : Ref sig .tc := ⟨.hbm, 77, rfl⟩
abbrev main_v54 : Ref sig .tc := ⟨.hbm, 78, rfl⟩
abbrev main_v55 : Ref sig .tc := ⟨.hbm, 79, rfl⟩
abbrev main_cst_15 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_16 : Ref sig .tc := ⟨.hbm, 85, rfl⟩
abbrev main_v60 : Ref sig .tc := ⟨.hbm, 86, rfl⟩
abbrev main_v61 : Ref sig .tc := ⟨.hbm, 87, rfl⟩
abbrev main_cst_17 : Ref sig .tc := ⟨.hbm, 88, rfl⟩
abbrev main_v62 : Ref sig .tc := ⟨.hbm, 89, rfl⟩
abbrev main_v63 : Ref sig .tc := ⟨.hbm, 90, rfl⟩
abbrev main_cst_18 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_19 : Ref sig .tc := ⟨.hbm, 96, rfl⟩
abbrev main_v68 : Ref sig .tc := ⟨.hbm, 97, rfl⟩
abbrev main_v69 : Ref sig .tc := ⟨.hbm, 98, rfl⟩
abbrev main_cst_20 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_21 : Ref sig .tc := ⟨.hbm, 106, rfl⟩
abbrev main_v76 : Ref sig .tc := ⟨.hbm, 107, rfl⟩
abbrev main_v77 : Ref sig .tc := ⟨.hbm, 108, rfl⟩
abbrev main_cst_22 : Ref sig .tc := ⟨.hbm, 109, rfl⟩
abbrev main_v78 : Ref sig .tc := ⟨.hbm, 110, rfl⟩
abbrev main_v79 : Ref sig .tc := ⟨.hbm, 111, rfl⟩
abbrev main_cst_23 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_24 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_25 : Ref sig .tc := ⟨.hbm, 122, rfl⟩
abbrev main_v88 : Ref sig .tc := ⟨.hbm, 123, rfl⟩
abbrev main_v89 : Ref sig .tc := ⟨.hbm, 124, rfl⟩
abbrev main_cst_26 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩

abbrev nD : Nat := 1
abbrev τ : Topo := Topo.v7x

variable {F : FTy → Type} [FloatOps F]
-- ==== Memory.lean ====
abbrev S256x1024 : Shape := ⟨2, ![256, 1024]⟩
abbrev S1x1024 : Shape := ⟨2, ![1, 1024]⟩
abbrev S1x1024x1024 : Shape := ⟨3, ![1, 1024, 1024]⟩
abbrev S1024x1024 : Shape := ⟨2, ![1024, 1024]⟩
abbrev S256x1 : Shape := ⟨2, ![256, 1]⟩
abbrev S256 : Shape := ⟨1, ![256]⟩
abbrev S1024 : Shape := ⟨1, ![1024]⟩

abbrev nBuf : Space → Nat
  | .hbm => 20
  | .vmem => 22
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1x1024, .f32⟩
  | .hbm, ⟨3, _⟩ => ⟨S1x1024x1024, .f32⟩
  | .hbm, ⟨4, _⟩ => ⟨S1x1024x1024, .f32⟩
  | .hbm, ⟨5, _⟩ => ⟨S256x1024, .f32⟩
  | .hbm, ⟨6, _⟩ => ⟨S256x1024, .f32⟩
  | .hbm, ⟨7, _⟩ => ⟨S1024x1024, .f32⟩
  | .hbm, ⟨8, _⟩ => ⟨S1024x1024, .bf16⟩
  | .hbm, ⟨9, _⟩ => ⟨S1024x1024, .f32⟩
  | .hbm, ⟨10, _⟩ => ⟨S1024x1024, .bf16⟩
  | .hbm, ⟨11, _⟩ => ⟨S256x1024, .bf16⟩
  | .hbm, ⟨12, _⟩ => ⟨S256x1024, .f32⟩
  | .hbm, ⟨13, _⟩ => ⟨S256x1, .f32⟩
  | .hbm, ⟨14, _⟩ => ⟨S256x1024, .bf16⟩
  | .hbm, ⟨15, _⟩ => ⟨S256x1024, .bf16⟩
  | .hbm, ⟨16, _⟩ => ⟨S1024x1024, .bf16⟩
  | .hbm, ⟨17, _⟩ => ⟨S1024x1024, .bf16⟩
  | .hbm, ⟨18, _⟩ => ⟨S1x1024, .f32⟩
  | .hbm, ⟨19, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S256x1024, .bf16⟩
  | .local _ .vmem, ⟨6, _⟩ => ⟨S256x1024, .f32⟩
  | .local _ .vmem, ⟨7, _⟩ => ⟨S256x1, .f32⟩
  | .local _ .vmem, ⟨8, _⟩ => ⟨S256x1024, .bf16⟩
  | .local _ .vmem, ⟨9, _⟩ => ⟨S256x1024, .bf16⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .f32⟩
  | .local _ .vmem, ⟨14, _⟩ => ⟨S256x1, .f32⟩
  | .local _ .vmem, ⟨15, _⟩ => ⟨S1x1024, .f32⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1x1024, .f32⟩
  | .local _ .vmem, ⟨21, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev main_v5_0 : Ref sig .tc := ⟨.hbm, 16, rfl⟩
abbrev main_v5_1 : Ref sig .tc := ⟨.hbm, 17, rfl⟩
abbrev main_v5_2 : Ref sig .tc := ⟨.hbm, 18, rfl⟩
abbrev main_v5_3 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg11_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc1_sem0_0 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem11_0 : DmaSem sig := 21

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev grid1 : Pipeline.Grid := .none

abbrev stage1_0 : Fin 1 → Memref sig .tc .vmem S256x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S256x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S256x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S256x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S256x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1024x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S1024x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S1024x1024 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S1024x1024 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S1x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev stage1_11 : Fin 1 → Memref sig .tc .vmem S1x1024 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
-- ==== MemoryRefIdeal.lean ====
abbrev S256x1024 : Shape := ⟨2, ![256, 1024]⟩
abbrev S1x1024 : Shape := ⟨2, ![1, 1024]⟩
abbrev S1x1024x1024 : Shape := ⟨3, ![1, 1024, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1024x1024 : Shape := ⟨2, ![1024, 1024]⟩

abbrev nBuf : Space → Nat
  | .hbm => 68
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1x1024, .f32⟩
  | .hbm, ⟨3, _⟩ => ⟨S1x1024x1024, .f32⟩
  | .hbm, ⟨4, _⟩ => ⟨S1x1024x1024, .f32⟩
  | .hbm, ⟨5, _⟩ => ⟨S256x1024, .f32⟩
  | .hbm, ⟨6, _⟩ => ⟨S256x1024, .f32⟩
  | .hbm, ⟨7, _⟩ => ⟨S1024, .f32⟩
  | .hbm, ⟨8, _⟩ => ⟨S1024, .f32⟩
  | .hbm, ⟨9, _⟩ => ⟨S_, .f32⟩
  | .hbm, ⟨10, _⟩ => ⟨S256, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256, .f32⟩
  | .hbm, ⟨20, _⟩ => ⟨S256x1, .f32⟩
  | .hbm, ⟨21, _⟩ => ⟨S_, .f32⟩
  | .hbm, ⟨22, _⟩ => ⟨S256x1, .f32⟩
  | .hbm, ⟨23, _⟩ => ⟨S256x1, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1, .f32⟩
  | .hbm, ⟨28, _⟩ => ⟨S256x1, .f32⟩
  | .hbm, ⟨29, _⟩ => ⟨S256x1, .f32⟩
  | .hbm, ⟨30, _⟩ => ⟨S256x1024, .f32⟩
  | .hbm, ⟨31, _⟩ => ⟨S256x1024, .f32⟩
  | .hbm, ⟨32, _⟩ => ⟨S1x1024, .f32⟩
  | .hbm, ⟨33, _⟩ => ⟨S256x1024, .f32⟩
  | .hbm, ⟨34, _⟩ => ⟨S256x1024, .f32⟩
  | .hbm, ⟨35, _⟩ => ⟨S1x1024, .f32⟩
  | .hbm, ⟨36, _⟩ => ⟨S256x1024, .f32⟩
  | .hbm, ⟨37, _⟩ => ⟨S256x1024, .f32⟩
  | .hbm, ⟨38, _⟩ => ⟨S1024x1024, .f32⟩
  | .hbm, ⟨39, _⟩ => ⟨S256x1024, .f32⟩
  | .hbm, ⟨40, _⟩ => ⟨S1024x1024, .f32⟩
  | .hbm, ⟨41, _⟩ => ⟨S256x1024, .f32⟩
  | .hbm, ⟨42, _⟩ => ⟨S1024x1024, .f32⟩
  | .hbm, ⟨43, _⟩ => ⟨S1024x1024, .f32⟩
  | .hbm, ⟨44, _⟩ => ⟨S256x1024, .f32⟩
  | .hbm, ⟨45, _⟩ => ⟨S1x1024x1024, .f32⟩
  | .hbm, ⟨46, _⟩ => ⟨S1024x1024, .f32⟩
  | .hbm, ⟨47, _⟩ => ⟨S1024x1024, .f32⟩
  | .hbm, ⟨48, _⟩ => ⟨S256x1024, .f32⟩
  | .hbm, ⟨49, _⟩ => ⟨S256x1024, .f32⟩
  | .hbm, ⟨50, _⟩ => ⟨S1x1024x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S_, .f32⟩
  | .hbm, ⟨55, _⟩ => ⟨S1024, .f32⟩
  | .hbm, ⟨56, _⟩ => ⟨S256x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S1x1024, .f32⟩
  | .hbm, ⟨64, _⟩ => ⟨S1024x1024, .f32⟩
  | .hbm, ⟨65, _⟩ => ⟨S1024x1024, .bf16⟩
  | .hbm, ⟨66, _⟩ => ⟨S1024x1024, .f32⟩
  | .hbm, ⟨67, _⟩ => ⟨S1024x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_4 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_v41 : Ref sig .tc := ⟨.hbm, 55, rfl⟩
abbrev main_v42 : Ref sig .tc := ⟨.hbm, 56, rfl⟩
abbrev main_cst_6 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩

abbrev nD : Nat := 1
abbrev τ : Topo := Topo.v7x

variable {F : FTy → Type} [FloatOps F]
-- ==== Afwd.lean ====
abbrev S4096x1024 : Shape := ⟨2, ![4096, 1024]⟩
abbrev S1024x1024 : Shape := ⟨2, ![1024, 1024]⟩
abbrev S256x1024 : Shape := ⟨2, ![256, 1024]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 10
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S256x1024, .f32⟩
  | .hbm, ⟨3, _⟩ => ⟨S256x1024, .f32⟩
  | .hbm, ⟨4, _⟩ => ⟨S4096x1024, .bf16⟩
  | .hbm, ⟨5, _⟩ => ⟨S1024x1024, .bf16⟩
  | .hbm, ⟨6, _⟩ => ⟨S256x1024, .bf16⟩
  | .hbm, ⟨7, _⟩ => ⟨S256x1024, .bf16⟩
  | .hbm, ⟨8, _⟩ => ⟨S4096x1024, .bf16⟩
  | .hbm, ⟨9, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S256x1024, .bf16⟩
  | .local _ .vmem, ⟨4, _⟩ => ⟨S256x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== AfwdRefIdeal.lean ====
abbrev S4096x1024 : Shape := ⟨2, ![4096, 1024]⟩
abbrev S1024x1024 : Shape := ⟨2, ![1024, 1024]⟩
abbrev S256x1024 : Shape := ⟨2, ![256, 1024]⟩
abbrev S1x4096x4x256 : Shape := ⟨4, ![1, 4096, 4, 256]⟩
abbrev S1x256x4x256 : Shape := ⟨4, ![1, 256, 4, 256]⟩
abbrev S1x4x4096x256 : Shape := ⟨4, ![1, 4, 4096, 256]⟩
abbrev S_ : Shape := ⟨0, ![]⟩
abbrev S1x4x4096 : Shape := ⟨3, ![1, 4, 4096]⟩
abbrev S1x4x4096x1 : Shape := ⟨4, ![1, 4, 4096, 1]⟩
abbrev S1x4x256x4096 : Shape := ⟨4, ![1, 4, 256, 4096]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S256x1024, .f32⟩
  | .hbm, ⟨3, _⟩ => ⟨S256x1024, .f32⟩
  | .hbm, ⟨4, _⟩ => ⟨S4096x1024, .f32⟩
  | .hbm, ⟨5, _⟩ => ⟨S1x4096x4x256, .f32⟩
  | .hbm, ⟨6, _⟩ => ⟨S1x256x4x256, .f32⟩
  | .hbm, ⟨7, _⟩ => ⟨S1x256x4x256, .f32⟩
  | .hbm, ⟨8, _⟩ => ⟨S1x4x4096x256, .f32⟩
  | .hbm, ⟨9, _⟩ => ⟨S_, .f32⟩
  | .hbm, ⟨10, _⟩ => ⟨S1x4x4096x256, .f32⟩
  | .hbm, ⟨11, _⟩ => ⟨S1x4x4096x256, .f32⟩
  | .hbm, ⟨12, _⟩ => ⟨S_, .f32⟩
  | .hbm, ⟨13, _⟩ => ⟨S1x4x4096, .f32⟩
  | .hbm, ⟨14, _⟩ => ⟨S_, .f32⟩
  | .hbm, ⟨15, _⟩ => ⟨S1x4x4096, .f32⟩
  | .hbm, ⟨16, _⟩ => ⟨S1x4x4096, .f32⟩
  | .hbm, ⟨17, _⟩ => ⟨S1x4x4096x1, .f32⟩
  | .hbm, ⟨18, _⟩ => ⟨S1x4x4096x256, .f32⟩
  | .hbm, ⟨19, _⟩ => ⟨S1x4x4096x256, .f32⟩
  | .hbm, ⟨20, _⟩ => ⟨S1x4x4096x256, .f32⟩
  | .hbm, ⟨21, _⟩ => ⟨S_, .f32⟩
  | .hbm, ⟨22, _⟩ => ⟨S1x4x4096, .f32⟩
  | .hbm, ⟨23, _⟩ => ⟨S1x4x4096x1, .f32⟩
  | .hbm, ⟨24, _⟩ => ⟨S1x4x4096x256, .f32⟩
  | .hbm, ⟨25, _⟩ => ⟨S1x4x4096x256, .f32⟩
  | .hbm, ⟨26, _⟩ => ⟨S1x4x256x4096, .f32⟩
  | .hbm, ⟨27, _⟩ => ⟨S1x4096x4x256, .f32⟩
  | .hbm, ⟨28, _⟩ => ⟨S4096x1024, .f32⟩
  | .hbm, ⟨29, _⟩ => ⟨S4096x1024, .bf16⟩
  | .hbm, ⟨30, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Dxattn.lean ====
abbrev S4096x1024 : Shape := ⟨2, ![4096, 1024]⟩
abbrev S1024x1024 : Shape := ⟨2, ![1024, 1024]⟩
abbrev S1x1024 : Shape := ⟨2, ![1, 1024]⟩
abbrev S4096x1 : Shape := ⟨2, ![4096, 1]⟩
abbrev S512x1024 : Shape := ⟨2, ![512, 1024]⟩
abbrev S512x1 : Shape := ⟨2, ![512, 1]⟩
abbrev S512 : Shape := ⟨1, ![512]⟩
abbrev S1024 : Shape := ⟨1, ![1024]⟩

abbrev nBuf : Space → Nat
  | .hbm => 21
  | .vmem => 31
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024x1024, .f32⟩
  | .hbm, ⟨8, _⟩ => ⟨S4096x1024, .f32⟩
  | .hbm, ⟨9, _⟩ => ⟨S4096x1024, .f32⟩
  | .hbm, ⟨10, _⟩ => ⟨S4096x1024, .bf16⟩
  | .hbm, ⟨11, _⟩ => ⟨S1024x1024, .bf16⟩
  | .hbm, ⟨12, _⟩ => ⟨S4096x1024, .bf16⟩
  | .hbm, ⟨13, _⟩ => ⟨S4096x1024, .f32⟩
  | .hbm, ⟨14, _⟩ => ⟨S4096x1, .f32⟩
  | .hbm, ⟨15, _⟩ => ⟨S4096x1024, .bf16⟩
  | .hbm, ⟨16, _⟩ => ⟨S1024x1024, .bf16⟩
  | .hbm, ⟨17, _⟩ => ⟨S4096x1024, .f32⟩
  | .hbm, ⟨18, _⟩ => ⟨S4096x1024, .bf16⟩
  | .hbm, ⟨19, _⟩ => ⟨S1x1024, .f32⟩
  | .hbm, ⟨20, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | .local _ .vmem, ⟨13, _⟩ => ⟨S512x1, .f32⟩
  | .local _ .vmem, ⟨14, _⟩ => ⟨S512x1, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S1024x1024, .bf16⟩
  | .local _ .vmem, ⟨20, _⟩ => ⟨S512x1024, .f32⟩
  | .local _ .vmem, ⟨21, _⟩ => ⟨S512x1024, .f32⟩
  | .local _ .vmem, ⟨22, _⟩ => ⟨S512x1, .f32⟩
  | .local _ .vmem, ⟨23, _⟩ => ⟨S512x1, .f32⟩
  | .local _ .vmem, ⟨24, _⟩ => ⟨S1x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .bf16⟩
  | .local _ .vmem, ⟨28, _⟩ => ⟨S512x1024, .bf16⟩
  | .local _ .vmem, ⟨29, _⟩ => ⟨S1x1024, .f32⟩
  | .local _ .vmem, ⟨30, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v2_2 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev main_v5_2 : Ref sig .tc := ⟨.hbm, 19, rfl⟩
abbrev main_v5_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg6_1 : Ref sig .tc := ⟨.vmem, 26, rfl⟩
abbrev cc1_stg7_0 : Ref sig .tc := ⟨.vmem, 27, rfl⟩
abbrev cc1_stg7_1 : Ref sig .tc := ⟨.vmem, 28, rfl⟩
abbrev cc1_stg8_0 : Ref sig .tc := ⟨.vmem, 29, rfl⟩
abbrev cc1_stg9_0 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem6_0 : DmaSem sig := 25
abbrev cc1_sem6_1 : DmaSem sig := 26
abbrev cc1_sem7_0 : DmaSem sig := 27
abbrev cc1_sem7_1 : DmaSem sig := 28
abbrev cc1_sem8_0 : DmaSem sig := 29
abbrev cc1_sem9_0 : DmaSem sig := 30

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]
-- ==== DxattnRefIdeal.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 117
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024x1024, .f32⟩
  | .hbm, ⟨8, _⟩ => ⟨S4096x1024, .f32⟩
  | .hbm, ⟨9, _⟩ => ⟨S4096x1024, .f32⟩
  | .hbm, ⟨10, _⟩ => ⟨S1024, .f32⟩
  | .hbm, ⟨11, _⟩ => ⟨S1x1024, .f32⟩
  | .hbm, ⟨12, _⟩ => ⟨S4096x1024, .f32⟩
  | .hbm, ⟨13, _⟩ => ⟨S4096x1024, .f32⟩
  | .hbm, ⟨14, _⟩ => ⟨S1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S1024, .f32⟩
  | .hbm, ⟨24, _⟩ => ⟨S1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S4096x1024, .f32⟩
  | .hbm, ⟨54, _⟩ => ⟨S4096x1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S1x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S_, .f32⟩
  | .hbm, ⟨74, _⟩ => ⟨S1024, .f32⟩
  | .hbm, ⟨75, _⟩ => ⟨S4096x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S4096x1024, .f32⟩
  | .hbm, ⟨80, _⟩ => ⟨S4096x1024, .f32⟩
  | .hbm, ⟨81, _⟩ => ⟨S_, .f32⟩
  | .hbm, ⟨82, _⟩ => ⟨S1024, .f32⟩
  | .hbm, ⟨83, _⟩ => ⟨S4096x1024, .f32⟩
  | .hbm, ⟨84, _⟩ => ⟨S_, .f32⟩
  | .hbm, ⟨85, _⟩ => ⟨S4096, .f32⟩
  | .hbm, ⟨86, _⟩ => ⟨S4096x1, .f32⟩
  | .hbm, ⟨87, _⟩ => ⟨S4096x1024, .f32⟩
  | .hbm, ⟨88, _⟩ => ⟨S4096x1024, .f32⟩
  | .hbm, ⟨89, _⟩ => ⟨S4096x1, .f32⟩
  | .hbm, ⟨90, _⟩ => ⟨S4096x1024, .f32⟩
  | .hbm, ⟨91, _⟩ => ⟨S_, .f32⟩
  | .hbm, ⟨92, _⟩ => ⟨S4096, .f32⟩
  | .hbm, ⟨93, _⟩ => ⟨S4096x1, .f32⟩
  | .hbm, ⟨94, _⟩ => ⟨S_, .f32⟩
  | .hbm, ⟨95, _⟩ => ⟨S4096x1, .f32⟩
  | .hbm, ⟨96, _⟩ => ⟨S4096x1, .f32⟩
  | .hbm, ⟨97, _⟩ => ⟨S_, .f32⟩
  | .hbm, ⟨98, _⟩ => ⟨S4096, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S_, .f32⟩
  | .hbm, ⟨103, _⟩ => ⟨S4096, .f32⟩
  | .hbm, ⟨104, _⟩ => ⟨S4096x1, .f32⟩
  | .hbm, ⟨105, _⟩ => ⟨S4096x1024, .f32⟩
  | .hbm, ⟨106, _⟩ => ⟨S4096x1, .f32⟩
  | .hbm, ⟨107, _⟩ => ⟨S_, .f32⟩
  | .hbm, ⟨108, _⟩ => ⟨S4096x1, .f32⟩
  | .hbm, ⟨109, _⟩ => ⟨S4096x1, .f32⟩
  | .hbm, ⟨110, _⟩ => ⟨S_, .f32⟩
  | .hbm, ⟨111, _⟩ => ⟨S4096, .f32⟩
  | .hbm, ⟨112, _⟩ => ⟨S4096x1024, .f32⟩
  | .hbm, ⟨113, _⟩ => ⟨S4096x1024, .f32⟩
  | .hbm, ⟨114, _⟩ => ⟨S1x1024, .f32⟩
  | .hbm, ⟨115, _⟩ => ⟨S1x1024, .f32⟩
  | .hbm, ⟨116, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_7 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_8 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_9 : Ref sig .tc := ⟨.hbm, 70, rfl⟩
abbrev main_v50 : Ref sig .tc := ⟨.hbm, 71, rfl⟩
abbrev main_v51 : Ref sig .tc := ⟨.hbm, 72, rfl⟩
abbrev main_cst_10 : Ref sig .tc := ⟨.hbm, 73, rfl⟩
abbrev main_v52 : Ref sig .tc := ⟨.hbm, 74, rfl⟩
abbrev main_v53 : Ref sig .tc := ⟨.hbm, 75, rfl⟩
abbrev main_cst_11 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_12 : Ref sig .tc := ⟨.hbm, 81, rfl⟩
abbrev main_v58 : Ref sig .tc := ⟨.hbm, 82, rfl⟩
abbrev main_v59 : Ref sig .tc := ⟨.hbm, 83, rfl⟩
abbrev main_cst_13 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_14 : Ref sig .tc := ⟨.hbm, 91, rfl⟩
abbrev main_v66 : Ref sig .tc := ⟨.hbm, 92, rfl⟩
abbrev main_v67 : Ref sig .tc := ⟨.hbm, 93, rfl⟩
abbrev main_cst_15 : Ref sig .tc := ⟨.hbm, 94, rfl⟩
abbrev main_v68 : Ref sig .tc := ⟨.hbm, 95, rfl⟩
abbrev main_v69 : Ref sig .tc := ⟨.hbm, 96, rfl⟩
abbrev main_cst_16 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_17 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_18 : Ref sig .tc := ⟨.hbm, 107, rfl⟩
abbrev main_v78 : Ref sig .tc := ⟨.hbm, 108, rfl⟩
abbrev main_v79 : Ref sig .tc := ⟨.hbm, 109, rfl⟩
abbrev main_cst_19 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩

abbrev nD : Nat := 1
abbrev τ : Topo := Topo.v7x

variable {F : FTy → Type} [FloatOps F]
-- ==== Dxmix.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1024x3072 : Shape := ⟨2, ![1024, 3072]⟩
abbrev S4096x3072 : Shape := ⟨2, ![4096, 3072]⟩
abbrev S4096x8x352 : Shape := ⟨3, ![4096, 8, 352]⟩
abbrev S4096x8x256 : Shape := ⟨3, ![4096, 8, 256]⟩
abbrev S4096x2048 : Shape := ⟨2, ![4096, 2048]⟩
abbrev S4096x8x96 : Shape := ⟨3, ![4096, 8, 96]⟩
abbrev S_ : Shape := ⟨0, ![]⟩
abbrev S4096x8x128 : Shape := ⟨3, ![4096, 8, 128]⟩
abbrev S8x352x1024 : Shape := ⟨3, ![8, 352, 1024]⟩
abbrev S8x256x1024 : Shape := ⟨3, ![8, 256, 1024]⟩
abbrev S2048x1024 : Shape := ⟨2, ![2048, 1024]⟩
abbrev S8x96x1024 : Shape := ⟨3, ![8, 96, 1024]⟩
abbrev S8x128x1024 : Shape := ⟨3, ![8, 128, 1024]⟩
abbrev S1024x1024 : Shape := ⟨2, ![1024, 1024]⟩
abbrev S3072x1024 : Shape := ⟨2, ![3072, 1024]⟩
abbrev S4096x1 : Shape := ⟨2, ![4096, 1]⟩
abbrev S512x3072 : Shape := ⟨2, ![512, 3072]⟩
abbrev S512x1024 : Shape := ⟨2, ![512, 1024]⟩
abbrev S512x1 : Shape := ⟨2, ![512, 1]⟩
abbrev S512 : Shape := ⟨1, ![512]⟩
abbrev S4096x512 : Shape := ⟨2, ![4096, 512]⟩
abbrev S512x512 : Shape := ⟨2, ![512, 512]⟩
abbrev S1024x512 : Shape := ⟨2, ![1024, 512]⟩
abbrev S1024 : Shape := ⟨1, ![1024]⟩

abbrev nBuf : Space → Nat
  | .hbm => 48
  | .vmem => 39
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1024x3072, .f32⟩
  | .hbm, ⟨6, _⟩ => ⟨S4096x1024, .f32⟩
  | .hbm, ⟨7, _⟩ => ⟨S4096x3072, .f32⟩
  | .hbm, ⟨8, _⟩ => ⟨S4096x8x352, .f32⟩
  | .hbm, ⟨9, _⟩ => ⟨S4096x8x256, .f32⟩
  | .hbm, ⟨10, _⟩ => ⟨S4096x2048, .f32⟩
  | .hbm, ⟨11, _⟩ => ⟨S4096x8x96, .f32⟩
  | .hbm, ⟨12, _⟩ => ⟨S_, .i32⟩
  | .hbm, ⟨13, _⟩ => ⟨S_, .f32⟩
  | .hbm, ⟨14, _⟩ => ⟨S4096x8x128, .f32⟩
  | .hbm, ⟨15, _⟩ => ⟨S4096x1024, .f32⟩
  | .hbm, ⟨16, _⟩ => ⟨S4096x3072, .f32⟩
  | .hbm, ⟨17, _⟩ => ⟨S4096x3072, .bf16⟩
  | .hbm, ⟨18, _⟩ => ⟨S8x352x1024, .f32⟩
  | .hbm, ⟨19, _⟩ => ⟨S8x256x1024, .f32⟩
  | .hbm, ⟨20, _⟩ => ⟨S2048x1024, .f32⟩
  | .hbm, ⟨21, _⟩ => ⟨S8x96x1024, .f32⟩
  | .hbm, ⟨22, _⟩ => ⟨S_, .i32⟩
  | .hbm, ⟨23, _⟩ => ⟨S_, .f32⟩
  | .hbm, ⟨24, _⟩ => ⟨S8x128x1024, .f32⟩
  | .hbm, ⟨25, _⟩ => ⟨S1024x1024, .f32⟩
  | .hbm, ⟨26, _⟩ => ⟨S3072x1024, .f32⟩
  | .hbm, ⟨27, _⟩ => ⟨S3072x1024, .bf16⟩
  | .hbm, ⟨28, _⟩ => ⟨S4096x1024, .bf16⟩
  | .hbm, ⟨29, _⟩ => ⟨S4096x1024, .f32⟩
  | .hbm, ⟨30, _⟩ => ⟨S4096x1, .f32⟩
  | .hbm, ⟨31, _⟩ => ⟨S4096x512, .f32⟩
  | .hbm, ⟨32, _⟩ => ⟨S4096x512, .bf16⟩
  | .hbm, ⟨33, _⟩ => ⟨S4096x512, .f32⟩
  | .hbm, ⟨34, _⟩ => ⟨S4096x512, .bf16⟩
  | .hbm, ⟨35, _⟩ => ⟨S4096x512, .f32⟩
  | .hbm, ⟨36, _⟩ => ⟨S4096x512, .bf16⟩
  | .hbm, ⟨37, _⟩ => ⟨S4096x512, .f32⟩
  | .hbm, ⟨38, _⟩ => ⟨S4096x512, .bf16⟩
  | .hbm, ⟨39, _⟩ => ⟨S4096x512, .f32⟩
  | .hbm, ⟨40, _⟩ => ⟨S4096x512, .bf16⟩
  | .hbm, ⟨41, _⟩ => ⟨S4096x512, .f32⟩
  | .hbm, ⟨42, _⟩ => ⟨S4096x512, .bf16⟩
  | .hbm, ⟨43, _⟩ => ⟨S1024x3072, .bf16⟩
  | .hbm, ⟨44, _⟩ => ⟨S4096x1024, .f32⟩
  | .hbm, ⟨45, _⟩ => ⟨S4096x1024, .bf16⟩
  | .hbm, ⟨46, _⟩ => ⟨S1x1024, .f32⟩
  | .hbm, ⟨47, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S3072x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | .local _ .vmem, ⟨11, _⟩ => ⟨S512x1, .f32⟩
  | .local _ .vmem, ⟨12, _⟩ => ⟨S512x1, .f32⟩
  | .local _ .vmem, ⟨13, _⟩ => ⟨S512x1024, .f32⟩
  | .local _ .vmem, ⟨14, _⟩ => ⟨S512x1024, .f32⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S1024x3072, .bf16⟩
  | .local _ .vmem, ⟨28, _⟩ => ⟨S512x1024, .f32⟩
  | .local _ .vmem, ⟨29, _⟩ => ⟨S512x1024, .f32⟩
  | .local _ .vmem, ⟨30, _⟩ => ⟨S512x1, .f32⟩
  | .local _ .vmem, ⟨31, _⟩ => ⟨S512x1, .f32⟩
  | .local _ .vmem, ⟨32, _⟩ => ⟨S1x1024, .f32⟩
  | .local _ .vmem, ⟨33, _⟩ => ⟨S512x1024, .f32⟩
  | .local _ .vmem, ⟨34, _⟩ => ⟨S512x1024, .f32⟩
  | .local _ .vmem, ⟨35, _⟩ => ⟨S512x1024, .bf16⟩
  | .local _ .vmem, ⟨36, _⟩ => ⟨S512x1024, .bf16⟩
  | .local _ .vmem, ⟨37, _⟩ => ⟨S1x1024, .f32⟩
  | .local _ .vmem, ⟨38, _⟩ => ⟨S1x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_0 : Ref sig .tc := ⟨.hbm, 22, rfl⟩
abbrev main_call1_v0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16_0 : Ref sig .tc := ⟨.hbm, 28, rfl⟩
abbrev main_v16_1 : Ref sig .tc := ⟨.hbm, 29, rfl⟩
abbrev main_v16_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30_0 : Ref sig .tc := ⟨.hbm, 44, rfl⟩
abbrev main_v30_1 : Ref sig .tc := ⟨.hbm, 45, rfl⟩
abbrev main_v30_2 : Ref sig .tc := ⟨.hbm, 46, rfl⟩
abbrev main_v30_3 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_stg6_0 : Ref sig .tc := ⟨.vmem, 25, rfl⟩
abbrev cc1_stg6_1 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg8_1 : Ref sig .tc := ⟨.vmem, 29, rfl⟩
abbrev cc1_stg9_0 : Ref sig .tc := ⟨.vmem, 30, rfl⟩
abbrev cc1_stg9_1 : Ref sig .tc := ⟨.vmem, 31, rfl⟩
abbrev cc1_stg10_0 : Ref sig .tc := ⟨.vmem, 32, rfl⟩
abbrev cc1_stg11_0 : Ref sig .tc := ⟨.vmem, 33, rfl⟩
abbrev cc1_stg11_1 : Ref sig .tc := ⟨.vmem, 34, rfl⟩
abbrev cc1_stg12_0 : Ref sig .tc := ⟨.vmem, 35, rfl⟩
abbrev cc1_stg12_1 : Ref sig .tc := ⟨.vmem, 36, rfl⟩
abbrev cc1_stg13_0 : Ref sig .tc := ⟨.vmem, 37, rfl⟩
abbrev cc1_stg14_0 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc1_sem5_1 : DmaSem sig := 24
abbrev cc1_sem6_0 : DmaSem sig := 25
abbrev cc1_sem6_1 : DmaSem sig := 26
abbrev cc1_sem7_0 : DmaSem sig := 27
abbrev cc1_sem8_0 : DmaSem sig := 28
abbrev cc1_sem8_1 : DmaSem sig := 29
abbrev cc1_sem9_0 : DmaSem sig := 30
abbrev cc1_sem9_1 : DmaSem sig := 31
abbrev cc1_sem10_0 : DmaSem sig := 32
abbrev cc1_sem11_0 : DmaSem sig := 33
abbrev cc1_sem11_1 : DmaSem sig := 34
abbrev cc1_sem12_0 : DmaSem sig := 35
abbrev cc1_sem12_1 : DmaSem sig := 36
abbrev cc1_sem13_0 : DmaSem sig := 37
abbrev cc1_sem14_0 : DmaSem sig := 38

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1024x3072 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S512x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S1x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S512x1024 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S512x1024 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 1 → Memref sig .tc .vmem S1x1024 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x1024 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]
-- ==== DxmixRefIdeal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1024x3072 : Shape := ⟨2, ![1024, 3072]⟩
abbrev S4096x3072 : Shape := ⟨2, ![4096, 3072]⟩
abbrev S_ : Shape := ⟨0, ![]⟩
abbrev S1024 : Shape := ⟨1, ![1024]⟩
abbrev S4096 : Shape := ⟨1, ![4096]⟩
abbrev S4096x1 : Shape := ⟨2, ![4096, 1]⟩

abbrev nBuf : Space → Nat
  | .hbm => 110
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1024x3072, .f32⟩
  | .hbm, ⟨6, _⟩ => ⟨S4096x1024, .f32⟩
  | .hbm, ⟨7, _⟩ => ⟨S4096x3072, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S1024, .f32⟩
  | .hbm, ⟨17, _⟩ => ⟨S1024, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S1x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096x1024, .f32⟩
  | .hbm, ⟨56, _⟩ => ⟨S4096x1024, .f32⟩
  | .hbm, ⟨57, _⟩ => ⟨S4096x3072, .f32⟩
  | .hbm, ⟨58, _⟩ => ⟨S4096x1024, .f32⟩
  | .hbm, ⟨59, _⟩ => ⟨S_, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S_, .f32⟩
  | .hbm, ⟨67, _⟩ => ⟨S1024, .f32⟩
  | .hbm, ⟨68, _⟩ => ⟨S4096x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S1024, .f32⟩
  | .hbm, ⟨76, _⟩ => ⟨S4096x1024, .f32⟩
  | .hbm, ⟨77, _⟩ => ⟨S_, .f32⟩
  | .hbm, ⟨78, _⟩ => ⟨S4096, .f32⟩
  | .hbm, ⟨79, _⟩ => ⟨S4096x1, .f32⟩
  | .hbm, ⟨80, _⟩ => ⟨S4096x1024, .f32⟩
  | .hbm, ⟨81, _⟩ => ⟨S4096x1024, .f32⟩
  | .hbm, ⟨82, _⟩ => ⟨S4096x1, .f32⟩
  | .hbm, ⟨83, _⟩ => ⟨S4096x1024, .f32⟩
  | .hbm, ⟨84, _⟩ => ⟨S_, .f32⟩
  | .hbm, ⟨85, _⟩ => ⟨S4096, .f32⟩
  | .hbm, ⟨86, _⟩ => ⟨S4096x1, .f32⟩
  | .hbm, ⟨87, _⟩ => ⟨S_, .f32⟩
  | .hbm, ⟨88, _⟩ => ⟨S4096x1, .f32⟩
  | .hbm, ⟨89, _⟩ => ⟨S4096x1, .f32⟩
  | .hbm, ⟨90, _⟩ => ⟨S_, .f32⟩
  | .hbm, ⟨91, _⟩ => ⟨S4096, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S_, .f32⟩
  | .hbm, ⟨96, _⟩ => ⟨S4096, .f32⟩
  | .hbm, ⟨97, _⟩ => ⟨S4096x1, .f32⟩
  | .hbm, ⟨98, _⟩ => ⟨S4096x1024, .f32⟩
  | .hbm, ⟨99, _⟩ => ⟨S4096x1, .f32⟩
  | .hbm, ⟨100, _⟩ => ⟨S_, .f32⟩
  | .hbm, ⟨101, _⟩ => ⟨S4096x1, .f32⟩
  | .hbm, ⟨102, _⟩ => ⟨S4096x1, .f32⟩
  | .hbm, ⟨103, _⟩ => ⟨S_, .f32⟩
  | .hbm, ⟨104, _⟩ => ⟨S4096, .f32⟩
  | .hbm, ⟨105, _⟩ => ⟨S4096x1024, .f32⟩
  | .hbm, ⟨106, _⟩ => ⟨S4096x1024, .f32⟩
  | .hbm, ⟨107, _⟩ => ⟨S1x1024, .f32⟩
  | .hbm, ⟨108, _⟩ => ⟨S1x1024, .f32⟩
  | .hbm, ⟨109, _⟩ => ⟨S4096x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_9 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_10 : Ref sig .tc := ⟨.hbm, 63, rfl⟩
abbrev main_v44 : Ref sig .tc := ⟨.hbm, 64, rfl⟩
abbrev main_v45 : Ref sig .tc := ⟨.hbm, 65, rfl⟩
abbrev main_cst_11 : Ref sig .tc := ⟨.hbm, 66, rfl⟩
abbrev main_v46 : Ref sig .tc := ⟨.hbm, 67, rfl⟩
abbrev main_v47 : Ref sig .tc := ⟨.hbm, 68, rfl⟩
abbrev main_cst_12 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_13 : Ref sig .tc := ⟨.hbm, 74, rfl⟩
abbrev main_v52 : Ref sig .tc := ⟨.hbm, 75, rfl⟩
abbrev main_v53 : Ref sig .tc := ⟨.hbm, 76, rfl⟩
abbrev main_cst_14 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_15 : Ref sig .tc := ⟨.hbm, 84, rfl⟩
abbrev main_v60 : Ref sig .tc := ⟨.hbm, 85, rfl⟩
abbrev main_v61 : Ref sig .tc := ⟨.hbm, 86, rfl⟩
abbrev main_cst_16 : Ref sig .tc := ⟨.hbm, 87, rfl⟩
abbrev main_v62 : Ref sig .tc := ⟨.hbm, 88, rfl⟩
abbrev main_v63 : Ref sig .tc := ⟨.hbm, 89, rfl⟩
abbrev main_cst_17 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_18 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_19 : Ref sig .tc := ⟨.hbm, 100, rfl⟩
abbrev main_v72 : Ref sig .tc := ⟨.hbm, 101, rfl⟩
abbrev main_v73 : Ref sig .tc := ⟨.hbm, 102, rfl⟩
abbrev main_cst_20 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩

abbrev nD : Nat := 1
abbrev τ : Topo := Topo.v7x

variable {F : FTy → Type} [FloatOps F]
-- ==== Ffn.lean ====
abbrev S4096x1024 : Shape := ⟨2, ![4096, 1024]⟩
abbrev S1024x1024 : Shape := ⟨2, ![1024, 1024]⟩
abbrev S1x1024 : Shape := ⟨2, ![1, 1024]⟩
abbrev S1024x2816 : Shape := ⟨2, ![1024, 2816]⟩
abbrev S2816x1024 : Shape := ⟨2, ![2816, 1024]⟩
abbrev S1024x8x352 : Shape := ⟨3, ![1024, 8, 352]⟩
abbrev S1024x8x256 : Shape := ⟨3, ![1024, 8, 256]⟩
abbrev S1024x2048 : Shape := ⟨2, ![1024, 2048]⟩
abbrev S1024x8x96 : Shape := ⟨3, ![1024, 8, 96]⟩
abbrev S_ : Shape := ⟨0, ![]⟩
abbrev S1024x8x128 : Shape := ⟨3, ![1024, 8, 128]⟩
abbrev S1024x3072 : Shape := ⟨2, ![1024, 3072]⟩
abbrev S8x352x1024 : Shape := ⟨3, ![8, 352, 1024]⟩
abbrev S8x256x1024 : Shape := ⟨3, ![8, 256, 1024]⟩
abbrev S2048x1024 : Shape := ⟨2, ![2048, 1024]⟩
abbrev S8x96x1024 : Shape := ⟨3, ![8, 96, 1024]⟩
abbrev S8x128x1024 : Shape := ⟨3, ![8, 128, 1024]⟩
abbrev S3072x1024 : Shape := ⟨2, ![3072, 1024]⟩
abbrev S4096x1 : Shape := ⟨2, ![4096, 1]⟩
abbrev S512x1024 : Shape := ⟨2, ![512, 1024]⟩
abbrev S512x1 : Shape := ⟨2, ![512, 1]⟩
abbrev S512 : Shape := ⟨1, ![512]⟩
abbrev S4096x3072 : Shape := ⟨2, ![4096, 3072]⟩
abbrev S512x3072 : Shape := ⟨2, ![512, 3072]⟩
abbrev S1024x512 : Shape := ⟨2, ![1024, 512]⟩
abbrev S512x512 : Shape := ⟨2, ![512, 512]⟩
abbrev S256x1024 : Shape := ⟨2, ![256, 1024]⟩
abbrev S256x3072 : Shape := ⟨2, ![256, 3072]⟩
abbrev S256x1 : Shape := ⟨2, ![256, 1]⟩
abbrev S256x512 : Shape := ⟨2, ![256, 512]⟩
abbrev S256 : Shape := ⟨1, ![256]⟩
abbrev S1024 : Shape := ⟨1, ![1024]⟩
abbrev S4096x2048 : Shape := ⟨2, ![4096, 2048]⟩
abbrev S4096x8x256 : Shape := ⟨3, ![4096, 8, 256]⟩
abbrev S4096x8x128 : Shape := ⟨3, ![4096, 8, 128]⟩
abbrev S4096x8x96 : Shape := ⟨3, ![4096, 8, 96]⟩
abbrev S4096x8x352 : Shape := ⟨3, ![4096, 8, 352]⟩
abbrev S4096x2816 : Shape := ⟨2, ![4096, 2816]⟩

abbrev nBuf : Space → Nat
  | .hbm => 70
  | .vmem => 51
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S4096x1024, .f32⟩
  | .hbm, ⟨11, _⟩ => ⟨S1024x8x352, .f32⟩
  | .hbm, ⟨12, _⟩ => ⟨S1024x8x256, .f32⟩
  | .hbm, ⟨13, _⟩ => ⟨S1024x2048, .f32⟩
  | .hbm, ⟨14, _⟩ => ⟨S1024x8x96, .f32⟩
  | .hbm, ⟨15, _⟩ => ⟨S_, .i32⟩
  | .hbm, ⟨16, _⟩ => ⟨S_, .f32⟩
  | .hbm, ⟨17, _⟩ => ⟨S1024x8x128, .f32⟩
  | .hbm, ⟨18, _⟩ => ⟨S1024x1024, .f32⟩
  | .hbm, ⟨19, _⟩ => ⟨S1024x3072, .f32⟩
  | .hbm, ⟨20, _⟩ => ⟨S1024x3072, .bf16⟩
  | .hbm, ⟨21, _⟩ => ⟨S1024x8x352, .f32⟩
  | .hbm, ⟨22, _⟩ => ⟨S1024x8x256, .f32⟩
  | .hbm, ⟨23, _⟩ => ⟨S1024x2048, .f32⟩
  | .hbm, ⟨24, _⟩ => ⟨S1024x8x96, .f32⟩
  | .hbm, ⟨25, _⟩ => ⟨S_, .i32⟩
  | .hbm, ⟨26, _⟩ => ⟨S_, .f32⟩
  | .hbm, ⟨27, _⟩ => ⟨S1024x8x128, .f32⟩
  | .hbm, ⟨28, _⟩ => ⟨S1024x1024, .f32⟩
  | .hbm, ⟨29, _⟩ => ⟨S1024x3072, .f32⟩
  | .hbm, ⟨30, _⟩ => ⟨S1024x3072, .bf16⟩
  | .hbm, ⟨31, _⟩ => ⟨S8x352x1024, .f32⟩
  | .hbm, ⟨32, _⟩ => ⟨S8x256x1024, .f32⟩
  | .hbm, ⟨33, _⟩ => ⟨S2048x1024, .f32⟩
  | .hbm, ⟨34, _⟩ => ⟨S8x96x1024, .f32⟩
  | .hbm, ⟨35, _⟩ => ⟨S_, .i32⟩
  | .hbm, ⟨36, _⟩ => ⟨S_, .f32⟩
  | .hbm, ⟨37, _⟩ => ⟨S8x128x1024, .f32⟩
  | .hbm, ⟨38, _⟩ => ⟨S1024x1024, .f32⟩
  | .hbm, ⟨39, _⟩ => ⟨S3072x1024, .f32⟩
  | .hbm, ⟨40, _⟩ => ⟨S3072x1024, .bf16⟩
  | .hbm, ⟨41, _⟩ => ⟨S4096x1024, .bf16⟩
  | .hbm, ⟨42, _⟩ => ⟨S1024x1024, .bf16⟩
  | .hbm, ⟨43, _⟩ => ⟨S4096x1024, .bf16⟩
  | .hbm, ⟨44, _⟩ => ⟨S4096x1024, .f32⟩
  | .hbm, ⟨45, _⟩ => ⟨S4096x1, .f32⟩
  | .hbm, ⟨46, _⟩ => ⟨S4096x3072, .bf16⟩
  | .hbm, ⟨47, _⟩ => ⟨S4096x3072, .bf16⟩
  | .hbm, ⟨48, _⟩ => ⟨S4096x3072, .bf16⟩
  | .hbm, ⟨49, _⟩ => ⟨S4096x1024, .bf16⟩
  | .hbm, ⟨50, _⟩ => ⟨S4096x3072, .bf16⟩
  | .hbm, ⟨51, _⟩ => ⟨S4096x3072, .bf16⟩
  | .hbm, ⟨52, _⟩ => ⟨S4096x1024, .f32⟩
  | .hbm, ⟨53, _⟩ => ⟨S4096x1024, .bf16⟩
  | .hbm, ⟨54, _⟩ => ⟨S1x1024, .f32⟩
  | .hbm, ⟨55, _⟩ => ⟨S1x1024, .f32⟩
  | .hbm, ⟨56, _⟩ => ⟨S4096x2048, .bf16⟩
  | .hbm, ⟨57, _⟩ => ⟨S4096x8x256, .bf16⟩
  | .hbm, ⟨58, _⟩ => ⟨S4096x1024, .bf16⟩
  | .hbm, ⟨59, _⟩ => ⟨S4096x8x128, .bf16⟩
  | .hbm, ⟨60, _⟩ => ⟨S4096x8x96, .bf16⟩
  | .hbm, ⟨61, _⟩ => ⟨S4096x8x352, .bf16⟩
  | .hbm, ⟨62, _⟩ => ⟨S4096x2816, .bf16⟩
  | .hbm, ⟨63, _⟩ => ⟨S4096x2048, .bf16⟩
  | .hbm, ⟨64, _⟩ => ⟨S4096x8x256, .bf16⟩
  | .hbm, ⟨65, _⟩ => ⟨S4096x1024, .bf16⟩
  | .hbm, ⟨66, _⟩ => ⟨S4096x8x128, .bf16⟩
  | .hbm, ⟨67, _⟩ => ⟨S4096x8x96, .bf16⟩
  | .hbm, ⟨68, _⟩ => ⟨S4096x8x352, .bf16⟩
  | .hbm, ⟨69, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | .local _ .vmem, ⟨13, _⟩ => ⟨S512x1, .f32⟩
  | .local _ .vmem, ⟨14, _⟩ => ⟨S512x1, .f32⟩
  | .local _ .vmem, ⟨15, _⟩ => ⟨S512x1024, .bf16⟩
  | .local _ .vmem, ⟨16, _⟩ => ⟨S512x1024, .bf16⟩
  | .local _ .vmem, ⟨17, _⟩ => ⟨S1024x3072, .bf16⟩
  | .local _ .vmem, ⟨18, _⟩ => ⟨S1024x3072, .bf16⟩
  | .local _ .vmem, ⟨19, _⟩ => ⟨S512x3072, .bf16⟩
  | .local _ .vmem, ⟨20, _⟩ => ⟨S512x3072, .bf16⟩
  | .local _ .vmem, ⟨21, _⟩ => ⟨S512x3072, .bf16⟩
  | .local _ .vmem, ⟨22, _⟩ => ⟨S512x3072, .bf16⟩
  | .local _ .vmem, ⟨23, _⟩ => ⟨S512x3072, .bf16⟩
  | .local _ .vmem, ⟨24, _⟩ => ⟨S512x3072, .bf16⟩
  | .local _ .vmem, ⟨25, _⟩ => ⟨S256x1024, .f32⟩
  | .local _ .vmem, ⟨26, _⟩ => ⟨S256x1024, .f32⟩
  | .local _ .vmem, ⟨27, _⟩ => ⟨S256x1024, .bf16⟩
  | .local _ .vmem, ⟨28, _⟩ => ⟨S256x1024, .bf16⟩
  | .local _ .vmem, ⟨29, _⟩ => ⟨S3072x1024, .bf16⟩
  | .local _ .vmem, ⟨30, _⟩ => ⟨S1024x3072, .bf16⟩
  | .local _ .vmem, ⟨31, _⟩ => ⟨S1024x3072, .bf16⟩
  | .local _ .vmem, ⟨32, _⟩ => ⟨S256x3072, .bf16⟩
  | .local _ .vmem, ⟨33, _⟩ => ⟨S256x3072, .bf16⟩
  | .local _ .vmem, ⟨34, _⟩ => ⟨S256x3072, .bf16⟩
  | .local _ .vmem, ⟨35, _⟩ => ⟨S256x3072, .bf16⟩
  | .local _ .vmem, ⟨36, _⟩ => ⟨S256x1024, .f32⟩
  | .local _ .vmem, ⟨37, _⟩ => ⟨S256x1024, .f32⟩
  | .local _ .vmem, ⟨38, _⟩ => ⟨S256x1, .f32⟩
  | .local _ .vmem, ⟨39, _⟩ => ⟨S256x1, .f32⟩
  | .local _ .vmem, ⟨40, _⟩ => ⟨S1x1024, .f32⟩
  | .local _ .vmem, ⟨41, _⟩ => ⟨S256x3072, .bf16⟩
  | .local _ .vmem, ⟨42, _⟩ => ⟨S256x3072, .bf16⟩
  | .local _ .vmem, ⟨43, _⟩ => ⟨S256x3072, .bf16⟩
  | .local _ .vmem, ⟨44, _⟩ => ⟨S256x3072, .bf16⟩
  | .local _ .vmem, ⟨45, _⟩ => ⟨S256x1024, .f32⟩
  | .local _ .vmem, ⟨46, _⟩ => ⟨S256x1024, .f32⟩
  | .local _ .vmem, ⟨47, _⟩ => ⟨S256x1024, .bf16⟩
  | .local _ .vmem, ⟨48, _⟩ => ⟨S256x1024, .bf16⟩
  | .local _ .vmem, ⟨49, _⟩ => ⟨S1x1024, .f32⟩
  | .local _ .vmem, ⟨50, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_0 : Ref sig .tc := ⟨.hbm, 25, rfl⟩
abbrev main_call1_v0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_1 : Ref sig .tc := ⟨.hbm, 35, rfl⟩
abbrev main_call2_v0 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26_0 : Ref sig .tc := ⟨.hbm, 43, rfl⟩
abbrev main_v26_1 : Ref sig .tc := ⟨.hbm, 44, rfl⟩
abbrev main_v26_2 : Ref sig .tc := ⟨.hbm, 45, rfl⟩
abbrev main_v27_0 : Ref sig .tc := ⟨.hbm, 46, rfl⟩
abbrev main_v27_1 : Ref sig .tc := ⟨.hbm, 47, rfl⟩
abbrev main_v27_2 : Ref sig .tc := ⟨.hbm, 48, rfl⟩
abbrev main_v28 : Ref sig .tc := ⟨.hbm, 49, rfl⟩
abbrev main_v29_0 : Ref sig .tc := ⟨.hbm, 50, rfl⟩
abbrev main_v29_1 : Ref sig .tc := ⟨.hbm, 51, rfl⟩
abbrev main_v29_2 : Ref sig .tc := ⟨.hbm, 52, rfl⟩
abbrev main_v29_3 : Ref sig .tc := ⟨.hbm, 53, rfl⟩
abbrev main_v29_4 : Ref sig .tc := ⟨.hbm, 54, rfl⟩
abbrev main_v29_5 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg1_1 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg5_1 : Ref sig .tc := ⟨.vmem, 33, rfl⟩
abbrev cc2_stg6_0 : Ref sig .tc := ⟨.vmem, 34, rfl⟩
abbrev cc2_stg6_1 : Ref sig .tc := ⟨.vmem, 35, rfl⟩
abbrev cc2_stg7_0 : Ref sig .tc := ⟨.vmem, 36, rfl⟩
abbrev cc2_stg7_1 : Ref sig .tc := ⟨.vmem, 37, rfl⟩
abbrev cc2_stg8_0 : Ref sig .tc := ⟨.vmem, 38, rfl⟩
abbrev cc2_stg8_1 : Ref sig .tc := ⟨.vmem, 39, rfl⟩
abbrev cc2_stg9_0 : Ref sig .tc := ⟨.vmem, 40, rfl⟩
abbrev cc2_stg10_0 : Ref sig .tc := ⟨.vmem, 41, rfl⟩
abbrev cc2_stg10_1 : Ref sig .tc := ⟨.vmem, 42, rfl⟩
abbrev cc2_stg11_0 : Ref sig .tc := ⟨.vmem, 43, rfl⟩
abbrev cc2_stg11_1 : Ref sig .tc := ⟨.vmem, 44, rfl⟩
abbrev cc2_stg12_0 : Ref sig .tc := ⟨.vmem, 45, rfl⟩
abbrev cc2_stg12_1 : Ref sig .tc := ⟨.vmem, 46, rfl⟩
abbrev cc2_stg13_0 : Ref sig .tc := ⟨.vmem, 47, rfl⟩
abbrev cc2_stg13_1 : Ref sig .tc := ⟨.vmem, 48, rfl⟩
abbrev cc2_stg14_0 : Ref sig .tc := ⟨.vmem, 49, rfl⟩
abbrev cc2_stg15_0 : Ref sig .tc := ⟨.vmem, 50, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc1_sem5_1 : DmaSem sig := 24
abbrev cc2_sem0_0 : DmaSem sig := 25
abbrev cc2_sem0_1 : DmaSem sig := 26
abbrev cc2_sem1_0 : DmaSem sig := 27
abbrev cc2_sem1_1 : DmaSem sig := 28
abbrev cc2_sem2_0 : DmaSem sig := 29
abbrev cc2_sem3_0 : DmaSem sig := 30
abbrev cc2_sem4_0 : DmaSem sig := 31
abbrev cc2_sem5_0 : DmaSem sig := 32
abbrev cc2_sem5_1 : DmaSem sig := 33
abbrev cc2_sem6_0 : DmaSem sig := 34
abbrev cc2_sem6_1 : DmaSem sig := 35
abbrev cc2_sem7_0 : DmaSem sig := 36
abbrev cc2_sem7_1 : DmaSem sig := 37
abbrev cc2_sem8_0 : DmaSem sig := 38
abbrev cc2_sem8_1 : DmaSem sig := 39
abbrev cc2_sem9_0 : DmaSem sig := 40
abbrev cc2_sem10_0 : DmaSem sig := 41
abbrev cc2_sem10_1 : DmaSem sig := 42
abbrev cc2_sem11_0 : DmaSem sig := 43
abbrev cc2_sem11_1 : DmaSem sig := 44
abbrev cc2_sem12_0 : DmaSem sig := 45
abbrev cc2_sem12_1 : DmaSem sig := 46
abbrev cc2_sem13_0 : DmaSem sig := 47
abbrev cc2_sem13_1 : DmaSem sig := 48
abbrev cc2_sem14_0 : DmaSem sig := 49
abbrev cc2_sem15_0 : DmaSem sig := 50

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x3072 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x3072 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x3072 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x3072 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x3072 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_12 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_13 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S3072x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1024x3072 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1024x3072 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S256x3072 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S256x3072 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S256x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S256x1 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 1 → Memref sig .tc .vmem S1x1024 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S256x3072 .bf16 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev stage2_11 : Fin 2 → Memref sig .tc .vmem S256x3072 .bf16 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev stage2_12 : Fin 2 → Memref sig .tc .vmem S256x1024 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

abbrev stage2_13 : Fin 2 → Memref sig .tc .vmem S256x1024 .bf16 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

abbrev stage2_14 : Fin 1 → Memref sig .tc .vmem S1x1024 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S1x1024 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]
-- ==== FfnRefIdeal.lean ====
abbrev S4096x1024 : Shape := ⟨2, ![4096, 1024]⟩
abbrev S1024x1024 : Shape := ⟨2, ![1024, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096x2816 : Shape := ⟨2, ![4096, 2816]⟩
abbrev S1024 : Shape := ⟨1, ![1024]⟩
abbrev S4096 : Shape := ⟨1, ![4096]⟩
abbrev S4096x1 : Shape := ⟨2, ![4096, 1]⟩

abbrev nBuf : Space → Nat
  | .hbm => 154
  | .vmem => 0
  | .smem => 0
  | _ => 0

abbrev hbmTy0_0 (i : Nat) : BufTy := match i % 128 with
  | 0 => ⟨S4096x1024, .f32⟩
  | 1 => ⟨S1024x1024, .f32⟩
  | 2 => ⟨S4096x1024, .f32⟩
  | 3 => ⟨S1x1024, .f32⟩
  | 4 => ⟨S1x1024, .f32⟩
  | 5 => ⟨S1x1024, .f32⟩
  | 6 => ⟨S1x1024, .f32⟩
  | 7 => ⟨S1024x2816, .f32⟩
  | 8 => ⟨S1024x2816, .f32⟩
  | 9 => ⟨S2816x1024, .f32⟩
  | 10 => ⟨S4096x1024, .f32⟩
  | 11 => ⟨S4096x1024, .f32⟩
  | 12 => ⟨S4096x1024, .f32⟩
  | 13 => ⟨S4096x1024, .f32⟩
  | 14 => ⟨S4096x1024, .f32⟩
  | 15 => ⟨S_, .f32⟩
  | 16 => ⟨S4096x1024, .f32⟩
  | 17 => ⟨S4096x1024, .f32⟩
  | 18 => ⟨S4096x1024, .f32⟩
  | 19 => ⟨S4096x1024, .f32⟩
  | 20 => ⟨S_, .f32⟩
  | 21 => ⟨S4096x2816, .f32⟩
  | 22 => ⟨S1024, .f32⟩
  | 23 => ⟨S1024, .f32⟩
  | 24 => ⟨S_, .f32⟩
  | 25 => ⟨S4096, .f32⟩
  | 26 => ⟨S4096x1, .f32⟩
  | 27 => ⟨S_, .f32⟩
  | 28 => ⟨S4096x1, .f32⟩
  | 29 => ⟨S4096x1, .f32⟩
  | 30 => ⟨S4096x1024, .f32⟩
  | 31 => ⟨S4096x1024, .f32⟩
  | 32 => ⟨S4096x1024, .f32⟩
  | 33 => ⟨S_, .f32⟩
  | 34 => ⟨S4096x1024, .f32⟩
  | 35 => ⟨S4096x1024, .f32⟩
  | 36 => ⟨S_, .f32⟩
  | 37 => ⟨S4096, .f32⟩
  | 38 => ⟨S4096x1, .f32⟩
  | 39 => ⟨S_, .f32⟩
  | 40 => ⟨S4096x1, .f32⟩
  | 41 => ⟨S4096x1, .f32⟩
  | 42 => ⟨S4096x1024, .f32⟩
  | 43 => ⟨S4096x1024, .f32⟩
  | 44 => ⟨S_, .f32⟩
  | 45 => ⟨S4096x1, .f32⟩
  | 46 => ⟨S4096x1, .f32⟩
  | 47 => ⟨S4096x1, .f32⟩
  | 48 => ⟨S4096x1, .f32⟩
  | 49 => ⟨S_, .f32⟩
  | 50 => ⟨S4096x1, .f32⟩
  | 51 => ⟨S4096x1, .f32⟩
  | 52 => ⟨S4096x1024, .f32⟩
  | 53 => ⟨S4096x1024, .f32⟩
  | 54 => ⟨S1x1024, .f32⟩
  | 55 => ⟨S4096x1024, .f32⟩
  | 56 => ⟨S4096x1024, .f32⟩
  | 57 => ⟨S1x1024, .f32⟩
  | 58 => ⟨S4096x1024, .f32⟩
  | 59 => ⟨S4096x1024, .f32⟩
  | 60 => ⟨S_, .f32⟩
  | 61 => ⟨S4096x1024, .f32⟩
  | 62 => ⟨S4096x1024, .f32⟩
  | 63 => ⟨S4096x2816, .f32⟩
  | 64 => ⟨S4096x2816, .f32⟩
  | 65 => ⟨S4096x2816, .f32⟩
  | 66 => ⟨S4096x2816, .f32⟩
  | 67 => ⟨S_, .f32⟩
  | 68 => ⟨S4096x2816, .f32⟩
  | 69 => ⟨S4096x2816, .f32⟩
  | 70 => ⟨S_, .f32⟩
  | 71 => ⟨S4096x2816, .f32⟩
  | 72 => ⟨S4096x2816, .f32⟩
  | 73 => ⟨S_, .f32⟩
  | 74 => ⟨S4096x2816, .f32⟩
  | 75 => ⟨S4096x2816, .f32⟩
  | 76 => ⟨S4096x2816, .f32⟩
  | 77 => ⟨S4096x2816, .f32⟩
  | 78 => ⟨S4096x2816, .f32⟩
  | 79 => ⟨S4096x2816, .f32⟩
  | 80 => ⟨S4096x2816, .f32⟩
  | 81 => ⟨S4096x1024, .f32⟩
  | 82 => ⟨S_, .f32⟩
  | 83 => ⟨S4096x1024, .f32⟩
  | 84 => ⟨S4096x1024, .f32⟩
  | 85 => ⟨S4096x1024, .f32⟩
  | 86 => ⟨S4096x1024, .f32⟩
  | 87 => ⟨S4096x1024, .f32⟩
  | 88 => ⟨S_, .f32⟩
  | 89 => ⟨S4096x1024, .f32⟩
  | 90 => ⟨S4096x1024, .f32⟩
  | 91 => ⟨S4096x2816, .f32⟩
  | 92 => ⟨S4096x2816, .f32⟩
  | 93 => ⟨S4096x2816, .f32⟩
  | 94 => ⟨S4096x1024, .f32⟩
  | 95 => ⟨S4096x2816, .f32⟩
  | 96 => ⟨S4096x2816, .f32⟩
  | 97 => ⟨S4096x2816, .f32⟩
  | 98 => ⟨S4096x2816, .f32⟩
  | 99 => ⟨S4096x1024, .f32⟩
  | 100 => ⟨S4096x1024, .f32⟩
  | 101 => ⟨S_, .f32⟩
  | 102 => ⟨S4096x1024, .f32⟩
  | 103 => ⟨S4096x1024, .f32⟩
  | 104 => ⟨S4096x1024, .f32⟩
  | 105 => ⟨S_, .f32⟩
  | 106 => ⟨S1024, .f32⟩
  | 107 => ⟨S1x1024, .f32⟩
  | 108 => ⟨S_, .f32⟩
  | 109 => ⟨S1024, .f32⟩
  | 110 => ⟨S4096x1024, .f32⟩
  | 111 => ⟨S_, .f32⟩
  | 112 => ⟨S1024, .f32⟩
  | 113 => ⟨S1x1024, .f32⟩
  | 114 => ⟨S4096x1024, .f32⟩
  | 115 => ⟨S4096x1024, .f32⟩
  | 116 => ⟨S_, .f32⟩
  | 117 => ⟨S1024, .f32⟩
  | 118 => ⟨S4096x1024, .f32⟩
  | 119 => ⟨S_, .f32⟩
  | 120 => ⟨S4096, .f32⟩
  | 121 => ⟨S4096x1, .f32⟩
  | 122 => ⟨S4096x1024, .f32⟩
  | 123 => ⟨S4096x1024, .f32⟩
  | 124 => ⟨S4096x1, .f32⟩
  | 125 => ⟨S4096x1024, .f32⟩
  | 126 => ⟨S_, .f32⟩
  | 127 => ⟨S4096, .f32⟩
  | _ => ⟨S4096x1024, .f32⟩

abbrev hbmTy0_1 (i : Nat) : BufTy := match i % 128 with
  | 0 => ⟨S4096x1, .f32⟩
  | 1 => ⟨S_, .f32⟩
  | 2 => ⟨S4096x1, .f32⟩
  | 3 => ⟨S4096x1, .f32⟩
  | 4 => ⟨S_, .f32⟩
  | 5 => ⟨S4096, .f32⟩
  | 6 => ⟨S4096x1024, .f32⟩
  | 7 => ⟨S4096x1024, .f32⟩
  | 8 => ⟨S4096x1024, .f32⟩
  | 9 => ⟨S_, .f32⟩
  | 10 => ⟨S4096, .f32⟩
  | 11 => ⟨S4096x1, .f32⟩
  | 12 => ⟨S4096x1024, .f32⟩
  | 13 => ⟨S4096x1, .f32⟩
  | 14 => ⟨S_, .f32⟩
  | 15 => ⟨S4096x1, .f32⟩
  | 16 => ⟨S4096x1, .f32⟩
  | 17 => ⟨S_, .f32⟩
  | 18 => ⟨S4096, .f32⟩
  | 19 => ⟨S4096x1024, .f32⟩
  | 20 => ⟨S4096x1024, .f32⟩
  | 21 => ⟨S1x1024, .f32⟩
  | 22 => ⟨S1x1024, .f32⟩
  | 23 => ⟨S4096x2816, .bf16⟩
  | 24 => ⟨S4096x2816, .bf16⟩
  | 25 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_cst_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_7 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_call0_v0 : Ref sig .tc := ⟨.hbm, 65, rfl⟩
abbrev main_call0_v1 : Ref sig .tc := ⟨.hbm, 66, rfl⟩
abbrev main_call0_cst : Ref sig .tc := ⟨.hbm, 67, rfl⟩
abbrev main_call0_v2 : Ref sig .tc := ⟨.hbm, 68, rfl⟩
abbrev main_call0_v3 : Ref sig .tc := ⟨.hbm, 69, rfl⟩
abbrev main_call0_cst_0 : Ref sig .tc := ⟨.hbm, 70, rfl⟩
abbrev main_call0_v4 : Ref sig .tc := ⟨.hbm, 71, rfl⟩
abbrev main_v44_2 : Ref sig .tc := ⟨.hbm, 72, rfl⟩
abbrev main_call0_cst_1 : Ref sig .tc := ⟨.hbm, 73, rfl⟩
abbrev main_call0_v6 : Ref sig .tc := ⟨.hbm, 74, rfl⟩
abbrev main_call0_v7 : Ref sig .tc := ⟨.hbm, 75, rfl⟩
abbrev main_v44_1 : Ref sig .tc := ⟨.hbm, 76, rfl⟩
abbrev main_v44_0 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_cst_9 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_10 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_call1_v0 : Ref sig .tc := ⟨.hbm, 95, rfl⟩
abbrev main_call1_v1 : Ref sig .tc := ⟨.hbm, 96, rfl⟩
abbrev main_call1_v2 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_cst_11 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_cst_12 : Ref sig .tc := ⟨.hbm, 105, rfl⟩
abbrev main_v66 : Ref sig .tc := ⟨.hbm, 106, rfl⟩
abbrev main_v67 : Ref sig .tc := ⟨.hbm, 107, rfl⟩
abbrev main_cst_13 : Ref sig .tc := ⟨.hbm, 108, rfl⟩
abbrev main_v68 : Ref sig .tc := ⟨.hbm, 109, rfl⟩
abbrev main_v69 : Ref sig .tc := ⟨.hbm, 110, rfl⟩
abbrev main_cst_14 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_cst_15 : Ref sig .tc := ⟨.hbm, 116, rfl⟩
abbrev main_v74 : Ref sig .tc := ⟨.hbm, 117, rfl⟩
abbrev main_v75 : Ref sig .tc := ⟨.hbm, 118, rfl⟩
abbrev main_cst_16 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_cst_17 : Ref sig .tc := ⟨.hbm, 126, rfl⟩
abbrev main_v82 : Ref sig .tc := ⟨.hbm, 127, rfl⟩
abbrev main_v83 : Ref sig .tc := ⟨.hbm, 128, rfl⟩
abbrev main_cst_18 : Ref sig .tc := ⟨.hbm, 129, rfl⟩
abbrev main_v84 : Ref sig .tc := ⟨.hbm, 130, rfl⟩
abbrev main_v85 : Ref sig .tc := ⟨.hbm, 131, rfl⟩
abbrev main_cst_19 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_cst_20 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_cst_21 : Ref sig .tc := ⟨.hbm, 142, rfl⟩
abbrev main_v94 : Ref sig .tc := ⟨.hbm, 143, rfl⟩
abbrev main_v95 : Ref sig .tc := ⟨.hbm, 144, rfl⟩
abbrev main_cst_22 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩

abbrev nD : Nat := 1
abbrev τ : Topo := Topo.v7x

variable {F : FTy → Type} [FloatOps F]
-- ==== Hgrn.lean ====
abbrev S24x4096x128 : Shape := ⟨3, ![24, 4096, 128]⟩
abbrev S4x4096x128 : Shape := ⟨3, ![4, 4096, 128]⟩
abbrev S8x4096x128 : Shape := ⟨3, ![8, 4096, 128]⟩
abbrev S4x256x128x128 : Shape := ⟨4, ![4, 256, 128, 128]⟩
abbrev S4x2x128 : Shape := ⟨3, ![4, 2, 128]⟩
abbrev S1x128 : Shape := ⟨2, ![1, 128]⟩
abbrev S256x256 : Shape := ⟨2, ![256, 256]⟩
abbrev S_ : Shape := ⟨0, ![]⟩
abbrev S1x256x256 : Shape := ⟨3, ![1, 256, 256]⟩
abbrev S3x256x256 : Shape := ⟨3, ![3, 256, 256]⟩
abbrev S4096x512 : Shape := ⟨2, ![4096, 512]⟩
abbrev S4x1x128 : Shape := ⟨3, ![4, 1, 128]⟩
abbrev S1x1024x128 : Shape := ⟨3, ![1, 1024, 128]⟩
abbrev S1x64x128x128 : Shape := ⟨4, ![1, 64, 128, 128]⟩
abbrev S1x2x128 : Shape := ⟨3, ![1, 2, 128]⟩
abbrev S1024x128 : Shape := ⟨2, ![1024, 128]⟩
abbrev S1x1x128 : Shape := ⟨3, ![1, 1, 128]⟩
abbrev S128x128 : Shape := ⟨2, ![128, 128]⟩
abbrev S2x128 : Shape := ⟨2, ![2, 128]⟩
abbrev S128 : Shape := ⟨1, ![128]⟩
abbrev S256x128 : Shape := ⟨2, ![256, 128]⟩
abbrev S1024 : Shape := ⟨1, ![1024]⟩
abbrev S1024x1 : Shape := ⟨2, ![1024, 1]⟩
abbrev S8x128 : Shape := ⟨2, ![8, 128]⟩
abbrev S1x1x128x128 : Shape := ⟨4, ![1, 1, 128, 128]⟩
abbrev S16x128 : Shape := ⟨2, ![16, 128]⟩
abbrev S1x16x128 : Shape := ⟨3, ![1, 16, 128]⟩
abbrev S8 : Shape := ⟨1, ![8]⟩
abbrev S8x1 : Shape := ⟨2, ![8, 1]⟩

abbrev nBuf : Space → Nat
  | .hbm => 62
  | .vmem => 43
  | .smem => 0
  | _ => 0

abbrev bufTy : (tb : Table) → Fin (tcTables nBuf tb) → BufTy
  | .hbm, ⟨0, _⟩ => ⟨S24x4096x128, .f32⟩
  | .hbm, ⟨1, _⟩ => ⟨S4x4096x128, .f32⟩
  | .hbm, ⟨2, _⟩ => ⟨S8x4096x128, .f32⟩
  | .hbm, ⟨3, _⟩ => ⟨S4x256x128x128, .f32⟩
  | .hbm, ⟨4, _⟩ => ⟨S4x2x128, .f32⟩
  | .hbm, ⟨5, _⟩ => ⟨S1x128, .f32⟩
  | .hbm, ⟨6, _⟩ => ⟨S4x256x128x128, .bf16⟩
  | .hbm, ⟨7, _⟩ => ⟨S256x256, .i32⟩
  | .hbm, ⟨8, _⟩ => ⟨S256x256, .i32⟩
  | .hbm, ⟨9, _⟩ => ⟨S_, .i32⟩
  | .hbm, ⟨10, _⟩ => ⟨S_, .i32⟩
  | .hbm, ⟨11, _⟩ => ⟨S256x256, .i32⟩
  | .hbm, ⟨12, _⟩ => ⟨S256x256, .i32⟩
  | .hbm, ⟨13, _⟩ => ⟨S256x256, .i32⟩
  | .hbm, ⟨14, _⟩ => ⟨S_, .i32⟩
  | .hbm, ⟨15, _⟩ => ⟨S256x256, .i32⟩
  | .hbm, ⟨16, _⟩ => ⟨S256x256, .i1⟩
  | .hbm, ⟨17, _⟩ => ⟨S256x256, .i32⟩
  | .hbm, ⟨18, _⟩ => ⟨S256x256, .i32⟩
  | .hbm, ⟨19, _⟩ => ⟨S_, .i32⟩
  | .hbm, ⟨20, _⟩ => ⟨S256x256, .i32⟩
  | .hbm, ⟨21, _⟩ => ⟨S256x256, .i1⟩
  | .hbm, ⟨22, _⟩ => ⟨S256x256, .i1⟩
  | .hbm, ⟨23, _⟩ => ⟨S_, .i32⟩
  | .hbm, ⟨24, _⟩ => ⟨S256x256, .i32⟩
  | .hbm, ⟨25, _⟩ => ⟨S256x256, .i32⟩
  | .hbm, ⟨26, _⟩ => ⟨S256x256, .i32⟩
  | .hbm, ⟨27, _⟩ => ⟨S_, .i32⟩
  | .hbm, ⟨28, _⟩ => ⟨S_, .i32⟩
  | .hbm, ⟨29, _⟩ => ⟨S256x256, .i32⟩
  | .hbm, ⟨30, _⟩ => ⟨S256x256, .i32⟩
  | .hbm, ⟨31, _⟩ => ⟨S256x256, .i32⟩
  | .hbm, ⟨32, _⟩ => ⟨S_, .i32⟩
  | .hbm, ⟨33, _⟩ => ⟨S256x256, .i32⟩
  | .hbm, ⟨34, _⟩ => ⟨S256x256, .i1⟩
  | .hbm, ⟨35, _⟩ => ⟨S256x256, .i32⟩
  | .hbm, ⟨36, _⟩ => ⟨S256x256, .i32⟩
  | .hbm, ⟨37, _⟩ => ⟨S_, .i32⟩
  | .hbm, ⟨38, _⟩ => ⟨S256x256, .i32⟩
  | .hbm, ⟨39, _⟩ => ⟨S256x256, .i1⟩
  | .hbm, ⟨40, _⟩ => ⟨S256x256, .i1⟩
  | .hbm, ⟨41, _⟩ => ⟨S_, .i32⟩
  | .hbm, ⟨42, _⟩ => ⟨S256x256, .i32⟩
  | .hbm, ⟨43, _⟩ => ⟨S256x256, .i32⟩
  | .hbm, ⟨44, _⟩ => ⟨S256x256, .i32⟩
  | .hbm, ⟨45, _⟩ => ⟨S256x256, .i1⟩
  | .hbm, ⟨46, _⟩ => ⟨S256x256, .i1⟩
  | .hbm, ⟨47, _⟩ => ⟨S256x256, .i1⟩
  | .hbm, ⟨48, _⟩ => ⟨S256x256, .i1⟩
  | .hbm, ⟨49, _⟩ => ⟨S256x256, .i1⟩
  | .hbm, ⟨50, _⟩ => ⟨S1x256x256, .i1⟩
  | .hbm, ⟨51, _⟩ => ⟨S1x256x256, .i1⟩
  | .hbm, ⟨52, _⟩ => ⟨S1x256x256, .i1⟩
  | .hbm, ⟨53, _⟩ => ⟨S3x256x256, .i1⟩
  | .hbm, ⟨54, _⟩ => ⟨S3x256x256, .f32⟩
  | .hbm, ⟨55, _⟩ => ⟨S3x256x256, .bf16⟩
  | .hbm, ⟨56, _⟩ => ⟨S4096x512, .bf16⟩
  | .hbm, ⟨57, _⟩ => ⟨S4096x512, .bf16⟩
  | .hbm, ⟨58, _⟩ => ⟨S4096x512, .bf16⟩
  | .hbm, ⟨59, _⟩ => ⟨S4096x512, .bf16⟩
  | .hbm, ⟨60, _⟩ => ⟨S4x2x128, .f32⟩
  | .hbm, ⟨61, _⟩ => ⟨S4x1x128, .f32⟩
  | .local _ .vmem, ⟨0, _⟩ => ⟨S1x1024x128, .f32⟩
  | .local _ .vmem, ⟨1, _⟩ => ⟨S1x1024x128, .f32⟩
  | .local _ .vmem, ⟨2, _⟩ => ⟨S1x1024x128, .f32⟩
  | .local _ .vmem, ⟨3, _⟩ => ⟨S1x1024x128, .f32⟩
  | .local _ .vmem, ⟨4, _⟩ => ⟨S1x1024x128, .f32⟩
  | .local _ .vmem, ⟨5, _⟩ => ⟨S1x1024x128, .f32⟩
  | .local _ .vmem, ⟨6, _⟩ => ⟨S1x1024x128, .f32⟩
  | .local _ .vmem, ⟨7, _⟩ => ⟨S1x1024x128, .f32⟩
  | .local _ .vmem, ⟨8, _⟩ => ⟨S1x1024x128, .f32⟩
  | .local _ .vmem, ⟨9, _⟩ => ⟨S1x1024x128, .f32⟩
  | .local _ .vmem, ⟨10, _⟩ => ⟨S1x1024x128, .f32⟩
  | .local _ .vmem, ⟨11, _⟩ => ⟨S1x1024x128, .f32⟩
  | .local _ .vmem, ⟨12, _⟩ => ⟨S1x64x128x128, .bf16⟩
  | .local _ .vmem, ⟨13, _⟩ => ⟨S1x64x128x128, .bf16⟩
  | .local _ .vmem, ⟨14, _⟩ => ⟨S1x2x128, .f32⟩
  | .local _ .vmem, ⟨15, _⟩ => ⟨S1x2x128, .f32⟩
  | .local _ .vmem, ⟨16, _⟩ => ⟨S1x128, .f32⟩
  | .local _ .vmem, ⟨17, _⟩ => ⟨S3x256x256, .bf16⟩
  | .local _ .vmem, ⟨18, _⟩ => ⟨S1024x128, .bf16⟩
  | .local _ .vmem, ⟨19, _⟩ => ⟨S1024x128, .bf16⟩
  | .local _ .vmem, ⟨20, _⟩ => ⟨S1024x128, .bf16⟩
  | .local _ .vmem, ⟨21, _⟩ => ⟨S1024x128, .bf16⟩
  | .local _ .vmem, ⟨22, _⟩ => ⟨S1024x128, .bf16⟩
  | .local _ .vmem, ⟨23, _⟩ => ⟨S1024x128, .bf16⟩
  | .local _ .vmem, ⟨24, _⟩ => ⟨S1024x128, .bf16⟩
  | .local _ .vmem, ⟨25, _⟩ => ⟨S1024x128, .bf16⟩
  | .local _ .vmem, ⟨26, _⟩ => ⟨S1x2x128, .f32⟩
  | .local _ .vmem, ⟨27, _⟩ => ⟨S1x2x128, .f32⟩
  | .local _ .vmem, ⟨28, _⟩ => ⟨S1x1x128, .f32⟩
  | .local _ .vmem, ⟨29, _⟩ => ⟨S1x1x128, .f32⟩
  | .local _ .vmem, ⟨30, _⟩ => ⟨S128x128, .f32⟩
  | .local _ .vmem, ⟨31, _⟩ => ⟨S1024x128, .bf16⟩
  | .local _ .vmem, ⟨32, _⟩ => ⟨S1024x128, .bf16⟩
  | .local _ .vmem, ⟨33, _⟩ => ⟨S1024x128, .f32⟩
  | .local _ .vmem, ⟨34, _⟩ => ⟨S1024x128, .f32⟩
  | .local _ .vmem, ⟨35, _⟩ => ⟨S1024x128, .f32⟩
  | .local _ .vmem, ⟨36, _⟩ => ⟨S1024x128, .f32⟩
  | .local _ .vmem, ⟨37, _⟩ => ⟨S1024x128, .f32⟩
  | .local _ .vmem, ⟨38, _⟩ => ⟨S1024x128, .f32⟩
  | .local _ .vmem, ⟨39, _⟩ => ⟨S1024x128, .f32⟩
  | .local _ .vmem, ⟨40, _⟩ => ⟨S1024x128, .f32⟩
  | .local _ .vmem, ⟨41, _⟩ => ⟨S1024x128, .f32⟩
  | .local _ .vmem, ⟨42, _⟩ => ⟨S1x128, .f32⟩
  | _, _ => ⟨S24x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v3 : Ref sig .tc := ⟨.hbm, 26, rfl⟩
abbrev main_c_0 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_c : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_0 : Ref sig .tc := ⟨.hbm, 41, rfl⟩
abbrev main_call1_v12 : Ref sig .tc := ⟨.hbm, 42, rfl⟩
abbrev main_call1_v13 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16_0 : Ref sig .tc := ⟨.hbm, 56, rfl⟩
abbrev main_v16_1 : Ref sig .tc := ⟨.hbm, 57, rfl⟩
abbrev main_v16_2 : Ref sig .tc := ⟨.hbm, 58, rfl⟩
abbrev main_v16_3 : Ref sig .tc := ⟨.hbm, 59, rfl⟩
abbrev main_v16_4 : Ref sig .tc := ⟨.hbm, 60, rfl⟩
abbrev main_v16_5 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.vmem, 34, rfl⟩
abbrev cc0_scratch5 : Ref sig .tc := ⟨.vmem, 35, rfl⟩
abbrev cc0_scratch6 : Ref sig .tc := ⟨.vmem, 36, rfl⟩
abbrev cc0_scratch7 : Ref sig .tc := ⟨.vmem, 37, rfl⟩
abbrev cc0_scratch8 : Ref sig .tc := ⟨.vmem, 38, rfl⟩
abbrev cc0_scratch9 : Ref sig .tc := ⟨.vmem, 39, rfl⟩
abbrev cc0_scratch10 : Ref sig .tc := ⟨.vmem, 40, rfl⟩
abbrev cc0_scratch11 : Ref sig .tc := ⟨.vmem, 41, rfl⟩
abbrev cc0_scratch12 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32_83 : BitVec 32 := 0#32
  let c64_i32 : BitVec 32 := 64#32
  let v191 : BitVec 32 := Scalar.addi c0_i32_83 c64_i32
  let c1_i32 : BitVec 32 := 1#32
  ⟨c0_i32_83, v191, c1_i32⟩
def k0_mult1 (k0_t1 : Fin k0_t1_loop.trips) : BitVec 32 :=
  let c63_i32 : BitVec 32 := 63#32
  let c0_i32_83 : BitVec 32 := 0#32
  let c1_i32 : BitVec 32 := 1#32
  let arg31 : BitVec 32 := Scf.iv c0_i32_83 c1_i32 k0_t1
  let v248 : BitVec 32 := Scalar.subi c63_i32 arg31
  let c16_i32 : BitVec 32 := 16#32
  let v249 : BitVec 32 := Scalar.muli v248 c16_i32
  v249
def k0_off1 (k0_t1 : Fin k0_t1_loop.trips) : Fin 4 → Nat :=
  let c0_110 : Index := 0#32
  let c63_i32 : BitVec 32 := 63#32
  let c0_i32_83 : BitVec 32 := 0#32
  let c1_i32 : BitVec 32 := 1#32
  let arg31 : BitVec 32 := Scf.iv c0_i32_83 c1_i32 k0_t1
  let v248 : BitVec 32 := Scalar.subi c63_i32 arg31
  let v251 : Index := Scalar.indexCast v248
  let c0_111 : Index := 0#32
  let c0_112 : Index := 0#32
  ![0, v251.toNat, 0, 0]
def k0_off2 (k0_t1 : Fin k0_t1_loop.trips) : Fin 2 → Nat :=
  let c63_i32 : BitVec 32 := 63#32
  let c0_i32_83 : BitVec 32 := 0#32
  let c1_i32 : BitVec 32 := 1#32
  let arg31 : BitVec 32 := Scf.iv c0_i32_83 c1_i32 k0_t1
  let v248 : BitVec 32 := Scalar.subi c63_i32 arg31
  let c16_i32 : BitVec 32 := 16#32
  let v249 : BitVec 32 := Scalar.muli v248 c16_i32
  let v250 : BitVec 32 := v249
  let v256 : Index := Scalar.indexCast v250
  let c0_115 : Index := 0#32
  ![v256.toNat, 0]
def k0_off3 (k0_t1 : Fin k0_t1_loop.trips) : Fin 3 → Nat :=
  let c0_116 : Index := 0#32
  let c63_i32 : BitVec 32 := 63#32
  let c0_i32_83 : BitVec 32 := 0#32
  let c1_i32 : BitVec 32 := 1#32
  let arg31 : BitVec 32 := Scf.iv c0_i32_83 c1_i32 k0_t1
  let v248 : BitVec 32 := Scalar.subi c63_i32 arg31
  let c16_i32 : BitVec 32 := 16#32
  let v249 : BitVec 32 := Scalar.muli v248 c16_i32
  let v250 : BitVec 32 := v249
  let v259 : Index := Scalar.indexCast v250
  let c0_117 : Index := 0#32
  ![0, v259.toNat, 0]
def k0_off4 (k0_t1 : Fin k0_t1_loop.trips) : Fin 2 → Nat :=
  let c63_i32 : BitVec 32 := 63#32
  let c0_i32_83 : BitVec 32 := 0#32
  let c1_i32 : BitVec 32 := 1#32
  let arg31 : BitVec 32 := Scf.iv c0_i32_83 c1_i32 k0_t1
  let v248 : BitVec 32 := Scalar.subi c63_i32 arg31
  let c16_i32 : BitVec 32 := 16#32
  let v249 : BitVec 32 := Scalar.muli v248 c16_i32
  let v250 : BitVec 32 := v249
  let v274 : Index := Scalar.indexCast v250
  let c0_124 : Index := 0#32
  ![v274.toNat, 0]
def k0_cond2 (i : grid0.Coords) : BitVec 1 :=
  let arg1 : BitVec 32 := BitVec.ofNat 32 (i 1).val
  let c3_i32 : BitVec 32 := 3#32
  let v245 : BitVec 1 := Scalar.cmpi .eq arg1 c3_i32
  let v246 : BitVec 32 := Scalar.extui v245
  let c0_i32_109 : BitVec 32 := 0#32
  let v247 : BitVec 1 := Scalar.cmpi .ne v246 c0_i32_109
  v247

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c3_i32 : BitVec 32 := 3#32
  let v1 : BitVec 32 := Scalar.subi c3_i32 arg1
  let c0_i32_0 : BitVec 32 := 0#32
  let c0_i32_1 : BitVec 32 := 0#32
  ![v0.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c3_i32 : BitVec 32 := 3#32
  let v1 : BitVec 32 := Scalar.subi c3_i32 arg1
  let c0_i32 : BitVec 32 := 0#32
  let c0_i32_0 : BitVec 32 := 0#32
  ![v0.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c3_i32 : BitVec 32 := 3#32
  let v1 : BitVec 32 := Scalar.subi c3_i32 arg1
  let c0_i32 : BitVec 32 := 0#32
  let c0_i32_0 : BitVec 32 := 0#32
  ![v0.toNat, v1.toNat, c0_i32.toNat]

def cc0_transform_3 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c3_i32 : BitVec 32 := 3#32
  let v1 : BitVec 32 := Scalar.subi c3_i32 arg1
  let c0_i32 : BitVec 32 := 0#32
  let c0_i32_0 : BitVec 32 := 0#32
  ![v0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c3_i32 : BitVec 32 := 3#32
  let v1 : BitVec 32 := Scalar.subi c3_i32 arg1
  let c0_i32_0 : BitVec 32 := 0#32
  let c0_i32_1 : BitVec 32 := 0#32
  ![v0.toNat, v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c3_i32 : BitVec 32 := 3#32
  let v1 : BitVec 32 := Scalar.subi c3_i32 arg1
  let c0_i32_0 : BitVec 32 := 0#32
  let c0_i32_1 : BitVec 32 := 0#32
  ![v0.toNat, v1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  ![v0.toNat, arg0.toNat]

def cc0_transform_11 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  ![v0.toNat, arg0.toNat]

def cc0_transform_12 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  ![v0.toNat, arg0.toNat]

def cc0_transform_13 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  ![v0.toNat, arg0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S3x256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1024x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x2x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x1x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== Hfwd.lean ====
abbrev S24x4096x128 : Shape := ⟨3, ![24, 4096, 128]⟩
abbrev S4x2x128 : Shape := ⟨3, ![4, 2, 128]⟩
abbrev S1x128 : Shape := ⟨2, ![1, 128]⟩
abbrev S256x256 : Shape := ⟨2, ![256, 256]⟩
abbrev S_ : Shape := ⟨0, ![]⟩
abbrev S1x256x256 : Shape := ⟨3, ![1, 256, 256]⟩
abbrev S3x256x256 : Shape := ⟨3, ![3, 256, 256]⟩
abbrev S4x4096x128 : Shape := ⟨3, ![4, 4096, 128]⟩
abbrev S4096x1024 : Shape := ⟨2, ![4096, 1024]⟩
abbrev S4x256x128x128 : Shape := ⟨4, ![4, 256, 128, 128]⟩
abbrev S1x1024x128 : Shape := ⟨3, ![1, 1024, 128]⟩
abbrev S1x2x128 : Shape := ⟨3, ![1, 2, 128]⟩
abbrev S1024x128 : Shape := ⟨2, ![1024, 128]⟩
abbrev S1x64x128x128 : Shape := ⟨4, ![1, 64, 128, 128]⟩
abbrev S128x128 : Shape := ⟨2, ![128, 128]⟩
abbrev S2x128 : Shape := ⟨2, ![2, 128]⟩
abbrev S128 : Shape := ⟨1, ![128]⟩
abbrev S256x128 : Shape := ⟨2, ![256, 128]⟩
abbrev S8x128 : Shape := ⟨2, ![8, 128]⟩
abbrev S1x1x128x128 : Shape := ⟨4, ![1, 1, 128, 128]⟩
abbrev S1x16x128 : Shape := ⟨3, ![1, 16, 128]⟩
abbrev S16x128 : Shape := ⟨2, ![16, 128]⟩
abbrev S8 : Shape := ⟨1, ![8]⟩
abbrev S8x1 : Shape := ⟨2, ![8, 1]⟩
abbrev S1024 : Shape := ⟨1, ![1024]⟩
abbrev S1024x1 : Shape := ⟨2, ![1024, 1]⟩

abbrev nBuf : Space → Nat
  | .hbm => 55
  | .vmem => 24
  | .smem => 0
  | _ => 0

abbrev bufTy : (tb : Table) → Fin (tcTables nBuf tb) → BufTy
  | .hbm, ⟨0, _⟩ => ⟨S24x4096x128, .f32⟩
  | .hbm, ⟨1, _⟩ => ⟨S4x2x128, .f32⟩
  | .hbm, ⟨2, _⟩ => ⟨S1x128, .f32⟩
  | .hbm, ⟨3, _⟩ => ⟨S256x256, .i32⟩
  | .hbm, ⟨4, _⟩ => ⟨S256x256, .i32⟩
  | .hbm, ⟨5, _⟩ => ⟨S_, .i32⟩
  | .hbm, ⟨6, _⟩ => ⟨S_, .i32⟩
  | .hbm, ⟨7, _⟩ => ⟨S256x256, .i32⟩
  | .hbm, ⟨8, _⟩ => ⟨S256x256, .i32⟩
  | .hbm, ⟨9, _⟩ => ⟨S256x256, .i32⟩
  | .hbm, ⟨10, _⟩ => ⟨S_, .i32⟩
  | .hbm, ⟨11, _⟩ => ⟨S256x256, .i32⟩
  | .hbm, ⟨12, _⟩ => ⟨S256x256, .i1⟩
  | .hbm, ⟨13, _⟩ => ⟨S256x256, .i32⟩
  | .hbm, ⟨14, _⟩ => ⟨S256x256, .i32⟩
  | .hbm, ⟨15, _⟩ => ⟨S_, .i32⟩
  | .hbm, ⟨16, _⟩ => ⟨S256x256, .i32⟩
  | .hbm, ⟨17, _⟩ => ⟨S256x256, .i1⟩
  | .hbm, ⟨18, _⟩ => ⟨S256x256, .i1⟩
  | .hbm, ⟨19, _⟩ => ⟨S_, .i32⟩
  | .hbm, ⟨20, _⟩ => ⟨S256x256, .i32⟩
  | .hbm, ⟨21, _⟩ => ⟨S256x256, .i32⟩
  | .hbm, ⟨22, _⟩ => ⟨S256x256, .i32⟩
  | .hbm, ⟨23, _⟩ => ⟨S_, .i32⟩
  | .hbm, ⟨24, _⟩ => ⟨S_, .i32⟩
  | .hbm, ⟨25, _⟩ => ⟨S256x256, .i32⟩
  | .hbm, ⟨26, _⟩ => ⟨S256x256, .i32⟩
  | .hbm, ⟨27, _⟩ => ⟨S256x256, .i32⟩
  | .hbm, ⟨28, _⟩ => ⟨S_, .i32⟩
  | .hbm, ⟨29, _⟩ => ⟨S256x256, .i32⟩
  | .hbm, ⟨30, _⟩ => ⟨S256x256, .i1⟩
  | .hbm, ⟨31, _⟩ => ⟨S256x256, .i32⟩
  | .hbm, ⟨32, _⟩ => ⟨S256x256, .i32⟩
  | .hbm, ⟨33, _⟩ => ⟨S_, .i32⟩
  | .hbm, ⟨34, _⟩ => ⟨S256x256, .i32⟩
  | .hbm, ⟨35, _⟩ => ⟨S256x256, .i1⟩
  | .hbm, ⟨36, _⟩ => ⟨S256x256, .i1⟩
  | .hbm, ⟨37, _⟩ => ⟨S_, .i32⟩
  | .hbm, ⟨38, _⟩ => ⟨S256x256, .i32⟩
  | .hbm, ⟨39, _⟩ => ⟨S256x256, .i32⟩
  | .hbm, ⟨40, _⟩ => ⟨S256x256, .i32⟩
  | .hbm, ⟨41, _⟩ => ⟨S256x256, .i1⟩
  | .hbm, ⟨42, _⟩ => ⟨S256x256, .i1⟩
  | .hbm, ⟨43, _⟩ => ⟨S256x256, .i1⟩
  | .hbm, ⟨44, _⟩ => ⟨S256x256, .i1⟩
  | .hbm, ⟨45, _⟩ => ⟨S256x256, .i1⟩
  | .hbm, ⟨46, _⟩ => ⟨S1x256x256, .i1⟩
  | .hbm, ⟨47, _⟩ => ⟨S1x256x256, .i1⟩
  | .hbm, ⟨48, _⟩ => ⟨S1x256x256, .i1⟩
  | .hbm, ⟨49, _⟩ => ⟨S3x256x256, .i1⟩
  | .hbm, ⟨50, _⟩ => ⟨S3x256x256, .f32⟩
  | .hbm, ⟨51, _⟩ => ⟨S3x256x256, .bf16⟩
  | .hbm, ⟨52, _⟩ => ⟨S4x4096x128, .f32⟩
  | .hbm, ⟨53, _⟩ => ⟨S4096x1024, .bf16⟩
  | .hbm, ⟨54, _⟩ => ⟨S4x256x128x128, .bf16⟩
  | .local _ .vmem, ⟨0, _⟩ => ⟨S1x1024x128, .f32⟩
  | .local _ .vmem, ⟨1, _⟩ => ⟨S1x1024x128, .f32⟩
  | .local _ .vmem, ⟨2, _⟩ => ⟨S1x1024x128, .f32⟩
  | .local _ .vmem, ⟨3, _⟩ => ⟨S1x1024x128, .f32⟩
  | .local _ .vmem, ⟨4, _⟩ => ⟨S1x1024x128, .f32⟩
  | .local _ .vmem, ⟨5, _⟩ => ⟨S1x1024x128, .f32⟩
  | .local _ .vmem, ⟨6, _⟩ => ⟨S1x1024x128, .f32⟩
  | .local _ .vmem, ⟨7, _⟩ => ⟨S1x1024x128, .f32⟩
  | .local _ .vmem, ⟨8, _⟩ => ⟨S1x2x128, .f32⟩
  | .local _ .vmem, ⟨9, _⟩ => ⟨S1x2x128, .f32⟩
  | .local _ .vmem, ⟨10, _⟩ => ⟨S1x128, .f32⟩
  | .local _ .vmem, ⟨11, _⟩ => ⟨S3x256x256, .bf16⟩
  | .local _ .vmem, ⟨12, _⟩ => ⟨S1x1024x128, .f32⟩
  | .local _ .vmem, ⟨13, _⟩ => ⟨S1x1024x128, .f32⟩
  | .local _ .vmem, ⟨14, _⟩ => ⟨S1024x128, .bf16⟩
  | .local _ .vmem, ⟨15, _⟩ => ⟨S1024x128, .bf16⟩
  | .local _ .vmem, ⟨16, _⟩ => ⟨S1x64x128x128, .bf16⟩
  | .local _ .vmem, ⟨17, _⟩ => ⟨S1x64x128x128, .bf16⟩
  | .local _ .vmem, ⟨18, _⟩ => ⟨S128x128, .f32⟩
  | .local _ .vmem, ⟨19, _⟩ => ⟨S1024x128, .bf16⟩
  | .local _ .vmem, ⟨20, _⟩ => ⟨S1024x128, .bf16⟩
  | .local _ .vmem, ⟨21, _⟩ => ⟨S1024x128, .f32⟩
  | .local _ .vmem, ⟨22, _⟩ => ⟨S1024x128, .f32⟩
  | .local _ .vmem, ⟨23, _⟩ => ⟨S1024x128, .f32⟩
  | _, _ => ⟨S24x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v2 : Ref sig .tc := ⟨.hbm, 22, rfl⟩
abbrev main_c_0 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_c : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_c_0 : Ref sig .tc := ⟨.hbm, 37, rfl⟩
abbrev main_call1_v12 : Ref sig .tc := ⟨.hbm, 38, rfl⟩
abbrev main_call1_v13 : Ref sig .tc := ⟨.hbm, 39, rfl⟩
abbrev main_v3 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15_0 : Ref sig .tc := ⟨.hbm, 52, rfl⟩
abbrev main_v15_1 : Ref sig .tc := ⟨.hbm, 53, rfl⟩
abbrev main_v15_2 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32_47 : BitVec 32 := 0#32
  let c64_i32 : BitVec 32 := 64#32
  let v121 : BitVec 32 := Scalar.addi c0_i32_47 c64_i32
  let c1_i32 : BitVec 32 := 1#32
  ⟨c0_i32_47, v121, c1_i32⟩
def k0_mult1 (k0_t1 : Fin k0_t1_loop.trips) : BitVec 32 :=
  let c0_i32_47 : BitVec 32 := 0#32
  let c1_i32 : BitVec 32 := 1#32
  let arg18 : BitVec 32 := Scf.iv c0_i32_47 c1_i32 k0_t1
  let c16_i32 : BitVec 32 := 16#32
  let v150 : BitVec 32 := Scalar.muli arg18 c16_i32
  v150
def k0_off1 (k0_t1 : Fin k0_t1_loop.trips) : Fin 4 → Nat :=
  let c0_67 : Index := 0#32
  let c0_i32_47 : BitVec 32 := 0#32
  let c1_i32 : BitVec 32 := 1#32
  let arg18 : BitVec 32 := Scf.iv c0_i32_47 c1_i32 k0_t1
  let v154 : Index := Scalar.indexCast arg18
  let c0_68 : Index := 0#32
  let c0_69 : Index := 0#32
  ![0, v154.toNat, 0, 0]
def k0_off2 (k0_t1 : Fin k0_t1_loop.trips) : Fin 3 → Nat :=
  let c0_70 : Index := 0#32
  let c0_i32_47 : BitVec 32 := 0#32
  let c1_i32 : BitVec 32 := 1#32
  let arg18 : BitVec 32 := Scf.iv c0_i32_47 c1_i32 k0_t1
  let c16_i32 : BitVec 32 := 16#32
  let v150 : BitVec 32 := Scalar.muli arg18 c16_i32
  let v151 : BitVec 32 := v150
  let v158 : Index := Scalar.indexCast v151
  let c0_71 : Index := 0#32
  ![0, v158.toNat, 0]
def k0_off3 (k0_t1 : Fin k0_t1_loop.trips) : Fin 2 → Nat :=
  let c0_i32_47 : BitVec 32 := 0#32
  let c1_i32 : BitVec 32 := 1#32
  let arg18 : BitVec 32 := Scf.iv c0_i32_47 c1_i32 k0_t1
  let c16_i32 : BitVec 32 := 16#32
  let v150 : BitVec 32 := Scalar.muli arg18 c16_i32
  let v151 : BitVec 32 := v150
  let v164 : Index := Scalar.indexCast v151
  let c0_74 : Index := 0#32
  ![v164.toNat, 0]
def k0_off4 (k0_t1 : Fin k0_t1_loop.trips) : Fin 2 → Nat :=
  let c0_i32_47 : BitVec 32 := 0#32
  let c1_i32 : BitVec 32 := 1#32
  let arg18 : BitVec 32 := Scf.iv c0_i32_47 c1_i32 k0_t1
  let c16_i32 : BitVec 32 := 16#32
  let v150 : BitVec 32 := Scalar.muli arg18 c16_i32
  let v151 : BitVec 32 := v150
  let v582 : Index := Scalar.indexCast v151
  let c0_126 : Index := 0#32
  ![v582.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![v0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![v0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  ![v0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x64x128x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Nfwd.lean ====
abbrev S4096x1024 : Shape := ⟨2, ![4096, 1024]⟩
abbrev S1024x1024 : Shape := ⟨2, ![1024, 1024]⟩
abbrev S1x1024 : Shape := ⟨2, ![1, 1024]⟩
abbrev S4096x1 : Shape := ⟨2, ![4096, 1]⟩
abbrev S512x1024 : Shape := ⟨2, ![512, 1024]⟩
abbrev S512x1 : Shape := ⟨2, ![512, 1]⟩
abbrev S512 : Shape := ⟨1, ![512]⟩

abbrev nBuf : Space → Nat
  | .hbm => 12
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S4096x1024, .bf16⟩
  | .hbm, ⟨8, _⟩ => ⟨S1024x1024, .bf16⟩
  | .hbm, ⟨9, _⟩ => ⟨S4096x1024, .bf16⟩
  | .hbm, ⟨10, _⟩ => ⟨S4096x1024, .f32⟩
  | .hbm, ⟨11, _⟩ => ⟨S4096x1, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | .local _ .vmem, ⟨13, _⟩ => ⟨S512x1, .f32⟩
  | .local _ .vmem, ⟨14, _⟩ => ⟨S512x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== NfwdRefIdeal.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 75
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S1024, .f32⟩
  | .hbm, ⟨12, _⟩ => ⟨S1x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S1024, .f32⟩
  | .hbm, ⟨40, _⟩ => ⟨S1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S4096x1, .f32⟩
  | .hbm, ⟨62, _⟩ => ⟨S4096x1024, .f32⟩
  | .hbm, ⟨63, _⟩ => ⟨S4096x1024, .f32⟩
  | .hbm, ⟨64, _⟩ => ⟨S1x1024, .f32⟩
  | .hbm, ⟨65, _⟩ => ⟨S4096x1024, .f32⟩
  | .hbm, ⟨66, _⟩ => ⟨S4096x1024, .f32⟩
  | .hbm, ⟨67, _⟩ => ⟨S1x1024, .f32⟩
  | .hbm, ⟨68, _⟩ => ⟨S4096x1024, .f32⟩
  | .hbm, ⟨69, _⟩ => ⟨S4096x1024, .f32⟩
  | .hbm, ⟨70, _⟩ => ⟨S4096x1024, .bf16⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩

abbrev nD : Nat := 1
abbrev τ : Topo := Topo.v7x

variable {F : FTy → Type} [FloatOps F]
-- ==== Mfwd.lean ====
abbrev S256x1024 : Shape := ⟨2, ![256, 1024]⟩
abbrev S1x1024 : Shape := ⟨2, ![1, 1024]⟩
abbrev S1x1024x1024 : Shape := ⟨3, ![1, 1024, 1024]⟩
abbrev S1024x1024 : Shape := ⟨2, ![1024, 1024]⟩
abbrev S256x1 : Shape := ⟨2, ![256, 1]⟩
abbrev S256 : Shape := ⟨1, ![256]⟩

abbrev nBuf : Space → Nat
  | .hbm => 14
  | .vmem => 10
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1x1024, .f32⟩
  | .hbm, ⟨3, _⟩ => ⟨S1x1024x1024, .f32⟩
  | .hbm, ⟨4, _⟩ => ⟨S1x1024x1024, .f32⟩
  | .hbm, ⟨5, _⟩ => ⟨S1024x1024, .f32⟩
  | .hbm, ⟨6, _⟩ => ⟨S1024x1024, .bf16⟩
  | .hbm, ⟨7, _⟩ => ⟨S1024x1024, .f32⟩
  | .hbm, ⟨8, _⟩ => ⟨S1024x1024, .bf16⟩
  | .hbm, ⟨9, _⟩ => ⟨S256x1024, .bf16⟩
  | .hbm, ⟨10, _⟩ => ⟨S256x1024, .f32⟩
  | .hbm, ⟨11, _⟩ => ⟨S256x1, .f32⟩
  | .hbm, ⟨12, _⟩ => ⟨S256x1024, .bf16⟩
  | .hbm, ⟨13, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S256x1024, .bf16⟩
  | .local _ .vmem, ⟨6, _⟩ => ⟨S256x1024, .f32⟩
  | .local _ .vmem, ⟨7, _⟩ => ⟨S256x1, .f32⟩
  | .local _ .vmem, ⟨8, _⟩ => ⟨S256x1024, .bf16⟩
  | .local _ .vmem, ⟨9, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== MfwdRefIdeal.lean ====
abbrev S256x1024 : Shape := ⟨2, ![256, 1024]⟩
abbrev S1x1024 : Shape := ⟨2, ![1, 1024]⟩
abbrev S1x1024x1024 : Shape := ⟨3, ![1, 1024, 1024]⟩
abbrev S_ : Shape := ⟨0, ![]⟩
abbrev S256 : Shape := ⟨1, ![256]⟩
abbrev S256x1 : Shape := ⟨2, ![256, 1]⟩
abbrev S1024 : Shape := ⟨1, ![1024]⟩
abbrev S1024x1024 : Shape := ⟨2, ![1024, 1024]⟩

abbrev nBuf : Space → Nat
  | .hbm => 66
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1x1024, .f32⟩
  | .hbm, ⟨3, _⟩ => ⟨S1x1024x1024, .f32⟩
  | .hbm, ⟨4, _⟩ => ⟨S1x1024x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256, .f32⟩
  | .hbm, ⟨16, _⟩ => ⟨S256x1, .f32⟩
  | .hbm, ⟨17, _⟩ => ⟨S_, .f32⟩
  | .hbm, ⟨18, _⟩ => ⟨S256x1, .f32⟩
  | .hbm, ⟨19, _⟩ => ⟨S256x1, .f32⟩
  | .hbm, ⟨20, _⟩ => ⟨S_, .f32⟩
  | .hbm, ⟨21, _⟩ => ⟨S256x1, .f32⟩
  | .hbm, ⟨22, _⟩ => ⟨S256x1, .f32⟩
  | .hbm, ⟨23, _⟩ => ⟨S256x1, .f32⟩
  | .hbm, ⟨24, _⟩ => ⟨S1024, .f32⟩
  | .hbm, ⟨25, _⟩ => ⟨S1024, .f32⟩
  | .hbm, ⟨26, _⟩ => ⟨S_, .f32⟩
  | .hbm, ⟨27, _⟩ => ⟨S256, .f32⟩
  | .hbm, ⟨28, _⟩ => ⟨S256x1, .f32⟩
  | .hbm, ⟨29, _⟩ => ⟨S_, .f32⟩
  | .hbm, ⟨30, _⟩ => ⟨S256x1, .f32⟩
  | .hbm, ⟨31, _⟩ => ⟨S256x1, .f32⟩
  | .hbm, ⟨32, _⟩ => ⟨S256x1024, .f32⟩
  | .hbm, ⟨33, _⟩ => ⟨S256x1024, .f32⟩
  | .hbm, ⟨34, _⟩ => ⟨S256x1024, .f32⟩
  | .hbm, ⟨35, _⟩ => ⟨S_, .f32⟩
  | .hbm, ⟨36, _⟩ => ⟨S256, .f32⟩
  | .hbm, ⟨37, _⟩ => ⟨S256x1, .f32⟩
  | .hbm, ⟨38, _⟩ => ⟨S_, .f32⟩
  | .hbm, ⟨39, _⟩ => ⟨S256x1, .f32⟩
  | .hbm, ⟨40, _⟩ => ⟨S256x1, .f32⟩
  | .hbm, ⟨41, _⟩ => ⟨S256x1024, .f32⟩
  | .hbm, ⟨42, _⟩ => ⟨S256x1024, .f32⟩
  | .hbm, ⟨43, _⟩ => ⟨S_, .f32⟩
  | .hbm, ⟨44, _⟩ => ⟨S256x1, .f32⟩
  | .hbm, ⟨45, _⟩ => ⟨S256x1, .f32⟩
  | .hbm, ⟨46, _⟩ => ⟨S256x1, .f32⟩
  | .hbm, ⟨47, _⟩ => ⟨S256x1024, .f32⟩
  | .hbm, ⟨48, _⟩ => ⟨S256x1024, .f32⟩
  | .hbm, ⟨49, _⟩ => ⟨S1x1024, .f32⟩
  | .hbm, ⟨50, _⟩ => ⟨S256x1024, .f32⟩
  | .hbm, ⟨51, _⟩ => ⟨S256x1024, .f32⟩
  | .hbm, ⟨52, _⟩ => ⟨S1x1024, .f32⟩
  | .hbm, ⟨53, _⟩ => ⟨S256x1024, .f32⟩
  | .hbm, ⟨54, _⟩ => ⟨S256x1024, .f32⟩
  | .hbm, ⟨55, _⟩ => ⟨S256x1024, .bf16⟩
  | .hbm, ⟨56, _⟩ => ⟨S256x1024, .f32⟩
  | .hbm, ⟨57, _⟩ => ⟨S256x1024, .f32⟩
  | .hbm, ⟨58, _⟩ => ⟨S256x1024, .f32⟩
  | .hbm, ⟨59, _⟩ => ⟨S256x1024, .f32⟩
  | .hbm, ⟨60, _⟩ => ⟨S1024x1024, .f32⟩
  | .hbm, ⟨61, _⟩ => ⟨S256x1024, .f32⟩
  | .hbm, ⟨62, _⟩ => ⟨S256x1024, .bf16⟩
  | .hbm, ⟨63, _⟩ => ⟨S1024x1024, .f32⟩
  | .hbm, ⟨64, _⟩ => ⟨S256x1024, .f32⟩
  | .hbm, ⟨65, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩

abbrev nD : Nat := 1
abbrev τ : Topo := Topo.v7x

variable {F : FTy → Type} [FloatOps F]
-- ==== Sfwd.lean ====
abbrev S4096x3072 : Shape := ⟨2, ![4096, 3072]⟩
abbrev S4096x1024 : Shape := ⟨2, ![4096, 1024]⟩
abbrev S1x4x128 : Shape := ⟨3, ![1, 4, 128]⟩
abbrev S1x4x128x128 : Shape := ⟨4, ![1, 4, 128, 128]⟩
abbrev S4096x24x128 : Shape := ⟨3, ![4096, 24, 128]⟩
abbrev S24x4096x128 : Shape := ⟨3, ![24, 4096, 128]⟩
abbrev S4x1x128 : Shape := ⟨3, ![4, 1, 128]⟩
abbrev S4x128x128 : Shape := ⟨3, ![4, 128, 128]⟩
abbrev S4x512x128 : Shape := ⟨3, ![4, 512, 128]⟩
abbrev S512x512 : Shape := ⟨2, ![512, 512]⟩
abbrev S1x128x128 : Shape := ⟨3, ![1, 128, 128]⟩
abbrev S128x128 : Shape := ⟨2, ![128, 128]⟩
abbrev S1x1x128 : Shape := ⟨3, ![1, 1, 128]⟩
abbrev S1x128 : Shape := ⟨2, ![1, 128]⟩
abbrev S128 : Shape := ⟨1, ![128]⟩
abbrev S128x1 : Shape := ⟨2, ![128, 1]⟩

abbrev nBuf : Space → Nat
  | .hbm => 14
  | .vmem => 10
  | .smem => 0
  | _ => 0

abbrev bufTy : (tb : Table) → Fin (tcTables nBuf tb) → BufTy
  | .hbm, ⟨0, _⟩ => ⟨S4096x3072, .f32⟩
  | .hbm, ⟨1, _⟩ => ⟨S4096x1024, .f32⟩
  | .hbm, ⟨2, _⟩ => ⟨S1x4x128, .f32⟩
  | .hbm, ⟨3, _⟩ => ⟨S1x4x128, .f32⟩
  | .hbm, ⟨4, _⟩ => ⟨S1x4x128x128, .f32⟩
  | .hbm, ⟨5, _⟩ => ⟨S1x4x128, .f32⟩
  | .hbm, ⟨6, _⟩ => ⟨S4096x24x128, .f32⟩
  | .hbm, ⟨7, _⟩ => ⟨S24x4096x128, .f32⟩
  | .hbm, ⟨8, _⟩ => ⟨S4096x1024, .bf16⟩
  | .hbm, ⟨9, _⟩ => ⟨S4x1x128, .f32⟩
  | .hbm, ⟨10, _⟩ => ⟨S4x1x128, .f32⟩
  | .hbm, ⟨11, _⟩ => ⟨S4x128x128, .f32⟩
  | .hbm, ⟨12, _⟩ => ⟨S4x1x128, .f32⟩
  | .hbm, ⟨13, _⟩ => ⟨S4096x1024, .bf16⟩
  | .local _ .vmem, ⟨0, _⟩ => ⟨S4x512x128, .f32⟩
  | .local _ .vmem, ⟨1, _⟩ => ⟨S4x512x128, .f32⟩
  | .local _ .vmem, ⟨2, _⟩ => ⟨S4x512x128, .f32⟩
  | .local _ .vmem, ⟨3, _⟩ => ⟨S4x512x128, .f32⟩
  | .local _ .vmem, ⟨4, _⟩ => ⟨S4x1x128, .f32⟩
  | .local _ .vmem, ⟨5, _⟩ => ⟨S4x1x128, .f32⟩
  | .local _ .vmem, ⟨6, _⟩ => ⟨S4x128x128, .f32⟩
  | .local _ .vmem, ⟨7, _⟩ => ⟨S4x1x128, .f32⟩
  | .local _ .vmem, ⟨8, _⟩ => ⟨S512x512, .bf16⟩
  | .local _ .vmem, ⟨9, _⟩ => ⟨S512x512, .bf16⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_1 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

abbrev stage0_0 : Fin 2 → Memref sig .tc .vmem S4x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SfwdIdeal.lean ====
variable {F : FTy → Type} [FloatOps F] [Named F]
def κ : String → Option EReal := fun
  | "cube" => some ((8943 / 200000 : ℝ) : EReal)
  | "cube3" => some ((26829 / 200000 : ℝ) : EReal)
  | _ => none
-- ==== SfwdRefIdeal.lean ====
abbrev S4096x3072 : Shape := ⟨2, ![4096, 3072]⟩
abbrev S4096x1024 : Shape := ⟨2, ![4096, 1024]⟩
abbrev S1x4x128 : Shape := ⟨3, ![1, 4, 128]⟩
abbrev S1x4x128x128 : Shape := ⟨4, ![1, 4, 128, 128]⟩
abbrev S_ : Shape := ⟨0, ![]⟩
abbrev S1x4096x1024 : Shape := ⟨3, ![1, 4096, 1024]⟩
abbrev S4x128x128 : Shape := ⟨3, ![4, 128, 128]⟩
abbrev S4x128 : Shape := ⟨2, ![4, 128]⟩
abbrev S1x4096x512 : Shape := ⟨3, ![1, 4096, 512]⟩
abbrev S1x4096x4x128 : Shape := ⟨4, ![1, 4096, 4, 128]⟩
abbrev S1x4096x4 : Shape := ⟨3, ![1, 4096, 4]⟩
abbrev S1x4096x4x1 : Shape := ⟨4, ![1, 4096, 4, 1]⟩
abbrev S1x1x4x128 : Shape := ⟨4, ![1, 1, 4, 128]⟩
abbrev S1x32x128x4x128 : Shape := ⟨5, ![1, 32, 128, 4, 128]⟩
abbrev S128x128 : Shape := ⟨2, ![128, 128]⟩
abbrev S4x1x32x128x128 : Shape := ⟨5, ![4, 1, 32, 128, 128]⟩
abbrev S128x4 : Shape := ⟨2, ![128, 4]⟩
abbrev S1x1x128x4x1 : Shape := ⟨5, ![1, 1, 128, 4, 1]⟩
abbrev S4096x512 : Shape := ⟨2, ![4096, 512]⟩

abbrev nBuf : Space → Nat
  | .hbm => 92
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4096x1024, .f32⟩
  | .hbm, ⟨2, _⟩ => ⟨S1x4x128, .f32⟩
  | .hbm, ⟨3, _⟩ => ⟨S1x4x128, .f32⟩
  | .hbm, ⟨4, _⟩ => ⟨S1x4x128x128, .f32⟩
  | .hbm, ⟨5, _⟩ => ⟨S1x4x128, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4096x1024, .f32⟩
  | .hbm, ⟨10, _⟩ => ⟨S1x4096x1024, .f32⟩
  | .hbm, ⟨11, _⟩ => ⟨S1x4096x1024, .f32⟩
  | .hbm, ⟨12, _⟩ => ⟨S1x4096x1024, .f32⟩
  | .hbm, ⟨13, _⟩ => ⟨S1x4096x1024, .f32⟩
  | .hbm, ⟨14, _⟩ => ⟨S1x4096x1024, .f32⟩
  | .hbm, ⟨15, _⟩ => ⟨S1x4096x1024, .f32⟩
  | .hbm, ⟨16, _⟩ => ⟨S_, .f32⟩
  | .hbm, ⟨17, _⟩ => ⟨S1x4096x1024, .f32⟩
  | .hbm, ⟨18, _⟩ => ⟨S1x4096x1024, .f32⟩
  | .hbm, ⟨19, _⟩ => ⟨S1x4096x1024, .f32⟩
  | .hbm, ⟨20, _⟩ => ⟨S_, .f32⟩
  | .hbm, ⟨21, _⟩ => ⟨S1x4096x1024, .f32⟩
  | .hbm, ⟨22, _⟩ => ⟨S1x4096x1024, .f32⟩
  | .hbm, ⟨23, _⟩ => ⟨S_, .f32⟩
  | .hbm, ⟨24, _⟩ => ⟨S1x4096x1024, .f32⟩
  | .hbm, ⟨25, _⟩ => ⟨S1x4096x1024, .f32⟩
  | .hbm, ⟨26, _⟩ => ⟨S1x4096x1024, .f32⟩
  | .hbm, ⟨27, _⟩ => ⟨S4x128x128, .f32⟩
  | .hbm, ⟨28, _⟩ => ⟨S4x128, .f32⟩
  | .hbm, ⟨29, _⟩ => ⟨S4x128, .f32⟩
  | .hbm, ⟨30, _⟩ => ⟨S4x128, .f32⟩
  | .hbm, ⟨31, _⟩ => ⟨S1x4096x512, .f32⟩
  | .hbm, ⟨32, _⟩ => ⟨S1x4096x512, .f32⟩
  | .hbm, ⟨33, _⟩ => ⟨S1x4096x4x128, .f32⟩
  | .hbm, ⟨34, _⟩ => ⟨S_, .f32⟩
  | .hbm, ⟨35, _⟩ => ⟨S1x4096x4, .f32⟩
  | .hbm, ⟨36, _⟩ => ⟨S1x4096x4x1, .f32⟩
  | .hbm, ⟨37, _⟩ => ⟨S_, .f32⟩
  | .hbm, ⟨38, _⟩ => ⟨S1x4096x4x1, .f32⟩
  | .hbm, ⟨39, _⟩ => ⟨S1x4096x4x1, .f32⟩
  | .hbm, ⟨40, _⟩ => ⟨S1x4096x4x128, .f32⟩
  | .hbm, ⟨41, _⟩ => ⟨S1x4096x4x128, .f32⟩
  | .hbm, ⟨42, _⟩ => ⟨S1x4096x4x128, .f32⟩
  | .hbm, ⟨43, _⟩ => ⟨S_, .f32⟩
  | .hbm, ⟨44, _⟩ => ⟨S1x4096x4, .f32⟩
  | .hbm, ⟨45, _⟩ => ⟨S1x4096x4x1, .f32⟩
  | .hbm, ⟨46, _⟩ => ⟨S_, .f32⟩
  | .hbm, ⟨47, _⟩ => ⟨S1x4096x4x1, .f32⟩
  | .hbm, ⟨48, _⟩ => ⟨S1x4096x4x1, .f32⟩
  | .hbm, ⟨49, _⟩ => ⟨S1x4096x4x128, .f32⟩
  | .hbm, ⟨50, _⟩ => ⟨S1x4096x4x128, .f32⟩
  | .hbm, ⟨51, _⟩ => ⟨S_, .f32⟩
  | .hbm, ⟨52, _⟩ => ⟨S1x4096x4x1, .f32⟩
  | .hbm, ⟨53, _⟩ => ⟨S1x4096x4x1, .f32⟩
  | .hbm, ⟨54, _⟩ => ⟨S1x4096x4x1, .f32⟩
  | .hbm, ⟨55, _⟩ => ⟨S1x4096x4x128, .f32⟩
  | .hbm, ⟨56, _⟩ => ⟨S1x4096x4x128, .f32⟩
  | .hbm, ⟨57, _⟩ => ⟨S1x1x4x128, .f32⟩
  | .hbm, ⟨58, _⟩ => ⟨S1x4096x4x128, .f32⟩
  | .hbm, ⟨59, _⟩ => ⟨S1x4096x4x128, .f32⟩
  | .hbm, ⟨60, _⟩ => ⟨S1x1x4x128, .f32⟩
  | .hbm, ⟨61, _⟩ => ⟨S1x4096x4x128, .f32⟩
  | .hbm, ⟨62, _⟩ => ⟨S1x4096x4x128, .f32⟩
  | .hbm, ⟨63, _⟩ => ⟨S1x32x128x4x128, .f32⟩
  | .hbm, ⟨64, _⟩ => ⟨S_, .i1⟩
  | .hbm, ⟨65, _⟩ => ⟨S128x128, .i1⟩
  | .hbm, ⟨66, _⟩ => ⟨S128x128, .i32⟩
  | .hbm, ⟨67, _⟩ => ⟨S_, .i32⟩
  | .hbm, ⟨68, _⟩ => ⟨S128x128, .i32⟩
  | .hbm, ⟨69, _⟩ => ⟨S128x128, .i32⟩
  | .hbm, ⟨70, _⟩ => ⟨S128x128, .i32⟩
  | .hbm, ⟨71, _⟩ => ⟨S128x128, .i1⟩
  | .hbm, ⟨72, _⟩ => ⟨S_, .i1⟩
  | .hbm, ⟨73, _⟩ => ⟨S128x128, .i1⟩
  | .hbm, ⟨74, _⟩ => ⟨S128x128, .i1⟩
  | .hbm, ⟨75, _⟩ => ⟨S_, .f32⟩
  | .hbm, ⟨76, _⟩ => ⟨S_, .f32⟩
  | .hbm, ⟨77, _⟩ => ⟨S4x128x128, .i1⟩
  | .hbm, ⟨78, _⟩ => ⟨S4x128x128, .f32⟩
  | .hbm, ⟨79, _⟩ => ⟨S4x128x128, .f32⟩
  | .hbm, ⟨80, _⟩ => ⟨S4x1x32x128x128, .f32⟩
  | .hbm, ⟨81, _⟩ => ⟨S1x32x128x4x128, .f32⟩
  | .hbm, ⟨82, _⟩ => ⟨S128x4, .f32⟩
  | .hbm, ⟨83, _⟩ => ⟨S1x1x128x4x1, .f32⟩
  | .hbm, ⟨84, _⟩ => ⟨S1x32x128x4x128, .f32⟩
  | .hbm, ⟨85, _⟩ => ⟨S1x32x128x4x128, .f32⟩
  | .hbm, ⟨86, _⟩ => ⟨S1x4096x512, .f32⟩
  | .hbm, ⟨87, _⟩ => ⟨S1x4096x512, .f32⟩
  | .hbm, ⟨88, _⟩ => ⟨S4096x512, .f32⟩
  | .hbm, ⟨89, _⟩ => ⟨S4096x512, .f32⟩
  | .hbm, ⟨90, _⟩ => ⟨S4096x1024, .f32⟩
  | .hbm, ⟨91, _⟩ => ⟨S4096x1024, .bf16⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_c : Ref sig .tc := ⟨.hbm, 64, rfl⟩
abbrev main_v48 : Ref sig .tc := ⟨.hbm, 65, rfl⟩
abbrev main_call0_v0 : Ref sig .tc := ⟨.hbm, 66, rfl⟩
abbrev main_call0_c : Ref sig .tc := ⟨.hbm, 67, rfl⟩
abbrev main_call0_v1 : Ref sig .tc := ⟨.hbm, 68, rfl⟩
abbrev main_call0_v2 : Ref sig .tc := ⟨.hbm, 69, rfl⟩
abbrev main_call0_v3 : Ref sig .tc := ⟨.hbm, 70, rfl⟩
abbrev main_call0_v4 : Ref sig .tc := ⟨.hbm, 71, rfl⟩
abbrev main_call0_c_0 : Ref sig .tc := ⟨.hbm, 72, rfl⟩
abbrev main_call0_v5 : Ref sig .tc := ⟨.hbm, 73, rfl⟩
abbrev main_v49 : Ref sig .tc := ⟨.hbm, 74, rfl⟩
abbrev main_cst_9 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩

abbrev nD : Nat := 1
abbrev τ : Topo := Topo.v7x

variable {F : FTy → Type} [FloatOps F]
-- ==== Dxin.lean ====
abbrev S4096x1024 : Shape := ⟨2, ![4096, 1024]⟩
abbrev S4096x2816 : Shape := ⟨2, ![4096, 2816]⟩
abbrev S1024x2816 : Shape := ⟨2, ![1024, 2816]⟩
abbrev S4096x8x352 : Shape := ⟨3, ![4096, 8, 352]⟩
abbrev S4096x8x256 : Shape := ⟨3, ![4096, 8, 256]⟩
abbrev S4096x2048 : Shape := ⟨2, ![4096, 2048]⟩
abbrev S4096x8x96 : Shape := ⟨3, ![4096, 8, 96]⟩
abbrev S_ : Shape := ⟨0, ![]⟩
abbrev S4096x8x128 : Shape := ⟨3, ![4096, 8, 128]⟩
abbrev S4096x3072 : Shape := ⟨2, ![4096, 3072]⟩
abbrev S1024x8x352 : Shape := ⟨3, ![1024, 8, 352]⟩
abbrev S1024x8x256 : Shape := ⟨3, ![1024, 8, 256]⟩
abbrev S1024x2048 : Shape := ⟨2, ![1024, 2048]⟩
abbrev S1024x8x96 : Shape := ⟨3, ![1024, 8, 96]⟩
abbrev S1024x8x128 : Shape := ⟨3, ![1024, 8, 128]⟩
abbrev S1024x1024 : Shape := ⟨2, ![1024, 1024]⟩
abbrev S1024x3072 : Shape := ⟨2, ![1024, 3072]⟩
abbrev S256x1024 : Shape := ⟨2, ![256, 1024]⟩
abbrev S256x3072 : Shape := ⟨2, ![256, 3072]⟩

abbrev nBuf : Space → Nat
  | .hbm => 46
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4096x2816, .f32⟩
  | .hbm, ⟨3, _⟩ => ⟨S1024x2816, .f32⟩
  | .hbm, ⟨4, _⟩ => ⟨S1024x2816, .f32⟩
  | .hbm, ⟨5, _⟩ => ⟨S4096x8x352, .f32⟩
  | .hbm, ⟨6, _⟩ => ⟨S4096x8x256, .f32⟩
  | .hbm, ⟨7, _⟩ => ⟨S4096x2048, .f32⟩
  | .hbm, ⟨8, _⟩ => ⟨S4096x8x96, .f32⟩
  | .hbm, ⟨9, _⟩ => ⟨S_, .i32⟩
  | .hbm, ⟨10, _⟩ => ⟨S_, .f32⟩
  | .hbm, ⟨11, _⟩ => ⟨S4096x8x128, .f32⟩
  | .hbm, ⟨12, _⟩ => ⟨S4096x1024, .f32⟩
  | .hbm, ⟨13, _⟩ => ⟨S4096x3072, .f32⟩
  | .hbm, ⟨14, _⟩ => ⟨S4096x3072, .bf16⟩
  | .hbm, ⟨15, _⟩ => ⟨S4096x8x352, .f32⟩
  | .hbm, ⟨16, _⟩ => ⟨S4096x8x256, .f32⟩
  | .hbm, ⟨17, _⟩ => ⟨S4096x2048, .f32⟩
  | .hbm, ⟨18, _⟩ => ⟨S4096x8x96, .f32⟩
  | .hbm, ⟨19, _⟩ => ⟨S_, .i32⟩
  | .hbm, ⟨20, _⟩ => ⟨S_, .f32⟩
  | .hbm, ⟨21, _⟩ => ⟨S4096x8x128, .f32⟩
  | .hbm, ⟨22, _⟩ => ⟨S4096x1024, .f32⟩
  | .hbm, ⟨23, _⟩ => ⟨S4096x3072, .f32⟩
  | .hbm, ⟨24, _⟩ => ⟨S4096x3072, .bf16⟩
  | .hbm, ⟨25, _⟩ => ⟨S1024x8x352, .f32⟩
  | .hbm, ⟨26, _⟩ => ⟨S1024x8x256, .f32⟩
  | .hbm, ⟨27, _⟩ => ⟨S1024x2048, .f32⟩
  | .hbm, ⟨28, _⟩ => ⟨S1024x8x96, .f32⟩
  | .hbm, ⟨29, _⟩ => ⟨S_, .i32⟩
  | .hbm, ⟨30, _⟩ => ⟨S_, .f32⟩
  | .hbm, ⟨31, _⟩ => ⟨S1024x8x128, .f32⟩
  | .hbm, ⟨32, _⟩ => ⟨S1024x1024, .f32⟩
  | .hbm, ⟨33, _⟩ => ⟨S1024x3072, .f32⟩
  | .hbm, ⟨34, _⟩ => ⟨S1024x3072, .bf16⟩
  | .hbm, ⟨35, _⟩ => ⟨S1024x8x352, .f32⟩
  | .hbm, ⟨36, _⟩ => ⟨S1024x8x256, .f32⟩
  | .hbm, ⟨37, _⟩ => ⟨S1024x2048, .f32⟩
  | .hbm, ⟨38, _⟩ => ⟨S1024x8x96, .f32⟩
  | .hbm, ⟨39, _⟩ => ⟨S_, .i32⟩
  | .hbm, ⟨40, _⟩ => ⟨S_, .f32⟩
  | .hbm, ⟨41, _⟩ => ⟨S1024x8x128, .f32⟩
  | .hbm, ⟨42, _⟩ => ⟨S1024x1024, .f32⟩
  | .hbm, ⟨43, _⟩ => ⟨S1024x3072, .f32⟩
  | .hbm, ⟨44, _⟩ => ⟨S1024x3072, .bf16⟩
  | .hbm, ⟨45, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x3072, .bf16⟩
  | .local _ .vmem, ⟨3, _⟩ => ⟨S256x3072, .bf16⟩
  | .local _ .vmem, ⟨4, _⟩ => ⟨S1024x3072, .bf16⟩
  | .local _ .vmem, ⟨5, _⟩ => ⟨S256x3072, .bf16⟩
  | .local _ .vmem, ⟨6, _⟩ => ⟨S256x3072, .bf16⟩
  | .local _ .vmem, ⟨7, _⟩ => ⟨S1024x3072, .bf16⟩
  | .local _ .vmem, ⟨8, _⟩ => ⟨S256x1024, .f32⟩
  | .local _ .vmem, ⟨9, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_call1_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_1 : Ref sig .tc := ⟨.hbm, 29, rfl⟩
abbrev main_call2_v0 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_2 : Ref sig .tc := ⟨.hbm, 39, rfl⟩
abbrev main_call3_v0 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DxinRefIdeal.lean ====
abbrev S4096x1024 : Shape := ⟨2, ![4096, 1024]⟩
abbrev S4096x2816 : Shape := ⟨2, ![4096, 2816]⟩
abbrev S1024x2816 : Shape := ⟨2, ![1024, 2816]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4096x2816, .f32⟩
  | .hbm, ⟨3, _⟩ => ⟨S1024x2816, .f32⟩
  | .hbm, ⟨4, _⟩ => ⟨S1024x2816, .f32⟩
  | .hbm, ⟨5, _⟩ => ⟨S_, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x2816, .f32⟩
  | .hbm, ⟨11, _⟩ => ⟨S4096x2816, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]
-- ==== Mtn.lean ====
abbrev S4096x1024 : Shape := ⟨2, ![4096, 1024]⟩
abbrev S4096x3072 : Shape := ⟨2, ![4096, 3072]⟩
abbrev S4096x512 : Shape := ⟨2, ![4096, 512]⟩
abbrev S1024x3072 : Shape := ⟨2, ![1024, 3072]⟩
abbrev S1024x1024 : Shape := ⟨2, ![1024, 1024]⟩
abbrev S1024x512 : Shape := ⟨2, ![1024, 512]⟩

abbrev nBuf : Space → Nat
  | .hbm => 16
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S4096x1024, .bf16⟩
  | .hbm, ⟨3, _⟩ => ⟨S4096x512, .f32⟩
  | .hbm, ⟨4, _⟩ => ⟨S4096x512, .bf16⟩
  | .hbm, ⟨5, _⟩ => ⟨S4096x512, .f32⟩
  | .hbm, ⟨6, _⟩ => ⟨S4096x512, .bf16⟩
  | .hbm, ⟨7, _⟩ => ⟨S4096x512, .f32⟩
  | .hbm, ⟨8, _⟩ => ⟨S4096x512, .bf16⟩
  | .hbm, ⟨9, _⟩ => ⟨S4096x512, .f32⟩
  | .hbm, ⟨10, _⟩ => ⟨S4096x512, .bf16⟩
  | .hbm, ⟨11, _⟩ => ⟨S4096x512, .f32⟩
  | .hbm, ⟨12, _⟩ => ⟨S4096x512, .bf16⟩
  | .hbm, ⟨13, _⟩ => ⟨S4096x512, .f32⟩
  | .hbm, ⟨14, _⟩ => ⟨S4096x512, .bf16⟩
  | .hbm, ⟨15, _⟩ => ⟨S1024x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x3072, .bf16⟩
  | .local _ .vmem, ⟨15, _⟩ => ⟨S1024x3072, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v63 : BitVec 1 := Scalar.cmpi .eq arg2 c3_i32
  let v64 : BitVec 32 := Scalar.extui v63
  let c0_i32_48 : BitVec 32 := 0#32
  let v65 : BitVec 1 := Scalar.cmpi .ne v64 c0_i32_48
  v65

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, true]

abbrev stage0_7 : Fin 1 → Memref sig .tc .vmem S1024x3072 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true, false]
-- ==== MtnRefIdeal.lean ====
abbrev S4096x1024 : Shape := ⟨2, ![4096, 1024]⟩
abbrev S4096x3072 : Shape := ⟨2, ![4096, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S_, .f32⟩
  | .hbm, ⟨3, _⟩ => ⟨S1024x3072, .f32⟩
  | .hbm, ⟨4, _⟩ => ⟨S4096x3072, .f32⟩
  | .hbm, ⟨5, _⟩ => ⟨S3072x1024, .f32⟩
  | .hbm, ⟨6, _⟩ => ⟨S1024x3072, .f32⟩
  | .hbm, ⟨7, _⟩ => ⟨S1024x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Mnn.lean ====
abbrev S4096x1024 : Shape := ⟨2, ![4096, 1024]⟩
abbrev S1024x3072 : Shape := ⟨2, ![1024, 3072]⟩
abbrev S24x4096x128 : Shape := ⟨3, ![24, 4096, 128]⟩
abbrev S512x1024 : Shape := ⟨2, ![512, 1024]⟩
abbrev S24x512x128 : Shape := ⟨3, ![24, 512, 128]⟩
abbrev S1024x512 : Shape := ⟨2, ![1024, 512]⟩
abbrev S512x512 : Shape := ⟨2, ![512, 512]⟩
abbrev S512x128 : Shape := ⟨2, ![512, 128]⟩
abbrev S1x512x128 : Shape := ⟨3, ![1, 512, 128]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x1024, .bf16⟩
  | .hbm, ⟨3, _⟩ => ⟨S1024x3072, .bf16⟩
  | .hbm, ⟨4, _⟩ => ⟨S24x4096x128, .f32⟩
  | .local _ .vmem, ⟨0, _⟩ => ⟨S512x1024, .bf16⟩
  | .local _ .vmem, ⟨1, _⟩ => ⟨S512x1024, .bf16⟩
  | .local _ .vmem, ⟨2, _⟩ => ⟨S1024x3072, .bf16⟩
  | .local _ .vmem, ⟨3, _⟩ => ⟨S24x512x128, .f32⟩
  | .local _ .vmem, ⟨4, _⟩ => ⟨S24x512x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S24x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MnnRefIdeal.lean ====
abbrev S4096x1024 : Shape := ⟨2, ![4096, 1024]⟩
abbrev S1024x3072 : Shape := ⟨2, ![1024, 3072]⟩
abbrev S4096x3072 : Shape := ⟨2, ![4096, 3072]⟩
abbrev S4096x24x128 : Shape := ⟨3, ![4096, 24, 128]⟩
abbrev S24x4096x128 : Shape := ⟨3, ![24, 4096, 128]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x3072, .f32⟩
  | .hbm, ⟨3, _⟩ => ⟨S4096x24x128, .f32⟩
  | .hbm, ⟨4, _⟩ => ⟨S24x4096x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Mnt.lean ====
abbrev S4096x1024 : Shape := ⟨2, ![4096, 1024]⟩
abbrev S1024x1024 : Shape := ⟨2, ![1024, 1024]⟩
abbrev S8x4096x128 : Shape := ⟨3, ![8, 4096, 128]⟩
abbrev S512x1024 : Shape := ⟨2, ![512, 1024]⟩
abbrev S8x512x128 : Shape := ⟨3, ![8, 512, 128]⟩
abbrev S512x128 : Shape := ⟨2, ![512, 128]⟩
abbrev S1x512x128 : Shape := ⟨3, ![1, 512, 128]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S1024x1024, .bf16⟩
  | .hbm, ⟨4, _⟩ => ⟨S8x4096x128, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S8x512x128, .f32⟩
  | .local _ .vmem, ⟨4, _⟩ => ⟨S8x512x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MntRefIdeal.lean ====
abbrev S4096x1024 : Shape := ⟨2, ![4096, 1024]⟩
abbrev S1024x1024 : Shape := ⟨2, ![1024, 1024]⟩
abbrev S_ : Shape := ⟨0, ![]⟩
abbrev S4096x8x128 : Shape := ⟨3, ![4096, 8, 128]⟩
abbrev S8x4096x128 : Shape := ⟨3, ![8, 4096, 128]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x8x128, .f32⟩
  | .hbm, ⟨7, _⟩ => ⟨S8x4096x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Reals.lean ====
/-
  Arrays of finite values, read as arrays of real numbers: what a precondition `jnp.all(jnp.abs(a) < jnp.inf)` says of `a`,
  and how sums and products of finite values stay finite.
-/
module

public import Idealize.ShloMosaic.Lib.ReduceAll
public import Idealize.ShloMosaic.Lib.Pointwise

@[expose] public section

noncomputable section

namespace Cert.Reals

open Idealize.ShloMosaic

/-- An extended real whose absolute value is below infinity is a real number. -/
theorem real_of_abs_lt {x : EReal} (h : max x (-x) < ⊤) : ∃ r : ℝ, x = r := by
  induction x with
  | bot => simp at h
  | top => simp at h
  | coe r => exact ⟨r, rfl⟩

/-- The word of `jnp.inf` is the top element. -/
theorem ofBits_inf : Ideal.ofBits FTy.f32 0x7F800000#32 = (⊤ : EReal) := by
  simp [Ideal.ofBits, Ideal.ieee]

/-- The word of one half. -/
theorem ofBits_half : Ideal.ofBits FTy.f32 1056964608#32 = ((1 / 2 : ℝ) : EReal) := by
  simp [Ideal.ofBits, Ideal.ieee, -EReal.coe_mul]; norm_num

/-- A comparison below infinity that came out true. -/
theorem real_of_cmp {x : EReal} (h : Ideal.cmp .olt (max x (-x)) (Ideal.ofBits FTy.f32 0x7F800000#32) = 1#1) : ∃ r : ℝ, x = r := by
  rw [ofBits_inf] at h
  refine real_of_abs_lt ?_
  by_contra hn
  simp [Ideal.cmp, hn] at h

/-- A sum of real numbers, in the extended reals. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A function with real values, each of them named. -/
theorem choose_real {ι : Type*} {f : ι → EReal} (h : ∀ i, ∃ r : ℝ, f i = r) : ∃ g : ι → ℝ, ∀ i, f i = g i :=
  ⟨fun i => (h i).choose, fun i => (h i).choose_spec⟩

/-! ## Operations on real numbers give real numbers -/

theorem real_mul {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

theorem real_add {x y : EReal} (hx : ∃ r : ℝ, x = r) (hy : ∃ r : ℝ, y = r) : ∃ r : ℝ, x + y = r := by
  obtain ⟨a, rfl⟩ := hx
  obtain ⟨b, rfl⟩ := hy
  exact ⟨a + b, (EReal.coe_add a b).symm⟩

theorem real_sub {x y : EReal} (hx : ∃ r : ℝ, x = r) (hy : ∃ r : ℝ, y = r) : ∃ r : ℝ, x - y = r := by
  obtain ⟨a, rfl⟩ := hx
  obtain ⟨b, rfl⟩ := hy
  exact ⟨a - b, (EReal.coe_sub a b).symm⟩

theorem real_sum {ι : Type*} [Fintype ι] {f : ι → EReal} (h : ∀ i, ∃ r : ℝ, f i = r) : ∃ r : ℝ, ∑ i, f i = r := by
  obtain ⟨a, ha⟩ := choose_real h
  exact ⟨∑ i, a i, by simp only [ha]; exact (coe_sum _ _).symm⟩

/-- A sum of products of real numbers is a real number. -/
theorem real_sum_mul {ι : Type*} [Fintype ι] {f g : ι → EReal} (hf : ∀ i, ∃ r : ℝ, f i = r) (hg : ∀ i, ∃ r : ℝ, g i = r) :
    ∃ r : ℝ, ∑ k, f k * g k = r := by
  obtain ⟨a, ha⟩ := choose_real hf
  obtain ⟨b, hb⟩ := choose_real hg
  exact ⟨∑ k, a k * b k, by rw [coe_sum]; exact Finset.sum_congr rfl fun k _ => by rw [ha, hb, EReal.coe_mul]⟩

/-- A real factor of every term comes out of a sum of products of real numbers. -/
theorem sum_smul_mul {ι : Type*} [Fintype ι] {f g : ι → EReal} (hf : ∀ i, ∃ r : ℝ, f i = r) (hg : ∀ i, ∃ r : ℝ, g i = r) (s : ℝ) :
    ∑ k, (s : EReal) * f k * g k = (∑ k, f k * g k) * (s : EReal) := by
  obtain ⟨a, ha⟩ := choose_real hf
  obtain ⟨b, hb⟩ := choose_real hg
  simp only [ha, hb, ← EReal.coe_mul, ← coe_sum]
  rw [Finset.sum_mul]
  exact congrArg _ (Finset.sum_congr rfl fun k _ => by ring)

end Cert.Reals

end
-- ==== Proof.Gate.Math.lean ====
/-
  The derivative of `silu(a) · b` with respect to `a`, at every extended real `a` and a finite cotangent.
-/
module

public import proofs.«01_k».proof.Proof.Reals

@[expose] public section

noncomputable section

namespace Cert.Gate.Math

open Idealize.ShloMosaic

/-- The logistic function as both programs spell it. -/
abbrev sg (a : EReal) : EReal := Ideal.div 1 (1 + Ideal.exp (-a))

theorem sg_top : sg ⊤ = 1 := by
  have h : (1 : EReal) = ((1 : ℝ) : EReal) := rfl
  simp only [sg, EReal.neg_top, Ideal.exp_bot, add_zero]
  conv_lhs => arg 2; rw [h]
  rw [Ideal.div_coe one_ne_zero]; simp

theorem sg_bot : sg ⊥ = 0 := by
  have h : (1 : EReal) + ⊤ = ⊤ := EReal.add_top_of_ne_bot (by decide)
  simp [sg, Ideal.div, h]

theorem sg_coe (a : ℝ) : sg a = ((1 / (1 + Real.exp (-a)) : ℝ) : EReal) := by
  have hp : (1 + Real.exp (-a) : ℝ) ≠ 0 := by positivity
  simp only [sg, ← EReal.coe_neg, Ideal.exp_coe]
  rw [show (1 : EReal) = ((1 : ℝ) : EReal) from rfl, ← EReal.coe_add, Ideal.div_coe hp, ← EReal.coe_mul, one_mul]

/-- The hand-written derivative is the product rule's, for every gate `a` and finite `t`. -/
theorem dgate (t : ℝ) (a : EReal) :
    (t : EReal) * (sg a * (1 + a * (1 - sg a))) = t * sg a + a * t * (sg a * (1 - sg a)) := by
  have one_sub : (1 : EReal) - 1 = 0 := by
    rw [show (1 : EReal) = ((1 : ℝ) : EReal) from rfl, ← EReal.coe_sub]; simp
  induction a with
  | bot => rw [sg_bot]; simp
  | top => rw [sg_top, one_sub]; simp
  | coe a =>
    rw [sg_coe, show (1 : EReal) = ((1 : ℝ) : EReal) from rfl]
    simp only [← EReal.coe_mul, ← EReal.coe_sub, ← EReal.coe_add]
    congr 1; ring

end Cert.Gate.Math

end
-- ==== Proof.Packed.lean ====
/-
  The padded layout of the feed-forward's 2816 columns (or rows): where each of them lies among the 3072 padded ones, and a
  contraction over the padded ones whose right factor is zero between them, or taken in six pieces.
-/
module

public import Idealize.ShloMosaic.Lib.Pointwise
public import Idealize.ShloMosaic.Lib.Pipeline.ValueKit

@[expose] public section

noncomputable section

namespace Cert.Packed

open Idealize.ShloMosaic

/-- Where column (or row) `p` of the unpadded arrays lies in the padded layout: the 352 columns of a part are 256 full ones
    and 96 of a group of 128 behind all the full ones. -/
def place (p : Fin 2816) : Fin 3072 :=
  if h : p.val % 352 < 256 then ⟨p.val / 352 * 256 + p.val % 352, by omega⟩ else ⟨2048 + (p.val / 352 * 128 + (p.val % 352 - 256)), by omega⟩

theorem place_cases (p : Fin 2816) :
    (p.val % 352 < 256 ∧ (place p).val = p.val / 352 * 256 + p.val % 352)
      ∨ (256 ≤ p.val % 352 ∧ (place p).val = 2048 + (p.val / 352 * 128 + (p.val % 352 - 256))) := by
  unfold place; split <;> simp <;> omega

theorem place_injective : Function.Injective place := fun p q h => by
  have h := congrArg Fin.val h
  have hp := place_cases p
  have hq := place_cases q
  exact Fin.ext (by omega)

/-- The places that hold no column. -/
theorem not_placed (q : Fin 3072) (h : q ∉ Set.range place) : 2048 ≤ q.val ∧ 96 ≤ (q.val - 2048) % 128 := by
  by_contra hn
  have hq := q.isLt
  by_cases h1 : q.val < 2048
  · refine h ⟨⟨q.val / 256 * 352 + q.val % 256, by omega⟩, Fin.ext ?_⟩
    have := place_cases ⟨q.val / 256 * 352 + q.val % 256, by omega⟩
    simp only at this
    omega
  · refine h ⟨⟨(q.val - 2048) / 128 * 352 + (256 + (q.val - 2048) % 128), by omega⟩, Fin.ext ?_⟩
    have := place_cases ⟨(q.val - 2048) / 128 * 352 + (256 + (q.val - 2048) % 128), by omega⟩
    simp only at this
    omega

/-- A contraction over the padded layout is one over the columns. -/
theorem sum_padded {f g : Fin 3072 → EReal} {f' g' : Fin 2816 → EReal} (hf : ∀ p, f (place p) = f' p) (hg : ∀ p, g (place p) = g' p)
    (h0 : ∀ q : Fin 3072, 2048 ≤ q.val → 96 ≤ (q.val - 2048) % 128 → g q = 0) : ∑ q, f q * g q = ∑ p, f' p * g' p :=
  (Fintype.sum_of_injective place place_injective (fun p => f' p * g' p) (fun q => f q * g q)
    (fun q hq => by show f q * g q = 0; rw [h0 q (not_placed q hq).1 (not_placed q hq).2, mul_zero])
    (fun p => by show f' p * g' p = f (place p) * g (place p); rw [hf, hg])).symm

/-- A sum over the padded places is the sum over six pieces of them. -/
theorem sum_pieces (f : Fin 3072 → EReal) : ∑ k, f k = ∑ k : Fin 512, f ⟨k.val, by omega⟩ + ∑ k : Fin 512, f ⟨512 + k.val, by omega⟩
    + ∑ k : Fin 512, f ⟨1024 + k.val, by omega⟩ + ∑ k : Fin 512, f ⟨1536 + k.val, by omega⟩ + ∑ k : Fin 512, f ⟨2048 + k.val, by omega⟩
    + ∑ k : Fin 512, f ⟨2560 + k.val, by omega⟩ := by
  have h : (∑ j : Fin 6, ∑ k : Fin 512, f ⟨j.val * 512 + k.val, by omega⟩) = ∑ k, f k := by
    refine (Fin.sum_points_lanes_congr 6 (A := 1) (N := 6) (g := fun _ n => f n) (fun s q _ hl => congrArg f (Fin.ext ?_)) rfl).trans (by simp)
    show s.val * 512 + q.val = s.val % 6 * 512 + q.val
    omega
  rw [← h, Fin.sum_univ_six]
  refine congrArg₂ (· + ·) (congrArg₂ (· + ·) (congrArg₂ (· + ·) (congrArg₂ (· + ·) (congrArg₂ (· + ·) ?_ ?_) ?_) ?_) ?_) ?_
  all_goals exact Finset.sum_congr rfl fun k _ => congrArg f (Fin.ext (by simp))

/-- Two such sums, taken piece by piece in turn. -/
theorem sum_pieces_two (x : EReal) (f g : Fin 3072 → EReal) : x + ∑ k : Fin 512, f ⟨k.val, by omega⟩ + ∑ k : Fin 512, g ⟨k.val, by omega⟩
    + ∑ k : Fin 512, f ⟨512 + k.val, by omega⟩ + ∑ k : Fin 512, g ⟨512 + k.val, by omega⟩
    + ∑ k : Fin 512, f ⟨1024 + k.val, by omega⟩ + ∑ k : Fin 512, g ⟨1024 + k.val, by omega⟩
    + ∑ k : Fin 512, f ⟨1536 + k.val, by omega⟩ + ∑ k : Fin 512, g ⟨1536 + k.val, by omega⟩
    + ∑ k : Fin 512, f ⟨2048 + k.val, by omega⟩ + ∑ k : Fin 512, g ⟨2048 + k.val, by omega⟩
    + ∑ k : Fin 512, f ⟨2560 + k.val, by omega⟩ + ∑ k : Fin 512, g ⟨2560 + k.val, by omega⟩ = x + (∑ k, f k + ∑ k, g k) := by
  rw [sum_pieces f, sum_pieces g]
  abel

end Cert.Packed

end
-- ==== Proof.Gate.Value.lean ====
/-
  What the two calls of the gate leave, as arrays of extended reals: `a = x·w_gate`, `b = x·w_up`, `s = silu(a)·b` of the
  forward call over the padded columns, `da` and `db` of the backward call, and the host code that packs the weights into
  the padded layout and takes the results out of it.
-/
module

public import proofs.«01_k».proof.Proof.Gen.GateIdeal.Frame
public import Idealize.ShloMosaic.Lib.Pipeline.ValueKit
public import Idealize.ShloMosaic.Lib.Pointwise
public import Idealize.ShloMosaic.Lib.Claim
public import proofs.«01_k».proof.Proof.Gate.Math
public import proofs.«01_k».proof.Proof.Packed

@[expose] public section

set_option maxRecDepth 16384

noncomputable section

namespace Cert.GateIdeal.Value

open Idealize.ShloMosaic Idealize.ShloMosaic.TcCoe Idealize.SL.Sem
open Idealize.ShloMosaic.Pipeline (Dat)
open Cert.GateIdeal Cert.GateIdeal.Gen
open Cert.Gate.Math (sg)
open Cert.Packed (place place_cases)

/-! ## The padded layout -/

/-- Taking the columns out of the padded layout reads column `p` at its place. -/
theorem unpack (Y : S4096x3072.Idx → EReal) (r : Fin 4096) (p : Fin 2816) :
    shapeCast S4096x2816
      (concatenate S4096x8x352 2
        [⟨S4096x8x256, shapeCast S4096x8x256
              (extractStridedSlice S4096x2048 ![0, 0] Y slices_S4096x3072_S4096x2048_0_0)
              shapeCasts_S4096x2048_S4096x8x256⟩,
          ⟨S4096x8x96,
            extractStridedSlice S4096x8x96 ![0, 0, 0]
              (shapeCast S4096x8x128
                  (extractStridedSlice S4096x1024 ![0, 2048] Y slices_S4096x3072_S4096x1024_0_2048)
                  shapeCasts_S4096x1024_S4096x8x128)
              slices_S4096x8x128_S4096x8x96_0_0_0⟩]
        concatenates_S4096x8x256_S4096x8x96_S4096x8x352_d2)
      shapeCasts_S4096x8x352_S4096x2816 (ix2 r p) = Y (ix2 r (place p)) := by
  pointwise
  unfold place
  split <;> rfl

/-! ## The two calls -/

section Calls

variable (V : (c : Dev nD) → (b : Ref sig .tc) → Buf (Elt Ideal) ((c : Thread nD τ).loc b))

theorem idx0 : ∀ t : Fin cfg0.N, win0_0.index t = ![t.val, 0] ∧ win0_1.index t = ![0, 0] ∧ win0_2.index t = ![0, 0] ∧ win0_3.index t = ![t.val, 0]
    ∧ win0_4.index t = ![t.val, 0] ∧ win0_5.index t = ![t.val, 0] := (by decide +kernel : ∀ t : Fin grid0.N, _)

theorem idx1 : ∀ t : Fin cfg1.N, win1_0.index t = ![t.val, 0] ∧ win1_1.index t = ![0, 0] ∧ win1_2.index t = ![t.val, 0] ∧ win1_3.index t = ![t.val, 0]
    ∧ win1_4.index t = ![t.val, 0] ∧ win1_5.index t = ![t.val, 0] := (by decide +kernel : ∀ t : Fin grid1.N, _)

/-- A product of the activations with a padded weight. -/
abbrev prod (X : S4096x1024.Idx → EReal) (W : S1024x3072.Idx → EReal) (i : S4096x3072.Idx) : EReal := ∑ k : Fin 1024, X (ix2 (i 0) k) * W (ix2 k (i 1))

/-- The forward gate. -/
abbrev swish (X : S4096x1024.Idx → EReal) (G U : S1024x3072.Idx → EReal) (i : S4096x3072.Idx) : EReal :=
  prod X G i * sg (prod X G i) * prod X U i

/-- The cotangent of the gate: half the cotangent's product with the padded down projection. -/
abbrev ds (D : S4096x1024.Idx → EReal) (W : S3072x1024.Idx → EReal) (i : S4096x3072.Idx) : EReal :=
  (∑ k : Fin 1024, D (ix2 (i 0) k) * W (ix2 (i 1) k)) * Ideal.ofBits FTy.f32 1056964608#32

/-- The gradient with respect to the gate's argument. -/
abbrev dA (D : S4096x1024.Idx → EReal) (W : S3072x1024.Idx → EReal) (A B : S4096x3072.Idx → EReal) (i : S4096x3072.Idx) : EReal :=
  ds D W i * B i * (sg (A i) * (1 + A i * (1 - sg (A i))))

/-- The gradient with respect to the other factor. -/
abbrev dB (D : S4096x1024.Idx → EReal) (W : S3072x1024.Idx → EReal) (A : S4096x3072.Idx → EReal) (i : S4096x3072.Idx) : EReal :=
  ds D W i * (A i * sg (A i))

theorem core_a (c : Dev nD) (t : Fin cfg0.N) (y : S512x3072.Idx) (j : S4096x3072.Idx) (hj0 : (j 0 : ℕ) = t.val * 512 + y 0) (hj1 : (j 1 : ℕ) = y 1) :
    out0_3 (F := Ideal) (iblk0 V c 0 t) (iblk0 V c 1 t) (iblk0 V c 2 t) y = prod (V c main_v24) (V c main_v7) j := by
  canon_tiles x h
  all_goals (open_payloads; pointwise; unfold prod; blk_point [iblk0, idx0 t])

theorem core_b (c : Dev nD) (t : Fin cfg0.N) (y : S512x3072.Idx) (j : S4096x3072.Idx) (hj0 : (j 0 : ℕ) = t.val * 512 + y 0) (hj1 : (j 1 : ℕ) = y 1) :
    out0_4 (F := Ideal) (iblk0 V c 0 t) (iblk0 V c 1 t) (iblk0 V c 2 t) y = prod (V c main_v24) (V c main_v15) j := by
  canon_tiles x h
  all_goals (open_payloads; pointwise; unfold prod; blk_point [iblk0, idx0 t])

theorem core_s (c : Dev nD) (t : Fin cfg0.N) (y : S512x3072.Idx) (j : S4096x3072.Idx) (hj0 : (j 0 : ℕ) = t.val * 512 + y 0) (hj1 : (j 1 : ℕ) = y 1) :
    out0_5 (F := Ideal) (iblk0 V c 0 t) (iblk0 V c 1 t) (iblk0 V c 2 t) y = swish (V c main_v24) (V c main_v7) (V c main_v15) j := by
  canon_tiles x h
  all_goals (open_payloads; pointwise; unfold swish prod; simp only [sg, zero_sub]; blk_point [iblk0, idx0 t])

theorem core_da (c : Dev nD) (t : Fin cfg1.N) (y : S512x3072.Idx) (j : S4096x3072.Idx) (hj0 : (j 0 : ℕ) = t.val * 512 + y 0) (hj1 : (j 1 : ℕ) = y 1) :
    out1_4 (F := Ideal) (iblk1 V c 0 t) (iblk1 V c 1 t) (iblk1 V c 2 t) (iblk1 V c 3 t) y
      = dA (V c main_v26) (V c main_v23) (V c main_v25_0) (V c main_v25_1) j := by
  canon_tiles x h
  all_goals (open_payloads; pointwise; unfold dA ds; simp only [sg, zero_sub]; blk_point [iblk1, idx1 t])

theorem core_db (c : Dev nD) (t : Fin cfg1.N) (y : S512x3072.Idx) (j : S4096x3072.Idx) (hj0 : (j 0 : ℕ) = t.val * 512 + y 0) (hj1 : (j 1 : ℕ) = y 1) :
    out1_5 (F := Ideal) (iblk1 V c 0 t) (iblk1 V c 1 t) (iblk1 V c 2 t) (iblk1 V c 3 t) y
      = dB (V c main_v26) (V c main_v23) (V c main_v25_0) j := by
  canon_tiles x h
  all_goals (open_payloads; pointwise; unfold dB ds; simp only [sg, zero_sub]; blk_point [iblk1, idx1 t])

theorem final_a (c : Dev nD) : (dat0 V c).arrAt 3 cfg0.N = prod (V c main_v24) (V c main_v7) := by
  refine (dat0 V c).arrAt_eq_of_covers 3 _ (by decide +kernel) fun t hf y => ?_
  blk_simp; rw [after0_3]; refine core_a V c t y _ ?_ ?_
  all_goals (blk_simp [idx0 t] <;> try omega)

theorem final_b (c : Dev nD) : (dat0 V c).arrAt 4 cfg0.N = prod (V c main_v24) (V c main_v15) := by
  refine (dat0 V c).arrAt_eq_of_covers 4 _ (by decide +kernel) fun t hf y => ?_
  blk_simp; rw [after0_4]; refine core_b V c t y _ ?_ ?_
  all_goals (blk_simp [idx0 t] <;> try omega)

theorem final_s (c : Dev nD) : (dat0 V c).arrAt 5 cfg0.N = swish (V c main_v24) (V c main_v7) (V c main_v15) := by
  refine (dat0 V c).arrAt_eq_of_covers 5 _ (by decide +kernel) fun t hf y => ?_
  blk_simp; rw [after0_5]; refine core_s V c t y _ ?_ ?_
  all_goals (blk_simp [idx0 t] <;> try omega)

theorem final_da (c : Dev nD) : (dat1 V c).arrAt 4 cfg1.N = dA (V c main_v26) (V c main_v23) (V c main_v25_0) (V c main_v25_1) := by
  refine (dat1 V c).arrAt_eq_of_covers 4 _ (by decide +kernel) fun t hf y => ?_
  blk_simp; rw [after1_4]; refine core_da V c t y _ ?_ ?_
  all_goals (blk_simp [idx1 t] <;> try omega)

theorem final_db (c : Dev nD) : (dat1 V c).arrAt 5 cfg1.N = dB (V c main_v26) (V c main_v23) (V c main_v25_0) := by
  refine (dat1 V c).arrAt_eq_of_covers 5 _ (by decide +kernel) fun t hf y => ?_
  blk_simp; rw [after1_5]; refine core_db V c t y _ ?_ ?_
  all_goals (blk_simp [idx1 t] <;> try omega)

end Calls

/-! ## The host code -/

variable (m : (ℓ : Loc nD τ sig) → Buf (Elt Ideal) ℓ) (ρ : Dev nD → PrngReg)

theorem gate_at (c : Dev nD) (k : Fin 1024) (p : Fin 2816) :
    W7 m ρ c (Proc.devRef .tc main_v7) (ix2 k (place p)) = m ((c.tc : Thread nD τ).loc main_arg1) (ix2 k p) := by
  unfold W7 W6 W5 W4 W3 W2 W1 W0
  after_results
  simp -implicitDefEqProofs only [StableHlo.TRef.toBuf, StableHlo.TRef.ofBuf, cast_cast, cast_eq]
  rcases place_cases p with ⟨h1, h2⟩ | ⟨h1, h2⟩ <;> pointwise <;> split_ifs <;> first | omega | blk_ext

theorem up_at (c : Dev nD) (k : Fin 1024) (p : Fin 2816) :
    W7 m ρ c (Proc.devRef .tc main_v15) (ix2 k (place p)) = m ((c.tc : Thread nD τ).loc main_arg2) (ix2 k p) := by
  unfold W7 W6 W5 W4 W3 W2 W1 W0
  after_results
  simp -implicitDefEqProofs only [StableHlo.TRef.toBuf, StableHlo.TRef.ofBuf, cast_cast, cast_eq]
  rcases place_cases p with ⟨h1, h2⟩ | ⟨h1, h2⟩ <;> pointwise <;> split_ifs <;> first | omega | blk_ext

theorem down_at (c : Dev nD) (k : Fin 1024) (p : Fin 2816) :
    W7 m ρ c (Proc.devRef .tc main_v23) (ix2 (place p) k) = m ((c.tc : Thread nD τ).loc main_arg3) (ix2 p k) := by
  unfold W7 W6 W5 W4 W3 W2 W1 W0
  after_results
  simp -implicitDefEqProofs only [StableHlo.TRef.toBuf, StableHlo.TRef.ofBuf, cast_cast, cast_eq]
  rcases place_cases p with ⟨h1, h2⟩ | ⟨h1, h2⟩ <;> pointwise <;> split_ifs <;> first | omega | blk_ext

theorem x_at (c : Dev nD) (i : S4096x1024.Idx) :
    W7 m ρ c (Proc.devRef .tc main_v24) i = m ((c.tc : Thread nD τ).loc main_arg0) i := by
  unfold W7 W6 W5 W4 W3 W2 W1 W0
  after_results
  pointwise

theorem ct_at (c : Dev nD) (i : S4096x1024.Idx) :
    W9 m ρ c (Proc.devRef .tc main_v26) i = m ((c.tc : Thread nD τ).loc main_arg4) i := by
  have h : W8 m ρ c (Proc.devRef .tc main_arg4) = m ((c.tc : Thread nD τ).loc main_arg4) := W8_args m ρ c main_arg4 (by decide)
  unfold W9
  after_results
  rw [h]
  pointwise

theorem out_s (c : Dev nD) (r : Fin 4096) (p : Fin 2816) :
    W11 m ρ c (Proc.devRef .tc main_v34) (ix2 r p) = W10 m ρ c (Proc.devRef .tc main_v25_2) (ix2 r (place p)) := by
  unfold W11
  after_results
  exact unpack _ r p

theorem out_da (c : Dev nD) (r : Fin 4096) (p : Fin 2816) :
    W11 m ρ c (Proc.devRef .tc main_v41) (ix2 r p) = W10 m ρ c (Proc.devRef .tc main_v27_0) (ix2 r (place p)) := by
  unfold W11
  after_results
  exact unpack _ r p

theorem out_db (c : Dev nD) (r : Fin 4096) (p : Fin 2816) :
    W11 m ρ c (Proc.devRef .tc main_v48) (ix2 r p) = W10 m ρ c (Proc.devRef .tc main_v27_1) (ix2 r (place p)) := by
  unfold W11
  after_results
  exact unpack _ r p

/-! ## The program's arrays -/

theorem W8_a (c : Dev nD) : W8 m ρ c (Proc.devRef .tc main_v25_0) = prod (W7 m ρ c (Proc.devRef .tc main_v24)) (W7 m ρ c (Proc.devRef .tc main_v7)) :=
  (W8_arr m ρ c 3).trans (final_a (V7 m ρ) c)

theorem W8_b (c : Dev nD) : W8 m ρ c (Proc.devRef .tc main_v25_1) = prod (W7 m ρ c (Proc.devRef .tc main_v24)) (W7 m ρ c (Proc.devRef .tc main_v15)) :=
  (W8_arr m ρ c 4).trans (final_b (V7 m ρ) c)

theorem W8_s (c : Dev nD) : W8 m ρ c (Proc.devRef .tc main_v25_2)
    = swish (W7 m ρ c (Proc.devRef .tc main_v24)) (W7 m ρ c (Proc.devRef .tc main_v7)) (W7 m ρ c (Proc.devRef .tc main_v15)) :=
  (W8_arr m ρ c 5).trans (final_s (V7 m ρ) c)

theorem W9_a (c : Dev nD) : W9 m ρ c (Proc.devRef .tc main_v25_0) = W8 m ρ c (Proc.devRef .tc main_v25_0) := W9_of m ρ c main_v25_0 (by decide)
theorem W9_b (c : Dev nD) : W9 m ρ c (Proc.devRef .tc main_v25_1) = W8 m ρ c (Proc.devRef .tc main_v25_1) := W9_of m ρ c main_v25_1 (by decide)
theorem W9_wd (c : Dev nD) : W9 m ρ c (Proc.devRef .tc main_v23) = W7 m ρ c (Proc.devRef .tc main_v23) :=
  (W9_of m ρ c main_v23 (by decide)).trans (W8_of m ρ c main_v23 (by decide))

theorem W10_s (c : Dev nD) : W10 m ρ c (Proc.devRef .tc main_v25_2) = W8 m ρ c (Proc.devRef .tc main_v25_2) :=
  (W10_of m ρ c main_v25_2 (by decide)).trans (W9_of m ρ c main_v25_2 (by decide))

theorem W10_da (c : Dev nD) : W10 m ρ c (Proc.devRef .tc main_v27_0)
    = dA (W9 m ρ c (Proc.devRef .tc main_v26)) (W9 m ρ c (Proc.devRef .tc main_v23)) (W9 m ρ c (Proc.devRef .tc main_v25_0)) (W9 m ρ c (Proc.devRef .tc main_v25_1)) :=
  (W10_arr m ρ c 4).trans (final_da (V9 m ρ) c)

theorem W10_db (c : Dev nD) : W10 m ρ c (Proc.devRef .tc main_v27_1)
    = dB (W9 m ρ c (Proc.devRef .tc main_v26)) (W9 m ρ c (Proc.devRef .tc main_v23)) (W9 m ρ c (Proc.devRef .tc main_v25_0)) :=
  (W10_arr m ρ c 5).trans (final_db (V9 m ρ) c)

/-! ## In terms of the arguments -/

/-- The argument arrays of a device. -/
abbrev aX (c : Dev nD) : S4096x1024.Idx → EReal := m ((c.tc : Thread nD τ).loc main_arg0)
abbrev aG (c : Dev nD) : S1024x2816.Idx → EReal := m ((c.tc : Thread nD τ).loc main_arg1)
abbrev aU (c : Dev nD) : S1024x2816.Idx → EReal := m ((c.tc : Thread nD τ).loc main_arg2)
abbrev aW (c : Dev nD) : S2816x1024.Idx → EReal := m ((c.tc : Thread nD τ).loc main_arg3)
abbrev aD (c : Dev nD) : S4096x1024.Idx → EReal := m ((c.tc : Thread nD τ).loc main_arg4)

theorem prod_gate (c : Dev nD) (r : Fin 4096) (p : Fin 2816) :
    prod (W7 m ρ c (Proc.devRef .tc main_v24)) (W7 m ρ c (Proc.devRef .tc main_v7)) (ix2 r (place p))
      = ∑ k : Fin 1024, aX m c (ix2 r k) * aG m c (ix2 k p) :=
  Finset.sum_congr rfl fun k _ => congrArg₂ _ (x_at m ρ c (ix2 r k)) (gate_at m ρ c k p)

theorem prod_up (c : Dev nD) (r : Fin 4096) (p : Fin 2816) :
    prod (W7 m ρ c (Proc.devRef .tc main_v24)) (W7 m ρ c (Proc.devRef .tc main_v15)) (ix2 r (place p))
      = ∑ k : Fin 1024, aX m c (ix2 r k) * aU m c (ix2 k p) :=
  Finset.sum_congr rfl fun k _ => congrArg₂ _ (x_at m ρ c (ix2 r k)) (up_at m ρ c k p)

theorem ds_at (c : Dev nD) (r : Fin 4096) (p : Fin 2816) :
    ds (W9 m ρ c (Proc.devRef .tc main_v26)) (W9 m ρ c (Proc.devRef .tc main_v23)) (ix2 r (place p))
      = (∑ k : Fin 1024, aD m c (ix2 r k) * aW m c (ix2 p k)) * Ideal.ofBits FTy.f32 1056964608#32 := by
  rw [W9_wd]
  exact congrArg (· * _) (Finset.sum_congr rfl fun k _ => congrArg₂ _ (ct_at m ρ c (ix2 r k)) (down_at m ρ c k p))

end Cert.GateIdeal.Value

end
-- ==== Proof.Gate.Run.lean ====
/- The run of the gate's program (its forward call, then its backward call), with what every array ends holding. -/
module

public import proofs.«01_k».proof.Proof.Gen.GateIdeal.Frame

@[expose] public section

set_option maxRecDepth 16384

noncomputable section

namespace Cert.GateIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.GateIdeal Cert.GateIdeal.Gen

variable {F : FTy → Type} [FloatOps F]
variable (m : (ℓ : Loc nD τ sig) → Buf (Elt F) ℓ) (ρ : Dev nD → PrngReg)

local notation "𝕄" => MT nD τ sig Unit (Elt F) ℕ (UR sig nD τ) ℕ

set_option backward.isDefEq.respectTransparency.types false in
/-- The run of the whole program: every array that is not private to a call ends at the last segment's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun _ h => h)

end Cert.GateIdeal.Value
-- ==== Proof.Gate.Claim.lean ====
/-
  The gate's value claim: the two calls leave what the derivative of the reference's lines leaves, for finite `x`, `w_up`,
  `w_down` and cotangent and every `w_gate`.
-/
module

public import proofs.«01_k».proof.Defs
public import proofs.«01_k».proof.Proof.Gate.Value
public import proofs.«01_k».proof.Proof.Gate.Run
public import proofs.«01_k».proof.Proof.Gen.GateRefIdeal.Read

@[expose] public section

set_option maxRecDepth 16384

noncomputable section

/-! ## The precondition -/

namespace Cert.Pre_finite

open Idealize.ShloMosaic

instance facts : Cert.Pre_finite.Facts := ⟨by decide, by decide, by decide, by decide, by decide, by decide, by decide⟩

theorem real_args {x ct : FVec Ideal S4096x1024 .f32} {wg wu : FVec Ideal S1024x2816 .f32} {wd : FVec Ideal S2816x1024 .f32}
    (h : fn (F := Ideal) x wg wu wd ct = fun _ => 1#1) :
    (∀ i, ∃ r : ℝ, x i = (r : EReal)) ∧ (∀ i, ∃ r : ℝ, wu i = (r : EReal)) ∧ (∀ i, ∃ r : ℝ, wd i = (r : EReal)) ∧ (∀ i, ∃ r : ℝ, ct i = (r : EReal)) := by
  have e := congrFun h (fun a => a.elim0)
  obtain ⟨e, e4⟩ := IntOp.andi_eq_one.1 e
  obtain ⟨e, e3⟩ := IntOp.andi_eq_one.1 e
  obtain ⟨e1, e2⟩ := IntOp.andi_eq_one.1 e
  haveI : Subsingleton S_.Idx := ⟨fun a b => funext fun i => i.elim0⟩
  exact ⟨fun i => Reals.real_of_cmp (Host.reduce_andi_all _ _ _ _ _ e1 i), fun i => Reals.real_of_cmp (Host.reduce_andi_all _ _ _ _ _ e2 i),
    fun i => Reals.real_of_cmp (Host.reduce_andi_all _ _ _ _ _ e3 i), fun i => Reals.real_of_cmp (Host.reduce_andi_all _ _ _ _ _ e4 i)⟩

end Cert.Pre_finite

/-! ## The kernel's results -/

namespace Cert.GateIdeal.Value

open Idealize.ShloMosaic Idealize.ShloMosaic.TcCoe Idealize.SL.Sem
open Cert.GateIdeal Cert.GateIdeal.Gen
open Cert.Gate.Math

variable (m : (ℓ : Loc nD τ sig) → Buf (Elt Ideal) ℓ) (ρ : Dev nD → PrngReg)

theorem run_values : θ_run (defs (F := Ideal)) (onTc (τ := τ) (main (F := Ideal))) ⟨m, fun _ => 0, ρ⟩ (fun r => ∀ c : Dev nD,
      r.2.mem ((c.tc : Thread nD τ).loc main_v34) = W11 m ρ c (Proc.devRef .tc main_v34)
      ∧ r.2.mem ((c.tc : Thread nD τ).loc main_v41) = W11 m ρ c (Proc.devRef .tc main_v41)
      ∧ r.2.mem ((c.tc : Thread nD τ).loc main_v48) = W11 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨h c _ (mem_uc main_v34 (by decide)), h c _ (mem_uc main_v41 (by decide)), h c _ (mem_uc main_v48 (by decide)),
    (h c _ (mem_uc main_arg0 (by decide))).trans (W11_main_arg0 m ρ c), (h c _ (mem_uc main_arg1 (by decide))).trans (W11_main_arg1 m ρ c),
    (h c _ (mem_uc main_arg2 (by decide))).trans (W11_main_arg2 m ρ c), (h c _ (mem_uc main_arg3 (by decide))).trans (W11_main_arg3 m ρ c),
    (h c _ (mem_uc main_arg4 (by decide))).trans (W11_main_arg4 m ρ c)⟩) (run_all m ρ)

/-- The forward gate is the reference's, at every argument. -/
theorem s_eq (c : Dev nD) :
    Cert.GateRefIdeal.Read.val_main_v15 (F := Ideal) (aX m c) (aG m c) (aU m c) = W11 m ρ c (Proc.devRef .tc main_v34) := by
  funext i
  obtain ⟨r, p, rfl⟩ : ∃ (r : Fin 4096) (p : Fin 2816), i = ix2 r p := ⟨i 0, i 1, by idx_ext⟩
  rw [out_s, W10_s, W8_s]
  unfold swish
  rw [prod_gate, prod_up, ← Cert.GateRefIdeal.Read.val_main_v15_eq]
  pointwise

theorem da_eq (c : Dev nD) (hX : ∀ i, ∃ r : ℝ, aX m c i = r) (hU : ∀ i, ∃ r : ℝ, aU m c i = r) (hW : ∀ i, ∃ r : ℝ, aW m c i = r)
    (hD : ∀ i, ∃ r : ℝ, aD m c i = r) :
    Cert.GateRefIdeal.Read.val_main_v16 (F := Ideal) (aX m c) (aG m c) (aU m c) (aW m c) (aD m c) = W11 m ρ c (Proc.devRef .tc main_v41) := by
  funext i
  obtain ⟨r, p, rfl⟩ : ∃ (r : Fin 4096) (p : Fin 2816), i = ix2 r p := ⟨i 0, i 1, by idx_ext⟩
  rw [out_da, W10_da, W9_a, W9_b, W8_a, W8_b]
  unfold dA
  rw [prod_gate, prod_up, ds_at, ← Cert.GateRefIdeal.Read.val_main_v16_eq]
  pointwise
  simp only [Reals.ofBits_half]
  rw [Reals.sum_smul_mul (fun k => hD _) (fun k => hW _)]
  obtain ⟨d, hd⟩ := Reals.real_sum_mul (fun k : Fin 1024 => hD (ix2 r k)) (fun k => hW (ix2 p k))
  obtain ⟨b, hb⟩ := Reals.real_sum_mul (fun k : Fin 1024 => hX (ix2 r k)) (fun k => hU (ix2 k p))
  rw [hd, hb, ← EReal.coe_mul, ← EReal.coe_mul]
  exact (dgate _ _).symm

theorem db_eq (c : Dev nD) (hW : ∀ i, ∃ r : ℝ, aW m c i = r) (hD : ∀ i, ∃ r : ℝ, aD m c i = r) :
    Cert.GateRefIdeal.Read.val_main_v17 (F := Ideal) (aX m c) (aG m c) (aW m c) (aD m c) = W11 m ρ c (Proc.devRef .tc main_v48) := by
  funext i
  obtain ⟨r, p, rfl⟩ : ∃ (r : Fin 4096) (p : Fin 2816), i = ix2 r p := ⟨i 0, i 1, by idx_ext⟩
  rw [out_db, W10_db, W9_a, W8_a]
  unfold dB
  rw [prod_gate, ds_at, ← Cert.GateRefIdeal.Read.val_main_v17_eq]
  pointwise
  simp only [Reals.ofBits_half]
  rw [Reals.sum_smul_mul (fun k => hD _) (fun k => hW _)]
  exact mul_comm _ _

end Cert.GateIdeal.Value

namespace Cert.Gate.Claim

open Idealize.ShloMosaic Idealize.ShloMosaic.TcCoe Idealize.SL.Sem

theorem algebraic : Cert.algebraic_GateIdeal_GateRefIdeal_pre_finite := by
  pair_intro
  · run_from Cert.GateIdeal.Value.run_values m g
  · refine θ_run_mono (Cert.GateRefIdeal.Value.run m' g') fun r h c => ?_
    obtain ⟨h0, h1, h2, h3⟩ := h c
    obtain ⟨a0, a1, a2, a3, a4⟩ := hagree c
    obtain ⟨hx, hu, hw, hd⟩ := Cert.Pre_finite.real_args (hpre c)
    rw [a0, a1, a2, Cert.GateRefIdeal.Read.val_main_v15_eq] at h0
    rw [a0, a1, a2, a3, a4, Cert.GateRefIdeal.Read.val_main_v16_eq] at h1
    rw [a0, a1, a3, a4, Cert.GateRefIdeal.Read.val_main_v17_eq] at h2
    exact ⟨h0.trans (Cert.GateIdeal.Value.s_eq m g c), h1.trans (Cert.GateIdeal.Value.da_eq m g c hx hu hw hd),
      h2.trans (Cert.GateIdeal.Value.db_eq m g c hw hd), h3⟩

end Cert.Gate.Claim

end
-- ==== Proof.Attn.Math.lean ====
/-
  Attention's softmax and its derivative for one row of scores, over the extended reals, and the equality of the two ways to
  spell the derivative when scores and cotangents are real numbers.
-/
module

public import proofs.«01_k».proof.Proof.Reals

@[expose] public section

noncomputable section

namespace Cert.Attn.Math

open Idealize.ShloMosaic

/-- The scale one sixteenth, as both programs spell it. -/
abbrev sc : EReal := Ideal.ofBits FTy.f32 1031798784#32

/-- The largest of a row of scores, from minus infinity. -/
abbrev mx {n : ℕ} (s : Fin n → EReal) : EReal := Finset.fold max (Ideal.ofBits FTy.f32 4286578688#32) s Finset.univ

/-- The exponential of a score below the largest. -/
abbrev ex {n : ℕ} (s : Fin n → EReal) (j : Fin n) : EReal := Ideal.exp (s j - mx s)

/-- The softmax's denominator. -/
abbrev den {n : ℕ} (s : Fin n → EReal) : EReal := ∑ x, ex s x

abbrev soft {n : ℕ} (s : Fin n → EReal) (j : Fin n) : EReal := Ideal.div (ex s j) (den s)

/-- The cotangent of the scores from the softmax `p` and the cotangent `g` of it, as the kernel writes it. -/
abbrev dscore {n : ℕ} (p g : Fin n → EReal) (j : Fin n) : EReal := p j * (g j - ∑ x, g x * p x) * sc

/-- The same as the derivative of the quotient gives it. -/
abbrev dquot {n : ℕ} (s g : Fin n → EReal) (j : Fin n) : EReal :=
  (Ideal.div (g j) (den s) + -(∑ x, g x * Ideal.div 1 (den s * den s) * ex s x)) * ex s j * sc

theorem ofBits_bot : Ideal.ofBits FTy.f32 4286578688#32 = (⊥ : EReal) := by
  simp [Ideal.ofBits, Ideal.ieee]

theorem sc_real : sc = ((1 / 16 : ℝ) : EReal) := by
  simp [sc, Ideal.ofBits, Ideal.ieee, -EReal.coe_mul]; norm_num

/-- The largest of finitely many real numbers, at least one of them, is real. -/
theorem mx_real {n : ℕ} (s : Fin (n + 1) → ℝ) : ∃ r : ℝ, mx (fun j => (s j : EReal)) = r := by
  have key : ∀ (S : Finset (Fin (n + 1))), S.Nonempty → ∃ r : ℝ, Finset.fold max (⊥ : EReal) (fun j => (s j : EReal)) S = r := by
    intro S hS
    induction hS using Finset.Nonempty.cons_induction with
    | singleton a => exact ⟨s a, by simp⟩
    | cons a S ha hS ih =>
      obtain ⟨r, hr⟩ := ih
      exact ⟨max (s a) r, by rw [Finset.fold_cons, hr]; exact (EReal.coe_strictMono.monotone.map_max).symm⟩
  rw [mx, ofBits_bot]
  exact key _ Finset.univ_nonempty

theorem ex_den_real {n : ℕ} (s : Fin (n + 1) → ℝ) :
    ∃ (e : Fin (n + 1) → ℝ) (l : ℝ), (∀ j, ex (fun j => (s j : EReal)) j = e j) ∧ den (fun j => (s j : EReal)) = l ∧ l ≠ 0 := by
  obtain ⟨M, hM⟩ := mx_real s
  have he : ∀ j, ex (fun j => (s j : EReal)) j = ((Real.exp (s j - M) : ℝ) : EReal) := fun j => by
    simp only [ex, hM, ← EReal.coe_sub, Ideal.exp_coe]
  refine ⟨fun j => Real.exp (s j - M), ∑ j, Real.exp (s j - M), he, ?_, ?_⟩
  · rw [den, Reals.coe_sum]; exact Finset.sum_congr rfl fun j _ => he j
  · exact (Finset.sum_pos (fun j _ => Real.exp_pos _) Finset.univ_nonempty).ne'

theorem soft_real {n : ℕ} {s : Fin (n + 1) → EReal} (hs : ∀ j, ∃ r : ℝ, s j = r) (j : Fin (n + 1)) : ∃ r : ℝ, soft s j = r := by
  obtain ⟨a, ha⟩ := Reals.choose_real hs
  obtain rfl : s = fun j => (a j : EReal) := funext ha
  obtain ⟨e, l, he, hl, hl0⟩ := ex_den_real a
  exact ⟨e j * (1 / l), by rw [soft, he, hl, Ideal.div_coe hl0, ← EReal.coe_mul]⟩

theorem dscore_eq {n : ℕ} {s g : Fin (n + 1) → EReal} (hs : ∀ j, ∃ r : ℝ, s j = r) (hg : ∀ j, ∃ r : ℝ, g j = r) (j : Fin (n + 1)) :
    dquot s g j = dscore (soft s) g j := by
  obtain ⟨a, ha⟩ := Reals.choose_real hs
  obtain ⟨b, hb⟩ := Reals.choose_real hg
  obtain rfl : s = fun j => (a j : EReal) := funext ha
  obtain rfl : g = fun j => (b j : EReal) := funext hb
  obtain ⟨e, l, he, hl, hl0⟩ := ex_den_real a
  have hp : ∀ j, soft (fun j => (a j : EReal)) j = ((e j / l : ℝ) : EReal) := fun j => by
    rw [soft, he, hl, Ideal.div_coe hl0, ← EReal.coe_mul]; congr 1; field_simp
  have hd : ∀ x : ℝ, Ideal.div (x : EReal) (l : EReal) = ((x / l : ℝ) : EReal) := fun x => by
    rw [Ideal.div_coe hl0, ← EReal.coe_mul]; congr 1; field_simp
  have hll : Ideal.div 1 ((l : EReal) * l) = ((1 / (l * l) : ℝ) : EReal) := by
    rw [← EReal.coe_mul, Ideal.div_coe (mul_ne_zero hl0 hl0), one_mul]
  simp only [dscore, dquot, hp, he, hl, hll, hd, sc_real]
  simp only [← EReal.coe_mul, ← EReal.coe_sub, ← EReal.coe_add, ← EReal.coe_neg, ← Reals.coe_sum]
  congr 1
  have h1 : ∑ x, b x * (e x / l) = (∑ x, b x * e x) / l := by
    rw [Finset.sum_div]; exact Finset.sum_congr rfl fun x _ => by ring
  have h2 : ∑ x, b x * (1 / (l * l)) * e x = (∑ x, b x * e x) / (l * l) := by
    rw [Finset.sum_div]; exact Finset.sum_congr rfl fun x _ => by ring
  rw [h1, h2]
  field_simp
  ring

/-! ## One row of a head

`q` and `y` are one row of the queries and of the cotangent; `K`, `V` the keys and values and `W` the output weights, row by row. -/

/-- Column `x` of head `h`. -/
abbrev col (h : Fin 4) (x : Fin 256) : Fin 1024 := ⟨h.val * 256 + x.val, by omega⟩

/-- The head of a column. -/
abbrev hd (e : Fin 1024) : Fin 4 := ⟨e.val / 256, by omega⟩

def score (q : Fin 1024 → EReal) (K : Fin 256 → Fin 1024 → EReal) (h : Fin 4) (j : Fin 256) : EReal :=
  (∑ x, q (col h x) * K j (col h x)) * sc

/-- The cotangent of the attention's output: the cotangent's row times the transposed output weights. -/
def proj (y : Fin 1024 → EReal) (W : Fin 1024 → Fin 1024 → EReal) (e : Fin 1024) : EReal := ∑ k, y k * W e k

/-- The cotangent of the softmax. -/
def cot (y : Fin 1024 → EReal) (W : Fin 1024 → Fin 1024 → EReal) (V : Fin 256 → Fin 1024 → EReal) (h : Fin 4) (j : Fin 256) : EReal :=
  ∑ x, proj y W (col h x) * V j (col h x)

def prob (q : Fin 1024 → EReal) (K : Fin 256 → Fin 1024 → EReal) (h : Fin 4) (j : Fin 256) : EReal := soft (score q K h) j

/-- The cotangent of the unscaled scores, times the scale. -/
def ds (q y : Fin 1024 → EReal) (K V : Fin 256 → Fin 1024 → EReal) (W : Fin 1024 → Fin 1024 → EReal) (h : Fin 4) (j : Fin 256) : EReal :=
  dscore (prob q K h) (cot y W V h) j

theorem score_real {q : Fin 1024 → EReal} {K : Fin 256 → Fin 1024 → EReal} (hq : ∀ e, ∃ r : ℝ, q e = r) (hK : ∀ j e, ∃ r : ℝ, K j e = r)
    (h : Fin 4) (j : Fin 256) : ∃ r : ℝ, score q K h j = r := by
  obtain ⟨r, hr⟩ := Reals.real_sum_mul (f := fun x => q (col h x)) (g := fun x => K j (col h x)) (fun x => hq _) (fun x => hK _ _)
  exact ⟨r * (1 / 16), by rw [score, hr, sc_real, ← EReal.coe_mul]⟩

theorem cot_real {y : Fin 1024 → EReal} {W : Fin 1024 → Fin 1024 → EReal} {V : Fin 256 → Fin 1024 → EReal} (hy : ∀ k, ∃ r : ℝ, y k = r)
    (hW : ∀ e k, ∃ r : ℝ, W e k = r) (hV : ∀ j e, ∃ r : ℝ, V j e = r) (h : Fin 4) (j : Fin 256) : ∃ r : ℝ, cot y W V h j = r :=
  Reals.real_sum_mul (f := fun x => proj y W (col h x)) (g := fun x => V j (col h x)) (fun x => Reals.real_sum_mul hy (hW _)) (fun x => hV _ _)

/-- For real arguments the derivative of the quotient is the kernel's cotangent of the scores. -/
theorem dquot_eq {q y : Fin 1024 → EReal} {K V : Fin 256 → Fin 1024 → EReal} {W : Fin 1024 → Fin 1024 → EReal} (hq : ∀ e, ∃ r : ℝ, q e = r)
    (hy : ∀ k, ∃ r : ℝ, y k = r) (hK : ∀ j e, ∃ r : ℝ, K j e = r) (hV : ∀ j e, ∃ r : ℝ, V j e = r) (hW : ∀ e k, ∃ r : ℝ, W e k = r) (h : Fin 4)
    (j : Fin 256) : dquot (score q K h) (cot y W V h) j = ds q y K V W h j :=
  dscore_eq (score_real hq hK h) (cot_real hy hW hV h) j

end Cert.Attn.Math

end
-- ==== Proof.Attn.Value.lean ====
/-
  What attention's backward kernel leaves, entry by entry: the query gradient block by block, and the key and value gradients as
  sums over all rows of what each block of rows adds.
-/
module

public import proofs.«01_k».proof.Proof.Attn.Math
public import proofs.«01_k».proof.Proof.Gen.AttnIdeal.Frame
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Attn

open Idealize.ShloMosaic

/-- Stores that cover an index hide the earlier stores there. -/
theorem canon_append_covered {Val : EltTy → Type} {S : Shape} {e : EltTy} [∀ e, Nonempty (Val e)] (L' : List (View.Piece Val S e)) :
    ∀ (L : List (View.Piece Val S e)) (y : S.Idx), (∃ p ∈ L, y ∈ p.1.set) → View.canon (L ++ L') y = View.canon L y
  | [], _, h => by obtain ⟨p, hp, _⟩ := h; exact absurd hp List.not_mem_nil
  | p :: L, y, h => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_append_covered L' L y ?_
      obtain ⟨q, hq, hy⟩ := h
      rcases List.mem_cons.mp hq with rfl | hq
      · exact absurd hy hm
      · exact ⟨q, hq, hy⟩

/-- Four stores that cover the buffer, after a fill. -/
theorem canon_four {Val : EltTy → Type} {S : Shape} {e : EltTy} [∀ e, Nonempty (Val e)] (p q r s z : View.Piece Val S e) (y : S.Idx)
    (h : View.Piece.tiledL [p, q, r, s] p.1.size = true) : View.canon [p, q, r, s, z] y = View.canon [p, q, r, s] y :=
  canon_append_covered [z] [p, q, r, s] y (View.cover_of_tiledL _ _ h y)

end Cert.Attn

namespace Cert.AttnIdeal.Value

open Idealize.ShloMosaic Idealize.ShloMosaic.TcCoe Idealize.SL.Sem
open Idealize.ShloMosaic.Pipeline (Dat)
open Cert.AttnIdeal Cert.AttnIdeal.Gen
open Cert.Attn.Math

variable (m : (ℓ : Loc nD τ sig) → Buf (Elt Ideal) ℓ)

/-! ## One block of rows -/

section
variable (b0 : Vec Ideal S512x1024 .bf16) (b1 : Vec Ideal S1024x1024 .bf16) (b2 : Vec Ideal S512x1024 .bf16) (b3 b4 : Vec Ideal S256x1024 .bf16)

/-- The cotangent of the scores of row `r` of a block. -/
abbrev dsB (r : Fin 512) (h : Fin 4) (j : Fin 256) : EReal :=
  ds (fun e => b2 (ix2 r e)) (fun e => b0 (ix2 r e)) (fun j e => b3 (ix2 j e)) (fun j e => b4 (ix2 j e)) (fun e k => b1 (ix2 e k)) h j

/-- What a block adds to the key gradient. -/
abbrev dkB (j : Fin 256) (e : Fin 1024) : EReal := ∑ r, dsB b0 b1 b2 b3 b4 r (hd e) j * b2 (ix2 r e)

/-- What a block adds to the value gradient. -/
abbrev dvB (j : Fin 256) (e : Fin 1024) : EReal :=
  ∑ r, prob (fun e => b2 (ix2 r e)) (fun j e => b3 (ix2 j e)) (hd e) j * proj (fun e => b0 (ix2 r e)) (fun e k => b1 (ix2 e k)) e

end

theorem dq_A (c : Dev nD) (t : Fin cfg0.N) (z : t.val % 8 = 0) (r : Fin 512) (e : Fin 1024) : (outsAt0 m c t.val t.isLt).1 (ix2 r e) =
    ∑ j, dsB (iblk m c 0 t) (iblk m c 1 t) (iblk m c 2 t) (iblk m c 3 t) (iblk m c 4 t) r (hd e) j * iblk m c 3 t (ix2 j e) := by
  rw [outsAt0_A m c t z]
  generalize iblk m c 0 t = b0
  generalize iblk m c 1 t = b1
  generalize iblk m c 2 t = b2
  generalize iblk m c 3 t = b3
  generalize iblk m c 4 t = b4
  frame_out
  canon_tiles x h
  all_goals (open_payloads; pointwise; unfold dsB ds prob cot proj score; simp only [dscore, soft, den, ex, mx, sc]
             replace h0 : r.val = _ := h0; replace h1 : e.val = _ := h1; blk_point [])

theorem dq_B (c : Dev nD) (t : Fin cfg0.N) (z : ¬ t.val % 8 = 0) (r : Fin 512) (e : Fin 1024) : (outsAt0 m c t.val t.isLt).1 (ix2 r e) =
    ∑ j, dsB (iblk m c 0 t) (iblk m c 1 t) (iblk m c 2 t) (iblk m c 3 t) (iblk m c 4 t) r (hd e) j * iblk m c 3 t (ix2 j e) := by
  rw [outsAt0_B m c t z]
  generalize iblk m c 0 t = b0
  generalize iblk m c 1 t = b1
  generalize iblk m c 2 t = b2
  generalize iblk m c 3 t = b3
  generalize iblk m c 4 t = b4
  frame_out
  canon_tiles x h
  all_goals (open_payloads; pointwise; unfold dsB ds prob cot proj score; simp only [dscore, soft, den, ex, mx, sc]
             replace h0 : r.val = _ := h0; replace h1 : e.val = _ := h1; blk_point [])

theorem dk_B (c : Dev nD) (t : Fin cfg0.N) (z : ¬ t.val % 8 = 0) (j : Fin 256) (e : Fin 1024) : (outsAt0 m c t.val t.isLt).2.1 (ix2 j e) =
    (outsAt0 m c (t.val - 1) (Nat.lt_of_le_of_lt (Nat.sub_le _ _) t.isLt)).2.1 (ix2 j e)
      + dkB (iblk m c 0 t) (iblk m c 1 t) (iblk m c 2 t) (iblk m c 3 t) (iblk m c 4 t) j e := by
  rw [outsAt0_B m c t z]
  generalize iblk m c 0 t = b0
  generalize iblk m c 1 t = b1
  generalize iblk m c 2 t = b2
  generalize iblk m c 3 t = b3
  generalize iblk m c 4 t = b4
  generalize outsAt0 m c (t.val - 1) (Nat.lt_of_le_of_lt (Nat.sub_le _ _) t.isLt) = o
  frame_out
  canon_tiles x h
  all_goals (open_payloads; pointwise; unfold dkB dsB ds prob cot proj score; simp only [dscore, soft, den, ex, mx, sc]
             replace h0 : j.val = _ := h0; replace h1 : e.val = _ := h1; blk_point [])

theorem dv_B (c : Dev nD) (t : Fin cfg0.N) (z : ¬ t.val % 8 = 0) (j : Fin 256) (e : Fin 1024) : (outsAt0 m c t.val t.isLt).2.2 (ix2 j e) =
    (outsAt0 m c (t.val - 1) (Nat.lt_of_le_of_lt (Nat.sub_le _ _) t.isLt)).2.2 (ix2 j e)
      + dvB (iblk m c 0 t) (iblk m c 1 t) (iblk m c 2 t) (iblk m c 3 t) j e := by
  rw [outsAt0_B m c t z]
  generalize iblk m c 0 t = b0
  generalize iblk m c 1 t = b1
  generalize iblk m c 2 t = b2
  generalize iblk m c 3 t = b3
  generalize iblk m c 4 t = b4
  generalize outsAt0 m c (t.val - 1) (Nat.lt_of_le_of_lt (Nat.sub_le _ _) t.isLt) = o
  frame_out
  canon_tiles x h
  all_goals (open_payloads; pointwise; unfold dvB prob proj score; simp only [soft, den, ex, mx, sc]
             replace h0 : j.val = _ := h0; replace h1 : e.val = _ := h1; blk_point [])

theorem dk_A (c : Dev nD) (t : Fin cfg0.N) (z : t.val % 8 = 0) (j : Fin 256) (e : Fin 1024) : (outsAt0 m c t.val t.isLt).2.1 (ix2 j e) =
    dkB (iblk m c 0 t) (iblk m c 1 t) (iblk m c 2 t) (iblk m c 3 t) (iblk m c 4 t) j e := by
  rw [outsAt0_A m c t z]
  generalize iblk m c 0 t = b0
  generalize iblk m c 1 t = b1
  generalize iblk m c 2 t = b2
  generalize iblk m c 3 t = b3
  generalize iblk m c 4 t = b4
  frame_out
  simp (disch := first | rfl | decide) only [↓View.readCov_skip, ↓View.readCov_fill]
  rw [Cert.Attn.canon_four _ _ _ _ _ _ (by sl_kernel_rfl)]
  canon_tiles x h
  all_goals (open_payloads; pointwise; unfold dkB dsB ds prob cot proj score; simp only [dscore, soft, den, ex, mx, sc]
             replace h0 : j.val = _ := h0; replace h1 : e.val = _ := h1; blk_point [])

theorem dv_A (c : Dev nD) (t : Fin cfg0.N) (z : t.val % 8 = 0) (j : Fin 256) (e : Fin 1024) : (outsAt0 m c t.val t.isLt).2.2 (ix2 j e) =
    dvB (iblk m c 0 t) (iblk m c 1 t) (iblk m c 2 t) (iblk m c 3 t) j e := by
  rw [outsAt0_A m c t z]
  generalize iblk m c 0 t = b0
  generalize iblk m c 1 t = b1
  generalize iblk m c 2 t = b2
  generalize iblk m c 3 t = b3
  generalize iblk m c 4 t = b4
  frame_out
  simp (disch := first | rfl | decide) only [↓View.readCov_skip, ↓View.readCov_fill]
  rw [Cert.Attn.canon_four _ _ _ _ _ _ (by sl_kernel_rfl)]
  canon_tiles x h
  all_goals (open_payloads; pointwise; unfold dvB prob proj score; simp only [soft, den, ex, mx, sc]
             replace h0 : j.val = _ := h0; replace h1 : e.val = _ := h1; blk_point [])

end Cert.AttnIdeal.Value

end
-- ==== Proof.Attn.Final.lean ====
/-
  The arrays attention's backward kernel leaves, as sums over the arguments' rows.
-/
module

public import proofs.«01_k».proof.Proof.Attn.Value
public import proofs.«01_k».proof.Proof.Gen.AttnIdeal.Value

@[expose] public section

set_option maxRecDepth 16384

noncomputable section

namespace Cert.AttnIdeal.Value

open Idealize.ShloMosaic Idealize.ShloMosaic.TcCoe Idealize.SL.Sem
open Cert.AttnIdeal Cert.AttnIdeal.Gen
open Cert.Attn.Math
open Idealize.ShloMosaic.Pipeline (Dat)

variable (m : (ℓ : Loc nD τ sig) → Buf (Elt Ideal) ℓ) (ρ : Dev nD → PrngReg)

theorem idx : ∀ t : Fin cfg0.N, win0_0.index t = ![t.val, 0] ∧ win0_1.index t = ![0, 0] ∧ win0_2.index t = ![t.val, 0] ∧ win0_3.index t = ![0, 0]
    ∧ win0_4.index t = ![0, 0] ∧ win0_5.index t = ![t.val, 0] ∧ win0_6.index t = ![0, 0] ∧ win0_7.index t = ![0, 0] :=
  (by decide +kernel : ∀ t : Fin grid0.N, _)

/-! ## The arguments and the blocks of them -/

abbrev aQ (c : Dev nD) : S4096x1024.Idx → EReal := m ((c.tc : Thread nD τ).loc main_arg0)
abbrev aK (c : Dev nD) : S256x1024.Idx → EReal := m ((c.tc : Thread nD τ).loc main_arg1)
abbrev aV (c : Dev nD) : S256x1024.Idx → EReal := m ((c.tc : Thread nD τ).loc main_arg2)
abbrev aW (c : Dev nD) : S1024x1024.Idx → EReal := m ((c.tc : Thread nD τ).loc main_arg3)
abbrev aD (c : Dev nD) : S4096x1024.Idx → EReal := m ((c.tc : Thread nD τ).loc main_arg4)

theorem V_v0 (c : Dev nD) : V m c main_v0 = aD m c := by entry_read; rfl
theorem V_v1 (c : Dev nD) : V m c main_v1 = aW m c := by entry_read; rfl
theorem V_v2 (c : Dev nD) : V m c main_v2 = aQ m c := by entry_read; rfl
theorem V_v3 (c : Dev nD) : V m c main_v3 = aK m c := by entry_read; rfl
theorem V_v4 (c : Dev nD) : V m c main_v4 = aV m c := by entry_read; rfl

/-- Row `r` of block `t` of 4096 rows. -/
abbrev row (t : Fin cfg0.N) (r : Fin 512) : Fin 4096 := ⟨t.val * 512 + r.val, by have h : t.val < 8 := lt_of_lt_of_eq t.isLt N_0; omega⟩

theorem blk0 (c : Dev nD) (t : Fin cfg0.N) (r : Fin 512) (e : Fin 1024) : iblk m c 0 t (ix2 r e) = aD m c (ix2 (row t r) e) := by
  rw [← V_v0]; blk_point [iblk, idx t]
theorem blk1 (c : Dev nD) (t : Fin cfg0.N) (e k : Fin 1024) : iblk m c 1 t (ix2 e k) = aW m c (ix2 e k) := by
  rw [← V_v1]; blk_point [iblk, idx t]
theorem blk2 (c : Dev nD) (t : Fin cfg0.N) (r : Fin 512) (e : Fin 1024) : iblk m c 2 t (ix2 r e) = aQ m c (ix2 (row t r) e) := by
  rw [← V_v2]; blk_point [iblk, idx t]
theorem blk3 (c : Dev nD) (t : Fin cfg0.N) (j : Fin 256) (e : Fin 1024) : iblk m c 3 t (ix2 j e) = aK m c (ix2 j e) := by
  rw [← V_v3]; blk_point [iblk, idx t]
theorem blk4 (c : Dev nD) (t : Fin cfg0.N) (j : Fin 256) (e : Fin 1024) : iblk m c 4 t (ix2 j e) = aV m c (ix2 j e) := by
  rw [← V_v4]; blk_point [iblk, idx t]

/-- The cotangent of the scores of a row. -/
abbrev dsR (c : Dev nD) (r : Fin 4096) (h : Fin 4) (j : Fin 256) : EReal :=
  ds (fun e => aQ m c (ix2 r e)) (fun e => aD m c (ix2 r e)) (fun j e => aK m c (ix2 j e)) (fun j e => aV m c (ix2 j e))
    (fun e k => aW m c (ix2 e k)) h j

/-- The probabilities of a row. -/
abbrev probR (c : Dev nD) (r : Fin 4096) (h : Fin 4) (j : Fin 256) : EReal :=
  prob (fun e => aQ m c (ix2 r e)) (fun j e => aK m c (ix2 j e)) h j

/-- The cotangent of the attention's output at a row. -/
abbrev projR (c : Dev nD) (r : Fin 4096) (e : Fin 1024) : EReal :=
  proj (fun e => aD m c (ix2 r e)) (fun e k => aW m c (ix2 e k)) e

theorem dsB_eq (c : Dev nD) (t : Fin cfg0.N) (r : Fin 512) (h : Fin 4) (j : Fin 256) :
    dsB (iblk m c 0 t) (iblk m c 1 t) (iblk m c 2 t) (iblk m c 3 t) (iblk m c 4 t) r h j = dsR m c (row t r) h j := by
  unfold dsB dsR
  congr 1 <;> funext a
  · exact blk2 m c t r a
  · exact blk0 m c t r a
  · funext b; exact blk3 m c t a b
  · funext b; exact blk4 m c t a b
  · funext b; exact blk1 m c t a b

theorem probB_eq (c : Dev nD) (t : Fin cfg0.N) (r : Fin 512) (h : Fin 4) (j : Fin 256) :
    prob (fun e => iblk m c 2 t (ix2 r e)) (fun j e => iblk m c 3 t (ix2 j e)) h j = probR m c (row t r) h j := by
  unfold probR
  congr 1 <;> funext a
  · exact blk2 m c t r a
  · funext b; exact blk3 m c t a b

theorem projB_eq (c : Dev nD) (t : Fin cfg0.N) (r : Fin 512) (e : Fin 1024) :
    proj (fun e => iblk m c 0 t (ix2 r e)) (fun e k => iblk m c 1 t (ix2 e k)) e = projR m c (row t r) e := by
  unfold projR
  congr 1 <;> funext a
  · exact blk0 m c t r a
  · funext b; exact blk1 m c t a b

/-! ## The final arrays -/

theorem dq_at (c : Dev nD) (t : Fin cfg0.N) (r : Fin 512) (e : Fin 1024) : (outsAt0 m c t.val t.isLt).1 (ix2 r e) =
    ∑ j, dsR m c (row t r) (hd e) j * aK m c (ix2 j e) := by
  by_cases z : t.val % 8 = 0
  · rw [dq_A m c t z]
    exact Finset.sum_congr rfl fun j _ => by rw [dsB_eq, blk3]
  · rw [dq_B m c t z]
    exact Finset.sum_congr rfl fun j _ => by rw [dsB_eq, blk3]

/-- The query gradient. -/
def dqOf (c : Dev nD) (i : S4096x1024.Idx) : EReal := ∑ j, dsR m c (i 0) (hd (i 1)) j * aK m c (ix2 j (i 1))

theorem dqOf_at (c : Dev nD) (t : Fin cfg0.N) (y : S512x1024.Idx) (i : S4096x1024.Idx) (h0 : (i 0 : ℕ) = t.val * 512 + y 0) (h1 : (i 1 : ℕ) = y 1) :
    (outsAt0 m c t.val t.isLt).1 y = dqOf m c i := by
  obtain ⟨r, e, rfl⟩ : ∃ (r : Fin 512) (e : Fin 1024), y = ix2 r e := ⟨y 0, y 1, by idx_ext⟩
  obtain rfl : i = ix2 (row t r) e := by
    funext a; refine Fin.ext ?_; fin_cases a
    · exact h0
    · exact h1
  exact dq_at m c t r e

theorem final_dq (c : Dev nD) : (dats m 0 c).arrAt 5 cfg0.N = dqOf m c := by
  refine (dats m 0 c).arrAt_eq_of_covers 5 _ (by decide +kernel) fun t hf y => ?_
  blk_simp; rw [after0_5]; refine dqOf_at m c t y _ ?_ ?_
  all_goals (blk_simp [idx t] <;> try omega)

/-- What the points add to the key gradient. -/
abbrev dkT (c : Dev nD) (t : Fin cfg0.N) (i : S256x1024.Idx) : EReal :=
  dkB (iblk m c 0 t) (iblk m c 1 t) (iblk m c 2 t) (iblk m c 3 t) (iblk m c 4 t) (i 0) (i 1)

/-- What the points add to the value gradient. -/
abbrev dvT (c : Dev nD) (t : Fin cfg0.N) (i : S256x1024.Idx) : EReal :=
  dvB (iblk m c 0 t) (iblk m c 1 t) (iblk m c 2 t) (iblk m c 3 t) (i 0) (i 1)

theorem ix2_eta (i : S256x1024.Idx) : i = ix2 (i 0) (i 1) := by idx_ext

theorem dk_last (c : Dev nD) (i : S256x1024.Idx) : (outsAt0 m c t0_7.val t0_7.isLt).2.1 i = ∑ t, dkT m c t i := by
  have e := Pipeline.eq_sum_fin_of_reset_step_apply_last (ι := S256x1024.Idx) (M := EReal) (fun n h => (outsAt0 m c n h).2.1) 8 (fun _ => 0) (dkT m c)
    (fun t z i => by rw [ix2_eta i]; exact (dk_A m c t z _ _).trans (zero_add _).symm)
    (fun t z i => by rw [ix2_eta i]; exact dk_B m c t z _ _) (le_of_eq N_0) t0_7 rfl i
  rwa [zero_add] at e

theorem dv_last (c : Dev nD) (i : S256x1024.Idx) : (outsAt0 m c t0_7.val t0_7.isLt).2.2 i = ∑ t, dvT m c t i := by
  have e := Pipeline.eq_sum_fin_of_reset_step_apply_last (ι := S256x1024.Idx) (M := EReal) (fun n h => (outsAt0 m c n h).2.2) 8 (fun _ => 0) (dvT m c)
    (fun t z i => by rw [ix2_eta i]; exact (dv_A m c t z _ _).trans (zero_add _).symm)
    (fun t z i => by rw [ix2_eta i]; exact dv_B m c t z _ _) (le_of_eq N_0) t0_7 rfl i
  rwa [zero_add] at e

/-- Blocks of 512 rows over the 8 points are the 4096 rows. -/
theorem sum_rows (f : Fin 4096 → EReal) : ∑ t : Fin cfg0.N, ∑ r : Fin 512, f (row t r) = ∑ r, f r := by
  rw [Fin.sum_points_lanes_congr 8 (A := 1) (L := 4096) (g := fun _ r => f r) (fun t k ha hl => congrArg f (Fin.ext ?_)) N_0]
  · simp
  · have h : t.val < 8 := lt_of_lt_of_eq t.isLt N_0
    show t.val * 512 + k.val = t.val % 8 * 512 + k.val
    omega

theorem final_dk (c : Dev nD) : (dats m 0 c).arrAt 6 cfg0.N
    = fun i : S256x1024.Idx => ∑ r, dsR m c r (hd (i 1)) (i 0) * aQ m c (ix2 r (i 1)) := by
  refine (dats m 0 c).arrAt_eq_of_after_last 6 t0_7 (by decide +kernel) _ fun i => ?_
  blk_simp [idx t0_7]
  rw [after0_6]
  refine (dk_last m c _).trans ?_
  rw [← sum_rows]
  exact Finset.sum_congr rfl fun t _ => Finset.sum_congr rfl fun r _ => congrArg₂ (· * ·) (dsB_eq m c t r _ _) (blk2 m c t r _)

theorem final_dv (c : Dev nD) : (dats m 0 c).arrAt 7 cfg0.N
    = fun i : S256x1024.Idx => ∑ r, probR m c r (hd (i 1)) (i 0) * projR m c r (i 1) := by
  refine (dats m 0 c).arrAt_eq_of_after_last 7 t0_7 (by decide +kernel) _ fun i => ?_
  blk_simp [idx t0_7]
  rw [after0_7]
  refine (dv_last m c _).trans ?_
  rw [← sum_rows]
  exact Finset.sum_congr rfl fun t _ => Finset.sum_congr rfl fun r _ => congrArg₂ (· * ·) (probB_eq m c t r _ _) (projB_eq m c t r _)

end Cert.AttnIdeal.Value

end
-- ==== Proof.Attn.Ref.lean ====
/-
  The results of attention's derivative as `jax.vjp` prints it, entry by entry.
-/
module

public import proofs.«01_k».proof.Proof.Attn.Math
public import proofs.«01_k».proof.Proof.Gen.AttnRefIdeal.Read
public import Idealize.ShloMosaic.Lib.Pointwise

@[expose] public section

set_option maxRecDepth 16384

noncomputable section

namespace Cert.AttnRefIdeal.Value

open Idealize.ShloMosaic Idealize.ShloMosaic.TcCoe
open Cert.AttnRefIdeal Cert.AttnRefIdeal.Gen Cert.AttnRefIdeal.Read
open Cert.Attn.Math

variable (x0 : (⟨S4096x1024, .f32⟩ : BufTy).Contents (Elt Ideal)) (x1 x2 : (⟨S256x1024, .f32⟩ : BufTy).Contents (Elt Ideal))
  (x3 : (⟨S1024x1024, .f32⟩ : BufTy).Contents (Elt Ideal)) (x4 : (⟨S4096x1024, .f32⟩ : BufTy).Contents (Elt Ideal))

/-- A sum over two unit axes is the one entry. -/
theorem reduce_units (v : S1x4x4096x1.Idx → EReal) (init : EReal) (h : Fin 4) (r : Fin 4096) :
    Ideal.hostReduceAdd reducesTo_S1x4x4096x1_S4x4096_d0_3 v init (ix2 h r) = init + v (ix4 0 h r 0) := by
  refine congrArg (init + ·) ?_
  refine (Finset.sum_filter_eq_sum_of_fiber _ (fun k : Fin 1 => (ix4 0 h r k : S1x4x4096x1.Idx)) (fun a b _ => Subsingleton.elim a b) ?_ v).trans
    (by simp)
  intro i
  constructor
  · intro e
    refine ⟨i 3, ?_⟩
    funext a; apply Fin.ext
    match a with
    | ⟨0, _⟩ => exact (Nat.lt_one_iff.1 (i 0).isLt).symm
    | ⟨1, _⟩ => exact (congrArg Fin.val (congrFun e (0 : Fin 2))).symm
    | ⟨2, _⟩ => exact (congrArg Fin.val (congrFun e (1 : Fin 2))).symm
    | ⟨3, _⟩ => rfl
  · rintro ⟨k, rfl⟩
    funext b
    apply Fin.ext
    match b with
    | ⟨0, _⟩ => rfl
    | ⟨1, _⟩ => rfl

theorem scores (h : Fin 4) (r : Fin 4096) (j : Fin 256) :
    val_main_v5 x0 x1 (ix4 0 h r j) = score (fun e => x0 (ix2 r e)) (fun j e => x1 (ix2 j e)) h j := by
  unfold score
  pointwise [val_main_v5, val_main_v3, val_main_v0, val_main_v1, val_main_v4, val_main_cst]

theorem largest (h : Fin 4) (r : Fin 4096) :
    val_main_v6 x0 x1 (ix3 0 h r) = mx (score (fun e => x0 (ix2 r e)) (fun j e => x1 (ix2 j e)) h) := by
  unfold mx
  simp only [← scores]
  generalize hy : val_main_v5 x0 x1 = y
  unfold val_main_v6
  rw [hy]
  pointwise [val_main_cst_0]

theorem shifted (h : Fin 4) (r : Fin 4096) :
    val_main_v13 x0 x1 (ix3 0 h r) = mx (score (fun e => x0 (ix2 r e)) (fun j e => x1 (ix2 j e)) h) := by
  rw [val_main_v13_apply, largest, val_main_v12_apply, val_main_cst_2_apply]
  show max (Ideal.ofBits FTy.f32 4286578688#32) _ = _
  rw [ofBits_bot]
  exact max_eq_right bot_le

theorem exps (h : Fin 4) (r : Fin 4096) (j : Fin 256) :
    val_main_v26 x0 x1 (ix4 0 h r j) = ex (score (fun e => x0 (ix2 r e)) (fun j e => x1 (ix2 j e)) h) j := by
  rw [val_main_v26_apply, val_main_v25_apply, val_main_v24_apply, val_main_v23_apply]
  rw [show idx_main_v23 (idx_main_v24 (ix4 0 h r j)) = ix3 0 h r by idx_ext, shifted, scores]
  rfl

theorem cots (h : Fin 4) (r : Fin 4096) (j : Fin 256) :
    val_main_v41 x2 x3 x4 (ix4 0 h r j) = cot (fun e => x4 (ix2 r e)) (fun e k => x3 (ix2 e k)) (fun j e => x2 (ix2 j e)) h j := by
  unfold cot proj
  pointwise [val_main_v41, val_main_v2, val_main_v40, val_main_v39, val_main_v38]

/-- The row sum of the derivative of the softmax's denominator. -/
theorem rowsum (h : Fin 4) (r : Fin 4096) :
    val_main_v47 x0 x1 x2 x3 x4 (ix3 0 h r) = ∑ x, cot (fun e => x4 (ix2 r e)) (fun e k => x3 (ix2 e k)) (fun j e => x2 (ix2 j e)) h x
      * Ideal.div 1 (den (score (fun e => x0 (ix2 r e)) (fun j e => x1 (ix2 j e)) h) * den (score (fun e => x0 (ix2 r e)) (fun j e => x1 (ix2 j e)) h))
      * ex (score (fun e => x0 (ix2 r e)) (fun j e => x1 (ix2 j e)) h) x := by
  unfold den
  simp only [← exps, ← cots]
  pointwise [val_main_v47, val_main_v46, val_main_v45, val_main_v44, val_main_v33, val_main_v31, val_main_v32, val_main_v28, val_main_v27,
    val_main_cst_8, val_main_cst_9, val_main_cst_10]

theorem negsum (h : Fin 4) (r : Fin 4096) :
    val_main_v52 x0 x1 x2 x3 x4 (ix2 h r) = -val_main_v47 x0 x1 x2 x3 x4 (ix3 0 h r) := by
  unfold val_main_v52
  show Ideal.hostReduceAdd reducesTo_S1x4x4096x1_S4x4096_d0_3 _ _ (ix2 h r) = _
  rw [reduce_units]
  rw [val_main_cst_11_apply, val_main_v49_apply, val_main_v48_apply]
  rw [show idx_main_v48 (ix4 0 h r 0) = ix3 0 h r by idx_ext]
  show Ideal.ofBits FTy.f32 0#32 + _ = _
  rw [Ideal.ofBits_zero_f32, zero_add]
  rfl

/-- The cotangent of the scores. -/
theorem dscores (h : Fin 4) (r : Fin 4096) (j : Fin 256) :
    val_main_v58 x0 x1 x2 x3 x4 (ix4 0 h r j)
      = dquot (score (fun e => x0 (ix2 r e)) (fun j e => x1 (ix2 j e)) h) (cot (fun e => x4 (ix2 r e)) (fun e k => x3 (ix2 e k)) (fun j e => x2 (ix2 j e)) h) j := by
  unfold dquot
  rw [← rowsum, ← negsum]
  unfold den
  simp only [← exps, ← cots]
  pointwise [val_main_v58, val_main_v57, val_main_cst_12, val_main_v56, val_main_v55, val_main_v54, val_main_v53, val_main_v51,
    val_main_v50, val_main_v28, val_main_v27, val_main_cst_8]

theorem dq_read (r : Fin 4096) (e : Fin 1024) :
    val_main_v66 x0 x1 x2 x3 x4 (ix2 r e) = ∑ j, val_main_v58 x0 x1 x2 x3 x4 (ix4 0 (hd e) r j) * x1 (ix2 j e) := by
  pointwise [val_main_v66, val_main_v65, val_main_v62, val_main_v61, val_main_v1]

theorem dk_read (j : Fin 256) (e : Fin 1024) :
    val_main_v64 x0 x1 x2 x3 x4 (ix2 j e) = ∑ r, val_main_v58 x0 x1 x2 x3 x4 (ix4 0 (hd e) r j) * x0 (ix2 r e) := by
  pointwise [val_main_v64, val_main_v60, val_main_v59, val_main_v0]

theorem dv_read (j : Fin 256) (e : Fin 1024) :
    val_main_v63 x0 x1 x3 x4 (ix2 j e) = ∑ r, prob (fun e => x0 (ix2 r e)) (fun j e => x1 (ix2 j e)) (hd e) j * proj (fun e => x4 (ix2 r e)) (fun e k => x3 (ix2 e k)) e := by
  unfold prob proj soft den
  simp only [← exps]
  pointwise [val_main_v63, val_main_v43, val_main_v42, val_main_v40, val_main_v39, val_main_v38, val_main_v30, val_main_v29, val_main_v28,
    val_main_v27, val_main_cst_8]
  exact Finset.sum_congr rfl fun x _ => mul_comm _ _

/-! ## The results for real arguments -/

section
variable (h0 : ∀ i, ∃ r : ℝ, (x0 i : EReal) = r) (h1 : ∀ i, ∃ r : ℝ, (x1 i : EReal) = r) (h2 : ∀ i, ∃ r : ℝ, (x2 i : EReal) = r)
  (h3 : ∀ i, ∃ r : ℝ, (x3 i : EReal) = r) (h4 : ∀ i, ∃ r : ℝ, (x4 i : EReal) = r)
include h0 h1 h2 h3 h4

theorem dq_eq (r : Fin 4096) (e : Fin 1024) :
    val_main_v66 x0 x1 x2 x3 x4 (ix2 r e) = ∑ j, ds (fun e => x0 (ix2 r e)) (fun e => x4 (ix2 r e)) (fun j e => x1 (ix2 j e))
      (fun j e => x2 (ix2 j e)) (fun e k => x3 (ix2 e k)) (hd e) j * x1 (ix2 j e) := by
  rw [dq_read]
  refine Finset.sum_congr rfl fun j _ => ?_
  rw [dscores, dquot_eq (fun e => h0 _) (fun e => h4 _) (fun j e => h1 _) (fun j e => h2 _) (fun e k => h3 _)]

theorem dk_eq (j : Fin 256) (e : Fin 1024) :
    val_main_v64 x0 x1 x2 x3 x4 (ix2 j e) = ∑ r, ds (fun e => x0 (ix2 r e)) (fun e => x4 (ix2 r e)) (fun j e => x1 (ix2 j e))
      (fun j e => x2 (ix2 j e)) (fun e k => x3 (ix2 e k)) (hd e) j * x0 (ix2 r e) := by
  rw [dk_read]
  refine Finset.sum_congr rfl fun r _ => ?_
  rw [dscores, dquot_eq (fun e => h0 _) (fun e => h4 _) (fun j e => h1 _) (fun j e => h2 _) (fun e k => h3 _)]

end

end Cert.AttnRefIdeal.Value

end
-- ==== Proof.Attn.Claim.lean ====
/-
  Attention's value claim: the kernel leaves the derivative of softmax attention with respect to the queries, keys and values, for
  finite arguments.
-/
module

public import proofs.«01_k».proof.Defs
public import proofs.«01_k».proof.Proof.Attn.Final
public import proofs.«01_k».proof.Proof.Attn.Ref
public import proofs.«01_k».proof.Proof.Gen.AttnRefIdeal.Run
public import proofs.«01_k».proof.Proof.Gen.AttnRefIdeal.Read

@[expose] public section

set_option maxRecDepth 16384

noncomputable section

/-! ## The precondition -/

namespace Cert.Pre_finite2

open Idealize.ShloMosaic

instance facts : Cert.Pre_finite2.Facts := ⟨by decide, by decide, by decide, by decide, by decide, by decide, by decide⟩

theorem real_args {q ct : FVec Ideal S4096x1024 .f32} {k v : FVec Ideal S256x1024 .f32} {w : FVec Ideal S1024x1024 .f32}
    (h : fn (F := Ideal) q k v w ct = fun _ => 1#1) :
    (∀ i, ∃ r : ℝ, q i = (r : EReal)) ∧ (∀ i, ∃ r : ℝ, k i = (r : EReal)) ∧ (∀ i, ∃ r : ℝ, v i = (r : EReal))
      ∧ (∀ i, ∃ r : ℝ, w i = (r : EReal)) ∧ (∀ i, ∃ r : ℝ, ct i = (r : EReal)) := by
  have e := congrFun h (fun a => a.elim0)
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  haveI : Subsingleton S_.Idx := ⟨fun a b => funext fun i => i.elim0⟩
  exact ⟨fun i => Reals.real_of_cmp (Host.reduce_andi_all _ _ _ _ _ e1 i), fun i => Reals.real_of_cmp (Host.reduce_andi_all _ _ _ _ _ e2 i),
    fun i => Reals.real_of_cmp (Host.reduce_andi_all _ _ _ _ _ e3 i), fun i => Reals.real_of_cmp (Host.reduce_andi_all _ _ _ _ _ e4 i),
    fun i => Reals.real_of_cmp (Host.reduce_andi_all _ _ _ _ _ e5 i)⟩

end Cert.Pre_finite2

namespace Cert.AttnIdeal.Value

open Idealize.ShloMosaic Idealize.ShloMosaic.TcCoe Idealize.SL.Sem
open Cert.AttnIdeal Cert.AttnIdeal.Gen

variable (m : (ℓ : Loc nD τ sig) → Buf (Elt Ideal) ℓ)

/-! ## The kernel's arrays are the reference's -/

section
variable (c : Dev nD) (hQ : ∀ i, ∃ r : ℝ, aQ m c i = r) (hK : ∀ i, ∃ r : ℝ, aK m c i = r) (hV : ∀ i, ∃ r : ℝ, aV m c i = r)
    (hW : ∀ i, ∃ r : ℝ, aW m c i = r) (hD : ∀ i, ∃ r : ℝ, aD m c i = r)
include hQ hK hV hW hD

theorem dq_claim : Cert.AttnRefIdeal.Read.val_main_v66 (F := Ideal) (aQ m c) (aK m c) (aV m c) (aW m c) (aD m c) = (dats m 0 c).arrAt 5 cfg0.N := by
  rw [final_dq]
  funext i
  obtain ⟨r, e, rfl⟩ : ∃ (r : Fin 4096) (e : Fin 1024), i = ix2 r e := ⟨i 0, i 1, by idx_ext⟩
  exact Cert.AttnRefIdeal.Value.dq_eq _ _ _ _ _ hQ hK hV hW hD r e

theorem dk_claim : Cert.AttnRefIdeal.Read.val_main_v64 (F := Ideal) (aQ m c) (aK m c) (aV m c) (aW m c) (aD m c) = (dats m 0 c).arrAt 6 cfg0.N := by
  rw [final_dk]
  funext i
  obtain ⟨j, e, rfl⟩ : ∃ (j : Fin 256) (e : Fin 1024), i = ix2 j e := ⟨i 0, i 1, by idx_ext⟩
  exact Cert.AttnRefIdeal.Value.dk_eq _ _ _ _ _ hQ hK hV hW hD j e

end

theorem dv_claim (c : Dev nD) : Cert.AttnRefIdeal.Read.val_main_v63 (F := Ideal) (aQ m c) (aK m c) (aW m c) (aD m c) = (dats m 0 c).arrAt 7 cfg0.N := by
  rw [final_dv]
  funext i
  obtain ⟨j, e, rfl⟩ : ∃ (j : Fin 256) (e : Fin 1024), i = ix2 j e := ⟨i 0, i 1, by idx_ext⟩
  exact Cert.AttnRefIdeal.Value.dv_read _ _ _ _ j e

end Cert.AttnIdeal.Value

namespace Cert.Attn.Claim

open Idealize.ShloMosaic Idealize.ShloMosaic.TcCoe Idealize.SL.Sem

theorem algebraic : Cert.algebraic_AttnIdeal_AttnRefIdeal_pre_finite2 := by
  pair_intro
  · run_from Cert.AttnIdeal.Value.run_blocks m g
  · refine θ_run_mono (Cert.AttnRefIdeal.Value.run m' g') fun r h c => ?_
    obtain ⟨h0, h1, h2, h3⟩ := h c
    obtain ⟨a0, a1, a2, a3, a4⟩ := hagree c
    obtain ⟨hq, hk, hv, hw, hd⟩ := Cert.Pre_finite2.real_args (hpre c)
    rw [Cert.AttnRefIdeal.Read.val_main_v66_eq, a0, a1, a2, a3, a4] at h0
    rw [Cert.AttnRefIdeal.Read.val_main_v64_eq, a0, a1, a2, a3, a4] at h1
    rw [a0, a1, a3, a4, Cert.AttnRefIdeal.Read.val_main_v63_eq] at h2
    exact ⟨h0.trans (Cert.AttnIdeal.Value.dq_claim m c hq hk hv hw hd), h1.trans (Cert.AttnIdeal.Value.dk_claim m c hq hk hv hw hd),
      h2.trans (Cert.AttnIdeal.Value.dv_claim m c), h3⟩

end Cert.Attn.Claim

end
-- ==== Proof.Norm.lean ====
/-
  The layer norm of one row and its derivative over the extended reals, and the equality of the two ways to spell the derivative
  when the row and the cotangent are real numbers.
-/
module

public import proofs.«01_k».proof.Proof.Reals

@[expose] public section

noncomputable section

namespace Cert.Norm

open Idealize.ShloMosaic

/-- The number added to the variance, as all programs spell it. -/
abbrev eps : EReal := Ideal.ofBits FTy.f32 0x3727C5AC#32

variable {n : ℕ} (N : EReal) (y d : Fin n → EReal)

abbrev mean : EReal := Ideal.div (∑ i, y i) N

/-- The row less its mean. -/
abbrev cen (i : Fin n) : EReal := y i - mean N y

abbrev var : EReal := mean N fun i => cen N y i * cen N y i

/-- One over the standard deviation. -/
abbrev rstd : EReal := Ideal.rsqrt (var N y + eps)

/-- The normalised row. -/
abbrev hat (i : Fin n) : EReal := cen N y i * rstd N y

/-- The cotangent of the row from the cotangent `d` of the normalised row, as the kernel writes it. -/
abbrev back (i : Fin n) : EReal := rstd N y * (d i - mean N d - hat N y i * mean N fun k => d k * hat N y k)

/-- The part of the cotangent that comes through the variance, as the derivative gives it. -/
abbrev viaVar (i : Fin n) : EReal :=
  Ideal.div ((∑ k, cen N y k * d k) * (Ideal.ofBits FTy.f32 0xBF000000#32 * Ideal.div (rstd N y) (var N y + eps))) N
    * (Ideal.ofBits FTy.f32 0x40000000#32 * cen N y i)

/-- The cotangent of the row as the derivative gives it. -/
abbrev backVjp (i : Fin n) : EReal :=
  d i * rstd N y + viaVar N y d i + Ideal.div ((∑ k, -(d k * rstd N y)) + ∑ k, -viaVar N y d k) N

theorem eps_real : ∃ e : ℝ, 0 < e ∧ eps = e := by
  refine ⟨(10995116 / 1099511627776 : ℝ), by norm_num, ?_⟩
  simp [eps, Ideal.ofBits, Ideal.ieee, -EReal.coe_mul]; norm_num

theorem ofBits_neg_half : Ideal.ofBits FTy.f32 0xBF000000#32 = ((-(1 / 2) : ℝ) : EReal) := by
  simp [Ideal.ofBits, Ideal.ieee, -EReal.coe_mul]; norm_num

theorem ofBits_two : Ideal.ofBits FTy.f32 0x40000000#32 = ((2 : ℝ) : EReal) := by
  simp [Ideal.ofBits, Ideal.ieee, -EReal.coe_mul]; norm_num

/-- The mean, the variance and the standard deviation of a real row. -/
theorem parts {n : ℕ} (a : Fin n → ℝ) {N : ℝ} (hN : 0 < N) (hn : N = n) : ∃ (u s v : ℝ) (c : Fin n → ℝ),
    mean N (fun i => (a i : EReal)) = u ∧ (∀ i, cen N (fun i => (a i : EReal)) i = c i) ∧ (∑ i, c i = 0)
      ∧ var N (fun i => (a i : EReal)) + eps = v ∧ rstd N (fun i => (a i : EReal)) = s ∧ 0 < v ∧ s * s * v = 1 := by
  obtain ⟨e, he, hE⟩ := eps_real
  have hm : ∀ b : Fin n → ℝ, mean N (fun i => (b i : EReal)) = (((∑ i, b i) / N : ℝ) : EReal) := fun b => by
    rw [mean, ← Reals.coe_sum, Ideal.div_coe hN.ne', ← EReal.coe_mul, mul_one_div]
  have hc : ∀ i, cen N (fun i => (a i : EReal)) i = ((a i - (∑ i, a i) / N : ℝ) : EReal) := fun i => by rw [cen, hm, ← EReal.coe_sub]
  have hv : var N (fun i => (a i : EReal)) + eps = (((∑ i, (a i - (∑ i, a i) / N) * (a i - (∑ i, a i) / N)) / N + e : ℝ) : EReal) := by
    rw [var, hE]
    simp only [hc, ← EReal.coe_mul]
    rw [hm, ← EReal.coe_add]
  have hp : 0 < (∑ i, (a i - (∑ i, a i) / N) * (a i - (∑ i, a i) / N)) / N + e := by
    have : 0 ≤ (∑ i, (a i - (∑ i, a i) / N) * (a i - (∑ i, a i) / N)) / N :=
      div_nonneg (Finset.sum_nonneg fun i _ => mul_self_nonneg _) hN.le
    linarith
  refine ⟨_, (Real.sqrt ((∑ i, (a i - (∑ i, a i) / N) * (a i - (∑ i, a i) / N)) / N + e))⁻¹, _, _, hm a, hc, ?_, hv, ?_, hp, ?_⟩
  · rw [Finset.sum_sub_distrib, Finset.sum_const, Finset.card_univ, Fintype.card_fin, nsmul_eq_mul, ← hn]
    field_simp; ring
  · rw [rstd, hv, Ideal.rsqrt_coe, if_neg (not_lt.2 hp.le), if_neg hp.ne']
  · generalize (∑ i, (a i - (∑ i, a i) / N) * (a i - (∑ i, a i) / N)) / N + e = w at hp
    have h0 := (Real.sqrt_pos.2 hp).ne'
    have h := Real.mul_self_sqrt hp.le
    rw [← mul_inv, h, inv_mul_cancel₀ hp.ne']

/-- For a real row and a real cotangent the derivative is the kernel's cotangent of the row; both are real. -/
theorem back_eq {n : ℕ} {y d : Fin n → EReal} {N : ℝ} (hN : 0 < N) (hn : N = n) (hy : ∀ i, ∃ r : ℝ, y i = r) (hd : ∀ i, ∃ r : ℝ, d i = r) (i : Fin n) :
    backVjp N y d i = back N y d i ∧ ∃ r : ℝ, back N y d i = r := by
  obtain ⟨a, ha⟩ := Reals.choose_real hy
  obtain ⟨b, hb⟩ := Reals.choose_real hd
  obtain rfl : y = fun j => (a j : EReal) := funext ha
  obtain rfl : d = fun j => (b j : EReal) := funext hb
  obtain ⟨u, s, v, c, hu, hc, h0, hv, hs, hp, hsv⟩ := parts a hN hn
  have hdiv : ∀ x : ℝ, Ideal.div (x : EReal) (N : EReal) = ((x / N : ℝ) : EReal) := fun x => by
    rw [Ideal.div_coe hN.ne', ← EReal.coe_mul, mul_one_div]
  have hdv : Ideal.div (s : EReal) (v : EReal) = ((s / v : ℝ) : EReal) := by
    rw [Ideal.div_coe hp.ne', ← EReal.coe_mul, mul_one_div]
  have hk : back N (fun j => (a j : EReal)) (fun j => (b j : EReal)) i
      = ((s * (b i - (∑ k, b k) / N - c i * s * ((∑ k, b k * (c k * s)) / N)) : ℝ) : EReal) := by
    simp only [back, hat, hc, hs, ← EReal.coe_mul, mean, ← Reals.coe_sum, hdiv, ← EReal.coe_sub]
  refine ⟨?_, _, hk⟩
  rw [hk]
  simp only [backVjp, viaVar, hc, hs, hv, hdv, ofBits_two, ofBits_neg_half, ← EReal.coe_mul, ← EReal.coe_neg, ← Reals.coe_sum, hdiv, ← EReal.coe_add]
  congr 1
  have e1 : ∑ k, b k * (c k * s) = (∑ k, c k * b k) * s := by
    rw [Finset.sum_mul]; exact Finset.sum_congr rfl fun k _ => by ring
  have e2 : ∑ k, -(b k * s) = -((∑ k, b k) * s) := by rw [Finset.sum_neg_distrib, Finset.sum_mul]
  have e3 : ∀ q : ℝ, ∑ k, -(q * (2 * c k)) = 0 := fun q => by
    rw [Finset.sum_neg_distrib, ← Finset.mul_sum, ← Finset.mul_sum, h0]; ring
  have e4 : s / v = s * s * s := by
    rw [div_eq_iff hp.ne']; linear_combination (-s) * hsv
  rw [e1, e2, e3, e4]
  ring

/-- The normalised row of a real row is real. -/
theorem hat_real {n : ℕ} {y : Fin n → EReal} {N : ℝ} (hN : 0 < N) (hn : N = n) (hy : ∀ i, ∃ r : ℝ, y i = r) (i : Fin n) :
    ∃ r : ℝ, hat N y i = r := by
  obtain ⟨a, ha⟩ := Reals.choose_real hy
  obtain rfl : y = fun j => (a j : EReal) := funext ha
  obtain ⟨u, s, v, c, hu, hc, h0, hv, hs, hp, hsv⟩ := parts a hN hn
  exact ⟨c i * s, by rw [hat, hc, hs, ← EReal.coe_mul]⟩

end Cert.Norm

end
-- ==== Proof.Gelu.lean ====
/-
  The tanh form of the Gaussian error unit and its derivative over the extended reals, as the kernel and the derivative of the
  reference spell them, equal at real arguments.
-/
module

public import proofs.«01_k».proof.Proof.Reals

@[expose] public section

noncomputable section

namespace Cert.Gelu

open Idealize.ShloMosaic

abbrev half : EReal := Ideal.ofBits FTy.f32 0x3F000000#32
/-- The rounded root of two over pi, as both programs spell it. -/
abbrev root : EReal := Ideal.ofBits FTy.f32 0x3F4C422A#32
/-- The cube's coefficient, 0.044715. -/
abbrev cube : EReal := ((8943 / 200000 : ℝ) : EReal)
/-- Three times the cube's coefficient. -/
abbrev cube3 : EReal := ((26829 / 200000 : ℝ) : EReal)

variable (x y : EReal)

/-- The tanh inside, as the kernel writes it. -/
abbrev th : EReal := Ideal.tanh (root * (x + cube * x * x * x))
/-- The same, as the reference writes it. -/
abbrev thRef : EReal := Ideal.tanh (root * (x + cube * (x * x * x)))

abbrev gelu : EReal := half * x * (1 + th x)
abbrev geluRef : EReal := x * (half * (1 + thRef x))

abbrev dgelu : EReal := half * (1 + th x) + half * x * (1 - th x * th x) * root * (1 + cube3 * x * x)

/-- The reference's cotangent through the tanh, of the cotangent `y`. -/
abbrev inner : EReal := root * (half * (x * y) * ((1 + thRef x) * (1 - thRef x)))
/-- The reference's cotangent of the argument from the cotangent `y`. -/
abbrev dgeluRef : EReal :=
  y * (half * (1 + thRef x)) + inner x y + cube * inner x y * (Ideal.ofBits FTy.f32 0x40400000#32 * (x * x))

theorem ofBits_three : Ideal.ofBits FTy.f32 0x40400000#32 = ((3 : ℝ) : EReal) := by
  simp [Ideal.ofBits, Ideal.ieee, -EReal.coe_mul]; norm_num

theorem root_real : ∃ r : ℝ, root = r := by
  refine ⟨(13386282 / 16777216 : ℝ), ?_⟩
  simp [root, Ideal.ofBits, Ideal.ieee, -EReal.coe_mul]; norm_num

theorem th_real (r : ℝ) : ∃ t : ℝ, th (r : EReal) = t ∧ thRef (r : EReal) = t := by
  obtain ⟨k, hk⟩ := root_real
  refine ⟨Real.tanh (k * (r + 8943 / 200000 * r * r * r)), ?_, ?_⟩
  · rw [th, hk, cube]; simp only [← EReal.coe_mul, ← EReal.coe_add, Ideal.tanh_coe]
  · rw [thRef, hk, cube]; simp only [← EReal.coe_mul, ← EReal.coe_add, Ideal.tanh_coe]
    congr 3; ring

theorem gelu_eq {x : EReal} (hx : ∃ r : ℝ, x = r) : geluRef x = gelu x ∧ ∃ r : ℝ, gelu x = r := by
  obtain ⟨r, rfl⟩ := hx
  obtain ⟨t, h, h'⟩ := th_real r
  simp only [geluRef, gelu, h, h', half, Reals.ofBits_half, ← EReal.coe_one, ← EReal.coe_mul, ← EReal.coe_add]
  refine ⟨?_, _, rfl⟩
  congr 1; ring

theorem dgelu_eq {x y : EReal} (hx : ∃ r : ℝ, x = r) (hy : ∃ r : ℝ, y = r) : dgeluRef x y = y * dgelu x := by
  obtain ⟨r, rfl⟩ := hx
  obtain ⟨a, rfl⟩ := hy
  obtain ⟨k, hk⟩ := root_real
  obtain ⟨t, h, h'⟩ := th_real r
  simp only [dgeluRef, inner, dgelu, h, h', hk, half, Reals.ofBits_half, ← EReal.coe_one, ofBits_three, cube, cube3, ← EReal.coe_mul, ← EReal.coe_add,
    ← EReal.coe_sub]
  congr 1; ring

end Cert.Gelu

end
-- ==== Proof.Sgu.Math.lean ====
/-
  The spatial gating unit's backward pass for one chunk of 128 positions of one group, over the extended reals.
-/
module

public import proofs.«01_k».proof.Proof.Norm
public import proofs.«01_k».proof.Proof.Gelu
public import Idealize.ShloMosaic.PureOps.Vector
public import Idealize.ShloMosaic.Lib.Pipeline.ValueKit

@[expose] public section

noncomputable section

namespace Cert.Sgu.Math

open Idealize.ShloMosaic
open Cert.Gelu Cert.Norm Cert.Reals

/-- The number of channels of a group, as both programs spell it. -/
abbrev n128 : EReal := Ideal.ofBits FTy.f32 0x43000000#32

theorem n128_real : n128 = ((128 : ℝ) : EReal) := by
  simp [n128, Ideal.ofBits, Ideal.ieee, -EReal.coe_mul]; norm_num

/- `u`, `v` are the two halves of the projection and `d` the cotangent, by position and channel; `g`, `b` the norm's gain and
   bias, `w` the mixing matrix of positions, `β` its bias. -/
variable (u v d : Fin 128 → Fin 128 → EReal) (g b : Fin 128 → EReal) (w : Fin 128 → Fin 128 → EReal) (β : Fin 128 → EReal)

/-- The second half after the error unit. -/
abbrev va (t k : Fin 128) : EReal := gelu (v t k)

/-- The same, normalised. -/
abbrev vn (t k : Fin 128) : EReal := hat n128 (va v t) k * g k + b k

/-- `x` at the positions `s` up to `t`, zero elsewhere. -/
abbrev upto (s t : Fin 128) (x : EReal) : EReal :=
  Scalar.select (IntOp.cmpi CmpIPredicate.sle (BitVec.ofNat 32 s.val) (BitVec.ofNat 32 t.val)) x 0

/-- The mixed positions: position `t` reads the positions up to it. -/
abbrev mix (t k : Fin 128) : EReal := (∑ s, upto s t (w t s * vn v g b s k)) + β t

/-- The gradient of the first half. -/
abbrev du (t k : Fin 128) : EReal := d t k * mix v g b w β t k * dgelu (u t k)

/-- The cotangent of the mixed positions. -/
abbrev ds (t k : Fin 128) : EReal := d t k * gelu (u t k)

/-- The cotangent of the normalised second half. -/
abbrev dvn (t k : Fin 128) : EReal := ∑ s, upto t s (w s t * ds u d s k)

/-- The gradient of the second half. -/
abbrev dv (t k : Fin 128) : EReal := back n128 (va v t) (fun k => dvn u d w t k * g k) k * dgelu (v t k)

/-- What a chunk adds to the gradient of the gain. -/
abbrev dgc (k : Fin 128) : EReal := ∑ t, dvn u d w t k * hat n128 (va v t) k

/-- What a chunk adds to the gradient of the norm's bias. -/
abbrev dbc (k : Fin 128) : EReal := ∑ t, dvn u d w t k

/-- What a chunk adds to the gradient of the mixing matrix, before the causal mask. -/
abbrev dwc (t s : Fin 128) : EReal := ∑ k, ds u d t k * vn v g b s k

/-- What a chunk adds to the gradient of the mixing's bias. -/
abbrev dβc (t : Fin 128) : EReal := ∑ k, ds u d t k

/-! ## The arguments by group, chunk and position -/

/-- Position `p` of chunk `n`. -/
abbrev pos (n : Fin 32) (p : Fin 128) : Fin 4096 := ⟨n.val * 128 + p.val, by omega⟩

/-- The first half of the projection, for group `h` and chunk `n`. -/
def uR (X : Fin 4096 → Fin 3072 → EReal) (h : Fin 4) (n : Fin 32) (p k : Fin 128) : EReal := X (pos n p) ⟨2048 + h.val * 128 + k.val, by omega⟩
/-- The second half of the projection. -/
def vR (X : Fin 4096 → Fin 3072 → EReal) (h : Fin 4) (n : Fin 32) (p k : Fin 128) : EReal := X (pos n p) ⟨2560 + h.val * 128 + k.val, by omega⟩
/-- The cotangent of the unit's output. -/
def dR (D : Fin 4096 → Fin 1024 → EReal) (h : Fin 4) (n : Fin 32) (p k : Fin 128) : EReal := D (pos n p) ⟨512 + h.val * 128 + k.val, by omega⟩

/-- The group of a column of the unit's width, and the channel in it. -/
abbrev grp (e : Fin 512) : Fin 4 := ⟨e.val / 128, by omega⟩
abbrev chan (e : Fin 512) : Fin 128 := ⟨e.val % 128, by omega⟩
/-- The chunk of a row, and the position in it. -/
abbrev chunk (r : Fin 4096) : Fin 32 := ⟨r.val / 128, by omega⟩
abbrev at128 (r : Fin 4096) : Fin 128 := ⟨r.val % 128, by omega⟩

theorem chunk_pos (n : Fin 32) (p : Fin 128) : chunk (pos n p) = n := Fin.ext (by show (n.val * 128 + p.val) / 128 = n.val; omega)
theorem at128_pos (n : Fin 32) (p : Fin 128) : at128 (pos n p) = p := Fin.ext (by show (n.val * 128 + p.val) % 128 = p.val; omega)
theorem pos_chunk (r : Fin 4096) : pos (chunk r) (at128 r) = r := Fin.ext (by show r.val / 128 * 128 + r.val % 128 = r.val; omega)

theorem mul_upto (s t : Fin 128) (x y : EReal) : y * upto s t x = upto s t (x * y) := by
  unfold upto Scalar.select
  split_ifs
  · exact mul_comm _ _
  · exact mul_zero _

theorem real_upto (s t : Fin 128) {x : EReal} (h : ∃ r : ℝ, x = r) : ∃ r : ℝ, upto s t x = r := by
  unfold upto Scalar.select
  split_ifs
  · exact h
  · exact ⟨0, rfl⟩

section
variable {u v d : Fin 128 → Fin 128 → EReal} {g b : Fin 128 → EReal} {w : Fin 128 → Fin 128 → EReal} {β : Fin 128 → EReal}
  (hu : ∀ t k, ∃ r : ℝ, u t k = r) (hv : ∀ t k, ∃ r : ℝ, v t k = r) (hd : ∀ t k, ∃ r : ℝ, d t k = r) (hg : ∀ k, ∃ r : ℝ, g k = r)
  (hb : ∀ k, ∃ r : ℝ, b k = r) (hw : ∀ t s, ∃ r : ℝ, w t s = r) (hβ : ∀ t, ∃ r : ℝ, β t = r)

include hv in
theorem va_real (t k : Fin 128) : ∃ r : ℝ, va v t k = r := (gelu_eq (hv t k)).2
include hv in
theorem hat_real' (t k : Fin 128) : ∃ r : ℝ, hat n128 (va v t) k = r := by
  rw [n128_real]; exact hat_real (by norm_num) (by norm_num) (va_real hv t) k
include hv hg hb in
theorem vn_real (t k : Fin 128) : ∃ r : ℝ, vn v g b t k = r := real_add (real_mul (hat_real' hv t k) (hg k)) (hb k)
include hv hg hb hw hβ in
theorem mix_real (t k : Fin 128) : ∃ r : ℝ, mix v g b w β t k = r :=
  real_add (real_sum fun s => real_upto s t (real_mul (hw t s) (vn_real hv hg hb s k))) (hβ t)
include hu hd in
theorem ds_real (t k : Fin 128) : ∃ r : ℝ, ds u d t k = r := real_mul (hd t k) (gelu_eq (hu t k)).2
include hu hd hw in
theorem dvn_real (t k : Fin 128) : ∃ r : ℝ, dvn u d w t k = r :=
  real_sum fun s => real_upto t s (real_mul (hw s t) (ds_real hu hd s k))
include hu hv hd hg hw in
/-- The derivative of the norm, at a row of a chunk. -/
theorem back_chunk (t k : Fin 128) : backVjp n128 (va v t) (fun k => dvn u d w t k * g k) k = back n128 (va v t) (fun k => dvn u d w t k * g k) k
    ∧ ∃ r : ℝ, back n128 (va v t) (fun k => dvn u d w t k * g k) k = r := by
  rw [n128_real]
  exact back_eq (by norm_num) (by norm_num) (va_real hv t) (fun k => real_mul (dvn_real hu hd hw t k) (hg k)) k

end

/-- A sum over the rows is one over chunks and positions. -/
theorem sum_rows (f : Fin 4096 → EReal) : ∑ r, f r = ∑ n, ∑ p, f (pos n p) := by
  refine ((Fin.sum_points_lanes_congr 32 (A := 1) (N := 32) (n := 128) (g := fun _ l => f l) (fun s q _ hl => congrArg f (Fin.ext ?_)) rfl).trans
    (by simp)).symm
  show s.val * 128 + q.val = s.val % 32 * 128 + q.val
  omega

end Cert.Sgu.Math

end
-- ==== Proof.Sgu.Value.lean ====
/-
  What the spatial gating unit's backward kernel leaves after each grid point, entry by entry: the two gradients of a block of rows,
  and the parameters' gradients as what the point before left plus what the block's four chunks add.
-/
module

public import proofs.«01_k».proof.Proof.Sgu.Math
public import proofs.«01_k».proof.Proof.Gen.SguIdeal.Frame
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.SguIdeal.Value

open Idealize.ShloMosaic Idealize.ShloMosaic.TcCoe Idealize.SL.Sem
open Idealize.ShloMosaic.Pipeline (Dat)
open Cert.SguIdeal Cert.SguIdeal.Gen
open Cert.Sgu.Math Cert.Gelu Cert.Norm

variable (m : (ℓ : Loc nD τ sig) → Buf (Elt Ideal) ℓ)

theorem named_cube : Named.named (F := Ideal) κ "cube" (φ := .f32) 1027024659#32 = cube := IdealRules.named_const.ideal_named_scalar _ _ _ _ rfl
theorem named_cube3 : Named.named (F := Ideal) κ "cube3" (φ := .f32) 1040801103#32 = cube3 := IdealRules.named_const.ideal_named_scalar _ _ _ _ rfl

/-- Position `t` of chunk `q` of a block of 512 rows. -/
abbrev cr (q : Fin 4) (t : Fin 128) : Fin 512 := ⟨q.val * 128 + t.val, by omega⟩

/-- A chunk of a block of rows. -/
def ck (b : Vec Ideal S1x512x128 .f32) (q : Fin 4) (t k : Fin 128) : EReal := b (ix3 0 (cr q t) k)
theorem ck_zero (b : Vec Ideal S1x512x128 .f32) : ck b 0 = fun t k => b (ix3 0 ⟨t.val, by omega⟩ k) := by
  funext t k; exact congrArg b (by idx_ext)

/-- A group's row of numbers. -/
abbrev vec (b : Vec Ideal S1x1x128 .f32) (k : Fin 128) : EReal := b (ix3 0 0 k)
/-- A group's matrix. -/
abbrev mat (b : Vec Ideal S1x128x128 .f32) (t s : Fin 128) : EReal := b (ix3 0 t s)

/-- The seven blocks of a point and their chunks. -/
abbrev uB (c : Dev nD) (t : Fin cfg0.N) (q : Fin 4) : Fin 128 → Fin 128 → EReal := ck (iblk m c 0 t) q
abbrev vB (c : Dev nD) (t : Fin cfg0.N) (q : Fin 4) : Fin 128 → Fin 128 → EReal := ck (iblk m c 1 t) q
abbrev dB (c : Dev nD) (t : Fin cfg0.N) (q : Fin 4) : Fin 128 → Fin 128 → EReal := ck (iblk m c 2 t) q
abbrev gB (c : Dev nD) (t : Fin cfg0.N) : Fin 128 → EReal := vec (iblk m c 3 t)
abbrev bB (c : Dev nD) (t : Fin cfg0.N) : Fin 128 → EReal := vec (iblk m c 4 t)
abbrev wB (c : Dev nD) (t : Fin cfg0.N) : Fin 128 → Fin 128 → EReal := mat (iblk m c 5 t)
abbrev βB (c : Dev nD) (t : Fin cfg0.N) : Fin 128 → EReal := vec (iblk m c 6 t)

/-- What the four chunks of a block add, in order, to `x`. -/
abbrev four (x : EReal) (f : Fin 4 → EReal) : EReal := x + f 0 + f 1 + f 2 + f 3

/-! ## The gradients of the block's rows -/

theorem cases8 (n : ℕ) : (n % 8 = 0 ∧ ¬ n % 8 = 7) ∨ (¬ n % 8 = 0 ∧ ¬ n % 8 = 7) ∨ (¬ n % 8 = 0 ∧ n % 8 = 7) := by omega

set_option maxHeartbeats 1000000 in
theorem du_at (c : Dev nD) (t : Fin cfg0.N) (q : Fin 4) (p k : Fin 128) : (outsAt0 m c t.val t.isLt).1 (ix2 (cr q p) k)
    = du (uB m c t q) (vB m c t q) (dB m c t q) (gB m c t) (bB m c t) (wB m c t) (βB m c t) p k := by
  unfold uB vB dB gB bB wB βB
  rcases cases8 t.val with z | z | z
  on_goal 1 => rw [outsAt0_A m c t z.1 z.2]
  on_goal 2 => rw [outsAt0_B m c t z.1 z.2]
  on_goal 3 => rw [outsAt0_C m c t z.1 z.2]
  all_goals
    generalize iblk m c 0 t = b0
    generalize iblk m c 1 t = b1
    generalize iblk m c 2 t = b2
    generalize iblk m c 3 t = b3
    generalize iblk m c 4 t = b4
    generalize iblk m c 5 t = b5
    generalize iblk m c 6 t = b6
    frame_out
    canon_tiles x h
    all_goals
      replace h0 : q.val * 128 + p.val = _ := h0
      replace h1 : k.val = _ := h1
      obtain rfl | rfl | rfl | rfl : q = 0 ∨ q = 1 ∨ q = 2 ∨ q = 3 := by omega
    all_goals first | (exfalso; omega) | skip
    all_goals
      open_payloads; pointwise
      simp only [named_cube, named_cube3]
      obtain rfl : p = x 0 := Fin.ext (by omega)
      obtain rfl : k = x 1 := Fin.ext (by omega)
      (try simp only [ck_zero]) <;> exact rfl

set_option maxHeartbeats 1000000 in
theorem dv_at (c : Dev nD) (t : Fin cfg0.N) (q : Fin 4) (p k : Fin 128) : (outsAt0 m c t.val t.isLt).2.1 (ix2 (cr q p) k)
    = dv (uB m c t q) (vB m c t q) (dB m c t q) (gB m c t) (wB m c t) p k := by
  unfold uB vB dB gB wB
  rcases cases8 t.val with z | z | z
  on_goal 1 => rw [outsAt0_A m c t z.1 z.2]
  on_goal 2 => rw [outsAt0_B m c t z.1 z.2]
  on_goal 3 => rw [outsAt0_C m c t z.1 z.2]
  all_goals
    generalize iblk m c 0 t = b0
    generalize iblk m c 1 t = b1
    generalize iblk m c 2 t = b2
    generalize iblk m c 3 t = b3
    generalize iblk m c 4 t = b4
    generalize iblk m c 5 t = b5
    generalize iblk m c 6 t = b6
    frame_out
    canon_tiles x h
    all_goals
      replace h0 : q.val * 128 + p.val = _ := h0
      replace h1 : k.val = _ := h1
      obtain rfl | rfl | rfl | rfl : q = 0 ∨ q = 1 ∨ q = 2 ∨ q = 3 := by omega
    all_goals first | (exfalso; omega) | skip
    all_goals
      open_payloads; pointwise
      simp only [named_cube, named_cube3]
      obtain rfl : p = x 0 := Fin.ext (by omega)
      obtain rfl : k = x 1 := Fin.ext (by omega)
      (try simp only [ck_zero]) <;> exact rfl

/-! ## The parameters' gradients -/

theorem dg_at (c : Dev nD) (t : Fin cfg0.N) (k : Fin 128) : (outsAt0 m c t.val t.isLt).2.2.1 (ix3 0 0 k)
    = four (if t.val % 8 = 0 then 0 else (outsAt0 m c (t.val - 1) (Nat.lt_of_le_of_lt (Nat.sub_le _ _) t.isLt)).2.2.1 (ix3 0 0 k)) fun q => dgc (uB m c t q) (vB m c t q) (dB m c t q) (wB m c t) k := by
  unfold four uB vB dB wB
  rcases cases8 t.val with z | z | z
  on_goal 1 => rw [outsAt0_A m c t z.1 z.2, if_pos z.1]
  on_goal 2 => rw [outsAt0_B m c t z.1 z.2, if_neg z.1]
  on_goal 3 => rw [outsAt0_C m c t z.1 z.2, if_neg z.1]
  all_goals
    generalize iblk m c 0 t = b0
    generalize iblk m c 1 t = b1
    generalize iblk m c 2 t = b2
    generalize iblk m c 3 t = b3
    generalize iblk m c 4 t = b4
    generalize iblk m c 5 t = b5
    generalize iblk m c 6 t = b6
    frame_out
    try simp (disch := first | rfl | decide) only [↓View.readCov_skip, ↓View.readCov_fill]
    open_payloads; pointwise
    simp only [named_cube, named_cube3, zero_add]
    simp only [ck_zero]
    exact rfl

theorem db_at (c : Dev nD) (t : Fin cfg0.N) (k : Fin 128) : (outsAt0 m c t.val t.isLt).2.2.2.1 (ix3 0 0 k)
    = four (if t.val % 8 = 0 then 0 else (outsAt0 m c (t.val - 1) (Nat.lt_of_le_of_lt (Nat.sub_le _ _) t.isLt)).2.2.2.1 (ix3 0 0 k)) fun q => dbc (uB m c t q) (dB m c t q) (wB m c t) k := by
  unfold four uB dB wB
  rcases cases8 t.val with z | z | z
  on_goal 1 => rw [outsAt0_A m c t z.1 z.2, if_pos z.1]
  on_goal 2 => rw [outsAt0_B m c t z.1 z.2, if_neg z.1]
  on_goal 3 => rw [outsAt0_C m c t z.1 z.2, if_neg z.1]
  all_goals
    generalize iblk m c 0 t = b0
    generalize iblk m c 1 t = b1
    generalize iblk m c 2 t = b2
    generalize iblk m c 3 t = b3
    generalize iblk m c 4 t = b4
    generalize iblk m c 5 t = b5
    generalize iblk m c 6 t = b6
    frame_out
    try simp (disch := first | rfl | decide) only [↓View.readCov_skip, ↓View.readCov_fill]
    open_payloads; pointwise
    simp only [named_cube, named_cube3, zero_add]
    simp only [ck_zero]
    exact rfl

theorem dw_at (c : Dev nD) (t : Fin cfg0.N) (p s : Fin 128) : (outsAt0 m c t.val t.isLt).2.2.2.2.1 (ix3 0 p s)
    = (if t.val % 8 = 7 then upto s p else id) (four (if t.val % 8 = 0 then 0 else (outsAt0 m c (t.val - 1) (Nat.lt_of_le_of_lt (Nat.sub_le _ _) t.isLt)).2.2.2.2.1 (ix3 0 p s)) fun q => dwc (uB m c t q) (vB m c t q) (dB m c t q) (gB m c t) (bB m c t) p s) := by
  unfold four uB vB dB gB bB
  rcases cases8 t.val with z | z | z
  on_goal 1 => rw [outsAt0_A m c t z.1 z.2, if_pos z.1, if_neg z.2, id]
  on_goal 2 => rw [outsAt0_B m c t z.1 z.2, if_neg z.1, if_neg z.2, id]
  on_goal 3 => rw [outsAt0_C m c t z.1 z.2, if_neg z.1, if_pos z.2]
  all_goals
    generalize iblk m c 0 t = b0
    generalize iblk m c 1 t = b1
    generalize iblk m c 2 t = b2
    generalize iblk m c 3 t = b3
    generalize iblk m c 4 t = b4
    generalize iblk m c 5 t = b5
    generalize iblk m c 6 t = b6
    frame_out
    try simp (disch := first | rfl | decide) only [↓View.readCov_skip, ↓View.readCov_fill]
    open_payloads; pointwise
    simp only [named_cube, named_cube3, zero_add]
    simp only [ck_zero]
    exact rfl

theorem dβ_at (c : Dev nD) (t : Fin cfg0.N) (p : Fin 128) : (outsAt0 m c t.val t.isLt).2.2.2.2.2 (ix3 0 p 0)
    = four (if t.val % 8 = 0 then 0 else (outsAt0 m c (t.val - 1) (Nat.lt_of_le_of_lt (Nat.sub_le _ _) t.isLt)).2.2.2.2.2 (ix3 0 p 0)) fun q => dβc (uB m c t q) (dB m c t q) p := by
  unfold four uB dB
  rcases cases8 t.val with z | z | z
  on_goal 1 => rw [outsAt0_A m c t z.1 z.2, if_pos z.1]
  on_goal 2 => rw [outsAt0_B m c t z.1 z.2, if_neg z.1]
  on_goal 3 => rw [outsAt0_C m c t z.1 z.2, if_neg z.1]
  all_goals
    generalize iblk m c 0 t = b0
    generalize iblk m c 1 t = b1
    generalize iblk m c 2 t = b2
    generalize iblk m c 3 t = b3
    generalize iblk m c 4 t = b4
    generalize iblk m c 5 t = b5
    generalize iblk m c 6 t = b6
    frame_out
    try simp (disch := first | rfl | decide) only [↓View.readCov_skip, ↓View.readCov_fill]
    open_payloads; pointwise
    simp only [named_cube, named_cube3, zero_add]
    simp only [ck_zero]
    exact rfl

end Cert.SguIdeal.Value

end
-- ==== Proof.Sgu.Final.lean ====
/-
  The arrays the spatial gating unit's backward kernel leaves, over the arguments: each row's two gradients, and the parameters'
  gradients as sums over the 32 chunks.
-/
module

public import proofs.«01_k».proof.Proof.Sgu.Value
public import proofs.«01_k».proof.Proof.Gen.SguIdeal.Value

@[expose] public section

set_option maxRecDepth 16384

noncomputable section

namespace Cert.SguIdeal.Value

open Idealize.ShloMosaic Idealize.ShloMosaic.TcCoe Idealize.SL.Sem
open Cert.SguIdeal Cert.SguIdeal.Gen
open Cert.Sgu.Math
open Idealize.ShloMosaic.Pipeline (Dat)

variable (m : (ℓ : Loc nD τ sig) → Buf (Elt Ideal) ℓ) (ρ : Dev nD → PrngReg)

theorem idx : ∀ t : Fin cfg0.N, win0_0.index t = ![16 + t.val / 8, t.val % 8, 0] ∧ win0_1.index t = ![20 + t.val / 8, t.val % 8, 0]
    ∧ win0_2.index t = ![4 + t.val / 8, t.val % 8, 0] ∧ win0_3.index t = ![t.val / 8, 0, 0] ∧ win0_4.index t = ![t.val / 8, 0, 0]
    ∧ win0_5.index t = ![t.val / 8, 0, 0] ∧ win0_6.index t = ![t.val / 8, 0, 0] ∧ win0_7.index t = ![t.val % 8, t.val / 8]
    ∧ win0_8.index t = ![t.val % 8, t.val / 8] ∧ win0_9.index t = ![t.val / 8, 0, 0] ∧ win0_10.index t = ![t.val / 8, 0, 0]
    ∧ win0_11.index t = ![t.val / 8, 0, 0] ∧ win0_12.index t = ![t.val / 8, 0, 0] :=
  (by decide +kernel : ∀ t : Fin grid0.N, _)

theorem lt32 (t : Fin cfg0.N) : t.val < 32 := lt_of_lt_of_eq t.isLt N_0

/-! ## The arguments and the blocks of them -/

abbrev aX (c : Dev nD) : S4096x3072.Idx → EReal := m ((c.tc : Thread nD τ).loc main_arg0)
abbrev aD (c : Dev nD) : S4096x1024.Idx → EReal := m ((c.tc : Thread nD τ).loc main_arg1)
abbrev aG (c : Dev nD) : S1x4x128.Idx → EReal := m ((c.tc : Thread nD τ).loc main_arg2)
abbrev aB (c : Dev nD) : S1x4x128.Idx → EReal := m ((c.tc : Thread nD τ).loc main_arg3)
abbrev aW (c : Dev nD) : S1x4x128x128.Idx → EReal := m ((c.tc : Thread nD τ).loc main_arg4)
abbrev aS (c : Dev nD) : S1x4x128.Idx → EReal := m ((c.tc : Thread nD τ).loc main_arg5)

/-- The slabs: the columns of an array by groups of 128. -/
theorem V_v1 (c : Dev nD) (s : Fin 24) (r : Fin 4096) (k : Fin 128) :
    (V m c main_v1 : S24x4096x128.Idx → EReal) (ix3 s r k) = aX m c (ix2 r ⟨s.val * 128 + k.val, by omega⟩) := by
  entry_read; pointwise []
theorem V_v3 (c : Dev nD) (s : Fin 8) (r : Fin 4096) (k : Fin 128) :
    (V m c main_v3 : S8x4096x128.Idx → EReal) (ix3 s r k) = aD m c (ix2 r ⟨s.val * 128 + k.val, by omega⟩) := by
  entry_read; pointwise []
theorem V_v4 (c : Dev nD) (h : Fin 4) (k : Fin 128) : (V m c main_v4 : S4x1x128.Idx → EReal) (ix3 h 0 k) = aG m c (ix3 0 h k) := by
  entry_read; pointwise []
theorem V_v5 (c : Dev nD) (h : Fin 4) (k : Fin 128) : (V m c main_v5 : S4x1x128.Idx → EReal) (ix3 h 0 k) = aB m c (ix3 0 h k) := by
  entry_read; pointwise []
theorem V_v6 (c : Dev nD) (h : Fin 4) (t s : Fin 128) : (V m c main_v6 : S4x128x128.Idx → EReal) (ix3 h t s) = aW m c (ix4 0 h t s) := by
  entry_read; pointwise []
theorem V_v7 (c : Dev nD) (h : Fin 4) (k : Fin 128) : (V m c main_v7 : S4x1x128.Idx → EReal) (ix3 h 0 k) = aS m c (ix3 0 h k) := by
  entry_read; pointwise []

/-- The group of a point, and the chunks of its block. -/
abbrev gp (t : Fin cfg0.N) : Fin 4 := ⟨t.val / 8, by have := lt32 t; omega⟩
abbrev cp (t : Fin cfg0.N) (q : Fin 4) : Fin 32 := ⟨t.val % 8 * 4 + q.val, by omega⟩

/-- The arguments by group, chunk and position. -/
abbrev uG (c : Dev nD) := uR fun r e => aX m c (ix2 r e)
abbrev vG (c : Dev nD) := vR fun r e => aX m c (ix2 r e)
abbrev dG (c : Dev nD) := dR fun r e => aD m c (ix2 r e)
abbrev gG (c : Dev nD) (h : Fin 4) (k : Fin 128) : EReal := aG m c (ix3 0 h k)
abbrev bG (c : Dev nD) (h : Fin 4) (k : Fin 128) : EReal := aB m c (ix3 0 h k)
abbrev wG (c : Dev nD) (h : Fin 4) (t s : Fin 128) : EReal := aW m c (ix4 0 h t s)
abbrev βG (c : Dev nD) (h : Fin 4) (k : Fin 128) : EReal := aS m c (ix3 0 h k)

theorem uB_eq (c : Dev nD) (t : Fin cfg0.N) (q : Fin 4) : uB m c t q = uG m c (gp t) (cp t q) := by
  funext p k
  have h := lt32 t
  refine (show uB m c t q p k = V m c main_v1 (ix3 ⟨16 + t.val / 8, by omega⟩ (pos (cp t q) p) k) from ?_).trans ((V_v1 m c _ _ _).trans ?_)
  · unfold uB ck; blk_point [iblk, idx t]
  · exact congrArg (aX m c) (by idx_ext)
theorem vB_eq (c : Dev nD) (t : Fin cfg0.N) (q : Fin 4) : vB m c t q = vG m c (gp t) (cp t q) := by
  funext p k
  have h := lt32 t
  refine (show vB m c t q p k = V m c main_v1 (ix3 ⟨20 + t.val / 8, by omega⟩ (pos (cp t q) p) k) from ?_).trans ((V_v1 m c _ _ _).trans ?_)
  · unfold vB ck; blk_point [iblk, idx t]
  · exact congrArg (aX m c) (by idx_ext)
theorem dB_eq (c : Dev nD) (t : Fin cfg0.N) (q : Fin 4) : dB m c t q = dG m c (gp t) (cp t q) := by
  funext p k
  have h := lt32 t
  refine (show dB m c t q p k = V m c main_v3 (ix3 ⟨4 + t.val / 8, by omega⟩ (pos (cp t q) p) k) from ?_).trans ((V_v3 m c _ _ _).trans ?_)
  · unfold dB ck; blk_point [iblk, idx t]
  · exact congrArg (aD m c) (by idx_ext)
theorem gB_eq (c : Dev nD) (t : Fin cfg0.N) : gB m c t = gG m c (gp t) := by
  funext k
  have h := lt32 t
  refine (show gB m c t k = V m c main_v4 (ix3 (gp t) 0 k) from ?_).trans (V_v4 m c _ _)
  unfold gB vec; blk_point [iblk, idx t]
theorem bB_eq (c : Dev nD) (t : Fin cfg0.N) : bB m c t = bG m c (gp t) := by
  funext k
  have h := lt32 t
  refine (show bB m c t k = V m c main_v5 (ix3 (gp t) 0 k) from ?_).trans (V_v5 m c _ _)
  unfold bB vec; blk_point [iblk, idx t]
theorem wB_eq (c : Dev nD) (t : Fin cfg0.N) : wB m c t = wG m c (gp t) := by
  funext p s
  have h := lt32 t
  refine (show wB m c t p s = V m c main_v6 (ix3 (gp t) p s) from ?_).trans (V_v6 m c _ _ _)
  unfold wB mat; blk_point [iblk, idx t]
theorem βB_eq (c : Dev nD) (t : Fin cfg0.N) : βB m c t = βG m c (gp t) := by
  funext k
  have h := lt32 t
  refine (show βB m c t k = V m c main_v7 (ix3 (gp t) 0 k) from ?_).trans (V_v7 m c _ _)
  unfold βB vec; blk_point [iblk, idx t]

/-! ## The two gradients by rows -/

def duOf (c : Dev nD) (i : S4096x512.Idx) : EReal :=
  du (uG m c (grp (i 1)) (chunk (i 0))) (vG m c (grp (i 1)) (chunk (i 0))) (dG m c (grp (i 1)) (chunk (i 0)))
    (gG m c (grp (i 1))) (bG m c (grp (i 1))) (wG m c (grp (i 1))) (βG m c (grp (i 1))) (at128 (i 0)) (chan (i 1))
def dvOf (c : Dev nD) (i : S4096x512.Idx) : EReal :=
  dv (uG m c (grp (i 1)) (chunk (i 0))) (vG m c (grp (i 1)) (chunk (i 0))) (dG m c (grp (i 1)) (chunk (i 0)))
    (gG m c (grp (i 1))) (wG m c (grp (i 1))) (at128 (i 0)) (chan (i 1))

/-- A row and a column of a block of the result, cut into chunk, position and channel. -/
theorem places (t : Fin cfg0.N) (y : S512x128.Idx) (i : S4096x512.Idx) (h0 : (i 0 : ℕ) = t.val % 8 * 512 + (y 0).val)
    (h1 : (i 1 : ℕ) = t.val / 8 * 128 + (y 1).val) :
    ∃ (q : Fin 4) (p k : Fin 128), y = ix2 (cr q p) k ∧ grp (i 1) = gp t ∧ chunk (i 0) = cp t q ∧ at128 (i 0) = p ∧ chan (i 1) = k := by
  have a0 : (y 0).val < 512 := (y 0).isLt
  have a1 : (y 1).val < 128 := (y 1).isLt
  have h := lt32 t
  refine ⟨⟨(y 0).val / 128, by omega⟩, ⟨(y 0).val % 128, by omega⟩, ⟨(y 1).val, a1⟩, ?_, Fin.ext ?_, Fin.ext ?_, Fin.ext ?_, Fin.ext ?_⟩
  · idx_ext
  all_goals (simp only [h0, h1]; omega)

theorem duOf_at (c : Dev nD) (t : Fin cfg0.N) (y : S512x128.Idx) (i : S4096x512.Idx) (h0 : (i 0 : ℕ) = t.val % 8 * 512 + (y 0).val)
    (h1 : (i 1 : ℕ) = t.val / 8 * 128 + (y 1).val) : (outsAt0 m c t.val t.isLt).1 y = duOf m c i := by
  obtain ⟨q, p, k, rfl, e1, e2, e3, e4⟩ := places t y i h0 h1
  rw [du_at, uB_eq, vB_eq, dB_eq, gB_eq, bB_eq, wB_eq, βB_eq, duOf, e1, e2, e3, e4]
theorem dvOf_at (c : Dev nD) (t : Fin cfg0.N) (y : S512x128.Idx) (i : S4096x512.Idx) (h0 : (i 0 : ℕ) = t.val % 8 * 512 + (y 0).val)
    (h1 : (i 1 : ℕ) = t.val / 8 * 128 + (y 1).val) : (outsAt0 m c t.val t.isLt).2.1 y = dvOf m c i := by
  obtain ⟨q, p, k, rfl, e1, e2, e3, e4⟩ := places t y i h0 h1
  rw [dv_at, uB_eq, vB_eq, dB_eq, gB_eq, wB_eq, dvOf, e1, e2, e3, e4]

theorem final_du (c : Dev nD) : (dats m 0 c).arrAt 7 cfg0.N = duOf m c := by
  refine (dats m 0 c).arrAt_eq_of_covers 7 _ (by decide +kernel) fun t hf y => ?_
  blk_simp
  rw [after0_7]
  refine duOf_at m c t y _ ?_ ?_
  all_goals (blk_simp [idx t] <;> try omega)
theorem final_dv (c : Dev nD) : (dats m 0 c).arrAt 8 cfg0.N = dvOf m c := by
  refine (dats m 0 c).arrAt_eq_of_covers 8 _ (by decide +kernel) fun t hf y => ?_
  blk_simp
  rw [after0_8]
  refine dvOf_at m c t y _ ?_ ?_
  all_goals (blk_simp [idx t] <;> try omega)

/-! ## The parameters' gradients -/

/-- Eight blocks of four chunks are the 32 chunks. -/
theorem chunks (f : Fin 32 → EReal) : (∑ s : Fin 8, ∑ q : Fin 4, f ⟨s.val * 4 + q.val, by omega⟩) = ∑ n, f n := by
  refine (Fin.sum_points_lanes_congr 8 (A := 1) (N := 8) (g := fun _ n => f n) (fun s q _ hl => congrArg f (Fin.ext ?_)) rfl).trans
    (by simp)
  show s.val * 4 + q.val = s.val % 8 * 4 + q.val
  omega

theorem four_eq (x : EReal) (f : Fin 4 → EReal) : four x f = x + ∑ q, f q := by
  simp only [four, Fin.sum_univ_four, add_assoc]

theorem four_congr {x y : EReal} (h : x = y) (f : Fin 4 → EReal) : four x f = four y f := h ▸ rfl

/-- What a group's run of points has gathered at its last: the sum over all chunks of the group. -/
theorem gathered {ι : Type} (A : (n : ℕ) → n < cfg0.N → ι → EReal) (F : Fin cfg0.N → Fin 4 → ι → EReal) (G : Fin 4 → Fin 32 → ι → EReal)
    (hA : ∀ (t : Fin cfg0.N) i, A t.val t.isLt i
      = four (if t.val % 8 = 0 then 0 else A (t.val - 1) (Nat.lt_of_le_of_lt (Nat.sub_le _ _) t.isLt) i) fun q => F t q i)
    (hF : ∀ t q i, F t q i = G (gp t) (cp t q) i) (t : Fin cfg0.N) (ht : t.val % 8 = 7) (i : ι) :
    A t.val t.isLt i = ∑ n, G (gp t) n i := by
  refine (Pipeline.eq_sum_fin_of_reset_step_apply_of_flush (J := 8) A (fun _ => 0) (fun t i => ∑ q, F t q i) ?_ ?_ t ht i).trans ?_
  · intro t h i; rw [hA, if_pos h, four_eq]
  · intro t h i; rw [hA, if_neg h, four_eq]
  · refine (zero_add _).trans ((Finset.sum_congr rfl fun s _ => Finset.sum_congr rfl fun q _ => (hF _ q i).trans ?_).trans
      (chunks fun n => G (gp t) n i))
    have := lt32 t
    have := s.isLt
    have e1 : (⟨(8 * (t.val / 8) + s.val) / 8, by omega⟩ : Fin 4) = gp t := Fin.ext (by show (8 * (t.val / 8) + s.val) / 8 = t.val / 8; omega)
    have e2 : (⟨(8 * (t.val / 8) + s.val) % 8 * 4 + q.val, by omega⟩ : Fin 32) = ⟨s.val * 4 + q.val, by omega⟩ :=
      Fin.ext (by show (8 * (t.val / 8) + s.val) % 8 * 4 + q.val = s.val * 4 + q.val; omega)
    exact congrArg₂ (fun h n => G h n i) e1 e2

/-- The gradients of the gain, the bias, the mixing matrix and the mixing bias, by group. -/
def dgG (c : Dev nD) (h : Fin 4) (k : Fin 128) : EReal := ∑ n, dgc (uG m c h n) (vG m c h n) (dG m c h n) (wG m c h) k
def dbG (c : Dev nD) (h : Fin 4) (k : Fin 128) : EReal := ∑ n, dbc (uG m c h n) (dG m c h n) (wG m c h) k
def dwG (c : Dev nD) (h : Fin 4) (t s : Fin 128) : EReal :=
  upto s t (∑ n, dwc (uG m c h n) (vG m c h n) (dG m c h n) (gG m c h) (bG m c h) t s)
def dβG (c : Dev nD) (h : Fin 4) (t : Fin 128) : EReal := ∑ n, dβc (uG m c h n) (dG m c h n) t

theorem dg_last (c : Dev nD) (t : Fin cfg0.N) (ht : t.val % 8 = 7) (k : Fin 128) :
    (outsAt0 m c t.val t.isLt).2.2.1 (ix3 0 0 k) = dgG m c (gp t) k := by
  refine gathered (fun n h k => (outsAt0 m c n h).2.2.1 (ix3 0 0 k)) _ (fun h n k => dgc (uG m c h n) (vG m c h n) (dG m c h n) (wG m c h) k)
    (fun t k => dg_at m c t k) (fun t q k => ?_) t ht k
  rw [uB_eq, vB_eq, dB_eq, wB_eq]
theorem db_last (c : Dev nD) (t : Fin cfg0.N) (ht : t.val % 8 = 7) (k : Fin 128) :
    (outsAt0 m c t.val t.isLt).2.2.2.1 (ix3 0 0 k) = dbG m c (gp t) k := by
  refine gathered (fun n h k => (outsAt0 m c n h).2.2.2.1 (ix3 0 0 k)) _ (fun h n k => dbc (uG m c h n) (dG m c h n) (wG m c h) k)
    (fun t k => db_at m c t k) (fun t q k => ?_) t ht k
  rw [uB_eq, dB_eq, wB_eq]
theorem dβ_last (c : Dev nD) (t : Fin cfg0.N) (ht : t.val % 8 = 7) (p : Fin 128) :
    (outsAt0 m c t.val t.isLt).2.2.2.2.2 (ix3 0 p 0) = dβG m c (gp t) p := by
  refine gathered (fun n h p => (outsAt0 m c n h).2.2.2.2.2 (ix3 0 p 0)) _ (fun h n p => dβc (uG m c h n) (dG m c h n) p)
    (fun t p => dβ_at m c t p) (fun t q p => ?_) t ht p
  rw [uB_eq, dB_eq]

/-- The mixing matrix's gradient before the mask that the last point of a group applies. -/
def dwRaw (c : Dev nD) (n : ℕ) (h : n < cfg0.N) (i : Fin 128 × Fin 128) : EReal :=
  four (if n % 8 = 0 then 0 else (outsAt0 m c (n - 1) (Nat.lt_of_le_of_lt (Nat.sub_le _ _) h)).2.2.2.2.1 (ix3 0 i.1 i.2))
    fun q => dwc (uB m c ⟨n, h⟩ q) (vB m c ⟨n, h⟩ q) (dB m c ⟨n, h⟩ q) (gB m c ⟨n, h⟩) (bB m c ⟨n, h⟩) i.1 i.2

theorem dw_last (c : Dev nD) (t : Fin cfg0.N) (ht : t.val % 8 = 7) (p s : Fin 128) :
    (outsAt0 m c t.val t.isLt).2.2.2.2.1 (ix3 0 p s) = dwG m c (gp t) p s := by
  refine (dw_at m c t p s).trans ((congrFun (if_pos ht) _).trans (congrArg (upto s p) ?_))
  refine gathered (dwRaw m c) (fun t q i => dwc (uB m c t q) (vB m c t q) (dB m c t q) (gB m c t) (bB m c t) i.1 i.2)
    (fun h n i => dwc (uG m c h n) (vG m c h n) (dG m c h n) (gG m c h) (bG m c h) i.1 i.2) (fun t i => ?_) (fun t q i => ?_) t ht (p, s)
  · unfold dwRaw
    refine four_congr ?_ _
    by_cases h : t.val % 8 = 0
    · rw [if_pos h, if_pos h]
    · rw [if_neg h, if_neg h]
      have e := dw_at m c ⟨t.val - 1, Nat.lt_of_le_of_lt (Nat.sub_le _ _) t.isLt⟩ i.1 i.2
      rw [if_neg (show ¬(t.val - 1) % 8 = 7 by omega)] at e
      exact e
  · rw [uB_eq, vB_eq, dB_eq, gB_eq, bB_eq]

def dgOf (c : Dev nD) (i : S4x1x128.Idx) : EReal := dgG m c (i 0) (i 2)
def dbOf (c : Dev nD) (i : S4x1x128.Idx) : EReal := dbG m c (i 0) (i 2)
def dwOf (c : Dev nD) (i : S4x128x128.Idx) : EReal := dwG m c (i 0) (i 1) (i 2)
def dβOf (c : Dev nD) (i : S4x128x1.Idx) : EReal := dβG m c (i 0) (i 1)

theorem dgOf_at (c : Dev nD) (t : Fin cfg0.N) (ht : t.val % 8 = 7) (y : S1x1x128.Idx) (i : S4x1x128.Idx)
    (h0 : (i 0 : ℕ) = t.val / 8 + (y 0).val) (h2 : (i 2 : ℕ) = (y 2).val) : (outsAt0 m c t.val t.isLt).2.2.1 y = dgOf m c i := by
  have a0 : (y 0).val < 1 := (y 0).isLt
  obtain rfl : y = ix3 0 0 (i 2) := by idx_ext
  exact (dg_last m c t ht (i 2)).trans (congrArg (fun h => dgG m c h (i 2)) (Fin.ext (by show t.val / 8 = (i 0 : ℕ); omega)))
theorem dbOf_at (c : Dev nD) (t : Fin cfg0.N) (ht : t.val % 8 = 7) (y : S1x1x128.Idx) (i : S4x1x128.Idx)
    (h0 : (i 0 : ℕ) = t.val / 8 + (y 0).val) (h2 : (i 2 : ℕ) = (y 2).val) : (outsAt0 m c t.val t.isLt).2.2.2.1 y = dbOf m c i := by
  have a0 : (y 0).val < 1 := (y 0).isLt
  obtain rfl : y = ix3 0 0 (i 2) := by idx_ext
  exact (db_last m c t ht (i 2)).trans (congrArg (fun h => dbG m c h (i 2)) (Fin.ext (by show t.val / 8 = (i 0 : ℕ); omega)))
theorem dwOf_at (c : Dev nD) (t : Fin cfg0.N) (ht : t.val % 8 = 7) (y : S1x128x128.Idx) (i : S4x128x128.Idx)
    (h0 : (i 0 : ℕ) = t.val / 8 + (y 0).val) (h1 : (i 1 : ℕ) = (y 1).val) (h2 : (i 2 : ℕ) = (y 2).val) :
    (outsAt0 m c t.val t.isLt).2.2.2.2.1 y = dwOf m c i := by
  have a0 : (y 0).val < 1 := (y 0).isLt
  obtain rfl : y = ix3 0 (i 1) (i 2) := by idx_ext
  exact (dw_last m c t ht (i 1) (i 2)).trans
    (congrArg (fun h => dwG m c h (i 1) (i 2)) (Fin.ext (by show t.val / 8 = (i 0 : ℕ); omega)))
theorem dβOf_at (c : Dev nD) (t : Fin cfg0.N) (ht : t.val % 8 = 7) (y : S1x128x1.Idx) (i : S4x128x1.Idx)
    (h0 : (i 0 : ℕ) = t.val / 8 + (y 0).val) (h1 : (i 1 : ℕ) = (y 1).val) : (outsAt0 m c t.val t.isLt).2.2.2.2.2 y = dβOf m c i := by
  have a0 : (y 0).val < 1 := (y 0).isLt
  obtain rfl : y = ix3 0 (i 1) 0 := by idx_ext
  exact (dβ_last m c t ht (i 1)).trans (congrArg (fun h => dβG m c h (i 1)) (Fin.ext (by show t.val / 8 = (i 0 : ℕ); omega)))

theorem final_dg (c : Dev nD) : (dats m 0 c).arrAt 9 cfg0.N = dgOf m c := by
  refine (dats m 0 c).arrAt_eq_of_covers 9 _ (by decide +kernel) fun t hf y => ?_
  blk_simp
  rw [after0_9]
  refine dgOf_at m c t ((flush0_9 t).mp hf) y _ ?_ ?_
  all_goals (blk_simp [idx t] <;> try omega)
theorem final_db (c : Dev nD) : (dats m 0 c).arrAt 10 cfg0.N = dbOf m c := by
  refine (dats m 0 c).arrAt_eq_of_covers 10 _ (by decide +kernel) fun t hf y => ?_
  blk_simp
  rw [after0_10]
  refine dbOf_at m c t ((flush0_10 t).mp hf) y _ ?_ ?_
  all_goals (blk_simp [idx t] <;> try omega)
theorem final_dw (c : Dev nD) : (dats m 0 c).arrAt 11 cfg0.N = dwOf m c := by
  refine (dats m 0 c).arrAt_eq_of_covers 11 _ (by decide +kernel) fun t hf y => ?_
  blk_simp
  rw [after0_11]
  refine dwOf_at m c t ((flush0_11 t).mp hf) y _ ?_ ?_ ?_
  all_goals (blk_simp [idx t] <;> try omega)
theorem final_dβ (c : Dev nD) : (dats m 0 c).arrAt 12 cfg0.N = dβOf m c := by
  refine (dats m 0 c).arrAt_eq_of_covers 12 _ (by decide +kernel) fun t hf y => ?_
  blk_simp
  rw [after0_12]
  refine dβOf_at m c t ((flush0_12 t).mp hf) y _ ?_ ?_
  all_goals (blk_simp [idx t] <;> try omega)

end Cert.SguIdeal.Value

end
-- ==== Proof.Sgu.Ref.lean ====
/-
  The results of the spatial gating unit's derivative as `jax.vjp` prints it, entry by entry.
-/
module

public import proofs.«01_k».proof.Proof.Sgu.Math
public import proofs.«01_k».proof.Proof.Gen.SguRefIdeal.Read
public import Idealize.ShloMosaic.Lib.Pointwise

@[expose] public section

set_option maxRecDepth 16384

noncomputable section

namespace Cert.SguRefIdeal.Value

open Idealize.ShloMosaic Idealize.ShloMosaic.TcCoe
open Cert.SguRefIdeal Cert.SguRefIdeal.Gen Cert.SguRefIdeal.Read
open Cert.Sgu.Math Cert.Gelu Cert.Norm Cert.Reals

variable (x0 : (⟨S4096x3072, .f32⟩ : BufTy).Contents (Elt Ideal)) (x1 : (⟨S4096x1024, .f32⟩ : BufTy).Contents (Elt Ideal))
  (x2 x3 : (⟨S1x4x128, .f32⟩ : BufTy).Contents (Elt Ideal)) (x4 : (⟨S1x4x128x128, .f32⟩ : BufTy).Contents (Elt Ideal))
  (x5 : (⟨S1x4x128, .f32⟩ : BufTy).Contents (Elt Ideal))

/-- The quotient of whole numbers by which the error unit's coefficient is spelled. -/
theorem quotient (i : S_.Idx) : val_main_v0 (F := Ideal) i = cube := by
  show Ideal.div (Ideal.ofBits FTy.f32 0x460BBC00#32) (Ideal.ofBits FTy.f32 0x48435000#32) = cube
  rw [show Ideal.ofBits FTy.f32 0x460BBC00#32 = ((8943 : ℝ) : EReal) by simp [Ideal.ofBits, Ideal.ieee, -EReal.coe_mul]; norm_num,
    show Ideal.ofBits FTy.f32 0x48435000#32 = ((200000 : ℝ) : EReal) by simp [Ideal.ofBits, Ideal.ieee, -EReal.coe_mul]; norm_num,
    Ideal.div_coe (by norm_num), ← EReal.coe_mul, cube]
  congr 1; norm_num

/-- The error unit of the two halves. -/
theorem actU (r : Fin 4096) (e : Fin 512) : val_main_v29 x0 (ix2 r e) = geluRef (x0 (ix2 r ⟨2048 + e.val, by omega⟩)) := by
  pointwise [val_main_v29, val_main_v28, val_main_v27, val_main_cst_6, val_main_v26, val_main_v25, val_main_cst_5, val_main_v19,
    val_main_v18, val_main_v17, val_main_cst_2, val_main_v16, val_main_v15, val_main_v14, val_main_v10, val_main_v9, val_main_v3]
  rw [quotient]
theorem actV (r : Fin 4096) (h : Fin 4) (k : Fin 128) : val_main_v51 x0 (ix3 r h k) = geluRef (x0 (ix2 r ⟨2560 + (h.val * 128 + k.val), by omega⟩)) := by
  pointwise [val_main_v51, val_main_v50, val_main_v49, val_main_v48, val_main_cst_12, val_main_v47, val_main_v46, val_main_cst_11, val_main_v40,
    val_main_v39, val_main_v38, val_main_cst_8, val_main_v37, val_main_v36, val_main_v35, val_main_v31, val_main_v30, val_main_v4]
  rw [quotient]

/-- The row of channels that is normalised. -/
abbrev row (r : Fin 4096) (h : Fin 4) (k : Fin 128) : EReal := val_main_v51 x0 (ix3 r h k)

theorem means (r : Fin 4096) (h : Fin 4) : val_main_v55 x0 (ix3 r h 0) = mean n128 (row x0 r h) := by
  unfold row
  generalize hy : val_main_v51 x0 = y
  unfold val_main_v55 val_main_v53 val_main_v52
  rw [hy]
  pointwise [val_main_v54, val_main_cst_14, val_main_cst_13]
theorem cens (r : Fin 4096) (h : Fin 4) (k : Fin 128) : val_main_v66 x0 (ix3 r h k) = cen n128 (row x0 r h) k := by
  unfold cen
  rw [← means]
  pointwise [val_main_v66, val_main_v65]
theorem cens' (r : Fin 4096) (h : Fin 4) (k : Fin 128) : val_main_v57 x0 (ix3 r h k) = cen n128 (row x0 r h) k := by
  unfold cen
  rw [← means]
  pointwise [val_main_v57, val_main_v56]
theorem vars (r : Fin 4096) (h : Fin 4) : val_main_v68 x0 (ix3 r h 0) = var n128 (row x0 r h) + eps := by
  unfold var mean
  simp only [← cens']
  pointwise [val_main_v68, val_main_v67, val_main_cst_18, val_main_v64, val_main_v63, val_main_cst_17, val_main_v62, val_main_v61, val_main_cst_16, val_main_v58]
theorem rstds (r : Fin 4096) (h : Fin 4) : val_main_v69 x0 (ix3 r h 0) = rstd n128 (row x0 r h) := by
  unfold rstd
  rw [← vars]
  pointwise [val_main_v69]
theorem hats (r : Fin 4096) (h : Fin 4) (k : Fin 128) : val_main_v74 x0 (ix3 r h k) = hat n128 (row x0 r h) k := by
  unfold hat
  rw [← cens, ← rstds]
  pointwise [val_main_v74, val_main_v73]
theorem norms (n : Fin 32) (p : Fin 128) (h : Fin 4) (k : Fin 128) : val_main_v81 x0 x2 x3 (ix4 n p h k)
    = hat n128 (row x0 (pos n p) h) k * x2 (ix3 0 h k) + x3 (ix3 0 h k) := by
  rw [← hats]
  pointwise [val_main_v81, val_main_v80, val_main_v79, val_main_v78, val_main_v77, val_main_v76, val_main_v75, val_main_v6, val_main_v5]
theorem sel (q : BitVec 1) : Scalar.select q 1#1 0#1 = q := by revert q; decide

theorem causal (h : Fin 4) (t s : Fin 128) (x : EReal) : Scalar.select (val_main_v82_1 (F := Ideal) (ix3 h t s)) x 0 = upto s t x := by
  rw [val_main_v82_1_apply]
  show Scalar.select (Scalar.select (IntOp.cmpi .sge (BitVec.ofNat 32 t.val + 0#32) (BitVec.ofNat 32 s.val)) 1#1 0#1) x 0 = _
  rw [BitVec.add_zero]
  rw [sel]
  rfl
theorem masked (h : Fin 4) (t s : Fin 128) : val_main_v82_0 x4 (ix3 h t s) = upto s t (x4 (ix4 0 h t s)) := by
  rw [← causal h t s, val_main_v82_0_apply]
  congr 1
  · pointwise [val_main_v7]
  · exact Ideal.ofBits_zero_f32
theorem mixes (r : Fin 4096) (e : Fin 512) : val_main_v89 x0 x2 x3 x4 x5 (ix2 r e)
    = (∑ s, val_main_v81 x0 x2 x3 (ix4 (chunk r) s (grp e) (chan e)) * val_main_v82_0 x4 (ix3 (grp e) (at128 r) s)) + x5 (ix3 0 (grp e) (at128 r)) := by
  pointwise [val_main_v89, val_main_v88, val_main_v87, val_main_v86, val_main_v85, val_main_v84, val_main_v83, val_main_v8]
theorem dss (n : Fin 32) (p : Fin 128) (h : Fin 4) (k : Fin 128) : val_main_v94 x0 x1 (ix4 n p h k)
    = val_main_v29 x0 (ix2 (pos n p) ⟨h.val * 128 + k.val, by omega⟩) * x1 (ix2 (pos n p) ⟨512 + (h.val * 128 + k.val), by omega⟩) := by
  pointwise [val_main_v94, val_main_v92, val_main_v91]
theorem dvns (r : Fin 4096) (h : Fin 4) (k : Fin 128) : val_main_v104 x0 x1 x4 (ix3 r h k)
    = ∑ t, val_main_v94 x0 x1 (ix4 (chunk r) t h k) * val_main_v82_0 x4 (ix3 h t (at128 r)) := by
  pointwise [val_main_v104, val_main_v102, val_main_v101, val_main_v99]

/-- The cotangent of the normalised row. -/
theorem dxhs (r : Fin 4096) (h : Fin 4) (k : Fin 128) :
    val_main_v112 x0 x1 x2 x4 (ix3 r h k) = val_main_v104 x0 x1 x4 (ix3 r h k) * x2 (ix3 0 h k) := by
  pointwise [val_main_v112, val_main_v111, val_main_v75, val_main_v5]

/-- The part of the row's cotangent that comes through the variance. -/
theorem vias (r : Fin 4096) (h : Fin 4) (k : Fin 128) :
    val_main_v127 x0 x1 x2 x4 (ix3 r h k) = viaVar n128 (row x0 r h) (fun k => val_main_v112 x0 x1 x2 x4 (ix3 r h k)) k := by
  unfold viaVar
  simp only [← cens, ← rstds, ← vars]
  rw [show val_main_v66 x0 (ix3 r h k) = val_main_v57 x0 (ix3 r h k) by rw [cens, cens']]
  pointwise [val_main_v127, val_main_v126, val_main_v125, val_main_cst_30, val_main_v124, val_main_v123, val_main_cst_29, val_main_v119,
    val_main_v116, val_main_v115, val_main_cst_27, val_main_v114, val_main_v72, val_main_v71, val_main_cst_19, val_main_v70, val_main_v60,
    val_main_v59, val_main_cst_15]
  rw [Fin.sum_univ_one]

theorem backs (r : Fin 4096) (h : Fin 4) (k : Fin 128) :
    val_main_v137 x0 x1 x2 x4 (ix3 r h k) = backVjp n128 (row x0 r h) (fun k => val_main_v112 x0 x1 x2 x4 (ix3 r h k)) k := by
  unfold backVjp
  simp only [← vias, ← rstds]
  pointwise [val_main_v137, val_main_v136, val_main_v135, val_main_cst_33, val_main_v134, val_main_v133, val_main_cst_32, val_main_v132,
    val_main_v131, val_main_v130, val_main_v129, val_main_cst_31, val_main_v128, val_main_v122, val_main_v121, val_main_cst_28, val_main_v120,
    val_main_v118, val_main_v117]
  rw [Fin.sum_univ_one]

theorem dv_read (r : Fin 4096) (e : Fin 512) : val_main_v164 x0 x1 x2 x4 (ix2 r e)
    = dgeluRef (x0 (ix2 r ⟨2560 + e.val, by omega⟩)) (val_main_v137 x0 x1 x2 x4 (ix3 r (grp e) (chan e))) := by
  unfold dgeluRef Gelu.inner
  pointwise [val_main_v164, val_main_v150, val_main_v149, val_main_v148, val_main_v147, val_main_v146, val_main_v145, val_main_v144, val_main_cst_35,
    val_main_v143, val_main_v142, val_main_v141, val_main_cst_34, val_main_v140, val_main_v139, val_main_v138, val_main_v49, val_main_v48,
    val_main_cst_12, val_main_v47, val_main_v46, val_main_cst_11, val_main_v45, val_main_v44, val_main_v43, val_main_cst_10, val_main_v42,
    val_main_v41, val_main_cst_9, val_main_v40,
    val_main_v39, val_main_v38, val_main_cst_8, val_main_v37, val_main_v36, val_main_v35, val_main_v34, val_main_v33, val_main_cst_7, val_main_v32,
    val_main_v31, val_main_v30, val_main_v4]
  rw [quotient]

theorem du_read (r : Fin 4096) (e : Fin 512) : val_main_v163 x0 x1 x2 x3 x4 x5 (ix2 r e)
    = dgeluRef (x0 (ix2 r ⟨2048 + e.val, by omega⟩)) (x1 (ix2 r ⟨512 + e.val, by omega⟩) * val_main_v89 x0 x2 x3 x4 x5 (ix2 r e)) := by
  unfold dgeluRef Gelu.inner
  pointwise [val_main_v163, val_main_v162, val_main_v161, val_main_v160, val_main_v159, val_main_v158, val_main_v157, val_main_v156, val_main_cst_37,
    val_main_v155, val_main_v154, val_main_v153, val_main_cst_36, val_main_v152, val_main_v151, val_main_v93, val_main_v91, val_main_v28, val_main_v27,
    val_main_cst_6, val_main_v26, val_main_v25, val_main_cst_5, val_main_v24, val_main_v23, val_main_v22, val_main_cst_4, val_main_v21,
    val_main_v20, val_main_cst_3, val_main_v19,
    val_main_v18, val_main_v17, val_main_cst_2, val_main_v16, val_main_v15, val_main_v14, val_main_v13, val_main_v12, val_main_cst_1, val_main_v11,
    val_main_v10, val_main_v9, val_main_v3]
  rw [quotient]

/-! ## The parameters' gradients -/

theorem dg_read (h : Fin 4) (k : Fin 128) : val_main_v165 x0 x1 x4 (ix3 h 0 k)
    = ∑ r, val_main_v74 x0 (ix3 r h k) * val_main_v104 x0 x1 x4 (ix3 r h k) := by
  pointwise [val_main_v165, val_main_v113, val_main_cst_26, val_main_v110, val_main_v109, val_main_cst_25, val_main_v108]
  try rw [Fin.sum_univ_one]
theorem db_read (h : Fin 4) (k : Fin 128) : val_main_v166 x0 x1 x4 (ix3 h 0 k) = ∑ r, val_main_v104 x0 x1 x4 (ix3 r h k) := by
  pointwise [val_main_v166, val_main_v107, val_main_cst_24, val_main_v106, val_main_v105, val_main_cst_23]
  try rw [Fin.sum_univ_one]

/-- A sum over chunks and channels, at a position and a group. -/
theorem reduce_chunks (v : S32x128x4x128.Idx → EReal) (init : EReal) (p : Fin 128) (h : Fin 4) :
    Ideal.hostReduceAdd reducesTo_S32x128x4x128_S128x4_d0_3 v init (ix2 p h) = init + ∑ n, ∑ k, v (ix4 n p h k) := by
  refine congrArg (init + ·) ?_
  refine (Finset.sum_filter_eq_sum_of_fiber _ (fun q : Fin 32 × Fin 128 => (ix4 q.1 p h q.2 : S32x128x4x128.Idx)) (fun a b e => ?_) ?_ v).trans
    (Fintype.sum_prod_type _)
  · exact Prod.ext (congrFun e (0 : Fin 4)) (congrFun e (3 : Fin 4))
  intro i
  constructor
  · intro e
    refine ⟨(i 0, i 3), ?_⟩
    funext a; apply Fin.ext
    match a with
    | ⟨0, _⟩ => rfl
    | ⟨1, _⟩ => exact (congrArg Fin.val (congrFun e (0 : Fin 2))).symm
    | ⟨2, _⟩ => exact (congrArg Fin.val (congrFun e (1 : Fin 2))).symm
    | ⟨3, _⟩ => rfl
  · rintro ⟨k, rfl⟩
    funext b
    apply Fin.ext
    match b with
    | ⟨0, _⟩ => rfl
    | ⟨1, _⟩ => rfl
/-- The same over two unit axes. -/
theorem reduce_units (v : S1x128x4x1.Idx → EReal) (init : EReal) (p : Fin 128) (h : Fin 4) :
    Ideal.hostReduceAdd reducesTo_S1x128x4x1_S128x4_d0_3 v init (ix2 p h) = init + v (ix4 0 p h 0) := by
  refine congrArg (init + ·) ?_
  refine (Finset.sum_filter_eq_sum_of_fiber _ (fun k : Fin 1 => (ix4 0 p h k : S1x128x4x1.Idx)) (fun a b _ => Subsingleton.elim a b) ?_ v).trans
    (by simp)
  intro i
  constructor
  · intro e
    refine ⟨i 3, ?_⟩
    funext a; apply Fin.ext
    match a with
    | ⟨0, _⟩ => exact (Nat.lt_one_iff.1 (i 0).isLt).symm
    | ⟨1, _⟩ => exact (congrArg Fin.val (congrFun e (0 : Fin 2))).symm
    | ⟨2, _⟩ => exact (congrArg Fin.val (congrFun e (1 : Fin 2))).symm
    | ⟨3, _⟩ => rfl
  · rintro ⟨k, rfl⟩
    funext b
    apply Fin.ext
    match b with
    | ⟨0, _⟩ => rfl
    | ⟨1, _⟩ => rfl

theorem dβ_read (h : Fin 4) (p : Fin 128) : val_main_v167 x0 x1 (ix3 h p 0) = ∑ n, ∑ k, val_main_v94 x0 x1 (ix4 n p h k) := by
  have e : val_main_v167 x0 x1 (ix3 h p 0) = val_main_v97 x0 x1 (ix2 p h) := by
    generalize hy : val_main_v97 x0 x1 = y
    unfold val_main_v167 val_main_v98
    rw [hy]
    pointwise []
  have e' : val_main_v96 x0 x1 (ix4 0 p h 0) = val_main_v95 x0 x1 (ix2 p h) := by
    generalize hy : val_main_v95 x0 x1 = y
    unfold val_main_v96
    rw [hy]
    pointwise []
  rw [e]
  unfold val_main_v97
  show Ideal.hostReduceAdd reducesTo_S1x128x4x1_S128x4_d0_3 _ _ (ix2 p h) = _
  rw [reduce_units, e']
  unfold val_main_v95
  rw [show Host.reduceAdd (val_main_v94 x0 x1) (val_main_cst_21 (F := Ideal)) reducesTo_S32x128x4x128_S128x4_d0_3 h_S_ (ix2 p h)
    = Ideal.hostReduceAdd reducesTo_S32x128x4x128_S128x4_d0_3 _ _ (ix2 p h) from rfl, reduce_chunks]
  show Ideal.ofBits FTy.f32 0#32 + (Ideal.ofBits FTy.f32 0#32 + _) = _
  rw [Ideal.ofBits_zero_f32, zero_add, zero_add]

theorem dw_dot (h : Fin 4) (t s : Fin 128) : val_main_v100 x0 x1 x2 x3 (ix3 h t s)
    = ∑ n, ∑ k, val_main_v94 x0 x1 (ix4 n t h k) * val_main_v81 x0 x2 x3 (ix4 n s h k) := by
  have e : ∀ n k, val_main_v94 x0 x1 (ix4 n t h k) = val_main_v99 x0 x1 (ix4 h n k t) := fun n k => by
    generalize hy : val_main_v94 x0 x1 = y
    unfold val_main_v99
    rw [hy]
    pointwise []
  simp only [e]
  unfold val_main_v100
  generalize val_main_v99 x0 x1 = l
  generalize val_main_v81 x0 x2 x3 = r
  pointwise []

theorem dw_read (h : Fin 4) (t s : Fin 128) : val_main_v103 x0 x1 x2 x3 (ix3 h t s)
    = upto s t (∑ n, ∑ k, val_main_v94 x0 x1 (ix4 n t h k) * val_main_v81 x0 x2 x3 (ix4 n s h k)) := by
  rw [val_main_v103_apply, ← dw_dot, ← causal h t s]
  exact congrArg (Scalar.select _ _) Ideal.ofBits_zero_f32

/-! ## The results for real arguments -/

abbrev uG := uR fun r e => x0 (ix2 r e)
abbrev vG := vR fun r e => x0 (ix2 r e)
abbrev dG := dR fun r e => x1 (ix2 r e)
abbrev gG (h : Fin 4) (k : Fin 128) : EReal := x2 (ix3 0 h k)
abbrev wG (h : Fin 4) (t s : Fin 128) : EReal := x4 (ix4 0 h t s)

section
variable (h0 : ∀ i, ∃ r : ℝ, (x0 i : EReal) = r) (h1 : ∀ i, ∃ r : ℝ, (x1 i : EReal) = r) (h2 : ∀ i, ∃ r : ℝ, (x2 i : EReal) = r)
  (h3 : ∀ i, ∃ r : ℝ, (x3 i : EReal) = r) (h4 : ∀ i, ∃ r : ℝ, (x4 i : EReal) = r) (h5 : ∀ i, ∃ r : ℝ, (x5 i : EReal) = r)

include h0 in
theorem row_eq (n : Fin 32) (p : Fin 128) (h : Fin 4) : row x0 (pos n p) h = va (vG x0 h n) p := by
  funext k
  refine (actV x0 _ h k).trans ((gelu_eq (h0 _)).1.trans (congrArg gelu (congrArg x0 ?_)))
  idx_ext

include h0 in
theorem vn_eq (n : Fin 32) (p : Fin 128) (h : Fin 4) (k : Fin 128) :
    val_main_v81 x0 x2 x3 (ix4 n p h k) = vn (vG x0 h n) (gG x2 h) (gG x3 h) p k := by
  rw [norms, row_eq x0 h0]

include h0 in
theorem mix_eq (n : Fin 32) (p : Fin 128) (e : Fin 512) : val_main_v89 x0 x2 x3 x4 x5 (ix2 (pos n p) e)
    = mix (vG x0 (grp e) n) (gG x2 (grp e)) (gG x3 (grp e)) (wG x4 (grp e)) (gG x5 (grp e)) p (chan e) := by
  rw [mixes, chunk_pos, at128_pos]
  refine congrArg (· + _) (Finset.sum_congr rfl fun s _ => ?_)
  rw [masked, mul_upto, vn_eq x0 x2 x3 h0]

include h0 in
theorem ds_eq (n : Fin 32) (p : Fin 128) (h : Fin 4) (k : Fin 128) : val_main_v94 x0 x1 (ix4 n p h k) = ds (uG x0 h n) (dG x1 h n) p k := by
  rw [dss, actU, (gelu_eq (h0 _)).1, mul_comm]
  refine congrArg₂ (· * ·) (congrArg x1 ?_) (congrArg gelu (congrArg x0 ?_))
  all_goals idx_ext

include h0 in
theorem dvn_eq (n : Fin 32) (p : Fin 128) (h : Fin 4) (k : Fin 128) :
    val_main_v104 x0 x1 x4 (ix3 (pos n p) h k) = dvn (uG x0 h n) (dG x1 h n) (wG x4 h) p k := by
  rw [dvns, chunk_pos, at128_pos]
  refine Finset.sum_congr rfl fun t _ => ?_
  rw [masked, mul_upto, ds_eq x0 x1 h0]

include h0 in
theorem dg_eq (h : Fin 4) (k : Fin 128) :
    val_main_v165 x0 x1 x4 (ix3 h 0 k) = ∑ n, dgc (uG x0 h n) (vG x0 h n) (dG x1 h n) (wG x4 h) k := by
  rw [dg_read, sum_rows]
  refine Finset.sum_congr rfl fun n _ => Finset.sum_congr rfl fun p _ => ?_
  rw [hats, row_eq x0 h0, dvn_eq x0 x1 x4 h0, mul_comm]

include h0 in
theorem db_eq (h : Fin 4) (k : Fin 128) :
    val_main_v166 x0 x1 x4 (ix3 h 0 k) = ∑ n, dbc (uG x0 h n) (dG x1 h n) (wG x4 h) k := by
  rw [db_read, sum_rows]
  refine Finset.sum_congr rfl fun n _ => Finset.sum_congr rfl fun p _ => ?_
  rw [dvn_eq x0 x1 x4 h0]

include h0 in
theorem dw_eq (h : Fin 4) (t s : Fin 128) : val_main_v103 x0 x1 x2 x3 (ix3 h t s)
    = upto s t (∑ n, dwc (uG x0 h n) (vG x0 h n) (dG x1 h n) (gG x2 h) (gG x3 h) t s) := by
  rw [dw_read]
  refine congrArg (upto s t) (Finset.sum_congr rfl fun n _ => Finset.sum_congr rfl fun k _ => ?_)
  rw [ds_eq x0 x1 h0, vn_eq x0 x2 x3 h0]

include h0 in
theorem dβ_eq (h : Fin 4) (p : Fin 128) : val_main_v167 x0 x1 (ix3 h p 0) = ∑ n, dβc (uG x0 h n) (dG x1 h n) p := by
  rw [dβ_read]
  refine Finset.sum_congr rfl fun n _ => Finset.sum_congr rfl fun k _ => ?_
  rw [ds_eq x0 x1 h0]

include h0 h1 h2 h3 h4 h5 in
theorem du_eq (n : Fin 32) (p : Fin 128) (e : Fin 512) : val_main_v163 x0 x1 x2 x3 x4 x5 (ix2 (pos n p) e)
    = du (uG x0 (grp e) n) (vG x0 (grp e) n) (dG x1 (grp e) n) (gG x2 (grp e)) (gG x3 (grp e)) (wG x4 (grp e)) (gG x5 (grp e)) p (chan e) := by
  have hm := mix_real (v := vG x0 (grp e) n) (g := gG x2 (grp e)) (b := gG x3 (grp e)) (w := wG x4 (grp e)) (β := gG x5 (grp e))
    (fun _ _ => h0 _) (fun _ => h2 _) (fun _ => h3 _) (fun _ _ => h4 _) (fun _ => h5 _) p (chan e)
  rw [du_read, mix_eq x0 x2 x3 x4 x5 h0, dgelu_eq (h0 _) (real_mul (h1 _) hm)]
  refine congrArg₂ (fun a b => a * mix (vG x0 (grp e) n) (gG x2 (grp e)) (gG x3 (grp e)) (wG x4 (grp e)) (gG x5 (grp e)) p (chan e) * dgelu b)
    (congrArg x1 ?_) (congrArg x0 ?_)
  all_goals idx_ext

include h0 h1 h2 h4 in
theorem dv_eq (n : Fin 32) (p : Fin 128) (e : Fin 512) : val_main_v164 x0 x1 x2 x4 (ix2 (pos n p) e)
    = dv (uG x0 (grp e) n) (vG x0 (grp e) n) (dG x1 (grp e) n) (gG x2 (grp e)) (wG x4 (grp e)) p (chan e) := by
  have hb := back_chunk (u := uG x0 (grp e) n) (v := vG x0 (grp e) n) (d := dG x1 (grp e) n) (g := gG x2 (grp e)) (w := wG x4 (grp e))
    (fun _ _ => h0 _) (fun _ _ => h0 _) (fun _ _ => h1 _) (fun _ => h2 _) (fun _ _ => h4 _) p (chan e)
  rw [dv_read, backs, row_eq x0 h0]
  simp only [dxhs, dvn_eq x0 x1 x4 h0]
  rw [hb.1, dgelu_eq (h0 _) hb.2]
  refine congrArg (fun b => back n128 (va (vG x0 (grp e) n) p) (fun k => dvn (uG x0 (grp e) n) (dG x1 (grp e) n) (wG x4 (grp e)) p k * gG x2 (grp e) k) (chan e) * dgelu b)
    (congrArg x0 ?_)
  idx_ext

end

end Cert.SguRefIdeal.Value

end
-- ==== Proof.Sgu.Claim.lean ====
/-
  The spatial gating unit's value claim: the kernel leaves the derivative of the unit with respect to its two halves and its
  parameters, for finite arguments.
-/
module

public import proofs.«01_k».proof.Defs
public import proofs.«01_k».proof.Proof.Sgu.Final
public import proofs.«01_k».proof.Proof.Sgu.Ref
public import proofs.«01_k».proof.Proof.Gen.SguRefIdeal.Run
public import proofs.«01_k».proof.Proof.Gen.SguRefIdeal.Read

@[expose] public section

set_option maxRecDepth 16384

noncomputable section

/-! ## The precondition -/

namespace Cert.Pre_finite3

open Idealize.ShloMosaic

instance facts : Cert.Pre_finite3.Facts :=
  ⟨by decide, by decide, by decide, by decide, by decide, by decide, by decide, by decide, by decide⟩

theorem real_args {x : FVec Ideal S4096x3072 .f32} {d : FVec Ideal S4096x1024 .f32} {g b s : FVec Ideal S1x4x128 .f32}
    {w : FVec Ideal S1x4x128x128 .f32} (h : fn (F := Ideal) x d g b w s = fun _ => 1#1) :
    (∀ i, ∃ r : ℝ, x i = (r : EReal)) ∧ (∀ i, ∃ r : ℝ, d i = (r : EReal)) ∧ (∀ i, ∃ r : ℝ, g i = (r : EReal))
      ∧ (∀ i, ∃ r : ℝ, b i = (r : EReal)) ∧ (∀ i, ∃ r : ℝ, w i = (r : EReal)) ∧ (∀ i, ∃ r : ℝ, s i = (r : EReal)) := by
  have e := congrFun h (fun a => a.elim0)
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  haveI : Subsingleton S_.Idx := ⟨fun a b => funext fun i => i.elim0⟩
  exact ⟨fun i => Reals.real_of_cmp (Host.reduce_andi_all _ _ _ _ _ e1 i), fun i => Reals.real_of_cmp (Host.reduce_andi_all _ _ _ _ _ e2 i),
    fun i => Reals.real_of_cmp (Host.reduce_andi_all _ _ _ _ _ e3 i), fun i => Reals.real_of_cmp (Host.reduce_andi_all _ _ _ _ _ e4 i),
    fun i => Reals.real_of_cmp (Host.reduce_andi_all _ _ _ _ _ e5 i), fun i => Reals.real_of_cmp (Host.reduce_andi_all _ _ _ _ _ e6 i)⟩

end Cert.Pre_finite3

namespace Cert.SguIdeal.Value

open Idealize.ShloMosaic Idealize.ShloMosaic.TcCoe Idealize.SL.Sem
open Cert.SguIdeal Cert.SguIdeal.Gen
open Cert.Sgu.Math
open Cert.SguRefIdeal.Read (val_main_v163 val_main_v164 val_main_v165 val_main_v166 val_main_v103 val_main_v167)

variable (m : (ℓ : Loc nD τ sig) → Buf (Elt Ideal) ℓ)

/-! ## The kernel's arrays are the reference's -/

section
variable (c : Dev nD) (hX : ∀ i, ∃ r : ℝ, aX m c i = r) (hD : ∀ i, ∃ r : ℝ, aD m c i = r) (hG : ∀ i, ∃ r : ℝ, aG m c i = r)
    (hB : ∀ i, ∃ r : ℝ, aB m c i = r) (hW : ∀ i, ∃ r : ℝ, aW m c i = r) (hS : ∀ i, ∃ r : ℝ, aS m c i = r)

include hX hD hG hB hW hS in
theorem du_claim : val_main_v163 (F := Ideal) (aX m c) (aD m c) (aG m c) (aB m c) (aW m c) (aS m c) = (dats m 0 c).arrAt 7 cfg0.N := by
  rw [final_du]
  funext i
  obtain ⟨r, e, rfl⟩ : ∃ (r : Fin 4096) (e : Fin 512), i = ix2 r e := ⟨i 0, i 1, by idx_ext⟩
  obtain ⟨n, p, rfl⟩ : ∃ (n : Fin 32) (p : Fin 128), r = pos n p := ⟨chunk r, at128 r, (pos_chunk r).symm⟩
  refine (Cert.SguRefIdeal.Value.du_eq _ _ _ _ _ _ hX hD hG hB hW hS n p e).trans ?_
  show _ = du (uG m c (grp e) (chunk (pos n p))) (vG m c (grp e) (chunk (pos n p))) (dG m c (grp e) (chunk (pos n p)))
    (gG m c (grp e)) (bG m c (grp e)) (wG m c (grp e)) (βG m c (grp e)) (at128 (pos n p)) (chan e)
  rw [chunk_pos, at128_pos]

include hX hD hG hW in
theorem dv_claim : val_main_v164 (F := Ideal) (aX m c) (aD m c) (aG m c) (aW m c) = (dats m 0 c).arrAt 8 cfg0.N := by
  rw [final_dv]
  funext i
  obtain ⟨r, e, rfl⟩ : ∃ (r : Fin 4096) (e : Fin 512), i = ix2 r e := ⟨i 0, i 1, by idx_ext⟩
  obtain ⟨n, p, rfl⟩ : ∃ (n : Fin 32) (p : Fin 128), r = pos n p := ⟨chunk r, at128 r, (pos_chunk r).symm⟩
  refine (Cert.SguRefIdeal.Value.dv_eq _ _ _ _ hX hD hG hW n p e).trans ?_
  show _ = dv (uG m c (grp e) (chunk (pos n p))) (vG m c (grp e) (chunk (pos n p))) (dG m c (grp e) (chunk (pos n p)))
    (gG m c (grp e)) (wG m c (grp e)) (at128 (pos n p)) (chan e)
  rw [chunk_pos, at128_pos]

include hX in
theorem dg_claim : val_main_v165 (F := Ideal) (aX m c) (aD m c) (aW m c) = (dats m 0 c).arrAt 9 cfg0.N := by
  rw [final_dg]
  funext i
  obtain ⟨h, k, rfl⟩ : ∃ (h : Fin 4) (k : Fin 128), i = ix3 h 0 k := ⟨i 0, i 2, by idx_ext⟩
  exact Cert.SguRefIdeal.Value.dg_eq _ _ _ hX h k

include hX in
theorem db_claim : val_main_v166 (F := Ideal) (aX m c) (aD m c) (aW m c) = (dats m 0 c).arrAt 10 cfg0.N := by
  rw [final_db]
  funext i
  obtain ⟨h, k, rfl⟩ : ∃ (h : Fin 4) (k : Fin 128), i = ix3 h 0 k := ⟨i 0, i 2, by idx_ext⟩
  exact Cert.SguRefIdeal.Value.db_eq _ _ _ hX h k

include hX in
theorem dw_claim : val_main_v103 (F := Ideal) (aX m c) (aD m c) (aG m c) (aB m c) = (dats m 0 c).arrAt 11 cfg0.N := by
  rw [final_dw]
  funext i
  obtain ⟨h, t, s, rfl⟩ : ∃ (h : Fin 4) (t s : Fin 128), i = ix3 h t s := ⟨i 0, i 1, i 2, by idx_ext⟩
  exact Cert.SguRefIdeal.Value.dw_eq _ _ _ _ hX h t s

include hX in
theorem dβ_claim : val_main_v167 (F := Ideal) (aX m c) (aD m c) = (dats m 0 c).arrAt 12 cfg0.N := by
  rw [final_dβ]
  funext i
  obtain ⟨h, t, rfl⟩ : ∃ (h : Fin 4) (t : Fin 128), i = ix3 h t 0 := ⟨i 0, i 1, by idx_ext⟩
  exact Cert.SguRefIdeal.Value.dβ_eq _ _ hX h t

end

end Cert.SguIdeal.Value

namespace Cert.Sgu.Claim

open Idealize.ShloMosaic Idealize.ShloMosaic.TcCoe Idealize.SL.Sem
open Cert.SguIdeal.Value

/-- The kernel's literals named for the numbers they round. -/
theorem preserves : Cert.preserves_Sgu_SguIdeal :=
  ⟨IdealRules.named_const.statement Cert.SguIdeal.κ "cube" .f32 0x3D372713#32 ((8943 / 200000 : ℝ) : EReal) rfl,
    IdealRules.named_const.statement Cert.SguIdeal.κ "cube3" .f32 0x3E095D4F#32 ((26829 / 200000 : ℝ) : EReal) rfl⟩

theorem algebraic : Cert.algebraic_SguIdeal_SguRefIdeal_pre_finite3 := by
  pair_intro
  · run_from Cert.SguIdeal.Value.run_blocks m g
  · refine θ_run_mono (Cert.SguRefIdeal.Value.run m' g') fun r h c => ?_
    obtain ⟨h0, h1, h2, h3, h4, h5, h6⟩ := h c
    obtain ⟨a0, a1, a2, a3, a4, a5⟩ := hagree c
    obtain ⟨hX, hD, hG, hB, hW, hS⟩ := Cert.Pre_finite3.real_args (hpre c)
    rw [Cert.SguRefIdeal.Read.val_main_v163_eq] at h0
    rw [Cert.SguRefIdeal.Read.val_main_v164_eq] at h1
    rw [Cert.SguRefIdeal.Read.val_main_v165_eq] at h2
    rw [Cert.SguRefIdeal.Read.val_main_v166_eq] at h3
    rw [Cert.SguRefIdeal.Read.val_main_v103_eq] at h4
    rw [Cert.SguRefIdeal.Read.val_main_v167_eq] at h5
    have e0 : StableHlo.launchContents m' c (Proc.devRef .tc Cert.SguRefIdeal.main_arg0) = aX m c := a0
    have e1 : StableHlo.launchContents m' c (Proc.devRef .tc Cert.SguRefIdeal.main_arg1) = aD m c := a1
    have e2 : StableHlo.launchContents m' c (Proc.devRef .tc Cert.SguRefIdeal.main_arg2) = aG m c := a2
    have e3 : StableHlo.launchContents m' c (Proc.devRef .tc Cert.SguRefIdeal.main_arg3) = aB m c := a3
    have e4 : StableHlo.launchContents m' c (Proc.devRef .tc Cert.SguRefIdeal.main_arg4) = aW m c := a4
    have e5 : StableHlo.launchContents m' c (Proc.devRef .tc Cert.SguRefIdeal.main_arg5) = aS m c := a5
    rw [e0, e1, e2, e3, e4, e5] at h0
    rw [e0, e1, e2, e4] at h1
    rw [e0, e1, e4] at h2 h3
    rw [e0, e1, e2, e3] at h4
    rw [e0, e1] at h5
    exact ⟨h0.trans (du_claim m c hX hD hG hB hW hS), h1.trans (dv_claim m c hX hD hG hW), h2.trans (dg_claim m c hX),
      h3.trans (db_claim m c hX), h4.trans (dw_claim m c hX), h5.trans (dβ_claim m c hX), h6⟩

end Cert.Sgu.Claim

end
-- ==== Proof.Rows.lean ====
/-
  Rows of 1024 numbers under the step's layer norms: the residual's factor, the row's length, one half and the normalised row with
  its scale and shift, as the programs spell them.
-/
module

public import proofs.«01_k».proof.Proof.Norm
public import Idealize.ShloMosaic.Lib.Pipeline.ValueKit

@[expose] public section

noncomputable section

namespace Cert.Rows

open Idealize.ShloMosaic

/-- The length of a row. -/
abbrev len : EReal := Ideal.ofBits FTy.f32 0x44800000#32
/-- The factor of the residual stream. -/
abbrev alpha : EReal := Ideal.ofBits FTy.f32 0x3F9837F0#32
abbrev half : EReal := Ideal.ofBits FTy.f32 0x3F000000#32

theorem len_real : len = ((1024 : ℝ) : EReal) := by
  simp [len, Ideal.ofBits, Ideal.ieee, -EReal.coe_mul]; norm_num

theorem alpha_real : ∃ r : ℝ, alpha = r := by
  refine ⟨(9975792 / 8388608 : ℝ), ?_⟩
  simp [alpha, Ideal.ofBits, Ideal.ieee, -EReal.coe_mul]; norm_num

theorem half_real : half = ((1 / 2 : ℝ) : EReal) := Reals.ofBits_half

variable (y g b : Fin 1024 → EReal)

/-- A row under the layer norm. -/
abbrev ln (e : Fin 1024) : EReal := Norm.hat len y e * g e + b e

/-- The cotangent of a row from the cotangent `d` of its layer norm, as the kernels write it. -/
abbrev back (d : Fin 1024 → EReal) (e : Fin 1024) : EReal := Norm.back len y (fun k => d k * g k) e

/-! ## Sums over the rows -/

/-- Eight blocks of 512 rows are the 4096 rows. -/
theorem tiles (f : Fin 4096 → EReal) : (∑ s : Fin 8, ∑ p : Fin 512, f ⟨s.val * 512 + p.val, by omega⟩) = ∑ r, f r := by
  refine (Fin.sum_points_lanes_congr 8 (A := 1) (N := 8) (g := fun _ n => f n) (fun s q _ hl => congrArg f (Fin.ext ?_)) rfl).trans
    (by simp)
  show s.val * 512 + q.val = s.val % 8 * 512 + q.val
  omega

/-- What a sum that the first of eight points starts has gathered at the last: the sum over all rows. -/
theorem gathered {N : ℕ} (hN : N = 8) {ι : Type} (A : (n : ℕ) → n < N → ι → EReal) (F : Fin N → Fin 512 → ι → EReal) (G : Fin 4096 → ι → EReal)
    (hA : ∀ (t : Fin N) i, A t.val t.isLt i
      = (if t.val % 8 = 0 then 0 else A (t.val - 1) (Nat.lt_of_le_of_lt (Nat.sub_le _ _) t.isLt) i) + ∑ p, F t p i)
    (hF : ∀ (t : Fin N) (p : Fin 512) i, F t p i = G ⟨t.val * 512 + p.val, by omega⟩ i) (t : Fin N) (ht : t.val % 8 = 7) (i : ι) :
    A t.val t.isLt i = ∑ r, G r i := by
  refine (Pipeline.eq_sum_fin_of_reset_step_apply_of_flush (J := 8) A (fun _ => 0) (fun t i => ∑ p, F t p i) ?_ ?_ t ht i).trans ?_
  · intro t h i; rw [hA, if_pos h]
  · intro t h i; rw [hA, if_neg h]
  · refine (zero_add _).trans ((Finset.sum_congr rfl fun s _ => Finset.sum_congr rfl fun p _ => (hF _ p i).trans ?_).trans
      (tiles fun r => G r i))
    have := t.isLt
    exact congrArg (fun r => G r i) (Fin.ext (by show (8 * (t.val / 8) + s.val) * 512 + p.val = s.val * 512 + p.val; omega))

end Cert.Rows

end
-- ==== Proof.Loss.Math.lean ====
/-
  One row of the last layer norm and the loss: its difference from the target, the cotangent of the row, and what the row adds to the
  loss and to the gradients of the scale and the shift.
-/
module

public import proofs.«01_k».proof.Proof.Rows

@[expose] public section

noncomputable section

namespace Cert.Loss.Math

open Idealize.ShloMosaic
open Cert.Rows

/-- One over the length of a row, and half of it. -/
abbrev inv : EReal := Ideal.ofBits FTy.f32 0x3A800000#32
abbrev inv2 : EReal := Ideal.ofBits FTy.f32 0x3A000000#32

variable (y g b t : Fin 1024 → EReal)

/-- The layer norm's difference from the target. -/
abbrev err (e : Fin 1024) : EReal := ln y g b e - t e

/-- The cotangent of the layer norm. -/
abbrev dh (e : Fin 1024) : EReal := err y g b t e * inv

/-- The cotangent of the row. -/
abbrev dy (e : Fin 1024) : EReal := back y g (dh y g b t) e

end Cert.Loss.Math

end
-- ==== Proof.Loss.Value.lean ====
/-
  What the kernel of the last layer norm and the loss leaves after each grid point, entry by entry: the cotangents of a block of rows,
  and the loss's and the parameters' running sums as what the point before left plus what the block's rows add.
-/
module

public import proofs.«01_k».proof.Proof.Loss.Math
public import Idealize.ShloMosaic.Lib.Pipeline.ReadBack
public import proofs.«01_k».proof.Proof.Gen.LossIdeal.Frame
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.LossIdeal.Value

open Idealize.ShloMosaic Idealize.ShloMosaic.TcCoe Idealize.SL.Sem
open Idealize.ShloMosaic.Pipeline (Dat)
open Cert.LossIdeal Cert.LossIdeal.Gen
open Cert.Rows Cert.Loss.Math

variable (m : (ℓ : Loc nD τ sig) → Buf (Elt Ideal) ℓ)

/-- Row `p` of a block before the layer norm. -/
abbrev yOf (s : Vec Ideal S512x3072 .bf16) (w : Vec Ideal S3072x1024 .bf16) (x : Vec Ideal S512x1024 .f32) (g b : Vec Ideal S1x1024 .f32)
    (p : Fin 512) (e : Fin 1024) : EReal :=
  alpha * (x (ix2 p e) * g (ix2 0 e) + b (ix2 0 e)) + half * ∑ k : Fin 3072, s (ix2 p k) * w (ix2 k e)
/-- A row of numbers. -/
abbrev vec (b : Vec Ideal S1x1024 .f32) (e : Fin 1024) : EReal := b (ix2 0 e)
/-- Row `p` of a block. -/
abbrev row (b : Vec Ideal S512x1024 .f32) (p : Fin 512) (e : Fin 1024) : EReal := b (ix2 p e)

/-- The rows of a point's blocks. -/
abbrev yB (c : Dev nD) (t : Fin cfg0.N) : Fin 512 → Fin 1024 → EReal :=
  yOf (iblk m c 0 t) (iblk m c 1 t) (iblk m c 2 t) (iblk m c 3 t) (iblk m c 4 t)
abbrev gB (c : Dev nD) (t : Fin cfg0.N) : Fin 1024 → EReal := vec (iblk m c 5 t)
abbrev bB (c : Dev nD) (t : Fin cfg0.N) : Fin 1024 → EReal := vec (iblk m c 6 t)
abbrev tB (c : Dev nD) (t : Fin cfg0.N) : Fin 512 → Fin 1024 → EReal := row (iblk m c 7 t)

theorem cases8 (n : ℕ) : (n % 8 = 0 ∧ ¬ n % 8 = 7) ∨ (¬ n % 8 = 0 ∧ ¬ n % 8 = 7) ∨ (¬ n % 8 = 0 ∧ n % 8 = 7) := by omega

/-! ## The cotangents of the block's rows -/

theorem dy_at (c : Dev nD) (t : Fin cfg0.N) (p : Fin 512) (e : Fin 1024) : (outsAt0 m c t.val t.isLt).2.1 (ix2 p e)
    = dy (yB m c t p) (gB m c t) (bB m c t) (tB m c t p) e := by
  unfold yB gB bB tB
  rcases cases8 t.val with z | z | z
  on_goal 1 => rw [outsAt0_A m c t z.1 z.2]
  on_goal 2 => rw [outsAt0_B m c t z.1 z.2]
  on_goal 3 => rw [outsAt0_C m c t z.1 z.2]
  all_goals
    generalize iblk m c 0 t = b0
    generalize iblk m c 1 t = b1
    generalize iblk m c 2 t = b2
    generalize iblk m c 3 t = b3
    generalize iblk m c 4 t = b4
    generalize iblk m c 5 t = b5
    generalize iblk m c 6 t = b6
    generalize iblk m c 7 t = b7
    frame_out
    open_payloads; pointwise

theorem dyb_at (c : Dev nD) (t : Fin cfg0.N) (p : Fin 512) (e : Fin 1024) : (outsAt0 m c t.val t.isLt).2.2.1 (ix2 p e)
    = dy (yB m c t p) (gB m c t) (bB m c t) (tB m c t p) e := by
  unfold yB gB bB tB
  rcases cases8 t.val with z | z | z
  on_goal 1 => rw [outsAt0_A m c t z.1 z.2]
  on_goal 2 => rw [outsAt0_B m c t z.1 z.2]
  on_goal 3 => rw [outsAt0_C m c t z.1 z.2]
  all_goals
    generalize iblk m c 0 t = b0
    generalize iblk m c 1 t = b1
    generalize iblk m c 2 t = b2
    generalize iblk m c 3 t = b3
    generalize iblk m c 4 t = b4
    generalize iblk m c 5 t = b5
    generalize iblk m c 6 t = b6
    generalize iblk m c 7 t = b7
    frame_out
    open_payloads; pointwise

/-! ## The running sums -/

theorem dg_at (c : Dev nD) (t : Fin cfg0.N) (e : Fin 1024) : (outsAt0 m c t.val t.isLt).2.2.2.1 (ix2 0 e)
    = (if t.val % 8 = 0 then 0 else (outsAt0 m c (t.val - 1) (Nat.lt_of_le_of_lt (Nat.sub_le _ _) t.isLt)).2.2.2.1 (ix2 0 e))
      + ∑ p, dh (yB m c t p) (gB m c t) (bB m c t) (tB m c t p) e * Norm.hat len (yB m c t p) e := by
  unfold yB gB bB tB
  rcases cases8 t.val with z | z | z
  on_goal 1 => rw [outsAt0_A m c t z.1 z.2, if_pos z.1]
  on_goal 2 => rw [outsAt0_B m c t z.1 z.2, if_neg z.1]
  on_goal 3 => rw [outsAt0_C m c t z.1 z.2, if_neg z.1]
  all_goals
    generalize iblk m c 0 t = b0
    generalize iblk m c 1 t = b1
    generalize iblk m c 2 t = b2
    generalize iblk m c 3 t = b3
    generalize iblk m c 4 t = b4
    generalize iblk m c 5 t = b5
    generalize iblk m c 6 t = b6
    generalize iblk m c 7 t = b7
    frame_out
    try simp (disch := first | rfl | decide) only [↓View.readCov_skip, ↓View.readCov_fill]
    open_payloads; pointwise

theorem db_at (c : Dev nD) (t : Fin cfg0.N) (e : Fin 1024) : (outsAt0 m c t.val t.isLt).2.2.2.2.1 (ix2 0 e)
    = (if t.val % 8 = 0 then 0 else (outsAt0 m c (t.val - 1) (Nat.lt_of_le_of_lt (Nat.sub_le _ _) t.isLt)).2.2.2.2.1 (ix2 0 e))
      + ∑ p, dh (yB m c t p) (gB m c t) (bB m c t) (tB m c t p) e := by
  unfold yB gB bB tB
  rcases cases8 t.val with z | z | z
  on_goal 1 => rw [outsAt0_A m c t z.1 z.2, if_pos z.1]
  on_goal 2 => rw [outsAt0_B m c t z.1 z.2, if_neg z.1]
  on_goal 3 => rw [outsAt0_C m c t z.1 z.2, if_neg z.1]
  all_goals
    generalize iblk m c 0 t = b0
    generalize iblk m c 1 t = b1
    generalize iblk m c 2 t = b2
    generalize iblk m c 3 t = b3
    generalize iblk m c 4 t = b4
    generalize iblk m c 5 t = b5
    generalize iblk m c 6 t = b6
    generalize iblk m c 7 t = b7
    frame_out
    try simp (disch := first | rfl | decide) only [↓View.readCov_skip, ↓View.readCov_fill]
    open_payloads; pointwise

theorem sq_at (c : Dev nD) (t : Fin cfg0.N) (e : Fin 1024) : (outsAt0 m c t.val t.isLt).2.2.2.2.2 (ix2 0 e)
    = (if t.val % 8 = 0 then 0 else (outsAt0 m c (t.val - 1) (Nat.lt_of_le_of_lt (Nat.sub_le _ _) t.isLt)).2.2.2.2.2 (ix2 0 e))
      + ∑ p, err (yB m c t p) (gB m c t) (bB m c t) (tB m c t p) e * err (yB m c t p) (gB m c t) (bB m c t) (tB m c t p) e := by
  unfold yB gB bB tB
  rcases cases8 t.val with z | z | z
  on_goal 1 => rw [outsAt0_A m c t z.1 z.2, if_pos z.1]
  on_goal 2 => rw [outsAt0_B m c t z.1 z.2, if_neg z.1]
  on_goal 3 => rw [outsAt0_C m c t z.1 z.2, if_neg z.1]
  all_goals
    generalize iblk m c 0 t = b0
    generalize iblk m c 1 t = b1
    generalize iblk m c 2 t = b2
    generalize iblk m c 3 t = b3
    generalize iblk m c 4 t = b4
    generalize iblk m c 5 t = b5
    generalize iblk m c 6 t = b6
    generalize iblk m c 7 t = b7
    frame_out
    try simp (disch := first | rfl | decide) only [↓View.readCov_skip, ↓View.readCov_fill]
    open_payloads; pointwise
    try rw [read_unread_whole]

/-- The last point writes the loss, from the squares it leaves. -/
theorem loss_at (c : Dev nD) (t : Fin cfg0.N) (z : t.val % 8 = 7) (j : Fin 128) : (outsAt0 m c t.val t.isLt).1 (ix2 0 j)
    = (∑ e : Fin 1024, (outsAt0 m c t.val t.isLt).2.2.2.2.2 (ix2 0 e)) * inv2 := by
  have z0 : ¬ t.val % 8 = 0 := by omega
  rw [outsAt0_C m c t z0 z]
  generalize iblk m c 0 t = b0
  generalize iblk m c 1 t = b1
  generalize iblk m c 2 t = b2
  generalize iblk m c 3 t = b3
  generalize iblk m c 4 t = b4
  generalize iblk m c 5 t = b5
  generalize iblk m c 6 t = b6
  generalize iblk m c 7 t = b7
  frame_out
  try simp (disch := first | rfl | decide) only [↓View.readCov_skip, ↓View.readCov_fill]
  open_payloads; pointwise

end Cert.LossIdeal.Value

end
-- ==== Proof.Loss.Final.lean ====
/-
  The arrays the kernel of the last layer norm and the loss leaves, over the arguments: each row's cotangent, the loss and the
  parameters' gradients as sums over the 4096 rows.
-/
module

public import proofs.«01_k».proof.Proof.Loss.Value
public import proofs.«01_k».proof.Proof.Packed
public import proofs.«01_k».proof.Proof.Gen.LossIdeal.Value

@[expose] public section

set_option maxRecDepth 16384

noncomputable section

namespace Cert.LossIdeal.Value

open Idealize.ShloMosaic Idealize.ShloMosaic.TcCoe Idealize.SL.Sem
open Cert.LossIdeal Cert.LossIdeal.Gen
open Cert.Rows Cert.Loss.Math
open Cert.Packed (place place_cases sum_padded)
open Idealize.ShloMosaic.Pipeline (Dat)

variable (m : (ℓ : Loc nD τ sig) → Buf (Elt Ideal) ℓ) (ρ : Dev nD → PrngReg)

theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![0, 0] ∧ win0_6.index t = ![0, 0]
    ∧ win0_7.index t = ![t.val, 0] ∧ win0_8.index t = ![0, 0] ∧ win0_9.index t = ![t.val, 0] ∧ win0_10.index t = ![t.val, 0]
    ∧ win0_11.index t = ![0, 0] ∧ win0_12.index t = ![0, 0] :=
  (by decide +kernel : ∀ t : Fin grid0.N, _)

theorem lt8 (t : Fin cfg0.N) : t.val < 8 := lt_of_lt_of_eq t.isLt N_0

/-! ## The arguments and the rows of them -/

abbrev aS (c : Dev nD) : S4096x2816.Idx → EReal := m ((c.tc : Thread nD τ).loc main_arg0)
abbrev aW (c : Dev nD) : S2816x1024.Idx → EReal := m ((c.tc : Thread nD τ).loc main_arg1)
abbrev aX (c : Dev nD) : S4096x1024.Idx → EReal := m ((c.tc : Thread nD τ).loc main_arg2)
abbrev aP (c : Dev nD) : S1x1024.Idx → EReal := m ((c.tc : Thread nD τ).loc main_arg3)
abbrev aQ (c : Dev nD) : S1x1024.Idx → EReal := m ((c.tc : Thread nD τ).loc main_arg4)
abbrev aG (c : Dev nD) : S1x1024.Idx → EReal := m ((c.tc : Thread nD τ).loc main_arg5)
abbrev aB (c : Dev nD) : S1x1024.Idx → EReal := m ((c.tc : Thread nD τ).loc main_arg6)
abbrev aT (c : Dev nD) : S4096x1024.Idx → EReal := m ((c.tc : Thread nD τ).loc main_arg7)

/-- The packed activations and weight, at the places of the columns and between them. -/
theorem V_s (c : Dev nD) (r : Fin 4096) (p : Fin 2816) : (V m c main_v7 : S4096x3072.Idx → EReal) (ix2 r (place p)) = aS m c (ix2 r p) := by
  entry_read
  simp only [hostOps0, hostOps0_1, hostOps0_2, hostOps0_3, hostOps0_4, List.flatten_cons, List.flatten_nil, List.append_nil, List.cons_append, List.nil_append]
  after_results
  simp -implicitDefEqProofs only [StableHlo.TRef.toBuf, StableHlo.TRef.ofBuf, cast_cast, cast_eq]
  rcases place_cases p with ⟨h1, h2⟩ | ⟨h1, h2⟩ <;> pointwise <;> split_ifs <;> first | omega | blk_ext
theorem V_w (c : Dev nD) (p : Fin 2816) (e : Fin 1024) : (V m c main_v15 : S3072x1024.Idx → EReal) (ix2 (place p) e) = aW m c (ix2 p e) := by
  entry_read
  simp only [hostOps0, hostOps0_1, hostOps0_2, hostOps0_3, hostOps0_4, List.flatten_cons, List.flatten_nil, List.append_nil, List.cons_append, List.nil_append]
  after_results
  simp -implicitDefEqProofs only [StableHlo.TRef.toBuf, StableHlo.TRef.ofBuf, cast_cast, cast_eq]
  rcases place_cases p with ⟨h1, h2⟩ | ⟨h1, h2⟩ <;> pointwise <;> split_ifs <;> first | omega | blk_ext
theorem V_w0 (c : Dev nD) (q : Fin 3072) (e : Fin 1024) (h1 : 2048 ≤ q.val) (h2 : 96 ≤ (q.val - 2048) % 128) :
    (V m c main_v15 : S3072x1024.Idx → EReal) (ix2 q e) = (0 : EReal) := by
  entry_read
  simp only [hostOps0, hostOps0_1, hostOps0_2, hostOps0_3, hostOps0_4, List.flatten_cons, List.flatten_nil, List.append_nil, List.cons_append, List.nil_append]
  after_results
  simp -implicitDefEqProofs only [StableHlo.TRef.toBuf, StableHlo.TRef.ofBuf, cast_cast, cast_eq]
  pointwise
  split_ifs <;> first | omega | exact (congrArg (fun z : ℝ => (z : EReal)) (by norm_num)).trans EReal.coe_zero
theorem V_x (c : Dev nD) (i : S4096x1024.Idx) : (V m c main_arg2 : S4096x1024.Idx → EReal) i = aX m c i := by entry_read; rfl
theorem V_p (c : Dev nD) (i : S1x1024.Idx) : (V m c main_arg3 : S1x1024.Idx → EReal) i = aP m c i := by entry_read; rfl
theorem V_q (c : Dev nD) (i : S1x1024.Idx) : (V m c main_arg4 : S1x1024.Idx → EReal) i = aQ m c i := by entry_read; rfl
theorem V_g (c : Dev nD) (i : S1x1024.Idx) : (V m c main_arg5 : S1x1024.Idx → EReal) i = aG m c i := by entry_read; rfl
theorem V_b (c : Dev nD) (i : S1x1024.Idx) : (V m c main_arg6 : S1x1024.Idx → EReal) i = aB m c i := by entry_read; rfl
theorem V_t (c : Dev nD) (i : S4096x1024.Idx) : (V m c main_arg7 : S4096x1024.Idx → EReal) i = aT m c i := by entry_read; rfl

/-- Row `r` before the layer norm, and the other rows. -/
abbrev yR (c : Dev nD) (r : Fin 4096) (e : Fin 1024) : EReal :=
  alpha * (aX m c (ix2 r e) * aP m c (ix2 0 e) + aQ m c (ix2 0 e)) + half * ∑ p : Fin 2816, aS m c (ix2 r p) * aW m c (ix2 p e)
abbrev gR (c : Dev nD) (e : Fin 1024) : EReal := aG m c (ix2 0 e)
abbrev bR (c : Dev nD) (e : Fin 1024) : EReal := aB m c (ix2 0 e)
abbrev tR (c : Dev nD) (r : Fin 4096) (e : Fin 1024) : EReal := aT m c (ix2 r e)

/-- Row `p` of a point's block. -/
abbrev rp (t : Fin cfg0.N) (p : Fin 512) : Fin 4096 := ⟨t.val * 512 + p.val, by have := lt8 t; omega⟩

theorem sB (c : Dev nD) (t : Fin cfg0.N) (p : Fin 512) (k : Fin 3072) : (iblk m c 0 t : S512x3072.Idx → EReal) (ix2 p k) = V m c main_v7 (ix2 (rp t p) k) := by
  blk_point [iblk, idx t]
theorem wB (c : Dev nD) (t : Fin cfg0.N) (k : Fin 3072) (e : Fin 1024) : (iblk m c 1 t : S3072x1024.Idx → EReal) (ix2 k e) = V m c main_v15 (ix2 k e) := by
  blk_point [iblk, idx t]
theorem xB (c : Dev nD) (t : Fin cfg0.N) (p : Fin 512) (e : Fin 1024) : (iblk m c 2 t : S512x1024.Idx → EReal) (ix2 p e) = aX m c (ix2 (rp t p) e) := by
  refine Eq.trans (b := V m c main_arg2 (ix2 (rp t p) e)) ?_ (V_x m c _)
  blk_point [iblk, idx t]
theorem pB (c : Dev nD) (t : Fin cfg0.N) (e : Fin 1024) : (iblk m c 3 t : S1x1024.Idx → EReal) (ix2 0 e) = aP m c (ix2 0 e) := by
  refine Eq.trans (b := V m c main_arg3 (ix2 0 e)) ?_ (V_p m c _)
  blk_point [iblk, idx t]
theorem qB (c : Dev nD) (t : Fin cfg0.N) (e : Fin 1024) : (iblk m c 4 t : S1x1024.Idx → EReal) (ix2 0 e) = aQ m c (ix2 0 e) := by
  refine Eq.trans (b := V m c main_arg4 (ix2 0 e)) ?_ (V_q m c _)
  blk_point [iblk, idx t]

theorem yB_eq (c : Dev nD) (t : Fin cfg0.N) (p : Fin 512) : yB m c t p = yR m c (rp t p) := by
  funext e
  show alpha * (_ * _ + _) + half * _ = _
  rw [xB, pB, qB]
  refine congrArg (fun z => alpha * (aX m c (ix2 (rp t p) e) * aP m c (ix2 0 e) + aQ m c (ix2 0 e)) + half * z) ?_
  simp only [sB, wB]
  exact sum_padded (fun k => V_s m c (rp t p) k) (fun k => V_w m c k e) (fun q h1 h2 => V_w0 m c q e h1 h2)
theorem gB_eq (c : Dev nD) (t : Fin cfg0.N) : gB m c t = gR m c := by
  funext e
  refine Eq.trans (b := V m c main_arg5 (ix2 0 e)) ?_ (V_g m c _)
  unfold gB vec; blk_point [iblk, idx t]
theorem bB_eq (c : Dev nD) (t : Fin cfg0.N) : bB m c t = bR m c := by
  funext e
  refine Eq.trans (b := V m c main_arg6 (ix2 0 e)) ?_ (V_b m c _)
  unfold bB vec; blk_point [iblk, idx t]
theorem tB_eq (c : Dev nD) (t : Fin cfg0.N) (p : Fin 512) : tB m c t p = tR m c (rp t p) := by
  funext e
  refine Eq.trans (b := V m c main_arg7 (ix2 (rp t p) e)) ?_ (V_t m c _)
  unfold tB row; blk_point [iblk, idx t]

/-! ## The rows' cotangents -/

def dyOf (c : Dev nD) (i : S4096x1024.Idx) : EReal := dy (yR m c (i 0)) (gR m c) (bR m c) (tR m c (i 0)) (i 1)

theorem dyOf_at (c : Dev nD) (t : Fin cfg0.N) (y : S512x1024.Idx) (i : S4096x1024.Idx) (h0 : (i 0 : ℕ) = t.val * 512 + (y 0).val)
    (h1 : (i 1 : ℕ) = (y 1).val) : (outsAt0 m c t.val t.isLt).2.1 y = dyOf m c i := by
  obtain ⟨p, e, rfl⟩ : ∃ (p : Fin 512) (e : Fin 1024), y = ix2 p e := ⟨y 0, y 1, by idx_ext⟩
  obtain rfl : i = ix2 (rp t p) e := by idx_ext
  rw [dy_at, yB_eq, gB_eq, bB_eq, tB_eq]
  rfl
theorem dybOf_at (c : Dev nD) (t : Fin cfg0.N) (y : S512x1024.Idx) (i : S4096x1024.Idx) (h0 : (i 0 : ℕ) = t.val * 512 + (y 0).val)
    (h1 : (i 1 : ℕ) = (y 1).val) : (outsAt0 m c t.val t.isLt).2.2.1 y = dyOf m c i := by
  obtain ⟨p, e, rfl⟩ : ∃ (p : Fin 512) (e : Fin 1024), y = ix2 p e := ⟨y 0, y 1, by idx_ext⟩
  obtain rfl : i = ix2 (rp t p) e := by idx_ext
  rw [dyb_at, yB_eq, gB_eq, bB_eq, tB_eq]
  rfl

theorem final_dy (c : Dev nD) : (dats m 0 c).arrAt 9 cfg0.N = dyOf m c := by
  refine (dats m 0 c).arrAt_eq_of_covers 9 _ (by decide +kernel) fun t hf y => ?_
  blk_simp
  rw [after0_9]
  refine dyOf_at m c t y _ ?_ ?_
  all_goals (blk_simp [idx t] <;> try omega)
theorem final_dyb (c : Dev nD) : (dats m 0 c).arrAt 10 cfg0.N = dyOf m c := by
  refine (dats m 0 c).arrAt_eq_of_covers 10 _ (by decide +kernel) fun t hf y => ?_
  blk_simp
  rw [after0_10]
  refine dybOf_at m c t y _ ?_ ?_
  all_goals (blk_simp [idx t] <;> try omega)

/-! ## The sums over the rows -/

def dgR (c : Dev nD) (e : Fin 1024) : EReal := ∑ r, dh (yR m c r) (gR m c) (bR m c) (tR m c r) e * Norm.hat len (yR m c r) e
def dbR (c : Dev nD) (e : Fin 1024) : EReal := ∑ r, dh (yR m c r) (gR m c) (bR m c) (tR m c r) e
def sqR (c : Dev nD) (e : Fin 1024) : EReal := ∑ r, err (yR m c r) (gR m c) (bR m c) (tR m c r) e * err (yR m c r) (gR m c) (bR m c) (tR m c r) e

theorem dg_last (c : Dev nD) (t : Fin cfg0.N) (ht : t.val % 8 = 7) (e : Fin 1024) : (outsAt0 m c t.val t.isLt).2.2.2.1 (ix2 0 e) = dgR m c e := by
  refine gathered N_0 (fun n h e => (outsAt0 m c n h).2.2.2.1 (ix2 0 e)) _
    (fun r e => dh (yR m c r) (gR m c) (bR m c) (tR m c r) e * Norm.hat len (yR m c r) e) (fun t e => dg_at m c t e) (fun t p e => ?_) t ht e
  rw [yB_eq, gB_eq, bB_eq, tB_eq]
theorem db_last (c : Dev nD) (t : Fin cfg0.N) (ht : t.val % 8 = 7) (e : Fin 1024) : (outsAt0 m c t.val t.isLt).2.2.2.2.1 (ix2 0 e) = dbR m c e := by
  refine gathered N_0 (fun n h e => (outsAt0 m c n h).2.2.2.2.1 (ix2 0 e)) _
    (fun r e => dh (yR m c r) (gR m c) (bR m c) (tR m c r) e) (fun t e => db_at m c t e) (fun t p e => ?_) t ht e
  rw [yB_eq, gB_eq, bB_eq, tB_eq]
theorem sq_last (c : Dev nD) (t : Fin cfg0.N) (ht : t.val % 8 = 7) (e : Fin 1024) : (outsAt0 m c t.val t.isLt).2.2.2.2.2 (ix2 0 e) = sqR m c e := by
  refine gathered N_0 (fun n h e => (outsAt0 m c n h).2.2.2.2.2 (ix2 0 e)) _
    (fun r e => err (yR m c r) (gR m c) (bR m c) (tR m c r) e * err (yR m c r) (gR m c) (bR m c) (tR m c r) e) (fun t e => sq_at m c t e)
    (fun t p e => ?_) t ht e
  rw [yB_eq, gB_eq, bB_eq, tB_eq]

def lossOf (c : Dev nD) (i : S1x128.Idx) : EReal := (∑ e, sqR m c e) * inv2
def dgOf (c : Dev nD) (i : S1x1024.Idx) : EReal := dgR m c (i 1)
def dbOf (c : Dev nD) (i : S1x1024.Idx) : EReal := dbR m c (i 1)

theorem lossOf_at (c : Dev nD) (t : Fin cfg0.N) (ht : t.val % 8 = 7) (y i : S1x128.Idx) : (outsAt0 m c t.val t.isLt).1 y = lossOf m c i := by
  have a0 : (y 0).val < 1 := (y 0).isLt
  obtain ⟨j, rfl⟩ : ∃ j : Fin 128, y = ix2 0 j := ⟨y 1, by idx_ext⟩
  rw [loss_at m c t ht]
  exact congrArg (· * inv2) (Finset.sum_congr rfl fun e _ => sq_last m c t ht e)
theorem dgOf_at (c : Dev nD) (t : Fin cfg0.N) (ht : t.val % 8 = 7) (y i : S1x1024.Idx) (h1 : (i 1 : ℕ) = (y 1).val) :
    (outsAt0 m c t.val t.isLt).2.2.2.1 y = dgOf m c i := by
  have a0 : (y 0).val < 1 := (y 0).isLt
  obtain rfl : y = ix2 0 (i 1) := by idx_ext
  exact dg_last m c t ht (i 1)
theorem dbOf_at (c : Dev nD) (t : Fin cfg0.N) (ht : t.val % 8 = 7) (y i : S1x1024.Idx) (h1 : (i 1 : ℕ) = (y 1).val) :
    (outsAt0 m c t.val t.isLt).2.2.2.2.1 y = dbOf m c i := by
  have a0 : (y 0).val < 1 := (y 0).isLt
  obtain rfl : y = ix2 0 (i 1) := by idx_ext
  exact db_last m c t ht (i 1)

theorem final_loss (c : Dev nD) : (dats m 0 c).arrAt 8 cfg0.N = lossOf m c := by
  refine (dats m 0 c).arrAt_eq_of_covers 8 _ (by decide +kernel) fun t hf y => ?_
  blk_simp
  rw [after0_8]
  exact lossOf_at m c t ((flush0_8 t).mp hf) y _
theorem final_dg (c : Dev nD) : (dats m 0 c).arrAt 11 cfg0.N = dgOf m c := by
  refine (dats m 0 c).arrAt_eq_of_covers 11 _ (by decide +kernel) fun t hf y => ?_
  blk_simp
  rw [after0_11]
  refine dgOf_at m c t ((flush0_11 t).mp hf) y _ ?_
  all_goals (blk_simp [idx t] <;> try omega)
theorem final_db (c : Dev nD) : (dats m 0 c).arrAt 12 cfg0.N = dbOf m c := by
  refine (dats m 0 c).arrAt_eq_of_covers 12 _ (by decide +kernel) fun t hf y => ?_
  blk_simp
  rw [after0_12]
  refine dbOf_at m c t ((flush0_12 t).mp hf) y _ ?_
  all_goals (blk_simp [idx t] <;> try omega)

end Cert.LossIdeal.Value

end
-- ==== Proof.Loss.Ref.lean ====
/-
  The loss and its derivative as `jax.value_and_grad` prints them, entry by entry.
-/
module

public import proofs.«01_k».proof.Proof.Loss.Math
public import proofs.«01_k».proof.Proof.Gen.LossRefIdeal.Read
public import Idealize.ShloMosaic.Lib.Pointwise

@[expose] public section

set_option maxRecDepth 16384

noncomputable section

namespace Cert.LossRefIdeal.Value

open Idealize.ShloMosaic Idealize.ShloMosaic.TcCoe
open Cert.LossRefIdeal Cert.LossRefIdeal.Gen Cert.LossRefIdeal.Read
open Cert.Norm Cert.Rows Cert.Loss.Math

variable (x0 : (⟨S4096x2816, .f32⟩ : BufTy).Contents (Elt Ideal)) (x1 : (⟨S2816x1024, .f32⟩ : BufTy).Contents (Elt Ideal))
  (x2 : (⟨S4096x1024, .f32⟩ : BufTy).Contents (Elt Ideal)) (x3 x4 x5 x6 : (⟨S1x1024, .f32⟩ : BufTy).Contents (Elt Ideal))
  (x7 : (⟨S4096x1024, .f32⟩ : BufTy).Contents (Elt Ideal))

/-- Row `r` before the layer norm, and the other rows. -/
abbrev yR (r : Fin 4096) (e : Fin 1024) : EReal :=
  alpha * (x2 (ix2 r e) * x3 (ix2 0 e) + x4 (ix2 0 e)) + half * ∑ p : Fin 2816, x0 (ix2 r p) * x1 (ix2 p e)
abbrev gR (e : Fin 1024) : EReal := x5 (ix2 0 e)
abbrev bR (e : Fin 1024) : EReal := x6 (ix2 0 e)
abbrev tR (r : Fin 4096) (e : Fin 1024) : EReal := x7 (ix2 r e)

theorem rows (r : Fin 4096) (e : Fin 1024) : val_main_v13 x0 x1 x2 x3 x4 (ix2 r e) = yR x0 x1 x2 x3 x4 r e := by
  pointwise [val_main_v13, val_main_v12, val_main_v11, val_main_cst_0, val_main_v10, val_main_v9, val_main_v8, val_main_cst, val_main_v7, val_main_v6,
    val_main_v5, val_main_v4, val_main_v3, val_main_v2, val_main_v1, val_main_v0]

local notation "y" => yR x0 x1 x2 x3 x4

theorem means (r : Fin 4096) : val_main_v19 x0 x1 x2 x3 x4 (ix2 r 0) = mean len (y r) := by
  unfold mean
  simp only [← rows]
  pointwise [val_main_v19, val_main_v18, val_main_cst_2, val_main_v17, val_main_v16, val_main_cst_1]
theorem cens (r : Fin 4096) (e : Fin 1024) : val_main_v21 x0 x1 x2 x3 x4 (ix2 r e) = cen len (y r) e := by
  unfold cen
  rw [← means, ← rows]
  pointwise [val_main_v21, val_main_v20]
theorem cens' (r : Fin 4096) (e : Fin 1024) : val_main_v30 x0 x1 x2 x3 x4 (ix2 r e) = cen len (y r) e := by
  unfold cen
  rw [← means, ← rows]
  pointwise [val_main_v30, val_main_v29]
theorem vars (r : Fin 4096) : val_main_v32 x0 x1 x2 x3 x4 (ix2 r 0) = var len (y r) + eps := by
  unfold var mean
  simp only [← cens]
  pointwise [val_main_v32, val_main_v31, val_main_cst_6, val_main_v28, val_main_v27, val_main_cst_5, val_main_v26, val_main_v25, val_main_cst_4, val_main_v22]
theorem rstds (r : Fin 4096) : val_main_v33 x0 x1 x2 x3 x4 (ix2 r 0) = rstd len (y r) := by
  unfold rstd
  rw [← vars]
  pointwise [val_main_v33]
theorem hats (r : Fin 4096) (e : Fin 1024) : val_main_v38 x0 x1 x2 x3 x4 (ix2 r e) = hat len (y r) e := by
  unfold hat
  rw [← cens', ← rstds]
  pointwise [val_main_v38, val_main_v37]
theorem errs (r : Fin 4096) (e : Fin 1024) : val_main_v45 x0 x1 x2 x3 x4 x5 x6 x7 (ix2 r e) = err (y r) (gR x5) (bR x6) (tR x7 r) e := by
  unfold err ln
  rw [← hats]
  pointwise [val_main_v45, val_main_v44, val_main_v43, val_main_v42, val_main_v15, val_main_v41, val_main_v40, val_main_v39, val_main_v14]
theorem dhs (r : Fin 4096) (e : Fin 1024) : val_main_v59 x0 x1 x2 x3 x4 x5 x6 x7 (ix2 r e)
    = Ideal.div half len * (Ideal.ofBits FTy.f32 0x40000000#32 * err (y r) (gR x5) (bR x6) (tR x7 r) e) := by
  rw [← errs]
  pointwise [val_main_v59, val_main_v58, val_main_v57, val_main_v56, val_main_cst_15, val_main_v55, val_main_v54, val_main_cst_14, val_main_cst_13,
    val_main_v48, val_main_v47, val_main_cst_8]
  try rw [mul_one]
theorem loss_read : val_main_v53 x0 x1 x2 x3 x4 x5 x6 x7 (fun a => a.elim0)
    = half * ∑ r, Ideal.div (∑ e, err (y r) (gR x5) (bR x6) (tR x7 r) e * err (y r) (gR x5) (bR x6) (tR x7 r) e) len := by
  simp only [← errs]
  pointwise [val_main_v53, val_main_cst_12, val_main_v52, val_main_cst_11, val_main_v51, val_main_v50, val_main_cst_10, val_main_v49, val_main_cst_9,
    val_main_v46]

/-- The cotangent of the normalised row. -/
theorem dxhs (r : Fin 4096) (e : Fin 1024) : val_main_v67 x0 x1 x2 x3 x4 x5 x6 x7 (ix2 r e)
    = val_main_v59 x0 x1 x2 x3 x4 x5 x6 x7 (ix2 r e) * gR x5 e := by
  pointwise [val_main_v67, val_main_v66, val_main_v39, val_main_v14]

theorem vias (r : Fin 4096) (e : Fin 1024) : val_main_v82 x0 x1 x2 x3 x4 x5 x6 x7 (ix2 r e)
    = viaVar len (y r) (fun e => val_main_v67 x0 x1 x2 x3 x4 x5 x6 x7 (ix2 r e)) e := by
  unfold viaVar
  rw [← cens]
  simp only [← cens', ← rstds, ← vars]
  pointwise [val_main_v82, val_main_v81, val_main_v80, val_main_cst_23, val_main_v79, val_main_v78, val_main_cst_22, val_main_v74, val_main_v71,
    val_main_v70, val_main_cst_20, val_main_v69, val_main_v36, val_main_v35, val_main_cst_7, val_main_v34, val_main_v24, val_main_v23, val_main_cst_3]
  rw [Fin.sum_univ_one]

theorem backs (r : Fin 4096) (e : Fin 1024) : val_main_v92 x0 x1 x2 x3 x4 x5 x6 x7 (ix2 r e)
    = backVjp len (y r) (fun e => val_main_v67 x0 x1 x2 x3 x4 x5 x6 x7 (ix2 r e)) e := by
  unfold backVjp
  simp only [← vias, ← rstds]
  pointwise [val_main_v92, val_main_v91, val_main_v90, val_main_cst_26, val_main_v89, val_main_v88, val_main_cst_25, val_main_v87, val_main_v86,
    val_main_v85, val_main_v84, val_main_cst_24, val_main_v83, val_main_v77, val_main_v76, val_main_cst_21, val_main_v75, val_main_v73, val_main_v72]
  rw [Fin.sum_univ_one]

theorem dg_read (e : Fin 1024) : val_main_v94 x0 x1 x2 x3 x4 x5 x6 x7 (ix2 0 e)
    = ∑ r, hat len (y r) e * val_main_v59 x0 x1 x2 x3 x4 x5 x6 x7 (ix2 r e) := by
  simp only [← hats]
  pointwise [val_main_v94, val_main_v68, val_main_cst_19, val_main_v65, val_main_v64, val_main_cst_18, val_main_v63]
  try rw [Fin.sum_univ_one]
theorem db_read (e : Fin 1024) : val_main_v93 x0 x1 x2 x3 x4 x5 x6 x7 (ix2 0 e) = ∑ r, val_main_v59 x0 x1 x2 x3 x4 x5 x6 x7 (ix2 r e) := by
  pointwise [val_main_v93, val_main_v62, val_main_cst_17, val_main_v61, val_main_v60, val_main_cst_16]
  try rw [Fin.sum_univ_one]

/-! ## The results for real arguments -/

theorem inv_real : inv = ((1 / 1024 : ℝ) : EReal) := by
  show Ideal.ofBits FTy.f32 0x3A800000#32 = _
  simp [Ideal.ofBits, Ideal.ieee, -EReal.coe_mul]; norm_num
theorem inv2_real : inv2 = ((1 / 2048 : ℝ) : EReal) := by
  show Ideal.ofBits FTy.f32 0x3A000000#32 = _
  simp [Ideal.ofBits, Ideal.ieee, -EReal.coe_mul]; norm_num

section
variable (h0 : ∀ i, ∃ r : ℝ, (x0 i : EReal) = r) (h1 : ∀ i, ∃ r : ℝ, (x1 i : EReal) = r) (h2 : ∀ i, ∃ r : ℝ, (x2 i : EReal) = r)
  (h3 : ∀ i, ∃ r : ℝ, (x3 i : EReal) = r) (h4 : ∀ i, ∃ r : ℝ, (x4 i : EReal) = r) (h5 : ∀ i, ∃ r : ℝ, (x5 i : EReal) = r)
  (h6 : ∀ i, ∃ r : ℝ, (x6 i : EReal) = r) (h7 : ∀ i, ∃ r : ℝ, (x7 i : EReal) = r)

include h0 h1 h2 h3 h4 in
theorem y_real (r : Fin 4096) (e : Fin 1024) : ∃ z : ℝ, y r e = z :=
  Reals.real_add (Reals.real_mul alpha_real (Reals.real_add (Reals.real_mul (h2 _) (h3 _)) (h4 _)))
    (Reals.real_mul ⟨_, half_real⟩ (Reals.real_sum fun p => Reals.real_mul (h0 _) (h1 _)))

include h0 h1 h2 h3 h4 h5 h6 h7 in
theorem err_real (r : Fin 4096) (e : Fin 1024) : ∃ z : ℝ, err (y r) (gR x5) (bR x6) (tR x7 r) e = z :=
  Reals.real_sub (Reals.real_add (Reals.real_mul (by
    rw [len_real]
    exact hat_real (by norm_num) (by norm_num) (y_real x0 x1 x2 x3 x4 h0 h1 h2 h3 h4 r) e) (h5 _)) (h6 _)) (h7 _)

include h0 h1 h2 h3 h4 h5 h6 h7 in
theorem dh_eq (r : Fin 4096) (e : Fin 1024) : val_main_v59 x0 x1 x2 x3 x4 x5 x6 x7 (ix2 r e) = dh (y r) (gR x5) (bR x6) (tR x7 r) e := by
  rw [dhs, dh]
  obtain ⟨z, hz⟩ := err_real x0 x1 x2 x3 x4 x5 x6 x7 h0 h1 h2 h3 h4 h5 h6 h7 r e
  rw [hz, half_real, len_real, ofBits_two, inv_real, Ideal.div_coe (by norm_num), ← EReal.coe_mul, ← EReal.coe_mul, ← EReal.coe_mul, ← EReal.coe_mul]
  congr 1; ring

include h0 h1 h2 h3 h4 h5 h6 h7 in
theorem dy_eq (r : Fin 4096) (e : Fin 1024) : val_main_v92 x0 x1 x2 x3 x4 x5 x6 x7 (ix2 r e) = dy (y r) (gR x5) (bR x6) (tR x7 r) e := by
  have hd : ∀ e, ∃ z : ℝ, dh (y r) (gR x5) (bR x6) (tR x7 r) e * gR x5 e = z := fun e =>
    Reals.real_mul (Reals.real_mul (err_real x0 x1 x2 x3 x4 x5 x6 x7 h0 h1 h2 h3 h4 h5 h6 h7 r e) ⟨_, inv_real⟩) (h5 _)
  rw [backs]
  simp only [dxhs, dh_eq x0 x1 x2 x3 x4 x5 x6 x7 h0 h1 h2 h3 h4 h5 h6 h7]
  unfold dy Rows.back
  have hb := (back_eq (N := 1024) (by norm_num) (by norm_num) (y_real x0 x1 x2 x3 x4 h0 h1 h2 h3 h4 r) hd e).1
  rwa [← len_real] at hb

include h0 h1 h2 h3 h4 h5 h6 h7 in
theorem dg_eq (e : Fin 1024) : val_main_v94 x0 x1 x2 x3 x4 x5 x6 x7 (ix2 0 e)
    = ∑ r, dh (y r) (gR x5) (bR x6) (tR x7 r) e * hat len (y r) e := by
  rw [dg_read]
  exact Finset.sum_congr rfl fun r _ => by rw [dh_eq x0 x1 x2 x3 x4 x5 x6 x7 h0 h1 h2 h3 h4 h5 h6 h7, mul_comm]

include h0 h1 h2 h3 h4 h5 h6 h7 in
theorem db_eq (e : Fin 1024) : val_main_v93 x0 x1 x2 x3 x4 x5 x6 x7 (ix2 0 e) = ∑ r, dh (y r) (gR x5) (bR x6) (tR x7 r) e := by
  rw [db_read]
  exact Finset.sum_congr rfl fun r _ => dh_eq x0 x1 x2 x3 x4 x5 x6 x7 h0 h1 h2 h3 h4 h5 h6 h7 r e

include h0 h1 h2 h3 h4 h5 h6 h7 in
theorem loss_eq : val_main_v53 x0 x1 x2 x3 x4 x5 x6 x7 (fun a => a.elim0)
    = (∑ e, ∑ r, err (y r) (gR x5) (bR x6) (tR x7 r) e * err (y r) (gR x5) (bR x6) (tR x7 r) e) * inv2 := by
  rw [loss_read]
  have he : ∀ r : Fin 4096, ∀ e, ∃ z : ℝ, err (y r) (gR x5) (bR x6) (tR x7 r) e = z :=
    fun r => err_real x0 x1 x2 x3 x4 x5 x6 x7 h0 h1 h2 h3 h4 h5 h6 h7 r
  choose z hz using he
  simp only [hz]
  rw [half_real, len_real, inv2_real]
  simp only [← EReal.coe_mul, ← Reals.coe_sum, Ideal.div_coe (show (1024 : ℝ) ≠ 0 by norm_num)]
  congr 1
  rw [← Finset.sum_mul, Finset.sum_comm]
  ring

end

end Cert.LossRefIdeal.Value

end
-- ==== Proof.Loss.Claim.lean ====
/-
  The value claim of the last layer norm and the loss: the kernel leaves the loss and its derivative, for finite arguments.
-/
module

public import proofs.«01_k».proof.Defs
public import proofs.«01_k».proof.Proof.Loss.Final
public import proofs.«01_k».proof.Proof.Loss.Ref
public import proofs.«01_k».proof.Proof.Gen.LossRefIdeal.Run
public import proofs.«01_k».proof.Proof.Gen.LossRefIdeal.Read

@[expose] public section

set_option maxRecDepth 16384

noncomputable section

/-! ## The precondition -/

namespace Cert.Pre_finite4

open Idealize.ShloMosaic

instance facts : Cert.Pre_finite4.Facts :=
  ⟨by decide, by decide, by decide, by decide, by decide, by decide, by decide, by decide, by decide⟩

theorem real_args {s : FVec Ideal S4096x2816 .f32} {w : FVec Ideal S2816x1024 .f32} {x : FVec Ideal S4096x1024 .f32} {p : FVec Ideal S1x1024 .f32} {q : FVec Ideal S1x1024 .f32} {g : FVec Ideal S1x1024 .f32} {b : FVec Ideal S1x1024 .f32} {t : FVec Ideal S4096x1024 .f32}
    (h : fn (F := Ideal) s w x p q g b t = fun _ => 1#1) :
    (∀ i, ∃ r : ℝ, s i = (r : EReal))
      ∧ (∀ i, ∃ r : ℝ, w i = (r : EReal))
      ∧ (∀ i, ∃ r : ℝ, x i = (r : EReal))
      ∧ (∀ i, ∃ r : ℝ, p i = (r : EReal))
      ∧ (∀ i, ∃ r : ℝ, q i = (r : EReal))
      ∧ (∀ i, ∃ r : ℝ, g i = (r : EReal))
      ∧ (∀ i, ∃ r : ℝ, b i = (r : EReal))
      ∧ (∀ i, ∃ r : ℝ, t i = (r : EReal)) := by
  have e := congrFun h (fun a => a.elim0)
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  haveI : Subsingleton S_.Idx := ⟨fun a b => funext fun i => i.elim0⟩
  exact ⟨fun i => Reals.real_of_cmp (Host.reduce_andi_all _ _ _ _ _ e1 i),
    fun i => Reals.real_of_cmp (Host.reduce_andi_all _ _ _ _ _ e2 i),
    fun i => Reals.real_of_cmp (Host.reduce_andi_all _ _ _ _ _ e3 i),
    fun i => Reals.real_of_cmp (Host.reduce_andi_all _ _ _ _ _ e4 i),
    fun i => Reals.real_of_cmp (Host.reduce_andi_all _ _ _ _ _ e5 i),
    fun i => Reals.real_of_cmp (Host.reduce_andi_all _ _ _ _ _ e6 i),
    fun i => Reals.real_of_cmp (Host.reduce_andi_all _ _ _ _ _ e7 i),
    fun i => Reals.real_of_cmp (Host.reduce_andi_all _ _ _ _ _ e8 i)⟩

end Cert.Pre_finite4

namespace Cert.LossIdeal.Value

open Idealize.ShloMosaic Idealize.ShloMosaic.TcCoe Idealize.SL.Sem
open Cert.LossIdeal Cert.LossIdeal.Gen
open Cert.LossRefIdeal.Read (val_main_v53 val_main_v92 val_main_v93 val_main_v94 val_main_v95 val_main_v96)

variable (m : (ℓ : Loc nD τ sig) → Buf (Elt Ideal) ℓ)

/-! ## The kernel's arrays are the reference's -/

section
variable (c : Dev nD) (hS : ∀ i, ∃ r : ℝ, aS m c i = r) (hW : ∀ i, ∃ r : ℝ, aW m c i = r) (hX : ∀ i, ∃ r : ℝ, aX m c i = r)
    (hP : ∀ i, ∃ r : ℝ, aP m c i = r) (hQ : ∀ i, ∃ r : ℝ, aQ m c i = r) (hG : ∀ i, ∃ r : ℝ, aG m c i = r)
    (hB : ∀ i, ∃ r : ℝ, aB m c i = r) (hT : ∀ i, ∃ r : ℝ, aT m c i = r)

include hS hW hX hP hQ hG hB hT in
theorem loss_claim : val_main_v95 (F := Ideal) (aS m c) (aW m c) (aX m c) (aP m c) (aQ m c) (aG m c) (aB m c) (aT m c) = (dats m 0 c).arrAt 8 cfg0.N := by
  rw [final_loss]
  funext i
  refine Eq.trans ?_ (Cert.LossRefIdeal.Value.loss_eq _ _ _ _ _ _ _ _ hS hW hX hP hQ hG hB hT)
  generalize hy : val_main_v53 (F := Ideal) (aS m c) (aW m c) (aX m c) (aP m c) (aQ m c) (aG m c) (aB m c) (aT m c) = y
  unfold val_main_v95
  rw [hy]
  obtain ⟨r, e, rfl⟩ : ∃ (r : Fin 1) (e : Fin 128), i = ix2 r e := ⟨i 0, i 1, by idx_ext⟩
  pointwise []
  blk_ext

include hS hW hX hP hQ hG hB hT in
theorem dy_claim : val_main_v92 (F := Ideal) (aS m c) (aW m c) (aX m c) (aP m c) (aQ m c) (aG m c) (aB m c) (aT m c) = (dats m 0 c).arrAt 9 cfg0.N := by
  rw [final_dy]
  funext i
  obtain ⟨r, e, rfl⟩ : ∃ (r : Fin 4096) (e : Fin 1024), i = ix2 r e := ⟨i 0, i 1, by idx_ext⟩
  exact Cert.LossRefIdeal.Value.dy_eq _ _ _ _ _ _ _ _ hS hW hX hP hQ hG hB hT r e

include hS hW hX hP hQ hG hB hT in
theorem dyb_claim : val_main_v96 (F := Ideal) (aS m c) (aW m c) (aX m c) (aP m c) (aQ m c) (aG m c) (aB m c) (aT m c) = (dats m 0 c).arrAt 10 cfg0.N := by
  rw [final_dyb, ← final_dy, ← dy_claim m c hS hW hX hP hQ hG hB hT]
  funext i
  obtain ⟨r, e, rfl⟩ : ∃ (r : Fin 4096) (e : Fin 1024), i = ix2 r e := ⟨i 0, i 1, by idx_ext⟩
  pointwise [val_main_v96]

include hS hW hX hP hQ hG hB hT in
theorem dg_claim : val_main_v94 (F := Ideal) (aS m c) (aW m c) (aX m c) (aP m c) (aQ m c) (aG m c) (aB m c) (aT m c) = (dats m 0 c).arrAt 11 cfg0.N := by
  rw [final_dg]
  funext i
  obtain ⟨e, rfl⟩ : ∃ e : Fin 1024, i = ix2 0 e := ⟨i 1, by idx_ext⟩
  exact Cert.LossRefIdeal.Value.dg_eq _ _ _ _ _ _ _ _ hS hW hX hP hQ hG hB hT e

include hS hW hX hP hQ hG hB hT in
theorem db_claim : val_main_v93 (F := Ideal) (aS m c) (aW m c) (aX m c) (aP m c) (aQ m c) (aG m c) (aB m c) (aT m c) = (dats m 0 c).arrAt 12 cfg0.N := by
  rw [final_db]
  funext i
  obtain ⟨e, rfl⟩ : ∃ e : Fin 1024, i = ix2 0 e := ⟨i 1, by idx_ext⟩
  exact Cert.LossRefIdeal.Value.db_eq _ _ _ _ _ _ _ _ hS hW hX hP hQ hG hB hT e

end

end Cert.LossIdeal.Value

namespace Cert.Loss.Claim

open Idealize.ShloMosaic Idealize.ShloMosaic.TcCoe Idealize.SL.Sem
open Cert.LossIdeal.Value

theorem algebraic : Cert.algebraic_LossIdeal_LossRefIdeal_pre_finite4 := by
  pair_intro
  · run_from Cert.LossIdeal.Value.run_blocks m g
  · refine θ_run_mono (Cert.LossRefIdeal.Value.run m' g') fun r h c => ?_
    obtain ⟨h0, h1, h2, h3, h4, h5⟩ := h c
    obtain ⟨a0, a1, a2, a3, a4, a5, a6, a7⟩ := hagree c
    obtain ⟨hS, hW, hX, hP, hQ, hG, hB, hT⟩ := Cert.Pre_finite4.real_args (hpre c)
    rw [Cert.LossRefIdeal.Read.val_main_v95_eq] at h0
    rw [Cert.LossRefIdeal.Read.val_main_v92_eq] at h1
    rw [Cert.LossRefIdeal.Read.val_main_v96_eq] at h2
    rw [Cert.LossRefIdeal.Read.val_main_v94_eq] at h3
    rw [Cert.LossRefIdeal.Read.val_main_v93_eq] at h4
    rw [a0, a1, a2, a3, a4, a5, a6, a7] at h0 h1 h2 h3 h4
    exact ⟨h0.trans (loss_claim m c hS hW hX hP hQ hG hB hT), h1.trans (dy_claim m c hS hW hX hP hQ hG hB hT), h2.trans (dyb_claim m c hS hW hX hP hQ hG hB hT),
      h3.trans (dg_claim m c hS hW hX hP hQ hG hB hT), h4.trans (db_claim m c hS hW hX hP hQ hG hB hT), h5⟩

end Cert.Loss.Claim

end
-- ==== Proof.Memory.Value.lean ====
/-
  The memory's two calls over the arguments: its layer norm, the gradients of the key and value weights, and of the layer norm's
  scale and shift.
-/
module

public import proofs.«01_k».proof.Proof.Rows
public import proofs.«01_k».proof.Proof.Gen.MemoryIdeal.Frame
public import Idealize.ShloMosaic.Lib.Pipeline.ValueKit
public import Idealize.ShloMosaic.Lib.Pointwise
public import Idealize.ShloMosaic.Lib.Claim

@[expose] public section

set_option maxRecDepth 16384

noncomputable section

namespace Cert.MemoryIdeal.Value

open Idealize.ShloMosaic Idealize.ShloMosaic.TcCoe Idealize.SL.Sem
open Idealize.ShloMosaic.Pipeline (Dat)
open Cert.MemoryIdeal Cert.MemoryIdeal.Gen
open Cert.Rows

/-! ## The two calls -/

/-- Row `p` of an array, and the row of a parameter. -/
abbrev row (X : S256x1024.Idx → EReal) (p : Fin 256) (e : Fin 1024) : EReal := X (ix2 p e)
abbrev vec (X : S1x1024.Idx → EReal) (e : Fin 1024) : EReal := X (ix2 0 e)

/-- The memory under its layer norm, and normalised only. -/
abbrev normed (X : S256x1024.Idx → EReal) (G B : S1x1024.Idx → EReal) (i : S256x1024.Idx) : EReal := ln (row X (i 0)) (vec G) (vec B) (i 1)
abbrev hats (X : S256x1024.Idx → EReal) (i : S256x1024.Idx) : EReal := Norm.hat len (row X (i 0)) (i 1)

/-- A weight's gradient: the memory's product with the cotangent. -/
abbrev wgrad (M D : S256x1024.Idx → EReal) (i : S1024x1024.Idx) : EReal := ∑ p : Fin 256, M (ix2 p (i 0)) * D (ix2 p (i 1))

/-- The cotangent of the layer norm at row `p`. -/
abbrev dm (DK DV : S256x1024.Idx → EReal) (WK WV : S1024x1024.Idx → EReal) (p : Fin 256) (e : Fin 1024) : EReal :=
  (∑ k : Fin 1024, DK (ix2 p k) * WK (ix2 e k)) + ∑ k : Fin 1024, DV (ix2 p k) * WV (ix2 e k)

abbrev dgain (H DK DV : S256x1024.Idx → EReal) (WK WV : S1024x1024.Idx → EReal) (i : S1x1024.Idx) : EReal :=
  ∑ p : Fin 256, dm DK DV WK WV p (i 1) * H (ix2 p (i 1))
abbrev dshift (DK DV : S256x1024.Idx → EReal) (WK WV : S1024x1024.Idx → EReal) (i : S1x1024.Idx) : EReal :=
  ∑ p : Fin 256, dm DK DV WK WV p (i 1)

theorem normed_out (X : S256x1024.Idx → EReal) (G B : S1x1024.Idx → EReal) (K W : S1024x1024.Idx → EReal) :
    out0_5 (F := Ideal) X G B K W = normed X G B := by
  funext y
  obtain ⟨p, e, rfl⟩ : ∃ (p : Fin 256) (e : Fin 1024), y = ix2 p e := ⟨y 0, y 1, by idx_ext⟩
  canon_tiles x h
  all_goals (obtain rfl : x = ix2 p e := by idx_ext
             open_payloads; pointwise; try rfl)
theorem hats_out (X : S256x1024.Idx → EReal) (G B : S1x1024.Idx → EReal) (K W : S1024x1024.Idx → EReal) :
    out0_6 (F := Ideal) X G B K W = hats X := by
  funext y
  obtain ⟨p, e, rfl⟩ : ∃ (p : Fin 256) (e : Fin 1024), y = ix2 p e := ⟨y 0, y 1, by idx_ext⟩
  canon_tiles x h
  all_goals (obtain rfl : x = ix2 p e := by idx_ext
             open_payloads; pointwise; try rfl)

section
variable (DK DV M H : S256x1024.Idx → EReal) (S : S256x1.Idx → EReal) (G : S1x1024.Idx → EReal) (WK WV : S1024x1024.Idx → EReal)

theorem wk_out : out1_8 (F := Ideal) DK DV M H S G WK WV = wgrad M DK := by
  funext y
  obtain ⟨p, e, rfl⟩ : ∃ (p e : Fin 1024), y = ix2 p e := ⟨y 0, y 1, by idx_ext⟩
  canon_tiles x h
  all_goals (obtain rfl : x = ix2 p e := by idx_ext
             open_payloads; pointwise; try rfl)
theorem wv_out : out1_9 (F := Ideal) DK DV M H S G WK WV = wgrad M DV := by
  funext y
  obtain ⟨p, e, rfl⟩ : ∃ (p e : Fin 1024), y = ix2 p e := ⟨y 0, y 1, by idx_ext⟩
  canon_tiles x h
  all_goals (obtain rfl : x = ix2 p e := by idx_ext
             open_payloads; pointwise; try rfl)
theorem dg_out : out1_10 (F := Ideal) DK DV M H S G WK WV = dgain H DK DV WK WV := by
  funext y
  have a0 : (y 0).val < 1 := (y 0).isLt
  obtain ⟨e, rfl⟩ : ∃ (e : Fin 1024), y = ix2 0 e := ⟨y 1, by idx_ext⟩
  canon_tiles x h
  all_goals (obtain rfl : x = ix2 0 e := by idx_ext
             open_payloads; pointwise; try rfl)
theorem db_out : out1_11 (F := Ideal) DK DV M H S G WK WV = dshift DK DV WK WV := by
  funext y
  have a0 : (y 0).val < 1 := (y 0).isLt
  obtain ⟨e, rfl⟩ : ∃ (e : Fin 1024), y = ix2 0 e := ⟨y 1, by idx_ext⟩
  canon_tiles x h
  all_goals (obtain rfl : x = ix2 0 e := by idx_ext
             open_payloads; pointwise; try rfl)

end

section Calls

variable (V : (c : Dev nD) → (b : Ref sig .tc) → Buf (Elt Ideal) ((c : Thread nD τ).loc b))

theorem idx0 : ∀ t : Fin cfg0.N, win0_0.index t = ![0, 0] ∧ win0_1.index t = ![0, 0] ∧ win0_2.index t = ![0, 0] ∧ win0_5.index t = ![0, 0]
    ∧ win0_6.index t = ![0, 0] :=
  (by decide +kernel : ∀ t : Fin grid0.N, _)
theorem idx1 : ∀ t : Fin cfg1.N, win1_0.index t = ![0, 0] ∧ win1_1.index t = ![0, 0] ∧ win1_2.index t = ![0, 0] ∧ win1_3.index t = ![0, 0]
    ∧ win1_6.index t = ![0, 0] ∧ win1_7.index t = ![0, 0] ∧ win1_8.index t = ![0, 0] ∧ win1_9.index t = ![0, 0] ∧ win1_10.index t = ![0, 0]
    ∧ win1_11.index t = ![0, 0] :=
  (by decide +kernel : ∀ t : Fin grid1.N, _)

theorem X0 (c : Dev nD) (t : Fin cfg0.N) : iblk0 V c 0 t = V c main_arg0 := by funext y; blk_point [iblk0, idx0 t]
theorem G0 (c : Dev nD) (t : Fin cfg0.N) : iblk0 V c 1 t = V c main_arg1 := by funext y; blk_point [iblk0, idx0 t]
theorem B0 (c : Dev nD) (t : Fin cfg0.N) : iblk0 V c 2 t = V c main_arg2 := by funext y; blk_point [iblk0, idx0 t]
theorem DK1 (c : Dev nD) (t : Fin cfg1.N) : iblk1 V c 0 t = V c main_arg5 := by funext y; blk_point [iblk1, idx1 t]
theorem DV1 (c : Dev nD) (t : Fin cfg1.N) : iblk1 V c 1 t = V c main_arg6 := by funext y; blk_point [iblk1, idx1 t]
theorem M1 (c : Dev nD) (t : Fin cfg1.N) : iblk1 V c 2 t = V c main_v4_0 := by funext y; blk_point [iblk1, idx1 t]
theorem H1 (c : Dev nD) (t : Fin cfg1.N) : iblk1 V c 3 t = V c main_v4_1 := by funext y; blk_point [iblk1, idx1 t]
theorem WK1 (c : Dev nD) (t : Fin cfg1.N) : iblk1 V c 6 t = V c main_v1 := by funext y; blk_point [iblk1, idx1 t]
theorem WV1 (c : Dev nD) (t : Fin cfg1.N) : iblk1 V c 7 t = V c main_v3 := by funext y; blk_point [iblk1, idx1 t]

theorem final_m (c : Dev nD) : (dat0 V c).arrAt 5 cfg0.N = normed (V c main_arg0) (V c main_arg1) (V c main_arg2) := by
  refine (dat0 V c).arrAt_eq_of_covers 5 _ (by decide +kernel) fun t hf y => ?_
  blk_simp; rw [after0_5, X0, G0, B0, normed_out]; exact congrArg _ (by blk_ext [idx0 t])
theorem final_h (c : Dev nD) : (dat0 V c).arrAt 6 cfg0.N = hats (V c main_arg0) := by
  refine (dat0 V c).arrAt_eq_of_covers 6 _ (by decide +kernel) fun t hf y => ?_
  blk_simp; rw [after0_6, X0, hats_out]; exact congrArg _ (by blk_ext [idx0 t])
theorem final_wk (c : Dev nD) : (dat1 V c).arrAt 8 cfg1.N = wgrad (V c main_v4_0) (V c main_arg5) := by
  refine (dat1 V c).arrAt_eq_of_covers 8 _ (by decide +kernel) fun t hf y => ?_
  blk_simp; rw [after1_8, DK1, M1, wk_out]; exact congrArg _ (by blk_ext [idx1 t])
theorem final_wv (c : Dev nD) : (dat1 V c).arrAt 9 cfg1.N = wgrad (V c main_v4_0) (V c main_arg6) := by
  refine (dat1 V c).arrAt_eq_of_covers 9 _ (by decide +kernel) fun t hf y => ?_
  blk_simp; rw [after1_9, DV1, M1, wv_out]; exact congrArg _ (by blk_ext [idx1 t])
theorem final_dg (c : Dev nD) :
    (dat1 V c).arrAt 10 cfg1.N = dgain (V c main_v4_1) (V c main_arg5) (V c main_arg6) (V c main_v1) (V c main_v3) := by
  refine (dat1 V c).arrAt_eq_of_covers 10 _ (by decide +kernel) fun t hf y => ?_
  blk_simp; rw [after1_10, DK1, DV1, H1, WK1, WV1, dg_out]; exact congrArg _ (by blk_ext [idx1 t])
theorem final_db (c : Dev nD) :
    (dat1 V c).arrAt 11 cfg1.N = dshift (V c main_arg5) (V c main_arg6) (V c main_v1) (V c main_v3) := by
  refine (dat1 V c).arrAt_eq_of_covers 11 _ (by decide +kernel) fun t hf y => ?_
  blk_simp; rw [after1_11, DK1, DV1, WK1, WV1, db_out]; exact congrArg _ (by blk_ext [idx1 t])

end Calls

/-! ## The program's arrays -/

variable (m : (ℓ : Loc nD τ sig) → Buf (Elt Ideal) ℓ) (ρ : Dev nD → PrngReg)

abbrev aM (c : Dev nD) : S256x1024.Idx → EReal := m ((c.tc : Thread nD τ).loc main_arg0)
abbrev aG (c : Dev nD) : S1x1024.Idx → EReal := m ((c.tc : Thread nD τ).loc main_arg1)
abbrev aB (c : Dev nD) : S1x1024.Idx → EReal := m ((c.tc : Thread nD τ).loc main_arg2)
abbrev aK (c : Dev nD) : S1x1024x1024.Idx → EReal := m ((c.tc : Thread nD τ).loc main_arg3)
abbrev aV (c : Dev nD) : S1x1024x1024.Idx → EReal := m ((c.tc : Thread nD τ).loc main_arg4)
abbrev aDK (c : Dev nD) : S256x1024.Idx → EReal := m ((c.tc : Thread nD τ).loc main_arg5)
abbrev aDV (c : Dev nD) : S256x1024.Idx → EReal := m ((c.tc : Thread nD τ).loc main_arg6)

/-- A weight without its unit axis. -/
abbrev flat (W : S1x1024x1024.Idx → EReal) (i : S1024x1024.Idx) : EReal := W (ix3 0 (i 0) (i 1))

theorem W1_k (c : Dev nD) : W1 m ρ c (Proc.devRef .tc main_v1) = flat (aK m c) := by
  funext i
  obtain ⟨p, e, rfl⟩ : ∃ (p e : Fin 1024), i = ix2 p e := ⟨i 0, i 1, by idx_ext⟩
  unfold W1 W0
  after_results
  pointwise
  rfl
theorem W1_v (c : Dev nD) : W1 m ρ c (Proc.devRef .tc main_v3) = flat (aV m c) := by
  funext i
  obtain ⟨p, e, rfl⟩ : ∃ (p e : Fin 1024), i = ix2 p e := ⟨i 0, i 1, by idx_ext⟩
  unfold W1 W0
  after_results
  pointwise
  rfl

theorem W2_k (c : Dev nD) : W2 m ρ c (Proc.devRef .tc main_v1) = flat (aK m c) := (W2_of m ρ c main_v1 (by decide)).trans (W1_k m ρ c)
theorem W2_v (c : Dev nD) : W2 m ρ c (Proc.devRef .tc main_v3) = flat (aV m c) := (W2_of m ρ c main_v3 (by decide)).trans (W1_v m ρ c)
theorem W2_dk (c : Dev nD) : W2 m ρ c (Proc.devRef .tc main_arg5) = aDK m c := W2_args m ρ c main_arg5 (by decide)
theorem W2_dv (c : Dev nD) : W2 m ρ c (Proc.devRef .tc main_arg6) = aDV m c := W2_args m ρ c main_arg6 (by decide)
theorem W2_m (c : Dev nD) : W2 m ρ c (Proc.devRef .tc main_v4_0) = normed (aM m c) (aG m c) (aB m c) := by
  refine (W2_arr m ρ c 5).trans ((final_m (V1 m ρ) c).trans ?_)
  rw [show V1 m ρ c main_arg0 = aM m c from W1_args m ρ c main_arg0 (by decide), show V1 m ρ c main_arg1 = aG m c from W1_args m ρ c main_arg1 (by decide),
    show V1 m ρ c main_arg2 = aB m c from W1_args m ρ c main_arg2 (by decide)]
theorem W2_h (c : Dev nD) : W2 m ρ c (Proc.devRef .tc main_v4_1) = hats (aM m c) := by
  refine (W2_arr m ρ c 6).trans ((final_h (V1 m ρ) c).trans ?_)
  rw [show V1 m ρ c main_arg0 = aM m c from W1_args m ρ c main_arg0 (by decide)]

theorem W3_wk (c : Dev nD) : W3 m ρ c (Proc.devRef .tc main_v5_0) = wgrad (normed (aM m c) (aG m c) (aB m c)) (aDK m c) := by
  refine (W3_arr m ρ c 8).trans ((final_wk (V2 m ρ) c).trans ?_)
  rw [show V2 m ρ c main_v4_0 = _ from W2_m m ρ c, show V2 m ρ c main_arg5 = _ from W2_dk m ρ c]
theorem W3_wv (c : Dev nD) : W3 m ρ c (Proc.devRef .tc main_v5_1) = wgrad (normed (aM m c) (aG m c) (aB m c)) (aDV m c) := by
  refine (W3_arr m ρ c 9).trans ((final_wv (V2 m ρ) c).trans ?_)
  rw [show V2 m ρ c main_v4_0 = _ from W2_m m ρ c, show V2 m ρ c main_arg6 = _ from W2_dv m ρ c]
theorem W3_dg (c : Dev nD) : W3 m ρ c (Proc.devRef .tc main_v5_2) = dgain (hats (aM m c)) (aDK m c) (aDV m c) (flat (aK m c)) (flat (aV m c)) := by
  refine (W3_arr m ρ c 10).trans ((final_dg (V2 m ρ) c).trans ?_)
  rw [show V2 m ρ c main_v4_1 = _ from W2_h m ρ c, show V2 m ρ c main_arg5 = _ from W2_dk m ρ c, show V2 m ρ c main_arg6 = _ from W2_dv m ρ c,
    show V2 m ρ c main_v1 = _ from W2_k m ρ c, show V2 m ρ c main_v3 = _ from W2_v m ρ c]
theorem W3_db (c : Dev nD) : W3 m ρ c (Proc.devRef .tc main_v5_3) = dshift (aDK m c) (aDV m c) (flat (aK m c)) (flat (aV m c)) := by
  refine (W3_arr m ρ c 11).trans ((final_db (V2 m ρ) c).trans ?_)
  rw [show V2 m ρ c main_arg5 = _ from W2_dk m ρ c, show V2 m ρ c main_arg6 = _ from W2_dv m ρ c,
    show V2 m ρ c main_v1 = _ from W2_k m ρ c, show V2 m ρ c main_v3 = _ from W2_v m ρ c]

end Cert.MemoryIdeal.Value

end
-- ==== Proof.Memory.Run.lean ====
/- The run of the memory's program (its forward call, then its backward call), with what every array ends holding. -/
module

public import proofs.«01_k».proof.Proof.Gen.MemoryIdeal.Frame

@[expose] public section

set_option maxRecDepth 16384

noncomputable section

namespace Cert.MemoryIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.MemoryIdeal Cert.MemoryIdeal.Gen

variable {F : FTy → Type} [FloatOps F]
variable (m : (ℓ : Loc nD τ sig) → Buf (Elt F) ℓ) (ρ : Dev nD → PrngReg)

local notation "𝕄" => MT nD τ sig Unit (Elt F) ℕ (UR sig nD τ) ℕ

set_option backward.isDefEq.respectTransparency.types false in
/-- The run of the whole program: every array that is not private to a call ends at the last segment's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun _ h => h)

end Cert.MemoryIdeal.Value
-- ==== Proof.Memory.Claim.lean ====
/-
  The memory's value claim: the kernel leaves the derivative of the memory's layer norm and of its key and value products with respect
  to their parameters, at every argument.
-/
module

public import proofs.«01_k».proof.Defs
public import proofs.«01_k».proof.Proof.Memory.Value
public import proofs.«01_k».proof.Proof.Memory.Run
public import proofs.«01_k».proof.Proof.Gen.MemoryRefIdeal.Run
public import proofs.«01_k».proof.Proof.Gen.MemoryRefIdeal.Read

@[expose] public section

set_option maxRecDepth 16384

noncomputable section

/-! ## The reference, entry by entry -/

namespace Cert.MemoryRefIdeal.Value

open Idealize.ShloMosaic Idealize.ShloMosaic.TcCoe
open Cert.MemoryRefIdeal Cert.MemoryRefIdeal.Gen Cert.MemoryRefIdeal.Read
open Cert.Norm Cert.Rows
open Cert.MemoryIdeal.Value (row vec normed hats wgrad dm dgain dshift flat)

variable (x0 : (⟨S256x1024, .f32⟩ : BufTy).Contents (Elt Ideal)) (x1 x2 : (⟨S1x1024, .f32⟩ : BufTy).Contents (Elt Ideal))
  (x3 x4 : (⟨S1x1024x1024, .f32⟩ : BufTy).Contents (Elt Ideal)) (x5 x6 : (⟨S256x1024, .f32⟩ : BufTy).Contents (Elt Ideal))

theorem means (p : Fin 256) : val_main_v5 x0 (ix2 p 0) = mean len (row x0 p) := by
  pointwise [val_main_v5, val_main_v4, val_main_cst_0, val_main_v3, val_main_v2, val_main_cst]
theorem cens (p : Fin 256) (e : Fin 1024) : val_main_v7 x0 (ix2 p e) = cen len (row x0 p) e := by
  unfold cen
  rw [← means]
  pointwise [val_main_v7, val_main_v6]
theorem cens' (p : Fin 256) (e : Fin 1024) : val_main_v14 x0 (ix2 p e) = cen len (row x0 p) e := by
  unfold cen
  rw [← means]
  pointwise [val_main_v14, val_main_v13]
theorem rstds (p : Fin 256) : val_main_v17 x0 (ix2 p 0) = rstd len (row x0 p) := by
  unfold rstd var mean
  simp only [← cens]
  pointwise [val_main_v17, val_main_v16, val_main_v15, val_main_cst_3, val_main_v12, val_main_v11, val_main_cst_2, val_main_v10, val_main_v9,
    val_main_cst_1, val_main_v8]
theorem hats_eq (p : Fin 256) (e : Fin 1024) : val_main_v19 x0 (ix2 p e) = hats x0 (ix2 p e) := by
  show _ = hat len (row x0 p) e
  unfold hat
  rw [← cens', ← rstds]
  pointwise [val_main_v19, val_main_v18]
theorem normed_eq (p : Fin 256) (e : Fin 1024) : val_main_v25 x0 x1 x2 (ix2 p e) = normed x0 x1 x2 (ix2 p e) := by
  show _ = hats x0 (ix2 p e) * vec x1 e + vec x2 e
  rw [← hats_eq]
  pointwise [val_main_v25, val_main_v24, val_main_v23, val_main_v1, val_main_v22, val_main_v21, val_main_v20, val_main_v0]
theorem dm_eq (p : Fin 256) (e : Fin 1024) : val_main_v37 x3 x4 x5 x6 (ix2 p e) = dm x5 x6 (flat x3) (flat x4) p e := by
  refine Eq.trans ?_ (add_comm _ _)
  pointwise [val_main_v37, val_main_v36, val_main_v32, val_main_v28, val_main_v26]
  rfl

theorem wk_eq : val_main_v49 x0 x1 x2 x5 = wgrad (normed x0 x1 x2) x5 := by
  funext i
  obtain ⟨e, j, rfl⟩ : ∃ (e j : Fin 1024), i = ix2 e j := ⟨i 0, i 1, by idx_ext⟩
  refine Eq.trans (b := ∑ p : Fin 256, x5 (ix2 p j) * val_main_v25 x0 x1 x2 (ix2 p e)) ?_
    (Finset.sum_congr rfl fun p _ => by rw [normed_eq]; exact mul_comm _ _)
  pointwise [val_main_v49, val_main_v48, val_main_v38, val_main_v35, val_main_v34]
theorem wv_eq : val_main_v51 x0 x1 x2 x6 = wgrad (normed x0 x1 x2) x6 := by
  funext i
  obtain ⟨e, j, rfl⟩ : ∃ (e j : Fin 1024), i = ix2 e j := ⟨i 0, i 1, by idx_ext⟩
  refine Eq.trans (b := ∑ p : Fin 256, x6 (ix2 p j) * val_main_v25 x0 x1 x2 (ix2 p e)) ?_
    (Finset.sum_congr rfl fun p _ => by rw [normed_eq]; exact mul_comm _ _)
  pointwise [val_main_v51, val_main_v50, val_main_v33, val_main_v31, val_main_v30]
theorem dg_eq : val_main_v47 x0 x3 x4 x5 x6 = dgain (hats x0) x5 x6 (flat x3) (flat x4) := by
  funext i
  obtain ⟨e, rfl⟩ : ∃ e : Fin 1024, i = ix2 0 e := ⟨i 1, by idx_ext⟩
  refine Eq.trans (b := ∑ p : Fin 256, val_main_v19 x0 (ix2 p e) * val_main_v37 x3 x4 x5 x6 (ix2 p e)) ?_
    (Finset.sum_congr rfl fun p _ => by rw [hats_eq, dm_eq]; exact mul_comm _ _)
  pointwise [val_main_v47, val_main_v45, val_main_cst_7, val_main_v44, val_main_v43, val_main_cst_6, val_main_v42]
  try rw [Fin.sum_univ_one]
theorem db_eq : val_main_v46 x3 x4 x5 x6 = dshift x5 x6 (flat x3) (flat x4) := by
  funext i
  obtain ⟨e, rfl⟩ : ∃ e : Fin 1024, i = ix2 0 e := ⟨i 1, by idx_ext⟩
  refine Eq.trans (b := ∑ p : Fin 256, val_main_v37 x3 x4 x5 x6 (ix2 p e)) ?_ (Finset.sum_congr rfl fun p _ => dm_eq x3 x4 x5 x6 p e)
  pointwise [val_main_v46, val_main_v41, val_main_cst_5, val_main_v40, val_main_v39, val_main_cst_4]
  try rw [Fin.sum_univ_one]

end Cert.MemoryRefIdeal.Value

namespace Cert.MemoryIdeal.Value

open Idealize.ShloMosaic Idealize.ShloMosaic.TcCoe Idealize.SL.Sem
open Cert.MemoryIdeal Cert.MemoryIdeal.Gen

variable (m : (ℓ : Loc nD τ sig) → Buf (Elt Ideal) ℓ) (ρ : Dev nD → PrngReg)

theorem run_values : θ_run (defs (F := Ideal)) (onTc (τ := τ) (main (F := Ideal))) ⟨m, fun _ => 0, ρ⟩ (fun r => ∀ c : Dev nD,
      r.2.mem ((c.tc : Thread nD τ).loc main_v5_0) = W3 m ρ c (Proc.devRef .tc main_v5_0)
      ∧ r.2.mem ((c.tc : Thread nD τ).loc main_v5_1) = W3 m ρ c (Proc.devRef .tc main_v5_1)
      ∧ r.2.mem ((c.tc : Thread nD τ).loc main_v5_2) = W3 m ρ c (Proc.devRef .tc main_v5_2)
      ∧ r.2.mem ((c.tc : Thread nD τ).loc main_v5_3) = W3 m ρ c (Proc.devRef .tc main_v5_3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨h c _ (mem_uc main_v5_0 (by decide)), h c _ (mem_uc main_v5_1 (by decide)),
    h c _ (mem_uc main_v5_2 (by decide)), h c _ (mem_uc main_v5_3 (by decide)),
    (h c _ (mem_uc main_arg0 (by decide))).trans (W3_main_arg0 m ρ c), (h c _ (mem_uc main_arg1 (by decide))).trans (W3_main_arg1 m ρ c),
    (h c _ (mem_uc main_arg2 (by decide))).trans (W3_main_arg2 m ρ c), (h c _ (mem_uc main_arg3 (by decide))).trans (W3_main_arg3 m ρ c),
    (h c _ (mem_uc main_arg4 (by decide))).trans (W3_main_arg4 m ρ c), (h c _ (mem_uc main_arg5 (by decide))).trans (W3_main_arg5 m ρ c),
    (h c _ (mem_uc main_arg6 (by decide))).trans (W3_main_arg6 m ρ c)⟩) (run_all m ρ)

end Cert.MemoryIdeal.Value

namespace Cert.Memory.Claim

open Idealize.ShloMosaic Idealize.ShloMosaic.TcCoe Idealize.SL.Sem
open Cert.MemoryIdeal.Value

theorem algebraic : Cert.algebraic_MemoryIdeal_MemoryRefIdeal := by
  pair_intro
  · run_from Cert.MemoryIdeal.Value.run_values m g
  · refine θ_run_mono (Cert.MemoryRefIdeal.Value.run m' g') fun r h c => ?_
    obtain ⟨h0, h1, h2, h3, h4⟩ := h c
    obtain ⟨a0, a1, a2, a3, a4, a5, a6⟩ := hagree c
    rw [Cert.MemoryRefIdeal.Read.val_main_v49_eq, a0, a1, a2, a5, Cert.MemoryRefIdeal.Value.wk_eq] at h0
    rw [Cert.MemoryRefIdeal.Read.val_main_v51_eq, a0, a1, a2, a6, Cert.MemoryRefIdeal.Value.wv_eq] at h1
    rw [Cert.MemoryRefIdeal.Read.val_main_v47_eq, a0, a3, a4, a5, a6, Cert.MemoryRefIdeal.Value.dg_eq] at h2
    rw [Cert.MemoryRefIdeal.Read.val_main_v46_eq, a3, a4, a5, a6, Cert.MemoryRefIdeal.Value.db_eq] at h3
    exact ⟨h0.trans (W3_wk m g c).symm, h1.trans (W3_wv m g c).symm, h2.trans (W3_dg m g c).symm, h3.trans (W3_db m g c).symm, h4⟩

end Cert.Memory.Claim

end
-- ==== Proof.Afwd.Value.lean ====
/-
  What attention's forward kernel leaves over the arguments: the queries, and the softmax's rows times the values.
-/
module

public import proofs.«01_k».proof.Proof.Attn.Math
public import proofs.«01_k».proof.Proof.Gen.AfwdIdeal.Frame
public import Idealize.ShloMosaic.Lib.Pipeline.ValueKit
public import Idealize.ShloMosaic.Lib.Pointwise
public import Idealize.ShloMosaic.Lib.Claim

@[expose] public section

set_option maxRecDepth 16384

noncomputable section

namespace Cert.AfwdIdeal.Value

open Idealize.ShloMosaic Idealize.ShloMosaic.TcCoe Idealize.SL.Sem
open Idealize.ShloMosaic.Pipeline (Dat)
open Cert.AfwdIdeal Cert.AfwdIdeal.Gen
open Cert.Attn.Math

/-- A row of the queries. -/
abbrev query {n : ℕ} (X : Fin n → Fin 1024 → EReal) (W : Fin 1024 → Fin 1024 → EReal) (r : Fin n) (e : Fin 1024) : EReal := ∑ k, X r k * W k e
/-- A row of the attention's output. -/
abbrev att (q : Fin 1024 → EReal) (K V : Fin 256 → Fin 1024 → EReal) (e : Fin 1024) : EReal := ∑ j, prob q K (hd e) j * V j e

/-! ## One block of rows -/

section
variable (b0 : Vec Ideal S512x1024 .bf16) (b1 : Vec Ideal S1024x1024 .bf16) (b2 b3 : Vec Ideal S256x1024 .bf16)

theorem query_out (r : Fin 512) (e : Fin 1024) :
    out0_4 (F := Ideal) b0 b1 b2 b3 (ix2 r e) = query (fun r k => b0 (ix2 r k)) (fun k e => b1 (ix2 k e)) r e := by
  canon_tiles x h
  all_goals (obtain rfl : x = ix2 r e := by idx_ext
             open_payloads; pointwise; try rfl)

theorem att_out (r : Fin 512) (e : Fin 1024) : out0_5 (F := Ideal) b0 b1 b2 b3 (ix2 r e)
    = att (query (fun r k => b0 (ix2 r k)) (fun k e => b1 (ix2 k e)) r) (fun j e => b2 (ix2 j e)) (fun j e => b3 (ix2 j e)) e := by
  canon_tiles x h
  all_goals (open_payloads; pointwise; unfold att prob score; simp only [query, soft, den, ex, mx, sc]
             replace h0 : r.val = _ := h0; replace h1 : e.val = _ := h1; blk_point [])

end

/-! ## The final arrays -/

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![t.val, 0] :=
  (by decide +kernel : ∀ t : Fin grid0.N, _)

abbrev aX (c : Dev nD) : S4096x1024.Idx → EReal := m ((c.tc : Thread nD τ).loc main_arg0)
abbrev aW (c : Dev nD) : S1024x1024.Idx → EReal := m ((c.tc : Thread nD τ).loc main_arg1)
abbrev aK (c : Dev nD) : S256x1024.Idx → EReal := m ((c.tc : Thread nD τ).loc main_arg2)
abbrev aV (c : Dev nD) : S256x1024.Idx → EReal := m ((c.tc : Thread nD τ).loc main_arg3)

theorem V_v0 (c : Dev nD) : V m c main_v0 = aX m c := by entry_read; rfl
theorem V_v1 (c : Dev nD) : V m c main_v1 = aW m c := by entry_read; rfl
theorem V_v2 (c : Dev nD) : V m c main_v2 = aK m c := by entry_read; rfl
theorem V_v3 (c : Dev nD) : V m c main_v3 = aV m c := by entry_read; rfl

/-- Row `r` of block `t` of 4096 rows. -/
abbrev row (t : Fin cfg0.N) (r : Fin 512) : Fin 4096 := ⟨t.val * 512 + r.val, by have h : t.val < 8 := lt_of_lt_of_eq t.isLt N_0; omega⟩

theorem blk0 (c : Dev nD) (t : Fin cfg0.N) (r : Fin 512) (e : Fin 1024) : iblk m c 0 t (ix2 r e) = aX m c (ix2 (row t r) e) := by
  rw [← V_v0]; blk_point [iblk, idx t]
theorem blk1 (c : Dev nD) (t : Fin cfg0.N) (e k : Fin 1024) : iblk m c 1 t (ix2 e k) = aW m c (ix2 e k) := by
  rw [← V_v1]; blk_point [iblk, idx t]
theorem blk2 (c : Dev nD) (t : Fin cfg0.N) (j : Fin 256) (e : Fin 1024) : iblk m c 2 t (ix2 j e) = aK m c (ix2 j e) := by
  rw [← V_v2]; blk_point [iblk, idx t]
theorem blk3 (c : Dev nD) (t : Fin cfg0.N) (j : Fin 256) (e : Fin 1024) : iblk m c 3 t (ix2 j e) = aV m c (ix2 j e) := by
  rw [← V_v3]; blk_point [iblk, idx t]

/-- The queries and the attention's output of the arguments. -/
def queryOf (X : S4096x1024.Idx → EReal) (W : S1024x1024.Idx → EReal) (i : S4096x1024.Idx) : EReal :=
  query (fun r k => X (ix2 r k)) (fun k e => W (ix2 k e)) (i 0) (i 1)
def attOf (X : S4096x1024.Idx → EReal) (W : S1024x1024.Idx → EReal) (K V : S256x1024.Idx → EReal) (i : S4096x1024.Idx) : EReal :=
  att (query (fun r k => X (ix2 r k)) (fun k e => W (ix2 k e)) (i 0)) (fun j e => K (ix2 j e)) (fun j e => V (ix2 j e)) (i 1)

theorem query_at (c : Dev nD) (t : Fin cfg0.N) (y : S512x1024.Idx) (i : S4096x1024.Idx) (h0 : (i 0 : ℕ) = t.val * 512 + (y 0).val)
    (h1 : (i 1 : ℕ) = (y 1).val) : out0_4 (F := Ideal) (iblk m c 0 t) (iblk m c 1 t) (iblk m c 2 t) (iblk m c 3 t) y = queryOf (aX m c) (aW m c) i := by
  obtain ⟨p, e, rfl⟩ : ∃ (p : Fin 512) (e : Fin 1024), y = ix2 p e := ⟨y 0, y 1, by idx_ext⟩
  obtain rfl : i = ix2 (row t p) e := by idx_ext
  rw [query_out]
  simp only [query, blk0, blk1]
  rfl
theorem att_at (c : Dev nD) (t : Fin cfg0.N) (y : S512x1024.Idx) (i : S4096x1024.Idx) (h0 : (i 0 : ℕ) = t.val * 512 + (y 0).val)
    (h1 : (i 1 : ℕ) = (y 1).val) :
    out0_5 (F := Ideal) (iblk m c 0 t) (iblk m c 1 t) (iblk m c 2 t) (iblk m c 3 t) y = attOf (aX m c) (aW m c) (aK m c) (aV m c) i := by
  obtain ⟨p, e, rfl⟩ : ∃ (p : Fin 512) (e : Fin 1024), y = ix2 p e := ⟨y 0, y 1, by idx_ext⟩
  obtain rfl : i = ix2 (row t p) e := by idx_ext
  rw [att_out]
  simp only [query, blk0, blk1, blk2, blk3]
  rfl

theorem final_query (c : Dev nD) : (dats m 0 c).arrAt 4 cfg0.N = queryOf (aX m c) (aW m c) := by
  refine (dats m 0 c).arrAt_eq_of_covers 4 _ (by decide +kernel) fun t hf y => ?_
  blk_simp
  rw [after0_4]
  refine query_at m c t y _ ?_ ?_
  all_goals (blk_simp [idx t] <;> try omega)
theorem final_att (c : Dev nD) : (dats m 0 c).arrAt 5 cfg0.N = attOf (aX m c) (aW m c) (aK m c) (aV m c) := by
  refine (dats m 0 c).arrAt_eq_of_covers 5 _ (by decide +kernel) fun t hf y => ?_
  blk_simp
  rw [after0_5]
  refine att_at m c t y _ ?_ ?_
  all_goals (blk_simp [idx t] <;> try omega)

end Cert.AfwdIdeal.Value

end
-- ==== Proof.Afwd.Claim.lean ====
/-
  The value claim of attention's forward call: the kernel leaves the queries and the softmax's rows times the values, at every argument.
-/
module

public import proofs.«01_k».proof.Defs
public import proofs.«01_k».proof.Proof.Afwd.Value
public import proofs.«01_k».proof.Proof.Gen.AfwdIdeal.Value
public import proofs.«01_k».proof.Proof.Gen.AfwdRefIdeal.Run
public import proofs.«01_k».proof.Proof.Gen.AfwdRefIdeal.Read

@[expose] public section

set_option maxRecDepth 16384

noncomputable section

namespace Cert.AfwdRefIdeal.Value

open Idealize.ShloMosaic Idealize.ShloMosaic.TcCoe
open Cert.AfwdRefIdeal Cert.AfwdRefIdeal.Gen Cert.AfwdRefIdeal.Read
open Cert.Attn.Math
open Cert.AfwdIdeal.Value (query att queryOf attOf)

variable (x0 : (⟨S4096x1024, .f32⟩ : BufTy).Contents (Elt Ideal)) (x1 : (⟨S1024x1024, .f32⟩ : BufTy).Contents (Elt Ideal))
  (x2 x3 : (⟨S256x1024, .f32⟩ : BufTy).Contents (Elt Ideal))

local notation "q" => query (fun r k => x0 (ix2 r k)) (fun k e => x1 (ix2 k e))
local notation "keys" => fun (j : Fin 256) (e : Fin 1024) => x2 (ix2 j e)

theorem queries (r : Fin 4096) (e : Fin 1024) : val_main_v0 x0 x1 (ix2 r e) = q r e := by
  pointwise [val_main_v0]

theorem scores (h : Fin 4) (r : Fin 4096) (j : Fin 256) : val_main_v6 x0 x1 x2 (ix4 0 h r j) = score (q r) keys h j := by
  unfold score
  simp only [← queries]
  pointwise [val_main_v6, val_main_v4, val_main_v1, val_main_v2, val_main_v5, val_main_cst]

theorem largest (h : Fin 4) (r : Fin 4096) : val_main_v7 x0 x1 x2 (ix3 0 h r) = mx (score (q r) keys h) := by
  unfold mx
  simp only [← scores]
  generalize hy : val_main_v6 x0 x1 x2 = y
  unfold val_main_v7
  rw [hy]
  pointwise [val_main_cst_0]

theorem shifted (h : Fin 4) (r : Fin 4096) : val_main_v9 x0 x1 x2 (ix3 0 h r) = mx (score (q r) keys h) := by
  rw [val_main_v9_apply, largest, val_main_v8_apply, val_main_cst_1_apply]
  show max (Ideal.ofBits FTy.f32 4286578688#32) _ = _
  rw [ofBits_bot]
  exact max_eq_right bot_le

theorem exps (h : Fin 4) (r : Fin 4096) (j : Fin 256) : val_main_v13 x0 x1 x2 (ix4 0 h r j) = ex (score (q r) keys h) j := by
  rw [val_main_v13_apply, val_main_v12_apply, val_main_v11_apply, val_main_v10_apply]
  rw [show idx_main_v10 (idx_main_v11 (ix4 0 h r j)) = ix3 0 h r by idx_ext, shifted, scores]
  rfl

theorem att_read (r : Fin 4096) (e : Fin 1024) : val_main_v22 x0 x1 x2 x3 (ix2 r e) = att (q r) keys (fun j e => x3 (ix2 j e)) e := by
  unfold att prob soft den
  simp only [← exps]
  refine Eq.trans ?_ (Finset.sum_congr rfl fun j _ => mul_comm _ _)
  pointwise [val_main_v22, val_main_v20, val_main_v19, val_main_v18, val_main_v3, val_main_v17, val_main_v16, val_main_v15, val_main_v14, val_main_cst_2]

theorem query_eq : val_main_v21 x0 x1 = queryOf x0 x1 := by
  funext i
  obtain ⟨r, e, rfl⟩ : ∃ (r : Fin 4096) (e : Fin 1024), i = ix2 r e := ⟨i 0, i 1, by idx_ext⟩
  refine Eq.trans ?_ (queries x0 x1 r e)
  pointwise [val_main_v21]
theorem att_eq : val_main_v22 x0 x1 x2 x3 = attOf x0 x1 x2 x3 := by
  funext i
  obtain ⟨r, e, rfl⟩ : ∃ (r : Fin 4096) (e : Fin 1024), i = ix2 r e := ⟨i 0, i 1, by idx_ext⟩
  exact att_read x0 x1 x2 x3 r e

end Cert.AfwdRefIdeal.Value

namespace Cert.Afwd.Claim

open Idealize.ShloMosaic Idealize.ShloMosaic.TcCoe Idealize.SL.Sem
open Cert.AfwdIdeal.Value

theorem algebraic : Cert.algebraic_AfwdIdeal_AfwdRefIdeal := by
  pair_intro
  · run_from Cert.AfwdIdeal.Value.run_blocks m g
  · refine θ_run_mono (Cert.AfwdRefIdeal.Value.run m' g') fun r h c => ?_
    obtain ⟨h0, h1, h2⟩ := h c
    obtain ⟨a0, a1, a2, a3⟩ := hagree c
    rw [Cert.AfwdRefIdeal.Read.val_main_v21_eq, a0, a1, Cert.AfwdRefIdeal.Value.query_eq] at h0
    rw [Cert.AfwdRefIdeal.Read.val_main_v22_eq, a0, a1, a2, a3, Cert.AfwdRefIdeal.Value.att_eq] at h1
    exact ⟨h0.trans (final_query m c).symm, h1.trans (final_att m c).symm, h2⟩

end Cert.Afwd.Claim

end
-- ==== Proof.Dxattn.Run.lean ====
/- attention's layer norm (its forward call, then its backward call) -/
module

public import proofs.«01_k».proof.Proof.Gen.DxattnIdeal.Frame

@[expose] public section

set_option maxRecDepth 16384

noncomputable section

namespace Cert.DxattnIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.DxattnIdeal Cert.DxattnIdeal.Gen

variable {F : FTy → Type} [FloatOps F]
variable (m : (ℓ : Loc nD τ sig) → Buf (Elt F) ℓ) (ρ : Dev nD → PrngReg)

local notation "𝕄" => MT nD τ sig Unit (Elt F) ℕ (UR sig nD τ) ℕ

set_option backward.isDefEq.respectTransparency.types false in
/-- The run of the whole program: every array that is not private to a call ends at the last segment's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h => h)

end Cert.DxattnIdeal.Value
-- ==== Proof.Dx.lean ====
/-
  One layer norm of the step on the way back: the cotangent of a row from the saved normalised row and reciprocal deviation,
  and its agreement with the derivative for real rows.
-/
module

public import proofs.«01_k».proof.Proof.Rows

@[expose] public section

noncomputable section

namespace Cert.Dx

open Idealize.ShloMosaic
open Cert.Rows

/-- The cotangent of a row from its saved normalised row `h`, its reciprocal deviation `s` and the cotangent `d` of the normalised row. -/
abbrev backOf (h : Fin 1024 → EReal) (s : EReal) (d : Fin 1024 → EReal) (e : Fin 1024) : EReal :=
  s * (d e - Norm.mean len d - h e * Norm.mean len fun k => d k * h k)

variable {y d g : Fin 1024 → EReal} (hy : ∀ e, ∃ z : ℝ, y e = z) (hd : ∀ e, ∃ z : ℝ, d e = z) (hg : ∀ e, ∃ z : ℝ, g e = z)

include hy hd hg in
/-- For a real row the derivative's cotangent is the one the kernels write. -/
theorem back_of_vjp (e : Fin 1024) : Norm.backVjp len y (fun k => d k * g k) e = Rows.back y g d e := by
  have hb := (Norm.back_eq (N := 1024) (by norm_num) (by norm_num) hy (fun k => Reals.real_mul (hd k) (hg k)) e).1
  rwa [← len_real] at hb

end Cert.Dx

end
-- ==== Proof.Dxattn.Value.lean ====
/-
  What the forward and the backward call of attention's layer norm leave after each grid point, entry by entry: the saved normalised
  rows and reciprocal deviations; then the rows' cotangents, and the parameters' gradients as running sums.
-/
module

public import proofs.«01_k».proof.Proof.Dx
public import proofs.«01_k».proof.Proof.Dxattn.Run
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

namespace Cert.DxattnIdeal.Value

open Idealize.ShloMosaic Idealize.ShloMosaic.TcCoe Idealize.SL.Sem
open Idealize.ShloMosaic.Pipeline (Dat)
open Cert.DxattnIdeal Cert.DxattnIdeal.Gen
open Cert.Rows Cert.Dx

/-! ## The forward call's block -/

/-- Row `p` before the layer norm. -/
abbrev yOf {n : ℕ} (M : Fin n → Fin 1024 → EReal) (W : Fin 1024 → Fin 1024 → EReal) (X : Fin n → Fin 1024 → EReal) (g b : Fin 1024 → EReal)
    (p : Fin n) (e : Fin 1024) : EReal := alpha * (X p e * g e + b e) + ∑ k, M p k * W k e

section
variable (b0 : Vec Ideal S512x1024 .bf16) (b1 : Vec Ideal S1024x1024 .bf16) (b2 : Vec Ideal S512x1024 .f32) (b3 b4 b5 b6 : Vec Ideal S1x1024 .f32)

abbrev yBlk : Fin 512 → Fin 1024 → EReal :=
  yOf (fun p k => b0 (ix2 p k)) (fun k e => b1 (ix2 k e)) (fun p e => b2 (ix2 p e)) (fun e => b3 (ix2 0 e)) (fun e => b4 (ix2 0 e))

theorem hat_out (p : Fin 512) (e : Fin 1024) : out0_8 (F := Ideal) b0 b1 b2 b3 b4 b5 b6 (ix2 p e) = Norm.hat len (yBlk b0 b1 b2 b3 b4 p) e := by
  canon_tiles x h
  all_goals (obtain rfl : x = ix2 p e := by idx_ext
             open_payloads; pointwise)
theorem rstd_out (p : Fin 512) : out0_9 (F := Ideal) b0 b1 b2 b3 b4 b5 b6 (ix2 p 0) = Norm.rstd len (yBlk b0 b1 b2 b3 b4 p) := by
  canon_tiles x h
  all_goals (obtain rfl : x = ix2 p 0 := by idx_ext
             open_payloads; pointwise)

end

/-! ## The backward call's block -/

section Calls

variable (V : (c : Dev nD) → (b : Ref sig .tc) → Buf (Elt Ideal) ((c : Thread nD τ).loc b))

/-- The cotangent of row `p` after the layer norm. -/
abbrev dhOf {n : ℕ} (C Q : Fin n → Fin 1024 → EReal) (W : Fin 1024 → Fin 1024 → EReal) (p : Fin n) (e : Fin 1024) : EReal :=
  alpha * C p e + ∑ k, Q p k * W e k

abbrev dB (c : Dev nD) (t : Fin cfg1.N) : Fin 512 → Fin 1024 → EReal :=
  dhOf (fun p e => (iblk1 V c 0 t : S512x1024.Idx → EReal) (ix2 p e)) (fun p k => (iblk1 V c 1 t : S512x1024.Idx → EReal) (ix2 p k))
    (fun e k => (iblk1 V c 2 t : S1024x1024.Idx → EReal) (ix2 e k))
abbrev hB (c : Dev nD) (t : Fin cfg1.N) (p : Fin 512) (e : Fin 1024) : EReal := (iblk1 V c 3 t : S512x1024.Idx → EReal) (ix2 p e)
abbrev sB (c : Dev nD) (t : Fin cfg1.N) (p : Fin 512) : EReal := (iblk1 V c 4 t : S512x1.Idx → EReal) (ix2 p 0)
abbrev gB (c : Dev nD) (t : Fin cfg1.N) (e : Fin 1024) : EReal := (iblk1 V c 5 t : S1x1024.Idx → EReal) (ix2 0 e)

theorem dy_at (c : Dev nD) (t : Fin cfg1.N) (p : Fin 512) (e : Fin 1024) : (outsAt1 V c t.val t.isLt).1 (ix2 p e)
    = backOf (hB V c t p) (sB V c t p) (fun k => dB V c t p k * gB V c t k) e := by
  unfold hB sB dB gB
  by_cases z : t.val % 8 = 0
  on_goal 1 => rw [outsAt1_A V c t z]
  on_goal 2 => rw [outsAt1_B V c t z]
  all_goals
    generalize iblk1 V c 0 t = b0
    generalize iblk1 V c 1 t = b1
    generalize iblk1 V c 2 t = b2
    generalize iblk1 V c 3 t = b3
    generalize iblk1 V c 4 t = b4
    generalize iblk1 V c 5 t = b5
    frame_out
    open_payloads; pointwise

theorem dyb_at (c : Dev nD) (t : Fin cfg1.N) (p : Fin 512) (e : Fin 1024) : (outsAt1 V c t.val t.isLt).2.1 (ix2 p e)
    = backOf (hB V c t p) (sB V c t p) (fun k => dB V c t p k * gB V c t k) e := by
  unfold hB sB dB gB
  by_cases z : t.val % 8 = 0
  on_goal 1 => rw [outsAt1_A V c t z]
  on_goal 2 => rw [outsAt1_B V c t z]
  all_goals
    generalize iblk1 V c 0 t = b0
    generalize iblk1 V c 1 t = b1
    generalize iblk1 V c 2 t = b2
    generalize iblk1 V c 3 t = b3
    generalize iblk1 V c 4 t = b4
    generalize iblk1 V c 5 t = b5
    frame_out
    open_payloads; pointwise

theorem dg_at (c : Dev nD) (t : Fin cfg1.N) (e : Fin 1024) : (outsAt1 V c t.val t.isLt).2.2.1 (ix2 0 e)
    = (if t.val % 8 = 0 then 0 else (outsAt1 V c (t.val - 1) (Nat.lt_of_le_of_lt (Nat.sub_le _ _) t.isLt)).2.2.1 (ix2 0 e))
      + ∑ p, dB V c t p e * hB V c t p e := by
  unfold hB dB
  by_cases z : t.val % 8 = 0
  on_goal 1 => rw [outsAt1_A V c t z, if_pos z]
  on_goal 2 => rw [outsAt1_B V c t z, if_neg z]
  all_goals
    generalize iblk1 V c 0 t = b0
    generalize iblk1 V c 1 t = b1
    generalize iblk1 V c 2 t = b2
    generalize iblk1 V c 3 t = b3
    generalize iblk1 V c 4 t = b4
    generalize iblk1 V c 5 t = b5
    frame_out
    try simp (disch := first | rfl | decide) only [↓View.readCov_skip, ↓View.readCov_fill]
    open_payloads; pointwise

theorem db_at (c : Dev nD) (t : Fin cfg1.N) (e : Fin 1024) : (outsAt1 V c t.val t.isLt).2.2.2 (ix2 0 e)
    = (if t.val % 8 = 0 then 0 else (outsAt1 V c (t.val - 1) (Nat.lt_of_le_of_lt (Nat.sub_le _ _) t.isLt)).2.2.2 (ix2 0 e))
      + ∑ p, dB V c t p e := by
  unfold dB
  by_cases z : t.val % 8 = 0
  on_goal 1 => rw [outsAt1_A V c t z, if_pos z]
  on_goal 2 => rw [outsAt1_B V c t z, if_neg z]
  all_goals
    generalize iblk1 V c 0 t = b0
    generalize iblk1 V c 1 t = b1
    generalize iblk1 V c 2 t = b2
    generalize iblk1 V c 3 t = b3
    generalize iblk1 V c 4 t = b4
    generalize iblk1 V c 5 t = b5
    frame_out
    try simp (disch := first | rfl | decide) only [↓View.readCov_skip, ↓View.readCov_fill]
    open_payloads; pointwise

end Calls

end Cert.DxattnIdeal.Value

end
-- ==== Proof.Dxattn.Final.lean ====
/-
  The arrays the two calls of attention's layer norm leave, over the arrays they are given and over the program's arguments: the saved
  normalised rows and reciprocal deviations, each row's cotangent and the parameters' gradients as sums over the 4096 rows.
-/
module

public import proofs.«01_k».proof.Proof.Dxattn.Value

@[expose] public section

set_option maxRecDepth 16384

noncomputable section

namespace Cert.DxattnIdeal.Value

open Idealize.ShloMosaic Idealize.ShloMosaic.TcCoe Idealize.SL.Sem
open Idealize.ShloMosaic.Pipeline (Dat)
open Cert.DxattnIdeal Cert.DxattnIdeal.Gen
open Cert.Rows Cert.Dx

section Calls

variable (V : (c : Dev nD) → (b : Ref sig .tc) → Buf (Elt Ideal) ((c : Thread nD τ).loc b))

/-! ## The calls' arrays -/

theorem idx0 : ∀ t : Fin cfg0.N, win0_0.index t = ![t.val, 0] ∧ win0_1.index t = ![0, 0] ∧ win0_2.index t = ![t.val, 0]
    ∧ win0_3.index t = ![0, 0] ∧ win0_4.index t = ![0, 0] ∧ win0_8.index t = ![t.val, 0] ∧ win0_9.index t = ![t.val, 0] :=
  (by decide +kernel : ∀ t : Fin grid0.N, _)
theorem idx1 : ∀ t : Fin cfg1.N, win1_0.index t = ![t.val, 0] ∧ win1_1.index t = ![t.val, 0] ∧ win1_2.index t = ![0, 0]
    ∧ win1_3.index t = ![t.val, 0] ∧ win1_4.index t = ![t.val, 0] ∧ win1_5.index t = ![0, 0] ∧ win1_6.index t = ![t.val, 0]
    ∧ win1_7.index t = ![t.val, 0] ∧ win1_8.index t = ![0, 0] ∧ win1_9.index t = ![0, 0] :=
  (by decide +kernel : ∀ t : Fin grid1.N, _)

/-- Row `p` of a point's block. -/
abbrev r0 (t : Fin cfg0.N) (p : Fin 512) : Fin 4096 := ⟨t.val * 512 + p.val, by have h : t.val < 8 := lt_of_lt_of_eq t.isLt N_0; omega⟩
abbrev r1 (t : Fin cfg1.N) (p : Fin 512) : Fin 4096 := ⟨t.val * 512 + p.val, by have h : t.val < 8 := lt_of_lt_of_eq t.isLt N_1; omega⟩

theorem m0 (c : Dev nD) (t : Fin cfg0.N) (p : Fin 512) (k : Fin 1024) : (iblk0 V c 0 t : S512x1024.Idx → EReal) (ix2 p k) = V c main_v0 (ix2 (r0 t p) k) := by
  blk_point [iblk0, idx0 t]
theorem w0 (c : Dev nD) (t : Fin cfg0.N) (k e : Fin 1024) : (iblk0 V c 1 t : S1024x1024.Idx → EReal) (ix2 k e) = V c main_v1 (ix2 k e) := by
  blk_point [iblk0, idx0 t]
theorem x0 (c : Dev nD) (t : Fin cfg0.N) (p : Fin 512) (e : Fin 1024) : (iblk0 V c 2 t : S512x1024.Idx → EReal) (ix2 p e) = V c main_arg2 (ix2 (r0 t p) e) := by
  blk_point [iblk0, idx0 t]
theorem g0 (c : Dev nD) (t : Fin cfg0.N) (e : Fin 1024) : (iblk0 V c 3 t : S1x1024.Idx → EReal) (ix2 0 e) = V c main_arg3 (ix2 0 e) := by
  blk_point [iblk0, idx0 t]
theorem b0 (c : Dev nD) (t : Fin cfg0.N) (e : Fin 1024) : (iblk0 V c 4 t : S1x1024.Idx → EReal) (ix2 0 e) = V c main_arg4 (ix2 0 e) := by
  blk_point [iblk0, idx0 t]

/-- The rows before the layer norm. -/
abbrev yV (c : Dev nD) : Fin 4096 → Fin 1024 → EReal :=
  yOf (fun r k => (V c main_v0 : S4096x1024.Idx → EReal) (ix2 r k)) (fun k e => (V c main_v1 : S1024x1024.Idx → EReal) (ix2 k e))
    (fun r e => (V c main_arg2 : S4096x1024.Idx → EReal) (ix2 r e)) (fun e => (V c main_arg3 : S1x1024.Idx → EReal) (ix2 0 e))
    (fun e => (V c main_arg4 : S1x1024.Idx → EReal) (ix2 0 e))

theorem yBlk_eq (c : Dev nD) (t : Fin cfg0.N) (p : Fin 512) :
    yBlk (iblk0 V c 0 t) (iblk0 V c 1 t) (iblk0 V c 2 t) (iblk0 V c 3 t) (iblk0 V c 4 t) p = yV V c (r0 t p) := by
  funext e
  unfold yBlk yV yOf
  simp only [m0, w0, x0, g0, b0]

/-- The saved rows and reciprocal deviations as arrays. -/
def hatOf (y : Fin 4096 → Fin 1024 → EReal) (i : S4096x1024.Idx) : EReal := Norm.hat len (y (i 0)) (i 1)
def rstdOf (y : Fin 4096 → Fin 1024 → EReal) (i : S4096x1.Idx) : EReal := Norm.rstd len (y (i 0))

theorem hat_at (c : Dev nD) (t : Fin cfg0.N) (y : S512x1024.Idx) (i : S4096x1024.Idx) (h0 : (i 0 : ℕ) = t.val * 512 + (y 0).val)
    (h1 : (i 1 : ℕ) = (y 1).val) : out0_8 (F := Ideal) (iblk0 V c 0 t) (iblk0 V c 1 t) (iblk0 V c 2 t) (iblk0 V c 3 t) (iblk0 V c 4 t)
      (iblk0 V c 5 t) (iblk0 V c 6 t) y = hatOf (yV V c) i := by
  obtain ⟨p, e, rfl⟩ : ∃ (p : Fin 512) (e : Fin 1024), y = ix2 p e := ⟨y 0, y 1, by idx_ext⟩
  obtain rfl : i = ix2 (r0 t p) e := by idx_ext
  rw [hat_out, yBlk_eq]
  rfl
theorem rstd_at (c : Dev nD) (t : Fin cfg0.N) (y : S512x1.Idx) (i : S4096x1.Idx) (h0 : (i 0 : ℕ) = t.val * 512 + (y 0).val) :
    out0_9 (F := Ideal) (iblk0 V c 0 t) (iblk0 V c 1 t) (iblk0 V c 2 t) (iblk0 V c 3 t) (iblk0 V c 4 t) (iblk0 V c 5 t) (iblk0 V c 6 t) y
      = rstdOf (yV V c) i := by
  have a1 : (y 1).val < 1 := (y 1).isLt
  have b1 : (i 1).val < 1 := (i 1).isLt
  obtain ⟨p, rfl⟩ : ∃ p : Fin 512, y = ix2 p 0 := ⟨y 0, by idx_ext⟩
  obtain rfl : i = ix2 (r0 t p) 0 := by idx_ext
  rw [rstd_out, yBlk_eq]
  rfl

theorem final_h (c : Dev nD) : (dat0 V c).arrAt 8 cfg0.N = hatOf (yV V c) := by
  refine (dat0 V c).arrAt_eq_of_covers 8 _ (by decide +kernel) fun t hf y => ?_
  blk_simp
  rw [after0_8]
  refine hat_at V c t y _ ?_ ?_
  all_goals (blk_simp [idx0 t] <;> try omega)
theorem final_s (c : Dev nD) : (dat0 V c).arrAt 9 cfg0.N = rstdOf (yV V c) := by
  refine (dat0 V c).arrAt_eq_of_covers 9 _ (by decide +kernel) fun t hf y => ?_
  blk_simp
  rw [after0_9]
  refine rstd_at V c t y _ ?_
  all_goals (blk_simp [idx0 t] <;> try omega)

/-- The cotangents, the saved rows and the scale over the whole arrays. -/
abbrev dV (c : Dev nD) : Fin 4096 → Fin 1024 → EReal :=
  dhOf (fun r e => (V c main_arg8 : S4096x1024.Idx → EReal) (ix2 r e)) (fun r k => (V c main_v3 : S4096x1024.Idx → EReal) (ix2 r k))
    (fun e k => (V c main_v4 : S1024x1024.Idx → EReal) (ix2 e k))
abbrev hV (c : Dev nD) (r : Fin 4096) (e : Fin 1024) : EReal := (V c main_v2_1 : S4096x1024.Idx → EReal) (ix2 r e)
abbrev sV (c : Dev nD) (r : Fin 4096) : EReal := (V c main_v2_2 : S4096x1.Idx → EReal) (ix2 r 0)
abbrev gV (c : Dev nD) (e : Fin 1024) : EReal := (V c main_arg5 : S1x1024.Idx → EReal) (ix2 0 e)

theorem c1 (c : Dev nD) (t : Fin cfg1.N) (p : Fin 512) (e : Fin 1024) : (iblk1 V c 0 t : S512x1024.Idx → EReal) (ix2 p e) = V c main_arg8 (ix2 (r1 t p) e) := by
  blk_point [iblk1, idx1 t]
theorem q1 (c : Dev nD) (t : Fin cfg1.N) (p : Fin 512) (k : Fin 1024) : (iblk1 V c 1 t : S512x1024.Idx → EReal) (ix2 p k) = V c main_v3 (ix2 (r1 t p) k) := by
  blk_point [iblk1, idx1 t]
theorem w1 (c : Dev nD) (t : Fin cfg1.N) (e k : Fin 1024) : (iblk1 V c 2 t : S1024x1024.Idx → EReal) (ix2 e k) = V c main_v4 (ix2 e k) := by
  blk_point [iblk1, idx1 t]
theorem dB_eq (c : Dev nD) (t : Fin cfg1.N) (p : Fin 512) : dB V c t p = dV V c (r1 t p) := by
  funext e
  unfold dB dV dhOf
  simp only [c1, q1, w1]
theorem hB_eq (c : Dev nD) (t : Fin cfg1.N) (p : Fin 512) : hB V c t p = hV V c (r1 t p) := by
  funext e; unfold hB hV; blk_point [iblk1, idx1 t]
theorem sB_eq (c : Dev nD) (t : Fin cfg1.N) (p : Fin 512) : sB V c t p = sV V c (r1 t p) := by
  unfold sB sV; blk_point [iblk1, idx1 t]
theorem gB_eq (c : Dev nD) (t : Fin cfg1.N) : gB V c t = gV V c := by
  funext e; unfold gB gV; blk_point [iblk1, idx1 t]

/-- The results as arrays: from the saved rows `h`, the reciprocal deviations `s`, the scale `g` and the cotangents `d`. -/
def dyOf (h : Fin 4096 → Fin 1024 → EReal) (s : Fin 4096 → EReal) (g : Fin 1024 → EReal) (d : Fin 4096 → Fin 1024 → EReal) (i : S4096x1024.Idx) : EReal :=
  backOf (h (i 0)) (s (i 0)) (fun k => d (i 0) k * g k) (i 1)
def dgOf (h d : Fin 4096 → Fin 1024 → EReal) (i : S1x1024.Idx) : EReal := ∑ r, d r (i 1) * h r (i 1)
def dbOf (d : Fin 4096 → Fin 1024 → EReal) (i : S1x1024.Idx) : EReal := ∑ r, d r (i 1)

theorem dyOf_at (c : Dev nD) (t : Fin cfg1.N) (y : S512x1024.Idx) (i : S4096x1024.Idx) (h0 : (i 0 : ℕ) = t.val * 512 + (y 0).val)
    (h1 : (i 1 : ℕ) = (y 1).val) : (outsAt1 V c t.val t.isLt).1 y = dyOf (hV V c) (sV V c) (gV V c) (dV V c) i
      ∧ (outsAt1 V c t.val t.isLt).2.1 y = dyOf (hV V c) (sV V c) (gV V c) (dV V c) i := by
  obtain ⟨p, e, rfl⟩ : ∃ (p : Fin 512) (e : Fin 1024), y = ix2 p e := ⟨y 0, y 1, by idx_ext⟩
  obtain rfl : i = ix2 (r1 t p) e := by idx_ext
  rw [dy_at, dyb_at, dB_eq, hB_eq, sB_eq, gB_eq]
  exact ⟨rfl, rfl⟩
theorem dgOf_at (c : Dev nD) (t : Fin cfg1.N) (ht : t.val % 8 = 7) (y i : S1x1024.Idx) (h1 : (i 1 : ℕ) = (y 1).val) :
    (outsAt1 V c t.val t.isLt).2.2.1 y = dgOf (hV V c) (dV V c) i := by
  have a0 : (y 0).val < 1 := (y 0).isLt
  obtain rfl : y = ix2 0 (i 1) := by idx_ext
  refine gathered N_1 (fun n h e => (outsAt1 V c n h).2.2.1 (ix2 0 e)) _ (fun r e => dV V c r e * hV V c r e) (fun t e => dg_at V c t e)
    (fun t p e => ?_) t ht (i 1)
  rw [dB_eq, hB_eq]
theorem dbOf_at (c : Dev nD) (t : Fin cfg1.N) (ht : t.val % 8 = 7) (y i : S1x1024.Idx) (h1 : (i 1 : ℕ) = (y 1).val) :
    (outsAt1 V c t.val t.isLt).2.2.2 y = dbOf (dV V c) i := by
  have a0 : (y 0).val < 1 := (y 0).isLt
  obtain rfl : y = ix2 0 (i 1) := by idx_ext
  refine gathered N_1 (fun n h e => (outsAt1 V c n h).2.2.2 (ix2 0 e)) _ (fun r e => dV V c r e) (fun t e => db_at V c t e)
    (fun t p e => ?_) t ht (i 1)
  rw [dB_eq]

theorem final_dy (c : Dev nD) : (dat1 V c).arrAt 6 cfg1.N = dyOf (hV V c) (sV V c) (gV V c) (dV V c) := by
  refine (dat1 V c).arrAt_eq_of_covers 6 _ (by decide +kernel) fun t hf y => ?_
  blk_simp
  rw [after1_6]
  refine (dyOf_at V c t y _ ?_ ?_).1
  all_goals (blk_simp [idx1 t] <;> try omega)
theorem final_dyb (c : Dev nD) : (dat1 V c).arrAt 7 cfg1.N = dyOf (hV V c) (sV V c) (gV V c) (dV V c) := by
  refine (dat1 V c).arrAt_eq_of_covers 7 _ (by decide +kernel) fun t hf y => ?_
  blk_simp
  rw [after1_7]
  refine (dyOf_at V c t y _ ?_ ?_).2
  all_goals (blk_simp [idx1 t] <;> try omega)
theorem final_dg (c : Dev nD) : (dat1 V c).arrAt 8 cfg1.N = dgOf (hV V c) (dV V c) := by
  refine (dat1 V c).arrAt_eq_of_covers 8 _ (by decide +kernel) fun t hf y => ?_
  blk_simp
  rw [after1_8]
  refine dgOf_at V c t ((flush1_8 t).mp hf) y _ ?_
  all_goals (blk_simp [idx1 t] <;> try omega)
theorem final_db (c : Dev nD) : (dat1 V c).arrAt 9 cfg1.N = dbOf (dV V c) := by
  refine (dat1 V c).arrAt_eq_of_covers 9 _ (by decide +kernel) fun t hf y => ?_
  blk_simp
  rw [after1_9]
  refine dbOf_at V c t ((flush1_9 t).mp hf) y _ ?_
  all_goals (blk_simp [idx1 t] <;> try omega)

end Calls

/-! ## Over the program's arguments -/

variable (m : (ℓ : Loc nD τ sig) → Buf (Elt Ideal) ℓ) (ρ : Dev nD → PrngReg)

abbrev aM (c : Dev nD) : S4096x1024.Idx → EReal := m ((c.tc : Thread nD τ).loc main_arg0)
abbrev aO (c : Dev nD) : S1024x1024.Idx → EReal := m ((c.tc : Thread nD τ).loc main_arg1)
abbrev aX (c : Dev nD) : S4096x1024.Idx → EReal := m ((c.tc : Thread nD τ).loc main_arg2)
abbrev aP (c : Dev nD) : S1x1024.Idx → EReal := m ((c.tc : Thread nD τ).loc main_arg3)
abbrev aR (c : Dev nD) : S1x1024.Idx → EReal := m ((c.tc : Thread nD τ).loc main_arg4)
abbrev aG (c : Dev nD) : S1x1024.Idx → EReal := m ((c.tc : Thread nD τ).loc main_arg5)
abbrev aQ (c : Dev nD) : S1024x1024.Idx → EReal := m ((c.tc : Thread nD τ).loc main_arg7)
abbrev aC (c : Dev nD) : S4096x1024.Idx → EReal := m ((c.tc : Thread nD τ).loc main_arg8)
abbrev aD (c : Dev nD) : S4096x1024.Idx → EReal := m ((c.tc : Thread nD τ).loc main_arg9)

/-- The rows before the layer norm, their cotangents after it, and its scale. -/
abbrev yA (M : S4096x1024.Idx → EReal) (O : S1024x1024.Idx → EReal) (X : S4096x1024.Idx → EReal) (P R : S1x1024.Idx → EReal) : Fin 4096 → Fin 1024 → EReal :=
  yOf (fun r k => M (ix2 r k)) (fun k e => O (ix2 k e)) (fun r e => X (ix2 r e)) (fun e => P (ix2 0 e)) (fun e => R (ix2 0 e))
abbrev dA (Q : S1024x1024.Idx → EReal) (C D : S4096x1024.Idx → EReal) : Fin 4096 → Fin 1024 → EReal :=
  dhOf (fun r e => C (ix2 r e)) (fun r k => D (ix2 r k)) (fun e k => Q (ix2 e k))
abbrev gA (G : S1x1024.Idx → EReal) (e : Fin 1024) : EReal := G (ix2 0 e)

theorem W1_m (c : Dev nD) : V1 m ρ c main_v0 = aM m c := by
  unfold V1 W1 W0; after_results; rfl
theorem W1_o (c : Dev nD) : V1 m ρ c main_v1 = aO m c := by
  unfold V1 W1 W0; after_results; rfl
theorem W3_d (c : Dev nD) : V3 m ρ c main_v3 = aD m c := by
  refine Eq.trans (b := (W2 m ρ c (Proc.devRef .tc main_arg9) : S4096x1024.Idx → EReal)) ?_ (W2_args m ρ c main_arg9 (by decide))
  unfold V3 W3; after_results; rfl
theorem W3_q (c : Dev nD) : V3 m ρ c main_v4 = aQ m c := by
  refine Eq.trans (b := (W2 m ρ c (Proc.devRef .tc main_arg7) : S1024x1024.Idx → EReal)) ?_ (W2_args m ρ c main_arg7 (by decide))
  unfold V3 W3; after_results; rfl

theorem yV_eq (c : Dev nD) : yV (V1 m ρ) c = yA (aM m c) (aO m c) (aX m c) (aP m c) (aR m c) := by
  unfold yV
  rw [W1_m, W1_o, show V1 m ρ c main_arg2 = aX m c from W1_args m ρ c main_arg2 (by decide),
    show V1 m ρ c main_arg3 = aP m c from W1_args m ρ c main_arg3 (by decide), show V1 m ρ c main_arg4 = aR m c from W1_args m ρ c main_arg4 (by decide)]
theorem W3_h (c : Dev nD) : V3 m ρ c main_v2_1 = hatOf (yA (aM m c) (aO m c) (aX m c) (aP m c) (aR m c)) := by
  rw [← yV_eq m ρ c]
  exact (W3_of m ρ c main_v2_1 (by decide)).trans ((W2_arr m ρ c 8).trans (final_h (V1 m ρ) c))
theorem W3_s (c : Dev nD) : V3 m ρ c main_v2_2 = rstdOf (yA (aM m c) (aO m c) (aX m c) (aP m c) (aR m c)) := by
  rw [← yV_eq m ρ c]
  exact (W3_of m ρ c main_v2_2 (by decide)).trans ((W2_arr m ρ c 9).trans (final_s (V1 m ρ) c))

theorem hV_eq (c : Dev nD) : hV (V3 m ρ) c = fun r => Norm.hat len (yA (aM m c) (aO m c) (aX m c) (aP m c) (aR m c) r) := by
  unfold hV; rw [W3_h]; rfl
theorem sV_eq (c : Dev nD) : sV (V3 m ρ) c = fun r => Norm.rstd len (yA (aM m c) (aO m c) (aX m c) (aP m c) (aR m c) r) := by
  unfold sV; rw [W3_s]; rfl
theorem dV_eq (c : Dev nD) : dV (V3 m ρ) c = dA (aQ m c) (aC m c) (aD m c) := by
  unfold dV; rw [W3_d, W3_q, show V3 m ρ c main_arg8 = aC m c from W3_args m ρ c main_arg8 (by decide)]
theorem gV_eq (c : Dev nD) : gV (V3 m ρ) c = gA (aG m c) := by
  unfold gV; rw [show V3 m ρ c main_arg5 = aG m c from W3_args m ρ c main_arg5 (by decide)]

/-- The results over the rows `y` before the layer norm, their cotangents `d` after it and the scale `g`. -/
def rowsBack (y d : Fin 4096 → Fin 1024 → EReal) (g : Fin 1024 → EReal) (i : S4096x1024.Idx) : EReal := Rows.back (y (i 0)) g (d (i 0)) (i 1)
def scaleGrad (y d : Fin 4096 → Fin 1024 → EReal) (i : S1x1024.Idx) : EReal := ∑ r, d r (i 1) * Norm.hat len (y r) (i 1)

theorem W4_dy (c : Dev nD) : W4 m ρ c (Proc.devRef .tc main_v5_0)
    = rowsBack (yA (aM m c) (aO m c) (aX m c) (aP m c) (aR m c)) (dA (aQ m c) (aC m c) (aD m c)) (gA (aG m c)) := by
  refine (W4_arr m ρ c 6).trans ((final_dy (V3 m ρ) c).trans ?_)
  rw [hV_eq, sV_eq, dV_eq, gV_eq]; rfl
theorem W4_dyb (c : Dev nD) : W4 m ρ c (Proc.devRef .tc main_v5_1)
    = rowsBack (yA (aM m c) (aO m c) (aX m c) (aP m c) (aR m c)) (dA (aQ m c) (aC m c) (aD m c)) (gA (aG m c)) := by
  refine (W4_arr m ρ c 7).trans ((final_dyb (V3 m ρ) c).trans ?_)
  rw [hV_eq, sV_eq, dV_eq, gV_eq]; rfl
theorem W4_dg (c : Dev nD) : W4 m ρ c (Proc.devRef .tc main_v5_2)
    = scaleGrad (yA (aM m c) (aO m c) (aX m c) (aP m c) (aR m c)) (dA (aQ m c) (aC m c) (aD m c)) := by
  refine (W4_arr m ρ c 8).trans ((final_dg (V3 m ρ) c).trans ?_)
  rw [hV_eq, dV_eq]; rfl
theorem W4_db (c : Dev nD) : W4 m ρ c (Proc.devRef .tc main_v5_3) = dbOf (dA (aQ m c) (aC m c) (aD m c)) := by
  refine (W4_arr m ρ c 9).trans ((final_db (V3 m ρ) c).trans ?_)
  rw [dV_eq]

end Cert.DxattnIdeal.Value

end
-- ==== Proof.Dxattn.Ref.lean ====
/-
  The derivative of attention's layer norm as `jax.vjp` prints it, entry by entry, and for real arguments.
-/
module

public import proofs.«01_k».proof.Proof.Dx
public import proofs.«01_k».proof.Proof.Gen.DxattnRefIdeal.Read
public import Idealize.ShloMosaic.Lib.Pipeline.ValueKit
public import Idealize.ShloMosaic.Lib.Pointwise

@[expose] public section

set_option maxRecDepth 16384

noncomputable section

namespace Cert.DxattnRefIdeal.Value

open Idealize.ShloMosaic Idealize.ShloMosaic.TcCoe
open Cert.DxattnRefIdeal Cert.DxattnRefIdeal.Gen Cert.DxattnRefIdeal.Read
open Cert.Norm Cert.Rows

variable (x0 : (⟨S4096x1024, .f32⟩ : BufTy).Contents (Elt Ideal)) (x1 : (⟨S1024x1024, .f32⟩ : BufTy).Contents (Elt Ideal))
  (x2 : (⟨S4096x1024, .f32⟩ : BufTy).Contents (Elt Ideal)) (x3 x4 x5 : (⟨S1x1024, .f32⟩ : BufTy).Contents (Elt Ideal))
  (x7 : (⟨S1024x1024, .f32⟩ : BufTy).Contents (Elt Ideal)) (x8 x9 : (⟨S4096x1024, .f32⟩ : BufTy).Contents (Elt Ideal))

/-- Row `r` before the layer norm, its cotangent after it, and the scale. -/
abbrev yR (r : Fin 4096) (e : Fin 1024) : EReal := alpha * (x2 (ix2 r e) * x3 (ix2 0 e) + x4 (ix2 0 e)) + ∑ k : Fin 1024, x0 (ix2 r k) * x1 (ix2 k e)
abbrev dR (r : Fin 4096) (e : Fin 1024) : EReal := alpha * x8 (ix2 r e) + ∑ k : Fin 1024, x9 (ix2 r k) * x7 (ix2 e k)
abbrev gR (e : Fin 1024) : EReal := x5 (ix2 0 e)

theorem rows (r : Fin 4096) (e : Fin 1024) : val_main_v11 x0 x1 x2 x3 x4 (ix2 r e) = yR x0 x1 x2 x3 x4 r e := by
  pointwise [val_main_v11, val_main_v10, val_main_v9, val_main_v8, val_main_cst, val_main_v7, val_main_v6, val_main_v5, val_main_v4, val_main_v3,
    val_main_v2, val_main_v1, val_main_v0]
theorem dhs (r : Fin 4096) (e : Fin 1024) : val_main_v49 x7 x8 x9 (ix2 r e) = dR x7 x8 x9 r e := by
  refine Eq.trans ?_ (add_comm _ _)
  pointwise [val_main_v49, val_main_v48, val_main_v47, val_main_cst_8, val_main_v46]

theorem means (r : Fin 4096) : val_main_v17 x0 x1 x2 x3 x4 (ix2 r 0) = mean len (yR x0 x1 x2 x3 x4 r) := by
  unfold mean
  simp only [← rows]
  pointwise [val_main_v17, val_main_v16, val_main_cst_1, val_main_v15, val_main_v14, val_main_cst_0]
theorem cens (r : Fin 4096) (e : Fin 1024) : val_main_v19 x0 x1 x2 x3 x4 (ix2 r e) = cen len (yR x0 x1 x2 x3 x4 r) e := by
  unfold cen
  rw [← means, ← rows]
  pointwise [val_main_v19, val_main_v18]
theorem cens' (r : Fin 4096) (e : Fin 1024) : val_main_v28 x0 x1 x2 x3 x4 (ix2 r e) = cen len (yR x0 x1 x2 x3 x4 r) e := by
  unfold cen
  rw [← means, ← rows]
  pointwise [val_main_v28, val_main_v27]
theorem vars (r : Fin 4096) : val_main_v30 x0 x1 x2 x3 x4 (ix2 r 0) = var len (yR x0 x1 x2 x3 x4 r) + eps := by
  unfold var mean
  simp only [← cens]
  pointwise [val_main_v30, val_main_v29, val_main_cst_5, val_main_v26, val_main_v25, val_main_cst_4, val_main_v24, val_main_v23, val_main_cst_3, val_main_v20]
theorem rstds (r : Fin 4096) : val_main_v31 x0 x1 x2 x3 x4 (ix2 r 0) = rstd len (yR x0 x1 x2 x3 x4 r) := by
  unfold rstd
  rw [← vars]
  pointwise [val_main_v31]
theorem hats (r : Fin 4096) (e : Fin 1024) : val_main_v36 x0 x1 x2 x3 x4 (ix2 r e) = hat len (yR x0 x1 x2 x3 x4 r) e := by
  unfold hat
  rw [← cens', ← rstds]
  pointwise [val_main_v36, val_main_v35]

/-- The cotangent of the normalised row. -/
theorem dxhs (r : Fin 4096) (e : Fin 1024) : val_main_v57 x5 x7 x8 x9 (ix2 r e) = dR x7 x8 x9 r e * gR x5 e := by
  rw [← dhs]
  pointwise [val_main_v57, val_main_v56, val_main_v37, val_main_v12]

theorem vias (r : Fin 4096) (e : Fin 1024) : val_main_v72 x0 x1 x2 x3 x4 x5 x7 x8 x9 (ix2 r e)
    = viaVar len (yR x0 x1 x2 x3 x4 r) (fun e => dR x7 x8 x9 r e * gR x5 e) e := by
  unfold viaVar
  rw [← cens]
  simp only [← cens', ← rstds, ← vars, ← dxhs]
  pointwise [val_main_v72, val_main_v71, val_main_v70, val_main_cst_16, val_main_v69, val_main_v68, val_main_cst_15, val_main_v64, val_main_v61,
    val_main_v60, val_main_cst_13, val_main_v59, val_main_v34, val_main_v33, val_main_cst_6, val_main_v32, val_main_v22, val_main_v21, val_main_cst_2]
  rw [Fin.sum_univ_one]

theorem backs (r : Fin 4096) (e : Fin 1024) : val_main_v82 x0 x1 x2 x3 x4 x5 x7 x8 x9 (ix2 r e)
    = backVjp len (yR x0 x1 x2 x3 x4 r) (fun e => dR x7 x8 x9 r e * gR x5 e) e := by
  unfold backVjp
  simp only [← vias]
  simp only [← rstds, ← dxhs]
  pointwise [val_main_v82, val_main_v81, val_main_v80, val_main_cst_19, val_main_v79, val_main_v78, val_main_cst_18, val_main_v77, val_main_v76,
    val_main_v75, val_main_v74, val_main_cst_17, val_main_v73, val_main_v67, val_main_v66, val_main_cst_14, val_main_v65, val_main_v63, val_main_v62]
  rw [Fin.sum_univ_one]

theorem dg_read (e : Fin 1024) : val_main_v84 x0 x1 x2 x3 x4 x7 x8 x9 (ix2 0 e) = ∑ r, dR x7 x8 x9 r e * hat len (yR x0 x1 x2 x3 x4 r) e := by
  refine Eq.trans (b := ∑ r, val_main_v36 x0 x1 x2 x3 x4 (ix2 r e) * val_main_v49 x7 x8 x9 (ix2 r e)) ?_
    (Finset.sum_congr rfl fun r _ => by rw [hats, dhs, mul_comm])
  pointwise [val_main_v84, val_main_v58, val_main_cst_12, val_main_v55, val_main_v54, val_main_cst_11, val_main_v53]
  try rw [Fin.sum_univ_one]
theorem db_read (e : Fin 1024) : val_main_v83 x7 x8 x9 (ix2 0 e) = ∑ r, dR x7 x8 x9 r e := by
  simp only [← dhs]
  pointwise [val_main_v83, val_main_v52, val_main_cst_10, val_main_v51, val_main_v50, val_main_cst_9]
  try rw [Fin.sum_univ_one]

/-! ## The row's cotangent for real arguments -/

variable (h0 : ∀ i, ∃ r : ℝ, (x0 i : EReal) = r) (h1 : ∀ i, ∃ r : ℝ, (x1 i : EReal) = r) (h2 : ∀ i, ∃ r : ℝ, (x2 i : EReal) = r)
  (h3 : ∀ i, ∃ r : ℝ, (x3 i : EReal) = r) (h4 : ∀ i, ∃ r : ℝ, (x4 i : EReal) = r) (h5 : ∀ i, ∃ r : ℝ, (x5 i : EReal) = r)
  (h7 : ∀ i, ∃ r : ℝ, (x7 i : EReal) = r) (h8 : ∀ i, ∃ r : ℝ, (x8 i : EReal) = r) (h9 : ∀ i, ∃ r : ℝ, (x9 i : EReal) = r)

include h0 h1 h2 h3 h4 h5 h7 h8 h9 in
theorem dy_eq (r : Fin 4096) (e : Fin 1024) : val_main_v82 x0 x1 x2 x3 x4 x5 x7 x8 x9 (ix2 r e) = Rows.back (yR x0 x1 x2 x3 x4 r) (gR x5) (dR x7 x8 x9 r) e :=
  (backs x0 x1 x2 x3 x4 x5 x7 x8 x9 r e).trans (Dx.back_of_vjp
    (fun e => Reals.real_add (Reals.real_mul alpha_real (Reals.real_add (Reals.real_mul (h2 _) (h3 _)) (h4 _)))
      (Reals.real_sum fun k => Reals.real_mul (h0 _) (h1 _)))
    (fun e => Reals.real_add (Reals.real_mul alpha_real (h8 _)) (Reals.real_sum fun k => Reals.real_mul (h9 _) (h7 _))) (fun e => h5 _) e)

end Cert.DxattnRefIdeal.Value

end
-- ==== Proof.Dxattn.Claim.lean ====
/-
  The value claim of attention's layer norm backward: the kernel leaves the rows' cotangents and the parameters' gradients, for finite
  arguments.
-/
module

public import proofs.«01_k».proof.Defs
public import proofs.«01_k».proof.Proof.Dxattn.Run
public import proofs.«01_k».proof.Proof.Dxattn.Final
public import proofs.«01_k».proof.Proof.Dxattn.Ref
public import proofs.«01_k».proof.Proof.Gen.DxattnRefIdeal.Run

@[expose] public section

set_option maxRecDepth 16384

noncomputable section

/-! ## The precondition -/

namespace Cert.Pre_finite7

open Idealize.ShloMosaic

instance facts : Cert.Pre_finite7.Facts :=
  ⟨by decide, by decide, by decide, by decide, by decide, by decide, by decide⟩

theorem real_args {o : FVec Ideal S4096x1024 .f32} {w : FVec Ideal S1024x1024 .f32} {x : FVec Ideal S4096x1024 .f32} {p : FVec Ideal S1x1024 .f32} {q : FVec Ideal S1x1024 .f32} {g : FVec Ideal S1x1024 .f32} {b : FVec Ideal S1x1024 .f32} {u : FVec Ideal S1024x1024 .f32} {t : FVec Ideal S4096x1024 .f32} {d : FVec Ideal S4096x1024 .f32}
    (h : fn (F := Ideal) o w x p q g b u t d = fun _ => 1#1) :
    (∀ i, ∃ r : ℝ, o i = (r : EReal))
      ∧ (∀ i, ∃ r : ℝ, w i = (r : EReal))
      ∧ (∀ i, ∃ r : ℝ, x i = (r : EReal))
      ∧ (∀ i, ∃ r : ℝ, p i = (r : EReal))
      ∧ (∀ i, ∃ r : ℝ, q i = (r : EReal))
      ∧ (∀ i, ∃ r : ℝ, g i = (r : EReal))
      ∧ (∀ i, ∃ r : ℝ, u i = (r : EReal))
      ∧ (∀ i, ∃ r : ℝ, t i = (r : EReal))
      ∧ (∀ i, ∃ r : ℝ, d i = (r : EReal)) := by
  have e := congrFun h (fun a => a.elim0)
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  haveI : Subsingleton S_.Idx := ⟨fun a b => funext fun i => i.elim0⟩
  exact ⟨fun i => Reals.real_of_cmp (Host.reduce_andi_all _ _ _ _ _ e1 i),
    fun i => Reals.real_of_cmp (Host.reduce_andi_all _ _ _ _ _ e2 i),
    fun i => Reals.real_of_cmp (Host.reduce_andi_all _ _ _ _ _ e3 i),
    fun i => Reals.real_of_cmp (Host.reduce_andi_all _ _ _ _ _ e4 i),
    fun i => Reals.real_of_cmp (Host.reduce_andi_all _ _ _ _ _ e5 i),
    fun i => Reals.real_of_cmp (Host.reduce_andi_all _ _ _ _ _ e6 i),
    fun i => Reals.real_of_cmp (Host.reduce_andi_all _ _ _ _ _ e7 i),
    fun i => Reals.real_of_cmp (Host.reduce_andi_all _ _ _ _ _ e8 i),
    fun i => Reals.real_of_cmp (Host.reduce_andi_all _ _ _ _ _ e9 i)⟩

end Cert.Pre_finite7

namespace Cert.DxattnIdeal.Value

open Idealize.ShloMosaic Idealize.ShloMosaic.TcCoe Idealize.SL.Sem
open Cert.DxattnIdeal Cert.DxattnIdeal.Gen

variable (m : (ℓ : Loc nD τ sig) → Buf (Elt Ideal) ℓ) (ρ : Dev nD → PrngReg)

theorem run_values : θ_run (defs (F := Ideal)) (onTc (τ := τ) (main (F := Ideal))) ⟨m, fun _ => 0, ρ⟩ (fun r => ∀ c : Dev nD,
      r.2.mem ((c.tc : Thread nD τ).loc main_v5_0) = W4 m ρ c (Proc.devRef .tc main_v5_0)
      ∧ r.2.mem ((c.tc : Thread nD τ).loc main_v5_1) = W4 m ρ c (Proc.devRef .tc main_v5_1)
      ∧ r.2.mem ((c.tc : Thread nD τ).loc main_v5_2) = W4 m ρ c (Proc.devRef .tc main_v5_2)
      ∧ r.2.mem ((c.tc : Thread nD τ).loc main_v5_3) = W4 m ρ c (Proc.devRef .tc main_v5_3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨h c _ (mem_uc main_v5_0 (by decide)), h c _ (mem_uc main_v5_1 (by decide)), h c _ (mem_uc main_v5_2 (by decide)), h c _ (mem_uc main_v5_3 (by decide)),
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c)⟩) (run_all m ρ)

end Cert.DxattnIdeal.Value

namespace Cert.Dxattn.Claim

open Idealize.ShloMosaic Idealize.ShloMosaic.TcCoe Idealize.SL.Sem
open Cert.DxattnIdeal.Value

section Reference

open Cert.DxattnRefIdeal Cert.DxattnRefIdeal.Read

variable (x0 : (⟨S4096x1024, .f32⟩ : BufTy).Contents (Elt Ideal)) (x1 : (⟨S1024x1024, .f32⟩ : BufTy).Contents (Elt Ideal))
  (x2 : (⟨S4096x1024, .f32⟩ : BufTy).Contents (Elt Ideal)) (x3 x4 x5 : (⟨S1x1024, .f32⟩ : BufTy).Contents (Elt Ideal))
  (x7 : (⟨S1024x1024, .f32⟩ : BufTy).Contents (Elt Ideal)) (x8 x9 : (⟨S4096x1024, .f32⟩ : BufTy).Contents (Elt Ideal))

theorem dy (h0 : ∀ i, ∃ r : ℝ, (x0 i : EReal) = r) (h1 : ∀ i, ∃ r : ℝ, (x1 i : EReal) = r) (h2 : ∀ i, ∃ r : ℝ, (x2 i : EReal) = r)
    (h3 : ∀ i, ∃ r : ℝ, (x3 i : EReal) = r) (h4 : ∀ i, ∃ r : ℝ, (x4 i : EReal) = r) (h5 : ∀ i, ∃ r : ℝ, (x5 i : EReal) = r)
    (h7 : ∀ i, ∃ r : ℝ, (x7 i : EReal) = r) (h8 : ∀ i, ∃ r : ℝ, (x8 i : EReal) = r) (h9 : ∀ i, ∃ r : ℝ, (x9 i : EReal) = r) :
    val_main_v82 x0 x1 x2 x3 x4 x5 x7 x8 x9 = rowsBack (yA x0 x1 x2 x3 x4) (dA x7 x8 x9) (gA x5) := by
  funext i
  obtain ⟨r, e, rfl⟩ : ∃ (r : Fin 4096) (e : Fin 1024), i = ix2 r e := ⟨i 0, i 1, by idx_ext⟩
  exact Cert.DxattnRefIdeal.Value.dy_eq x0 x1 x2 x3 x4 x5 x7 x8 x9 h0 h1 h2 h3 h4 h5 h7 h8 h9 r e
/-- The cast of the rows' cotangents is the identity. -/
theorem dyb : val_main_v85 x0 x1 x2 x3 x4 x5 x7 x8 x9 = val_main_v82 x0 x1 x2 x3 x4 x5 x7 x8 x9 := rfl
theorem dg : val_main_v84 x0 x1 x2 x3 x4 x7 x8 x9 = scaleGrad (yA x0 x1 x2 x3 x4) (dA x7 x8 x9) := by
  funext i
  obtain ⟨e, rfl⟩ : ∃ e : Fin 1024, i = ix2 0 e := ⟨i 1, by idx_ext⟩
  exact Cert.DxattnRefIdeal.Value.dg_read x0 x1 x2 x3 x4 x7 x8 x9 e
theorem db : val_main_v83 x7 x8 x9 = dbOf (dA x7 x8 x9) := by
  funext i
  obtain ⟨e, rfl⟩ : ∃ e : Fin 1024, i = ix2 0 e := ⟨i 1, by idx_ext⟩
  exact Cert.DxattnRefIdeal.Value.db_read x7 x8 x9 e

end Reference

theorem algebraic : Cert.algebraic_DxattnIdeal_DxattnRefIdeal_pre_finite7 := by
  pair_intro
  · run_from Cert.DxattnIdeal.Value.run_values m g
  · refine θ_run_mono (Cert.DxattnRefIdeal.Value.run m' g') fun r h c => ?_
    obtain ⟨f0, f1, f2, f3, f4, f5, f7, f8, f9⟩ := Cert.Pre_finite7.real_args (hpre c)
    obtain ⟨h0, h1, h2, h3, h4⟩ := h c
    obtain ⟨a0, a1, a2, a3, a4, a5, a6, a7, a8, a9⟩ := hagree c
    rw [Cert.DxattnRefIdeal.Read.val_main_v82_eq, a0, a1, a2, a3, a4, a5, a7, a8, a9, dy _ _ _ _ _ _ _ _ _ f0 f1 f2 f3 f4 f5 f7 f8 f9] at h0
    rw [Cert.DxattnRefIdeal.Read.val_main_v85_eq, a0, a1, a2, a3, a4, a5, a7, a8, a9, dyb, dy _ _ _ _ _ _ _ _ _ f0 f1 f2 f3 f4 f5 f7 f8 f9] at h1
    rw [Cert.DxattnRefIdeal.Read.val_main_v84_eq, a0, a1, a2, a3, a4, a7, a8, a9, dg] at h2
    rw [Cert.DxattnRefIdeal.Read.val_main_v83_eq, a7, a8, a9, db] at h3
    exact ⟨h0.trans (W4_dy m g c).symm, h1.trans (W4_dyb m g c).symm, h2.trans (W4_dg m g c).symm, h3.trans (W4_db m g c).symm, h4⟩

end Cert.Dxattn.Claim

end
-- ==== Proof.Dxmix.Run.lean ====
/- the mixing's layer norm (its forward call, then its backward call) -/
module

public import proofs.«01_k».proof.Proof.Gen.DxmixIdeal.Frame

@[expose] public section

set_option maxRecDepth 16384

noncomputable section

namespace Cert.DxmixIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.DxmixIdeal Cert.DxmixIdeal.Gen

variable {F : FTy → Type} [FloatOps F]
variable (m : (ℓ : Loc nD τ sig) → Buf (Elt F) ℓ) (ρ : Dev nD → PrngReg)

local notation "𝕄" => MT nD τ sig Unit (Elt F) ℕ (UR sig nD τ) ℕ

set_option backward.isDefEq.respectTransparency.types false in
/-- The run of the whole program: every array that is not private to a call ends at the last segment's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun _ h => h)

end Cert.DxmixIdeal.Value
-- ==== Proof.Dxmix.Value.lean ====
/-
  What the forward and the backward call of the mixing part's layer norm leave after each grid point, entry by entry: the saved
  normalised rows and reciprocal deviations; then the rows' cotangents, and the parameters' gradients as running sums. The cotangent of
  the projection comes in six pieces of 512 columns, each contracted with the weight's columns at its place.
-/
module

public import proofs.«01_k».proof.Proof.Dx
public import proofs.«01_k».proof.Proof.Dxmix.Run
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

namespace Cert.DxmixIdeal.Value

open Idealize.ShloMosaic Idealize.ShloMosaic.TcCoe Idealize.SL.Sem
open Idealize.ShloMosaic.Pipeline (Dat)
open Cert.DxmixIdeal Cert.DxmixIdeal.Gen
open Cert.Rows Cert.Dx

/-! ## The forward call's block -/

/-- Row `p` before the layer norm, from the packed activations and weight. -/
abbrev yOf {n l : ℕ} (S : Fin n → Fin l → EReal) (W : Fin l → Fin 1024 → EReal) (X : Fin n → Fin 1024 → EReal)
    (p : Fin n) (e : Fin 1024) : EReal := alpha * X p e + half * ∑ k, S p k * W k e

section
variable (b0 : Vec Ideal S512x3072 .bf16) (b1 : Vec Ideal S3072x1024 .bf16) (b2 : Vec Ideal S512x1024 .f32) (b3 b4 : Vec Ideal S1x1024 .f32)

abbrev yBlk : Fin 512 → Fin 1024 → EReal := yOf (fun p k => b0 (ix2 p k)) (fun k e => b1 (ix2 k e)) (fun p e => b2 (ix2 p e))

theorem hat_out (p : Fin 512) (e : Fin 1024) : out0_6 (F := Ideal) b0 b1 b2 b3 b4 (ix2 p e) = Norm.hat len (yBlk b0 b1 b2 p) e := by
  canon_tiles x h
  all_goals (obtain rfl : x = ix2 p e := by idx_ext
             open_payloads; pointwise)
theorem rstd_out (p : Fin 512) : out0_7 (F := Ideal) b0 b1 b2 b3 b4 (ix2 p 0) = Norm.rstd len (yBlk b0 b1 b2 p) := by
  canon_tiles x h
  all_goals (obtain rfl : x = ix2 p 0 := by idx_ext
             open_payloads; pointwise)

end

/-! ## The backward call's block -/

section Calls

variable (V : (c : Dev nD) → (b : Ref sig .tc) → Buf (Elt Ideal) ((c : Thread nD τ).loc b))

/-- Column `k` of the piece that begins at column `o`. -/
abbrev col (o : ℕ) (ho : o + 512 ≤ 3072) (k : Fin 512) : Fin 3072 := ⟨o + k.val, by omega⟩

/-- The cotangent of row `p` after the layer norm, from the six pieces of the projection's cotangent. -/
abbrev dhOf {n : ℕ} (C : Fin n → Fin 1024 → EReal) (D0 D1 D2 D3 D4 D5 : Fin n → Fin 512 → EReal) (W : Fin 1024 → Fin 3072 → EReal)
    (p : Fin n) (e : Fin 1024) : EReal :=
  alpha * C p e + ∑ k, D0 p k * W e ⟨k.val, by omega⟩ + ∑ k, D1 p k * W e (col 512 (by decide) k) + ∑ k, D2 p k * W e (col 1024 (by decide) k)
    + ∑ k, D3 p k * W e (col 1536 (by decide) k) + ∑ k, D4 p k * W e (col 2048 (by decide) k) + ∑ k, D5 p k * W e (col 2560 (by decide) k)

abbrev dB (c : Dev nD) (t : Fin cfg1.N) : Fin 512 → Fin 1024 → EReal :=
  dhOf (fun p e => (iblk1 V c 0 t : S512x1024.Idx → EReal) (ix2 p e)) (fun p k => (iblk1 V c 1 t : S512x512.Idx → EReal) (ix2 p k))
    (fun p k => (iblk1 V c 2 t : S512x512.Idx → EReal) (ix2 p k)) (fun p k => (iblk1 V c 3 t : S512x512.Idx → EReal) (ix2 p k))
    (fun p k => (iblk1 V c 4 t : S512x512.Idx → EReal) (ix2 p k)) (fun p k => (iblk1 V c 5 t : S512x512.Idx → EReal) (ix2 p k))
    (fun p k => (iblk1 V c 6 t : S512x512.Idx → EReal) (ix2 p k)) (fun e k => (iblk1 V c 7 t : S1024x3072.Idx → EReal) (ix2 e k))
abbrev hB (c : Dev nD) (t : Fin cfg1.N) (p : Fin 512) (e : Fin 1024) : EReal := (iblk1 V c 8 t : S512x1024.Idx → EReal) (ix2 p e)
abbrev sB (c : Dev nD) (t : Fin cfg1.N) (p : Fin 512) : EReal := (iblk1 V c 9 t : S512x1.Idx → EReal) (ix2 p 0)
abbrev gB (c : Dev nD) (t : Fin cfg1.N) (e : Fin 1024) : EReal := (iblk1 V c 10 t : S1x1024.Idx → EReal) (ix2 0 e)

theorem dy_at (c : Dev nD) (t : Fin cfg1.N) (p : Fin 512) (e : Fin 1024) : (outsAt1 V c t.val t.isLt).1 (ix2 p e)
    = backOf (hB V c t p) (sB V c t p) (fun k => dB V c t p k * gB V c t k) e := by
  unfold hB sB dB gB
  by_cases z : t.val % 8 = 0
  on_goal 1 => rw [outsAt1_A V c t z]
  on_goal 2 => rw [outsAt1_B V c t z]
  all_goals
    generalize iblk1 V c 0 t = b0
    generalize iblk1 V c 1 t = b1
    generalize iblk1 V c 2 t = b2
    generalize iblk1 V c 3 t = b3
    generalize iblk1 V c 4 t = b4
    generalize iblk1 V c 5 t = b5
    generalize iblk1 V c 6 t = b6
    generalize iblk1 V c 7 t = b7
    generalize iblk1 V c 8 t = b8
    generalize iblk1 V c 9 t = b9
    generalize iblk1 V c 10 t = b10
    frame_out
    open_payloads; pointwise

theorem dyb_at (c : Dev nD) (t : Fin cfg1.N) (p : Fin 512) (e : Fin 1024) : (outsAt1 V c t.val t.isLt).2.1 (ix2 p e)
    = backOf (hB V c t p) (sB V c t p) (fun k => dB V c t p k * gB V c t k) e := by
  unfold hB sB dB gB
  by_cases z : t.val % 8 = 0
  on_goal 1 => rw [outsAt1_A V c t z]
  on_goal 2 => rw [outsAt1_B V c t z]
  all_goals
    generalize iblk1 V c 0 t = b0
    generalize iblk1 V c 1 t = b1
    generalize iblk1 V c 2 t = b2
    generalize iblk1 V c 3 t = b3
    generalize iblk1 V c 4 t = b4
    generalize iblk1 V c 5 t = b5
    generalize iblk1 V c 6 t = b6
    generalize iblk1 V c 7 t = b7
    generalize iblk1 V c 8 t = b8
    generalize iblk1 V c 9 t = b9
    generalize iblk1 V c 10 t = b10
    frame_out
    open_payloads; pointwise

theorem dg_at (c : Dev nD) (t : Fin cfg1.N) (e : Fin 1024) : (outsAt1 V c t.val t.isLt).2.2.1 (ix2 0 e)
    = (if t.val % 8 = 0 then 0 else (outsAt1 V c (t.val - 1) (Nat.lt_of_le_of_lt (Nat.sub_le _ _) t.isLt)).2.2.1 (ix2 0 e))
      + ∑ p, dB V c t p e * hB V c t p e := by
  unfold hB dB
  by_cases z : t.val % 8 = 0
  on_goal 1 => rw [outsAt1_A V c t z, if_pos z]
  on_goal 2 => rw [outsAt1_B V c t z, if_neg z]
  all_goals
    generalize iblk1 V c 0 t = b0
    generalize iblk1 V c 1 t = b1
    generalize iblk1 V c 2 t = b2
    generalize iblk1 V c 3 t = b3
    generalize iblk1 V c 4 t = b4
    generalize iblk1 V c 5 t = b5
    generalize iblk1 V c 6 t = b6
    generalize iblk1 V c 7 t = b7
    generalize iblk1 V c 8 t = b8
    generalize iblk1 V c 9 t = b9
    generalize iblk1 V c 10 t = b10
    frame_out
    try simp (disch := first | rfl | decide) only [↓View.readCov_skip, ↓View.readCov_fill]
    open_payloads; pointwise

theorem db_at (c : Dev nD) (t : Fin cfg1.N) (e : Fin 1024) : (outsAt1 V c t.val t.isLt).2.2.2 (ix2 0 e)
    = (if t.val % 8 = 0 then 0 else (outsAt1 V c (t.val - 1) (Nat.lt_of_le_of_lt (Nat.sub_le _ _) t.isLt)).2.2.2 (ix2 0 e))
      + ∑ p, dB V c t p e := by
  unfold dB
  by_cases z : t.val % 8 = 0
  on_goal 1 => rw [outsAt1_A V c t z, if_pos z]
  on_goal 2 => rw [outsAt1_B V c t z, if_neg z]
  all_goals
    generalize iblk1 V c 0 t = b0
    generalize iblk1 V c 1 t = b1
    generalize iblk1 V c 2 t = b2
    generalize iblk1 V c 3 t = b3
    generalize iblk1 V c 4 t = b4
    generalize iblk1 V c 5 t = b5
    generalize iblk1 V c 6 t = b6
    generalize iblk1 V c 7 t = b7
    generalize iblk1 V c 8 t = b8
    generalize iblk1 V c 9 t = b9
    generalize iblk1 V c 10 t = b10
    frame_out
    try simp (disch := first | rfl | decide) only [↓View.readCov_skip, ↓View.readCov_fill]
    open_payloads; pointwise

end Calls

end Cert.DxmixIdeal.Value

end
-- ==== Proof.Dxmix.Final.lean ====
/-
  The arrays the two calls of the mixing part's layer norm leave, over the arrays they are given and over the program's arguments: the saved
  normalised rows and reciprocal deviations, each row's cotangent and the parameters' gradients as sums over the 4096 rows.
-/
module

public import proofs.«01_k».proof.Proof.Dxmix.Value
public import proofs.«01_k».proof.Proof.Packed

@[expose] public section

set_option maxRecDepth 16384

noncomputable section

namespace Cert.DxmixIdeal.Value

open Idealize.ShloMosaic Idealize.ShloMosaic.TcCoe Idealize.SL.Sem
open Idealize.ShloMosaic.Pipeline (Dat)
open Cert.DxmixIdeal Cert.DxmixIdeal.Gen
open Cert.Rows Cert.Dx
open Cert.Packed (place place_cases sum_padded sum_pieces)

section Calls

variable (V : (c : Dev nD) → (b : Ref sig .tc) → Buf (Elt Ideal) ((c : Thread nD τ).loc b))

/-! ## The calls' arrays -/

theorem idx0 : ∀ t : Fin cfg0.N, win0_0.index t = ![t.val, 0] ∧ win0_1.index t = ![0, 0] ∧ win0_2.index t = ![t.val, 0]
    ∧ win0_6.index t = ![t.val, 0] ∧ win0_7.index t = ![t.val, 0] :=
  (by decide +kernel : ∀ t : Fin grid0.N, _)
theorem idx1 : ∀ t : Fin cfg1.N, win1_0.index t = ![t.val, 0] ∧ win1_1.index t = ![t.val, 0] ∧ win1_2.index t = ![t.val, 0]
    ∧ win1_3.index t = ![t.val, 0] ∧ win1_4.index t = ![t.val, 0] ∧ win1_5.index t = ![t.val, 0] ∧ win1_6.index t = ![t.val, 0]
    ∧ win1_7.index t = ![0, 0] ∧ win1_8.index t = ![t.val, 0] ∧ win1_9.index t = ![t.val, 0] ∧ win1_10.index t = ![0, 0]
    ∧ win1_11.index t = ![t.val, 0] ∧ win1_12.index t = ![t.val, 0] ∧ win1_13.index t = ![0, 0] ∧ win1_14.index t = ![0, 0] :=
  (by decide +kernel : ∀ t : Fin grid1.N, _)

/-- Row `p` of a point's block. -/
abbrev r0 (t : Fin cfg0.N) (p : Fin 512) : Fin 4096 := ⟨t.val * 512 + p.val, by have h : t.val < 8 := lt_of_lt_of_eq t.isLt N_0; omega⟩
abbrev r1 (t : Fin cfg1.N) (p : Fin 512) : Fin 4096 := ⟨t.val * 512 + p.val, by have h : t.val < 8 := lt_of_lt_of_eq t.isLt N_1; omega⟩

theorem s0 (c : Dev nD) (t : Fin cfg0.N) (p : Fin 512) (k : Fin 3072) : (iblk0 V c 0 t : S512x3072.Idx → EReal) (ix2 p k) = V c main_v7 (ix2 (r0 t p) k) := by
  blk_point [iblk0, idx0 t]
theorem w0 (c : Dev nD) (t : Fin cfg0.N) (k : Fin 3072) (e : Fin 1024) : (iblk0 V c 1 t : S3072x1024.Idx → EReal) (ix2 k e) = V c main_v15 (ix2 k e) := by
  blk_point [iblk0, idx0 t]
theorem x0 (c : Dev nD) (t : Fin cfg0.N) (p : Fin 512) (e : Fin 1024) : (iblk0 V c 2 t : S512x1024.Idx → EReal) (ix2 p e) = V c main_arg2 (ix2 (r0 t p) e) := by
  blk_point [iblk0, idx0 t]

/-- The rows before the layer norm. -/
abbrev yV (c : Dev nD) : Fin 4096 → Fin 1024 → EReal :=
  yOf (fun r k => (V c main_v7 : S4096x3072.Idx → EReal) (ix2 r k)) (fun k e => (V c main_v15 : S3072x1024.Idx → EReal) (ix2 k e))
    (fun r e => (V c main_arg2 : S4096x1024.Idx → EReal) (ix2 r e))

theorem yBlk_eq (c : Dev nD) (t : Fin cfg0.N) (p : Fin 512) : yBlk (iblk0 V c 0 t) (iblk0 V c 1 t) (iblk0 V c 2 t) p = yV V c (r0 t p) := by
  funext e
  unfold yBlk yV yOf
  simp only [s0, w0, x0]

/-- The saved rows and reciprocal deviations as arrays. -/
def hatOf (y : Fin 4096 → Fin 1024 → EReal) (i : S4096x1024.Idx) : EReal := Norm.hat len (y (i 0)) (i 1)
def rstdOf (y : Fin 4096 → Fin 1024 → EReal) (i : S4096x1.Idx) : EReal := Norm.rstd len (y (i 0))

theorem hat_at (c : Dev nD) (t : Fin cfg0.N) (y : S512x1024.Idx) (i : S4096x1024.Idx) (h0 : (i 0 : ℕ) = t.val * 512 + (y 0).val)
    (h1 : (i 1 : ℕ) = (y 1).val) : out0_6 (F := Ideal) (iblk0 V c 0 t) (iblk0 V c 1 t) (iblk0 V c 2 t) (iblk0 V c 3 t) (iblk0 V c 4 t) y = hatOf (yV V c) i := by
  obtain ⟨p, e, rfl⟩ : ∃ (p : Fin 512) (e : Fin 1024), y = ix2 p e := ⟨y 0, y 1, by idx_ext⟩
  obtain rfl : i = ix2 (r0 t p) e := by idx_ext
  rw [hat_out, yBlk_eq]
  rfl
theorem rstd_at (c : Dev nD) (t : Fin cfg0.N) (y : S512x1.Idx) (i : S4096x1.Idx) (h0 : (i 0 : ℕ) = t.val * 512 + (y 0).val) :
    out0_7 (F := Ideal) (iblk0 V c 0 t) (iblk0 V c 1 t) (iblk0 V c 2 t) (iblk0 V c 3 t) (iblk0 V c 4 t) y
      = rstdOf (yV V c) i := by
  have a1 : (y 1).val < 1 := (y 1).isLt
  have b1 : (i 1).val < 1 := (i 1).isLt
  obtain ⟨p, rfl⟩ : ∃ p : Fin 512, y = ix2 p 0 := ⟨y 0, by idx_ext⟩
  obtain rfl : i = ix2 (r0 t p) 0 := by idx_ext
  rw [rstd_out, yBlk_eq]
  rfl

theorem final_h (c : Dev nD) : (dat0 V c).arrAt 6 cfg0.N = hatOf (yV V c) := by
  refine (dat0 V c).arrAt_eq_of_covers 6 _ (by decide +kernel) fun t hf y => ?_
  blk_simp
  rw [after0_6]
  refine hat_at V c t y _ ?_ ?_
  all_goals (blk_simp [idx0 t] <;> try omega)
theorem final_s (c : Dev nD) : (dat0 V c).arrAt 7 cfg0.N = rstdOf (yV V c) := by
  refine (dat0 V c).arrAt_eq_of_covers 7 _ (by decide +kernel) fun t hf y => ?_
  blk_simp
  rw [after0_7]
  refine rstd_at V c t y _ ?_
  all_goals (blk_simp [idx0 t] <;> try omega)

/-- The cotangents, the saved rows and the scale over the whole arrays. -/
abbrev dV (c : Dev nD) : Fin 4096 → Fin 1024 → EReal :=
  dhOf (fun r e => (V c main_arg6 : S4096x1024.Idx → EReal) (ix2 r e)) (fun r k => (V c main_v18 : S4096x512.Idx → EReal) (ix2 r k))
    (fun r k => (V c main_v20 : S4096x512.Idx → EReal) (ix2 r k)) (fun r k => (V c main_v22 : S4096x512.Idx → EReal) (ix2 r k))
    (fun r k => (V c main_v24 : S4096x512.Idx → EReal) (ix2 r k)) (fun r k => (V c main_v26 : S4096x512.Idx → EReal) (ix2 r k))
    (fun r k => (V c main_v28 : S4096x512.Idx → EReal) (ix2 r k)) (fun e k => (V c main_v29 : S1024x3072.Idx → EReal) (ix2 e k))
abbrev hV (c : Dev nD) (r : Fin 4096) (e : Fin 1024) : EReal := (V c main_v16_1 : S4096x1024.Idx → EReal) (ix2 r e)
abbrev sV (c : Dev nD) (r : Fin 4096) : EReal := (V c main_v16_2 : S4096x1.Idx → EReal) (ix2 r 0)
abbrev gV (c : Dev nD) (e : Fin 1024) : EReal := (V c main_arg3 : S1x1024.Idx → EReal) (ix2 0 e)

theorem c1 (c : Dev nD) (t : Fin cfg1.N) (p : Fin 512) (e : Fin 1024) : (iblk1 V c 0 t : S512x1024.Idx → EReal) (ix2 p e) = V c main_arg6 (ix2 (r1 t p) e) := by
  blk_point [iblk1, idx1 t]
/-- The six pieces. -/
theorem d1 (c : Dev nD) (t : Fin cfg1.N) (p k : Fin 512) :
    (iblk1 V c 1 t : S512x512.Idx → EReal) (ix2 p k) = V c main_v18 (ix2 (r1 t p) k)
      ∧ (iblk1 V c 2 t : S512x512.Idx → EReal) (ix2 p k) = V c main_v20 (ix2 (r1 t p) k)
      ∧ (iblk1 V c 3 t : S512x512.Idx → EReal) (ix2 p k) = V c main_v22 (ix2 (r1 t p) k)
      ∧ (iblk1 V c 4 t : S512x512.Idx → EReal) (ix2 p k) = V c main_v24 (ix2 (r1 t p) k)
      ∧ (iblk1 V c 5 t : S512x512.Idx → EReal) (ix2 p k) = V c main_v26 (ix2 (r1 t p) k)
      ∧ (iblk1 V c 6 t : S512x512.Idx → EReal) (ix2 p k) = V c main_v28 (ix2 (r1 t p) k) := by
  refine ⟨?_, ?_, ?_, ?_, ?_, ?_⟩ <;> blk_point [iblk1, idx1 t]
theorem w1 (c : Dev nD) (t : Fin cfg1.N) (e : Fin 1024) (k : Fin 3072) : (iblk1 V c 7 t : S1024x3072.Idx → EReal) (ix2 e k) = V c main_v29 (ix2 e k) := by
  blk_point [iblk1, idx1 t]
theorem dB_eq (c : Dev nD) (t : Fin cfg1.N) (p : Fin 512) : dB V c t p = dV V c (r1 t p) := by
  funext e
  unfold dB dV dhOf
  simp only [c1, d1, w1]
theorem hB_eq (c : Dev nD) (t : Fin cfg1.N) (p : Fin 512) : hB V c t p = hV V c (r1 t p) := by
  funext e; unfold hB hV; blk_point [iblk1, idx1 t]
theorem sB_eq (c : Dev nD) (t : Fin cfg1.N) (p : Fin 512) : sB V c t p = sV V c (r1 t p) := by
  unfold sB sV; blk_point [iblk1, idx1 t]
theorem gB_eq (c : Dev nD) (t : Fin cfg1.N) : gB V c t = gV V c := by
  funext e; unfold gB gV; blk_point [iblk1, idx1 t]

/-- The results as arrays: from the saved rows `h`, the reciprocal deviations `s`, the scale `g` and the cotangents `d`. -/
def dyOf (h : Fin 4096 → Fin 1024 → EReal) (s : Fin 4096 → EReal) (g : Fin 1024 → EReal) (d : Fin 4096 → Fin 1024 → EReal) (i : S4096x1024.Idx) : EReal :=
  backOf (h (i 0)) (s (i 0)) (fun k => d (i 0) k * g k) (i 1)
def dgOf (h d : Fin 4096 → Fin 1024 → EReal) (i : S1x1024.Idx) : EReal := ∑ r, d r (i 1) * h r (i 1)
def dbOf (d : Fin 4096 → Fin 1024 → EReal) (i : S1x1024.Idx) : EReal := ∑ r, d r (i 1)

theorem dyOf_at (c : Dev nD) (t : Fin cfg1.N) (y : S512x1024.Idx) (i : S4096x1024.Idx) (h0 : (i 0 : ℕ) = t.val * 512 + (y 0).val)
    (h1 : (i 1 : ℕ) = (y 1).val) : (outsAt1 V c t.val t.isLt).1 y = dyOf (hV V c) (sV V c) (gV V c) (dV V c) i
      ∧ (outsAt1 V c t.val t.isLt).2.1 y = dyOf (hV V c) (sV V c) (gV V c) (dV V c) i := by
  obtain ⟨p, e, rfl⟩ : ∃ (p : Fin 512) (e : Fin 1024), y = ix2 p e := ⟨y 0, y 1, by idx_ext⟩
  obtain rfl : i = ix2 (r1 t p) e := by idx_ext
  rw [dy_at, dyb_at, dB_eq, hB_eq, sB_eq, gB_eq]
  exact ⟨rfl, rfl⟩
theorem dgOf_at (c : Dev nD) (t : Fin cfg1.N) (ht : t.val % 8 = 7) (y i : S1x1024.Idx) (h1 : (i 1 : ℕ) = (y 1).val) :
    (outsAt1 V c t.val t.isLt).2.2.1 y = dgOf (hV V c) (dV V c) i := by
  have a0 : (y 0).val < 1 := (y 0).isLt
  obtain rfl : y = ix2 0 (i 1) := by idx_ext
  refine gathered N_1 (fun n h e => (outsAt1 V c n h).2.2.1 (ix2 0 e)) _ (fun r e => dV V c r e * hV V c r e) (fun t e => dg_at V c t e)
    (fun t p e => ?_) t ht (i 1)
  rw [dB_eq, hB_eq]
theorem dbOf_at (c : Dev nD) (t : Fin cfg1.N) (ht : t.val % 8 = 7) (y i : S1x1024.Idx) (h1 : (i 1 : ℕ) = (y 1).val) :
    (outsAt1 V c t.val t.isLt).2.2.2 y = dbOf (dV V c) i := by
  have a0 : (y 0).val < 1 := (y 0).isLt
  obtain rfl : y = ix2 0 (i 1) := by idx_ext
  refine gathered N_1 (fun n h e => (outsAt1 V c n h).2.2.2 (ix2 0 e)) _ (fun r e => dV V c r e) (fun t e => db_at V c t e)
    (fun t p e => ?_) t ht (i 1)
  rw [dB_eq]

theorem final_dy (c : Dev nD) : (dat1 V c).arrAt 11 cfg1.N = dyOf (hV V c) (sV V c) (gV V c) (dV V c) := by
  refine (dat1 V c).arrAt_eq_of_covers 11 _ (by decide +kernel) fun t hf y => ?_
  blk_simp
  rw [after1_11]
  refine (dyOf_at V c t y _ ?_ ?_).1
  all_goals (blk_simp [idx1 t] <;> try omega)
theorem final_dyb (c : Dev nD) : (dat1 V c).arrAt 12 cfg1.N = dyOf (hV V c) (sV V c) (gV V c) (dV V c) := by
  refine (dat1 V c).arrAt_eq_of_covers 12 _ (by decide +kernel) fun t hf y => ?_
  blk_simp
  rw [after1_12]
  refine (dyOf_at V c t y _ ?_ ?_).2
  all_goals (blk_simp [idx1 t] <;> try omega)
theorem final_dg (c : Dev nD) : (dat1 V c).arrAt 13 cfg1.N = dgOf (hV V c) (dV V c) := by
  refine (dat1 V c).arrAt_eq_of_covers 13 _ (by decide +kernel) fun t hf y => ?_
  blk_simp
  rw [after1_13]
  refine dgOf_at V c t ((flush1_13 t).mp hf) y _ ?_
  all_goals (blk_simp [idx1 t] <;> try omega)
theorem final_db (c : Dev nD) : (dat1 V c).arrAt 14 cfg1.N = dbOf (dV V c) := by
  refine (dat1 V c).arrAt_eq_of_covers 14 _ (by decide +kernel) fun t hf y => ?_
  blk_simp
  rw [after1_14]
  refine dbOf_at V c t ((flush1_14 t).mp hf) y _ ?_
  all_goals (blk_simp [idx1 t] <;> try omega)

end Calls

/-! ## Over the program's arguments -/

variable (m : (ℓ : Loc nD τ sig) → Buf (Elt Ideal) ℓ) (ρ : Dev nD → PrngReg)

abbrev aS (c : Dev nD) : S4096x2816.Idx → EReal := m ((c.tc : Thread nD τ).loc main_arg0)
abbrev aW (c : Dev nD) : S2816x1024.Idx → EReal := m ((c.tc : Thread nD τ).loc main_arg1)
abbrev aX (c : Dev nD) : S4096x1024.Idx → EReal := m ((c.tc : Thread nD τ).loc main_arg2)
abbrev aG (c : Dev nD) : S1x1024.Idx → EReal := m ((c.tc : Thread nD τ).loc main_arg3)
abbrev aQ (c : Dev nD) : S1024x3072.Idx → EReal := m ((c.tc : Thread nD τ).loc main_arg5)
abbrev aC (c : Dev nD) : S4096x1024.Idx → EReal := m ((c.tc : Thread nD τ).loc main_arg6)
abbrev aD (c : Dev nD) : S4096x3072.Idx → EReal := m ((c.tc : Thread nD τ).loc main_arg7)

/-- The rows before the layer norm, their cotangents after it, and its scale. -/
abbrev yA (S : S4096x2816.Idx → EReal) (W : S2816x1024.Idx → EReal) (X : S4096x1024.Idx → EReal) : Fin 4096 → Fin 1024 → EReal :=
  yOf (fun r k => S (ix2 r k)) (fun k e => W (ix2 k e)) (fun r e => X (ix2 r e))
abbrev dA (Q : S1024x3072.Idx → EReal) (C : S4096x1024.Idx → EReal) (D : S4096x3072.Idx → EReal) (r : Fin 4096) (e : Fin 1024) : EReal :=
  alpha * C (ix2 r e) + ∑ k : Fin 3072, D (ix2 r k) * Q (ix2 e k)
abbrev gA (G : S1x1024.Idx → EReal) (e : Fin 1024) : EReal := G (ix2 0 e)

/-- The packed activations and weight, at the places of the columns and between them. -/
theorem W5_s (c : Dev nD) (r : Fin 4096) (p : Fin 2816) : (V5 m ρ c main_v7 : S4096x3072.Idx → EReal) (ix2 r (place p)) = aS m c (ix2 r p) := by
  unfold V5 W5 W4 W3 W2 W1 W0
  after_results
  simp -implicitDefEqProofs only [StableHlo.TRef.toBuf, StableHlo.TRef.ofBuf, cast_cast, cast_eq]
  rcases place_cases p with ⟨h1, h2⟩ | ⟨h1, h2⟩ <;> pointwise <;> split_ifs <;> first | omega | blk_ext
theorem W5_w (c : Dev nD) (p : Fin 2816) (e : Fin 1024) : (V5 m ρ c main_v15 : S3072x1024.Idx → EReal) (ix2 (place p) e) = aW m c (ix2 p e) := by
  unfold V5 W5 W4 W3 W2 W1 W0
  after_results
  simp -implicitDefEqProofs only [StableHlo.TRef.toBuf, StableHlo.TRef.ofBuf, cast_cast, cast_eq]
  rcases place_cases p with ⟨h1, h2⟩ | ⟨h1, h2⟩ <;> pointwise <;> split_ifs <;> first | omega | blk_ext
theorem W5_w0 (c : Dev nD) (q : Fin 3072) (e : Fin 1024) (h1 : 2048 ≤ q.val) (h2 : 96 ≤ (q.val - 2048) % 128) :
    (V5 m ρ c main_v15 : S3072x1024.Idx → EReal) (ix2 q e) = (0 : EReal) := by
  unfold V5 W5 W4 W3 W2 W1 W0
  after_results
  simp -implicitDefEqProofs only [StableHlo.TRef.toBuf, StableHlo.TRef.ofBuf, cast_cast, cast_eq]
  pointwise
  split_ifs <;> first | omega | exact (congrArg (fun z : ℝ => (z : EReal)) (by norm_num)).trans EReal.coe_zero

theorem yV_eq (c : Dev nD) : yV (V5 m ρ) c = yA (aS m c) (aW m c) (aX m c) := by
  funext r e
  unfold yV yA yOf
  rw [show V5 m ρ c main_arg2 = aX m c from W5_args m ρ c main_arg2 (by decide)]
  exact congrArg (fun z => alpha * aX m c (ix2 r e) + half * z)
    (sum_padded (fun k => W5_s m ρ c r k) (fun k => W5_w m ρ c k e) (fun q h1 h2 => W5_w0 m ρ c q e h1 h2))

/-- A piece of the projection's cotangent is its columns. -/
theorem W7_d (c : Dev nD) (r : Fin 4096) (k : Fin 512) :
    (V7 m ρ c main_v18 : S4096x512.Idx → EReal) (ix2 r k) = aD m c (ix2 r ⟨k.val, by omega⟩)
      ∧ (V7 m ρ c main_v20 : S4096x512.Idx → EReal) (ix2 r k) = aD m c (ix2 r (col 512 (by decide) k))
      ∧ (V7 m ρ c main_v22 : S4096x512.Idx → EReal) (ix2 r k) = aD m c (ix2 r (col 1024 (by decide) k))
      ∧ (V7 m ρ c main_v24 : S4096x512.Idx → EReal) (ix2 r k) = aD m c (ix2 r (col 1536 (by decide) k))
      ∧ (V7 m ρ c main_v26 : S4096x512.Idx → EReal) (ix2 r k) = aD m c (ix2 r (col 2048 (by decide) k))
      ∧ (V7 m ρ c main_v28 : S4096x512.Idx → EReal) (ix2 r k) = aD m c (ix2 r (col 2560 (by decide) k)) := by
  rw [← show W6 m ρ c (Proc.devRef .tc main_arg7) = aD m c from W6_args m ρ c main_arg7 (by decide)]
  unfold V7 W7
  generalize W6 m ρ c = W
  refine ⟨?_, ?_, ?_, ?_, ?_, ?_⟩
  all_goals
    after_results
    pointwise
theorem W7_q (c : Dev nD) : V7 m ρ c main_v29 = aQ m c := by
  refine Eq.trans (b := (W6 m ρ c (Proc.devRef .tc main_arg5) : S1024x3072.Idx → EReal)) ?_ (W6_args m ρ c main_arg5 (by decide))
  unfold V7 W7; after_results; rfl

theorem W7_h (c : Dev nD) : V7 m ρ c main_v16_1 = hatOf (yA (aS m c) (aW m c) (aX m c)) := by
  rw [← yV_eq m ρ c]
  exact (W7_of m ρ c main_v16_1 (by decide)).trans ((W6_arr m ρ c 6).trans (final_h (V5 m ρ) c))
theorem W7_s (c : Dev nD) : V7 m ρ c main_v16_2 = rstdOf (yA (aS m c) (aW m c) (aX m c)) := by
  rw [← yV_eq m ρ c]
  exact (W7_of m ρ c main_v16_2 (by decide)).trans ((W6_arr m ρ c 7).trans (final_s (V5 m ρ) c))

theorem hV_eq (c : Dev nD) : hV (V7 m ρ) c = fun r => Norm.hat len (yA (aS m c) (aW m c) (aX m c) r) := by
  unfold hV; rw [W7_h]; rfl
theorem sV_eq (c : Dev nD) : sV (V7 m ρ) c = fun r => Norm.rstd len (yA (aS m c) (aW m c) (aX m c) r) := by
  unfold sV; rw [W7_s]; rfl
theorem dV_eq (c : Dev nD) : dV (V7 m ρ) c = dA (aQ m c) (aC m c) (aD m c) := by
  funext r e
  unfold dV dhOf dA
  rw [sum_pieces, W7_q, show V7 m ρ c main_arg6 = aC m c from W7_args m ρ c main_arg6 (by decide)]
  simp only [add_assoc]
  have sc : ∀ {u v w : Fin 512 → EReal}, (∀ k, u k = v k) → ∑ k, u k * w k = ∑ k, v k * w k := fun h => Finset.sum_congr rfl fun k _ => by rw [h]
  have h := W7_d m ρ c r
  refine congrArg₂ (· + ·) rfl (congrArg₂ (· + ·) (sc fun k => (h k).1) (congrArg₂ (· + ·) (sc fun k => (h k).2.1)
    (congrArg₂ (· + ·) (sc fun k => (h k).2.2.1) (congrArg₂ (· + ·) (sc fun k => (h k).2.2.2.1)
      (congrArg₂ (· + ·) (sc fun k => (h k).2.2.2.2.1) (sc fun k => (h k).2.2.2.2.2))))))
theorem gV_eq (c : Dev nD) : gV (V7 m ρ) c = gA (aG m c) := by
  unfold gV; rw [show V7 m ρ c main_arg3 = aG m c from W7_args m ρ c main_arg3 (by decide)]

/-- The results over the rows `y` before the layer norm, their cotangents `d` after it and the scale `g`. -/
def rowsBack (y d : Fin 4096 → Fin 1024 → EReal) (g : Fin 1024 → EReal) (i : S4096x1024.Idx) : EReal := Rows.back (y (i 0)) g (d (i 0)) (i 1)
def scaleGrad (y d : Fin 4096 → Fin 1024 → EReal) (i : S1x1024.Idx) : EReal := ∑ r, d r (i 1) * Norm.hat len (y r) (i 1)

theorem W8_dy (c : Dev nD) : W8 m ρ c (Proc.devRef .tc main_v30_0)
    = rowsBack (yA (aS m c) (aW m c) (aX m c)) (dA (aQ m c) (aC m c) (aD m c)) (gA (aG m c)) := by
  refine (W8_arr m ρ c 11).trans ((final_dy (V7 m ρ) c).trans ?_)
  rw [hV_eq, sV_eq, dV_eq, gV_eq]; rfl
theorem W8_dyb (c : Dev nD) : W8 m ρ c (Proc.devRef .tc main_v30_1)
    = rowsBack (yA (aS m c) (aW m c) (aX m c)) (dA (aQ m c) (aC m c) (aD m c)) (gA (aG m c)) := by
  refine (W8_arr m ρ c 12).trans ((final_dyb (V7 m ρ) c).trans ?_)
  rw [hV_eq, sV_eq, dV_eq, gV_eq]; rfl
theorem W8_dg (c : Dev nD) : W8 m ρ c (Proc.devRef .tc main_v30_2)
    = scaleGrad (yA (aS m c) (aW m c) (aX m c)) (dA (aQ m c) (aC m c) (aD m c)) := by
  refine (W8_arr m ρ c 13).trans ((final_dg (V7 m ρ) c).trans ?_)
  rw [hV_eq, dV_eq]; rfl
theorem W8_db (c : Dev nD) : W8 m ρ c (Proc.devRef .tc main_v30_3) = dbOf (dA (aQ m c) (aC m c) (aD m c)) := by
  refine (W8_arr m ρ c 14).trans ((final_db (V7 m ρ) c).trans ?_)
  rw [dV_eq]

end Cert.DxmixIdeal.Value

end
-- ==== Proof.Dxmix.Ref.lean ====
/-
  The derivative of the mixing part's layer norm as `jax.vjp` prints it, entry by entry, and for real arguments.
-/
module

public import proofs.«01_k».proof.Proof.Dx
public import proofs.«01_k».proof.Proof.Gen.DxmixRefIdeal.Read
public import Idealize.ShloMosaic.Lib.Pipeline.ValueKit
public import Idealize.ShloMosaic.Lib.Pointwise

@[expose] public section

set_option maxRecDepth 16384

noncomputable section

namespace Cert.DxmixRefIdeal.Value

open Idealize.ShloMosaic Idealize.ShloMosaic.TcCoe
open Cert.DxmixRefIdeal Cert.DxmixRefIdeal.Gen Cert.DxmixRefIdeal.Read
open Cert.Norm Cert.Rows

variable (x0 : (⟨S4096x2816, .f32⟩ : BufTy).Contents (Elt Ideal)) (x1 : (⟨S2816x1024, .f32⟩ : BufTy).Contents (Elt Ideal))
  (x2 : (⟨S4096x1024, .f32⟩ : BufTy).Contents (Elt Ideal)) (x3 : (⟨S1x1024, .f32⟩ : BufTy).Contents (Elt Ideal))
  (x5 : (⟨S1024x3072, .f32⟩ : BufTy).Contents (Elt Ideal)) (x6 : (⟨S4096x1024, .f32⟩ : BufTy).Contents (Elt Ideal))
  (x7 : (⟨S4096x3072, .f32⟩ : BufTy).Contents (Elt Ideal))

/-- Row `r` before the layer norm, its cotangent after it, and the scale. -/
abbrev yR (r : Fin 4096) (e : Fin 1024) : EReal := alpha * x2 (ix2 r e) + half * ∑ k : Fin 2816, x0 (ix2 r k) * x1 (ix2 k e)
abbrev dR (r : Fin 4096) (e : Fin 1024) : EReal := alpha * x6 (ix2 r e) + ∑ k : Fin 3072, x7 (ix2 r k) * x5 (ix2 e k)
abbrev gR (e : Fin 1024) : EReal := x3 (ix2 0 e)

theorem rows (r : Fin 4096) (e : Fin 1024) : val_main_v5 x0 x1 x2 (ix2 r e) = yR x0 x1 x2 r e := by
  pointwise [val_main_v5, val_main_v4, val_main_v3, val_main_cst_0, val_main_v2, val_main_v1, val_main_v0, val_main_cst]
theorem dhs (r : Fin 4096) (e : Fin 1024) : val_main_v43 x5 x6 x7 (ix2 r e) = dR x5 x6 x7 r e := by
  refine Eq.trans ?_ (add_comm _ _)
  pointwise [val_main_v43, val_main_v42, val_main_v41, val_main_cst_9, val_main_v40]

theorem means (r : Fin 4096) : val_main_v11 x0 x1 x2 (ix2 r 0) = mean len (yR x0 x1 x2 r) := by
  unfold mean
  simp only [← rows]
  pointwise [val_main_v11, val_main_v10, val_main_cst_2, val_main_v9, val_main_v8, val_main_cst_1]
theorem cens (r : Fin 4096) (e : Fin 1024) : val_main_v13 x0 x1 x2 (ix2 r e) = cen len (yR x0 x1 x2 r) e := by
  unfold cen
  rw [← means, ← rows]
  pointwise [val_main_v13, val_main_v12]
theorem cens' (r : Fin 4096) (e : Fin 1024) : val_main_v22 x0 x1 x2 (ix2 r e) = cen len (yR x0 x1 x2 r) e := by
  unfold cen
  rw [← means, ← rows]
  pointwise [val_main_v22, val_main_v21]
theorem vars (r : Fin 4096) : val_main_v24 x0 x1 x2 (ix2 r 0) = var len (yR x0 x1 x2 r) + eps := by
  unfold var mean
  simp only [← cens]
  pointwise [val_main_v24, val_main_v23, val_main_cst_6, val_main_v20, val_main_v19, val_main_cst_5, val_main_v18, val_main_v17, val_main_cst_4, val_main_v14]
theorem rstds (r : Fin 4096) : val_main_v25 x0 x1 x2 (ix2 r 0) = rstd len (yR x0 x1 x2 r) := by
  unfold rstd
  rw [← vars]
  pointwise [val_main_v25]
theorem hats (r : Fin 4096) (e : Fin 1024) : val_main_v30 x0 x1 x2 (ix2 r e) = hat len (yR x0 x1 x2 r) e := by
  unfold hat
  rw [← cens', ← rstds]
  pointwise [val_main_v30, val_main_v29]

/-- The cotangent of the normalised row. -/
theorem dxhs (r : Fin 4096) (e : Fin 1024) : val_main_v51 x3 x5 x6 x7 (ix2 r e) = dR x5 x6 x7 r e * gR x3 e := by
  rw [← dhs]
  pointwise [val_main_v51, val_main_v50, val_main_v31, val_main_v6]

theorem vias (r : Fin 4096) (e : Fin 1024) : val_main_v66 x0 x1 x2 x3 x5 x6 x7 (ix2 r e)
    = viaVar len (yR x0 x1 x2 r) (fun e => dR x5 x6 x7 r e * gR x3 e) e := by
  unfold viaVar
  rw [← cens]
  simp only [← cens', ← rstds, ← vars, ← dxhs]
  pointwise [val_main_v66, val_main_v65, val_main_v64, val_main_cst_17, val_main_v63, val_main_v62, val_main_cst_16, val_main_v58, val_main_v55,
    val_main_v54, val_main_cst_14, val_main_v53, val_main_v28, val_main_v27, val_main_cst_7, val_main_v26, val_main_v16, val_main_v15, val_main_cst_3]
  rw [Fin.sum_univ_one]

theorem backs (r : Fin 4096) (e : Fin 1024) : val_main_v76 x0 x1 x2 x3 x5 x6 x7 (ix2 r e)
    = backVjp len (yR x0 x1 x2 r) (fun e => dR x5 x6 x7 r e * gR x3 e) e := by
  unfold backVjp
  simp only [← vias]
  simp only [← rstds, ← dxhs]
  pointwise [val_main_v76, val_main_v75, val_main_v74, val_main_cst_20, val_main_v73, val_main_v72, val_main_cst_19, val_main_v71, val_main_v70,
    val_main_v69, val_main_v68, val_main_cst_18, val_main_v67, val_main_v61, val_main_v60, val_main_cst_15, val_main_v59, val_main_v57, val_main_v56]
  rw [Fin.sum_univ_one]

theorem dg_read (e : Fin 1024) : val_main_v78 x0 x1 x2 x5 x6 x7 (ix2 0 e) = ∑ r, dR x5 x6 x7 r e * hat len (yR x0 x1 x2 r) e := by
  refine Eq.trans (b := ∑ r, val_main_v30 x0 x1 x2 (ix2 r e) * val_main_v43 x5 x6 x7 (ix2 r e)) ?_
    (Finset.sum_congr rfl fun r _ => by rw [hats, dhs, mul_comm])
  pointwise [val_main_v78, val_main_v52, val_main_cst_13, val_main_v49, val_main_v48, val_main_cst_12, val_main_v47]
  try rw [Fin.sum_univ_one]
theorem db_read (e : Fin 1024) : val_main_v77 x5 x6 x7 (ix2 0 e) = ∑ r, dR x5 x6 x7 r e := by
  simp only [← dhs]
  pointwise [val_main_v77, val_main_v46, val_main_cst_11, val_main_v45, val_main_v44, val_main_cst_10]
  try rw [Fin.sum_univ_one]

/-! ## The row's cotangent for real arguments -/

variable (h0 : ∀ i, ∃ r : ℝ, (x0 i : EReal) = r) (h1 : ∀ i, ∃ r : ℝ, (x1 i : EReal) = r) (h2 : ∀ i, ∃ r : ℝ, (x2 i : EReal) = r)
  (h3 : ∀ i, ∃ r : ℝ, (x3 i : EReal) = r) (h5 : ∀ i, ∃ r : ℝ, (x5 i : EReal) = r) (h6 : ∀ i, ∃ r : ℝ, (x6 i : EReal) = r)
  (h7 : ∀ i, ∃ r : ℝ, (x7 i : EReal) = r)

include h0 h1 h2 h3 h5 h6 h7 in
theorem dy_eq (r : Fin 4096) (e : Fin 1024) : val_main_v76 x0 x1 x2 x3 x5 x6 x7 (ix2 r e) = Rows.back (yR x0 x1 x2 r) (gR x3) (dR x5 x6 x7 r) e :=
  (backs x0 x1 x2 x3 x5 x6 x7 r e).trans (Dx.back_of_vjp
    (fun e => Reals.real_add (Reals.real_mul alpha_real (h2 _)) (Reals.real_mul ⟨_, half_real⟩ (Reals.real_sum fun k => Reals.real_mul (h0 _) (h1 _))))
    (fun e => Reals.real_add (Reals.real_mul alpha_real (h6 _)) (Reals.real_sum fun k => Reals.real_mul (h7 _) (h5 _))) (fun e => h3 _) e)

end Cert.DxmixRefIdeal.Value

end
-- ==== Proof.Dxmix.Claim.lean ====
/-
  The value claim of the mixing part's layer norm backward: the kernel leaves the rows' cotangents and the parameters' gradients, for finite
  arguments.
-/
module

public import proofs.«01_k».proof.Defs
public import proofs.«01_k».proof.Proof.Dxmix.Run
public import proofs.«01_k».proof.Proof.Dxmix.Final
public import proofs.«01_k».proof.Proof.Dxmix.Ref
public import proofs.«01_k».proof.Proof.Gen.DxmixRefIdeal.Run

@[expose] public section

set_option maxRecDepth 16384

noncomputable section

/-! ## The precondition -/

namespace Cert.Pre_finite8

open Idealize.ShloMosaic

instance facts : Cert.Pre_finite8.Facts :=
  ⟨by decide, by decide, by decide, by decide, by decide, by decide, by decide, by decide, by decide, by decide, by decide, by decide, by decide⟩

theorem real_args {s : FVec Ideal S4096x2816 .f32} {w : FVec Ideal S2816x1024 .f32} {x : FVec Ideal S4096x1024 .f32} {g : FVec Ideal S1x1024 .f32} {b : FVec Ideal S1x1024 .f32} {u : FVec Ideal S1024x3072 .f32} {t : FVec Ideal S4096x1024 .f32} {d : FVec Ideal S4096x3072 .f32}
    (h : fn (F := Ideal) s w x g b u t d = fun _ => 1#1) :
    (∀ i, ∃ r : ℝ, s i = (r : EReal))
      ∧ (∀ i, ∃ r : ℝ, w i = (r : EReal))
      ∧ (∀ i, ∃ r : ℝ, x i = (r : EReal))
      ∧ (∀ i, ∃ r : ℝ, g i = (r : EReal))
      ∧ (∀ i, ∃ r : ℝ, u i = (r : EReal))
      ∧ (∀ i, ∃ r : ℝ, t i = (r : EReal))
      ∧ (∀ i, ∃ r : ℝ, d i = (r : EReal)) := by
  have e := congrFun h (fun a => a.elim0)
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  haveI : Subsingleton S_.Idx := ⟨fun a b => funext fun i => i.elim0⟩
  exact ⟨fun i => Reals.real_of_cmp (Host.reduce_andi_all _ _ _ _ _ e1 i),
    fun i => Reals.real_of_cmp (Host.reduce_andi_all _ _ _ _ _ e2 i),
    fun i => Reals.real_of_cmp (Host.reduce_andi_all _ _ _ _ _ e3 i),
    fun i => Reals.real_of_cmp (Host.reduce_andi_all _ _ _ _ _ e4 i),
    fun i => Reals.real_of_cmp (Host.reduce_andi_all _ _ _ _ _ e5 i),
    fun i => Reals.real_of_cmp (Host.reduce_andi_all _ _ _ _ _ e6 i),
    fun i => Reals.real_of_cmp (Host.reduce_andi_all _ _ _ _ _ e7 i)⟩

end Cert.Pre_finite8

namespace Cert.DxmixIdeal.Value

open Idealize.ShloMosaic Idealize.ShloMosaic.TcCoe Idealize.SL.Sem
open Cert.DxmixIdeal Cert.DxmixIdeal.Gen

variable (m : (ℓ : Loc nD τ sig) → Buf (Elt Ideal) ℓ) (ρ : Dev nD → PrngReg)

theorem run_values : θ_run (defs (F := Ideal)) (onTc (τ := τ) (main (F := Ideal))) ⟨m, fun _ => 0, ρ⟩ (fun r => ∀ c : Dev nD,
      r.2.mem ((c.tc : Thread nD τ).loc main_v30_0) = W8 m ρ c (Proc.devRef .tc main_v30_0)
      ∧ r.2.mem ((c.tc : Thread nD τ).loc main_v30_1) = W8 m ρ c (Proc.devRef .tc main_v30_1)
      ∧ r.2.mem ((c.tc : Thread nD τ).loc main_v30_2) = W8 m ρ c (Proc.devRef .tc main_v30_2)
      ∧ r.2.mem ((c.tc : Thread nD τ).loc main_v30_3) = W8 m ρ c (Proc.devRef .tc main_v30_3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨h c _ (mem_uc main_v30_0 (by decide)), h c _ (mem_uc main_v30_1 (by decide)), h c _ (mem_uc main_v30_2 (by decide)), h c _ (mem_uc main_v30_3 (by decide)),
    (h c _ (mem_uc main_arg0 (by decide))).trans (W8_main_arg0 m ρ c),
    (h c _ (mem_uc main_arg1 (by decide))).trans (W8_main_arg1 m ρ c),
    (h c _ (mem_uc main_arg2 (by decide))).trans (W8_main_arg2 m ρ c),
    (h c _ (mem_uc main_arg3 (by decide))).trans (W8_main_arg3 m ρ c),
    (h c _ (mem_uc main_arg4 (by decide))).trans (W8_main_arg4 m ρ c),
    (h c _ (mem_uc main_arg5 (by decide))).trans (W8_main_arg5 m ρ c),
    (h c _ (mem_uc main_arg6 (by decide))).trans (W8_main_arg6 m ρ c),
    (h c _ (mem_uc main_arg7 (by decide))).trans (W8_main_arg7 m ρ c)⟩) (run_all m ρ)

end Cert.DxmixIdeal.Value

namespace Cert.Dxmix.Claim

open Idealize.ShloMosaic Idealize.ShloMosaic.TcCoe Idealize.SL.Sem
open Cert.DxmixIdeal.Value

section Reference

open Cert.DxmixRefIdeal Cert.DxmixRefIdeal.Read

variable (x0 : (⟨S4096x2816, .f32⟩ : BufTy).Contents (Elt Ideal)) (x1 : (⟨S2816x1024, .f32⟩ : BufTy).Contents (Elt Ideal))
  (x2 : (⟨S4096x1024, .f32⟩ : BufTy).Contents (Elt Ideal)) (x3 : (⟨S1x1024, .f32⟩ : BufTy).Contents (Elt Ideal))
  (x5 : (⟨S1024x3072, .f32⟩ : BufTy).Contents (Elt Ideal)) (x6 : (⟨S4096x1024, .f32⟩ : BufTy).Contents (Elt Ideal))
  (x7 : (⟨S4096x3072, .f32⟩ : BufTy).Contents (Elt Ideal))

theorem dy (h0 : ∀ i, ∃ r : ℝ, (x0 i : EReal) = r) (h1 : ∀ i, ∃ r : ℝ, (x1 i : EReal) = r) (h2 : ∀ i, ∃ r : ℝ, (x2 i : EReal) = r)
    (h3 : ∀ i, ∃ r : ℝ, (x3 i : EReal) = r) (h5 : ∀ i, ∃ r : ℝ, (x5 i : EReal) = r) (h6 : ∀ i, ∃ r : ℝ, (x6 i : EReal) = r)
    (h7 : ∀ i, ∃ r : ℝ, (x7 i : EReal) = r) :
    val_main_v76 x0 x1 x2 x3 x5 x6 x7 = rowsBack (yA x0 x1 x2) (dA x5 x6 x7) (gA x3) := by
  funext i
  obtain ⟨r, e, rfl⟩ : ∃ (r : Fin 4096) (e : Fin 1024), i = ix2 r e := ⟨i 0, i 1, by idx_ext⟩
  exact Cert.DxmixRefIdeal.Value.dy_eq x0 x1 x2 x3 x5 x6 x7 h0 h1 h2 h3 h5 h6 h7 r e
/-- The cast of the rows' cotangents is the identity. -/
theorem dyb : val_main_v79 x0 x1 x2 x3 x5 x6 x7 = val_main_v76 x0 x1 x2 x3 x5 x6 x7 := rfl
theorem dg : val_main_v78 x0 x1 x2 x5 x6 x7 = scaleGrad (yA x0 x1 x2) (dA x5 x6 x7) := by
  funext i
  obtain ⟨e, rfl⟩ : ∃ e : Fin 1024, i = ix2 0 e := ⟨i 1, by idx_ext⟩
  exact Cert.DxmixRefIdeal.Value.dg_read x0 x1 x2 x5 x6 x7 e
theorem db : val_main_v77 x5 x6 x7 = dbOf (dA x5 x6 x7) := by
  funext i
  obtain ⟨e, rfl⟩ : ∃ e : Fin 1024, i = ix2 0 e := ⟨i 1, by idx_ext⟩
  exact Cert.DxmixRefIdeal.Value.db_read x5 x6 x7 e

end Reference

theorem algebraic : Cert.algebraic_DxmixIdeal_DxmixRefIdeal_pre_finite8 := by
  pair_intro
  · run_from Cert.DxmixIdeal.Value.run_values m g
  · refine θ_run_mono (Cert.DxmixRefIdeal.Value.run m' g') fun r h c => ?_
    obtain ⟨f0, f1, f2, f3, f5, f6, f7⟩ := Cert.Pre_finite8.real_args (hpre c)
    obtain ⟨h0, h1, h2, h3, h4⟩ := h c
    obtain ⟨a0, a1, a2, a3, a4, a5, a6, a7⟩ := hagree c
    rw [Cert.DxmixRefIdeal.Read.val_main_v76_eq, a0, a1, a2, a3, a5, a6, a7, dy _ _ _ _ _ _ _ f0 f1 f2 f3 f5 f6 f7] at h0
    rw [Cert.DxmixRefIdeal.Read.val_main_v79_eq, a0, a1, a2, a3, a5, a6, a7, dyb, dy _ _ _ _ _ _ _ f0 f1 f2 f3 f5 f6 f7] at h1
    rw [Cert.DxmixRefIdeal.Read.val_main_v78_eq, a0, a1, a2, a5, a6, a7, dg] at h2
    rw [Cert.DxmixRefIdeal.Read.val_main_v77_eq, a5, a6, a7, db] at h3
    exact ⟨h0.trans (W8_dy m g c).symm, h1.trans (W8_dyb m g c).symm, h2.trans (W8_dg m g c).symm, h3.trans (W8_db m g c).symm, h4⟩

end Cert.Dxmix.Claim

end
-- ==== Proof.Ffn.Run.lean ====
/-
  The run of the second feed-forward and what its buffers hold at the end.
-/
module

public import proofs.«01_k».proof.Proof.Gen.FfnIdeal.Frame

@[expose] public section

set_option maxRecDepth 16384

noncomputable section

namespace Cert.FfnIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.FfnIdeal Cert.FfnIdeal.Gen

variable {F : FTy → Type} [FloatOps F]
variable (m : (ℓ : Loc nD τ sig) → Buf (Elt F) ℓ) (ρ : Dev nD → PrngReg)

local notation "𝕄" => MT nD τ sig Unit (Elt F) ℕ (UR sig nD τ) ℕ

set_option backward.isDefEq.respectTransparency.types false in
/-- The run of the whole program: every array that is not private to a call ends at the last segment's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun _ h => h)

end Cert.FfnIdeal.Value
-- ==== Proof.Ffn.Value.lean ====
/-
  What the three calls of the second feed-forward leave after each grid point, entry by entry: the normalised rows, the two products of the
  gate, and on the way back the gate's gradients, the rows' cotangents and the norm's parameters' gradients as running sums.
-/
module

public import proofs.«01_k».proof.Proof.Dx
public import proofs.«01_k».proof.Proof.Ffn.Run
public import proofs.«01_k».proof.Proof.Gate.Math
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

namespace Cert.FfnIdeal.Value

open Idealize.ShloMosaic Idealize.ShloMosaic.TcCoe Idealize.SL.Sem
open Idealize.ShloMosaic.Pipeline (Dat)
open Cert.FfnIdeal Cert.FfnIdeal.Gen
open Cert.Rows Cert.Dx

/-! ## The forward calls' blocks -/

/-- Row `p` before the layer norm. -/
abbrev yOf {n : ℕ} (M : Fin n → Fin 1024 → EReal) (W : Fin 1024 → Fin 1024 → EReal) (X : Fin n → Fin 1024 → EReal) (g b : Fin 1024 → EReal)
    (p : Fin n) (e : Fin 1024) : EReal := alpha * (X p e * g e + b e) + ∑ k, M p k * W k e

section
variable (b0 : Vec Ideal S512x1024 .bf16) (b1 : Vec Ideal S1024x1024 .bf16) (b2 : Vec Ideal S512x1024 .f32) (b3 b4 b5 b6 : Vec Ideal S1x1024 .f32)

abbrev yBlk : Fin 512 → Fin 1024 → EReal :=
  yOf (fun p k => b0 (ix2 p k)) (fun k e => b1 (ix2 k e)) (fun p e => b2 (ix2 p e)) (fun e => b3 (ix2 0 e)) (fun e => b4 (ix2 0 e))

theorem ln_out (p : Fin 512) (e : Fin 1024) : out0_7 (F := Ideal) b0 b1 b2 b3 b4 b5 b6 (ix2 p e)
    = ln (yBlk b0 b1 b2 b3 b4 p) (fun e => b5 (ix2 0 e)) (fun e => b6 (ix2 0 e)) e := by
  canon_tiles x h
  all_goals (obtain rfl : x = ix2 p e := by idx_ext
             open_payloads; pointwise)
theorem hat_out (p : Fin 512) (e : Fin 1024) : out0_8 (F := Ideal) b0 b1 b2 b3 b4 b5 b6 (ix2 p e) = Norm.hat len (yBlk b0 b1 b2 b3 b4 p) e := by
  canon_tiles x h
  all_goals (obtain rfl : x = ix2 p e := by idx_ext
             open_payloads; pointwise)
theorem rstd_out (p : Fin 512) : out0_9 (F := Ideal) b0 b1 b2 b3 b4 b5 b6 (ix2 p 0) = Norm.rstd len (yBlk b0 b1 b2 b3 b4 p) := by
  canon_tiles x h
  all_goals (obtain rfl : x = ix2 p 0 := by idx_ext
             open_payloads; pointwise)

end

/-! ## The backward call's block -/

/-- The logistic function as the kernel spells it. -/
abbrev sgK (a : EReal) : EReal := Ideal.div 1 (1 + Ideal.exp (0 - a))

theorem sgK_eq (a : EReal) : sgK a = Gate.Math.sg a := by rw [sgK, zero_sub]

/-- Column `k` of the six pieces of the padded columns, from the second on. -/
abbrev col (o : ℕ) (h : o + 512 ≤ 3072) (k : Fin 512) : Fin 3072 := ⟨o + k.val, by omega⟩

section
variable {n : ℕ} (C Q : Fin n → Fin 1024 → EReal) (Wd : Fin 3072 → Fin 1024 → EReal) (Wg Wu : Fin 1024 → Fin 3072 → EReal) (A B : Fin n → Fin 3072 → EReal)

/-- The cotangent of the gate's value, and the gradients with respect to its two factors' arguments. -/
abbrev dsOf (p : Fin n) (q : Fin 3072) : EReal := (∑ k, Q p k * Wd q k) * half
abbrev daOf (p : Fin n) (q : Fin 3072) : EReal := dsOf Q Wd p q * B p q * (sgK (A p q) * (1 + A p q * (1 - sgK (A p q))))
abbrev dbOf (p : Fin n) (q : Fin 3072) : EReal := dsOf Q Wd p q * (A p q * sgK (A p q))

/-- The cotangent of the row after the layer norm, piece by piece. -/
abbrev dhOf (p : Fin n) (e : Fin 1024) : EReal :=
  alpha * C p e
    + ∑ k : Fin 512, daOf Q Wd A B p ⟨k.val, by omega⟩ * Wg e ⟨k.val, by omega⟩ + ∑ k : Fin 512, dbOf Q Wd A p ⟨k.val, by omega⟩ * Wu e ⟨k.val, by omega⟩
    + ∑ k, daOf Q Wd A B p (col 512 (by decide) k) * Wg e (col 512 (by decide) k) + ∑ k, dbOf Q Wd A p (col 512 (by decide) k) * Wu e (col 512 (by decide) k)
    + ∑ k, daOf Q Wd A B p (col 1024 (by decide) k) * Wg e (col 1024 (by decide) k) + ∑ k, dbOf Q Wd A p (col 1024 (by decide) k) * Wu e (col 1024 (by decide) k)
    + ∑ k, daOf Q Wd A B p (col 1536 (by decide) k) * Wg e (col 1536 (by decide) k) + ∑ k, dbOf Q Wd A p (col 1536 (by decide) k) * Wu e (col 1536 (by decide) k)
    + ∑ k, daOf Q Wd A B p (col 2048 (by decide) k) * Wg e (col 2048 (by decide) k) + ∑ k, dbOf Q Wd A p (col 2048 (by decide) k) * Wu e (col 2048 (by decide) k)
    + ∑ k, daOf Q Wd A B p (col 2560 (by decide) k) * Wg e (col 2560 (by decide) k) + ∑ k, dbOf Q Wd A p (col 2560 (by decide) k) * Wu e (col 2560 (by decide) k)

end

section Calls

variable (V : (c : Dev nD) → (b : Ref sig .tc) → Buf (Elt Ideal) ((c : Thread nD τ).loc b))

/-- The blocks of a point. -/
abbrev cB (c : Dev nD) (t : Fin cfg2.N) (p : Fin 256) (e : Fin 1024) : EReal := (iblk2 V c 0 t : S256x1024.Idx → EReal) (ix2 p e)
abbrev qB (c : Dev nD) (t : Fin cfg2.N) (p : Fin 256) (k : Fin 1024) : EReal := (iblk2 V c 1 t : S256x1024.Idx → EReal) (ix2 p k)
abbrev wdB (c : Dev nD) (t : Fin cfg2.N) (q : Fin 3072) (k : Fin 1024) : EReal := (iblk2 V c 2 t : S3072x1024.Idx → EReal) (ix2 q k)
abbrev wgB (c : Dev nD) (t : Fin cfg2.N) (e : Fin 1024) (q : Fin 3072) : EReal := (iblk2 V c 3 t : S1024x3072.Idx → EReal) (ix2 e q)
abbrev wuB (c : Dev nD) (t : Fin cfg2.N) (e : Fin 1024) (q : Fin 3072) : EReal := (iblk2 V c 4 t : S1024x3072.Idx → EReal) (ix2 e q)
abbrev aB (c : Dev nD) (t : Fin cfg2.N) (p : Fin 256) (q : Fin 3072) : EReal := (iblk2 V c 5 t : S256x3072.Idx → EReal) (ix2 p q)
abbrev bB (c : Dev nD) (t : Fin cfg2.N) (p : Fin 256) (q : Fin 3072) : EReal := (iblk2 V c 6 t : S256x3072.Idx → EReal) (ix2 p q)
abbrev hB (c : Dev nD) (t : Fin cfg2.N) (p : Fin 256) (e : Fin 1024) : EReal := (iblk2 V c 7 t : S256x1024.Idx → EReal) (ix2 p e)
abbrev sB (c : Dev nD) (t : Fin cfg2.N) (p : Fin 256) : EReal := (iblk2 V c 8 t : S256x1.Idx → EReal) (ix2 p 0)
abbrev gB (c : Dev nD) (t : Fin cfg2.N) (e : Fin 1024) : EReal := (iblk2 V c 9 t : S1x1024.Idx → EReal) (ix2 0 e)
abbrev dhB (c : Dev nD) (t : Fin cfg2.N) : Fin 256 → Fin 1024 → EReal :=
  dhOf (cB V c t) (qB V c t) (wdB V c t) (wgB V c t) (wuB V c t) (aB V c t) (bB V c t)

theorem da_at (c : Dev nD) (t : Fin cfg2.N) (p : Fin 256) (q : Fin 3072) : (outsAt2 V c t.val t.isLt).1 (ix2 p q)
    = daOf (qB V c t) (wdB V c t) (aB V c t) (bB V c t) p q := by
  unfold qB wdB aB bB
  by_cases z : t.val % 16 = 0
  on_goal 1 => rw [outsAt2_A V c t z]
  on_goal 2 => rw [outsAt2_B V c t z]
  all_goals
    generalize iblk2 V c 0 t = b0
    generalize iblk2 V c 1 t = b1
    generalize iblk2 V c 2 t = b2
    generalize iblk2 V c 3 t = b3
    generalize iblk2 V c 4 t = b4
    generalize iblk2 V c 5 t = b5
    generalize iblk2 V c 6 t = b6
    generalize iblk2 V c 7 t = b7
    generalize iblk2 V c 8 t = b8
    generalize iblk2 V c 9 t = b9
    frame_out
    canon_tiles x h
    all_goals
      replace h0 : p.val = _ := h0
      replace h1 : q.val = _ := h1
      have hl := q.isLt
      rw [h1] at hl
      obtain rfl : p = x 0 := Fin.ext (by omega)
      obtain rfl : q = ⟨_, hl⟩ := Fin.ext h1
      open_payloads; pointwise

theorem db_at (c : Dev nD) (t : Fin cfg2.N) (p : Fin 256) (q : Fin 3072) : (outsAt2 V c t.val t.isLt).2.1 (ix2 p q)
    = dbOf (qB V c t) (wdB V c t) (aB V c t) p q := by
  unfold qB wdB aB
  by_cases z : t.val % 16 = 0
  on_goal 1 => rw [outsAt2_A V c t z]
  on_goal 2 => rw [outsAt2_B V c t z]
  all_goals
    generalize iblk2 V c 0 t = b0
    generalize iblk2 V c 1 t = b1
    generalize iblk2 V c 2 t = b2
    generalize iblk2 V c 3 t = b3
    generalize iblk2 V c 4 t = b4
    generalize iblk2 V c 5 t = b5
    generalize iblk2 V c 6 t = b6
    generalize iblk2 V c 7 t = b7
    generalize iblk2 V c 8 t = b8
    generalize iblk2 V c 9 t = b9
    frame_out
    canon_tiles x h
    all_goals
      replace h0 : p.val = _ := h0
      replace h1 : q.val = _ := h1
      have hl := q.isLt
      rw [h1] at hl
      obtain rfl : p = x 0 := Fin.ext (by omega)
      obtain rfl : q = ⟨_, hl⟩ := Fin.ext h1
      open_payloads; pointwise

theorem dy_at (c : Dev nD) (t : Fin cfg2.N) (p : Fin 256) (e : Fin 1024) : (outsAt2 V c t.val t.isLt).2.2.1 (ix2 p e)
    = backOf (hB V c t p) (sB V c t p) (fun k => dhB V c t p k * gB V c t k) e := by
  unfold hB sB dhB cB qB wdB wgB wuB aB bB gB
  by_cases z : t.val % 16 = 0
  on_goal 1 => rw [outsAt2_A V c t z]
  on_goal 2 => rw [outsAt2_B V c t z]
  all_goals
    generalize iblk2 V c 0 t = b0
    generalize iblk2 V c 1 t = b1
    generalize iblk2 V c 2 t = b2
    generalize iblk2 V c 3 t = b3
    generalize iblk2 V c 4 t = b4
    generalize iblk2 V c 5 t = b5
    generalize iblk2 V c 6 t = b6
    generalize iblk2 V c 7 t = b7
    generalize iblk2 V c 8 t = b8
    generalize iblk2 V c 9 t = b9
    frame_out
    open_payloads; pointwise

theorem dyb_at (c : Dev nD) (t : Fin cfg2.N) (p : Fin 256) (e : Fin 1024) : (outsAt2 V c t.val t.isLt).2.2.2.1 (ix2 p e)
    = backOf (hB V c t p) (sB V c t p) (fun k => dhB V c t p k * gB V c t k) e := by
  unfold hB sB dhB cB qB wdB wgB wuB aB bB gB
  by_cases z : t.val % 16 = 0
  on_goal 1 => rw [outsAt2_A V c t z]
  on_goal 2 => rw [outsAt2_B V c t z]
  all_goals
    generalize iblk2 V c 0 t = b0
    generalize iblk2 V c 1 t = b1
    generalize iblk2 V c 2 t = b2
    generalize iblk2 V c 3 t = b3
    generalize iblk2 V c 4 t = b4
    generalize iblk2 V c 5 t = b5
    generalize iblk2 V c 6 t = b6
    generalize iblk2 V c 7 t = b7
    generalize iblk2 V c 8 t = b8
    generalize iblk2 V c 9 t = b9
    frame_out
    open_payloads; pointwise

theorem dg_at (c : Dev nD) (t : Fin cfg2.N) (e : Fin 1024) : (outsAt2 V c t.val t.isLt).2.2.2.2.1 (ix2 0 e)
    = (if t.val % 16 = 0 then 0 else (outsAt2 V c (t.val - 1) (Nat.lt_of_le_of_lt (Nat.sub_le _ _) t.isLt)).2.2.2.2.1 (ix2 0 e))
      + ∑ p, dhB V c t p e * hB V c t p e := by
  unfold hB dhB cB qB wdB wgB wuB aB bB
  by_cases z : t.val % 16 = 0
  on_goal 1 => rw [outsAt2_A V c t z, if_pos z]
  on_goal 2 => rw [outsAt2_B V c t z, if_neg z]
  all_goals
    generalize iblk2 V c 0 t = b0
    generalize iblk2 V c 1 t = b1
    generalize iblk2 V c 2 t = b2
    generalize iblk2 V c 3 t = b3
    generalize iblk2 V c 4 t = b4
    generalize iblk2 V c 5 t = b5
    generalize iblk2 V c 6 t = b6
    generalize iblk2 V c 7 t = b7
    generalize iblk2 V c 8 t = b8
    generalize iblk2 V c 9 t = b9
    frame_out
    try simp (disch := first | rfl | decide) only [↓View.readCov_skip, ↓View.readCov_fill]
    open_payloads; pointwise

theorem dbl_at (c : Dev nD) (t : Fin cfg2.N) (e : Fin 1024) : (outsAt2 V c t.val t.isLt).2.2.2.2.2 (ix2 0 e)
    = (if t.val % 16 = 0 then 0 else (outsAt2 V c (t.val - 1) (Nat.lt_of_le_of_lt (Nat.sub_le _ _) t.isLt)).2.2.2.2.2 (ix2 0 e))
      + ∑ p, dhB V c t p e := by
  unfold dhB cB qB wdB wgB wuB aB bB
  by_cases z : t.val % 16 = 0
  on_goal 1 => rw [outsAt2_A V c t z, if_pos z]
  on_goal 2 => rw [outsAt2_B V c t z, if_neg z]
  all_goals
    generalize iblk2 V c 0 t = b0
    generalize iblk2 V c 1 t = b1
    generalize iblk2 V c 2 t = b2
    generalize iblk2 V c 3 t = b3
    generalize iblk2 V c 4 t = b4
    generalize iblk2 V c 5 t = b5
    generalize iblk2 V c 6 t = b6
    generalize iblk2 V c 7 t = b7
    generalize iblk2 V c 8 t = b8
    generalize iblk2 V c 9 t = b9
    frame_out
    try simp (disch := first | rfl | decide) only [↓View.readCov_skip, ↓View.readCov_fill]
    open_payloads; pointwise

end Calls

end Cert.FfnIdeal.Value

end
-- ==== Proof.Ffn.Final.lean ====
/-
  The arrays the three calls of the second feed-forward leave, over the arrays they are given: the normalised rows, the two products of the
  gate, and on the way back the gate's gradients, each row's cotangent and the norm's parameters' gradients as sums over the 4096 rows.
-/
module

public import proofs.«01_k».proof.Proof.Ffn.Value

@[expose] public section

set_option maxRecDepth 16384

noncomputable section

namespace Cert.FfnIdeal.Value

open Idealize.ShloMosaic Idealize.ShloMosaic.TcCoe Idealize.SL.Sem
open Idealize.ShloMosaic.Pipeline (Dat)
open Cert.FfnIdeal Cert.FfnIdeal.Gen
open Cert.Rows Cert.Dx

/-! ## Sums over sixteen points of 256 rows -/

theorem points (f : Fin 4096 → EReal) : (∑ s : Fin 16, ∑ p : Fin 256, f ⟨s.val * 256 + p.val, by omega⟩) = ∑ r, f r := by
  refine (Fin.sum_points_lanes_congr 16 (A := 1) (N := 16) (g := fun _ n => f n) (fun s q _ hl => congrArg f (Fin.ext ?_)) rfl).trans (by simp)
  show s.val * 256 + q.val = s.val % 16 * 256 + q.val
  omega

/-- What a sum that the first of sixteen points starts has gathered at the last: the sum over all rows. -/
theorem summed (A : (n : ℕ) → n < cfg2.N → Fin 1024 → EReal) (F : Fin cfg2.N → Fin 256 → Fin 1024 → EReal) (G : Fin 4096 → Fin 1024 → EReal)
    (hA : ∀ (t : Fin cfg2.N) i, A t.val t.isLt i
      = (if t.val % 16 = 0 then 0 else A (t.val - 1) (Nat.lt_of_le_of_lt (Nat.sub_le _ _) t.isLt) i) + ∑ p, F t p i)
    (hF : ∀ (t : Fin cfg2.N) (p : Fin 256) (h : t.val * 256 + p.val < 4096) i, F t p i = G ⟨t.val * 256 + p.val, h⟩ i)
    (t : Fin cfg2.N) (ht : t.val % 16 = 15) (i : Fin 1024) : A t.val t.isLt i = ∑ r, G r i := by
  refine (Pipeline.eq_sum_fin_of_reset_step_apply_of_flush (J := 16) A (fun _ => 0) (fun t i => ∑ p, F t p i) ?_ ?_ t ht i).trans ?_
  · intro t h i; rw [hA, if_pos h]
  · intro t h i; rw [hA, if_neg h]
  · have ht' : t.val < 16 := lt_of_lt_of_eq t.isLt N_2
    refine (zero_add _).trans ((Finset.sum_congr rfl fun s _ => Finset.sum_congr rfl fun p _ => (hF _ p ?_ i).trans ?_).trans
      (points fun r => G r i))
    · show (16 * (t.val / 16) + s.val) * 256 + p.val < 4096; omega
    · exact congrArg (fun r => G r i) (Fin.ext (by show (16 * (t.val / 16) + s.val) * 256 + p.val = s.val * 256 + p.val; omega))

section Calls

variable (V : (c : Dev nD) → (b : Ref sig .tc) → Buf (Elt Ideal) ((c : Thread nD τ).loc b))

theorem idx0 : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0] :=
  (by decide +kernel : ∀ t : Fin grid0.N, _)
theorem idx1 : ∀ t : Fin cfg1.N, win1_0.index t = ![t.val, 0] ∧ win1_1.index t = ![0, 0] ∧ win1_2.index t = ![0, 0]
    ∧ win1_3.index t = ![t.val, 0] ∧ win1_4.index t = ![t.val, 0] :=
  (by decide +kernel : ∀ t : Fin grid1.N, _)
theorem idx2 : ∀ t : Fin cfg2.N, win2_0.index t = ![t.val, 0] ∧ win2_1.index t = ![t.val, 0] ∧ win2_2.index t = ![0, 0]
    ∧ win2_3.index t = ![0, 0] ∧ win2_4.index t = ![0, 0] ∧ win2_5.index t = ![t.val, 0] ∧ win2_6.index t = ![t.val, 0]
    ∧ win2_7.index t = ![t.val, 0] ∧ win2_8.index t = ![t.val, 0] ∧ win2_9.index t = ![0, 0] ∧ win2_10.index t = ![t.val, 0]
    ∧ win2_11.index t = ![t.val, 0] ∧ win2_12.index t = ![t.val, 0] ∧ win2_13.index t = ![t.val, 0] ∧ win2_14.index t = ![0, 0]
    ∧ win2_15.index t = ![0, 0] :=
  (by decide +kernel : ∀ t : Fin grid2.N, _)

/-- Row `p` of a point's block. -/
abbrev r0 (t : Fin cfg0.N) (p : Fin 512) : Fin 4096 := ⟨t.val * 512 + p.val, by have h : t.val < 8 := lt_of_lt_of_eq t.isLt N_0; omega⟩
abbrev r2 (t : Fin cfg2.N) (p : Fin 256) : Fin 4096 := ⟨t.val * 256 + p.val, by have h : t.val < 16 := lt_of_lt_of_eq t.isLt N_2; omega⟩

/-! ## The normalised rows -/

/-- The rows before the layer norm, and the norm's parameters. -/
abbrev yV (c : Dev nD) : Fin 4096 → Fin 1024 → EReal :=
  yOf (fun r k => (V c main_v24 : S4096x1024.Idx → EReal) (ix2 r k)) (fun k e => (V c main_v25 : S1024x1024.Idx → EReal) (ix2 k e))
    (fun r e => (V c main_arg2 : S4096x1024.Idx → EReal) (ix2 r e)) (fun e => (V c main_arg3 : S1x1024.Idx → EReal) (ix2 0 e))
    (fun e => (V c main_arg4 : S1x1024.Idx → EReal) (ix2 0 e))
abbrev gV (c : Dev nD) (e : Fin 1024) : EReal := (V c main_arg5 : S1x1024.Idx → EReal) (ix2 0 e)
abbrev bV (c : Dev nD) (e : Fin 1024) : EReal := (V c main_arg6 : S1x1024.Idx → EReal) (ix2 0 e)

theorem m0 (c : Dev nD) (t : Fin cfg0.N) (p : Fin 512) (k : Fin 1024) : (iblk0 V c 0 t : S512x1024.Idx → EReal) (ix2 p k) = V c main_v24 (ix2 (r0 t p) k) := by
  blk_point [iblk0, idx0 t]
theorem w0 (c : Dev nD) (t : Fin cfg0.N) (k e : Fin 1024) : (iblk0 V c 1 t : S1024x1024.Idx → EReal) (ix2 k e) = V c main_v25 (ix2 k e) := by
  blk_point [iblk0, idx0 t]
theorem x0 (c : Dev nD) (t : Fin cfg0.N) (p : Fin 512) (e : Fin 1024) : (iblk0 V c 2 t : S512x1024.Idx → EReal) (ix2 p e) = V c main_arg2 (ix2 (r0 t p) e) := by
  blk_point [iblk0, idx0 t]
/-- The four rows of parameters. -/
theorem p0 (c : Dev nD) (t : Fin cfg0.N) (e : Fin 1024) : (iblk0 V c 3 t : S1x1024.Idx → EReal) (ix2 0 e) = V c main_arg3 (ix2 0 e)
    ∧ (iblk0 V c 4 t : S1x1024.Idx → EReal) (ix2 0 e) = V c main_arg4 (ix2 0 e)
    ∧ (iblk0 V c 5 t : S1x1024.Idx → EReal) (ix2 0 e) = V c main_arg5 (ix2 0 e)
    ∧ (iblk0 V c 6 t : S1x1024.Idx → EReal) (ix2 0 e) = V c main_arg6 (ix2 0 e) := by
  refine ⟨?_, ?_, ?_, ?_⟩ <;> blk_point [iblk0, idx0 t]

theorem yBlk_eq (c : Dev nD) (t : Fin cfg0.N) (p : Fin 512) :
    yBlk (iblk0 V c 0 t) (iblk0 V c 1 t) (iblk0 V c 2 t) (iblk0 V c 3 t) (iblk0 V c 4 t) p = yV V c (r0 t p) := by
  funext e
  unfold yBlk yV yOf
  simp only [m0, w0, x0, p0]

/-- The three results as arrays. -/
def lnOf (y : Fin 4096 → Fin 1024 → EReal) (g b : Fin 1024 → EReal) (i : S4096x1024.Idx) : EReal := ln (y (i 0)) g b (i 1)
def hatOf (y : Fin 4096 → Fin 1024 → EReal) (i : S4096x1024.Idx) : EReal := Norm.hat len (y (i 0)) (i 1)
def rstdOf (y : Fin 4096 → Fin 1024 → EReal) (i : S4096x1.Idx) : EReal := Norm.rstd len (y (i 0))

theorem ln_at (c : Dev nD) (t : Fin cfg0.N) (y : S512x1024.Idx) (i : S4096x1024.Idx) (h0 : (i 0 : ℕ) = t.val * 512 + (y 0).val)
    (h1 : (i 1 : ℕ) = (y 1).val) : out0_7 (F := Ideal) (iblk0 V c 0 t) (iblk0 V c 1 t) (iblk0 V c 2 t) (iblk0 V c 3 t) (iblk0 V c 4 t)
      (iblk0 V c 5 t) (iblk0 V c 6 t) y = lnOf (yV V c) (gV V c) (bV V c) i := by
  obtain ⟨p, e, rfl⟩ : ∃ (p : Fin 512) (e : Fin 1024), y = ix2 p e := ⟨y 0, y 1, by idx_ext⟩
  obtain rfl : i = ix2 (r0 t p) e := by idx_ext
  rw [ln_out, yBlk_eq]
  simp only [p0]
  rfl
theorem hat_at (c : Dev nD) (t : Fin cfg0.N) (y : S512x1024.Idx) (i : S4096x1024.Idx) (h0 : (i 0 : ℕ) = t.val * 512 + (y 0).val)
    (h1 : (i 1 : ℕ) = (y 1).val) : out0_8 (F := Ideal) (iblk0 V c 0 t) (iblk0 V c 1 t) (iblk0 V c 2 t) (iblk0 V c 3 t) (iblk0 V c 4 t)
      (iblk0 V c 5 t) (iblk0 V c 6 t) y = hatOf (yV V c) i := by
  obtain ⟨p, e, rfl⟩ : ∃ (p : Fin 512) (e : Fin 1024), y = ix2 p e := ⟨y 0, y 1, by idx_ext⟩
  obtain rfl : i = ix2 (r0 t p) e := by idx_ext
  rw [hat_out, yBlk_eq]
  rfl
theorem rstd_at (c : Dev nD) (t : Fin cfg0.N) (y : S512x1.Idx) (i : S4096x1.Idx) (h0 : (i 0 : ℕ) = t.val * 512 + (y 0).val) :
    out0_9 (F := Ideal) (iblk0 V c 0 t) (iblk0 V c 1 t) (iblk0 V c 2 t) (iblk0 V c 3 t) (iblk0 V c 4 t) (iblk0 V c 5 t) (iblk0 V c 6 t) y
      = rstdOf (yV V c) i := by
  have a1 : (y 1).val < 1 := (y 1).isLt
  have b1 : (i 1).val < 1 := (i 1).isLt
  obtain ⟨p, rfl⟩ : ∃ p : Fin 512, y = ix2 p 0 := ⟨y 0, by idx_ext⟩
  obtain rfl : i = ix2 (r0 t p) 0 := by idx_ext
  rw [rstd_out, yBlk_eq]
  rfl

theorem final_ln (c : Dev nD) : (dat0 V c).arrAt 7 cfg0.N = lnOf (yV V c) (gV V c) (bV V c) := by
  refine (dat0 V c).arrAt_eq_of_covers 7 _ (by decide +kernel) fun t hf y => ?_
  blk_simp; rw [after0_7]; refine ln_at V c t y _ ?_ ?_
  all_goals (blk_simp [idx0 t] <;> try omega)
theorem final_h (c : Dev nD) : (dat0 V c).arrAt 8 cfg0.N = hatOf (yV V c) := by
  refine (dat0 V c).arrAt_eq_of_covers 8 _ (by decide +kernel) fun t hf y => ?_
  blk_simp; rw [after0_8]; refine hat_at V c t y _ ?_ ?_
  all_goals (blk_simp [idx0 t] <;> try omega)
theorem final_s (c : Dev nD) : (dat0 V c).arrAt 9 cfg0.N = rstdOf (yV V c) := by
  refine (dat0 V c).arrAt_eq_of_covers 9 _ (by decide +kernel) fun t hf y => ?_
  blk_simp; rw [after0_9]; refine rstd_at V c t y _ ?_
  all_goals (blk_simp [idx0 t] <;> try omega)

/-! ## The gate's two products -/

/-- A product of the normalised rows with a padded weight. -/
abbrev prod (X : S4096x1024.Idx → EReal) (W : S1024x3072.Idx → EReal) (i : S4096x3072.Idx) : EReal := ∑ k : Fin 1024, X (ix2 (i 0) k) * W (ix2 k (i 1))

theorem core_a (c : Dev nD) (t : Fin cfg1.N) (y : S512x3072.Idx) (j : S4096x3072.Idx) (hj0 : (j 0 : ℕ) = t.val * 512 + y 0) (hj1 : (j 1 : ℕ) = y 1) :
    out1_3 (F := Ideal) (iblk1 V c 0 t) (iblk1 V c 1 t) (iblk1 V c 2 t) y = prod (V c main_v26_0) (V c main_v7) j := by
  canon_tiles x h
  all_goals (open_payloads; pointwise; unfold prod; blk_point [iblk1, idx1 t])
theorem core_b (c : Dev nD) (t : Fin cfg1.N) (y : S512x3072.Idx) (j : S4096x3072.Idx) (hj0 : (j 0 : ℕ) = t.val * 512 + y 0) (hj1 : (j 1 : ℕ) = y 1) :
    out1_4 (F := Ideal) (iblk1 V c 0 t) (iblk1 V c 1 t) (iblk1 V c 2 t) y = prod (V c main_v26_0) (V c main_v15) j := by
  canon_tiles x h
  all_goals (open_payloads; pointwise; unfold prod; blk_point [iblk1, idx1 t])
theorem final_a (c : Dev nD) : (dat1 V c).arrAt 3 cfg1.N = prod (V c main_v26_0) (V c main_v7) := by
  refine (dat1 V c).arrAt_eq_of_covers 3 _ (by decide +kernel) fun t hf y => ?_
  blk_simp; rw [after1_3]; refine core_a V c t y _ ?_ ?_
  all_goals (blk_simp [idx1 t] <;> try omega)
theorem final_b (c : Dev nD) : (dat1 V c).arrAt 4 cfg1.N = prod (V c main_v26_0) (V c main_v15) := by
  refine (dat1 V c).arrAt_eq_of_covers 4 _ (by decide +kernel) fun t hf y => ?_
  blk_simp; rw [after1_4]; refine core_b V c t y _ ?_ ?_
  all_goals (blk_simp [idx1 t] <;> try omega)

/-! ## The way back -/

/-- The backward call's operands over the whole arrays. -/
abbrev cV (c : Dev nD) (r : Fin 4096) (e : Fin 1024) : EReal := (V c main_arg10 : S4096x1024.Idx → EReal) (ix2 r e)
abbrev qV (c : Dev nD) (r : Fin 4096) (k : Fin 1024) : EReal := (V c main_v28 : S4096x1024.Idx → EReal) (ix2 r k)
abbrev wdV (c : Dev nD) (q : Fin 3072) (k : Fin 1024) : EReal := (V c main_v23 : S3072x1024.Idx → EReal) (ix2 q k)
abbrev wgV (c : Dev nD) (e : Fin 1024) (q : Fin 3072) : EReal := (V c main_v7 : S1024x3072.Idx → EReal) (ix2 e q)
abbrev wuV (c : Dev nD) (e : Fin 1024) (q : Fin 3072) : EReal := (V c main_v15 : S1024x3072.Idx → EReal) (ix2 e q)
abbrev aV (c : Dev nD) (r : Fin 4096) (q : Fin 3072) : EReal := (V c main_v27_0 : S4096x3072.Idx → EReal) (ix2 r q)
abbrev uV (c : Dev nD) (r : Fin 4096) (q : Fin 3072) : EReal := (V c main_v27_1 : S4096x3072.Idx → EReal) (ix2 r q)
abbrev hV (c : Dev nD) (r : Fin 4096) (e : Fin 1024) : EReal := (V c main_v26_1 : S4096x1024.Idx → EReal) (ix2 r e)
abbrev sV (c : Dev nD) (r : Fin 4096) : EReal := (V c main_v26_2 : S4096x1.Idx → EReal) (ix2 r 0)

theorem cB_eq (c : Dev nD) (t : Fin cfg2.N) (p : Fin 256) (e : Fin 1024) : cB V c t p e = cV V c (r2 t p) e := by unfold cB cV; blk_point [iblk2, idx2 t]
theorem qB_eq (c : Dev nD) (t : Fin cfg2.N) (p : Fin 256) (e : Fin 1024) : qB V c t p e = qV V c (r2 t p) e := by unfold qB qV; blk_point [iblk2, idx2 t]
theorem wdB_eq (c : Dev nD) (t : Fin cfg2.N) : wdB V c t = wdV V c := by funext q k; unfold wdB wdV; blk_point [iblk2, idx2 t]
theorem wgB_eq (c : Dev nD) (t : Fin cfg2.N) : wgB V c t = wgV V c := by funext q k; unfold wgB wgV; blk_point [iblk2, idx2 t]
theorem wuB_eq (c : Dev nD) (t : Fin cfg2.N) : wuB V c t = wuV V c := by funext q k; unfold wuB wuV; blk_point [iblk2, idx2 t]
theorem aB_eq (c : Dev nD) (t : Fin cfg2.N) (p : Fin 256) (q : Fin 3072) : aB V c t p q = aV V c (r2 t p) q := by unfold aB aV; blk_point [iblk2, idx2 t]
theorem bB_eq (c : Dev nD) (t : Fin cfg2.N) (p : Fin 256) (q : Fin 3072) : bB V c t p q = uV V c (r2 t p) q := by unfold bB uV; blk_point [iblk2, idx2 t]
theorem hB_eq (c : Dev nD) (t : Fin cfg2.N) (p : Fin 256) : hB V c t p = hV V c (r2 t p) := by
  funext e; unfold hB hV; blk_point [iblk2, idx2 t]
theorem sB_eq (c : Dev nD) (t : Fin cfg2.N) (p : Fin 256) : sB V c t p = sV V c (r2 t p) := by unfold sB sV; blk_point [iblk2, idx2 t]
theorem gB_eq (c : Dev nD) (t : Fin cfg2.N) : gB V c t = gV V c := by funext e; unfold gB gV; blk_point [iblk2, idx2 t]

/-- The three gradients of a row depend on that row of the operands alone. -/
theorem row_congr {n n' : ℕ} {C Q : Fin n → Fin 1024 → EReal} {A B : Fin n → Fin 3072 → EReal} {C' Q' : Fin n' → Fin 1024 → EReal}
    {A' B' : Fin n' → Fin 3072 → EReal} (Wd : Fin 3072 → Fin 1024 → EReal) (Wg Wu : Fin 1024 → Fin 3072 → EReal) {p : Fin n} {r : Fin n'}
    (hC : ∀ e, C p e = C' r e) (hQ : ∀ e, Q p e = Q' r e) (hA : ∀ q, A p q = A' r q) (hB : ∀ q, B p q = B' r q) :
    daOf Q Wd A B p = daOf Q' Wd A' B' r ∧ dbOf Q Wd A p = dbOf Q' Wd A' r ∧ dhOf C Q Wd Wg Wu A B p = dhOf C' Q' Wd Wg Wu A' B' r := by
  refine ⟨funext fun q => ?_, funext fun q => ?_, funext fun e => ?_⟩
  · unfold daOf dsOf; simp only [hQ, hA, hB]
  · unfold dbOf dsOf; simp only [hQ, hA]
  · unfold dhOf daOf dbOf dsOf; simp only [hC, hQ, hA, hB]

abbrev dhV (c : Dev nD) : Fin 4096 → Fin 1024 → EReal := dhOf (cV V c) (qV V c) (wdV V c) (wgV V c) (wuV V c) (aV V c) (uV V c)

theorem rows_eq (c : Dev nD) (t : Fin cfg2.N) (p : Fin 256) : daOf (qB V c t) (wdB V c t) (aB V c t) (bB V c t) p = daOf (qV V c) (wdV V c) (aV V c) (uV V c) (r2 t p)
    ∧ dbOf (qB V c t) (wdB V c t) (aB V c t) p = dbOf (qV V c) (wdV V c) (aV V c) (r2 t p) ∧ dhB V c t p = dhV V c (r2 t p) := by
  unfold dhB
  rw [wdB_eq, wgB_eq, wuB_eq]
  exact row_congr _ _ _ (cB_eq V c t p) (qB_eq V c t p) (aB_eq V c t p) (bB_eq V c t p)

/-- The results as arrays: the gate's gradients, and from the saved rows `h`, the reciprocal deviations `s`, the scale `g` and the
    cotangents `d` the rows' cotangents and the parameters' gradients. -/
def wide (F : Fin 4096 → Fin 3072 → EReal) (i : S4096x3072.Idx) : EReal := F (i 0) (i 1)
def dyOf (h : Fin 4096 → Fin 1024 → EReal) (s : Fin 4096 → EReal) (g : Fin 1024 → EReal) (d : Fin 4096 → Fin 1024 → EReal) (i : S4096x1024.Idx) : EReal :=
  backOf (h (i 0)) (s (i 0)) (fun k => d (i 0) k * g k) (i 1)
def dgOf (h d : Fin 4096 → Fin 1024 → EReal) (i : S1x1024.Idx) : EReal := ∑ r, d r (i 1) * h r (i 1)
def dblOf (d : Fin 4096 → Fin 1024 → EReal) (i : S1x1024.Idx) : EReal := ∑ r, d r (i 1)

theorem gate_at (c : Dev nD) (t : Fin cfg2.N) (y : S256x3072.Idx) (i : S4096x3072.Idx) (h0 : (i 0 : ℕ) = t.val * 256 + (y 0).val)
    (h1 : (i 1 : ℕ) = (y 1).val) : (outsAt2 V c t.val t.isLt).1 y = wide (daOf (qV V c) (wdV V c) (aV V c) (uV V c)) i
      ∧ (outsAt2 V c t.val t.isLt).2.1 y = wide (dbOf (qV V c) (wdV V c) (aV V c)) i := by
  obtain ⟨p, q, rfl⟩ : ∃ (p : Fin 256) (q : Fin 3072), y = ix2 p q := ⟨y 0, y 1, by idx_ext⟩
  obtain rfl : i = ix2 (r2 t p) q := by idx_ext
  rw [da_at, db_at]
  exact ⟨congrFun (rows_eq V c t p).1 q, congrFun (rows_eq V c t p).2.1 q⟩
theorem dyOf_at (c : Dev nD) (t : Fin cfg2.N) (y : S256x1024.Idx) (i : S4096x1024.Idx) (h0 : (i 0 : ℕ) = t.val * 256 + (y 0).val)
    (h1 : (i 1 : ℕ) = (y 1).val) : (outsAt2 V c t.val t.isLt).2.2.1 y = dyOf (hV V c) (sV V c) (gV V c) (dhV V c) i
      ∧ (outsAt2 V c t.val t.isLt).2.2.2.1 y = dyOf (hV V c) (sV V c) (gV V c) (dhV V c) i := by
  obtain ⟨p, e, rfl⟩ : ∃ (p : Fin 256) (e : Fin 1024), y = ix2 p e := ⟨y 0, y 1, by idx_ext⟩
  obtain rfl : i = ix2 (r2 t p) e := by idx_ext
  rw [dy_at, dyb_at, (rows_eq V c t p).2.2, hB_eq, sB_eq, gB_eq]
  exact ⟨rfl, rfl⟩
theorem dgOf_at (c : Dev nD) (t : Fin cfg2.N) (ht : t.val % 16 = 15) (y i : S1x1024.Idx) (h1 : (i 1 : ℕ) = (y 1).val) :
    (outsAt2 V c t.val t.isLt).2.2.2.2.1 y = dgOf (hV V c) (dhV V c) i := by
  have a0 : (y 0).val < 1 := (y 0).isLt
  obtain rfl : y = ix2 0 (i 1) := by idx_ext
  refine summed (fun n h e => (outsAt2 V c n h).2.2.2.2.1 (ix2 0 e)) _ (fun r e => dhV V c r e * hV V c r e) (fun t e => dg_at V c t e)
    (fun t p h e => ?_) t ht (i 1)
  rw [(rows_eq V c t p).2.2, hB_eq]
theorem dblOf_at (c : Dev nD) (t : Fin cfg2.N) (ht : t.val % 16 = 15) (y i : S1x1024.Idx) (h1 : (i 1 : ℕ) = (y 1).val) :
    (outsAt2 V c t.val t.isLt).2.2.2.2.2 y = dblOf (dhV V c) i := by
  have a0 : (y 0).val < 1 := (y 0).isLt
  obtain rfl : y = ix2 0 (i 1) := by idx_ext
  refine summed (fun n h e => (outsAt2 V c n h).2.2.2.2.2 (ix2 0 e)) _ (fun r e => dhV V c r e) (fun t e => dbl_at V c t e)
    (fun t p h e => ?_) t ht (i 1)
  rw [(rows_eq V c t p).2.2]

theorem final_da (c : Dev nD) : (dat2 V c).arrAt 10 cfg2.N = wide (daOf (qV V c) (wdV V c) (aV V c) (uV V c)) := by
  refine (dat2 V c).arrAt_eq_of_covers 10 _ (by decide +kernel) fun t hf y => ?_
  blk_simp; rw [after2_10]; refine (gate_at V c t y _ ?_ ?_).1
  all_goals (blk_simp [idx2 t] <;> try omega)
theorem final_db (c : Dev nD) : (dat2 V c).arrAt 11 cfg2.N = wide (dbOf (qV V c) (wdV V c) (aV V c)) := by
  refine (dat2 V c).arrAt_eq_of_covers 11 _ (by decide +kernel) fun t hf y => ?_
  blk_simp; rw [after2_11]; refine (gate_at V c t y _ ?_ ?_).2
  all_goals (blk_simp [idx2 t] <;> try omega)
theorem final_dy (c : Dev nD) : (dat2 V c).arrAt 12 cfg2.N = dyOf (hV V c) (sV V c) (gV V c) (dhV V c) := by
  refine (dat2 V c).arrAt_eq_of_covers 12 _ (by decide +kernel) fun t hf y => ?_
  blk_simp; rw [after2_12]; refine (dyOf_at V c t y _ ?_ ?_).1
  all_goals (blk_simp [idx2 t] <;> try omega)
theorem final_dyb (c : Dev nD) : (dat2 V c).arrAt 13 cfg2.N = dyOf (hV V c) (sV V c) (gV V c) (dhV V c) := by
  refine (dat2 V c).arrAt_eq_of_covers 13 _ (by decide +kernel) fun t hf y => ?_
  blk_simp; rw [after2_13]; refine (dyOf_at V c t y _ ?_ ?_).2
  all_goals (blk_simp [idx2 t] <;> try omega)
theorem final_dg (c : Dev nD) : (dat2 V c).arrAt 14 cfg2.N = dgOf (hV V c) (dhV V c) := by
  refine (dat2 V c).arrAt_eq_of_covers 14 _ (by decide +kernel) fun t hf y => ?_
  blk_simp; rw [after2_14]; refine dgOf_at V c t ((flush2_14 t).mp hf) y _ ?_
  all_goals (blk_simp [idx2 t] <;> try omega)
theorem final_dbl (c : Dev nD) : (dat2 V c).arrAt 15 cfg2.N = dblOf (dhV V c) := by
  refine (dat2 V c).arrAt_eq_of_covers 15 _ (by decide +kernel) fun t hf y => ?_
  blk_simp; rw [after2_15]; refine dblOf_at V c t ((flush2_15 t).mp hf) y _ ?_
  all_goals (blk_simp [idx2 t] <;> try omega)

end Calls

end Cert.FfnIdeal.Value

end
-- ==== Proof.Ffn.Math.lean ====
/-
  The gated feed-forward on the way back, written with plain sums over its own columns: the gradients of the gate's two factors and the
  cotangent of the row below it, and that the derivative's spelling of the two gradients is the hand-written one for real cotangents.
-/
module

public import proofs.«01_k».proof.Proof.Rows
public import proofs.«01_k».proof.Proof.Gate.Math

@[expose] public section

noncomputable section

namespace Cert.Ffn.Math

open Idealize.ShloMosaic
open Cert.Rows Cert.Gate.Math

theorem sg_real {a : EReal} (h : ∃ r : ℝ, a = r) : ∃ r : ℝ, sg a = r := by
  obtain ⟨r, rfl⟩ := h
  exact ⟨_, sg_coe r⟩

theorem one_real : ∃ r : ℝ, (1 : EReal) = r := ⟨1, rfl⟩

/-! ## One entry of the gate -/

/-- The gradients with respect to the arguments of the two factors of `silu a * u`, from the cotangent `t`. -/
abbrev dAct (t u a : EReal) : EReal := t * u * (sg a * (1 + a * (1 - sg a)))
abbrev dLin (t a : EReal) : EReal := t * (a * sg a)

theorem dAct_real {t u a : EReal} (ht : ∃ r : ℝ, t = r) (hu : ∃ r : ℝ, u = r) (ha : ∃ r : ℝ, a = r) : ∃ r : ℝ, dAct t u a = r :=
  Reals.real_mul (Reals.real_mul ht hu) (Reals.real_mul (sg_real ha)
    (Reals.real_add one_real (Reals.real_mul ha (Reals.real_sub one_real (sg_real ha)))))
theorem dLin_real {t a : EReal} (ht : ∃ r : ℝ, t = r) (ha : ∃ r : ℝ, a = r) : ∃ r : ℝ, dLin t a = r :=
  Reals.real_mul ht (Reals.real_mul ha (sg_real ha))

/-- The product rule's spelling. -/
theorem dAct_eq {t u a : EReal} (ht : ∃ r : ℝ, t = r) (hu : ∃ r : ℝ, u = r) : t * u * sg a + a * (t * u) * (sg a * (1 - sg a)) = dAct t u a := by
  obtain ⟨t, rfl⟩ := ht
  obtain ⟨u, rfl⟩ := hu
  rw [dAct, ← EReal.coe_mul]
  exact (dgate _ _).symm
theorem dLin_eq (t a : EReal) : a * sg a * t = dLin t a := mul_comm _ _

/-! ## The rows -/

section
variable (h : Fin 4096 → Fin 1024 → EReal) (D : Fin 4096 → Fin 1024 → EReal) (Wg Wu : Fin 1024 → Fin 2816 → EReal) (Wd : Fin 2816 → Fin 1024 → EReal)

/-- A row's product with a weight, and the cotangent of the gate's value. -/
def pre (W : Fin 1024 → Fin 2816 → EReal) (r : Fin 4096) (q : Fin 2816) : EReal := ∑ k, h r k * W k q
def dS (r : Fin 4096) (q : Fin 2816) : EReal := (∑ k, D r k * Wd q k) * half

/-- The gradients of the gate's two factors' arguments, and the cotangent of the row `h r`. -/
def dA (r : Fin 4096) (q : Fin 2816) : EReal := dAct (dS D Wd r q) (pre h Wu r q) (pre h Wg r q)
def dB (r : Fin 4096) (q : Fin 2816) : EReal := dLin (dS D Wd r q) (pre h Wg r q)
def dH (r : Fin 4096) (e : Fin 1024) : EReal := alpha * D r e + (∑ q, dA h D Wg Wu Wd r q * Wg e q + ∑ q, dB h D Wg Wd r q * Wu e q)

variable {h D Wg Wu Wd} (rh : ∀ r e, ∃ z : ℝ, h r e = z) (rD : ∀ r e, ∃ z : ℝ, D r e = z) (rg : ∀ e q, ∃ z : ℝ, Wg e q = z)
  (ru : ∀ e q, ∃ z : ℝ, Wu e q = z) (rd : ∀ q e, ∃ z : ℝ, Wd q e = z)

include rh in
theorem pre_real {W : Fin 1024 → Fin 2816 → EReal} (rW : ∀ e q, ∃ z : ℝ, W e q = z) (r : Fin 4096) (q : Fin 2816) : ∃ z : ℝ, pre h W r q = z :=
  Reals.real_sum fun k => Reals.real_mul (rh _ _) (rW _ _)
include rD rd in
theorem dS_real (r : Fin 4096) (q : Fin 2816) : ∃ z : ℝ, dS D Wd r q = z :=
  Reals.real_mul (Reals.real_sum fun k => Reals.real_mul (rD _ _) (rd _ _)) ⟨_, half_real⟩
include rD rd in
/-- The half taken inside the product. -/
theorem dS_eq (r : Fin 4096) (q : Fin 2816) : ∑ k, half * D r k * Wd q k = dS D Wd r q := by
  unfold dS
  rw [half_real]
  exact Reals.sum_smul_mul (fun k => rD r k) (fun k => rd q k) _
include rh rD rg ru rd in
theorem dH_real (r : Fin 4096) (e : Fin 1024) : ∃ z : ℝ, dH h D Wg Wu Wd r e = z :=
  Reals.real_add (Reals.real_mul alpha_real (rD _ _)) (Reals.real_add
    (Reals.real_sum fun q => Reals.real_mul (dAct_real (dS_real rD rd _ _) (pre_real rh ru _ _) (pre_real rh rg _ _)) (rg _ _))
    (Reals.real_sum fun q => Reals.real_mul (dLin_real (dS_real rD rd _ _) (pre_real rh rg _ _)) (ru _ _)))
end

end Cert.Ffn.Math

end
-- ==== Proof.Ffn.Host.lean ====
/-
  The second feed-forward over the program's arguments: the host code that packs the weights into the padded columns and takes the results
  out of them, and the program's results as the plain sums over the columns.
-/
module

public import proofs.«01_k».proof.Proof.Ffn.Final
public import proofs.«01_k».proof.Proof.Ffn.Math
public import proofs.«01_k».proof.Proof.Packed

@[expose] public section

set_option maxRecDepth 16384

noncomputable section

namespace Cert.FfnIdeal.Value

open Idealize.ShloMosaic Idealize.ShloMosaic.TcCoe Idealize.SL.Sem
open Idealize.ShloMosaic.Pipeline (Dat)
open Cert.FfnIdeal Cert.FfnIdeal.Gen
open Cert.Rows Cert.Dx
open Cert.Packed (place place_cases sum_padded sum_pieces_two)
open Cert.Ffn.Math (pre dS dA dB dH)

/-- Taking the columns out of the padded layout reads column `p` at its place. -/
theorem unpack (Y : S4096x3072.Idx → EReal) (r : Fin 4096) (p : Fin 2816) :
    shapeCast S4096x2816
      (concatenate S4096x8x352 2
        [⟨S4096x8x256, shapeCast S4096x8x256 (extractStridedSlice S4096x2048 ![0, 0] Y slices_S4096x3072_S4096x2048_0_0) shapeCasts_S4096x2048_S4096x8x256⟩,
          ⟨S4096x8x96, extractStridedSlice S4096x8x96 ![0, 0, 0]
            (shapeCast S4096x8x128 (extractStridedSlice S4096x1024 ![0, 2048] Y slices_S4096x3072_S4096x1024_0_2048) shapeCasts_S4096x1024_S4096x8x128)
            slices_S4096x8x128_S4096x8x96_0_0_0⟩]
        concatenates_S4096x8x256_S4096x8x96_S4096x8x352_d2)
      shapeCasts_S4096x8x352_S4096x2816 (ix2 r p) = Y (ix2 r (place p)) := by
  pointwise
  unfold place
  split <;> rfl

variable (m : (ℓ : Loc nD τ sig) → Buf (Elt Ideal) ℓ) (ρ : Dev nD → PrngReg)

abbrev aM (c : Dev nD) : S4096x1024.Idx → EReal := m ((c.tc : Thread nD τ).loc main_arg0)
abbrev aO (c : Dev nD) : S1024x1024.Idx → EReal := m ((c.tc : Thread nD τ).loc main_arg1)
abbrev aX (c : Dev nD) : S4096x1024.Idx → EReal := m ((c.tc : Thread nD τ).loc main_arg2)
abbrev aP (c : Dev nD) : S1x1024.Idx → EReal := m ((c.tc : Thread nD τ).loc main_arg3)
abbrev aR (c : Dev nD) : S1x1024.Idx → EReal := m ((c.tc : Thread nD τ).loc main_arg4)
abbrev aG (c : Dev nD) : S1x1024.Idx → EReal := m ((c.tc : Thread nD τ).loc main_arg5)
abbrev aB' (c : Dev nD) : S1x1024.Idx → EReal := m ((c.tc : Thread nD τ).loc main_arg6)
abbrev aWg (c : Dev nD) : S1024x2816.Idx → EReal := m ((c.tc : Thread nD τ).loc main_arg7)
abbrev aWu (c : Dev nD) : S1024x2816.Idx → EReal := m ((c.tc : Thread nD τ).loc main_arg8)
abbrev aWd (c : Dev nD) : S2816x1024.Idx → EReal := m ((c.tc : Thread nD τ).loc main_arg9)
abbrev aC (c : Dev nD) : S4096x1024.Idx → EReal := m ((c.tc : Thread nD τ).loc main_arg10)

/-! ## The rows and weights of a device's arguments -/

abbrev yA (c : Dev nD) : Fin 4096 → Fin 1024 → EReal :=
  yOf (fun r k => aM m c (ix2 r k)) (fun k e => aO m c (ix2 k e)) (fun r e => aX m c (ix2 r e)) (fun e => aP m c (ix2 0 e)) (fun e => aR m c (ix2 0 e))
abbrev gA (c : Dev nD) (e : Fin 1024) : EReal := aG m c (ix2 0 e)
abbrev bA (c : Dev nD) (e : Fin 1024) : EReal := aB' m c (ix2 0 e)
abbrev hA (c : Dev nD) (r : Fin 4096) : Fin 1024 → EReal := ln (yA m c r) (gA m c) (bA m c)
abbrev cA (c : Dev nD) (r : Fin 4096) (e : Fin 1024) : EReal := aC m c (ix2 r e)
abbrev wgA (c : Dev nD) (e : Fin 1024) (q : Fin 2816) : EReal := aWg m c (ix2 e q)
abbrev wuA (c : Dev nD) (e : Fin 1024) (q : Fin 2816) : EReal := aWu m c (ix2 e q)
abbrev wdA (c : Dev nD) (q : Fin 2816) (e : Fin 1024) : EReal := aWd m c (ix2 q e)

/-! ## Before the calls -/

theorem wg_place (c : Dev nD) (e : Fin 1024) (p : Fin 2816) : (V7 m ρ c main_v7 : S1024x3072.Idx → EReal) (ix2 e (place p)) = wgA m c e p := by
  unfold V7 W7 W6 W5 W4 W3 W2 W1 W0
  after_results
  simp -implicitDefEqProofs only [StableHlo.TRef.toBuf, StableHlo.TRef.ofBuf, cast_cast, cast_eq]
  rcases place_cases p with ⟨h1, h2⟩ | ⟨h1, h2⟩ <;> pointwise <;> split_ifs <;> first | omega | blk_ext
theorem wu_place (c : Dev nD) (e : Fin 1024) (p : Fin 2816) : (V7 m ρ c main_v15 : S1024x3072.Idx → EReal) (ix2 e (place p)) = wuA m c e p := by
  unfold V7 W7 W6 W5 W4 W3 W2 W1 W0
  after_results
  simp -implicitDefEqProofs only [StableHlo.TRef.toBuf, StableHlo.TRef.ofBuf, cast_cast, cast_eq]
  rcases place_cases p with ⟨h1, h2⟩ | ⟨h1, h2⟩ <;> pointwise <;> split_ifs <;> first | omega | blk_ext
theorem wd_place (c : Dev nD) (p : Fin 2816) (e : Fin 1024) : (V7 m ρ c main_v23 : S3072x1024.Idx → EReal) (ix2 (place p) e) = wdA m c p e := by
  unfold V7 W7 W6 W5 W4 W3 W2 W1 W0
  after_results
  simp -implicitDefEqProofs only [StableHlo.TRef.toBuf, StableHlo.TRef.ofBuf, cast_cast, cast_eq]
  rcases place_cases p with ⟨h1, h2⟩ | ⟨h1, h2⟩ <;> pointwise <;> split_ifs <;> first | omega | blk_ext
/-- The two weights read by columns are zero between the places. -/
theorem wg_zero (c : Dev nD) (e : Fin 1024) (q : Fin 3072) (h1 : 2048 ≤ q.val) (h2 : 96 ≤ (q.val - 2048) % 128) :
    (V7 m ρ c main_v7 : S1024x3072.Idx → EReal) (ix2 e q) = (0 : EReal) := by
  unfold V7 W7 W6 W5 W4 W3 W2 W1 W0
  after_results
  simp -implicitDefEqProofs only [StableHlo.TRef.toBuf, StableHlo.TRef.ofBuf, cast_cast, cast_eq]
  pointwise
  split_ifs <;> first | omega | exact (congrArg (fun z : ℝ => (z : EReal)) (by norm_num)).trans EReal.coe_zero
theorem wu_zero (c : Dev nD) (e : Fin 1024) (q : Fin 3072) (h1 : 2048 ≤ q.val) (h2 : 96 ≤ (q.val - 2048) % 128) :
    (V7 m ρ c main_v15 : S1024x3072.Idx → EReal) (ix2 e q) = (0 : EReal) := by
  unfold V7 W7 W6 W5 W4 W3 W2 W1 W0
  after_results
  simp -implicitDefEqProofs only [StableHlo.TRef.toBuf, StableHlo.TRef.ofBuf, cast_cast, cast_eq]
  pointwise
  split_ifs <;> first | omega | exact (congrArg (fun z : ℝ => (z : EReal)) (by norm_num)).trans EReal.coe_zero

theorem W7_m (c : Dev nD) : V7 m ρ c main_v24 = aM m c := by
  unfold V7 W7 W6 W5 W4 W3 W2 W1 W0; after_results; rfl
theorem W7_o (c : Dev nD) : V7 m ρ c main_v25 = aO m c := by
  unfold V7 W7 W6 W5 W4 W3 W2 W1 W0; after_results; rfl

theorem yV_eq (c : Dev nD) : yV (V7 m ρ) c = yA m c := by
  unfold yV
  rw [W7_m, W7_o, show V7 m ρ c main_arg2 = aX m c from W7_args m ρ c main_arg2 (by decide),
    show V7 m ρ c main_arg3 = aP m c from W7_args m ρ c main_arg3 (by decide), show V7 m ρ c main_arg4 = aR m c from W7_args m ρ c main_arg4 (by decide)]

/-! ## The forward calls' arrays -/

theorem W8_ln (c : Dev nD) : V8 m ρ c main_v26_0 = lnOf (yA m c) (gA m c) (bA m c) := by
  refine (W8_arr m ρ c 7).trans ((final_ln (V7 m ρ) c).trans ?_)
  rw [yV_eq]
  unfold gV bV
  rw [show V7 m ρ c main_arg5 = aG m c from W7_args m ρ c main_arg5 (by decide), show V7 m ρ c main_arg6 = aB' m c from W7_args m ρ c main_arg6 (by decide)]

/-- What stays from before the calls. -/
theorem W8_wg (c : Dev nD) : V8 m ρ c main_v7 = V7 m ρ c main_v7 := W8_of m ρ c main_v7 (by decide)
theorem W8_wu (c : Dev nD) : V8 m ρ c main_v15 = V7 m ρ c main_v15 := W8_of m ρ c main_v15 (by decide)
theorem W10_wg (c : Dev nD) : V10 m ρ c main_v7 = V7 m ρ c main_v7 :=
  (W10_of m ρ c main_v7 (by decide)).trans ((W9_of m ρ c main_v7 (by decide)).trans (W8_wg m ρ c))
theorem W10_wu (c : Dev nD) : V10 m ρ c main_v15 = V7 m ρ c main_v15 :=
  (W10_of m ρ c main_v15 (by decide)).trans ((W9_of m ρ c main_v15 (by decide)).trans (W8_wu m ρ c))
theorem W10_wd (c : Dev nD) : V10 m ρ c main_v23 = V7 m ρ c main_v23 :=
  (W10_of m ρ c main_v23 (by decide)).trans ((W9_of m ρ c main_v23 (by decide)).trans (W8_of m ρ c main_v23 (by decide)))

theorem W10_a (c : Dev nD) : V10 m ρ c main_v27_0 = prod (lnOf (yA m c) (gA m c) (bA m c)) (V7 m ρ c main_v7) := by
  refine (W10_of m ρ c main_v27_0 (by decide)).trans ((W9_arr m ρ c 3).trans ((final_a (V8 m ρ) c).trans ?_))
  rw [W8_ln, W8_wg]
theorem W10_u (c : Dev nD) : V10 m ρ c main_v27_1 = prod (lnOf (yA m c) (gA m c) (bA m c)) (V7 m ρ c main_v15) := by
  refine (W10_of m ρ c main_v27_1 (by decide)).trans ((W9_arr m ρ c 4).trans ((final_b (V8 m ρ) c).trans ?_))
  rw [W8_ln, W8_wu]
theorem W10_h (c : Dev nD) : V10 m ρ c main_v26_1 = hatOf (yA m c) := by
  rw [← yV_eq m ρ c]
  exact (W10_of m ρ c main_v26_1 (by decide)).trans ((W9_of m ρ c main_v26_1 (by decide)).trans ((W8_arr m ρ c 8).trans (final_h (V7 m ρ) c)))
theorem W10_s (c : Dev nD) : V10 m ρ c main_v26_2 = rstdOf (yA m c) := by
  rw [← yV_eq m ρ c]
  exact (W10_of m ρ c main_v26_2 (by decide)).trans ((W9_of m ρ c main_v26_2 (by decide)).trans ((W8_arr m ρ c 9).trans (final_s (V7 m ρ) c)))
theorem W10_q (c : Dev nD) : V10 m ρ c main_v28 = aC m c := by
  refine Eq.trans (b := (W9 m ρ c (Proc.devRef .tc main_arg10) : S4096x1024.Idx → EReal)) ?_ (W9_args m ρ c main_arg10 (by decide))
  unfold V10 W10; after_results; rfl

/-! ## The backward call's operands at the places of the columns -/

theorem qV_eq (c : Dev nD) : qV (V10 m ρ) c = cA m c := by unfold qV; rw [W10_q]
theorem cV_eq (c : Dev nD) : cV (V10 m ρ) c = cA m c := by
  unfold cV; rw [show V10 m ρ c main_arg10 = aC m c from W10_args m ρ c main_arg10 (by decide)]
theorem gV_eq (c : Dev nD) : gV (V10 m ρ) c = gA m c := by
  unfold gV; rw [show V10 m ρ c main_arg5 = aG m c from W10_args m ρ c main_arg5 (by decide)]
theorem hV_eq (c : Dev nD) : hV (V10 m ρ) c = fun r => Norm.hat len (yA m c r) := by unfold hV; rw [W10_h]; rfl
theorem sV_eq (c : Dev nD) : sV (V10 m ρ) c = fun r => Norm.rstd len (yA m c r) := by unfold sV; rw [W10_s]; rfl

theorem aV_eq (c : Dev nD) (r : Fin 4096) (p : Fin 2816) : aV (V10 m ρ) c r (place p) = pre (hA m c) (wgA m c) r p := by
  unfold aV pre
  rw [W10_a]
  exact Finset.sum_congr rfl fun k _ => congrArg₂ _ rfl (wg_place m ρ c k p)
theorem uV_eq (c : Dev nD) (r : Fin 4096) (p : Fin 2816) : uV (V10 m ρ) c r (place p) = pre (hA m c) (wuA m c) r p := by
  unfold uV pre
  rw [W10_u]
  exact Finset.sum_congr rfl fun k _ => congrArg₂ _ rfl (wu_place m ρ c k p)
theorem dsV_eq (c : Dev nD) (r : Fin 4096) (p : Fin 2816) : dsOf (qV (V10 m ρ) c) (wdV (V10 m ρ) c) r (place p) = dS (cA m c) (wdA m c) r p := by
  unfold dsOf dS wdV
  rw [qV_eq, W10_wd]
  exact congrArg (· * half) (Finset.sum_congr rfl fun k _ => congrArg₂ _ rfl (wd_place m ρ c p k))

theorem daV_eq (c : Dev nD) (r : Fin 4096) (p : Fin 2816) : daOf (qV (V10 m ρ) c) (wdV (V10 m ρ) c) (aV (V10 m ρ) c) (uV (V10 m ρ) c) r (place p)
    = dA (hA m c) (cA m c) (wgA m c) (wuA m c) (wdA m c) r p := by
  unfold daOf dA
  rw [dsV_eq, aV_eq, uV_eq, sgK_eq]
theorem dbV_eq (c : Dev nD) (r : Fin 4096) (p : Fin 2816) : dbOf (qV (V10 m ρ) c) (wdV (V10 m ρ) c) (aV (V10 m ρ) c) r (place p)
    = dB (hA m c) (cA m c) (wgA m c) (wdA m c) r p := by
  unfold dbOf dB
  rw [dsV_eq, aV_eq, sgK_eq]

/-- The rows' cotangents are the sums over the columns: the twelve pieces are two sums over the places, zero between them. -/
theorem dhV_eq (c : Dev nD) : dhV (V10 m ρ) c = dH (hA m c) (cA m c) (wgA m c) (wuA m c) (wdA m c) := by
  funext r e
  refine (sum_pieces_two (alpha * cV (V10 m ρ) c r e)
    (fun q => daOf (qV (V10 m ρ) c) (wdV (V10 m ρ) c) (aV (V10 m ρ) c) (uV (V10 m ρ) c) r q * wgV (V10 m ρ) c e q)
    (fun q => dbOf (qV (V10 m ρ) c) (wdV (V10 m ρ) c) (aV (V10 m ρ) c) r q * wuV (V10 m ρ) c e q)).trans ?_
  unfold dH
  rw [cV_eq]
  refine congrArg₂ (· + ·) rfl (congrArg₂ (· + ·) (sum_padded (fun p => daV_eq m ρ c r p) (fun p => ?_) fun q h1 h2 => ?_)
    (sum_padded (fun p => dbV_eq m ρ c r p) (fun p => ?_) fun q h1 h2 => ?_))
  · exact (congrFun (W10_wg m ρ c) _).trans (wg_place m ρ c e p)
  · exact (congrFun (W10_wg m ρ c) _).trans (wg_zero m ρ c e q h1 h2)
  · exact (congrFun (W10_wu m ρ c) _).trans (wu_place m ρ c e p)
  · exact (congrFun (W10_wu m ρ c) _).trans (wu_zero m ρ c e q h1 h2)

/-! ## The results -/

theorem W12_da (c : Dev nD) (r : Fin 4096) (p : Fin 2816) : (W12 m ρ c (Proc.devRef .tc main_v36) : S4096x2816.Idx → EReal) (ix2 r p)
    = dA (hA m c) (cA m c) (wgA m c) (wuA m c) (wdA m c) r p := by
  refine Eq.trans (b := (W11 m ρ c (Proc.devRef .tc main_v29_0) : S4096x3072.Idx → EReal) (ix2 r (place p))) ?_ ?_
  · unfold W12
    after_results
    exact unpack _ r p
  · exact (congrFun ((W11_arr m ρ c 10).trans (final_da (V10 m ρ) c)) _).trans (daV_eq m ρ c r p)
theorem W12_db (c : Dev nD) (r : Fin 4096) (p : Fin 2816) : (W12 m ρ c (Proc.devRef .tc main_v43) : S4096x2816.Idx → EReal) (ix2 r p)
    = dB (hA m c) (cA m c) (wgA m c) (wdA m c) r p := by
  refine Eq.trans (b := (W11 m ρ c (Proc.devRef .tc main_v29_1) : S4096x3072.Idx → EReal) (ix2 r (place p))) ?_ ?_
  · unfold W12
    after_results
    exact unpack _ r p
  · exact (congrFun ((W11_arr m ρ c 11).trans (final_db (V10 m ρ) c)) _).trans (dbV_eq m ρ c r p)

/-- The rows' cotangents and the scale's gradient, over the rows `y` before the layer norm and their cotangents `d` after it. -/
def rowsBack (y d : Fin 4096 → Fin 1024 → EReal) (g : Fin 1024 → EReal) (i : S4096x1024.Idx) : EReal := Rows.back (y (i 0)) g (d (i 0)) (i 1)
def scaleGrad (y d : Fin 4096 → Fin 1024 → EReal) (i : S1x1024.Idx) : EReal := ∑ r, d r (i 1) * Norm.hat len (y r) (i 1)

/-- The cotangents of the normalised rows. -/
abbrev dhA (c : Dev nD) : Fin 4096 → Fin 1024 → EReal := dH (hA m c) (cA m c) (wgA m c) (wuA m c) (wdA m c)

theorem W12_dy (c : Dev nD) : W12 m ρ c (Proc.devRef .tc main_v29_2) = rowsBack (yA m c) (dhA m c) (gA m c) := by
  refine (W12_of m ρ c main_v29_2 (by decide)).trans ((W11_arr m ρ c 12).trans ((final_dy (V10 m ρ) c).trans ?_))
  rw [hV_eq, sV_eq, dhV_eq, gV_eq]; rfl
theorem W12_dyb (c : Dev nD) : W12 m ρ c (Proc.devRef .tc main_v29_3) = rowsBack (yA m c) (dhA m c) (gA m c) := by
  refine (W12_of m ρ c main_v29_3 (by decide)).trans ((W11_arr m ρ c 13).trans ((final_dyb (V10 m ρ) c).trans ?_))
  rw [hV_eq, sV_eq, dhV_eq, gV_eq]; rfl
theorem W12_dg (c : Dev nD) : W12 m ρ c (Proc.devRef .tc main_v29_4) = scaleGrad (yA m c) (dhA m c) := by
  refine (W12_of m ρ c main_v29_4 (by decide)).trans ((W11_arr m ρ c 14).trans ((final_dg (V10 m ρ) c).trans ?_))
  rw [hV_eq, dhV_eq]; rfl
theorem W12_dbl (c : Dev nD) : W12 m ρ c (Proc.devRef .tc main_v29_5) = dblOf (dhA m c) := by
  refine (W12_of m ρ c main_v29_5 (by decide)).trans ((W11_arr m ρ c 15).trans ((final_dbl (V10 m ρ) c).trans ?_))
  rw [dhV_eq]

end Cert.FfnIdeal.Value

end
-- ==== Proof.Ffn.Ref.lean ====
/-
  The derivative of the second feed-forward and its layer norm as `jax.vjp` prints it, entry by entry, and for real arguments.
-/
module

public import proofs.«01_k».proof.Proof.Dx
public import proofs.«01_k».proof.Proof.Ffn.Math
public import proofs.«01_k».proof.Proof.Gen.FfnRefIdeal.Read
public import Idealize.ShloMosaic.Lib.Pipeline.ValueKit
public import Idealize.ShloMosaic.Lib.Pointwise

@[expose] public section

set_option maxRecDepth 16384

noncomputable section

namespace Cert.FfnRefIdeal.Value

open Idealize.ShloMosaic Idealize.ShloMosaic.TcCoe
open Cert.FfnRefIdeal Cert.FfnRefIdeal.Gen Cert.FfnRefIdeal.Read
open Cert.Norm Cert.Rows Cert.Gate.Math Cert.Ffn.Math

variable (x0 : (⟨S4096x1024, .f32⟩ : BufTy).Contents (Elt Ideal)) (x1 : (⟨S1024x1024, .f32⟩ : BufTy).Contents (Elt Ideal))
  (x2 : (⟨S4096x1024, .f32⟩ : BufTy).Contents (Elt Ideal)) (x3 x4 x5 x6 : (⟨S1x1024, .f32⟩ : BufTy).Contents (Elt Ideal))
  (x7 x8 : (⟨S1024x2816, .f32⟩ : BufTy).Contents (Elt Ideal)) (x9 : (⟨S2816x1024, .f32⟩ : BufTy).Contents (Elt Ideal))
  (x10 : (⟨S4096x1024, .f32⟩ : BufTy).Contents (Elt Ideal))

/-- Row `r` before and after the layer norm, the norm's scale, the cotangent and the three weights. -/
abbrev yR (r : Fin 4096) (e : Fin 1024) : EReal := alpha * (x2 (ix2 r e) * x3 (ix2 0 e) + x4 (ix2 0 e)) + ∑ k : Fin 1024, x0 (ix2 r k) * x1 (ix2 k e)
abbrev gR (e : Fin 1024) : EReal := x5 (ix2 0 e)
abbrev hR (r : Fin 4096) : Fin 1024 → EReal := ln (yR x0 x1 x2 x3 x4 r) (gR x5) (gR x6)
abbrev cR (r : Fin 4096) (e : Fin 1024) : EReal := x10 (ix2 r e)
abbrev wR (e : Fin 1024) (q : Fin 2816) : EReal := x7 (ix2 e q)
abbrev vR (q : Fin 2816) (e : Fin 1024) : EReal := x9 (ix2 q e)
abbrev daR : Fin 4096 → Fin 2816 → EReal := dA (hR x0 x1 x2 x3 x4 x5 x6) (cR x10) (wR x7) (wR x8) (vR x9)
abbrev dbR : Fin 4096 → Fin 2816 → EReal := dB (hR x0 x1 x2 x3 x4 x5 x6) (cR x10) (wR x7) (vR x9)
abbrev dR : Fin 4096 → Fin 1024 → EReal := dH (hR x0 x1 x2 x3 x4 x5 x6) (cR x10) (wR x7) (wR x8) (vR x9)

/-! ## The layer norm -/

theorem rows (r : Fin 4096) (e : Fin 1024) : val_main_v7 x0 x1 x2 x3 x4 (ix2 r e) = yR x0 x1 x2 x3 x4 r e := by
  pointwise [val_main_v7, val_main_v6, val_main_v5, val_main_v4, val_main_v3, val_main_v2, val_main_v1, val_main_v0, val_main_cst]
theorem means (r : Fin 4096) : val_main_v14 x0 x1 x2 x3 x4 (ix2 r 0) = mean len (yR x0 x1 x2 x3 x4 r) := by
  unfold mean
  simp only [← rows]
  pointwise [val_main_v14, val_main_v13, val_main_cst_2, val_main_v12, val_main_v11, val_main_cst_1]
theorem cens (r : Fin 4096) (e : Fin 1024) : val_main_v16 x0 x1 x2 x3 x4 (ix2 r e) = cen len (yR x0 x1 x2 x3 x4 r) e := by
  unfold cen
  rw [← means, ← rows]
  pointwise [val_main_v16, val_main_v15]
theorem cens' (r : Fin 4096) (e : Fin 1024) : val_main_v25 x0 x1 x2 x3 x4 (ix2 r e) = cen len (yR x0 x1 x2 x3 x4 r) e := by
  unfold cen
  rw [← means, ← rows]
  pointwise [val_main_v25, val_main_v24]
theorem vars (r : Fin 4096) : val_main_v27 x0 x1 x2 x3 x4 (ix2 r 0) = var len (yR x0 x1 x2 x3 x4 r) + eps := by
  unfold var mean
  simp only [← cens]
  pointwise [val_main_v27, val_main_v26, val_main_cst_6, val_main_v23, val_main_v22, val_main_cst_5, val_main_v21, val_main_v20, val_main_cst_4, val_main_v17]
theorem rstds (r : Fin 4096) : val_main_v28 x0 x1 x2 x3 x4 (ix2 r 0) = rstd len (yR x0 x1 x2 x3 x4 r) := by
  unfold rstd
  rw [← vars]
  pointwise [val_main_v28]
theorem hats (r : Fin 4096) (e : Fin 1024) : val_main_v33 x0 x1 x2 x3 x4 (ix2 r e) = hat len (yR x0 x1 x2 x3 x4 r) e := by
  unfold hat
  rw [← cens', ← rstds]
  pointwise [val_main_v33, val_main_v32]
theorem lns (r : Fin 4096) (e : Fin 1024) : val_main_v39 x0 x1 x2 x3 x4 x5 x6 (ix2 r e) = hR x0 x1 x2 x3 x4 x5 x6 r e := by
  unfold hR ln
  rw [← hats]
  pointwise [val_main_v39, val_main_v38, val_main_v37, val_main_v36, val_main_v35, val_main_v34, val_main_v10, val_main_v9]

/-! ## The gate -/

theorem gates (r : Fin 4096) (q : Fin 2816) : val_main_v43 x0 x1 x2 x3 x4 x5 x6 x7 (ix2 r q) = pre (hR x0 x1 x2 x3 x4 x5 x6) (wR x7) r q := by
  unfold pre
  simp only [← lns]
  pointwise [val_main_v43, val_main_v42, val_main_v8, val_main_cst_0]
theorem ups (r : Fin 4096) (q : Fin 2816) : val_main_v46 x0 x1 x2 x3 x4 x5 x6 x8 (ix2 r q) = pre (hR x0 x1 x2 x3 x4 x5 x6) (wR x8) r q := by
  unfold pre
  simp only [← lns]
  pointwise [val_main_v46, val_main_v45, val_main_v8, val_main_cst_0]
theorem sigs (r : Fin 4096) (q : Fin 2816) : val_main_v44_2 x0 x1 x2 x3 x4 x5 x6 x7 (ix2 r q)
    = sg (pre (hR x0 x1 x2 x3 x4 x5 x6) (wR x7) r q) := by
  rw [← gates]
  pointwise [val_main_v44_2, val_main_call0_v4, val_main_call0_cst_0, val_main_call0_v3, val_main_call0_v2, val_main_call0_cst, val_main_call0_v1,
    val_main_call0_v0]

variable (h0 : ∀ i, ∃ r : ℝ, (x0 i : EReal) = r) (h1 : ∀ i, ∃ r : ℝ, (x1 i : EReal) = r) (h2 : ∀ i, ∃ r : ℝ, (x2 i : EReal) = r)
  (h3 : ∀ i, ∃ r : ℝ, (x3 i : EReal) = r) (h4 : ∀ i, ∃ r : ℝ, (x4 i : EReal) = r) (h5 : ∀ i, ∃ r : ℝ, (x5 i : EReal) = r)
  (h6 : ∀ i, ∃ r : ℝ, (x6 i : EReal) = r) (h7 : ∀ i, ∃ r : ℝ, (x7 i : EReal) = r) (h8 : ∀ i, ∃ r : ℝ, (x8 i : EReal) = r)
  (h9 : ∀ i, ∃ r : ℝ, (x9 i : EReal) = r) (h10 : ∀ i, ∃ r : ℝ, (x10 i : EReal) = r)

include h9 h10 in
theorem dss (r : Fin 4096) (q : Fin 2816) : val_main_v56 x9 x10 (ix2 r q) = dS (cR x10) (vR x9) r q := by
  rw [← dS_eq (fun r e => h10 _) (fun q e => h9 _)]
  pointwise [val_main_v56, val_main_v55, val_main_v54, val_main_cst_10, val_main_v53]

include h0 h1 h2 h3 h4 in
theorem yR_real (r : Fin 4096) (e : Fin 1024) : ∃ z : ℝ, yR x0 x1 x2 x3 x4 r e = z :=
  Reals.real_add (Reals.real_mul alpha_real (Reals.real_add (Reals.real_mul (h2 _) (h3 _)) (h4 _))) (Reals.real_sum fun k => Reals.real_mul (h0 _) (h1 _))
include h0 h1 h2 h3 h4 h5 h6 in
theorem hR_real (r : Fin 4096) (e : Fin 1024) : ∃ z : ℝ, hR x0 x1 x2 x3 x4 x5 x6 r e = z := by
  have hh := Norm.hat_real (N := 1024) (by norm_num) (by norm_num) (yR_real x0 x1 x2 x3 x4 h0 h1 h2 h3 h4 r) e
  rw [← len_real] at hh
  exact Reals.real_add (Reals.real_mul hh (h5 _)) (h6 _)

include h9 h10 in
theorem dbs (r : Fin 4096) (q : Fin 2816) : val_main_v57 x0 x1 x2 x3 x4 x5 x6 x7 x9 x10 (ix2 r q) = dbR x0 x1 x2 x3 x4 x5 x6 x7 x9 x10 r q := by
  unfold dbR dB
  rw [← dLin_eq, ← dss x9 x10 h9 h10, ← sigs, ← gates]
  pointwise [val_main_v57, val_main_v44_0]

include h0 h1 h2 h3 h4 h5 h6 h8 h9 h10 in
theorem das (r : Fin 4096) (q : Fin 2816) : val_main_v60 x0 x1 x2 x3 x4 x5 x6 x7 x8 x9 x10 (ix2 r q)
    = daR x0 x1 x2 x3 x4 x5 x6 x7 x8 x9 x10 r q := by
  unfold daR dA
  rw [← dAct_eq (dS_real (fun r e => h10 _) (fun q e => h9 _) r q) (pre_real (hR_real x0 x1 x2 x3 x4 x5 x6 h0 h1 h2 h3 h4 h5 h6) (fun e q => h8 _) r q),
    ← dss x9 x10 h9 h10, ← sigs, ← gates x0 x1 x2 x3 x4 x5 x6 x7, ← ups x0 x1 x2 x3 x4 x5 x6 x8]
  pointwise [val_main_v60, val_main_call1_v2, val_main_call1_v1, val_main_call1_v0, val_main_v58, val_main_v44_1, val_main_call0_v7, val_main_call0_v6,
    val_main_call0_cst_1]

include h0 h1 h2 h3 h4 h5 h6 h8 h9 h10 in
theorem dhs (r : Fin 4096) (e : Fin 1024) : val_main_v65 x0 x1 x2 x3 x4 x5 x6 x7 x8 x9 x10 (ix2 r e) = dR x0 x1 x2 x3 x4 x5 x6 x7 x8 x9 x10 r e := by
  unfold dR dH
  refine Eq.trans ?_ ((add_comm _ _).trans (congrArg _ (add_comm _ _)))
  simp only [← das x0 x1 x2 x3 x4 x5 x6 x7 x8 x9 x10 h0 h1 h2 h3 h4 h5 h6 h8 h9 h10, ← dbs x0 x1 x2 x3 x4 x5 x6 x7 x9 x10 h9 h10]
  pointwise [val_main_v65, val_main_v64, val_main_v63, val_main_cst_11, val_main_v62, val_main_v61, val_main_v59, val_main_v52]

/-! ## The layer norm on the way back -/

/-- The cotangent of the normalised row. -/
abbrev dhP (r : Fin 4096) (e : Fin 1024) : EReal := val_main_v65 x0 x1 x2 x3 x4 x5 x6 x7 x8 x9 x10 (ix2 r e)
theorem dxhs (r : Fin 4096) (e : Fin 1024) : val_main_v73 x0 x1 x2 x3 x4 x5 x6 x7 x8 x9 x10 (ix2 r e)
    = dhP x0 x1 x2 x3 x4 x5 x6 x7 x8 x9 x10 r e * gR x5 e := by
  pointwise [val_main_v73, val_main_v72, val_main_v34, val_main_v9]

theorem vias (r : Fin 4096) (e : Fin 1024) : val_main_v88 x0 x1 x2 x3 x4 x5 x6 x7 x8 x9 x10 (ix2 r e)
    = viaVar len (yR x0 x1 x2 x3 x4 r) (fun e => dhP x0 x1 x2 x3 x4 x5 x6 x7 x8 x9 x10 r e * gR x5 e) e := by
  unfold viaVar
  rw [← cens]
  simp only [← cens', ← rstds, ← vars, ← dxhs]
  pointwise [val_main_v88, val_main_v87, val_main_v86, val_main_cst_19, val_main_v85, val_main_v84, val_main_cst_18, val_main_v80, val_main_v77,
    val_main_v76, val_main_cst_16, val_main_v75, val_main_v31, val_main_v30, val_main_cst_7, val_main_v29, val_main_v19, val_main_v18, val_main_cst_3]
  rw [Fin.sum_univ_one]

theorem backs (r : Fin 4096) (e : Fin 1024) : val_main_v98 x0 x1 x2 x3 x4 x5 x6 x7 x8 x9 x10 (ix2 r e)
    = backVjp len (yR x0 x1 x2 x3 x4 r) (fun e => dhP x0 x1 x2 x3 x4 x5 x6 x7 x8 x9 x10 r e * gR x5 e) e := by
  unfold backVjp
  simp only [← vias]
  simp only [← rstds, ← dxhs]
  pointwise [val_main_v98, val_main_v97, val_main_v96, val_main_cst_22, val_main_v95, val_main_v94, val_main_cst_21, val_main_v93, val_main_v92,
    val_main_v91, val_main_v90, val_main_cst_20, val_main_v89, val_main_v83, val_main_v82, val_main_cst_17, val_main_v81, val_main_v79, val_main_v78]
  rw [Fin.sum_univ_one]

include h0 h1 h2 h3 h4 h5 h6 h8 h9 h10 in
theorem dg_read (e : Fin 1024) : val_main_v100 x0 x1 x2 x3 x4 x5 x6 x7 x8 x9 x10 (ix2 0 e)
    = ∑ r, dR x0 x1 x2 x3 x4 x5 x6 x7 x8 x9 x10 r e * hat len (yR x0 x1 x2 x3 x4 r) e := by
  refine Eq.trans (b := ∑ r, val_main_v33 x0 x1 x2 x3 x4 (ix2 r e) * val_main_v65 x0 x1 x2 x3 x4 x5 x6 x7 x8 x9 x10 (ix2 r e)) ?_
    (Finset.sum_congr rfl fun r _ => by rw [hats, dhs x0 x1 x2 x3 x4 x5 x6 x7 x8 x9 x10 h0 h1 h2 h3 h4 h5 h6 h8 h9 h10, mul_comm])
  pointwise [val_main_v100, val_main_v74, val_main_cst_15, val_main_v71, val_main_v70, val_main_cst_14, val_main_v69]
  try rw [Fin.sum_univ_one]
include h0 h1 h2 h3 h4 h5 h6 h8 h9 h10 in
theorem dbl_read (e : Fin 1024) : val_main_v99 x0 x1 x2 x3 x4 x5 x6 x7 x8 x9 x10 (ix2 0 e)
    = ∑ r, dR x0 x1 x2 x3 x4 x5 x6 x7 x8 x9 x10 r e := by
  simp only [← dhs x0 x1 x2 x3 x4 x5 x6 x7 x8 x9 x10 h0 h1 h2 h3 h4 h5 h6 h8 h9 h10]
  pointwise [val_main_v99, val_main_v68, val_main_cst_13, val_main_v67, val_main_v66, val_main_cst_12]
  try rw [Fin.sum_univ_one]

include h0 h1 h2 h3 h4 h5 h6 h7 h8 h9 h10 in
theorem dy_eq (r : Fin 4096) (e : Fin 1024) : val_main_v98 x0 x1 x2 x3 x4 x5 x6 x7 x8 x9 x10 (ix2 r e)
    = Rows.back (yR x0 x1 x2 x3 x4 r) (gR x5) (dR x0 x1 x2 x3 x4 x5 x6 x7 x8 x9 x10 r) e := by
  have hd : dhP x0 x1 x2 x3 x4 x5 x6 x7 x8 x9 x10 r = dR x0 x1 x2 x3 x4 x5 x6 x7 x8 x9 x10 r :=
    funext fun e => dhs x0 x1 x2 x3 x4 x5 x6 x7 x8 x9 x10 h0 h1 h2 h3 h4 h5 h6 h8 h9 h10 r e
  refine (backs x0 x1 x2 x3 x4 x5 x6 x7 x8 x9 x10 r e).trans ?_
  rw [hd]
  exact Dx.back_of_vjp (yR_real x0 x1 x2 x3 x4 h0 h1 h2 h3 h4 r)
    (fun e => dH_real (hR_real x0 x1 x2 x3 x4 x5 x6 h0 h1 h2 h3 h4 h5 h6) (fun r e => h10 _) (fun e q => h7 _) (fun e q => h8 _) (fun q e => h9 _) r e)
    (fun e => h5 _) e

end Cert.FfnRefIdeal.Value

end
-- ==== Proof.Ffn.Claim.lean ====
/-
  The value claim of the second feed-forward on the way back: the kernel leaves the gate's gradients, the rows' cotangents and the layer
  norm's parameters' gradients, for finite arguments.
-/
module

public import proofs.«01_k».proof.Defs
public import proofs.«01_k».proof.Proof.Ffn.Run
public import proofs.«01_k».proof.Proof.Ffn.Host
public import proofs.«01_k».proof.Proof.Ffn.Ref
public import proofs.«01_k».proof.Proof.Gen.FfnRefIdeal.Run

@[expose] public section

set_option maxRecDepth 16384

noncomputable section

/-! ## The precondition -/

namespace Cert.Pre_finite9

open Idealize.ShloMosaic

instance facts : Cert.Pre_finite9.Facts :=
  ⟨by decide, by decide, by decide, by decide, by decide, by decide, by decide, by decide, by decide, by decide, by decide⟩

theorem real_args {a : FVec Ideal S4096x1024 .f32} {o : FVec Ideal S1024x1024 .f32} {x : FVec Ideal S4096x1024 .f32} {p : FVec Ideal S1x1024 .f32} {q : FVec Ideal S1x1024 .f32} {g : FVec Ideal S1x1024 .f32} {b : FVec Ideal S1x1024 .f32} {u : FVec Ideal S1024x2816 .f32} {v : FVec Ideal S1024x2816 .f32} {w : FVec Ideal S2816x1024 .f32} {d : FVec Ideal S4096x1024 .f32}
    (h : fn (F := Ideal) a o x p q g b u v w d = fun _ => 1#1) :
    (∀ i, ∃ r : ℝ, a i = (r : EReal))
      ∧ (∀ i, ∃ r : ℝ, o i = (r : EReal))
      ∧ (∀ i, ∃ r : ℝ, x i = (r : EReal))
      ∧ (∀ i, ∃ r : ℝ, p i = (r : EReal))
      ∧ (∀ i, ∃ r : ℝ, q i = (r : EReal))
      ∧ (∀ i, ∃ r : ℝ, g i = (r : EReal))
      ∧ (∀ i, ∃ r : ℝ, b i = (r : EReal))
      ∧ (∀ i, ∃ r : ℝ, u i = (r : EReal))
      ∧ (∀ i, ∃ r : ℝ, v i = (r : EReal))
      ∧ (∀ i, ∃ r : ℝ, w i = (r : EReal))
      ∧ (∀ i, ∃ r : ℝ, d i = (r : EReal)) := by
  have e := congrFun h (fun a => a.elim0)
  obtain ⟨e, e11⟩ := IntOp.andi_eq_one.1 e
  obtain ⟨e, e10⟩ := IntOp.andi_eq_one.1 e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  haveI : Subsingleton S_.Idx := ⟨fun a b => funext fun i => i.elim0⟩
  exact ⟨fun i => Reals.real_of_cmp (Host.reduce_andi_all _ _ _ _ _ e1 i),
    fun i => Reals.real_of_cmp (Host.reduce_andi_all _ _ _ _ _ e2 i),
    fun i => Reals.real_of_cmp (Host.reduce_andi_all _ _ _ _ _ e3 i),
    fun i => Reals.real_of_cmp (Host.reduce_andi_all _ _ _ _ _ e4 i),
    fun i => Reals.real_of_cmp (Host.reduce_andi_all _ _ _ _ _ e5 i),
    fun i => Reals.real_of_cmp (Host.reduce_andi_all _ _ _ _ _ e6 i),
    fun i => Reals.real_of_cmp (Host.reduce_andi_all _ _ _ _ _ e7 i),
    fun i => Reals.real_of_cmp (Host.reduce_andi_all _ _ _ _ _ e8 i),
    fun i => Reals.real_of_cmp (Host.reduce_andi_all _ _ _ _ _ e9 i),
    fun i => Reals.real_of_cmp (Host.reduce_andi_all _ _ _ _ _ e10 i),
    fun i => Reals.real_of_cmp (Host.reduce_andi_all _ _ _ _ _ e11 i)⟩

end Cert.Pre_finite9

namespace Cert.FfnIdeal.Value

open Idealize.ShloMosaic Idealize.ShloMosaic.TcCoe Idealize.SL.Sem
open Cert.FfnIdeal Cert.FfnIdeal.Gen
open Cert.FfnRefIdeal.Read

variable (m : (ℓ : Loc nD τ sig) → Buf (Elt Ideal) ℓ) (ρ : Dev nD → PrngReg)

theorem run_values : θ_run (defs (F := Ideal)) (onTc (τ := τ) (main (F := Ideal))) ⟨m, fun _ => 0, ρ⟩ (fun r => ∀ c : Dev nD,
      r.2.mem ((c.tc : Thread nD τ).loc main_v36) = W12 m ρ c (Proc.devRef .tc main_v36)
      ∧ r.2.mem ((c.tc : Thread nD τ).loc main_v43) = W12 m ρ c (Proc.devRef .tc main_v43)
      ∧ r.2.mem ((c.tc : Thread nD τ).loc main_v29_2) = W12 m ρ c (Proc.devRef .tc main_v29_2)
      ∧ r.2.mem ((c.tc : Thread nD τ).loc main_v29_3) = W12 m ρ c (Proc.devRef .tc main_v29_3)
      ∧ r.2.mem ((c.tc : Thread nD τ).loc main_v29_4) = W12 m ρ c (Proc.devRef .tc main_v29_4)
      ∧ r.2.mem ((c.tc : Thread nD τ).loc main_v29_5) = W12 m ρ c (Proc.devRef .tc main_v29_5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨h c _ (mem_uc main_v36 (by decide)), h c _ (mem_uc main_v43 (by decide)), h c _ (mem_uc main_v29_2 (by decide)), h c _ (mem_uc main_v29_3 (by decide)), h c _ (mem_uc main_v29_4 (by decide)), h c _ (mem_uc main_v29_5 (by decide)),
    (h c _ (mem_uc main_arg0 (by decide))).trans (W12_main_arg0 m ρ c),
    (h c _ (mem_uc main_arg1 (by decide))).trans (W12_main_arg1 m ρ c),
    (h c _ (mem_uc main_arg2 (by decide))).trans (W12_main_arg2 m ρ c),
    (h c _ (mem_uc main_arg3 (by decide))).trans (W12_main_arg3 m ρ c),
    (h c _ (mem_uc main_arg4 (by decide))).trans (W12_main_arg4 m ρ c),
    (h c _ (mem_uc main_arg5 (by decide))).trans (W12_main_arg5 m ρ c),
    (h c _ (mem_uc main_arg6 (by decide))).trans (W12_main_arg6 m ρ c),
    (h c _ (mem_uc main_arg7 (by decide))).trans (W12_main_arg7 m ρ c),
    (h c _ (mem_uc main_arg8 (by decide))).trans (W12_main_arg8 m ρ c),
    (h c _ (mem_uc main_arg9 (by decide))).trans (W12_main_arg9 m ρ c),
    (h c _ (mem_uc main_arg10 (by decide))).trans (W12_main_arg10 m ρ c)⟩) (run_all m ρ)

/-! ## The reference's results at a device's arguments -/

section
variable (c : Dev nD) (h0 : ∀ i, ∃ r : ℝ, aM m c i = r)
    (h1 : ∀ i, ∃ r : ℝ, aO m c i = r)
    (h2 : ∀ i, ∃ r : ℝ, aX m c i = r)
    (h3 : ∀ i, ∃ r : ℝ, aP m c i = r)
    (h4 : ∀ i, ∃ r : ℝ, aR m c i = r)
    (h5 : ∀ i, ∃ r : ℝ, aG m c i = r)
    (h6 : ∀ i, ∃ r : ℝ, aB' m c i = r)
    (h7 : ∀ i, ∃ r : ℝ, aWg m c i = r)
    (h8 : ∀ i, ∃ r : ℝ, aWu m c i = r)
    (h9 : ∀ i, ∃ r : ℝ, aWd m c i = r)
    (h10 : ∀ i, ∃ r : ℝ, aC m c i = r)

include h0 h1 h2 h3 h4 h5 h6 h8 h9 h10 in
theorem da_eq : val_main_v101 (F := Ideal) (aM m c) (aO m c) (aX m c) (aP m c) (aR m c) (aG m c) (aB' m c) (aWg m c) (aWu m c) (aWd m c) (aC m c) = W12 m ρ c (Proc.devRef .tc main_v36) := by
  funext i
  obtain ⟨r, p, rfl⟩ : ∃ (r : Fin 4096) (p : Fin 2816), i = ix2 r p := ⟨i 0, i 1, by idx_ext⟩
  exact (Cert.FfnRefIdeal.Value.das _ _ _ _ _ _ _ _ _ _ _ h0 h1 h2 h3 h4 h5 h6 h8 h9 h10 r p).trans (W12_da m ρ c r p).symm
include h9 h10 in
theorem db_eq : val_main_v102 (F := Ideal) (aM m c) (aO m c) (aX m c) (aP m c) (aR m c) (aG m c) (aB' m c) (aWg m c) (aWd m c) (aC m c) = W12 m ρ c (Proc.devRef .tc main_v43) := by
  funext i
  obtain ⟨r, p, rfl⟩ : ∃ (r : Fin 4096) (p : Fin 2816), i = ix2 r p := ⟨i 0, i 1, by idx_ext⟩
  exact (Cert.FfnRefIdeal.Value.dbs _ _ _ _ _ _ _ _ _ _ h9 h10 r p).trans (W12_db m ρ c r p).symm
include h0 h1 h2 h3 h4 h5 h6 h7 h8 h9 h10 in
theorem dy_eq : val_main_v98 (F := Ideal) (aM m c) (aO m c) (aX m c) (aP m c) (aR m c) (aG m c) (aB' m c) (aWg m c) (aWu m c) (aWd m c) (aC m c) = rowsBack (yA m c) (dhA m c) (gA m c) := by
  funext i
  obtain ⟨r, e, rfl⟩ : ∃ (r : Fin 4096) (e : Fin 1024), i = ix2 r e := ⟨i 0, i 1, by idx_ext⟩
  exact Cert.FfnRefIdeal.Value.dy_eq _ _ _ _ _ _ _ _ _ _ _ h0 h1 h2 h3 h4 h5 h6 h7 h8 h9 h10 r e
/-- The cast of the rows' cotangents is the identity. -/
theorem dyb_eq : val_main_v103 (F := Ideal) (aM m c) (aO m c) (aX m c) (aP m c) (aR m c) (aG m c) (aB' m c) (aWg m c) (aWu m c) (aWd m c) (aC m c) = val_main_v98 (F := Ideal) (aM m c) (aO m c) (aX m c) (aP m c) (aR m c) (aG m c) (aB' m c) (aWg m c) (aWu m c) (aWd m c) (aC m c) := rfl
include h0 h1 h2 h3 h4 h5 h6 h8 h9 h10 in
theorem dg_eq : val_main_v100 (F := Ideal) (aM m c) (aO m c) (aX m c) (aP m c) (aR m c) (aG m c) (aB' m c) (aWg m c) (aWu m c) (aWd m c) (aC m c) = scaleGrad (yA m c) (dhA m c) := by
  funext i
  obtain ⟨e, rfl⟩ : ∃ e : Fin 1024, i = ix2 0 e := ⟨i 1, by idx_ext⟩
  exact Cert.FfnRefIdeal.Value.dg_read _ _ _ _ _ _ _ _ _ _ _ h0 h1 h2 h3 h4 h5 h6 h8 h9 h10 e
include h0 h1 h2 h3 h4 h5 h6 h8 h9 h10 in
theorem dbl_eq : val_main_v99 (F := Ideal) (aM m c) (aO m c) (aX m c) (aP m c) (aR m c) (aG m c) (aB' m c) (aWg m c) (aWu m c) (aWd m c) (aC m c) = dblOf (dhA m c) := by
  funext i
  obtain ⟨e, rfl⟩ : ∃ e : Fin 1024, i = ix2 0 e := ⟨i 1, by idx_ext⟩
  exact Cert.FfnRefIdeal.Value.dbl_read _ _ _ _ _ _ _ _ _ _ _ h0 h1 h2 h3 h4 h5 h6 h8 h9 h10 e
end

end Cert.FfnIdeal.Value

namespace Cert.Ffn.Claim

open Idealize.ShloMosaic Idealize.ShloMosaic.TcCoe Idealize.SL.Sem
open Cert.FfnIdeal.Value

theorem algebraic : Cert.algebraic_FfnIdeal_FfnRefIdeal_pre_finite9 := by
  pair_intro
  · run_from Cert.FfnIdeal.Value.run_values m g
  · refine θ_run_mono (Cert.FfnRefIdeal.Value.run m' g') fun r h c => ?_
    obtain ⟨f0, f1, f2, f3, f4, f5, f6, f7, f8, f9, f10⟩ := Cert.Pre_finite9.real_args (hpre c)
    obtain ⟨h0, h1, h2, h3, h4, h5, h6⟩ := h c
    obtain ⟨a0, a1, a2, a3, a4, a5, a6, a7, a8, a9, a10⟩ := hagree c
    have e0 : StableHlo.launchContents m' c (Proc.devRef .tc Cert.FfnRefIdeal.main_arg0) = aM m c := a0
    have e1 : StableHlo.launchContents m' c (Proc.devRef .tc Cert.FfnRefIdeal.main_arg1) = aO m c := a1
    have e2 : StableHlo.launchContents m' c (Proc.devRef .tc Cert.FfnRefIdeal.main_arg2) = aX m c := a2
    have e3 : StableHlo.launchContents m' c (Proc.devRef .tc Cert.FfnRefIdeal.main_arg3) = aP m c := a3
    have e4 : StableHlo.launchContents m' c (Proc.devRef .tc Cert.FfnRefIdeal.main_arg4) = aR m c := a4
    have e5 : StableHlo.launchContents m' c (Proc.devRef .tc Cert.FfnRefIdeal.main_arg5) = aG m c := a5
    have e6 : StableHlo.launchContents m' c (Proc.devRef .tc Cert.FfnRefIdeal.main_arg6) = aB' m c := a6
    have e7 : StableHlo.launchContents m' c (Proc.devRef .tc Cert.FfnRefIdeal.main_arg7) = aWg m c := a7
    have e8 : StableHlo.launchContents m' c (Proc.devRef .tc Cert.FfnRefIdeal.main_arg8) = aWu m c := a8
    have e9 : StableHlo.launchContents m' c (Proc.devRef .tc Cert.FfnRefIdeal.main_arg9) = aWd m c := a9
    have e10 : StableHlo.launchContents m' c (Proc.devRef .tc Cert.FfnRefIdeal.main_arg10) = aC m c := a10
    rw [Cert.FfnRefIdeal.Read.val_main_v101_eq, e0, e1, e2, e3, e4, e5, e6, e7, e8, e9, e10] at h0
    rw [Cert.FfnRefIdeal.Read.val_main_v102_eq, e0, e1, e2, e3, e4, e5, e6, e7, e9, e10] at h1
    rw [Cert.FfnRefIdeal.Read.val_main_v98_eq, e0, e1, e2, e3, e4, e5, e6, e7, e8, e9, e10] at h2
    rw [Cert.FfnRefIdeal.Read.val_main_v103_eq, e0, e1, e2, e3, e4, e5, e6, e7, e8, e9, e10] at h3
    rw [Cert.FfnRefIdeal.Read.val_main_v100_eq, e0, e1, e2, e3, e4, e5, e6, e7, e8, e9, e10] at h4
    rw [Cert.FfnRefIdeal.Read.val_main_v99_eq, e0, e1, e2, e3, e4, e5, e6, e7, e8, e9, e10] at h5
    exact ⟨h0.trans (da_eq m g c f0 f1 f2 f3 f4 f5 f6 f8 f9 f10), h1.trans (db_eq m g c f9 f10),
      h2.trans ((dy_eq m c f0 f1 f2 f3 f4 f5 f6 f7 f8 f9 f10).trans (W12_dy m g c).symm),
      h3.trans ((dyb_eq m c).trans ((dy_eq m c f0 f1 f2 f3 f4 f5 f6 f7 f8 f9 f10).trans (W12_dyb m g c).symm)),
      h4.trans ((dg_eq m c f0 f1 f2 f3 f4 f5 f6 f8 f9 f10).trans (W12_dg m g c).symm),
      h5.trans ((dbl_eq m c f0 f1 f2 f3 f4 f5 f6 f8 f9 f10).trans (W12_dbl m g c).symm), h6⟩

end Cert.Ffn.Claim

end
-- ==== Proof.Hgrn.Loop.lean ====
/-
  The counted loop of the recurrence's gradient kernel: the sixty-four blocks of sixteen rows, walked backwards.  A
  trip reads the rows of its block, the saved state in front of it and the carried cotangent of the state, and writes
  the cotangents of the block and the new carried cotangent.  For the frame it is enough that the trip touches these
  seventeen buffers alone and gives every one of them back whole.
-/
module

public import proofs.«01_k».proof.Proof.Gen.HgrnIdeal.Loops
public import proofs.«01_k».proof.Proof.Gen.HgrnIdeal.Frame

@[expose] public section

set_option maxRecDepth 16384
set_option maxHeartbeats 4000000

noncomputable section

namespace Cert.Proof.Hgrn

open Cert.HgrnIdeal Cert.HgrnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev 𝒱₀ : Variants := Variants.none

/-- The whole of a buffer, at contents nobody names. -/
abbrev Held {sp : Space} {s : Shape} {e : EltTy} (c : Dev nD) (M : Memref sig .tc sp s e) : sProp 𝕄 :=
  iprop(∃ f, M.view.loc (c : Thread nD τ) ↦[M.view.set]{fullShare} f)

/-- Every trip gives back each buffer it touches, at some contents. -/
@[sl_loop] def loopInv (c : Dev nD) (i : grid0.Coords) (arg2 : Memref sig .tc .vmem S1x1024x128 .f32) (harg2 : arg2.IsWhole) (arg3 : Memref sig .tc .vmem S1x1024x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x64x128x128 .bf16) (harg8 : arg8.IsWhole) (arg9 : Memref sig .tc .vmem S1x2x128 .f32) (harg9 : arg9.IsWhole) (arg10 : Memref sig .tc .vmem S1x128 .f32) (harg10 : arg10.IsWhole) (arg11 : Memref sig .tc .vmem S3x256x256 .bf16) (harg11 : arg11.IsWhole) (arg12 : Memref sig .tc .vmem S1024x128 .bf16) (harg12 : arg12.IsWhole) (arg13 : Memref sig .tc .vmem S1024x128 .bf16) (harg13 : arg13.IsWhole) (arg14 : Memref sig .tc .vmem S1024x128 .bf16) (harg14 : arg14.IsWhole) (arg15 : Memref sig .tc .vmem S1024x128 .bf16) (harg15 : arg15.IsWhole) (arg16 : Memref sig .tc .vmem S1x2x128 .f32) (harg16 : arg16.IsWhole) (arg17 : Memref sig .tc .vmem S1x1x128 .f32) (harg17 : arg17.IsWhole) (arg18 : Memref sig .tc .vmem S128x128 .f32) (harg18 : arg18.IsWhole) (arg19 : Memref sig .tc .vmem S1024x128 .bf16) (harg19 : arg19.IsWhole) (arg20 : Memref sig .tc .vmem S1024x128 .bf16) (harg20 : arg20.IsWhole) (arg21 : Memref sig .tc .vmem S1024x128 .f32) (harg21 : arg21.IsWhole) (arg22 : Memref sig .tc .vmem S1024x128 .f32) (harg22 : arg22.IsWhole) (arg23 : Memref sig .tc .vmem S1024x128 .f32) (harg23 : arg23.IsWhole) (arg24 : Memref sig .tc .vmem S1024x128 .f32) (harg24 : arg24.IsWhole) (arg25 : Memref sig .tc .vmem S1024x128 .f32) (harg25 : arg25.IsWhole) (arg26 : Memref sig .tc .vmem S1024x128 .f32) (harg26 : arg26.IsWhole) (arg27 : Memref sig .tc .vmem S1024x128 .f32) (harg27 : arg27.IsWhole) (arg28 : Memref sig .tc .vmem S1024x128 .f32) (harg28 : arg28.IsWhole) (arg29 : Memref sig .tc .vmem S1024x128 .f32) (harg29 : arg29.IsWhole) (arg30 : Memref sig .tc .vmem S1x128 .f32) (harg30 : arg30.IsWhole)
    (v135 : FVec F S1024x1 .f32) (v137 : FVec F S1024x128 .f32) (v147 : FVec F S1024x128 .f32) (v153 : FVec F S1024x128 .f32) (v155 : FVec F S1024x128 .f32) (v190 : IVec S8x128 32) :
    Gen.LoopInvTy_k0_t1 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v135 v137 v147 v153 v155 v190 where
  inv := fun _ _ => iprop(
    Held c arg2 ∗
    Held c arg4 ∗
    Held c arg8 ∗
    Held c arg12 ∗
    Held c arg14 ∗
    Held c arg18 ∗
    Held c arg19 ∗
    Held c arg20 ∗
    Held c arg21 ∗
    Held c arg22 ∗
    Held c arg23 ∗
    Held c arg24 ∗
    Held c arg25 ∗
    Held c arg26 ∗
    Held c arg27 ∗
    Held c arg28 ∗
    Held c arg29)
  step := by
    intro k acc
    have hk : k.val < 64 := Nat.lt_of_lt_of_le k.isLt k0_t1_abs.2.1
    unfold k0_t1_body
    iintro ⟨⟨%f2, H2⟩, ⟨%f4, H4⟩, ⟨%f8, H8⟩, ⟨%f12, H12⟩, ⟨%f14, H14⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩⟩
    sl_exec
    sl_step
    sl_close

end Cert.Proof.Hgrn

end
-- ==== Proof.Hgrn.Body.lean ====
/-
  The body of the recurrence's gradient kernel, run through whichever way its two conditions fall: whether the
  point is the first of its head, where the carried cotangents are set to zero, and whether it is the last, where the
  sum over the rows is written.  Every buffer goes in at some contents and comes back at some contents.
-/
module

public import proofs.«01_k».proof.Proof.Hgrn.Loop

@[expose] public section

set_option maxRecDepth 16384
set_option maxHeartbeats 4000000

noncomputable section

namespace Cert.Proof.Hgrn

open Cert.HgrnIdeal Cert.HgrnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The body from every buffer at some contents to every buffer at some contents, whichever way the two conditions
    fall. -/
theorem run_body (c : Dev nD) (i : grid0.Coords) (arg2 : Memref sig .tc .vmem S1x1024x128 .f32) (harg2 : arg2.IsWhole) (arg3 : Memref sig .tc .vmem S1x1024x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x64x128x128 .bf16) (harg8 : arg8.IsWhole) (arg9 : Memref sig .tc .vmem S1x2x128 .f32) (harg9 : arg9.IsWhole) (arg10 : Memref sig .tc .vmem S1x128 .f32) (harg10 : arg10.IsWhole) (arg11 : Memref sig .tc .vmem S3x256x256 .bf16) (harg11 : arg11.IsWhole) (arg12 : Memref sig .tc .vmem S1024x128 .bf16) (harg12 : arg12.IsWhole) (arg13 : Memref sig .tc .vmem S1024x128 .bf16) (harg13 : arg13.IsWhole) (arg14 : Memref sig .tc .vmem S1024x128 .bf16) (harg14 : arg14.IsWhole) (arg15 : Memref sig .tc .vmem S1024x128 .bf16) (harg15 : arg15.IsWhole) (arg16 : Memref sig .tc .vmem S1x2x128 .f32) (harg16 : arg16.IsWhole) (arg17 : Memref sig .tc .vmem S1x1x128 .f32) (harg17 : arg17.IsWhole) (arg18 : Memref sig .tc .vmem S128x128 .f32) (harg18 : arg18.IsWhole) (arg19 : Memref sig .tc .vmem S1024x128 .bf16) (harg19 : arg19.IsWhole) (arg20 : Memref sig .tc .vmem S1024x128 .bf16) (harg20 : arg20.IsWhole) (arg21 : Memref sig .tc .vmem S1024x128 .f32) (harg21 : arg21.IsWhole) (arg22 : Memref sig .tc .vmem S1024x128 .f32) (harg22 : arg22.IsWhole) (arg23 : Memref sig .tc .vmem S1024x128 .f32) (harg23 : arg23.IsWhole) (arg24 : Memref sig .tc .vmem S1024x128 .f32) (harg24 : arg24.IsWhole) (arg25 : Memref sig .tc .vmem S1024x128 .f32) (harg25 : arg25.IsWhole) (arg26 : Memref sig .tc .vmem S1024x128 .f32) (harg26 : arg26.IsWhole) (arg27 : Memref sig .tc .vmem S1024x128 .f32) (harg27 : arg27.IsWhole) (arg28 : Memref sig .tc .vmem S1024x128 .f32) (harg28 : arg28.IsWhole) (arg29 : Memref sig .tc .vmem S1024x128 .f32) (harg29 : arg29.IsWhole) (arg30 : Memref sig .tc .vmem S1x128 .f32) (harg30 : arg30.IsWhole) (K : PUnit → sProp 𝕄) :
    iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d)
        ∗ (iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d)) -∗ K ⟨⟩))
      ⊢ wp frame (wpE (defs₀ (F := F)) 𝒱₀ c none) Set.univ (cc0_hgrn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  simp only [cc0_hgrn_bwd_eq_skeleton]; unfold cc0_hgrn_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
  unfold owns
  by_cases h0 : Scalar.cmpi .ne (Scalar.extui (Scalar.cmpi .eq (BitVec.ofNat 32 (i 1).val) 0#32) : BitVec 32) 0#32 = 1#1 <;> by_cases h3 : k0_cond2 i = 1#1 <;> (
  iintro ⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, Hk⟩
  sl_exec (disch := first | sl_exact h0 | sl_exact h3)
  sl_step
  iapply Hk
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  isplitl [H27]
  · iexists _, _; isplitr; swap; · iexact H27
    ipureintro; rfl
  isplitl [H28]
  · iexists _, _; isplitr; swap; · iexact H28
    ipureintro; rfl
  isplitl [H29]
  · iexists _, _; isplitr; swap; · iexact H29
    ipureintro; rfl
  iexists _, _; isplitr; swap; · iexact H30
  ipureintro; rfl)

end Cert.Proof.Hgrn

end
-- ==== Proof.Hgrn.Frame.lean ====
/-
  The frame of the recurrence's gradient kernel: four heads by four tiles of a sequence, ten arrays read through blocks
  and six written.  Nothing is said of what the blocks hold: each is handed to the body at some contents and taken back
  at some contents, which is enough for the run to end, for the arguments to be what they were and for every counter to
  read zero.  The run is written once, for any reading of the floating-point operations; the two frames are its two
  readings.
-/
module

public import proofs.«01_k».proof.Proof.Hgrn.Body
public import Idealize.ShloMosaic.Lib.Pipeline.Frame

@[expose] public section

set_option maxRecDepth 16384
set_option maxHeartbeats 4000000

noncomputable section

namespace Cert.Proof.Hgrn

open Cert.HgrnIdeal Cert.HgrnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The kernel's own thirteen buffers and the generator register, conjunct by conjunct. -/
theorem PhiA0_eq (c : Dev nD) :
    (Pipeline.ΦA (U := UR sig nD τ) (Val := Elt F) spec0 c : sProp 𝕄)
      = iprop(((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)
          ∗ (∃ d, owns (c : Thread nD τ) (Memref.whole cc0_scratch3) fullShare d)
          ∗ (∃ d, owns (c : Thread nD τ) (Memref.whole cc0_scratch4) fullShare d)
          ∗ (∃ d, owns (c : Thread nD τ) (Memref.whole cc0_scratch5) fullShare d)
          ∗ (∃ d, owns (c : Thread nD τ) (Memref.whole cc0_scratch6) fullShare d)
          ∗ (∃ d, owns (c : Thread nD τ) (Memref.whole cc0_scratch7) fullShare d)
          ∗ (∃ d, owns (c : Thread nD τ) (Memref.whole cc0_scratch8) fullShare d)
          ∗ (∃ d, owns (c : Thread nD τ) (Memref.whole cc0_scratch9) fullShare d)
          ∗ (∃ d, owns (c : Thread nD τ) (Memref.whole cc0_scratch10) fullShare d)
          ∗ (∃ d, owns (c : Thread nD τ) (Memref.whole cc0_scratch11) fullShare d)
          ∗ (∃ d, owns (c : Thread nD τ) (Memref.whole cc0_scratch12) fullShare d)) ∗ (∃ r, prngReg c r)) := by
  unfold Pipeline.ΦA
  rw [scopedRest0_eq]; simp only [owns_whole]; try rfl

/-- No window's contents are followed. -/
def forgets : Fin 16 → Bool := fun _ => true

/-- The proof data on core `c`: the arrays as the region finds them, what the body leaves unnamed, the kernel's own
    buffers at some contents between the points. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare d) ∗ (∃ d, owns (c : Thread nD τ) (win0_1.stage (cfg0.slots t 1)) fullShare d) ∗ (∃ d, owns (c : Thread nD τ) (win0_2.stage (cfg0.slots t 2)) fullShare d) ∗ (∃ d, owns (c : Thread nD τ) (win0_3.stage (cfg0.slots t 3)) fullShare d) ∗ (∃ d, owns (c : Thread nD τ) (win0_4.stage (cfg0.slots t 4)) fullShare d) ∗ (∃ d, owns (c : Thread nD τ) (win0_5.stage (cfg0.slots t 5)) fullShare d) ∗ (∃ d, owns (c : Thread nD τ) (win0_6.stage (cfg0.slots t 6)) fullShare d) ∗ (∃ d, owns (c : Thread nD τ) (win0_7.stage (cfg0.slots t 7)) fullShare d) ∗ (∃ d, owns (c : Thread nD τ) (win0_8.stage (cfg0.slots t 8)) fullShare d) ∗ (∃ d, owns (c : Thread nD τ) (win0_9.stage (cfg0.slots t 9)) fullShare d) ∗ (∃ d, owns (c : Thread nD τ) (win0_10.stage (cfg0.slots t 10)) fullShare d) ∗ (∃ d, owns (c : Thread nD τ) (win0_11.stage (cfg0.slots t 11)) fullShare d) ∗ (∃ d, owns (c : Thread nD τ) (win0_12.stage (cfg0.slots t 12)) fullShare d) ∗ (∃ d, owns (c : Thread nD τ) (win0_13.stage (cfg0.slots t 13)) fullShare d) ∗ (∃ d, owns (c : Thread nD τ) (win0_14.stage (cfg0.slots t 14)) fullShare d) ∗ (∃ d, owns (c : Thread nD τ) (win0_15.stage (cfg0.slots t 15)) fullShare d))
def bodyPost (c : Dev nD) (t : Fin cfg0.N) : sProp 𝕄 :=
  iprop((dats m 0 c).Φ t.succ ∗ (dats m 0 c).owesAt () t.succ
    ∗ (∃ d, owns (c : Thread nD τ) (win0_0.stage (cfg0.slots t 0)) fullShare d) ∗ (∃ d, owns (c : Thread nD τ) (win0_1.stage (cfg0.slots t 1)) fullShare d) ∗ (∃ d, owns (c : Thread nD τ) (win0_2.stage (cfg0.slots t 2)) fullShare d) ∗ (∃ d, owns (c : Thread nD τ) (win0_3.stage (cfg0.slots t 3)) fullShare d) ∗ (∃ d, owns (c : Thread nD τ) (win0_4.stage (cfg0.slots t 4)) fullShare d) ∗ (∃ d, owns (c : Thread nD τ) (win0_5.stage (cfg0.slots t 5)) fullShare d) ∗ (∃ d, owns (c : Thread nD τ) (win0_6.stage (cfg0.slots t 6)) fullShare d) ∗ (∃ d, owns (c : Thread nD τ) (win0_7.stage (cfg0.slots t 7)) fullShare d) ∗ (∃ d, owns (c : Thread nD τ) (win0_8.stage (cfg0.slots t 8)) fullShare d) ∗ (∃ d, owns (c : Thread nD τ) (win0_9.stage (cfg0.slots t 9)) fullShare d) ∗ (∃ d, owns (c : Thread nD τ) (win0_10.stage (cfg0.slots t 10)) fullShare d) ∗ (∃ d, owns (c : Thread nD τ) (win0_11.stage (cfg0.slots t 11)) fullShare d) ∗ (∃ d, owns (c : Thread nD τ) (win0_12.stage (cfg0.slots t 12)) fullShare d) ∗ (∃ d, owns (c : Thread nD τ) (win0_13.stage (cfg0.slots t 13)) fullShare d) ∗ (∃ d, owns (c : Thread nD τ) (win0_14.stage (cfg0.slots t 14)) fullShare d) ∗ (∃ d, owns (c : Thread nD τ) (win0_15.stage (cfg0.slots t 15)) fullShare d))

/-- The body at the point. -/
theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq]
  iintro ⟨⟨⟨S0, S1, S2, S3, S4, S5, S6, S7, S8, S9, S10, S11, S12⟩, Hg⟩, HO, W0, W1, W2, W3, W4, W5, W6, W7, W8, W9, W10, W11, W12, W13, W14, W15⟩
  iapply (run_body c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [W10]; · iexact W10
  isplitl [W11]; · iexact W11
  isplitl [W12]; · iexact W12
  isplitl [W13]; · iexact W13
  isplitl [W14]; · iexact W14
  isplitl [W15]; · iexact W15
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  iintro ⟨W0, W1, W2, W3, W4, W5, W6, W7, W8, W9, W10, W11, W12, W13, W14, W15, S0, S1, S2, S3, S4, S5, S6, S7, S8, S9, S10, S11, S12⟩
  isplitl [S0 S1 S2 S3 S4 S5 S6 S7 S8 S9 S10 S11 S12 Hg]
  · isplitr [Hg]; swap; · iexact Hg
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    iexact S12
  isplitl [HO]; · iexact HO
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [W10]; · iexact W10
  isplitl [W11]; · iexact W11
  isplitl [W12]; · iexact W12
  isplitl [W13]; · iexact W13
  isplitl [W14]; · iexact W14
  iexact W15

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with every window forgotten. -/
theorem body_obligation (c : Dev nD) :
    BodyObligation (dats (F := F) m 0 c) (defs₀ (F := F)) 𝒱₀ () Set.univ forgets := fun t => by
  rw [bigSep_W0, bigSep_W0, defs₀_row]
  exact triple_restated (sound_body m c t) rfl .rfl fun _ => .rfl

set_option backward.isDefEq.respectTransparency.types false in
/-- Every weakly fair execution of the program ends, with the arrays read as they were and every counter at zero. -/
theorem run_main :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_forget_shared cfgs (dats m) (0 : Fin 1) launch₀0 defs₀ 𝒱₀ forgets m ρ main
    (fun c => (body_obligation m c).loose) (fun c w _ => rfl) (fun _ _ => rfl) (V m) (hmain m 𝒱₀) (A_eq m)
    (fun _ _ => rfl) _ (fun _ h => h)

variable {m ρ}

/-- An array the kernel only reads ends as it was. -/
theorem read_array {r : PUnit × MemSt nD τ sig (Elt F)}
    (h : Pipeline.RDat.FramePost (cfgs 0) (fun c => (dats (F := F) m 0 c).toRForget forgets) (V m) r) (c : Dev nD)
    (w : Fin cfg0.W) (hin : (cfg0.win w).isOut = false) :
    r.2.mem ((cfg0.spec w).arr.view.loc (c : Thread nD τ)) = V m c (Pipeline.arrRef spec0 w) := by
  have e := (h c).1 w
  rw [Pipeline.RDat.ArrAt_in _ w hin] at e
  exact e

/-- The claim's post from the run's. -/
theorem arguments {r : PUnit × MemSt nD τ sig (Elt F)}
    (h : Pipeline.RDat.FramePost (cfgs 0) (fun c => (dats (F := F) m 0 c).toRForget forgets) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(read_array h c 3 rfl).trans (V_main_arg0 m c), (read_array h c 4 rfl).trans (V_main_arg1 m c),
    (read_array h c 5 rfl).trans (V_main_arg2 m c),
    ((h c).2 main_arg3 (Pipeline.mem_restRefs_of main_arg3 (by decide) (by decide))).trans (V_main_arg3 m c),
    (read_array h c 7 rfl).trans (V_main_arg4 m c), (read_array h c 8 rfl).trans (V_main_arg5 m c)⟩

end Cert.Proof.Hgrn

end
-- ==== Proof.Hgrn.Claim.lean ====
/-
  The two frames of the recurrence's gradient kernel, from its one run.
-/
module

public import proofs.«01_k».proof.Defs
public import proofs.«01_k».proof.Proof.Hgrn.Frame
public import proofs.«01_k».proof.Proof.Gen.Hgrn
public import proofs.«01_k».proof.Proof.Gen.HgrnIdeal

@[expose] public section

set_option maxRecDepth 16384

noncomputable section

namespace Cert.Proof.Hgrn

open Idealize.ShloMosaic Idealize.ShloMosaic.TcCoe
open Cert.HgrnIdeal

/-- The arguments end as they were and every counter reads zero, over any float values. -/
def Quiescent (F : FTy → Type) [FloatOps F] : Prop :=
  ∀ (m : (ℓ : Loc nD τ sig) → Buf (Elt F) ℓ) (g : Dev nD → PrngReg), True →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0)

theorem quiescent (F : FTy → Type) [FloatOps F] [∀ e, Nonempty (Elt F e)] : Quiescent F := fun m g _ =>
  (θ_run defs _ _).mono (fun _ h => ⟨fun c => arguments h.1 c, h.2⟩) (run_main (F := F) m g)

/-- The idealized kernel. -/
theorem frame_ideal : Cert.quiescent_HgrnIdeal := quiescent Ideal

/-- The kernel is the same text, read over float words. -/
theorem same : Quiescent Bits = Cert.quiescent_Hgrn := by sl_kernel_rfl

theorem frame_kernel : Cert.quiescent_Hgrn := same ▸ quiescent Bits

end Cert.Proof.Hgrn

end
-- ==== Proof.Hfwd.Body.lean ====
/-
  The body of the recurrence's forward kernel, run whether or not the point is the first of its head, where the
  carried state is set to zero.  Every buffer goes in at some contents and comes back at some contents.
-/
module

public import proofs.«01_k».proof.Proof.Gen.HfwdIdeal.Loops
public import proofs.«01_k».proof.Proof.Gen.HfwdIdeal.Frame

@[expose] public section

set_option maxRecDepth 16384
set_option maxHeartbeats 4000000

noncomputable section

namespace Cert.Proof.Hfwd

open Cert.HfwdIdeal Cert.HfwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev 𝒱₀ : Variants := Variants.none

/-- The body from every buffer at some contents to every buffer at some contents, whichever way the condition
    falls. -/
theorem run_body (c : Dev nD) (i : grid0.Coords) (arg2 : Memref sig .tc .vmem S1x1024x128 .f32) (harg2 : arg2.IsWhole) (arg3 : Memref sig .tc .vmem S1x1024x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x2x128 .f32) (harg6 : arg6.IsWhole) (arg7 : Memref sig .tc .vmem S1x128 .f32) (harg7 : arg7.IsWhole) (arg8 : Memref sig .tc .vmem S3x256x256 .bf16) (harg8 : arg8.IsWhole) (arg9 : Memref sig .tc .vmem S1x1024x128 .f32) (harg9 : arg9.IsWhole) (arg10 : Memref sig .tc .vmem S1024x128 .bf16) (harg10 : arg10.IsWhole) (arg11 : Memref sig .tc .vmem S1x64x128x128 .bf16) (harg11 : arg11.IsWhole) (arg12 : Memref sig .tc .vmem S128x128 .f32) (harg12 : arg12.IsWhole) (arg13 : Memref sig .tc .vmem S1024x128 .bf16) (harg13 : arg13.IsWhole) (arg14 : Memref sig .tc .vmem S1024x128 .bf16) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (K : PUnit → sProp 𝕄) :
    iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) 𝒱₀ c none) Set.univ (cc0_hgrn_fwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_hgrn_fwd_eq_skeleton]; unfold cc0_hgrn_fwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  by_cases h0 : Scalar.cmpi .ne (Scalar.extui (Scalar.cmpi .eq (BitVec.ofNat 32 (i 1).val) 0#32) : BitVec 32) 0#32 = 1#1 <;> (
  iintro ⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  sl_exec (disch := sl_exact h0)
  sl_step
  iapply Hk
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  iexists _, _; isplitr; swap; · iexact H17
  ipureintro; rfl)

end Cert.Proof.Hfwd

end
-- ==== Proof.Hfwd.Frame.lean ====
/-
  The frame of the recurrence's forward kernel: four heads by four tiles of a sequence, seven arrays read through blocks
  and three written.  Nothing is said of what the blocks hold: each is handed to the body at some contents and taken back
  at some contents, which is enough for the run to end, for the arguments to be what they were and for every counter to
  read zero.  The run is written once, for any reading of the floating-point operations; the two frames are its two
  readings.
-/
module

public import proofs.«01_k».proof.Proof.Hfwd.Body
public import Idealize.ShloMosaic.Lib.Pipeline.Frame

@[expose] public section

set_option maxRecDepth 16384
set_option maxHeartbeats 4000000

noncomputable section

namespace Cert.Proof.Hfwd

open Cert.HfwdIdeal Cert.HfwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The kernel's own six buffers and the generator register, conjunct by conjunct. -/
theorem PhiA0_eq (c : Dev nD) :
    (Pipeline.ΦA (U := UR sig nD τ) (Val := Elt F) spec0 c : sProp 𝕄)
      = iprop(((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)
          ∗ (∃ d, owns (c : Thread nD τ) (Memref.whole cc0_scratch3) fullShare d)
          ∗ (∃ d, owns (c : Thread nD τ) (Memref.whole cc0_scratch4) fullShare d)
          ∗ (∃ d, owns (c : Thread nD τ) (Memref.whole cc0_scratch5) fullShare d)) ∗ (∃ r, prngReg c r)) := by
  unfold Pipeline.ΦA
  rw [scopedRest0_eq]; simp only [owns_whole]; try rfl

/-- No window's contents are followed. -/
def forgets : Fin 10 → Bool := fun _ => true

/-- The proof data on core `c`: the arrays as the region finds them, what the body leaves unnamed, the kernel's own
    buffers at some contents between the points. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare d) ∗ (∃ d, owns (c : Thread nD τ) (win0_1.stage (cfg0.slots t 1)) fullShare d) ∗ (∃ d, owns (c : Thread nD τ) (win0_2.stage (cfg0.slots t 2)) fullShare d) ∗ (∃ d, owns (c : Thread nD τ) (win0_3.stage (cfg0.slots t 3)) fullShare d) ∗ (∃ d, owns (c : Thread nD τ) (win0_4.stage (cfg0.slots t 4)) fullShare d) ∗ (∃ d, owns (c : Thread nD τ) (win0_5.stage (cfg0.slots t 5)) fullShare d) ∗ (∃ d, owns (c : Thread nD τ) (win0_6.stage (cfg0.slots t 6)) fullShare d) ∗ (∃ d, owns (c : Thread nD τ) (win0_7.stage (cfg0.slots t 7)) fullShare d) ∗ (∃ d, owns (c : Thread nD τ) (win0_8.stage (cfg0.slots t 8)) fullShare d) ∗ (∃ d, owns (c : Thread nD τ) (win0_9.stage (cfg0.slots t 9)) fullShare d))
def bodyPost (c : Dev nD) (t : Fin cfg0.N) : sProp 𝕄 :=
  iprop((dats m 0 c).Φ t.succ ∗ (dats m 0 c).owesAt () t.succ
    ∗ (∃ d, owns (c : Thread nD τ) (win0_0.stage (cfg0.slots t 0)) fullShare d) ∗ (∃ d, owns (c : Thread nD τ) (win0_1.stage (cfg0.slots t 1)) fullShare d) ∗ (∃ d, owns (c : Thread nD τ) (win0_2.stage (cfg0.slots t 2)) fullShare d) ∗ (∃ d, owns (c : Thread nD τ) (win0_3.stage (cfg0.slots t 3)) fullShare d) ∗ (∃ d, owns (c : Thread nD τ) (win0_4.stage (cfg0.slots t 4)) fullShare d) ∗ (∃ d, owns (c : Thread nD τ) (win0_5.stage (cfg0.slots t 5)) fullShare d) ∗ (∃ d, owns (c : Thread nD τ) (win0_6.stage (cfg0.slots t 6)) fullShare d) ∗ (∃ d, owns (c : Thread nD τ) (win0_7.stage (cfg0.slots t 7)) fullShare d) ∗ (∃ d, owns (c : Thread nD τ) (win0_8.stage (cfg0.slots t 8)) fullShare d) ∗ (∃ d, owns (c : Thread nD τ) (win0_9.stage (cfg0.slots t 9)) fullShare d))

/-- The body at the point. -/
theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq]
  iintro ⟨⟨⟨S0, S1, S2, S3, S4, S5⟩, Hg⟩, HO, W0, W1, W2, W3, W4, W5, W6, W7, W8, W9⟩
  iapply (run_body c (grid0.coords t) _ _ _ _ _ _ _ _ _ _ _ _ _ _ _ _ _ _ _ _ _ _ _ _ _ _ _ _ _ _ _ _ _)
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [S0]; · iexact S0
  isplitl [S1]; · iexact S1
  isplitl [S2]; · iexact S2
  isplitl [S3]; · iexact S3
  isplitl [S4]; · iexact S4
  isplitl [S5]; · iexact S5
  iintro ⟨W0, W1, W2, W3, W4, W5, W6, W7, W8, W9, S0, S1, S2, S3, S4, S5⟩
  isplitl [S0 S1 S2 S3 S4 S5 Hg]
  · isplitr [Hg]; swap; · iexact Hg
    isplitl [S0]; · iexact S0
    isplitl [S1]; · iexact S1
    isplitl [S2]; · iexact S2
    isplitl [S3]; · iexact S3
    isplitl [S4]; · iexact S4
    iexact S5
  isplitl [HO]; · iexact HO
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  iexact W9

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with every window forgotten. -/
theorem body_obligation (c : Dev nD) :
    BodyObligation (dats (F := F) m 0 c) (defs₀ (F := F)) 𝒱₀ () Set.univ forgets := fun t => by
  rw [bigSep_W0, bigSep_W0, defs₀_row]
  exact triple_restated (sound_body m c t) rfl .rfl fun _ => .rfl

set_option backward.isDefEq.respectTransparency.types false in
/-- Every weakly fair execution of the program ends, with the arrays read as they were and every counter at zero. -/
theorem run_main :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_forget_shared cfgs (dats m) (0 : Fin 1) launch₀0 defs₀ 𝒱₀ forgets m ρ main
    (fun c => (body_obligation m c).loose) (fun c w _ => rfl) (fun _ _ => rfl) (V m) (hmain m 𝒱₀) (A_eq m)
    (fun _ _ => rfl) _ (fun _ h => h)

variable {m ρ}

/-- An array the kernel only reads ends as it was. -/
theorem read_array {r : PUnit × MemSt nD τ sig (Elt F)}
    (h : Pipeline.RDat.FramePost (cfgs 0) (fun c => (dats (F := F) m 0 c).toRForget forgets) (V m) r) (c : Dev nD)
    (w : Fin cfg0.W) (hin : (cfg0.win w).isOut = false) :
    r.2.mem ((cfg0.spec w).arr.view.loc (c : Thread nD τ)) = V m c (Pipeline.arrRef spec0 w) := by
  have e := (h c).1 w
  rw [Pipeline.RDat.ArrAt_in _ w hin] at e
  exact e

/-- The claim's post from the run's. -/
theorem arguments {r : PUnit × MemSt nD τ sig (Elt F)}
    (h : Pipeline.RDat.FramePost (cfgs 0) (fun c => (dats (F := F) m 0 c).toRForget forgets) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨(read_array h c 3 rfl).trans (V_main_arg0 m c), (read_array h c 4 rfl).trans (V_main_arg1 m c),
    (read_array h c 5 rfl).trans (V_main_arg2 m c)⟩

end Cert.Proof.Hfwd

end
-- ==== Proof.Hfwd.Claim.lean ====
/-
  The two frames of the recurrence's forward kernel, from its one run.
-/
module

public import proofs.«01_k».proof.Defs
public import proofs.«01_k».proof.Proof.Hfwd.Frame
public import proofs.«01_k».proof.Proof.Gen.Hfwd
public import proofs.«01_k».proof.Proof.Gen.HfwdIdeal

@[expose] public section

set_option maxRecDepth 16384

noncomputable section

namespace Cert.Proof.Hfwd

open Idealize.ShloMosaic Idealize.ShloMosaic.TcCoe
open Cert.HfwdIdeal

/-- The arguments end as they were and every counter reads zero, over any float values. -/
def Quiescent (F : FTy → Type) [FloatOps F] : Prop :=
  ∀ (m : (ℓ : Loc nD τ sig) → Buf (Elt F) ℓ) (g : Dev nD → PrngReg), True →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

theorem quiescent (F : FTy → Type) [FloatOps F] [∀ e, Nonempty (Elt F e)] : Quiescent F := fun m g _ =>
  (θ_run defs _ _).mono (fun _ h => ⟨fun c => arguments h.1 c, h.2⟩) (run_main (F := F) m g)

/-- The idealized kernel. -/
theorem frame_ideal : Cert.quiescent_HfwdIdeal := quiescent Ideal

/-- The kernel is the same text, read over float words. -/
theorem same : Quiescent Bits = Cert.quiescent_Hfwd := by sl_kernel_rfl

theorem frame_kernel : Cert.quiescent_Hfwd := same ▸ quiescent Bits

end Cert.Proof.Hfwd

end
-- ==== Proof.Nfwd.Value.lean ====
/-
  What the output projection's forward call leaves over the arguments: the row under its layer norm, the normalised row and one over
  its standard deviation.
-/
module

public import proofs.«01_k».proof.Proof.Rows
public import proofs.«01_k».proof.Proof.Gen.NfwdIdeal.Frame
public import Idealize.ShloMosaic.Lib.Pipeline.ValueKit
public import Idealize.ShloMosaic.Lib.Pointwise
public import Idealize.ShloMosaic.Lib.Claim

@[expose] public section

set_option maxRecDepth 16384

noncomputable section

namespace Cert.NfwdIdeal.Value

open Idealize.ShloMosaic Idealize.ShloMosaic.TcCoe Idealize.SL.Sem
open Idealize.ShloMosaic.Pipeline (Dat)
open Cert.NfwdIdeal Cert.NfwdIdeal.Gen
open Cert.Rows

/-- A row of the residual stream: the mixed row's product with the weights, and the scaled row it is added to. -/
abbrev resid (X : Fin 1024 → EReal) (W : Fin 1024 → Fin 1024 → EReal) (H G B : Fin 1024 → EReal) (e : Fin 1024) : EReal :=
  alpha * (H e * G e + B e) + ∑ k, X k * W k e

/-! ## One block of rows -/

section
variable (b0 : Vec Ideal S512x1024 .bf16) (b1 : Vec Ideal S1024x1024 .bf16) (b2 : Vec Ideal S512x1024 .f32) (b3 b4 b5 b6 : Vec Ideal S1x1024 .f32)

/-- Row `r` of the block. -/
abbrev rowB (r : Fin 512) : Fin 1024 → EReal :=
  resid (fun k => b0 (ix2 r k)) (fun k e => b1 (ix2 k e)) (fun e => b2 (ix2 r e)) (fun e => b3 (ix2 0 e)) (fun e => b4 (ix2 0 e))

theorem normed_out (r : Fin 512) (e : Fin 1024) : out0_7 (F := Ideal) b0 b1 b2 b3 b4 b5 b6 (ix2 r e)
    = ln (rowB b0 b1 b2 b3 b4 r) (fun e => b5 (ix2 0 e)) (fun e => b6 (ix2 0 e)) e := by
  canon_tiles x h
  all_goals (obtain rfl : x = ix2 r e := by idx_ext
             open_payloads; pointwise; try rfl)
theorem hats_out (r : Fin 512) (e : Fin 1024) : out0_8 (F := Ideal) b0 b1 b2 b3 b4 b5 b6 (ix2 r e)
    = Norm.hat len (rowB b0 b1 b2 b3 b4 r) e := by
  canon_tiles x h
  all_goals (obtain rfl : x = ix2 r e := by idx_ext
             open_payloads; pointwise; try rfl)
theorem rstds_out (r : Fin 512) : out0_9 (F := Ideal) b0 b1 b2 b3 b4 b5 b6 (ix2 r 0) = Norm.rstd len (rowB b0 b1 b2 b3 b4 r) := by
  canon_tiles x h
  all_goals (obtain rfl : x = ix2 r 0 := by idx_ext
             open_payloads; pointwise; try rfl)

end

/-! ## The final arrays -/

variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![0, 0]
    ∧ win0_4.index t = ![0, 0] ∧ win0_5.index t = ![0, 0] ∧ win0_6.index t = ![0, 0]
    ∧ win0_7.index t = ![t.val, 0] ∧ win0_8.index t = ![t.val, 0] ∧ win0_9.index t = ![t.val, 0] :=
  (by decide +kernel : ∀ t : Fin grid0.N, _)

abbrev aX (c : Dev nD) : S4096x1024.Idx → EReal := m ((c.tc : Thread nD τ).loc main_arg0)
abbrev aW (c : Dev nD) : S1024x1024.Idx → EReal := m ((c.tc : Thread nD τ).loc main_arg1)
abbrev aH (c : Dev nD) : S4096x1024.Idx → EReal := m ((c.tc : Thread nD τ).loc main_arg2)
abbrev aG (c : Dev nD) : S1x1024.Idx → EReal := m ((c.tc : Thread nD τ).loc main_arg3)
abbrev aB (c : Dev nD) : S1x1024.Idx → EReal := m ((c.tc : Thread nD τ).loc main_arg4)
abbrev aG' (c : Dev nD) : S1x1024.Idx → EReal := m ((c.tc : Thread nD τ).loc main_arg5)
abbrev aB' (c : Dev nD) : S1x1024.Idx → EReal := m ((c.tc : Thread nD τ).loc main_arg6)

theorem V_v0 (c : Dev nD) : V m c main_v0 = aX m c := by entry_read; rfl
theorem V_v1 (c : Dev nD) : V m c main_v1 = aW m c := by entry_read; rfl

/-- Row `r` of block `t` of 4096 rows. -/
abbrev row (t : Fin cfg0.N) (r : Fin 512) : Fin 4096 := ⟨t.val * 512 + r.val, by have h : t.val < 8 := lt_of_lt_of_eq t.isLt N_0; omega⟩

theorem blk0 (c : Dev nD) (t : Fin cfg0.N) (r : Fin 512) (e : Fin 1024) : iblk m c 0 t (ix2 r e) = aX m c (ix2 (row t r) e) := by
  rw [← V_v0]; blk_point [iblk, idx t]
theorem blk1 (c : Dev nD) (t : Fin cfg0.N) (e k : Fin 1024) : iblk m c 1 t (ix2 e k) = aW m c (ix2 e k) := by
  rw [← V_v1]; blk_point [iblk, idx t]
theorem blk2 (c : Dev nD) (t : Fin cfg0.N) (r : Fin 512) (e : Fin 1024) : iblk m c 2 t (ix2 r e) = aH m c (ix2 (row t r) e) := by
  rw [show aH m c = V m c main_arg2 from (V_main_arg2 m c).symm]; blk_point [iblk, idx t]
theorem blk3 (c : Dev nD) (t : Fin cfg0.N) (e : Fin 1024) : iblk m c 3 t (ix2 0 e) = aG m c (ix2 0 e) := by
  rw [show aG m c = V m c main_arg3 from (V_main_arg3 m c).symm]; blk_point [iblk, idx t]
theorem blk4 (c : Dev nD) (t : Fin cfg0.N) (e : Fin 1024) : iblk m c 4 t (ix2 0 e) = aB m c (ix2 0 e) := by
  rw [show aB m c = V m c main_arg4 from (V_main_arg4 m c).symm]; blk_point [iblk, idx t]
theorem blk5 (c : Dev nD) (t : Fin cfg0.N) (e : Fin 1024) : iblk m c 5 t (ix2 0 e) = aG' m c (ix2 0 e) := by
  rw [show aG' m c = V m c main_arg5 from (V_main_arg5 m c).symm]; blk_point [iblk, idx t]
theorem blk6 (c : Dev nD) (t : Fin cfg0.N) (e : Fin 1024) : iblk m c 6 t (ix2 0 e) = aB' m c (ix2 0 e) := by
  rw [show aB' m c = V m c main_arg6 from (V_main_arg6 m c).symm]; blk_point [iblk, idx t]

section
variable (X : S4096x1024.Idx → EReal) (W : S1024x1024.Idx → EReal) (H : S4096x1024.Idx → EReal) (G B G' B' : S1x1024.Idx → EReal)

/-- Row `r` of the residual stream. -/
abbrev rows (r : Fin 4096) : Fin 1024 → EReal :=
  resid (fun k => X (ix2 r k)) (fun k e => W (ix2 k e)) (fun e => H (ix2 r e)) (fun e => G (ix2 0 e)) (fun e => B (ix2 0 e))
/-- The rows under their layer norm, normalised only, and one over their standard deviations. -/
def normedOf (i : S4096x1024.Idx) : EReal := ln (rows X W H G B (i 0)) (fun e => G' (ix2 0 e)) (fun e => B' (ix2 0 e)) (i 1)
def hatsOf (i : S4096x1024.Idx) : EReal := Norm.hat len (rows X W H G B (i 0)) (i 1)
def rstdsOf (i : S4096x1.Idx) : EReal := Norm.rstd len (rows X W H G B (i 0))

end

theorem rowB_eq (c : Dev nD) (t : Fin cfg0.N) (p : Fin 512) :
    rowB (iblk m c 0 t) (iblk m c 1 t) (iblk m c 2 t) (iblk m c 3 t) (iblk m c 4 t) p
      = rows (aX m c) (aW m c) (aH m c) (aG m c) (aB m c) (row t p) := by
  funext e
  simp only [rowB, rows, resid, blk0, blk1, blk2, blk3, blk4]

theorem normed_at (c : Dev nD) (t : Fin cfg0.N) (y : S512x1024.Idx) (i : S4096x1024.Idx) (h0 : (i 0 : ℕ) = t.val * 512 + (y 0).val) (h1 : (i 1 : ℕ) = (y 1).val) :
    out0_7 (F := Ideal) (iblk m c 0 t) (iblk m c 1 t) (iblk m c 2 t) (iblk m c 3 t) (iblk m c 4 t) (iblk m c 5 t) (iblk m c 6 t) y
      = normedOf (aX m c) (aW m c) (aH m c) (aG m c) (aB m c) (aG' m c) (aB' m c) i := by
  obtain ⟨p, e, rfl⟩ : ∃ (p : Fin 512) (e : Fin 1024), y = ix2 p e := ⟨y 0, y 1, by idx_ext⟩
  obtain rfl : i = ix2 (row t p) e := by idx_ext
  rw [normed_out, rowB_eq]
  simp only [blk5, blk6]; rfl
theorem hats_at (c : Dev nD) (t : Fin cfg0.N) (y : S512x1024.Idx) (i : S4096x1024.Idx) (h0 : (i 0 : ℕ) = t.val * 512 + (y 0).val) (h1 : (i 1 : ℕ) = (y 1).val) :
    out0_8 (F := Ideal) (iblk m c 0 t) (iblk m c 1 t) (iblk m c 2 t) (iblk m c 3 t) (iblk m c 4 t) (iblk m c 5 t) (iblk m c 6 t) y
      = hatsOf (aX m c) (aW m c) (aH m c) (aG m c) (aB m c) i := by
  obtain ⟨p, e, rfl⟩ : ∃ (p : Fin 512) (e : Fin 1024), y = ix2 p e := ⟨y 0, y 1, by idx_ext⟩
  obtain rfl : i = ix2 (row t p) e := by idx_ext
  rw [hats_out, rowB_eq]
  rfl
theorem rstds_at (c : Dev nD) (t : Fin cfg0.N) (y : S512x1.Idx) (i : S4096x1.Idx) (h0 : (i 0 : ℕ) = t.val * 512 + (y 0).val) :
    out0_9 (F := Ideal) (iblk m c 0 t) (iblk m c 1 t) (iblk m c 2 t) (iblk m c 3 t) (iblk m c 4 t) (iblk m c 5 t) (iblk m c 6 t) y
      = rstdsOf (aX m c) (aW m c) (aH m c) (aG m c) (aB m c) i := by
  have a1 : (y 1).val < 1 := (y 1).isLt
  have b1 : (i 1).val < 1 := (i 1).isLt
  obtain ⟨p, rfl⟩ : ∃ (p : Fin 512), y = ix2 p 0 := ⟨y 0, by idx_ext⟩
  obtain rfl : i = ix2 (row t p) 0 := by idx_ext
  rw [rstds_out, rowB_eq]
  rfl
theorem final_normed (c : Dev nD) : (dats m 0 c).arrAt 7 cfg0.N = normedOf (aX m c) (aW m c) (aH m c) (aG m c) (aB m c) (aG' m c) (aB' m c) := by
  refine (dats m 0 c).arrAt_eq_of_covers 7 _ (by decide +kernel) fun t hf y => ?_
  blk_simp
  rw [after0_7]
  refine normed_at m c t y _ ?_ ?_
  all_goals (blk_simp [idx t] <;> try omega)
theorem final_hats (c : Dev nD) : (dats m 0 c).arrAt 8 cfg0.N = hatsOf (aX m c) (aW m c) (aH m c) (aG m c) (aB m c) := by
  refine (dats m 0 c).arrAt_eq_of_covers 8 _ (by decide +kernel) fun t hf y => ?_
  blk_simp
  rw [after0_8]
  refine hats_at m c t y _ ?_ ?_
  all_goals (blk_simp [idx t] <;> try omega)
theorem final_rstds (c : Dev nD) : (dats m 0 c).arrAt 9 cfg0.N = rstdsOf (aX m c) (aW m c) (aH m c) (aG m c) (aB m c) := by
  refine (dats m 0 c).arrAt_eq_of_covers 9 _ (by decide +kernel) fun t hf y => ?_
  blk_simp
  rw [after0_9]
  refine rstds_at m c t y _ ?_
  all_goals (blk_simp [idx t] <;> try omega)

end Cert.NfwdIdeal.Value

end
-- ==== Proof.Nfwd.Claim.lean ====
/-
  The value claim of the output projection's forward call: the kernel leaves the row under its layer norm, the normalised row and one
  over its standard deviation, at every argument.
-/
module

public import proofs.«01_k».proof.Defs
public import proofs.«01_k».proof.Proof.Nfwd.Value
public import proofs.«01_k».proof.Proof.Gen.NfwdIdeal.Value
public import proofs.«01_k».proof.Proof.Gen.NfwdRefIdeal.Run
public import proofs.«01_k».proof.Proof.Gen.NfwdRefIdeal.Read

@[expose] public section

set_option maxRecDepth 16384

noncomputable section

namespace Cert.NfwdRefIdeal.Value

open Idealize.ShloMosaic Idealize.ShloMosaic.TcCoe
open Cert.NfwdRefIdeal Cert.NfwdRefIdeal.Gen Cert.NfwdRefIdeal.Read
open Cert.Norm Cert.Rows
open Cert.NfwdIdeal.Value (resid rows normedOf hatsOf rstdsOf)

variable (x0 : (⟨S4096x1024, .f32⟩ : BufTy).Contents (Elt Ideal)) (x1 : (⟨S1024x1024, .f32⟩ : BufTy).Contents (Elt Ideal))
  (x2 : (⟨S4096x1024, .f32⟩ : BufTy).Contents (Elt Ideal)) (x3 x4 x5 x6 : (⟨S1x1024, .f32⟩ : BufTy).Contents (Elt Ideal))

theorem resids (r : Fin 4096) (e : Fin 1024) : val_main_v11 x0 x1 x2 x3 x4 (ix2 r e) = rows x0 x1 x2 x3 x4 r e := by
  pointwise [val_main_v11, val_main_v10, val_main_v9, val_main_v8, val_main_cst, val_main_v7, val_main_v6, val_main_v5, val_main_v4, val_main_v3,
    val_main_v2, val_main_v1, val_main_v0]
theorem means (r : Fin 4096) : val_main_v15 x0 x1 x2 x3 x4 (ix2 r 0) = mean len (rows x0 x1 x2 x3 x4 r) := by
  unfold mean
  simp only [← resids]
  pointwise [val_main_v15, val_main_v14, val_main_cst_1, val_main_v13, val_main_v12, val_main_cst_0]
theorem cens (r : Fin 4096) (e : Fin 1024) : val_main_v17 x0 x1 x2 x3 x4 (ix2 r e) = cen len (rows x0 x1 x2 x3 x4 r) e := by
  unfold cen
  rw [← means, ← resids]
  pointwise [val_main_v17, val_main_v16]
theorem rstds (r : Fin 4096) : val_main_v25 x0 x1 x2 x3 x4 (ix2 r 0) = rstd len (rows x0 x1 x2 x3 x4 r) := by
  unfold rstd var mean
  simp only [← cens]
  pointwise [val_main_v25, val_main_v24, val_main_v23, val_main_cst_4, val_main_v22, val_main_v21, val_main_cst_3, val_main_v20, val_main_v19,
    val_main_cst_2, val_main_v18]
theorem hats (r : Fin 4096) (e : Fin 1024) : val_main_v56 x0 x1 x2 x3 x4 (ix2 r e) = hat len (rows x0 x1 x2 x3 x4 r) e := by
  unfold hat
  rw [← cens, ← rstds]
  pointwise [val_main_v56, val_main_v55, val_main_v54, val_main_v53, val_main_v17, val_main_v16]

/-- The layer norm computes the normalised rows once more. -/
theorem again : val_main_v45 x0 x1 x2 x3 x4 = val_main_v56 x0 x1 x2 x3 x4 := rfl

theorem normed_eq : val_main_v52 x0 x1 x2 x3 x4 x5 x6 = normedOf x0 x1 x2 x3 x4 x5 x6 := by
  funext i
  obtain ⟨r, e, rfl⟩ : ∃ (r : Fin 4096) (e : Fin 1024), i = ix2 r e := ⟨i 0, i 1, by idx_ext⟩
  show _ = hat len (rows x0 x1 x2 x3 x4 r) e * x5 (ix2 0 e) + x6 (ix2 0 e)
  rw [← hats, ← again]
  pointwise [val_main_v52, val_main_v51, val_main_v50, val_main_v49, val_main_v48, val_main_v47, val_main_v46, val_main_v27, val_main_v26]
theorem hats_eq : val_main_v56 x0 x1 x2 x3 x4 = hatsOf x0 x1 x2 x3 x4 := by
  funext i
  obtain ⟨r, e, rfl⟩ : ∃ (r : Fin 4096) (e : Fin 1024), i = ix2 r e := ⟨i 0, i 1, by idx_ext⟩
  exact hats x0 x1 x2 x3 x4 r e
theorem rstds_eq : val_main_v25 x0 x1 x2 x3 x4 = rstdsOf x0 x1 x2 x3 x4 := by
  funext i
  have a1 : (i 1).val < 1 := (i 1).isLt
  obtain ⟨r, rfl⟩ : ∃ (r : Fin 4096), i = ix2 r 0 := ⟨i 0, by idx_ext⟩
  exact rstds x0 x1 x2 x3 x4 r

end Cert.NfwdRefIdeal.Value

namespace Cert.Nfwd.Claim

open Idealize.ShloMosaic Idealize.ShloMosaic.TcCoe Idealize.SL.Sem
open Cert.NfwdIdeal.Value

theorem algebraic : Cert.algebraic_NfwdIdeal_NfwdRefIdeal := by
  pair_intro
  · run_from Cert.NfwdIdeal.Value.run_blocks m g
  · refine θ_run_mono (Cert.NfwdRefIdeal.Value.run m' g') fun r h c => ?_
    obtain ⟨h0, h1, h2, h3⟩ := h c
    obtain ⟨a0, a1, a2, a3, a4, a5, a6⟩ := hagree c
    rw [Cert.NfwdRefIdeal.Read.val_main_v52_eq, a0, a1, a2, a3, a4, a5, a6, Cert.NfwdRefIdeal.Value.normed_eq] at h0
    rw [Cert.NfwdRefIdeal.Read.val_main_v56_eq, a0, a1, a2, a3, a4, Cert.NfwdRefIdeal.Value.hats_eq] at h1
    rw [Cert.NfwdRefIdeal.Read.val_main_v25_eq, a0, a1, a2, a3, a4, Cert.NfwdRefIdeal.Value.rstds_eq] at h2
    exact ⟨h0.trans (final_normed m c).symm, h1.trans (final_hats m c).symm, h2.trans (final_rstds m c).symm, h3⟩

end Cert.Nfwd.Claim

end
-- ==== Proof.Mfwd.Value.lean ====
/-
  What the memory's forward call leaves over the arguments: the memory under its layer norm, normalised only, one over its rows'
  standard deviations, and its products with the key and value weights.
-/
module

public import proofs.«01_k».proof.Proof.Rows
public import proofs.«01_k».proof.Proof.Gen.MfwdIdeal.Frame
public import Idealize.ShloMosaic.Lib.Pipeline.ValueKit
public import Idealize.ShloMosaic.Lib.Pointwise
public import Idealize.ShloMosaic.Lib.Claim

@[expose] public section

set_option maxRecDepth 16384

noncomputable section

namespace Cert.MfwdIdeal.Value

open Idealize.ShloMosaic Idealize.ShloMosaic.TcCoe Idealize.SL.Sem
open Idealize.ShloMosaic.Pipeline (Dat)
open Cert.MfwdIdeal Cert.MfwdIdeal.Gen
open Cert.Rows

section
variable (X : S256x1024.Idx → EReal) (G B : S1x1024.Idx → EReal) (K W : S1024x1024.Idx → EReal)

/-- Row `p` of the memory. -/
abbrev row (p : Fin 256) (e : Fin 1024) : EReal := X (ix2 p e)
/-- The memory under its layer norm, normalised only, and one over its rows' standard deviations. -/
abbrev normed (i : S256x1024.Idx) : EReal := ln (row X (i 0)) (fun e => G (ix2 0 e)) (fun e => B (ix2 0 e)) (i 1)
abbrev hats (i : S256x1024.Idx) : EReal := Norm.hat len (row X (i 0)) (i 1)
abbrev rstds (i : S256x1.Idx) : EReal := Norm.rstd len (row X (i 0))
/-- The normed memory times a weight. -/
abbrev times (i : S256x1024.Idx) : EReal := ∑ k : Fin 1024, normed X G B (ix2 (i 0) k) * K (ix2 k (i 1))

theorem normed_out : out0_5 (F := Ideal) X G B K W = normed X G B := by
  funext y
  obtain ⟨p, e, rfl⟩ : ∃ (p : Fin 256) (e : Fin 1024), y = ix2 p e := ⟨y 0, y 1, by idx_ext⟩
  canon_tiles x h
  all_goals (obtain rfl : x = ix2 p e := by idx_ext
             open_payloads; pointwise; try rfl)
theorem hats_out : out0_6 (F := Ideal) X G B K W = hats X := by
  funext y
  obtain ⟨p, e, rfl⟩ : ∃ (p : Fin 256) (e : Fin 1024), y = ix2 p e := ⟨y 0, y 1, by idx_ext⟩
  canon_tiles x h
  all_goals (obtain rfl : x = ix2 p e := by idx_ext
             open_payloads; pointwise; try rfl)
theorem rstds_out : out0_7 (F := Ideal) X G B K W = rstds X := by
  funext y
  have a1 : (y 1).val < 1 := (y 1).isLt
  obtain ⟨p, rfl⟩ : ∃ (p : Fin 256), y = ix2 p 0 := ⟨y 0, by idx_ext⟩
  canon_tiles x h
  all_goals (obtain rfl : x = ix2 p 0 := by idx_ext
             open_payloads; pointwise; try rfl)
theorem keys_out : out0_8 (F := Ideal) X G B K W = times X G B K := by
  funext y
  obtain ⟨p, e, rfl⟩ : ∃ (p : Fin 256) (e : Fin 1024), y = ix2 p e := ⟨y 0, y 1, by idx_ext⟩
  canon_tiles x h
  all_goals (obtain rfl : x = ix2 p e := by idx_ext
             open_payloads; pointwise; try rfl)
theorem values_out : out0_9 (F := Ideal) X G B K W = times X G B W := by
  funext y
  obtain ⟨p, e, rfl⟩ : ∃ (p : Fin 256) (e : Fin 1024), y = ix2 p e := ⟨y 0, y 1, by idx_ext⟩
  canon_tiles x h
  all_goals (obtain rfl : x = ix2 p e := by idx_ext
             open_payloads; pointwise; try rfl)

end

/-! ## The final arrays -/

variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] :=
  (by decide +kernel : ∀ t : Fin grid0.N, _)

abbrev aX (c : Dev nD) : S256x1024.Idx → EReal := m ((c.tc : Thread nD τ).loc main_arg0)
abbrev aG (c : Dev nD) : S1x1024.Idx → EReal := m ((c.tc : Thread nD τ).loc main_arg1)
abbrev aB (c : Dev nD) : S1x1024.Idx → EReal := m ((c.tc : Thread nD τ).loc main_arg2)
abbrev aK (c : Dev nD) : S1x1024x1024.Idx → EReal := m ((c.tc : Thread nD τ).loc main_arg3)
abbrev aV (c : Dev nD) : S1x1024x1024.Idx → EReal := m ((c.tc : Thread nD τ).loc main_arg4)

/-- A weight without its unit axis. -/
abbrev flat (W : S1x1024x1024.Idx → EReal) (i : S1024x1024.Idx) : EReal := W (ix3 0 (i 0) (i 1))

theorem V_v1 (c : Dev nD) : V m c main_v1 = flat (aK m c) := by
  funext i
  obtain ⟨p, e, rfl⟩ : ∃ (p e : Fin 1024), i = ix2 p e := ⟨i 0, i 1, by idx_ext⟩
  entry_read
  pointwise
  rfl
theorem V_v3 (c : Dev nD) : V m c main_v3 = flat (aV m c) := by
  funext i
  obtain ⟨p, e, rfl⟩ : ∃ (p e : Fin 1024), i = ix2 p e := ⟨i 0, i 1, by idx_ext⟩
  entry_read
  pointwise
  rfl

theorem blk0 (c : Dev nD) (t : Fin cfg0.N) : iblk m c 0 t = aX m c := by
  rw [show aX m c = V m c main_arg0 from (V_main_arg0 m c).symm]; funext y; blk_point [iblk, idx t]
theorem blk1 (c : Dev nD) (t : Fin cfg0.N) : iblk m c 1 t = aG m c := by
  rw [show aG m c = V m c main_arg1 from (V_main_arg1 m c).symm]; funext y; blk_point [iblk, idx t]
theorem blk2 (c : Dev nD) (t : Fin cfg0.N) : iblk m c 2 t = aB m c := by
  rw [show aB m c = V m c main_arg2 from (V_main_arg2 m c).symm]; funext y; blk_point [iblk, idx t]
theorem blk3 (c : Dev nD) (t : Fin cfg0.N) : iblk m c 3 t = flat (aK m c) := by
  rw [← V_v1]; funext y; blk_point [iblk, idx t]
theorem blk4 (c : Dev nD) (t : Fin cfg0.N) : iblk m c 4 t = flat (aV m c) := by
  rw [← V_v3]; funext y; blk_point [iblk, idx t]

theorem final_normed (c : Dev nD) : (dats m 0 c).arrAt 5 cfg0.N = normed (aX m c) (aG m c) (aB m c) := by
  refine (dats m 0 c).arrAt_eq_of_covers 5 _ (by decide +kernel) fun t hf y => ?_
  blk_simp; rw [after0_5, blk0, blk1, blk2, blk3, blk4, normed_out]; exact congrArg _ (by blk_ext [idx t])
theorem final_hats (c : Dev nD) : (dats m 0 c).arrAt 6 cfg0.N = hats (aX m c) := by
  refine (dats m 0 c).arrAt_eq_of_covers 6 _ (by decide +kernel) fun t hf y => ?_
  blk_simp; rw [after0_6, blk0, blk1, blk2, blk3, blk4, hats_out]; exact congrArg _ (by blk_ext [idx t])
theorem final_rstds (c : Dev nD) : (dats m 0 c).arrAt 7 cfg0.N = rstds (aX m c) := by
  refine (dats m 0 c).arrAt_eq_of_covers 7 _ (by decide +kernel) fun t hf y => ?_
  blk_simp; rw [after0_7, blk0, blk1, blk2, blk3, blk4, rstds_out]; exact congrArg _ (by blk_ext [idx t])
theorem final_keys (c : Dev nD) : (dats m 0 c).arrAt 8 cfg0.N = times (aX m c) (aG m c) (aB m c) (flat (aK m c)) := by
  refine (dats m 0 c).arrAt_eq_of_covers 8 _ (by decide +kernel) fun t hf y => ?_
  blk_simp; rw [after0_8, blk0, blk1, blk2, blk3, blk4, keys_out]; exact congrArg _ (by blk_ext [idx t])
theorem final_values (c : Dev nD) : (dats m 0 c).arrAt 9 cfg0.N = times (aX m c) (aG m c) (aB m c) (flat (aV m c)) := by
  refine (dats m 0 c).arrAt_eq_of_covers 9 _ (by decide +kernel) fun t hf y => ?_
  blk_simp; rw [after0_9, blk0, blk1, blk2, blk3, blk4, values_out]; exact congrArg _ (by blk_ext [idx t])

end Cert.MfwdIdeal.Value

end
-- ==== Proof.Mfwd.Claim.lean ====
/-
  The value claim of the memory's forward call: the kernel leaves the memory under its layer norm, normalised only, one over its rows'
  standard deviations, and the keys and values, at every argument.
-/
module

public import proofs.«01_k».proof.Defs
public import proofs.«01_k».proof.Proof.Mfwd.Value
public import proofs.«01_k».proof.Proof.Gen.MfwdIdeal.Value
public import proofs.«01_k».proof.Proof.Gen.MfwdRefIdeal.Run
public import proofs.«01_k».proof.Proof.Gen.MfwdRefIdeal.Read

@[expose] public section

set_option maxRecDepth 16384

noncomputable section

namespace Cert.MfwdRefIdeal.Value

open Idealize.ShloMosaic Idealize.ShloMosaic.TcCoe
open Cert.MfwdRefIdeal Cert.MfwdRefIdeal.Gen Cert.MfwdRefIdeal.Read
open Cert.Norm Cert.Rows
open Cert.MfwdIdeal.Value (row normed hats rstds times flat)

variable (x0 : (⟨S256x1024, .f32⟩ : BufTy).Contents (Elt Ideal)) (x1 x2 : (⟨S1x1024, .f32⟩ : BufTy).Contents (Elt Ideal))
  (x3 x4 : (⟨S1x1024x1024, .f32⟩ : BufTy).Contents (Elt Ideal))

theorem means (p : Fin 256) : val_main_v3 x0 (ix2 p 0) = mean len (row x0 p) := by
  pointwise [val_main_v3, val_main_v2, val_main_cst_0, val_main_v1, val_main_v0, val_main_cst]
theorem cens (p : Fin 256) (e : Fin 1024) : val_main_v5 x0 (ix2 p e) = cen len (row x0 p) e := by
  unfold cen
  rw [← means]
  pointwise [val_main_v5, val_main_v4]
theorem rstd_read (p : Fin 256) : val_main_v13 x0 (ix2 p 0) = rstd len (row x0 p) := by
  unfold rstd var mean
  simp only [← cens]
  pointwise [val_main_v13, val_main_v12, val_main_v11, val_main_cst_3, val_main_v10, val_main_v9, val_main_cst_2, val_main_v8, val_main_v7,
    val_main_cst_1, val_main_v6]
theorem hat_read (p : Fin 256) (e : Fin 1024) : val_main_v44 x0 (ix2 p e) = hat len (row x0 p) e := by
  unfold hat
  rw [← cens, ← rstd_read]
  pointwise [val_main_v44, val_main_v43, val_main_v42, val_main_v41, val_main_v5, val_main_v4]

/-- The layer norm computes the normalised rows once more. -/
theorem again : val_main_v33 x0 = val_main_v44 x0 := rfl

theorem normed_read (p : Fin 256) (e : Fin 1024) : val_main_v39 x0 x1 x2 (ix2 p e) = normed x0 x1 x2 (ix2 p e) := by
  show _ = hat len (row x0 p) e * x1 (ix2 0 e) + x2 (ix2 0 e)
  rw [← hat_read, ← again]
  pointwise [val_main_v39, val_main_v38, val_main_v37, val_main_v36, val_main_v35, val_main_v34, val_main_v15, val_main_v14]

theorem normed_eq : val_main_v40 x0 x1 x2 = normed x0 x1 x2 := by
  funext i
  obtain ⟨p, e, rfl⟩ : ∃ (p : Fin 256) (e : Fin 1024), i = ix2 p e := ⟨i 0, i 1, by idx_ext⟩
  exact normed_read x0 x1 x2 p e
theorem hats_eq : val_main_v44 x0 = hats x0 := by
  funext i
  obtain ⟨p, e, rfl⟩ : ∃ (p : Fin 256) (e : Fin 1024), i = ix2 p e := ⟨i 0, i 1, by idx_ext⟩
  exact hat_read x0 p e
theorem rstds_eq : val_main_v13 x0 = rstds x0 := by
  funext i
  have a1 : (i 1).val < 1 := (i 1).isLt
  obtain ⟨p, rfl⟩ : ∃ (p : Fin 256), i = ix2 p 0 := ⟨i 0, by idx_ext⟩
  exact rstd_read x0 p
theorem keys_eq : val_main_v47 x0 x1 x2 x3 = times x0 x1 x2 (flat x3) := by
  funext i
  obtain ⟨p, e, rfl⟩ : ∃ (p : Fin 256) (e : Fin 1024), i = ix2 p e := ⟨i 0, i 1, by idx_ext⟩
  refine Eq.trans (b := ∑ k : Fin 1024, val_main_v39 x0 x1 x2 (ix2 p k) * x3 (ix3 0 k e)) ?_
    (Finset.sum_congr rfl fun k _ => by rw [normed_read]; rfl)
  pointwise [val_main_v47, val_main_v46, val_main_v45]
theorem values_eq : val_main_v50 x0 x1 x2 x4 = times x0 x1 x2 (flat x4) := keys_eq x0 x1 x2 x4

end Cert.MfwdRefIdeal.Value

namespace Cert.Mfwd.Claim

open Idealize.ShloMosaic Idealize.ShloMosaic.TcCoe Idealize.SL.Sem
open Cert.MfwdIdeal.Value

theorem algebraic : Cert.algebraic_MfwdIdeal_MfwdRefIdeal := by
  pair_intro
  · run_from Cert.MfwdIdeal.Value.run_blocks m g
  · refine θ_run_mono (Cert.MfwdRefIdeal.Value.run m' g') fun r h c => ?_
    obtain ⟨h0, h1, h2, h3, h4, h5⟩ := h c
    obtain ⟨a0, a1, a2, a3, a4⟩ := hagree c
    rw [Cert.MfwdRefIdeal.Read.val_main_v40_eq, a0, a1, a2, Cert.MfwdRefIdeal.Value.normed_eq] at h0
    rw [Cert.MfwdRefIdeal.Read.val_main_v44_eq, a0, Cert.MfwdRefIdeal.Value.hats_eq] at h1
    rw [Cert.MfwdRefIdeal.Read.val_main_v13_eq, a0, Cert.MfwdRefIdeal.Value.rstds_eq] at h2
    rw [Cert.MfwdRefIdeal.Read.val_main_v47_eq, a0, a1, a2, a3, Cert.MfwdRefIdeal.Value.keys_eq] at h3
    rw [Cert.MfwdRefIdeal.Read.val_main_v50_eq, a0, a1, a2, a4, Cert.MfwdRefIdeal.Value.values_eq] at h4
    exact ⟨h0.trans (final_normed m c).symm, h1.trans (final_hats m c).symm, h2.trans (final_rstds m c).symm, h3.trans (final_keys m c).symm,
      h4.trans (final_values m c).symm, h5⟩

end Cert.Mfwd.Claim

end
-- ==== Proof.Sfwd.Value.lean ====
/-
  What the spatial gating unit's forward kernel leaves over the arguments: the right half of the mix is the first half of the
  projection times the mixed second half, the left half is as it was.
-/
module

public import proofs.«01_k».proof.Proof.Sgu.Math
public import proofs.«01_k».proof.Proof.Gen.SfwdIdeal.Value
public import Idealize.ShloMosaic.Lib.Pipeline.ValueKit
public import Idealize.ShloMosaic.Lib.Pointwise
public import Idealize.ShloMosaic.Lib.Claim

@[expose] public section

set_option maxRecDepth 16384

noncomputable section

namespace Cert.SfwdIdeal.Value

open Idealize.ShloMosaic Idealize.ShloMosaic.TcCoe Idealize.SL.Sem
open Idealize.ShloMosaic.Pipeline (Dat)
open Cert.SfwdIdeal Cert.SfwdIdeal.Gen
open Cert.Sgu.Math Cert.Gelu Cert.Norm

variable (m : (ℓ : Loc nD τ sig) → Buf (Elt Ideal) ℓ)

theorem named_cube : Named.named (F := Ideal) κ "cube" (φ := .f32) 1027024659#32 = cube := IdealRules.named_const.ideal_named_scalar _ _ _ _ rfl

/-- The unit at position `t` and channel `k` of a chunk: the first half times the mixed second half. -/
abbrev unit (u v : Fin 128 → Fin 128 → EReal) (g b : Fin 128 → EReal) (w : Fin 128 → Fin 128 → EReal) (β : Fin 128 → EReal) (t k : Fin 128) : EReal :=
  gelu (u t k) * mix v g b w β t k

/-- Position `t` of chunk `q` of a block of 512 rows, and channel `k` of group `h` of its columns. -/
abbrev at4 (q : Fin 4) (t : Fin 128) : Fin 512 := ⟨q.val * 128 + t.val, by omega⟩

/-- Chunk `q` of group `h` of a block. -/
def part (b : Vec Ideal S4x512x128 .f32) (h q : Fin 4) (t k : Fin 128) : EReal := b (ix3 h (at4 q t) k)
theorem part_zero (b : Vec Ideal S4x512x128 .f32) (h : Fin 4) : part b h 0 = fun t k => b (ix3 h ⟨t.val, by omega⟩ k) := by
  funext t k; exact congrArg b (by idx_ext)

/-- A group's numbers and its matrix. -/
abbrev vecOf (b : Vec Ideal S4x1x128 .f32) (h : Fin 4) (k : Fin 128) : EReal := b (ix3 h 0 k)
abbrev matOf (b : Vec Ideal S4x128x128 .f32) (h : Fin 4) (t s : Fin 128) : EReal := b (ix3 h t s)

set_option maxHeartbeats 4000000 in
theorem unit_at (c : Dev nD) (t : Fin cfg0.N) (q h : Fin 4) (p k : Fin 128) : outsAt0 m c t (ix2 (at4 q p) (at4 h k))
    = unit (part (iblk m c 0 t) h q) (part (iblk m c 1 t) h q) (vecOf (iblk m c 2 t) h) (vecOf (iblk m c 3 t) h) (matOf (iblk m c 4 t) h)
      (vecOf (iblk m c 5 t) h) p k := by
  unfold outsAt0
  generalize iblk m c 0 t = b0
  generalize iblk m c 1 t = b1
  generalize iblk m c 2 t = b2
  generalize iblk m c 3 t = b3
  generalize iblk m c 4 t = b4
  generalize iblk m c 5 t = b5
  frame_out
  canon_tiles x e
  all_goals
    replace e0 : q.val * 128 + p.val = _ := e0
    replace e1 : h.val * 128 + k.val = _ := e1
    obtain rfl | rfl | rfl | rfl : q = 0 ∨ q = 1 ∨ q = 2 ∨ q = 3 := by omega
  all_goals first | (exfalso; omega) | skip
  all_goals obtain rfl | rfl | rfl | rfl : h = 0 ∨ h = 1 ∨ h = 2 ∨ h = 3 := by omega
  all_goals first | (exfalso; omega) | skip
  all_goals
    open_payloads; pointwise
    simp only [named_cube]
    obtain rfl : p = x 0 := Fin.ext (by omega)
    obtain rfl : k = x 1 := Fin.ext (by omega)
    (try simp only [part_zero]) <;> exact rfl

end Cert.SfwdIdeal.Value

end
-- ==== Proof.Sfwd.Final.lean ====
/-
  The array the spatial gating unit's forward kernel leaves, over the arguments.
-/
module

public import proofs.«01_k».proof.Proof.Sfwd.Value

@[expose] public section

set_option maxRecDepth 16384

noncomputable section

namespace Cert.SfwdIdeal.Value

open Idealize.ShloMosaic Idealize.ShloMosaic.TcCoe Idealize.SL.Sem
open Idealize.ShloMosaic.Pipeline (Dat)
open Cert.SfwdIdeal Cert.SfwdIdeal.Gen
open Cert.Sgu.Math

variable (m : (ℓ : Loc nD τ sig) → Buf (Elt Ideal) ℓ)

theorem idx : ∀ t : Fin cfg0.N, win0_0.index t = ![4, t.val, 0] ∧ win0_1.index t = ![5, t.val, 0] ∧ win0_2.index t = ![0, 0, 0]
    ∧ win0_3.index t = ![0, 0, 0] ∧ win0_4.index t = ![0, 0, 0] ∧ win0_5.index t = ![0, 0, 0] ∧ win0_6.index t = ![t.val, 1] :=
  (by decide +kernel : ∀ t : Fin grid0.N, _)

theorem lt8 (t : Fin cfg0.N) : t.val < 8 := lt_of_lt_of_eq t.isLt N_0

/-! ## The arguments and the blocks of them -/

abbrev aX (c : Dev nD) : S4096x3072.Idx → EReal := m ((c.tc : Thread nD τ).loc main_arg0)
abbrev aM (c : Dev nD) : S4096x1024.Idx → EReal := m ((c.tc : Thread nD τ).loc main_arg1)
abbrev aG (c : Dev nD) : S1x4x128.Idx → EReal := m ((c.tc : Thread nD τ).loc main_arg2)
abbrev aB (c : Dev nD) : S1x4x128.Idx → EReal := m ((c.tc : Thread nD τ).loc main_arg3)
abbrev aW (c : Dev nD) : S1x4x128x128.Idx → EReal := m ((c.tc : Thread nD τ).loc main_arg4)
abbrev aS (c : Dev nD) : S1x4x128.Idx → EReal := m ((c.tc : Thread nD τ).loc main_arg5)

theorem V_v1 (c : Dev nD) (s : Fin 24) (r : Fin 4096) (k : Fin 128) :
    (V m c main_v1 : S24x4096x128.Idx → EReal) (ix3 s r k) = aX m c (ix2 r ⟨s.val * 128 + k.val, by omega⟩) := by
  entry_read; pointwise []
theorem V_v3 (c : Dev nD) (h : Fin 4) (k : Fin 128) : (V m c main_v3 : S4x1x128.Idx → EReal) (ix3 h 0 k) = aG m c (ix3 0 h k) := by
  entry_read; pointwise []
theorem V_v4 (c : Dev nD) (h : Fin 4) (k : Fin 128) : (V m c main_v4 : S4x1x128.Idx → EReal) (ix3 h 0 k) = aB m c (ix3 0 h k) := by
  entry_read; pointwise []
theorem V_v5 (c : Dev nD) (h : Fin 4) (t s : Fin 128) : (V m c main_v5 : S4x128x128.Idx → EReal) (ix3 h t s) = aW m c (ix4 0 h t s) := by
  entry_read; pointwise []
theorem V_v6 (c : Dev nD) (h : Fin 4) (k : Fin 128) : (V m c main_v6 : S4x1x128.Idx → EReal) (ix3 h 0 k) = aS m c (ix3 0 h k) := by
  entry_read; pointwise []
/-- The result begins as a copy of the mix. -/
theorem V_v7 (c : Dev nD) (i : S4096x1024.Idx) : (V m c main_v7 : S4096x1024.Idx → EReal) i = aM m c i := by
  entry_read; pointwise []

/-- Chunk `q` of the block of a point. -/
abbrev cp (t : Fin cfg0.N) (q : Fin 4) : Fin 32 := ⟨t.val * 4 + q.val, by have := lt8 t; omega⟩

/-- The unit over the arguments, at position `p` of chunk `n` and channel `k` of group `h`. -/
def unitOf (X : S4096x3072.Idx → EReal) (G B : S1x4x128.Idx → EReal) (W : S1x4x128x128.Idx → EReal) (S : S1x4x128.Idx → EReal)
    (h : Fin 4) (n : Fin 32) (p k : Fin 128) : EReal :=
  unit (uR (fun r e => X (ix2 r e)) h n) (vR (fun r e => X (ix2 r e)) h n) (fun k => G (ix3 0 h k)) (fun k => B (ix3 0 h k))
    (fun t s => W (ix4 0 h t s)) (fun k => S (ix3 0 h k)) p k

theorem part0 (c : Dev nD) (t : Fin cfg0.N) (h q : Fin 4) : part (iblk m c 0 t) h q = uR (fun r e => aX m c (ix2 r e)) h (cp t q) := by
  funext p k
  have l := lt8 t
  refine (show part (iblk m c 0 t) h q p k = V m c main_v1 (ix3 ⟨16 + h.val, by omega⟩ (pos (cp t q) p) k) from ?_).trans ((V_v1 m c _ _ _).trans ?_)
  · unfold part; blk_point [iblk, idx t]
  · exact congrArg (aX m c) (by idx_ext)
theorem part1 (c : Dev nD) (t : Fin cfg0.N) (h q : Fin 4) : part (iblk m c 1 t) h q = vR (fun r e => aX m c (ix2 r e)) h (cp t q) := by
  funext p k
  have l := lt8 t
  refine (show part (iblk m c 1 t) h q p k = V m c main_v1 (ix3 ⟨20 + h.val, by omega⟩ (pos (cp t q) p) k) from ?_).trans ((V_v1 m c _ _ _).trans ?_)
  · unfold part; blk_point [iblk, idx t]
  · exact congrArg (aX m c) (by idx_ext)
theorem vec2 (c : Dev nD) (t : Fin cfg0.N) (h : Fin 4) : vecOf (iblk m c 2 t) h = fun k => aG m c (ix3 0 h k) := by
  funext k
  refine (show vecOf (iblk m c 2 t) h k = V m c main_v3 (ix3 h 0 k) from ?_).trans (V_v3 m c _ _)
  unfold vecOf; blk_point [iblk, idx t]
theorem vec3 (c : Dev nD) (t : Fin cfg0.N) (h : Fin 4) : vecOf (iblk m c 3 t) h = fun k => aB m c (ix3 0 h k) := by
  funext k
  refine (show vecOf (iblk m c 3 t) h k = V m c main_v4 (ix3 h 0 k) from ?_).trans (V_v4 m c _ _)
  unfold vecOf; blk_point [iblk, idx t]
theorem mat4 (c : Dev nD) (t : Fin cfg0.N) (h : Fin 4) : matOf (iblk m c 4 t) h = fun p s => aW m c (ix4 0 h p s) := by
  funext p s
  refine (show matOf (iblk m c 4 t) h p s = V m c main_v5 (ix3 h p s) from ?_).trans (V_v5 m c _ _ _)
  unfold matOf; blk_point [iblk, idx t]
theorem vec5 (c : Dev nD) (t : Fin cfg0.N) (h : Fin 4) : vecOf (iblk m c 5 t) h = fun k => aS m c (ix3 0 h k) := by
  funext k
  refine (show vecOf (iblk m c 5 t) h k = V m c main_v6 (ix3 h 0 k) from ?_).trans (V_v6 m c _ _)
  unfold vecOf; blk_point [iblk, idx t]

/-- The result: the mix's left half, then the unit. -/
def mixed (M : S4096x1024.Idx → EReal) (X : S4096x3072.Idx → EReal) (G B : S1x4x128.Idx → EReal) (W : S1x4x128x128.Idx → EReal)
    (S : S1x4x128.Idx → EReal) (i : S4096x1024.Idx) : EReal :=
  if (i 1).val < 512 then M i
  else unitOf X G B W S ⟨((i 1).val - 512) / 128, by have : (i 1).val < 1024 := (i 1).isLt; omega⟩ (chunk (i 0)) (at128 (i 0))
    ⟨((i 1).val - 512) % 128, by omega⟩

theorem mixed_at (c : Dev nD) (t : Fin cfg0.N) (y : S512x512.Idx) (i : S4096x1024.Idx) (h0 : (i 0 : ℕ) = t.val * 512 + (y 0).val)
    (h1 : (i 1 : ℕ) = 512 + (y 1).val) : outsAt0 m c t y = mixed (aM m c) (aX m c) (aG m c) (aB m c) (aW m c) (aS m c) i := by
  have a0 : (y 0).val < 512 := (y 0).isLt
  have a1 : (y 1).val < 512 := (y 1).isLt
  have l := lt8 t
  obtain ⟨q, p, h, k, rfl⟩ : ∃ (q : Fin 4) (p : Fin 128) (h : Fin 4) (k : Fin 128), y = ix2 (at4 q p) (at4 h k) :=
    ⟨⟨(y 0).val / 128, by omega⟩, ⟨(y 0).val % 128, by omega⟩, ⟨(y 1).val / 128, by omega⟩, ⟨(y 1).val % 128, by omega⟩, by idx_ext⟩
  replace h0 : (i 0 : ℕ) = t.val * 512 + (q.val * 128 + p.val) := h0
  replace h1 : (i 1 : ℕ) = 512 + (h.val * 128 + k.val) := h1
  rw [unit_at, part0, part1, vec2, vec3, mat4, vec5, mixed, if_neg (by omega)]
  show unitOf _ _ _ _ _ h (cp t q) p k = _
  congr 1
  all_goals (refine Fin.ext ?_; simp only [h0, h1]; omega)

theorem final (c : Dev nD) : (dats m 0 c).arrAt 6 cfg0.N = mixed (aM m c) (aX m c) (aG m c) (aB m c) (aW m c) (aS m c) := by
  refine (dats m 0 c).arrAt_eq_of_coversWhere_of_agree 6 _ (fun β => β (1 : Fin 2) = 1) (by decide +kernel) (fun t hf y => ?_) (fun j hj => ?_)
  · blk_simp
    rw [after0_6]
    refine mixed_at m c t y _ ?_ ?_
    all_goals (blk_simp [idx t] <;> try omega)
  · refine (V_v7 m c _).trans ?_
    have a1 : (j (1 : Fin 2)).val < 1024 := (j (1 : Fin 2)).isLt
    replace hj : ¬ (j (1 : Fin 2)).val / 512 = 1 := hj
    unfold mixed
    rw [if_pos]
    show (j (1 : Fin 2)).val < 512
    omega

end Cert.SfwdIdeal.Value

end
-- ==== Proof.Sfwd.Claim.lean ====
/-
  The value claim of the spatial gating unit's forward call: the kernel writes the unit's output into the right half of the mix, at
  every argument.
-/
module

public import proofs.«01_k».proof.Defs
public import proofs.«01_k».proof.Proof.Sfwd.Final
public import proofs.«01_k».proof.Proof.Gen.SfwdRefIdeal.Run
public import proofs.«01_k».proof.Proof.Gen.SfwdRefIdeal.Read

@[expose] public section

set_option maxRecDepth 16384

noncomputable section

namespace Cert.SfwdRefIdeal.Value

open Idealize.ShloMosaic Idealize.ShloMosaic.TcCoe
open Cert.SfwdRefIdeal Cert.SfwdRefIdeal.Gen Cert.SfwdRefIdeal.Read
open Cert.Sgu.Math Cert.Gelu Cert.Norm Cert.Reals
open Cert.SfwdIdeal.Value (unit unitOf mixed)

variable (x0 : (⟨S4096x3072, .f32⟩ : BufTy).Contents (Elt Ideal)) (x1 : (⟨S4096x1024, .f32⟩ : BufTy).Contents (Elt Ideal))
  (x2 x3 : (⟨S1x4x128, .f32⟩ : BufTy).Contents (Elt Ideal)) (x4 : (⟨S1x4x128x128, .f32⟩ : BufTy).Contents (Elt Ideal))
  (x5 : (⟨S1x4x128, .f32⟩ : BufTy).Contents (Elt Ideal))

/-- The error unit's coefficient, a quotient of whole numbers. -/
theorem coefficient (i : S_.Idx) : val_main_v0 (F := Ideal) i = cube := by
  show Ideal.div (Ideal.ofBits FTy.f32 0x460BBC00#32) (Ideal.ofBits FTy.f32 0x48435000#32) = cube
  have num : Ideal.ofBits FTy.f32 0x460BBC00#32 = ((8943 : ℝ) : EReal) := by simp [Ideal.ofBits, Ideal.ieee, -EReal.coe_mul]; norm_num
  have den : Ideal.ofBits FTy.f32 0x48435000#32 = ((200000 : ℝ) : EReal) := by simp [Ideal.ofBits, Ideal.ieee, -EReal.coe_mul]; norm_num
  rw [num, den, Ideal.div_coe (by norm_num), ← EReal.coe_mul, cube]
  congr 1; norm_num

/-- The two spellings of the error unit differ in the order of their factors only. -/
theorem gelu_order (x : EReal) : geluRef x = gelu x := by
  unfold geluRef gelu thRef th
  rw [show cube * (x * x * x) = cube * x * x * x by simp only [mul_assoc]]
  exact (mul_left_comm _ _ _).trans (mul_assoc _ _ _).symm

theorem act (r : Fin 4096) (e : Fin 1024) : val_main_v15 x0 (ix3 0 r e) = gelu (x0 (ix2 r ⟨2048 + e.val, by omega⟩)) := by
  rw [← gelu_order]
  pointwise [val_main_v15, val_main_v14, val_main_v13, val_main_cst_3, val_main_v12, val_main_v11, val_main_cst_2, val_main_v10,
    val_main_v9, val_main_v8, val_main_cst_1, val_main_v7, val_main_v6, val_main_v5, val_main_v4, val_main_v3, val_main_v2, val_main_v1]
  rw [coefficient]

/-- The row of channels that is normalised. -/
abbrev line (r : Fin 4096) (h : Fin 4) (k : Fin 128) : EReal := val_main_v22 x0 (ix4 0 r h k)

theorem line_eq (n : Fin 32) (p : Fin 128) (h : Fin 4) : line x0 (pos n p) h = va (vR (fun r e => x0 (ix2 r e)) h n) p := by
  funext k
  refine Eq.trans (b := val_main_v15 x0 (ix3 0 (pos n p) ⟨512 + (h.val * 128 + k.val), by omega⟩)) ?_ ((act x0 _ _).trans ?_)
  · pointwise [line, val_main_v22, val_main_v21]
  · exact congrArg (fun i => gelu (x0 i)) (by idx_ext)

theorem means (r : Fin 4096) (h : Fin 4) : val_main_v26 x0 (ix4 0 r h 0) = mean n128 (line x0 r h) := by
  unfold line
  generalize hy : val_main_v22 x0 = y
  unfold val_main_v26 val_main_v24 val_main_v23
  rw [hy]
  pointwise [val_main_v25, val_main_cst_5, val_main_cst_4]
theorem cens (r : Fin 4096) (h : Fin 4) (k : Fin 128) : val_main_v28 x0 (ix4 0 r h k) = cen n128 (line x0 r h) k := by
  unfold cen
  rw [← means]
  pointwise [val_main_v28, val_main_v27]
theorem rstds (r : Fin 4096) (h : Fin 4) : val_main_v38 x0 (ix4 0 r h 0) = rstd n128 (line x0 r h) := by
  unfold rstd var mean
  simp only [← cens]
  pointwise [val_main_v38, val_main_v37, val_main_v36, val_main_cst_8, val_main_v33, val_main_v32, val_main_cst_7, val_main_v31, val_main_v30,
    val_main_cst_6, val_main_v29]
theorem hats (r : Fin 4096) (h : Fin 4) (k : Fin 128) : val_main_v40 x0 (ix4 0 r h k) = hat n128 (line x0 r h) k := by
  unfold hat
  rw [← cens, ← rstds]
  pointwise [val_main_v40, val_main_v39, val_main_v35, val_main_v34, val_main_v28, val_main_v27]
theorem norms (n : Fin 32) (p : Fin 128) (h : Fin 4) (k : Fin 128) : val_main_v47 x0 x2 x3 (ix5 0 n p h k)
    = vn (vR (fun r e => x0 (ix2 r e)) h n) (fun k => x2 (ix3 0 h k)) (fun k => x3 (ix3 0 h k)) p k := by
  show _ = hat n128 (va (vR (fun r e => x0 (ix2 r e)) h n) p) k * x2 (ix3 0 h k) + x3 (ix3 0 h k)
  rw [← line_eq, ← hats]
  pointwise [val_main_v47, val_main_v46, val_main_v45, val_main_v44, val_main_v43, val_main_v42, val_main_v41, val_main_v19, val_main_v18]

theorem pick (q : BitVec 1) : Scalar.select q 1#1 0#1 = q := by revert q; decide
theorem lower (t s : Fin 128) : val_main_v49 (F := Ideal) (ix2 t s) = IntOp.cmpi .sle (BitVec.ofNat 32 s.val) (BitVec.ofNat 32 t.val) := by
  rw [val_main_v49_apply]
  show Scalar.select (IntOp.cmpi .sge (BitVec.ofNat 32 t.val + 0#32) (BitVec.ofNat 32 s.val)) 1#1 0#1 = _
  rw [BitVec.add_zero, pick]
  rfl
theorem weights (h : Fin 4) (t s : Fin 128) : val_main_v50 x4 (ix3 h t s) = upto s t (x4 (ix4 0 h t s)) := by
  unfold upto
  rw [← lower t s, val_main_v50_apply]
  congr 1
  · pointwise [val_main_v16]
  · exact Ideal.ofBits_zero_f32

theorem mixes (r : Fin 4096) (h : Fin 4) (k : Fin 128) : val_main_v57 x0 x2 x3 x4 x5 (ix3 0 r ⟨h.val * 128 + k.val, by omega⟩)
    = (∑ s, val_main_v47 x0 x2 x3 (ix5 0 (chunk r) s h k) * val_main_v50 x4 (ix3 h (at128 r) s)) + x5 (ix3 0 h (at128 r)) := by
  pointwise [val_main_v57, val_main_v56, val_main_v55, val_main_v54, val_main_v53, val_main_v52, val_main_v51, val_main_v17]

theorem unit_read (n : Fin 32) (p : Fin 128) (h : Fin 4) (k : Fin 128) :
    val_main_v58 x0 x2 x3 x4 x5 (ix3 0 (pos n p) ⟨h.val * 128 + k.val, by omega⟩) = unitOf x0 x2 x3 x4 x5 h n p k := by
  have e : val_main_v20 x0 (ix3 0 (pos n p) ⟨h.val * 128 + k.val, by omega⟩) = gelu (uR (fun r e => x0 (ix2 r e)) h n p k) := by
    refine Eq.trans (b := val_main_v15 x0 (ix3 0 (pos n p) ⟨h.val * 128 + k.val, by omega⟩)) ?_ ((act x0 _ _).trans ?_)
    · pointwise [val_main_v20]
    · exact congrArg (fun i => gelu (x0 i)) (by idx_ext)
  rw [val_main_v58_apply]
  show val_main_v20 x0 _ * val_main_v57 x0 x2 x3 x4 x5 _ = gelu (uR (fun r e => x0 (ix2 r e)) h n p k) * _
  rw [e, mixes, chunk_pos, at128_pos]
  refine congrArg (fun z => _ * (z + _)) (Finset.sum_congr rfl fun s _ => ?_)
  rw [norms, weights, mul_upto]

/-- A column of the left half, and a column of the right half by group and channel. -/
abbrev left (e : Fin 512) : Fin 1024 := ⟨e.val, by omega⟩
abbrev right (h : Fin 4) (k : Fin 128) : Fin 1024 := ⟨512 + (h.val * 128 + k.val), by omega⟩

theorem mixed_eq : val_main_v62 x0 x1 x2 x3 x4 x5 = mixed x1 x0 x2 x3 x4 x5 := by
  funext i
  have a1 : (i 1).val < 1024 := (i 1).isLt
  by_cases z : (i 1).val < 512
  · obtain ⟨r, e, rfl⟩ : ∃ (r : Fin 4096) (e : Fin 512), i = ix2 r (left e) := ⟨i 0, ⟨(i 1).val, z⟩, by idx_ext⟩
    unfold mixed
    rw [if_pos z]
    pointwise [val_main_v62, val_main_v61, val_main_v59]
  · obtain ⟨n, p, h, k, rfl⟩ : ∃ (n : Fin 32) (p : Fin 128) (h : Fin 4) (k : Fin 128), i = ix2 (pos n p) (right h k) :=
      ⟨chunk (i 0), at128 (i 0), ⟨((i 1).val - 512) / 128, by omega⟩, ⟨((i 1).val - 512) % 128, by omega⟩, by
        have := congrArg Fin.val (pos_chunk (i 0)); idx_ext⟩
    unfold mixed
    rw [if_neg z]
    refine Eq.trans (b := val_main_v58 x0 x2 x3 x4 x5 (ix3 0 (pos n p) ⟨h.val * 128 + k.val, by omega⟩)) ?_ ((unit_read x0 x2 x3 x4 x5 n p h k).trans ?_)
    · pointwise [val_main_v62, val_main_v61, val_main_v60]
    · congr 1
      · refine Fin.ext ?_; show h.val = (512 + (h.val * 128 + k.val) - 512) / 128; omega
      · exact (chunk_pos n p).symm
      · exact (at128_pos n p).symm
      · refine Fin.ext ?_; show k.val = (512 + (h.val * 128 + k.val) - 512) % 128; omega

end Cert.SfwdRefIdeal.Value

namespace Cert.Sfwd.Claim

open Idealize.ShloMosaic Idealize.ShloMosaic.TcCoe Idealize.SL.Sem
open Cert.SfwdIdeal.Value

/-- The kernel's literal named for the number it rounds. -/
theorem preserves : Cert.preserves_Sfwd_SfwdIdeal :=
  IdealRules.named_const.statement Cert.SfwdIdeal.κ "cube" .f32 0x3D372713#32 ((8943 / 200000 : ℝ) : EReal) rfl

theorem algebraic : Cert.algebraic_SfwdIdeal_SfwdRefIdeal := by
  pair_intro
  · run_from Cert.SfwdIdeal.Value.run_blocks m g
  · refine θ_run_mono (Cert.SfwdRefIdeal.Value.run m' g') fun r h c => ?_
    obtain ⟨h0, h1⟩ := h c
    obtain ⟨a0, a1, a2, a3, a4, a5⟩ := hagree c
    rw [Cert.SfwdRefIdeal.Read.val_main_v62_eq, a0, a1, a2, a3, a4, a5, Cert.SfwdRefIdeal.Value.mixed_eq] at h0
    exact ⟨h0.trans (final m c).symm, h1⟩

end Cert.Sfwd.Claim

end
-- ==== Proof.Dxin.Value.lean ====
/-
  What the first feed-forward's input cotangent leaves over the arguments: the scaled cotangent of the residual and the two products with
  the transposed weights, whose 2816 columns the host packs into 3072.
-/
module

public import proofs.«01_k».proof.Proof.Rows
public import proofs.«01_k».proof.Proof.Packed
public import proofs.«01_k».proof.Proof.Gen.DxinIdeal.Frame
public import Idealize.ShloMosaic.Lib.Pipeline.ValueKit
public import Idealize.ShloMosaic.Lib.Pointwise
public import Idealize.ShloMosaic.Lib.Claim

@[expose] public section

set_option maxRecDepth 16384

noncomputable section

namespace Cert.DxinIdeal.Value

open Idealize.ShloMosaic Idealize.ShloMosaic.TcCoe Idealize.SL.Sem
open Idealize.ShloMosaic.Pipeline (Dat)
open Cert.DxinIdeal Cert.DxinIdeal.Gen
open Cert.Rows (alpha)
open Cert.Packed (place place_cases sum_padded)

theorem dx_out (b0 : Vec Ideal S256x1024 .f32) (b1 : Vec Ideal S256x3072 .bf16) (b2 : Vec Ideal S1024x3072 .bf16) (b3 : Vec Ideal S256x3072 .bf16)
    (b4 : Vec Ideal S1024x3072 .bf16) (r : Fin 256) (e : Fin 1024) : out0_5 (F := Ideal) b0 b1 b2 b3 b4 (ix2 r e)
      = alpha * b0 (ix2 r e) + ∑ q : Fin 3072, b1 (ix2 r q) * b2 (ix2 e q) + ∑ q : Fin 3072, b3 (ix2 r q) * b4 (ix2 e q) := by
  canon_tiles x h
  all_goals (obtain rfl : x = ix2 r e := by idx_ext
             open_payloads; pointwise; try rfl)

/-! ## The final array -/

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![t.val, 0] :=
  (by decide +kernel : ∀ t : Fin grid0.N, _)

abbrev aC (c : Dev nD) : S4096x1024.Idx → EReal := m ((c.tc : Thread nD τ).loc main_arg0)
abbrev aA (c : Dev nD) : S4096x2816.Idx → EReal := m ((c.tc : Thread nD τ).loc main_arg1)
abbrev aB (c : Dev nD) : S4096x2816.Idx → EReal := m ((c.tc : Thread nD τ).loc main_arg2)
abbrev aG (c : Dev nD) : S1024x2816.Idx → EReal := m ((c.tc : Thread nD τ).loc main_arg3)
abbrev aU (c : Dev nD) : S1024x2816.Idx → EReal := m ((c.tc : Thread nD τ).loc main_arg4)

/-- The packed arrays at the places of the columns, and the weights between them. -/
theorem V_a (c : Dev nD) (r : Fin 4096) (p : Fin 2816) : (V m c main_v7 : S4096x3072.Idx → EReal) (ix2 r (place p)) = aA m c (ix2 r p) := by
  entry_read
  simp only [hostOps0, hostOps0_1, hostOps0_2, hostOps0_3, hostOps0_4, hostOps0_5, hostOps0_6, hostOps0_7, hostOps0_8, List.flatten_cons, List.flatten_nil, List.append_nil, List.cons_append, List.nil_append]
  after_results
  simp -implicitDefEqProofs only [StableHlo.TRef.toBuf, StableHlo.TRef.ofBuf, cast_cast, cast_eq]
  rcases place_cases p with ⟨h1, h2⟩ | ⟨h1, h2⟩ <;> pointwise <;> split_ifs <;> first | omega | blk_ext
theorem V_b (c : Dev nD) (r : Fin 4096) (p : Fin 2816) : (V m c main_v15 : S4096x3072.Idx → EReal) (ix2 r (place p)) = aB m c (ix2 r p) := by
  entry_read
  simp only [hostOps0, hostOps0_1, hostOps0_2, hostOps0_3, hostOps0_4, hostOps0_5, hostOps0_6, hostOps0_7, hostOps0_8, List.flatten_cons, List.flatten_nil, List.append_nil, List.cons_append, List.nil_append]
  after_results
  simp -implicitDefEqProofs only [StableHlo.TRef.toBuf, StableHlo.TRef.ofBuf, cast_cast, cast_eq]
  rcases place_cases p with ⟨h1, h2⟩ | ⟨h1, h2⟩ <;> pointwise <;> split_ifs <;> first | omega | blk_ext
theorem V_g (c : Dev nD) (e : Fin 1024) (p : Fin 2816) : (V m c main_v23 : S1024x3072.Idx → EReal) (ix2 e (place p)) = aG m c (ix2 e p) := by
  entry_read
  simp only [hostOps0, hostOps0_1, hostOps0_2, hostOps0_3, hostOps0_4, hostOps0_5, hostOps0_6, hostOps0_7, hostOps0_8, List.flatten_cons, List.flatten_nil, List.append_nil, List.cons_append, List.nil_append]
  after_results
  simp -implicitDefEqProofs only [StableHlo.TRef.toBuf, StableHlo.TRef.ofBuf, cast_cast, cast_eq]
  rcases place_cases p with ⟨h1, h2⟩ | ⟨h1, h2⟩ <;> pointwise <;> split_ifs <;> first | omega | blk_ext
theorem V_u (c : Dev nD) (e : Fin 1024) (p : Fin 2816) : (V m c main_v31 : S1024x3072.Idx → EReal) (ix2 e (place p)) = aU m c (ix2 e p) := by
  entry_read
  simp only [hostOps0, hostOps0_1, hostOps0_2, hostOps0_3, hostOps0_4, hostOps0_5, hostOps0_6, hostOps0_7, hostOps0_8, List.flatten_cons, List.flatten_nil, List.append_nil, List.cons_append, List.nil_append]
  after_results
  simp -implicitDefEqProofs only [StableHlo.TRef.toBuf, StableHlo.TRef.ofBuf, cast_cast, cast_eq]
  rcases place_cases p with ⟨h1, h2⟩ | ⟨h1, h2⟩ <;> pointwise <;> split_ifs <;> first | omega | blk_ext
theorem V_g0 (c : Dev nD) (e : Fin 1024) (q : Fin 3072) (h1 : 2048 ≤ q.val) (h2 : 96 ≤ (q.val - 2048) % 128) :
    (V m c main_v23 : S1024x3072.Idx → EReal) (ix2 e q) = (0 : EReal) := by
  entry_read
  simp only [hostOps0, hostOps0_1, hostOps0_2, hostOps0_3, hostOps0_4, hostOps0_5, hostOps0_6, hostOps0_7, hostOps0_8, List.flatten_cons, List.flatten_nil, List.append_nil, List.cons_append, List.nil_append]
  after_results
  simp -implicitDefEqProofs only [StableHlo.TRef.toBuf, StableHlo.TRef.ofBuf, cast_cast, cast_eq]
  pointwise
  split_ifs <;> first | omega | exact (congrArg (fun z : ℝ => (z : EReal)) (by norm_num)).trans EReal.coe_zero
theorem V_u0 (c : Dev nD) (e : Fin 1024) (q : Fin 3072) (h1 : 2048 ≤ q.val) (h2 : 96 ≤ (q.val - 2048) % 128) :
    (V m c main_v31 : S1024x3072.Idx → EReal) (ix2 e q) = (0 : EReal) := by
  entry_read
  simp only [hostOps0, hostOps0_1, hostOps0_2, hostOps0_3, hostOps0_4, hostOps0_5, hostOps0_6, hostOps0_7, hostOps0_8, List.flatten_cons, List.flatten_nil, List.append_nil, List.cons_append, List.nil_append]
  after_results
  simp -implicitDefEqProofs only [StableHlo.TRef.toBuf, StableHlo.TRef.ofBuf, cast_cast, cast_eq]
  pointwise
  split_ifs <;> first | omega | exact (congrArg (fun z : ℝ => (z : EReal)) (by norm_num)).trans EReal.coe_zero

/-- Row `r` of block `t` of 256 rows. -/
abbrev row (t : Fin cfg0.N) (r : Fin 256) : Fin 4096 := ⟨t.val * 256 + r.val, by have h : t.val < 16 := lt_of_lt_of_eq t.isLt N_0; omega⟩

theorem blk0 (c : Dev nD) (t : Fin cfg0.N) (r : Fin 256) (e : Fin 1024) : iblk m c 0 t (ix2 r e) = aC m c (ix2 (row t r) e) := by
  rw [show aC m c = V m c main_arg0 from (V_main_arg0 m c).symm]; blk_point [iblk, idx t]
theorem blk1 (c : Dev nD) (t : Fin cfg0.N) (r : Fin 256) (q : Fin 3072) : (iblk m c 1 t : S256x3072.Idx → EReal) (ix2 r q) = V m c main_v7 (ix2 (row t r) q) := by
  blk_point [iblk, idx t]
theorem blk2 (c : Dev nD) (t : Fin cfg0.N) (e : Fin 1024) (q : Fin 3072) : (iblk m c 2 t : S1024x3072.Idx → EReal) (ix2 e q) = V m c main_v23 (ix2 e q) := by
  blk_point [iblk, idx t]
theorem blk3 (c : Dev nD) (t : Fin cfg0.N) (r : Fin 256) (q : Fin 3072) : (iblk m c 3 t : S256x3072.Idx → EReal) (ix2 r q) = V m c main_v15 (ix2 (row t r) q) := by
  blk_point [iblk, idx t]
theorem blk4 (c : Dev nD) (t : Fin cfg0.N) (e : Fin 1024) (q : Fin 3072) : (iblk m c 4 t : S1024x3072.Idx → EReal) (ix2 e q) = V m c main_v31 (ix2 e q) := by
  blk_point [iblk, idx t]

/-- The cotangent of the step's first argument. -/
def dxOf (C : S4096x1024.Idx → EReal) (A B : S4096x2816.Idx → EReal) (G U : S1024x2816.Idx → EReal) (i : S4096x1024.Idx) : EReal :=
  alpha * C i + ∑ p : Fin 2816, A (ix2 (i 0) p) * G (ix2 (i 1) p) + ∑ p : Fin 2816, B (ix2 (i 0) p) * U (ix2 (i 1) p)

theorem dx_at (c : Dev nD) (t : Fin cfg0.N) (y : S256x1024.Idx) (i : S4096x1024.Idx) (h0 : (i 0 : ℕ) = t.val * 256 + (y 0).val) (h1 : (i 1 : ℕ) = (y 1).val) :
    out0_5 (F := Ideal) (iblk m c 0 t) (iblk m c 1 t) (iblk m c 2 t) (iblk m c 3 t) (iblk m c 4 t) y
      = dxOf (aC m c) (aA m c) (aB m c) (aG m c) (aU m c) i := by
  obtain ⟨p, e, rfl⟩ : ∃ (p : Fin 256) (e : Fin 1024), y = ix2 p e := ⟨y 0, y 1, by idx_ext⟩
  obtain rfl : i = ix2 (row t p) e := by idx_ext
  rw [dx_out, blk0]
  simp only [blk1, blk2, blk3, blk4]
  show _ = alpha * _ + ∑ k : Fin 2816, aA m c (ix2 (row t p) k) * aG m c (ix2 e k) + ∑ k : Fin 2816, aB m c (ix2 (row t p) k) * aU m c (ix2 e k)
  exact congrArg₂ (· + ·)
    (congrArg (alpha * aC m c (ix2 (row t p) e) + ·)
      (sum_padded (fun k => V_a m c (row t p) k) (fun k => V_g m c e k) (fun q h1 h2 => V_g0 m c e q h1 h2)))
    (sum_padded (fun k => V_b m c (row t p) k) (fun k => V_u m c e k) (fun q h1 h2 => V_u0 m c e q h1 h2))

theorem final_dx (c : Dev nD) : (dats m 0 c).arrAt 5 cfg0.N = dxOf (aC m c) (aA m c) (aB m c) (aG m c) (aU m c) := by
  refine (dats m 0 c).arrAt_eq_of_covers 5 _ (by decide +kernel) fun t hf y => ?_
  blk_simp
  rw [after0_5]
  refine dx_at m c t y _ ?_ ?_
  all_goals (blk_simp [idx t] <;> try omega)

end Cert.DxinIdeal.Value

end
-- ==== Proof.Dxin.Claim.lean ====
/-
  The value claim of the first feed-forward's input cotangent: the kernel leaves the derivative of the scaled residual and the two products,
  at every argument.
-/
module

public import proofs.«01_k».proof.Defs
public import proofs.«01_k».proof.Proof.Dxin.Value
public import proofs.«01_k».proof.Proof.Gen.DxinIdeal.Value
public import proofs.«01_k».proof.Proof.Gen.DxinRefIdeal.Run
public import proofs.«01_k».proof.Proof.Gen.DxinRefIdeal.Read

@[expose] public section

set_option maxRecDepth 16384

noncomputable section

namespace Cert.DxinRefIdeal.Value

open Idealize.ShloMosaic Idealize.ShloMosaic.TcCoe
open Cert.DxinRefIdeal Cert.DxinRefIdeal.Gen Cert.DxinRefIdeal.Read
open Cert.DxinIdeal.Value (dxOf)
open Cert.Rows (alpha)

variable (x0 : (⟨S4096x1024, .f32⟩ : BufTy).Contents (Elt Ideal)) (x1 x2 : (⟨S4096x2816, .f32⟩ : BufTy).Contents (Elt Ideal))
  (x3 x4 : (⟨S1024x2816, .f32⟩ : BufTy).Contents (Elt Ideal))

/-- The reference adds the three parts the other way round. -/
theorem parts (r : Fin 4096) (e : Fin 1024) : val_main_v10 x0 x1 x2 x3 x4 (ix2 r e)
    = ∑ p : Fin 2816, x2 (ix2 r p) * x4 (ix2 e p) + ∑ p : Fin 2816, x1 (ix2 r p) * x3 (ix2 e p) + alpha * x0 (ix2 r e) := by
  pointwise [val_main_v10, val_main_v9, val_main_v8, val_main_cst_1, val_main_v7, val_main_v6, val_main_v5]
theorem dx_eq : val_main_v10 x0 x1 x2 x3 x4 = dxOf x0 x1 x2 x3 x4 := by
  funext i
  obtain ⟨r, e, rfl⟩ : ∃ (r : Fin 4096) (e : Fin 1024), i = ix2 r e := ⟨i 0, i 1, by idx_ext⟩
  rw [parts]
  show _ = alpha * x0 (ix2 r e) + ∑ p : Fin 2816, x1 (ix2 r p) * x3 (ix2 e p) + ∑ p : Fin 2816, x2 (ix2 r p) * x4 (ix2 e p)
  generalize alpha * x0 (ix2 r e) = a
  rw [add_comm _ a, add_comm (∑ p : Fin 2816, x2 (ix2 r p) * x4 (ix2 e p)), add_assoc]

end Cert.DxinRefIdeal.Value

namespace Cert.Dxin.Claim

open Idealize.ShloMosaic Idealize.ShloMosaic.TcCoe Idealize.SL.Sem
open Cert.DxinIdeal.Value

theorem algebraic : Cert.algebraic_DxinIdeal_DxinRefIdeal := by
  pair_intro
  · run_from Cert.DxinIdeal.Value.run_blocks m g
  · refine θ_run_mono (Cert.DxinRefIdeal.Value.run m' g') fun r h c => ?_
    obtain ⟨h0, h1⟩ := h c
    obtain ⟨a0, a1, a2, a3, a4⟩ := hagree c
    rw [Cert.DxinRefIdeal.Read.val_main_v10_eq, a0, a1, a2, a3, a4, Cert.DxinRefIdeal.Value.dx_eq] at h0
    exact ⟨h0.trans (final_dx m c).symm, h1⟩

end Cert.Dxin.Claim

end
-- ==== Proof.Mtn.Value.lean ====
/-
  What the weight gradient leaves over the arguments: the contraction over the 4096 rows, gathered over four points of 1024 rows; the
  cotangent comes in six pieces of 512 columns.
-/
module

public import proofs.«01_k».proof.Proof.Gen.MtnIdeal.Value
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

namespace Cert.MtnIdeal.Value

open Idealize.ShloMosaic Idealize.ShloMosaic.TcCoe Idealize.SL.Sem
open Idealize.ShloMosaic.Pipeline (Dat)
open Cert.MtnIdeal Cert.MtnIdeal.Gen

variable (m : (ℓ : Loc nD τ sig) → Buf (Elt Ideal) ℓ)

/-- The piece that column `b` belongs to. -/
def pick (d1 d2 d3 d4 d5 d6 : S1024x512.Idx → EReal) (p : Fin 1024) (b : Fin 3072) : EReal :=
  (if b.val < 512 then d1 else if b.val < 1024 then d2 else if b.val < 1536 then d3 else if b.val < 2048 then d4 else if b.val < 2560 then d5 else d6)
    (ix2 p ⟨b.val % 512, Nat.mod_lt _ (by decide)⟩)

section
variable (d1 d2 d3 d4 d5 d6 : S1024x512.Idx → EReal) (p : Fin 1024) (k : Fin 512)

theorem pick1 (h : 0 + k.val < 3072) : pick d1 d2 d3 d4 d5 d6 p ⟨0 + k.val, h⟩ = d1 (ix2 p k) := by
  unfold pick
  dsimp only
  split_ifs <;> first | omega | exact congrArg d1 (by idx_ext <;> omega)
theorem pick0 (h : k.val < 3072) : pick d1 d2 d3 d4 d5 d6 p ⟨k.val, h⟩ = d1 (ix2 p k) := by
  unfold pick
  dsimp only
  split_ifs <;> first | omega | exact congrArg d1 (by idx_ext <;> omega)
theorem pick2 (h : 512 + k.val < 3072) : pick d1 d2 d3 d4 d5 d6 p ⟨512 + k.val, h⟩ = d2 (ix2 p k) := by
  unfold pick
  dsimp only
  split_ifs <;> first | omega | exact congrArg d2 (by idx_ext <;> omega)
theorem pick3 (h : 1024 + k.val < 3072) : pick d1 d2 d3 d4 d5 d6 p ⟨1024 + k.val, h⟩ = d3 (ix2 p k) := by
  unfold pick
  dsimp only
  split_ifs <;> first | omega | exact congrArg d3 (by idx_ext <;> omega)
theorem pick4 (h : 1536 + k.val < 3072) : pick d1 d2 d3 d4 d5 d6 p ⟨1536 + k.val, h⟩ = d4 (ix2 p k) := by
  unfold pick
  dsimp only
  split_ifs <;> first | omega | exact congrArg d4 (by idx_ext <;> omega)
theorem pick5 (h : 2048 + k.val < 3072) : pick d1 d2 d3 d4 d5 d6 p ⟨2048 + k.val, h⟩ = d5 (ix2 p k) := by
  unfold pick
  dsimp only
  split_ifs <;> first | omega | exact congrArg d5 (by idx_ext <;> omega)
theorem pick6 (h : 2560 + k.val < 3072) : pick d1 d2 d3 d4 d5 d6 p ⟨2560 + k.val, h⟩ = d6 (ix2 p k) := by
  unfold pick
  dsimp only
  split_ifs <;> first | omega | exact congrArg d6 (by idx_ext <;> omega)

end

/-- What one point adds. -/
def addOf (d0 : S1024x1024.Idx → EReal) (d1 d2 d3 d4 d5 d6 : S1024x512.Idx → EReal) (p : Fin 1024) (y : S1024x3072.Idx) : EReal :=
  d0 (ix2 p (y 0)) * pick d1 d2 d3 d4 d5 d6 p (y 1)

section
variable (d0 : S1024x1024.Idx → EReal) (d1 d2 d3 d4 d5 d6 : S1024x512.Idx → EReal) (p i : Fin 1024) (k : Fin 512)

theorem add0 (h : k.val < 3072) : addOf d0 d1 d2 d3 d4 d5 d6 p (ix2 i ⟨k.val, h⟩) = d0 (ix2 p i) * d1 (ix2 p k) :=
  congrArg (fun z : EReal => d0 (ix2 p i) * z) (pick0 d1 d2 d3 d4 d5 d6 p k h)
theorem add1 (h : 0 + k.val < 3072) : addOf d0 d1 d2 d3 d4 d5 d6 p (ix2 i ⟨0 + k.val, h⟩) = d0 (ix2 p i) * d1 (ix2 p k) :=
  congrArg (fun z : EReal => d0 (ix2 p i) * z) (pick1 d1 d2 d3 d4 d5 d6 p k h)
theorem add2 (h : 512 + k.val < 3072) : addOf d0 d1 d2 d3 d4 d5 d6 p (ix2 i ⟨512 + k.val, h⟩) = d0 (ix2 p i) * d2 (ix2 p k) :=
  congrArg (fun z : EReal => d0 (ix2 p i) * z) (pick2 d1 d2 d3 d4 d5 d6 p k h)
theorem add3 (h : 1024 + k.val < 3072) : addOf d0 d1 d2 d3 d4 d5 d6 p (ix2 i ⟨1024 + k.val, h⟩) = d0 (ix2 p i) * d3 (ix2 p k) :=
  congrArg (fun z : EReal => d0 (ix2 p i) * z) (pick3 d1 d2 d3 d4 d5 d6 p k h)
theorem add4 (h : 1536 + k.val < 3072) : addOf d0 d1 d2 d3 d4 d5 d6 p (ix2 i ⟨1536 + k.val, h⟩) = d0 (ix2 p i) * d4 (ix2 p k) :=
  congrArg (fun z : EReal => d0 (ix2 p i) * z) (pick4 d1 d2 d3 d4 d5 d6 p k h)
theorem add5 (h : 2048 + k.val < 3072) : addOf d0 d1 d2 d3 d4 d5 d6 p (ix2 i ⟨2048 + k.val, h⟩) = d0 (ix2 p i) * d5 (ix2 p k) :=
  congrArg (fun z : EReal => d0 (ix2 p i) * z) (pick5 d1 d2 d3 d4 d5 d6 p k h)
theorem add6 (h : 2560 + k.val < 3072) : addOf d0 d1 d2 d3 d4 d5 d6 p (ix2 i ⟨2560 + k.val, h⟩) = d0 (ix2 p i) * d6 (ix2 p k) :=
  congrArg (fun z : EReal => d0 (ix2 p i) * z) (pick6 d1 d2 d3 d4 d5 d6 p k h)

end

abbrev addB (c : Dev nD) (t : Fin cfg0.N) : Fin 1024 → S1024x3072.Idx → EReal :=
  addOf (iblk m c 0 t) (iblk m c 1 t) (iblk m c 2 t) (iblk m c 3 t) (iblk m c 4 t) (iblk m c 5 t) (iblk m c 6 t)

section
variable (G : S1024x3072.Idx → EReal) (w1 w2 w3 w4 w5 w6 : S1024x512.Idx → EReal) (q : View.Piece (Elt Ideal) S1024x3072 .f32) (y : S1024x3072.Idx)
  (h6 : ∀ (i : Fin 1024) (k : Fin 512), w6 (ix2 i k) = G (ix2 i ⟨2560 + k.val, by omega⟩))
  (h5 : ∀ (i : Fin 1024) (k : Fin 512), w5 (ix2 i k) = G (ix2 i ⟨2048 + k.val, by omega⟩))
  (h4 : ∀ (i : Fin 1024) (k : Fin 512), w4 (ix2 i k) = G (ix2 i ⟨1536 + k.val, by omega⟩))
  (h3 : ∀ (i : Fin 1024) (k : Fin 512), w3 (ix2 i k) = G (ix2 i ⟨1024 + k.val, by omega⟩))
  (h2 : ∀ (i : Fin 1024) (k : Fin 512), w2 (ix2 i k) = G (ix2 i ⟨512 + k.val, by omega⟩))
  (h1 : ∀ (i : Fin 1024) (k : Fin 512), w1 (ix2 i k) = G (ix2 i ⟨0 + k.val, by omega⟩))
include h1 h2 h3 h4 h5 h6

/-- Six stores that tile the array, over a fill or over none. -/
theorem sixOver : View.canon (Val := Elt Ideal) (e := .f32) [⟨Rect.unit ![0, 2560] ![1024, 512] inb_S1024x3072_S1024x512_0_2560, w6⟩, ⟨Rect.unit ![0, 2048] ![1024, 512] inb_S1024x3072_S1024x512_0_2048, w5⟩, ⟨Rect.unit ![0, 1536] ![1024, 512] inb_S1024x3072_S1024x512_0_1536, w4⟩, ⟨Rect.unit ![0, 1024] ![1024, 512] inb_S1024x3072_S1024x512_0_1024, w3⟩, ⟨Rect.unit ![0, 512] ![1024, 512] inb_S1024x3072_S1024x512_0_512, w2⟩, ⟨Rect.unit ![0, 0] ![1024, 512] inb_S1024x3072_S1024x512_0_0, w1⟩, q] y = G y := by
  refine View.canon_append_of_piecesOf (Val := Elt Ideal) (e := .f32) G [q] [_, _, _, _, _, _] ⟨?_, ?_, ?_, ?_, ?_, ?_, trivial⟩ y
    (View.cover_of_tiledL _ ![1024, 512] (by sl_kernel_rfl) y)
  · intro x
    obtain ⟨i, k, rfl⟩ : ∃ (i : Fin 1024) (k : Fin 512), x = ix2 i k := ⟨x 0, x 1, by idx_ext⟩
    exact (h6 i k).trans (congrArg G (by idx_ext))
  · intro x
    obtain ⟨i, k, rfl⟩ : ∃ (i : Fin 1024) (k : Fin 512), x = ix2 i k := ⟨x 0, x 1, by idx_ext⟩
    exact (h5 i k).trans (congrArg G (by idx_ext))
  · intro x
    obtain ⟨i, k, rfl⟩ : ∃ (i : Fin 1024) (k : Fin 512), x = ix2 i k := ⟨x 0, x 1, by idx_ext⟩
    exact (h4 i k).trans (congrArg G (by idx_ext))
  · intro x
    obtain ⟨i, k, rfl⟩ : ∃ (i : Fin 1024) (k : Fin 512), x = ix2 i k := ⟨x 0, x 1, by idx_ext⟩
    exact (h3 i k).trans (congrArg G (by idx_ext))
  · intro x
    obtain ⟨i, k, rfl⟩ : ∃ (i : Fin 1024) (k : Fin 512), x = ix2 i k := ⟨x 0, x 1, by idx_ext⟩
    exact (h2 i k).trans (congrArg G (by idx_ext))
  · intro x
    obtain ⟨i, k, rfl⟩ : ∃ (i : Fin 1024) (k : Fin 512), x = ix2 i k := ⟨x 0, x 1, by idx_ext⟩
    exact (h1 i k).trans (congrArg G (by idx_ext))
theorem six : View.canon (Val := Elt Ideal) (e := .f32) [⟨Rect.unit ![0, 2560] ![1024, 512] inb_S1024x3072_S1024x512_0_2560, w6⟩, ⟨Rect.unit ![0, 2048] ![1024, 512] inb_S1024x3072_S1024x512_0_2048, w5⟩, ⟨Rect.unit ![0, 1536] ![1024, 512] inb_S1024x3072_S1024x512_0_1536, w4⟩, ⟨Rect.unit ![0, 1024] ![1024, 512] inb_S1024x3072_S1024x512_0_1024, w3⟩, ⟨Rect.unit ![0, 512] ![1024, 512] inb_S1024x3072_S1024x512_0_512, w2⟩, ⟨Rect.unit ![0, 0] ![1024, 512] inb_S1024x3072_S1024x512_0_0, w1⟩] y = G y := by
  refine View.canon_append_of_piecesOf (Val := Elt Ideal) (e := .f32) G [] [_, _, _, _, _, _] ⟨?_, ?_, ?_, ?_, ?_, ?_, trivial⟩ y
    (View.cover_of_tiledL _ ![1024, 512] (by sl_kernel_rfl) y)
  · intro x
    obtain ⟨i, k, rfl⟩ : ∃ (i : Fin 1024) (k : Fin 512), x = ix2 i k := ⟨x 0, x 1, by idx_ext⟩
    exact (h6 i k).trans (congrArg G (by idx_ext))
  · intro x
    obtain ⟨i, k, rfl⟩ : ∃ (i : Fin 1024) (k : Fin 512), x = ix2 i k := ⟨x 0, x 1, by idx_ext⟩
    exact (h5 i k).trans (congrArg G (by idx_ext))
  · intro x
    obtain ⟨i, k, rfl⟩ : ∃ (i : Fin 1024) (k : Fin 512), x = ix2 i k := ⟨x 0, x 1, by idx_ext⟩
    exact (h4 i k).trans (congrArg G (by idx_ext))
  · intro x
    obtain ⟨i, k, rfl⟩ : ∃ (i : Fin 1024) (k : Fin 512), x = ix2 i k := ⟨x 0, x 1, by idx_ext⟩
    exact (h3 i k).trans (congrArg G (by idx_ext))
  · intro x
    obtain ⟨i, k, rfl⟩ : ∃ (i : Fin 1024) (k : Fin 512), x = ix2 i k := ⟨x 0, x 1, by idx_ext⟩
    exact (h2 i k).trans (congrArg G (by idx_ext))
  · intro x
    obtain ⟨i, k, rfl⟩ : ∃ (i : Fin 1024) (k : Fin 512), x = ix2 i k := ⟨x 0, x 1, by idx_ext⟩
    exact (h1 i k).trans (congrArg G (by idx_ext))

end

theorem acc_at (c : Dev nD) (t : Fin cfg0.N) (y : S1024x3072.Idx) : (outsAt0 m c t.val t.isLt).2 y
    = (if t.val % 4 = 0 then 0 else (outsAt0 m c (t.val - 1) (Nat.lt_of_le_of_lt (Nat.sub_le _ _) t.isLt)).2 y) + ∑ p, addB m c t p y := by
  unfold addB
  by_cases z : t.val % 4 = 0
  on_goal 1 => rw [outsAt0_A m c t z (by omega), if_pos z]
  on_goal 2 =>
    by_cases z' : t.val % 4 = 3
    on_goal 1 => rw [outsAt0_C m c t z z', if_neg z]
    on_goal 2 => rw [outsAt0_B m c t z z', if_neg z]
  on_goal 1 =>
    generalize iblk m c 0 t = b0
    generalize iblk m c 1 t = b1
    generalize iblk m c 2 t = b2
    generalize iblk m c 3 t = b3
    generalize iblk m c 4 t = b4
    generalize iblk m c 5 t = b5
    generalize iblk m c 6 t = b6
    frame_out
    try simp (disch := first | rfl | decide) only [↓View.readCov_skip, ↓View.readCov_fill]
    refine sixOver (fun y => 0 + ∑ p, addOf b0 b1 b2 b3 b4 b5 b6 p y) _ _ _ _ _ _ _ y ?_ ?_ ?_ ?_ ?_ ?_
  on_goal 7 =>
    generalize iblk m c 0 t = b0
    generalize iblk m c 1 t = b1
    generalize iblk m c 2 t = b2
    generalize iblk m c 3 t = b3
    generalize iblk m c 4 t = b4
    generalize iblk m c 5 t = b5
    generalize iblk m c 6 t = b6
    generalize outsAt0 m c (t.val - 1) (Nat.lt_of_le_of_lt (Nat.sub_le _ _) t.isLt) = prev
    frame_out
    refine six (fun y => prev.2 y + ∑ p, addOf b0 b1 b2 b3 b4 b5 b6 p y) _ _ _ _ _ _ y ?_ ?_ ?_ ?_ ?_ ?_
  on_goal 13 =>
    generalize iblk m c 0 t = b0
    generalize iblk m c 1 t = b1
    generalize iblk m c 2 t = b2
    generalize iblk m c 3 t = b3
    generalize iblk m c 4 t = b4
    generalize iblk m c 5 t = b5
    generalize iblk m c 6 t = b6
    generalize outsAt0 m c (t.val - 1) (Nat.lt_of_le_of_lt (Nat.sub_le _ _) t.isLt) = prev
    frame_out
    refine six (fun y => prev.2 y + ∑ p, addOf b0 b1 b2 b3 b4 b5 b6 p y) _ _ _ _ _ _ y ?_ ?_ ?_ ?_ ?_ ?_
  all_goals
    intro i k
    open_payloads; pointwise
    try rw [read_unread_whole]
    try refine congrArg (_ + ·) ?_
    first
      | exact Finset.sum_congr rfl fun p _ => (add1 b0 b1 b2 b3 b4 b5 b6 p i k _).symm
      | exact Finset.sum_congr rfl fun p _ => (add2 b0 b1 b2 b3 b4 b5 b6 p i k _).symm
      | exact Finset.sum_congr rfl fun p _ => (add3 b0 b1 b2 b3 b4 b5 b6 p i k _).symm
      | exact Finset.sum_congr rfl fun p _ => (add4 b0 b1 b2 b3 b4 b5 b6 p i k _).symm
      | exact Finset.sum_congr rfl fun p _ => (add5 b0 b1 b2 b3 b4 b5 b6 p i k _).symm
      | exact Finset.sum_congr rfl fun p _ => (add6 b0 b1 b2 b3 b4 b5 b6 p i k _).symm
      | exact Finset.sum_congr rfl fun p _ => (add0 b0 b1 b2 b3 b4 b5 b6 p i k _).symm

theorem out_at (c : Dev nD) (t : Fin cfg0.N) (ht : t.val % 4 = 3) (y : S1024x3072.Idx) : (outsAt0 m c t.val t.isLt).1 y = (outsAt0 m c t.val t.isLt).2 y := by
  rw [outsAt0_C m c t (by omega) ht]
  frame_out
  rw [View.readCov_eq_canon' (Val := Elt Ideal)]
  generalize View.canon (Val := Elt Ideal) _ = z
  open_payloads; pointwise

/-! ## The final array -/

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] ∧ win0_7.index t = ![0, 0] :=
  (by decide +kernel : ∀ t : Fin grid0.N, _)

abbrev aH (c : Dev nD) : S4096x1024.Idx → EReal := m ((c.tc : Thread nD τ).loc main_arg0)
abbrev aD (c : Dev nD) : S4096x3072.Idx → EReal := m ((c.tc : Thread nD τ).loc main_arg1)

/-- Row `r` of block `t` of 1024 rows. -/
abbrev row (t : Fin cfg0.N) (r : Fin 1024) : Fin 4096 := ⟨t.val * 1024 + r.val, by have h : t.val < 4 := lt_of_lt_of_eq t.isLt N_0; omega⟩

theorem V_0 (c : Dev nD) (i : S4096x1024.Idx) : (V m c main_v0 : S4096x1024.Idx → EReal) i = aH m c i := by
  entry_read
  try simp only [hostOps0, List.flatten_cons, List.flatten_nil, List.append_nil, List.cons_append, List.nil_append]
  try after_results
  try simp -implicitDefEqProofs only [StableHlo.TRef.toBuf, StableHlo.TRef.ofBuf, cast_cast, cast_eq]
  pointwise
theorem blk0 (c : Dev nD) (t : Fin cfg0.N) (p i : Fin 1024) : (iblk m c 0 t : S1024x1024.Idx → EReal) (ix2 p i) = aH m c (ix2 (row t p) i) := by
  rw [← V_0]; blk_point [iblk, idx t]
theorem V_1 (c : Dev nD) (r : Fin 4096) (k : Fin 512) : (V m c main_v2 : S4096x512.Idx → EReal) (ix2 r k) = aD m c (ix2 r ⟨0 + k.val, by omega⟩) := by
  entry_read
  try simp only [hostOps0, List.flatten_cons, List.flatten_nil, List.append_nil, List.cons_append, List.nil_append]
  try after_results
  try simp -implicitDefEqProofs only [StableHlo.TRef.toBuf, StableHlo.TRef.ofBuf, cast_cast, cast_eq]
  pointwise
theorem blk1 (c : Dev nD) (t : Fin cfg0.N) (p : Fin 1024) (k : Fin 512) : (iblk m c 1 t : S1024x512.Idx → EReal) (ix2 p k)
    = aD m c (ix2 (row t p) ⟨0 + k.val, by omega⟩) := by
  rw [← V_1]; blk_point [iblk, idx t]
theorem V_2 (c : Dev nD) (r : Fin 4096) (k : Fin 512) : (V m c main_v4 : S4096x512.Idx → EReal) (ix2 r k) = aD m c (ix2 r ⟨512 + k.val, by omega⟩) := by
  entry_read
  try simp only [hostOps0, List.flatten_cons, List.flatten_nil, List.append_nil, List.cons_append, List.nil_append]
  try after_results
  try simp -implicitDefEqProofs only [StableHlo.TRef.toBuf, StableHlo.TRef.ofBuf, cast_cast, cast_eq]
  pointwise
theorem blk2 (c : Dev nD) (t : Fin cfg0.N) (p : Fin 1024) (k : Fin 512) : (iblk m c 2 t : S1024x512.Idx → EReal) (ix2 p k)
    = aD m c (ix2 (row t p) ⟨512 + k.val, by omega⟩) := by
  rw [← V_2]; blk_point [iblk, idx t]
theorem V_3 (c : Dev nD) (r : Fin 4096) (k : Fin 512) : (V m c main_v6 : S4096x512.Idx → EReal) (ix2 r k) = aD m c (ix2 r ⟨1024 + k.val, by omega⟩) := by
  entry_read
  try simp only [hostOps0, List.flatten_cons, List.flatten_nil, List.append_nil, List.cons_append, List.nil_append]
  try after_results
  try simp -implicitDefEqProofs only [StableHlo.TRef.toBuf, StableHlo.TRef.ofBuf, cast_cast, cast_eq]
  pointwise
theorem blk3 (c : Dev nD) (t : Fin cfg0.N) (p : Fin 1024) (k : Fin 512) : (iblk m c 3 t : S1024x512.Idx → EReal) (ix2 p k)
    = aD m c (ix2 (row t p) ⟨1024 + k.val, by omega⟩) := by
  rw [← V_3]; blk_point [iblk, idx t]
theorem V_4 (c : Dev nD) (r : Fin 4096) (k : Fin 512) : (V m c main_v8 : S4096x512.Idx → EReal) (ix2 r k) = aD m c (ix2 r ⟨1536 + k.val, by omega⟩) := by
  entry_read
  try simp only [hostOps0, List.flatten_cons, List.flatten_nil, List.append_nil, List.cons_append, List.nil_append]
  try after_results
  try simp -implicitDefEqProofs only [StableHlo.TRef.toBuf, StableHlo.TRef.ofBuf, cast_cast, cast_eq]
  pointwise
theorem blk4 (c : Dev nD) (t : Fin cfg0.N) (p : Fin 1024) (k : Fin 512) : (iblk m c 4 t : S1024x512.Idx → EReal) (ix2 p k)
    = aD m c (ix2 (row t p) ⟨1536 + k.val, by omega⟩) := by
  rw [← V_4]; blk_point [iblk, idx t]
theorem V_5 (c : Dev nD) (r : Fin 4096) (k : Fin 512) : (V m c main_v10 : S4096x512.Idx → EReal) (ix2 r k) = aD m c (ix2 r ⟨2048 + k.val, by omega⟩) := by
  entry_read
  try simp only [hostOps0, List.flatten_cons, List.flatten_nil, List.append_nil, List.cons_append, List.nil_append]
  try after_results
  try simp -implicitDefEqProofs only [StableHlo.TRef.toBuf, StableHlo.TRef.ofBuf, cast_cast, cast_eq]
  pointwise
theorem blk5 (c : Dev nD) (t : Fin cfg0.N) (p : Fin 1024) (k : Fin 512) : (iblk m c 5 t : S1024x512.Idx → EReal) (ix2 p k)
    = aD m c (ix2 (row t p) ⟨2048 + k.val, by omega⟩) := by
  rw [← V_5]; blk_point [iblk, idx t]
theorem V_6 (c : Dev nD) (r : Fin 4096) (k : Fin 512) : (V m c main_v12 : S4096x512.Idx → EReal) (ix2 r k) = aD m c (ix2 r ⟨2560 + k.val, by omega⟩) := by
  entry_read
  try simp only [hostOps0, List.flatten_cons, List.flatten_nil, List.append_nil, List.cons_append, List.nil_append]
  try after_results
  try simp -implicitDefEqProofs only [StableHlo.TRef.toBuf, StableHlo.TRef.ofBuf, cast_cast, cast_eq]
  pointwise
theorem blk6 (c : Dev nD) (t : Fin cfg0.N) (p : Fin 1024) (k : Fin 512) : (iblk m c 6 t : S1024x512.Idx → EReal) (ix2 p k)
    = aD m c (ix2 (row t p) ⟨2560 + k.val, by omega⟩) := by
  rw [← V_6]; blk_point [iblk, idx t]

/-- The pieces together are the block of the cotangent. -/
theorem blkD (c : Dev nD) (t : Fin cfg0.N) (p : Fin 1024) (b : Fin 3072) :
    pick (iblk m c 1 t) (iblk m c 2 t) (iblk m c 3 t) (iblk m c 4 t) (iblk m c 5 t) (iblk m c 6 t) p b = aD m c (ix2 (row t p) b) := by
  have hb := b.isLt
  obtain h | h | h | h | h | h : b.val < 512 ∨ (512 ≤ b.val ∧ b.val < 1024) ∨ (1024 ≤ b.val ∧ b.val < 1536) ∨ (1536 ≤ b.val ∧ b.val < 2048)
    ∨ (2048 ≤ b.val ∧ b.val < 2560) ∨ 2560 ≤ b.val := by omega
  · have aux : ∀ k : Fin 512, b = ⟨0 + k.val, lt_of_lt_of_le (Nat.add_lt_add_left k.isLt 0) (by decide)⟩ → pick (iblk m c 1 t) (iblk m c 2 t) (iblk m c 3 t) (iblk m c 4 t) (iblk m c 5 t) (iblk m c 6 t) p b
        = aD m c (ix2 (row t p) b) := by
      intro k e
      subst e
      exact (pick1 _ _ _ _ _ _ p k _).trans (blk1 m c t p k)
    exact aux ⟨b.val - 0, by omega⟩ (Fin.ext (by show b.val = 0 + (b.val - 0); omega))
  · have aux : ∀ k : Fin 512, b = ⟨512 + k.val, lt_of_lt_of_le (Nat.add_lt_add_left k.isLt 512) (by decide)⟩ → pick (iblk m c 1 t) (iblk m c 2 t) (iblk m c 3 t) (iblk m c 4 t) (iblk m c 5 t) (iblk m c 6 t) p b
        = aD m c (ix2 (row t p) b) := by
      intro k e
      subst e
      exact (pick2 _ _ _ _ _ _ p k _).trans (blk2 m c t p k)
    exact aux ⟨b.val - 512, by omega⟩ (Fin.ext (by show b.val = 512 + (b.val - 512); omega))
  · have aux : ∀ k : Fin 512, b = ⟨1024 + k.val, lt_of_lt_of_le (Nat.add_lt_add_left k.isLt 1024) (by decide)⟩ → pick (iblk m c 1 t) (iblk m c 2 t) (iblk m c 3 t) (iblk m c 4 t) (iblk m c 5 t) (iblk m c 6 t) p b
        = aD m c (ix2 (row t p) b) := by
      intro k e
      subst e
      exact (pick3 _ _ _ _ _ _ p k _).trans (blk3 m c t p k)
    exact aux ⟨b.val - 1024, by omega⟩ (Fin.ext (by show b.val = 1024 + (b.val - 1024); omega))
  · have aux : ∀ k : Fin 512, b = ⟨1536 + k.val, lt_of_lt_of_le (Nat.add_lt_add_left k.isLt 1536) (by decide)⟩ → pick (iblk m c 1 t) (iblk m c 2 t) (iblk m c 3 t) (iblk m c 4 t) (iblk m c 5 t) (iblk m c 6 t) p b
        = aD m c (ix2 (row t p) b) := by
      intro k e
      subst e
      exact (pick4 _ _ _ _ _ _ p k _).trans (blk4 m c t p k)
    exact aux ⟨b.val - 1536, by omega⟩ (Fin.ext (by show b.val = 1536 + (b.val - 1536); omega))
  · have aux : ∀ k : Fin 512, b = ⟨2048 + k.val, lt_of_lt_of_le (Nat.add_lt_add_left k.isLt 2048) (by decide)⟩ → pick (iblk m c 1 t) (iblk m c 2 t) (iblk m c 3 t) (iblk m c 4 t) (iblk m c 5 t) (iblk m c 6 t) p b
        = aD m c (ix2 (row t p) b) := by
      intro k e
      subst e
      exact (pick5 _ _ _ _ _ _ p k _).trans (blk5 m c t p k)
    exact aux ⟨b.val - 2048, by omega⟩ (Fin.ext (by show b.val = 2048 + (b.val - 2048); omega))
  · have aux : ∀ k : Fin 512, b = ⟨2560 + k.val, lt_of_lt_of_le (Nat.add_lt_add_left k.isLt 2560) (by decide)⟩ → pick (iblk m c 1 t) (iblk m c 2 t) (iblk m c 3 t) (iblk m c 4 t) (iblk m c 5 t) (iblk m c 6 t) p b
        = aD m c (ix2 (row t p) b) := by
      intro k e
      subst e
      exact (pick6 _ _ _ _ _ _ p k _).trans (blk6 m c t p k)
    exact aux ⟨b.val - 2560, by omega⟩ (Fin.ext (by show b.val = 2560 + (b.val - 2560); omega))

/-- The gradient of the weights of a product. -/
def wOf (H : S4096x1024.Idx → EReal) (D : S4096x3072.Idx → EReal) (i : S1024x3072.Idx) : EReal := ∑ r : Fin 4096, H (ix2 r (i 0)) * D (ix2 r (i 1))

/-- Four blocks of 1024 rows are the 4096 rows. -/
theorem tiles (f : Fin 4096 → EReal) : (∑ s : Fin 4, ∑ p : Fin 1024, f ⟨s.val * 1024 + p.val, by omega⟩) = ∑ r, f r := by
  refine (Fin.sum_points_lanes_congr 4 (A := 1) (N := 4) (g := fun _ n => f n) (fun s q _ hl => congrArg f (Fin.ext ?_)) rfl).trans
    (by simp)
  show s.val * 1024 + q.val = s.val % 4 * 1024 + q.val
  omega

theorem acc_last (c : Dev nD) (t : Fin cfg0.N) (ht : t.val % 4 = 3) (y : S1024x3072.Idx) : (outsAt0 m c t.val t.isLt).2 y = wOf (aH m c) (aD m c) y := by
  refine (Pipeline.eq_sum_fin_of_reset_step_apply_of_flush (J := 4) (fun n h y => (outsAt0 m c n h).2 y) (fun _ => 0) (fun t y => ∑ p, addB m c t p y)
    ?_ ?_ t ht y).trans ?_
  · intro t h i; show (outsAt0 m c t.val t.isLt).2 i = _; rw [acc_at, if_pos h]
  · intro t h i; show (outsAt0 m c t.val t.isLt).2 i = _; rw [acc_at, if_neg h]
  · refine (zero_add _).trans ((Finset.sum_congr rfl fun s _ => Finset.sum_congr rfl fun p _ => ?_).trans
      (tiles fun r => aH m c (ix2 r (y 0)) * aD m c (ix2 r (y 1))))
    have hN : t.val < 4 := lt_of_lt_of_eq t.isLt N_0
    refine (congrArg₂ (fun a b : EReal => a * b) (blk0 m c _ p (y 0)) (blkD m c _ p (y 1))).trans ?_
    exact congrArg (fun r => aH m c (ix2 r (y 0)) * aD m c (ix2 r (y 1))) (Fin.ext (by show (4 * (t.val / 4) + s.val) * 1024 + p.val = s.val * 1024 + p.val; omega))

theorem w_at (c : Dev nD) (t : Fin cfg0.N) (ht : t.val % 4 = 3) (y i : S1024x3072.Idx) (h0 : (i 0 : ℕ) = (y 0).val) (h1 : (i 1 : ℕ) = (y 1).val) :
    (outsAt0 m c t.val t.isLt).1 y = wOf (aH m c) (aD m c) i := by
  obtain rfl : i = y := by idx_ext
  exact (out_at m c t ht _).trans (acc_last m c t ht _)

theorem final_w (c : Dev nD) : (dats m 0 c).arrAt 7 cfg0.N = wOf (aH m c) (aD m c) := by
  refine (dats m 0 c).arrAt_eq_of_covers 7 _ (by decide +kernel) fun t hf y => ?_
  have ht : t.val % 4 = 3 := (flush0_7 t).mp hf
  blk_simp
  rw [after0_7]
  refine w_at m c t ht y _ ?_ ?_
  all_goals (blk_simp [idx t] <;> try omega)

end Cert.MtnIdeal.Value

end
-- ==== Proof.Mtn.Claim.lean ====
/-
  The value claim of the weight gradient: the kernel leaves the derivative of the product in its weights, at every argument.
-/
module

public import proofs.«01_k».proof.Defs
public import proofs.«01_k».proof.Proof.Mtn.Value
public import proofs.«01_k».proof.Proof.Gen.MtnRefIdeal.Run
public import proofs.«01_k».proof.Proof.Gen.MtnRefIdeal.Read

@[expose] public section

set_option maxRecDepth 16384

noncomputable section

namespace Cert.MtnRefIdeal.Value

open Idealize.ShloMosaic Idealize.ShloMosaic.TcCoe
open Cert.MtnRefIdeal Cert.MtnRefIdeal.Gen Cert.MtnRefIdeal.Read
open Cert.MtnIdeal.Value (wOf)

variable (x0 : (⟨S4096x1024, .f32⟩ : BufTy).Contents (Elt Ideal)) (x1 : (⟨S4096x3072, .f32⟩ : BufTy).Contents (Elt Ideal))

theorem w_eq : val_main_v4 x0 x1 = wOf x0 x1 := by
  funext i
  obtain ⟨a, b, rfl⟩ : ∃ (a : Fin 1024) (b : Fin 3072), i = ix2 a b := ⟨i 0, i 1, by idx_ext⟩
  have h : val_main_v4 x0 x1 (ix2 a b) = ∑ r : Fin 4096, x1 (ix2 r b) * x0 (ix2 r a) := by
    pointwise [val_main_v4, val_main_v3, val_main_v2]
  exact h.trans (Finset.sum_congr rfl fun r _ => mul_comm _ _)

end Cert.MtnRefIdeal.Value

namespace Cert.Mtn.Claim

open Idealize.ShloMosaic Idealize.ShloMosaic.TcCoe Idealize.SL.Sem
open Cert.MtnIdeal.Value

theorem algebraic : Cert.algebraic_MtnIdeal_MtnRefIdeal := by
  pair_intro
  · run_from Cert.MtnIdeal.Value.run_blocks m g
  · refine θ_run_mono (Cert.MtnRefIdeal.Value.run m' g') fun r h c => ?_
    obtain ⟨h0, h1⟩ := h c
    obtain ⟨a0, a1⟩ := hagree c
    rw [Cert.MtnRefIdeal.Read.val_main_v4_eq, a0, a1, Cert.MtnRefIdeal.Value.w_eq] at h0
    exact ⟨h0.trans (final_w m c).symm, h1⟩

end Cert.Mtn.Claim

end
-- ==== Proof.Mnn.Value.lean ====
/-
  What the mixing projection leaves over the arguments: the rows times the weight, in slabs of 128 columns.
-/
module

public import proofs.«01_k».proof.Proof.Gen.MnnIdeal.Frame
public import Idealize.ShloMosaic.Lib.Pipeline.ValueKit
public import Idealize.ShloMosaic.Lib.Pointwise
public import Idealize.ShloMosaic.Lib.Claim

@[expose] public section

set_option maxRecDepth 16384

noncomputable section

namespace Cert.MnnIdeal.Value

open Idealize.ShloMosaic Idealize.ShloMosaic.TcCoe Idealize.SL.Sem
open Idealize.ShloMosaic.Pipeline (Dat)
open Cert.MnnIdeal Cert.MnnIdeal.Gen

/-- Column `e` of slab `s`. -/
abbrev col (s : Fin 24) (e : Fin 128) : Fin 3072 := ⟨s.val * 128 + e.val, by omega⟩

theorem prod_out (b0 : Vec Ideal S512x1024 .bf16) (b1 : Vec Ideal S1024x3072 .bf16) (s : Fin 24) (r : Fin 512) (e : Fin 128) :
    out0_2 (F := Ideal) b0 b1 (ix3 s r e) = ∑ k : Fin 1024, b0 (ix2 r k) * b1 (ix2 k (col s e)) := by
  canon_tiles x h
  all_goals (obtain ⟨p, q, rfl⟩ : ∃ (p : Fin 512) (q : Fin 128), x = ix3 0 p q := ⟨x 1, x 2, by idx_ext⟩
             obtain rfl : p = r := Fin.ext h1.symm
             obtain rfl : q = e := Fin.ext h2.symm
             obtain ⟨n, hn⟩ := s
             obtain rfl : n = _ + 0 := h0
             open_payloads; pointwise
             try first
               | rfl
               | exact Finset.sum_congr rfl fun k _ => congrArg (fun z => b0 (ix2 p k) * b1 (ix2 k (z))) (Fin.ext (by simp <;> omega)))

/-! ## The final array -/

variable (m : (ℓ : Loc nD τ sig) → Buf (Elt Ideal) ℓ)

theorem idx : ∀ t : Fin cfg0.N, win0_0.index t = ![t.val, 0] ∧ win0_1.index t = ![0, 0] ∧ win0_2.index t = ![0, t.val, 0] :=
  (by decide +kernel : ∀ t : Fin grid0.N, _)

abbrev aX (c : Dev nD) : S4096x1024.Idx → EReal := m ((c.tc : Thread nD τ).loc main_arg0)
abbrev aW (c : Dev nD) : S1024x3072.Idx → EReal := m ((c.tc : Thread nD τ).loc main_arg1)

theorem V_v0 (c : Dev nD) : V m c main_v0 = aX m c := by entry_read; rfl
theorem V_v1 (c : Dev nD) : V m c main_v1 = aW m c := by entry_read; rfl

/-- Row `r` of block `t` of 512 rows. -/
abbrev row (t : Fin cfg0.N) (r : Fin 512) : Fin 4096 := ⟨t.val * 512 + r.val, by have h : t.val < 8 := lt_of_lt_of_eq t.isLt N_0; omega⟩

theorem blk0 (c : Dev nD) (t : Fin cfg0.N) (r : Fin 512) (e : Fin 1024) : iblk m c 0 t (ix2 r e) = aX m c (ix2 (row t r) e) := by
  rw [← V_v0]; blk_point [iblk, idx t]
theorem blk1 (c : Dev nD) (t : Fin cfg0.N) (e : Fin 1024) (k : Fin 3072) : iblk m c 1 t (ix2 e k) = aW m c (ix2 e k) := by
  rw [← V_v1]; blk_point [iblk, idx t]

/-- The product, its columns in slabs of 128. -/
def prodOf (X : S4096x1024.Idx → EReal) (W : S1024x3072.Idx → EReal) (i : S24x4096x128.Idx) : EReal :=
  ∑ k : Fin 1024, X (ix2 (i 1) k) * W (ix2 k (col (i 0) (i 2)))

theorem prod_at (c : Dev nD) (t : Fin cfg0.N) (y : S24x512x128.Idx) (i : S24x4096x128.Idx) (h0 : (i 0 : ℕ) = (y 0).val)
    (h1 : (i 1 : ℕ) = t.val * 512 + (y 1).val) (h2 : (i 2 : ℕ) = (y 2).val) :
    out0_2 (F := Ideal) (iblk m c 0 t) (iblk m c 1 t) y = prodOf (aX m c) (aW m c) i := by
  obtain ⟨s, p, e, rfl⟩ : ∃ (s : Fin 24) (p : Fin 512) (e : Fin 128), y = ix3 s p e := ⟨y 0, y 1, y 2, by idx_ext⟩
  obtain rfl : i = ix3 s (row t p) e := by idx_ext
  rw [prod_out]
  simp only [blk0, blk1]; rfl

theorem final_prod (c : Dev nD) : (dats m 0 c).arrAt 2 cfg0.N = prodOf (aX m c) (aW m c) := by
  refine (dats m 0 c).arrAt_eq_of_covers 2 _ (by decide +kernel) fun t hf y => ?_
  blk_simp
  rw [after0_2]
  refine prod_at m c t y _ ?_ ?_ ?_
  all_goals (blk_simp [idx t] <;> try omega)

end Cert.MnnIdeal.Value

end
-- ==== Proof.Mnn.Claim.lean ====
/-
  The value claim of the mixing projection: the kernel leaves the product with the weight, in slabs of 128 columns, at every argument.
-/
module

public import proofs.«01_k».proof.Defs
public import proofs.«01_k».proof.Proof.Mnn.Value
public import proofs.«01_k».proof.Proof.Gen.MnnIdeal.Value
public import proofs.«01_k».proof.Proof.Gen.MnnRefIdeal.Run
public import proofs.«01_k».proof.Proof.Gen.MnnRefIdeal.Read

@[expose] public section

set_option maxRecDepth 16384

noncomputable section

namespace Cert.MnnRefIdeal.Value

open Idealize.ShloMosaic Idealize.ShloMosaic.TcCoe
open Cert.MnnRefIdeal Cert.MnnRefIdeal.Gen Cert.MnnRefIdeal.Read
open Cert.MnnIdeal.Value (prodOf col)

variable (x0 : (⟨S4096x1024, .f32⟩ : BufTy).Contents (Elt Ideal)) (x1 : (⟨S1024x3072, .f32⟩ : BufTy).Contents (Elt Ideal))

theorem prod_eq : val_main_v2 x0 x1 = prodOf x0 x1 := by
  funext i
  obtain ⟨s, r, e, rfl⟩ : ∃ (s : Fin 24) (r : Fin 4096) (e : Fin 128), i = ix3 s r e := ⟨i 0, i 1, i 2, by idx_ext⟩
  show _ = ∑ k : Fin 1024, x0 (ix2 r k) * x1 (ix2 k (col s e))
  pointwise [val_main_v2, val_main_v1, val_main_v0]
  try rfl

end Cert.MnnRefIdeal.Value

namespace Cert.Mnn.Claim

open Idealize.ShloMosaic Idealize.ShloMosaic.TcCoe Idealize.SL.Sem
open Cert.MnnIdeal.Value

theorem algebraic : Cert.algebraic_MnnIdeal_MnnRefIdeal := by
  pair_intro
  · run_from Cert.MnnIdeal.Value.run_blocks m g
  · refine θ_run_mono (Cert.MnnRefIdeal.Value.run m' g') fun r h c => ?_
    obtain ⟨h0, h1⟩ := h c
    obtain ⟨a0, a1⟩ := hagree c
    rw [Cert.MnnRefIdeal.Read.val_main_v2_eq, a0, a1, Cert.MnnRefIdeal.Value.prod_eq] at h0
    exact ⟨h0.trans (final_prod m c).symm, h1⟩

end Cert.Mnn.Claim

end
-- ==== Proof.Mnt.Value.lean ====
/-
  What the mixing part's cotangent leaves over the arguments: the rows times the transposed output weight, in slabs of 128 columns.
-/
module

public import proofs.«01_k».proof.Proof.Gen.MntIdeal.Frame
public import Idealize.ShloMosaic.Lib.Pipeline.ValueKit
public import Idealize.ShloMosaic.Lib.Pointwise
public import Idealize.ShloMosaic.Lib.Claim

@[expose] public section

set_option maxRecDepth 16384

noncomputable section

namespace Cert.MntIdeal.Value

open Idealize.ShloMosaic Idealize.ShloMosaic.TcCoe Idealize.SL.Sem
open Idealize.ShloMosaic.Pipeline (Dat)
open Cert.MntIdeal Cert.MntIdeal.Gen

/-- Column `e` of slab `s`. -/
abbrev col (s : Fin 8) (e : Fin 128) : Fin 1024 := ⟨s.val * 128 + e.val, by omega⟩

theorem prod_out (b0 : Vec Ideal S512x1024 .bf16) (b1 : Vec Ideal S1024x1024 .bf16) (s : Fin 8) (r : Fin 512) (e : Fin 128) :
    out0_2 (F := Ideal) b0 b1 (ix3 s r e) = ∑ k : Fin 1024, b0 (ix2 r k) * b1 (ix2 (col s e) k) := by
  canon_tiles x h
  all_goals (obtain ⟨p, q, rfl⟩ : ∃ (p : Fin 512) (q : Fin 128), x = ix3 0 p q := ⟨x 1, x 2, by idx_ext⟩
             obtain rfl : p = r := Fin.ext h1.symm
             obtain rfl : q = e := Fin.ext h2.symm
             obtain ⟨n, hn⟩ := s
             obtain rfl : n = _ + 0 := h0
             open_payloads; pointwise
             try first
               | rfl
               | exact Finset.sum_congr rfl fun k _ => congrArg (fun z => b0 (ix2 p k) * b1 (ix2 (z) k)) (Fin.ext (by simp <;> omega)))

/-! ## The final array -/

variable (m : (ℓ : Loc nD τ sig) → Buf (Elt Ideal) ℓ)

theorem idx : ∀ t : Fin cfg0.N, win0_0.index t = ![t.val, 0] ∧ win0_1.index t = ![0, 0] ∧ win0_2.index t = ![0, t.val, 0] :=
  (by decide +kernel : ∀ t : Fin grid0.N, _)

abbrev aX (c : Dev nD) : S4096x1024.Idx → EReal := m ((c.tc : Thread nD τ).loc main_arg0)
abbrev aW (c : Dev nD) : S1024x1024.Idx → EReal := m ((c.tc : Thread nD τ).loc main_arg1)

theorem V_v0 (c : Dev nD) : V m c main_v0 = aX m c := by entry_read; rfl
theorem V_v1 (c : Dev nD) : V m c main_v1 = aW m c := by entry_read; rfl

/-- Row `r` of block `t` of 512 rows. -/
abbrev row (t : Fin cfg0.N) (r : Fin 512) : Fin 4096 := ⟨t.val * 512 + r.val, by have h : t.val < 8 := lt_of_lt_of_eq t.isLt N_0; omega⟩

theorem blk0 (c : Dev nD) (t : Fin cfg0.N) (r : Fin 512) (e : Fin 1024) : iblk m c 0 t (ix2 r e) = aX m c (ix2 (row t r) e) := by
  rw [← V_v0]; blk_point [iblk, idx t]
theorem blk1 (c : Dev nD) (t : Fin cfg0.N) (e : Fin 1024) (k : Fin 1024) : iblk m c 1 t (ix2 e k) = aW m c (ix2 e k) := by
  rw [← V_v1]; blk_point [iblk, idx t]

/-- The product, its columns in slabs of 128. -/
def prodOf (X : S4096x1024.Idx → EReal) (W : S1024x1024.Idx → EReal) (i : S8x4096x128.Idx) : EReal :=
  ∑ k : Fin 1024, X (ix2 (i 1) k) * W (ix2 (col (i 0) (i 2)) k)

theorem prod_at (c : Dev nD) (t : Fin cfg0.N) (y : S8x512x128.Idx) (i : S8x4096x128.Idx) (h0 : (i 0 : ℕ) = (y 0).val)
    (h1 : (i 1 : ℕ) = t.val * 512 + (y 1).val) (h2 : (i 2 : ℕ) = (y 2).val) :
    out0_2 (F := Ideal) (iblk m c 0 t) (iblk m c 1 t) y = prodOf (aX m c) (aW m c) i := by
  obtain ⟨s, p, e, rfl⟩ : ∃ (s : Fin 8) (p : Fin 512) (e : Fin 128), y = ix3 s p e := ⟨y 0, y 1, y 2, by idx_ext⟩
  obtain rfl : i = ix3 s (row t p) e := by idx_ext
  rw [prod_out]
  simp only [blk0, blk1]; rfl

theorem final_prod (c : Dev nD) : (dats m 0 c).arrAt 2 cfg0.N = prodOf (aX m c) (aW m c) := by
  refine (dats m 0 c).arrAt_eq_of_covers 2 _ (by decide +kernel) fun t hf y => ?_
  blk_simp
  rw [after0_2]
  refine prod_at m c t y _ ?_ ?_ ?_
  all_goals (blk_simp [idx t] <;> try omega)

end Cert.MntIdeal.Value

end
-- ==== Proof.Mnt.Claim.lean ====
/-
  The value claim of the mixing part's cotangent: the kernel leaves the derivative of the output projection in its rows, in slabs of 128
  columns, at every argument.
-/
module

public import proofs.«01_k».proof.Defs
public import proofs.«01_k».proof.Proof.Mnt.Value
public import proofs.«01_k».proof.Proof.Gen.MntIdeal.Value
public import proofs.«01_k».proof.Proof.Gen.MntRefIdeal.Run
public import proofs.«01_k».proof.Proof.Gen.MntRefIdeal.Read

@[expose] public section

set_option maxRecDepth 16384

noncomputable section

namespace Cert.MntRefIdeal.Value

open Idealize.ShloMosaic Idealize.ShloMosaic.TcCoe
open Cert.MntRefIdeal Cert.MntRefIdeal.Gen Cert.MntRefIdeal.Read
open Cert.MntIdeal.Value (prodOf col)

variable (x0 : (⟨S4096x1024, .f32⟩ : BufTy).Contents (Elt Ideal)) (x1 : (⟨S1024x1024, .f32⟩ : BufTy).Contents (Elt Ideal))

theorem prod_eq : val_main_v4 x0 x1 = prodOf x0 x1 := by
  funext i
  obtain ⟨s, r, e, rfl⟩ : ∃ (s : Fin 8) (r : Fin 4096) (e : Fin 128), i = ix3 s r e := ⟨i 0, i 1, i 2, by idx_ext⟩
  show _ = ∑ k : Fin 1024, x0 (ix2 r k) * x1 (ix2 (col s e) k)
  pointwise [val_main_v4, val_main_v3, val_main_v2]
  try rfl

end Cert.MntRefIdeal.Value

namespace Cert.Mnt.Claim

open Idealize.ShloMosaic Idealize.ShloMosaic.TcCoe Idealize.SL.Sem
open Cert.MntIdeal.Value

theorem algebraic : Cert.algebraic_MntIdeal_MntRefIdeal := by
  pair_intro
  · run_from Cert.MntIdeal.Value.run_blocks m g
  · refine θ_run_mono (Cert.MntRefIdeal.Value.run m' g') fun r h c => ?_
    obtain ⟨h0, h1⟩ := h c
    obtain ⟨a0, a1⟩ := hagree c
    rw [Cert.MntRefIdeal.Read.val_main_v4_eq, a0, a1, Cert.MntRefIdeal.Value.prod_eq] at h0
    exact ⟨h0.trans (final_prod m c).symm, h1⟩

end Cert.Mnt.Claim

end
-- ==== Proof.lean ====
/-
  The proof of `Cert.Claim` (proof/Defs.lean): the frames, that the idealized kernel is the kernel's text, and the value claims,
  each from its own module.
-/
module

public import proofs.«01_k».proof.Defs
public import proofs.«01_k».proof.Proof.Gen.Gate
public import proofs.«01_k».proof.Proof.Gen.Gate.Frame
public import proofs.«01_k».proof.Proof.Gen.GateIdeal
public import proofs.«01_k».proof.Proof.Gen.GateIdeal.Frame
public import proofs.«01_k».proof.Proof.Gen.GateRefIdeal
public import proofs.«01_k».proof.Proof.Gen.GateRefIdeal.Run
public import proofs.«01_k».proof.Proof.Gen.GateRefIdeal.Read
public import proofs.«01_k».proof.Proof.Gate.Claim
public import proofs.«01_k».proof.Proof.Gen.Attn
public import proofs.«01_k».proof.Proof.Gen.Attn.Frame
public import proofs.«01_k».proof.Proof.Gen.AttnIdeal
public import proofs.«01_k».proof.Proof.Gen.AttnIdeal.Frame
public import proofs.«01_k».proof.Proof.Gen.AttnIdeal.Value
public import proofs.«01_k».proof.Proof.Gen.AttnRefIdeal
public import proofs.«01_k».proof.Proof.Gen.AttnRefIdeal.Run
public import proofs.«01_k».proof.Proof.Gen.AttnRefIdeal.Read
public import proofs.«01_k».proof.Proof.Attn.Claim
public import proofs.«01_k».proof.Proof.Gen.Sgu
public import proofs.«01_k».proof.Proof.Gen.Sgu.Frame
public import proofs.«01_k».proof.Proof.Gen.SguIdeal
public import proofs.«01_k».proof.Proof.Gen.SguIdeal.Frame
public import proofs.«01_k».proof.Proof.Gen.SguIdeal.Value
public import proofs.«01_k».proof.Proof.Gen.SguRefIdeal
public import proofs.«01_k».proof.Proof.Gen.SguRefIdeal.Run
public import proofs.«01_k».proof.Proof.Gen.SguRefIdeal.Read
public import proofs.«01_k».proof.Proof.Sgu.Claim
public import proofs.«01_k».proof.Proof.Gen.Loss
public import proofs.«01_k».proof.Proof.Gen.Loss.Frame
public import proofs.«01_k».proof.Proof.Gen.LossIdeal
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.Loss.Claim
public import proofs.«01_k».proof.Proof.Gen.Memory
public import proofs.«01_k».proof.Proof.Gen.Memory.Frame
public import proofs.«01_k».proof.Proof.Gen.MemoryIdeal
public import proofs.«01_k».proof.Proof.Gen.MemoryIdeal.Frame
public import proofs.«01_k».proof.Proof.Gen.MemoryRefIdeal
public import proofs.«01_k».proof.Proof.Gen.MemoryRefIdeal.Run
public import proofs.«01_k».proof.Proof.Gen.MemoryRefIdeal.Read
public import proofs.«01_k».proof.Proof.Memory.Claim
public import proofs.«01_k».proof.Proof.Gen.Afwd
public import proofs.«01_k».proof.Proof.Gen.Afwd.Frame
public import proofs.«01_k».proof.Proof.Gen.AfwdIdeal
public import proofs.«01_k».proof.Proof.Gen.AfwdIdeal.Frame
public import proofs.«01_k».proof.Proof.Gen.AfwdIdeal.Value
public import proofs.«01_k».proof.Proof.Gen.AfwdRefIdeal
public import proofs.«01_k».proof.Proof.Gen.AfwdRefIdeal.Run
public import proofs.«01_k».proof.Proof.Gen.AfwdRefIdeal.Read
public import proofs.«01_k».proof.Proof.Afwd.Claim
public import proofs.«01_k».proof.Proof.Gen.Dxattn
public import proofs.«01_k».proof.Proof.Gen.Dxattn.Frame
public import proofs.«01_k».proof.Proof.Gen.DxattnIdeal
public import proofs.«01_k».proof.Proof.Gen.DxattnIdeal.Frame
public import proofs.«01_k».proof.Proof.Gen.DxattnRefIdeal
public import proofs.«01_k».proof.Proof.Gen.DxattnRefIdeal.Run
public import proofs.«01_k».proof.Proof.Gen.DxattnRefIdeal.Read
public import proofs.«01_k».proof.Proof.Dxattn.Claim
public import proofs.«01_k».proof.Proof.Gen.Dxmix
public import proofs.«01_k».proof.Proof.Gen.Dxmix.Frame
public import proofs.«01_k».proof.Proof.Gen.DxmixIdeal
public import proofs.«01_k».proof.Proof.Gen.DxmixIdeal.Frame
public import proofs.«01_k».proof.Proof.Gen.DxmixRefIdeal
public import proofs.«01_k».proof.Proof.Gen.DxmixRefIdeal.Run
public import proofs.«01_k».proof.Proof.Gen.DxmixRefIdeal.Read
public import proofs.«01_k».proof.Proof.Dxmix.Claim
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnRefIdeal
public import proofs.«01_k».proof.Proof.Gen.FfnRefIdeal.Run
public import proofs.«01_k».proof.Proof.Gen.FfnRefIdeal.Read
public import proofs.«01_k».proof.Proof.Ffn.Claim
public import proofs.«01_k».proof.Proof.Gen.Hgrn
public import proofs.«01_k».proof.Proof.Gen.HgrnIdeal
public import proofs.«01_k».proof.Proof.Hgrn.Claim
public import proofs.«01_k».proof.Proof.Gen.Hfwd
public import proofs.«01_k».proof.Proof.Gen.HfwdIdeal
public import proofs.«01_k».proof.Proof.Hfwd.Claim
public import proofs.«01_k».proof.Proof.Gen.Nfwd
public import proofs.«01_k».proof.Proof.Gen.Nfwd.Frame
public import proofs.«01_k».proof.Proof.Gen.NfwdIdeal
public import proofs.«01_k».proof.Proof.Gen.NfwdIdeal.Frame
public import proofs.«01_k».proof.Proof.Gen.NfwdIdeal.Value
public import proofs.«01_k».proof.Proof.Gen.NfwdRefIdeal
public import proofs.«01_k».proof.Proof.Gen.NfwdRefIdeal.Run
public import proofs.«01_k».proof.Proof.Gen.NfwdRefIdeal.Read
public import proofs.«01_k».proof.Proof.Nfwd.Claim
public import proofs.«01_k».proof.Proof.Gen.Mfwd
public import proofs.«01_k».proof.Proof.Gen.Mfwd.Frame
public import proofs.«01_k».proof.Proof.Gen.MfwdIdeal
public import proofs.«01_k».proof.Proof.Gen.MfwdIdeal.Frame
public import proofs.«01_k».proof.Proof.Gen.MfwdIdeal.Value
public import proofs.«01_k».proof.Proof.Gen.MfwdRefIdeal
public import proofs.«01_k».proof.Proof.Gen.MfwdRefIdeal.Run
public import proofs.«01_k».proof.Proof.Gen.MfwdRefIdeal.Read
public import proofs.«01_k».proof.Proof.Mfwd.Claim
public import proofs.«01_k».proof.Proof.Gen.Sfwd
public import proofs.«01_k».proof.Proof.Gen.Sfwd.Frame
public import proofs.«01_k».proof.Proof.Gen.SfwdIdeal
public import proofs.«01_k».proof.Proof.Gen.SfwdIdeal.Frame
public import proofs.«01_k».proof.Proof.Gen.SfwdIdeal.Value
public import proofs.«01_k».proof.Proof.Gen.SfwdRefIdeal
public import proofs.«01_k».proof.Proof.Gen.SfwdRefIdeal.Run
public import proofs.«01_k».proof.Proof.Gen.SfwdRefIdeal.Read
public import proofs.«01_k».proof.Proof.Sfwd.Claim
public import proofs.«01_k».proof.Proof.Gen.Dxin
public import proofs.«01_k».proof.Proof.Gen.Dxin.Frame
public import proofs.«01_k».proof.Proof.Gen.DxinIdeal
public import proofs.«01_k».proof.Proof.Gen.DxinIdeal.Frame
public import proofs.«01_k».proof.Proof.Gen.DxinIdeal.Value
public import proofs.«01_k».proof.Proof.Gen.DxinRefIdeal
public import proofs.«01_k».proof.Proof.Gen.DxinRefIdeal.Run
public import proofs.«01_k».proof.Proof.Gen.DxinRefIdeal.Read
public import proofs.«01_k».proof.Proof.Dxin.Claim
public import proofs.«01_k».proof.Proof.Gen.Mtn
public import proofs.«01_k».proof.Proof.Gen.Mtn.Frame
public import proofs.«01_k».proof.Proof.Gen.MtnIdeal
public import proofs.«01_k».proof.Proof.Gen.MtnIdeal.Frame
public import proofs.«01_k».proof.Proof.Gen.MtnIdeal.Value
public import proofs.«01_k».proof.Proof.Gen.MtnRefIdeal
public import proofs.«01_k».proof.Proof.Gen.MtnRefIdeal.Run
public import proofs.«01_k».proof.Proof.Gen.MtnRefIdeal.Read
public import proofs.«01_k».proof.Proof.Mtn.Claim
public import proofs.«01_k».proof.Proof.Gen.Mnn
public import proofs.«01_k».proof.Proof.Gen.Mnn.Frame
public import proofs.«01_k».proof.Proof.Gen.MnnIdeal
public import proofs.«01_k».proof.Proof.Gen.MnnIdeal.Frame
public import proofs.«01_k».proof.Proof.Gen.MnnIdeal.Value
public import proofs.«01_k».proof.Proof.Gen.MnnRefIdeal
public import proofs.«01_k».proof.Proof.Gen.MnnRefIdeal.Run
public import proofs.«01_k».proof.Proof.Gen.MnnRefIdeal.Read
public import proofs.«01_k».proof.Proof.Mnn.Claim
public import proofs.«01_k».proof.Proof.Gen.Mnt
public import proofs.«01_k».proof.Proof.Gen.Mnt.Frame
public import proofs.«01_k».proof.Proof.Gen.MntIdeal
public import proofs.«01_k».proof.Proof.Gen.MntIdeal.Frame
public import proofs.«01_k».proof.Proof.Gen.MntIdeal.Value
public import proofs.«01_k».proof.Proof.Gen.MntRefIdeal
public import proofs.«01_k».proof.Proof.Gen.MntRefIdeal.Run
public import proofs.«01_k».proof.Proof.Gen.MntRefIdeal.Read
public import proofs.«01_k».proof.Proof.Mnt.Claim
public import Idealize.ShloMosaic.Adequacy
public import Idealize.ShloMosaic.Init

@[expose] public section

noncomputable section

namespace Cert.Proof

open Idealize.ShloMosaic Idealize.SL.Sem

/-- The gate's reference is host code that declares no semaphore. -/
theorem frame_gateRef : Cert.quiescent_GateRefIdeal := fun m ρ _ =>
  (θ_run Cert.GateRefIdeal.defs _ _).mono (fun r h => ⟨fun c => (h c).2.2.2, sem_eq_zero_of_no_sems (by decide) r.2⟩)
    (Cert.GateRefIdeal.Value.run (F := Ideal) m ρ)

/-- Attention's reference is host code that declares no semaphore. -/
theorem frame_attnRef : Cert.quiescent_AttnRefIdeal := fun m ρ _ =>
  (θ_run Cert.AttnRefIdeal.defs _ _).mono (fun r h => ⟨fun c => (h c).2.2.2, sem_eq_zero_of_no_sems (by decide) r.2⟩)
    (Cert.AttnRefIdeal.Value.run (F := Ideal) m ρ)

/-- The gating unit's reference is host code that declares no semaphore. -/
theorem frame_sguRef : Cert.quiescent_SguRefIdeal := fun m ρ _ =>
  (θ_run Cert.SguRefIdeal.defs _ _).mono (fun r h => ⟨fun c => (h c).2.2.2.2.2.2, sem_eq_zero_of_no_sems (by decide) r.2⟩)
    (Cert.SguRefIdeal.Value.run (F := Ideal) m ρ)

/-- The loss's reference is host code that declares no semaphore. -/
theorem frame_lossRef : Cert.quiescent_LossRefIdeal := fun m ρ _ =>
  (θ_run Cert.LossRefIdeal.defs _ _).mono (fun r h => ⟨fun c => (h c).2.2.2.2.2, sem_eq_zero_of_no_sems (by decide) r.2⟩)
    (Cert.LossRefIdeal.Value.run (F := Ideal) m ρ)

/-- The memory's reference is host code that declares no semaphore. -/
theorem frame_memoryRef : Cert.quiescent_MemoryRefIdeal := fun m ρ _ =>
  (θ_run Cert.MemoryRefIdeal.defs _ _).mono (fun r h => ⟨fun c => (h c).2.2.2.2, sem_eq_zero_of_no_sems (by decide) r.2⟩)
    (Cert.MemoryRefIdeal.Value.run (F := Ideal) m ρ)

/-- The attention's forward call's reference is host code that declares no semaphore. -/
theorem frame_afwdRef : Cert.quiescent_AfwdRefIdeal := fun m ρ _ =>
  (θ_run Cert.AfwdRefIdeal.defs _ _).mono (fun r h => ⟨fun c => (h c).2.2, sem_eq_zero_of_no_sems (by decide) r.2⟩)
    (Cert.AfwdRefIdeal.Value.run (F := Ideal) m ρ)

/-- The attention's layer norm's reference is host code that declares no semaphore. -/
theorem frame_dxattnRef : Cert.quiescent_DxattnRefIdeal := fun m ρ _ =>
  (θ_run Cert.DxattnRefIdeal.defs _ _).mono (fun r h => ⟨fun c => (h c).2.2.2.2, sem_eq_zero_of_no_sems (by decide) r.2⟩)
    (Cert.DxattnRefIdeal.Value.run (F := Ideal) m ρ)

/-- The mixing's layer norm's reference is host code that declares no semaphore. -/
theorem frame_dxmixRef : Cert.quiescent_DxmixRefIdeal := fun m ρ _ =>
  (θ_run Cert.DxmixRefIdeal.defs _ _).mono (fun r h => ⟨fun c => (h c).2.2.2.2, sem_eq_zero_of_no_sems (by decide) r.2⟩)
    (Cert.DxmixRefIdeal.Value.run (F := Ideal) m ρ)

/-- The second feed-forward's layer norm's reference is host code that declares no semaphore. -/
theorem frame_ffnRef : Cert.quiescent_FfnRefIdeal := fun m ρ _ =>
  (θ_run Cert.FfnRefIdeal.defs _ _).mono (fun r h => ⟨fun c => (h c).2.2.2.2.2.2, sem_eq_zero_of_no_sems (by decide) r.2⟩)
    (Cert.FfnRefIdeal.Value.run (F := Ideal) m ρ)

/-- The output projection's forward call's reference is host code that declares no semaphore. -/
theorem frame_nfwdRef : Cert.quiescent_NfwdRefIdeal := fun m ρ _ =>
  (θ_run Cert.NfwdRefIdeal.defs _ _).mono (fun r h => ⟨fun c => (h c).2.2.2, sem_eq_zero_of_no_sems (by decide) r.2⟩)
    (Cert.NfwdRefIdeal.Value.run (F := Ideal) m ρ)

/-- The memory's forward call's reference is host code that declares no semaphore. -/
theorem frame_mfwdRef : Cert.quiescent_MfwdRefIdeal := fun m ρ _ =>
  (θ_run Cert.MfwdRefIdeal.defs _ _).mono (fun r h => ⟨fun c => (h c).2.2.2.2.2, sem_eq_zero_of_no_sems (by decide) r.2⟩)
    (Cert.MfwdRefIdeal.Value.run (F := Ideal) m ρ)

/-- The gating unit's forward call's reference is host code that declares no semaphore. -/
theorem frame_sfwdRef : Cert.quiescent_SfwdRefIdeal := fun m ρ _ =>
  (θ_run Cert.SfwdRefIdeal.defs _ _).mono (fun r h => ⟨fun c => (h c).2, sem_eq_zero_of_no_sems (by decide) r.2⟩)
    (Cert.SfwdRefIdeal.Value.run (F := Ideal) m ρ)

/-- The first feed-forward's input cotangent's reference is host code that declares no semaphore. -/
theorem frame_dxinRef : Cert.quiescent_DxinRefIdeal := fun m ρ _ =>
  (θ_run Cert.DxinRefIdeal.defs _ _).mono (fun r h => ⟨fun c => (h c).2, sem_eq_zero_of_no_sems (by decide) r.2⟩)
    (Cert.DxinRefIdeal.Value.run (F := Ideal) m ρ)

/-- The weight gradient's reference is host code that declares no semaphore. -/
theorem frame_mtnRef : Cert.quiescent_MtnRefIdeal := fun m ρ _ =>
  (θ_run Cert.MtnRefIdeal.defs _ _).mono (fun r h => ⟨fun c => (h c).2, sem_eq_zero_of_no_sems (by decide) r.2⟩)
    (Cert.MtnRefIdeal.Value.run (F := Ideal) m ρ)

/-- The mixing projection's reference is host code that declares no semaphore. -/
theorem frame_mnnRef : Cert.quiescent_MnnRefIdeal := fun m ρ _ =>
  (θ_run Cert.MnnRefIdeal.defs _ _).mono (fun r h => ⟨fun c => (h c).2, sem_eq_zero_of_no_sems (by decide) r.2⟩)
    (Cert.MnnRefIdeal.Value.run (F := Ideal) m ρ)

/-- The mixing cotangent's reference is host code that declares no semaphore. -/
theorem frame_mntRef : Cert.quiescent_MntRefIdeal := fun m ρ _ =>
  (θ_run Cert.MntRefIdeal.defs _ _).mono (fun r h => ⟨fun c => (h c).2, sem_eq_zero_of_no_sems (by decide) r.2⟩)
    (Cert.MntRefIdeal.Value.run (F := Ideal) m ρ)

theorem claim : Cert.Claim := ⟨Cert.Gate.Gen.facts, Cert.GateIdeal.Gen.facts, Cert.GateRefIdeal.Gen.facts,
  Cert.Attn.Gen.facts, Cert.AttnIdeal.Gen.facts, Cert.AttnRefIdeal.Gen.facts,
  Cert.Sgu.Gen.facts, Cert.SguIdeal.Gen.facts, Cert.SguRefIdeal.Gen.facts,
  Cert.Loss.Gen.facts, Cert.LossIdeal.Gen.facts, Cert.LossRefIdeal.Gen.facts,
  Cert.Memory.Gen.facts, Cert.MemoryIdeal.Gen.facts, Cert.MemoryRefIdeal.Gen.facts,
  Cert.Afwd.Gen.facts, Cert.AfwdIdeal.Gen.facts, Cert.AfwdRefIdeal.Gen.facts,
  Cert.Dxattn.Gen.facts, Cert.DxattnIdeal.Gen.facts, Cert.DxattnRefIdeal.Gen.facts,
  Cert.Dxmix.Gen.facts, Cert.DxmixIdeal.Gen.facts, Cert.DxmixRefIdeal.Gen.facts,
  Cert.Ffn.Gen.facts, Cert.FfnIdeal.Gen.facts, Cert.FfnRefIdeal.Gen.facts,
  Cert.Hgrn.Gen.facts, Cert.HgrnIdeal.Gen.facts, Cert.Hfwd.Gen.facts, Cert.HfwdIdeal.Gen.facts,
  Cert.Nfwd.Gen.facts, Cert.NfwdIdeal.Gen.facts, Cert.NfwdRefIdeal.Gen.facts,
  Cert.Mfwd.Gen.facts, Cert.MfwdIdeal.Gen.facts, Cert.MfwdRefIdeal.Gen.facts,
  Cert.Sfwd.Gen.facts, Cert.SfwdIdeal.Gen.facts, Cert.SfwdRefIdeal.Gen.facts,
  Cert.Dxin.Gen.facts, Cert.DxinIdeal.Gen.facts, Cert.DxinRefIdeal.Gen.facts,
  Cert.Mtn.Gen.facts, Cert.MtnIdeal.Gen.facts, Cert.MtnRefIdeal.Gen.facts,
  Cert.Mnn.Gen.facts, Cert.MnnIdeal.Gen.facts, Cert.MnnRefIdeal.Gen.facts,
  Cert.Mnt.Gen.facts, Cert.MntIdeal.Gen.facts, Cert.MntRefIdeal.Gen.facts,
  Cert.Pre_finite.facts, Cert.Pre_finite2.facts, Cert.Pre_finite3.facts, Cert.Pre_finite4.facts, Cert.Pre_finite7.facts, Cert.Pre_finite8.facts, Cert.Pre_finite9.facts,
  fun m ρ _ => Cert.Gate.Gen.frame m ρ, fun m ρ _ => Cert.GateIdeal.Gen.frame m ρ, fun m ρ _ => Cert.GateIdeal.Gen.frame m ρ,
  frame_gateRef, fun m ρ _ => frame_gateRef m ρ trivial,
  fun m ρ _ => Cert.Attn.Gen.frame m ρ, fun m ρ _ => Cert.AttnIdeal.Gen.frame m ρ, fun m ρ _ => Cert.AttnIdeal.Gen.frame m ρ,
  frame_attnRef, fun m ρ _ => frame_attnRef m ρ trivial,
  fun m ρ _ => Cert.Sgu.Gen.frame m ρ, fun m ρ _ => Cert.SguIdeal.Gen.frame m ρ, fun m ρ _ => Cert.SguIdeal.Gen.frame m ρ,
  frame_sguRef, fun m ρ _ => frame_sguRef m ρ trivial,
  fun m ρ _ => Cert.Loss.Gen.frame m ρ, fun m ρ _ => Cert.LossIdeal.Gen.frame m ρ, fun m ρ _ => Cert.LossIdeal.Gen.frame m ρ,
  frame_lossRef, fun m ρ _ => frame_lossRef m ρ trivial,
  fun m ρ _ => Cert.Memory.Gen.frame m ρ, fun m ρ _ => Cert.MemoryIdeal.Gen.frame m ρ, frame_memoryRef,
  fun m ρ _ => Cert.Afwd.Gen.frame m ρ, fun m ρ _ => Cert.AfwdIdeal.Gen.frame m ρ, frame_afwdRef,
  fun m ρ _ => Cert.Dxattn.Gen.frame m ρ, fun m ρ _ => Cert.DxattnIdeal.Gen.frame m ρ, fun m ρ _ => Cert.DxattnIdeal.Gen.frame m ρ,
  frame_dxattnRef, fun m ρ _ => frame_dxattnRef m ρ trivial,
  fun m ρ _ => Cert.Dxmix.Gen.frame m ρ, fun m ρ _ => Cert.DxmixIdeal.Gen.frame m ρ, fun m ρ _ => Cert.DxmixIdeal.Gen.frame m ρ,
  frame_dxmixRef, fun m ρ _ => frame_dxmixRef m ρ trivial,
  fun m ρ _ => Cert.Ffn.Gen.frame m ρ, fun m ρ _ => Cert.FfnIdeal.Gen.frame m ρ, fun m ρ _ => Cert.FfnIdeal.Gen.frame m ρ,
  frame_ffnRef, fun m ρ _ => frame_ffnRef m ρ trivial,
  Cert.Proof.Hgrn.frame_kernel, Cert.Proof.Hgrn.frame_ideal, Cert.Proof.Hfwd.frame_kernel, Cert.Proof.Hfwd.frame_ideal,
  fun m ρ _ => Cert.Nfwd.Gen.frame m ρ, fun m ρ _ => Cert.NfwdIdeal.Gen.frame m ρ, frame_nfwdRef,
  fun m ρ _ => Cert.Mfwd.Gen.frame m ρ, fun m ρ _ => Cert.MfwdIdeal.Gen.frame m ρ, frame_mfwdRef,
  fun m ρ _ => Cert.Sfwd.Gen.frame m ρ, fun m ρ _ => Cert.SfwdIdeal.Gen.frame m ρ, frame_sfwdRef,
  fun m ρ _ => Cert.Dxin.Gen.frame m ρ, fun m ρ _ => Cert.DxinIdeal.Gen.frame m ρ, frame_dxinRef,
  fun m ρ _ => Cert.Mtn.Gen.frame m ρ, fun m ρ _ => Cert.MtnIdeal.Gen.frame m ρ, frame_mtnRef,
  fun m ρ _ => Cert.Mnn.Gen.frame m ρ, fun m ρ _ => Cert.MnnIdeal.Gen.frame m ρ, frame_mnnRef,
  fun m ρ _ => Cert.Mnt.Gen.frame m ρ, fun m ρ _ => Cert.MntIdeal.Gen.frame m ρ, frame_mntRef,
  trivial, Cert.Gate.Claim.algebraic, trivial, Cert.Attn.Claim.algebraic, Cert.Sgu.Claim.preserves, Cert.Sgu.Claim.algebraic,
  trivial, Cert.Loss.Claim.algebraic,
  trivial, Cert.Memory.Claim.algebraic,
  trivial, Cert.Afwd.Claim.algebraic,
  trivial, Cert.Dxattn.Claim.algebraic,
  trivial, Cert.Dxmix.Claim.algebraic,
  trivial, Cert.Ffn.Claim.algebraic,
  trivial, trivial,
  trivial, Cert.Nfwd.Claim.algebraic,
  trivial, Cert.Mfwd.Claim.algebraic,
  Cert.Sfwd.Claim.preserves, Cert.Sfwd.Claim.algebraic,
  trivial, Cert.Dxin.Claim.algebraic,
  trivial, Cert.Mtn.Claim.algebraic,
  trivial, Cert.Mnn.Claim.algebraic,
  trivial, Cert.Mnt.Claim.algebraic⟩

end Cert.Proof

end
